-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)) (v2 : (c : Dev Cert.KernelIdeal.nD) → Buf (Elt Ideal) ((c.tc : Thread Cert.KernelIdeal.nD Cert.KernelIdeal.τ).loc Cert.KernelIdeal.main_v79_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_v79_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)) (v3 : (c : Dev Cert.Kernel6Ideal.nD) → Buf (Elt Ideal) ((c.tc : Thread Cert.Kernel6Ideal.nD Cert.Kernel6Ideal.τ).loc Cert.Kernel6Ideal.main_v22_3)) (v4 : (c : Dev Cert.Kernel6Ideal.nD) → Buf (Elt Ideal) ((c.tc : Thread Cert.Kernel6Ideal.nD Cert.Kernel6Ideal.τ).loc Cert.Kernel6Ideal.main_v22_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_v22_3) = v3 c
          ∧ r.2.mem ((c.tc : Thread Cert.Kernel6Ideal.nD Cert.Kernel6Ideal.τ).loc Cert.Kernel6Ideal.main_v22_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v64) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_v66) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_v71) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v16) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v258) = v0 c
          ∧ r.2.mem ((c.tc : Thread Cert.Reference13Ideal.nD Cert.Reference13Ideal.τ).loc Cert.Reference13Ideal.main_v232) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v15)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v15) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4x2048x1152 : Shape := ⟨3, ![4, 2048, 1152]⟩
abbrev S4x6x2048x64 : Shape := ⟨4, ![4, 6, 2048, 64]⟩
abbrev S4x6x2048 : Shape := ⟨3, ![4, 6, 2048]⟩
abbrev S_ : Shape := ⟨0, ![]⟩

class Facts : Prop where
  bcast_S_S4x2048x1152 : S_.BroadcastsInDim S4x2048x1152 (![] : Fin 0 → Fin S4x2048x1152.rank)
  bcast_S_S4x6x2048x64 : S_.BroadcastsInDim S4x6x2048x64 (![] : Fin 0 → Fin S4x6x2048x64.rank)
  bcast_S_S4x6x2048 : S_.BroadcastsInDim S4x6x2048 (![] : Fin 0 → Fin S4x6x2048.rank)

variable [Facts]

def fn {F : FTy → Type} [FloatOps F] (main_arg0 : FVec F S4x2048x1152 .f32) (main_arg1 : FVec F S4x6x2048x64 .f32) (main_arg2 : FVec F S4x6x2048 .f32) : IVec S4x2048x1152 1 × IVec S4x6x2048x64 1 × IVec S4x6x2048 1 :=
  let main_v0 : FVec F S4x2048x1152 .f32 := Host.absf main_arg0
  let main_cst : FVec F S_ .f32 := constant S_ .f32 0x7F800000#32
  let main_v1 : FVec F S4x2048x1152 .f32 := broadcastInDim S4x2048x1152 ![] bcast_S_S4x2048x1152 main_cst
  let main_v2 : IVec S4x2048x1152 1 := cmpf .olt main_v0 main_v1
  let main_v3 : FVec F S4x6x2048x64 .f32 := Host.absf main_arg1
  let main_cst_0 : FVec F S_ .f32 := constant S_ .f32 0x7F800000#32
  let main_v4 : FVec F S4x6x2048x64 .f32 := broadcastInDim S4x6x2048x64 ![] bcast_S_S4x6x2048x64 main_cst_0
  let main_v5 : IVec S4x6x2048x64 1 := cmpf .olt main_v3 main_v4
  let main_v6 : FVec F S4x6x2048 .f32 := Host.absf main_arg2
  let main_cst_1 : FVec F S_ .f32 := constant S_ .f32 0x7F800000#32
  let main_v7 : FVec F S4x6x2048 .f32 := broadcastInDim S4x6x2048 ![] bcast_S_S4x6x2048 main_cst_1
  let main_v8 : IVec S4x6x2048 1 := cmpf .olt main_v6 main_v7
  (main_v2, main_v5, main_v8)
-- ==== Pre_finite12.lean ====
abbrev S8192x1024 : Shape := ⟨2, ![8192, 1024]⟩
abbrev S8192x3x2x64 : Shape := ⟨4, ![8192, 3, 2, 64]⟩
abbrev S8192x3x2 : Shape := ⟨3, ![8192, 3, 2]⟩
abbrev S8192x256 : Shape := ⟨2, ![8192, 256]⟩
abbrev S8192x384 : Shape := ⟨2, ![8192, 384]⟩
abbrev S1024x1024 : Shape := ⟨2, ![1024, 1024]⟩
abbrev S_ : Shape := ⟨0, ![]⟩

class Facts : Prop where
  bcast_S_S8192x3x2 : S_.BroadcastsInDim S8192x3x2 (![] : Fin 0 → Fin S8192x3x2.rank)

variable [Facts]

def fn {F : FTy → Type} [FloatOps F] (main_arg0 : FVec F S8192x1024 .f32) (main_arg1 : FVec F S8192x3x2x64 .f32) (main_arg2 : FVec F S8192x3x2 .f32) (main_arg3 : FVec F S8192x256 .f32) (main_arg4 : FVec F S8192x384 .f32) (main_arg5 : FVec F S1024x1024 .f32) : IVec S8192x3x2 1 :=
  let main_v0 : FVec F S8192x3x2 .f32 := Host.absf main_arg2
  let main_cst : FVec F S_ .f32 := constant S_ .f32 0x7F800000#32
  let main_v1 : FVec F S8192x3x2 .f32 := broadcastInDim S8192x3x2 ![] bcast_S_S8192x3x2 main_cst
  let main_v2 : IVec S8192x3x2 1 := cmpf .olt main_v0 main_v1
  main_v2
-- ==== Pre_finite3.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024x4096 .f32) (main_arg3 : FVec F S8192x4096 .f32) (main_arg4 : FVec F S8192x1024 .f32) : IVec S8192x1024 1 × IVec S1024 1 × IVec S1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Pre_finite4.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2432 : S_.BroadcastsInDim S1024x2432 (![] : Fin 0 → Fin S1024x2432.rank)
  bcast_S_S8192x2432 : S_.BroadcastsInDim S8192x2432 (![] : Fin 0 → Fin S8192x2432.rank)

variable [Facts]

def fn {F : FTy → Type} [FloatOps F] (main_arg0 : FVec F S8192x1024 .f32) (main_arg1 : FVec F S1024 .f32) (main_arg2 : FVec F S1024x2432 .f32) (main_arg3 : FVec F S8192x2432 .f32) (main_arg4 : FVec F S8192x1024 .f32) : IVec S8192x1024 1 × IVec S1024 1 × IVec S1024x2432 1 × IVec S8192x2432 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2432 .f32 := Host.absf main_arg2
  let main_cst_1 : FVec F S_ .f32 := constant S_ .f32 0x7F800000#32
  let main_v7 : FVec F S1024x2432 .f32 := broadcastInDim S1024x2432 ![] bcast_S_S1024x2432 main_cst_1
  let main_v8 : IVec S1024x2432 1 := cmpf .olt main_v6 main_v7
  let main_v9 : FVec F S8192x2432 .f32 := Host.absf main_arg3
  let main_cst_2 : FVec F S_ .f32 := constant S_ .f32 0x7F800000#32
  let main_v10 : FVec F S8192x2432 .f32 := broadcastInDim S8192x2432 ![] bcast_S_S8192x2432 main_cst_2
  let main_v11 : IVec S8192x2432 1 := cmpf .olt main_v9 main_v10
  (main_v2, main_v5, main_v8, main_v11)
-- ==== Pre_finite5.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x4096 .f32) (main_arg2 : FVec F S4096x1024 .f32) (main_arg3 : FVec F S8192x1024 .f32) (main_arg4 : FVec F S1024 .f32) : IVec S8192x1024 1 × IVec S8192x4096 1 × IVec S4096x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x4096 .f32 := Host.absf main_arg1
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite6.lean ====
abbrev S8192x3x2x64 : Shape := ⟨4, ![8192, 3, 2, 64]⟩
abbrev S8192x3x2 : Shape := ⟨3, ![8192, 3, 2]⟩
abbrev S8192x256 : Shape := ⟨2, ![8192, 256]⟩
abbrev S8192x384 : Shape := ⟨2, ![8192, 384]⟩
abbrev S1024x1024 : Shape := ⟨2, ![1024, 1024]⟩
abbrev S8192x1024 : Shape := ⟨2, ![8192, 1024]⟩
abbrev S_ : Shape := ⟨0, ![]⟩

class Facts : Prop where
  bcast_S_S8192x3x2x64 : S_.BroadcastsInDim S8192x3x2x64 (![] : Fin 0 → Fin S8192x3x2x64.rank)
  bcast_S_S8192x3x2 : S_.BroadcastsInDim S8192x3x2 (![] : Fin 0 → Fin S8192x3x2.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x3x2x64 .f32) (main_arg1 : FVec F S8192x3x2 .f32) (main_arg2 : FVec F S8192x256 .f32) (main_arg3 : FVec F S8192x384 .f32) (main_arg4 : FVec F S1024x1024 .f32) (main_arg5 : FVec F S8192x1024 .f32) : IVec S8192x3x2x64 1 × IVec S8192x3x2 1 × IVec S1024x1024 1 × IVec S8192x1024 1 :=
  let main_v0 : FVec F S8192x3x2x64 .f32 := Host.absf main_arg0
  let main_cst : FVec F S_ .f32 := constant S_ .f32 0x7F800000#32
  let main_v1 : FVec F S8192x3x2x64 .f32 := broadcastInDim S8192x3x2x64 ![] bcast_S_S8192x3x2x64 main_cst
  let main_v2 : IVec S8192x3x2x64 1 := cmpf .olt main_v0 main_v1
  let main_v3 : FVec F S8192x3x2 .f32 := Host.absf main_arg1
  let main_cst_0 : FVec F S_ .f32 := constant S_ .f32 0x7F800000#32
  let main_v4 : FVec F S8192x3x2 .f32 := broadcastInDim S8192x3x2 ![] bcast_S_S8192x3x2 main_cst_0
  let main_v5 : IVec S8192x3x2 1 := cmpf .olt main_v3 main_v4
  let main_v6 : FVec F S1024x1024 .f32 := Host.absf main_arg4
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite7.lean ====
abbrev S4x2048x1152 : Shape := ⟨3, ![4, 2048, 1152]⟩
abbrev S_ : Shape := ⟨0, ![]⟩

class Facts : Prop where
  bcast_S_S4x2048x1152 : S_.BroadcastsInDim S4x2048x1152 (![] : Fin 0 → Fin S4x2048x1152.rank)

variable [Facts]

def fn {F : FTy → Type} [FloatOps F] (main_arg0 : FVec F S4x2048x1152 .f32) : IVec S4x2048x1152 1 :=
  let main_v0 : FVec F S4x2048x1152 .f32 := Host.absf main_arg0
  let main_cst : FVec F S_ .f32 := constant S_ .f32 0x7F800000#32
  let main_v1 : FVec F S4x2048x1152 .f32 := broadcastInDim S4x2048x1152 ![] bcast_S_S4x2048x1152 main_cst
  let main_v2 : IVec S4x2048x1152 1 := cmpf .olt main_v0 main_v1
  main_v2
-- ==== Kernel.lean ====
abbrev S4x2048x1152 : Shape := ⟨3, ![4, 2048, 1152]⟩
abbrev S4x6x2048x64 : Shape := ⟨4, ![4, 6, 2048, 64]⟩
abbrev S4x6x2048 : Shape := ⟨3, ![4, 6, 2048]⟩
abbrev S3x2 : Shape := ⟨2, ![3, 2]⟩
abbrev S4x2048x384 : Shape := ⟨3, ![4, 2048, 384]⟩
abbrev S4x2048x6x64 : Shape := ⟨4, ![4, 2048, 6, 64]⟩
abbrev S_ : Shape := ⟨0, ![]⟩
abbrev S1x1x1 : Shape := ⟨3, ![1, 1, 1]⟩
abbrev S6x1x1 : Shape := ⟨3, ![6, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S6x2048x2048 : Shape := ⟨3, ![6, 2048, 2048]⟩
abbrev S4x6x2048x2048 : Shape := ⟨4, ![4, 6, 2048, 2048]⟩
abbrev S1x6x2048x2048 : Shape := ⟨4, ![1, 6, 2048, 2048]⟩
abbrev S4x6x2048x1 : Shape := ⟨4, ![4, 6, 2048, 1]⟩
abbrev S1x2048x128 : Shape := ⟨3, ![1, 2048, 128]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S1x1 : Shape := ⟨2, ![1, 1]⟩
abbrev S128x1 : Shape := ⟨2, ![128, 1]⟩

abbrev nBuf : Space → Nat
  | .hbm => 109
  | .vmem => 18
  | .smem => 1
  | _ => 0

abbrev bufTy : (tb : Table) → Fin (tcTables nBuf tb) → BufTy
  | .hbm, ⟨0, _⟩ => ⟨S4x2048x1152, .f32⟩
  | .hbm, ⟨1, _⟩ => ⟨S4x6x2048x64, .f32⟩
  | .hbm, ⟨2, _⟩ => ⟨S4x6x2048, .f32⟩
  | .hbm, ⟨3, _⟩ => ⟨S3x2, .f32⟩
  | .hbm, ⟨4, _⟩ => ⟨S4x2048x384, .f32⟩
  | .hbm, ⟨5, _⟩ => ⟨S4x2048x384, .f32⟩
  | .hbm, ⟨6, _⟩ => ⟨S4x2048x384, .f32⟩
  | .hbm, ⟨7, _⟩ => ⟨S4x2048x6x64, .f32⟩
  | .hbm, ⟨8, _⟩ => ⟨S4x2048x6x64, .f32⟩
  | .hbm, ⟨9, _⟩ => ⟨S4x2048x6x64, .f32⟩
  | .hbm, ⟨10, _⟩ => ⟨S_, .f32⟩
  | .hbm, ⟨11, _⟩ => ⟨S1x1x1, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S1x1x1, .f32⟩
  | .hbm, ⟨18, _⟩ => ⟨S_, .f32⟩
  | .hbm, ⟨19, _⟩ => ⟨S1x1x1, .f32⟩
  | .hbm, ⟨20, _⟩ => ⟨S_, .f32⟩
  | .hbm, ⟨21, _⟩ => ⟨S1x1x1, .f32⟩
  | .hbm, ⟨22, _⟩ => ⟨S6x1x1, .f32⟩
  | .hbm, ⟨23, _⟩ => ⟨S_, .i32⟩
  | .hbm, ⟨24, _⟩ => ⟨S1x1x1, .i32⟩
  | .hbm, ⟨25, _⟩ => ⟨S_, .i32⟩
  | .hbm, ⟨26, _⟩ => ⟨S1x1x1, .i32⟩
  | .hbm, ⟨27, _⟩ => ⟨S_, .i32⟩
  | .hbm, ⟨28, _⟩ => ⟨S1x1x1, .i32⟩
  | .hbm, ⟨29, _⟩ => ⟨S_, .i32⟩
  | .hbm, ⟨30, _⟩ => ⟨S1x1x1, .i32⟩
  | .hbm, ⟨31, _⟩ => ⟨S_, .i32⟩
  | .hbm, ⟨32, _⟩ => ⟨S1x1x1, .i32⟩
  | .hbm, ⟨33, _⟩ => ⟨S_, .i32⟩
  | .hbm, ⟨34, _⟩ => ⟨S1x1x1, .i32⟩
  | .hbm, ⟨35, _⟩ => ⟨S6x1x1, .i32⟩
  | .hbm, ⟨36, _⟩ => ⟨S2048, .i32⟩
  | .hbm, ⟨37, _⟩ => ⟨S2048x1, .i32⟩
  | .hbm, ⟨38, _⟩ => ⟨S1x2048, .i32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S1x2048x2048, .i32⟩
  | .hbm, ⟨43, _⟩ => ⟨S_, .i32⟩
  | .hbm, ⟨44, _⟩ => ⟨S1x2048x2048, .i32⟩
  | .hbm, ⟨45, _⟩ => ⟨S1x2048x2048, .i1⟩
  | .hbm, ⟨46, _⟩ => ⟨S_, .i32⟩
  | .hbm, ⟨47, _⟩ => ⟨S6x1x1, .i32⟩
  | .hbm, ⟨48, _⟩ => ⟨S6x1x1, .i32⟩
  | .hbm, ⟨49, _⟩ => ⟨S6x2048x2048, .i32⟩
  | .hbm, ⟨50, _⟩ => ⟨S6x2048x2048, .i32⟩
  | .hbm, ⟨51, _⟩ => ⟨S6x2048x2048, .i1⟩
  | .hbm, ⟨52, _⟩ => ⟨S6x2048x2048, .i1⟩
  | .hbm, ⟨53, _⟩ => ⟨S6x2048x2048, .i1⟩
  | .hbm, ⟨54, _⟩ => ⟨S6x2048x2048, .i32⟩
  | .hbm, ⟨55, _⟩ => ⟨S6x2048x2048, .i32⟩
  | .hbm, ⟨56, _⟩ => ⟨S6x2048x2048, .i32⟩
  | .hbm, ⟨57, _⟩ => ⟨S_, .i32⟩
  | .hbm, ⟨58, _⟩ => ⟨S6x2048x2048, .i32⟩
  | .hbm, ⟨59, _⟩ => ⟨S6x2048x2048, .i1⟩
  | .hbm, ⟨60, _⟩ => ⟨S6x2048x2048, .i1⟩
  | .hbm, ⟨61, _⟩ => ⟨S4x6x2048x2048, .f32⟩
  | .hbm, ⟨62, _⟩ => ⟨S_, .f32⟩
  | .hbm, ⟨63, _⟩ => ⟨S4x6x2048x2048, .f32⟩
  | .hbm, ⟨64, _⟩ => ⟨S4x6x2048x2048, .f32⟩
  | .hbm, ⟨65, _⟩ => ⟨S1x2048x2048, .f32⟩
  | .hbm, ⟨66, _⟩ => ⟨S6x2048x2048, .f32⟩
  | .hbm, ⟨67, _⟩ => ⟨S6x2048x2048, .f32⟩
  | .hbm, ⟨68, _⟩ => ⟨S6x2048x2048, .f32⟩
  | .hbm, ⟨69, _⟩ => ⟨S1x6x2048x2048, .f32⟩
  | .hbm, ⟨70, _⟩ => ⟨S4x6x2048x2048, .f32⟩
  | .hbm, ⟨71, _⟩ => ⟨S4x6x2048x2048, .f32⟩
  | .hbm, ⟨72, _⟩ => ⟨S_, .f32⟩
  | .hbm, ⟨73, _⟩ => ⟨S_, .f32⟩
  | .hbm, ⟨74, _⟩ => ⟨S4x6x2048x2048, .i1⟩
  | .hbm, ⟨75, _⟩ => ⟨S4x6x2048x2048, .f32⟩
  | .hbm, ⟨76, _⟩ => ⟨S4x6x2048x2048, .f32⟩
  | .hbm, ⟨77, _⟩ => ⟨S_, .f32⟩
  | .hbm, ⟨78, _⟩ => ⟨S4x6x2048, .f32⟩
  | .hbm, ⟨79, _⟩ => ⟨S4x6x2048x1, .f32⟩
  | .hbm, ⟨80, _⟩ => ⟨S4x6x2048x2048, .f32⟩
  | .hbm, ⟨81, _⟩ => ⟨S4x6x2048x2048, .f32⟩
  | .hbm, ⟨82, _⟩ => ⟨S4x6x2048x2048, .f32⟩
  | .hbm, ⟨83, _⟩ => ⟨S_, .f32⟩
  | .hbm, ⟨84, _⟩ => ⟨S4x6x2048, .f32⟩
  | .hbm, ⟨85, _⟩ => ⟨S4x6x2048x1, .f32⟩
  | .hbm, ⟨86, _⟩ => ⟨S4x6x2048x64, .f32⟩
  | .hbm, ⟨87, _⟩ => ⟨S4x6x2048x64, .f32⟩
  | .hbm, ⟨88, _⟩ => ⟨S4x6x2048x64, .f32⟩
  | .hbm, ⟨89, _⟩ => ⟨S4x6x2048x1, .f32⟩
  | .hbm, ⟨90, _⟩ => ⟨S4x6x2048x1, .f32⟩
  | .hbm, ⟨91, _⟩ => ⟨S4x6x2048, .f32⟩
  | .hbm, ⟨92, _⟩ => ⟨S4x6x2048x64, .f32⟩
  | .hbm, ⟨93, _⟩ => ⟨S_, .f32⟩
  | .hbm, ⟨94, _⟩ => ⟨S4x6x2048, .f32⟩
  | .hbm, ⟨95, _⟩ => ⟨S4x6x2048, .f32⟩
  | .hbm, ⟨96, _⟩ => ⟨S4x2048x6x64, .f32⟩
  | .hbm, ⟨97, _⟩ => ⟨S4x2048x384, .f32⟩
  | .hbm, ⟨98, _⟩ => ⟨S4x6x2048x1, .f32⟩
  | .hbm, ⟨99, _⟩ => ⟨S4x6x2048x64, .f32⟩
  | .hbm, ⟨100, _⟩ => ⟨S4x2048x6x64, .f32⟩
  | .hbm, ⟨101, _⟩ => ⟨S4x2048x384, .f32⟩
  | .hbm, ⟨102, _⟩ => ⟨S4x6x2048x1, .f32⟩
  | .hbm, ⟨103, _⟩ => ⟨S4x6x2048x64, .f32⟩
  | .hbm, ⟨104, _⟩ => ⟨S4x2048x6x64, .f32⟩
  | .hbm, ⟨105, _⟩ => ⟨S4x2048x384, .f32⟩
  | .hbm, ⟨106, _⟩ => ⟨S4x2048x384, .f32⟩
  | .hbm, ⟨107, _⟩ => ⟨S4x2048x384, .f32⟩
  | .hbm, ⟨108, _⟩ => ⟨S4x2048x384, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .smem, ⟨0, _⟩ => ⟨S3x2, .f32⟩
  | _, _ => ⟨S4x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_c_9 : Ref sig .tc := ⟨.hbm, 31, rfl⟩
abbrev main_v17 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_11 : Ref sig .tc := ⟨.hbm, 43, rfl⟩
abbrev main_v27 : Ref sig .tc := ⟨.hbm, 44, rfl⟩
abbrev main_v28 : Ref sig .tc := ⟨.hbm, 45, rfl⟩
abbrev main_c_12 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_14 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_18 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79_0 : Ref sig .tc := ⟨.hbm, 106, rfl⟩
abbrev main_v79_1 : Ref sig .tc := ⟨.hbm, 107, rfl⟩
abbrev main_v79_2 : Ref sig .tc := ⟨.hbm, 108, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32_2 : BitVec 32 := 0#32
  let v16 : BitVec 1 := Scalar.cmpi .eq arg1 c0_i32_2
  let v17 : BitVec 32 := Scalar.extui v16
  let c0_i32_3 : BitVec 32 := 0#32
  let v18 : BitVec 1 := Scalar.cmpi .ne v17 c0_i32_3
  v18

@[reducible] def k0_t1_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_mult1 (k0_t1 : Fin k0_t1_loop.trips) : BitVec 32 :=
  let c0_i32_6 : BitVec 32 := 0#32
  let c1_i32_7 : BitVec 32 := 1#32
  let arg12 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg12 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c128_i32_22 : BitVec 32 := 128#32
  let v53 : BitVec 32 := Scalar.muli v52 c128_i32_22
  let c0_i32_10 : BitVec 32 := 0#32
  let v27 : BitVec 1 := Scalar.cmpi .sgt arg12 c0_i32_10
  let v28 : BitVec 32 := Scalar.extui v27
  let c0_i32_11 : BitVec 32 := 0#32
  let v29 : BitVec 1 := Scalar.cmpi .slt arg12 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg12 c16_i32_9
  let c0_i32_14 : BitVec 32 := 0#32
  let v39 : BitVec 1 := Scalar.cmpi .ne v38 c0_i32_14
  let v40 : BitVec 1 := Scalar.andi v37 v39
  let v26 : BitVec 32 := Scalar.divsi arg12 c16_i32_9
  let c1_i32_15 : BitVec 32 := 1#32
  let v41 : BitVec 32 := Scalar.subi v26 c1_i32_15
  let v42 : BitVec 32 := Scalar.select v40 v41 v26
  let v54 : BitVec 32 := Scalar.addi v53 v42
  v54
def k0_mult2 (k0_t1 : Fin k0_t1_loop.trips) : BitVec 32 :=
  let c0_i32_6 : BitVec 32 := 0#32
  let c1_i32_7 : BitVec 32 := 1#32
  let arg12 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg12 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c1_i32_23 : BitVec 32 := 1#32
  let v56 : BitVec 32 := Scalar.subi v52 c1_i32_23
  let c0_i32_24 : BitVec 32 := 0#32
  let v57 : BitVec 32 := Scalar.maxsi v56 c0_i32_24
  let c128_i32_25 : BitVec 32 := 128#32
  let v58 : BitVec 32 := Scalar.muli v57 c128_i32_25
  let c0_i32_10 : BitVec 32 := 0#32
  let v27 : BitVec 1 := Scalar.cmpi .sgt arg12 c0_i32_10
  let v28 : BitVec 32 := Scalar.extui v27
  let c0_i32_11 : BitVec 32 := 0#32
  let v29 : BitVec 1 := Scalar.cmpi .slt arg12 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg12 c16_i32_9
  let c0_i32_14 : BitVec 32 := 0#32
  let v39 : BitVec 1 := Scalar.cmpi .ne v38 c0_i32_14
  let v40 : BitVec 1 := Scalar.andi v37 v39
  let v26 : BitVec 32 := Scalar.divsi arg12 c16_i32_9
  let c1_i32_15 : BitVec 32 := 1#32
  let v41 : BitVec 32 := Scalar.subi v26 c1_i32_15
  let v42 : BitVec 32 := Scalar.select v40 v41 v26
  let v59 : BitVec 32 := Scalar.addi v58 v42
  v59
def k0_off1 (k0_t1 : Fin k0_t1_loop.trips) : Fin 3 → Nat :=
  let c0 : Index := 0#32
  let c0_i32_6 : BitVec 32 := 0#32
  let c1_i32_7 : BitVec 32 := 1#32
  let arg12 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg12 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c128_i32_22 : BitVec 32 := 128#32
  let v53 : BitVec 32 := Scalar.muli v52 c128_i32_22
  let c0_i32_10 : BitVec 32 := 0#32
  let v27 : BitVec 1 := Scalar.cmpi .sgt arg12 c0_i32_10
  let v28 : BitVec 32 := Scalar.extui v27
  let c0_i32_11 : BitVec 32 := 0#32
  let v29 : BitVec 1 := Scalar.cmpi .slt arg12 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg12 c16_i32_9
  let c0_i32_14 : BitVec 32 := 0#32
  let v39 : BitVec 1 := Scalar.cmpi .ne v38 c0_i32_14
  let v40 : BitVec 1 := Scalar.andi v37 v39
  let v26 : BitVec 32 := Scalar.divsi arg12 c16_i32_9
  let c1_i32_15 : BitVec 32 := 1#32
  let v41 : BitVec 32 := Scalar.subi v26 c1_i32_15
  let v42 : BitVec 32 := Scalar.select v40 v41 v26
  let v54 : BitVec 32 := Scalar.addi v53 v42
  let v55 : BitVec 32 := v54
  let v65 : Index := Scalar.indexCast v55
  let c0_27 : Index := 0#32
  ![0, v65.toNat, 0]
def k0_off2 (k0_t1 : Fin k0_t1_loop.trips) : Fin 3 → Nat :=
  let c0_30 : Index := 0#32
  let c0_i32_6 : BitVec 32 := 0#32
  let c1_i32_7 : BitVec 32 := 1#32
  let arg12 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg12 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c1_i32_23 : BitVec 32 := 1#32
  let v56 : BitVec 32 := Scalar.subi v52 c1_i32_23
  let c0_i32_24 : BitVec 32 := 0#32
  let v57 : BitVec 32 := Scalar.maxsi v56 c0_i32_24
  let c128_i32_25 : BitVec 32 := 128#32
  let v58 : BitVec 32 := Scalar.muli v57 c128_i32_25
  let c0_i32_10 : BitVec 32 := 0#32
  let v27 : BitVec 1 := Scalar.cmpi .sgt arg12 c0_i32_10
  let v28 : BitVec 32 := Scalar.extui v27
  let c0_i32_11 : BitVec 32 := 0#32
  let v29 : BitVec 1 := Scalar.cmpi .slt arg12 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg12 c16_i32_9
  let c0_i32_14 : BitVec 32 := 0#32
  let v39 : BitVec 1 := Scalar.cmpi .ne v38 c0_i32_14
  let v40 : BitVec 1 := Scalar.andi v37 v39
  let v26 : BitVec 32 := Scalar.divsi arg12 c16_i32_9
  let c1_i32_15 : BitVec 32 := 1#32
  let v41 : BitVec 32 := Scalar.subi v26 c1_i32_15
  let v42 : BitVec 32 := Scalar.select v40 v41 v26
  let v59 : BitVec 32 := Scalar.addi v58 v42
  let v60 : BitVec 32 := v59
  let v73 : Index := Scalar.indexCast v60
  let c0_31 : Index := 0#32
  ![0, v73.toNat, 0]
def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_4 : BitVec 32 := 0#32
  let v21 : BitVec 1 := Scalar.cmpi .ne v20 c0_i32_4
  v21

@[reducible] def k0_t2_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_off3 (k0_t2 : Fin k0_t2_loop.trips) : Fin 3 → Nat :=
  let c0 : Index := 0#32
  let c0_i32_6 : BitVec 32 := 0#32
  let c1_i32_7 : BitVec 32 := 1#32
  let arg12 : BitVec 32 := Scf.iv c0_i32_6 c1_i32_7 k0_t2
  let c4_i32_15 : BitVec 32 := 4#32
  let c0_i32_16 : BitVec 32 := 0#32
  let v43 : BitVec 1 := Scalar.cmpi .eq c4_i32_15 c0_i32_16
  let c1_i32_17 : BitVec 32 := 1#32
  let v44 : BitVec 32 := Scalar.select v43 c1_i32_17 c4_i32_15
  let v45 : BitVec 32 := Scalar.remsi arg12 v44
  let c0_i32_19 : BitVec 32 := 0#32
  let v47 : BitVec 1 := Scalar.cmpi .slt v45 c0_i32_19
  let c0_i32_20 : BitVec 32 := 0#32
  let v48 : BitVec 1 := Scalar.cmpi .slt v44 c0_i32_20
  let v49 : BitVec 1 := Scalar.xori v47 v48
  let c0_i32_18 : BitVec 32 := 0#32
  let v46 : BitVec 1 := Scalar.cmpi .ne v45 c0_i32_18
  let v50 : BitVec 1 := Scalar.andi v49 v46
  let v51 : BitVec 32 := Scalar.addi v45 v44
  let v52 : BitVec 32 := Scalar.select v50 v51 v45
  let c512_i32 : BitVec 32 := 512#32
  let v53 : BitVec 32 := Scalar.muli v52 c512_i32
  let c0_i32_9 : BitVec 32 := 0#32
  let v27 : BitVec 1 := Scalar.cmpi .sgt arg12 c0_i32_9
  let v28 : BitVec 32 := Scalar.extui v27
  let c0_i32_10 : BitVec 32 := 0#32
  let v29 : BitVec 1 := Scalar.cmpi .slt arg12 c0_i32_10
  let v30 : BitVec 32 := Scalar.extui v29
  let v31 : BitVec 32 := Scalar.subi v28 v30
  let c4_i32 : BitVec 32 := 4#32
  let c0_i32_11 : BitVec 32 := 0#32
  let v32 : BitVec 1 := Scalar.cmpi .sgt c4_i32 c0_i32_11
  let v33 : BitVec 32 := Scalar.extui v32
  let c0_i32_12 : BitVec 32 := 0#32
  let v34 : BitVec 1 := Scalar.cmpi .slt c4_i32 c0_i32_12
  let v35 : BitVec 32 := Scalar.extui v34
  let v36 : BitVec 32 := Scalar.subi v33 v35
  let v37 : BitVec 1 := Scalar.cmpi .ne v31 v36
  let v38 : BitVec 32 := Scalar.remsi arg12 c4_i32
  let c0_i32_13 : BitVec 32 := 0#32
  let v39 : BitVec 1 := Scalar.cmpi .ne v38 c0_i32_13
  let v40 : BitVec 1 := Scalar.andi v37 v39
  let v26 : BitVec 32 := Scalar.divsi arg12 c4_i32
  let c1_i32_14 : BitVec 32 := 1#32
  let v41 : BitVec 32 := Scalar.subi v26 c1_i32_14
  let v42 : BitVec 32 := Scalar.select v40 v41 v26
  let v54 : BitVec 32 := Scalar.addi v53 v42
  let v63 : Index := Scalar.indexCast v54
  let c0_25 : Index := 0#32
  ![0, v63.toNat, 0]
def k0_off4 (k0_t2 : Fin k0_t2_loop.trips) : Fin 3 → Nat :=
  let c0_28 : Index := 0#32
  let c0_i32_6 : BitVec 32 := 0#32
  let c1_i32_7 : BitVec 32 := 1#32
  let arg12 : BitVec 32 := Scf.iv c0_i32_6 c1_i32_7 k0_t2
  let c4_i32_15 : BitVec 32 := 4#32
  let c0_i32_16 : BitVec 32 := 0#32
  let v43 : BitVec 1 := Scalar.cmpi .eq c4_i32_15 c0_i32_16
  let c1_i32_17 : BitVec 32 := 1#32
  let v44 : BitVec 32 := Scalar.select v43 c1_i32_17 c4_i32_15
  let v45 : BitVec 32 := Scalar.remsi arg12 v44
  let c0_i32_19 : BitVec 32 := 0#32
  let v47 : BitVec 1 := Scalar.cmpi .slt v45 c0_i32_19
  let c0_i32_20 : BitVec 32 := 0#32
  let v48 : BitVec 1 := Scalar.cmpi .slt v44 c0_i32_20
  let v49 : BitVec 1 := Scalar.xori v47 v48
  let c0_i32_18 : BitVec 32 := 0#32
  let v46 : BitVec 1 := Scalar.cmpi .ne v45 c0_i32_18
  let v50 : BitVec 1 := Scalar.andi v49 v46
  let v51 : BitVec 32 := Scalar.addi v45 v44
  let v52 : BitVec 32 := Scalar.select v50 v51 v45
  let c1_i32_21 : BitVec 32 := 1#32
  let v55 : BitVec 32 := Scalar.subi v52 c1_i32_21
  let c0_i32_22 : BitVec 32 := 0#32
  let v56 : BitVec 32 := Scalar.maxsi v55 c0_i32_22
  let c512_i32_23 : BitVec 32 := 512#32
  let v57 : BitVec 32 := Scalar.muli v56 c512_i32_23
  let c0_i32_9 : BitVec 32 := 0#32
  let v27 : BitVec 1 := Scalar.cmpi .sgt arg12 c0_i32_9
  let v28 : BitVec 32 := Scalar.extui v27
  let c0_i32_10 : BitVec 32 := 0#32
  let v29 : BitVec 1 := Scalar.cmpi .slt arg12 c0_i32_10
  let v30 : BitVec 32 := Scalar.extui v29
  let v31 : BitVec 32 := Scalar.subi v28 v30
  let c4_i32 : BitVec 32 := 4#32
  let c0_i32_11 : BitVec 32 := 0#32
  let v32 : BitVec 1 := Scalar.cmpi .sgt c4_i32 c0_i32_11
  let v33 : BitVec 32 := Scalar.extui v32
  let c0_i32_12 : BitVec 32 := 0#32
  let v34 : BitVec 1 := Scalar.cmpi .slt c4_i32 c0_i32_12
  let v35 : BitVec 32 := Scalar.extui v34
  let v36 : BitVec 32 := Scalar.subi v33 v35
  let v37 : BitVec 1 := Scalar.cmpi .ne v31 v36
  let v38 : BitVec 32 := Scalar.remsi arg12 c4_i32
  let c0_i32_13 : BitVec 32 := 0#32
  let v39 : BitVec 1 := Scalar.cmpi .ne v38 c0_i32_13
  let v40 : BitVec 1 := Scalar.andi v37 v39
  let v26 : BitVec 32 := Scalar.divsi arg12 c4_i32
  let c1_i32_14 : BitVec 32 := 1#32
  let v41 : BitVec 32 := Scalar.subi v26 c1_i32_14
  let v42 : BitVec 32 := Scalar.select v40 v41 v26
  let v58 : BitVec 32 := Scalar.addi v57 v42
  let v71 : Index := Scalar.indexCast v58
  let c0_29 : Index := 0#32
  ![0, v71.toNat, 0]
def k0_cond3 (i : grid0.Coords) : BitVec 1 :=
  let arg1 : BitVec 32 := BitVec.ofNat 32 (i 1).val
  let c2_i32 : BitVec 32 := 2#32
  let v22 : BitVec 1 := Scalar.cmpi .eq arg1 c2_i32
  let v23 : BitVec 32 := Scalar.extui v22
  let c0_i32_5 : BitVec 32 := 0#32
  let v24 : BitVec 1 := Scalar.cmpi .ne v23 c0_i32_5
  v24

@[reducible] def k0_t3_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_off5 (k0_t3 : Fin k0_t3_loop.trips) : Fin 3 → Nat :=
  let c0 : Index := 0#32
  let c0_i32_6 : BitVec 32 := 0#32
  let c1_i32_7 : BitVec 32 := 1#32
  let arg12 : BitVec 32 := Scf.iv c0_i32_6 c1_i32_7 k0_t3
  let c1_i32_16 : BitVec 32 := 1#32
  let c0_i32_17 : BitVec 32 := 0#32
  let v43 : BitVec 1 := Scalar.cmpi .eq c1_i32_16 c0_i32_17
  let c1_i32_18 : BitVec 32 := 1#32
  let v44 : BitVec 32 := Scalar.select v43 c1_i32_18 c1_i32_16
  let v45 : BitVec 32 := Scalar.remsi arg12 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c2048_i32 : BitVec 32 := 2048#32
  let v53 : BitVec 32 := Scalar.muli v52 c2048_i32
  let c0_i32_10 : BitVec 32 := 0#32
  let v27 : BitVec 1 := Scalar.cmpi .sgt arg12 c0_i32_10
  let v28 : BitVec 32 := Scalar.extui v27
  let c0_i32_11 : BitVec 32 := 0#32
  let v29 : BitVec 1 := Scalar.cmpi .slt arg12 c0_i32_11
  let v30 : BitVec 32 := Scalar.extui v29
  let v31 : BitVec 32 := Scalar.subi v28 v30
  let c1_i32_9 : BitVec 32 := 1#32
  let c0_i32_12 : BitVec 32 := 0#32
  let v32 : BitVec 1 := Scalar.cmpi .sgt c1_i32_9 c0_i32_12
  let v33 : BitVec 32 := Scalar.extui v32
  let c0_i32_13 : BitVec 32 := 0#32
  let v34 : BitVec 1 := Scalar.cmpi .slt c1_i32_9 c0_i32_13
  let v35 : BitVec 32 := Scalar.extui v34
  let v36 : BitVec 32 := Scalar.subi v33 v35
  let v37 : BitVec 1 := Scalar.cmpi .ne v31 v36
  let v38 : BitVec 32 := Scalar.remsi arg12 c1_i32_9
  let c0_i32_14 : BitVec 32 := 0#32
  let v39 : BitVec 1 := Scalar.cmpi .ne v38 c0_i32_14
  let v40 : BitVec 1 := Scalar.andi v37 v39
  let v26 : BitVec 32 := Scalar.divsi arg12 c1_i32_9
  let c1_i32_15 : BitVec 32 := 1#32
  let v41 : BitVec 32 := Scalar.subi v26 c1_i32_15
  let v42 : BitVec 32 := Scalar.select v40 v41 v26
  let v54 : BitVec 32 := Scalar.addi v53 v42
  let v63 : Index := Scalar.indexCast v54
  let c0_26 : Index := 0#32
  ![0, v63.toNat, 0]
def k0_off6 (k0_t3 : Fin k0_t3_loop.trips) : Fin 3 → Nat :=
  let c0_29 : Index := 0#32
  let c0_i32_6 : BitVec 32 := 0#32
  let c1_i32_7 : BitVec 32 := 1#32
  let arg12 : BitVec 32 := Scf.iv c0_i32_6 c1_i32_7 k0_t3
  let c1_i32_16 : BitVec 32 := 1#32
  let c0_i32_17 : BitVec 32 := 0#32
  let v43 : BitVec 1 := Scalar.cmpi .eq c1_i32_16 c0_i32_17
  let c1_i32_18 : BitVec 32 := 1#32
  let v44 : BitVec 32 := Scalar.select v43 c1_i32_18 c1_i32_16
  let v45 : BitVec 32 := Scalar.remsi arg12 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c1_i32_22 : BitVec 32 := 1#32
  let v55 : BitVec 32 := Scalar.subi v52 c1_i32_22
  let c0_i32_23 : BitVec 32 := 0#32
  let v56 : BitVec 32 := Scalar.maxsi v55 c0_i32_23
  let c2048_i32_24 : BitVec 32 := 2048#32
  let v57 : BitVec 32 := Scalar.muli v56 c2048_i32_24
  let c0_i32_10 : BitVec 32 := 0#32
  let v27 : BitVec 1 := Scalar.cmpi .sgt arg12 c0_i32_10
  let v28 : BitVec 32 := Scalar.extui v27
  let c0_i32_11 : BitVec 32 := 0#32
  let v29 : BitVec 1 := Scalar.cmpi .slt arg12 c0_i32_11
  let v30 : BitVec 32 := Scalar.extui v29
  let v31 : BitVec 32 := Scalar.subi v28 v30
  let c1_i32_9 : BitVec 32 := 1#32
  let c0_i32_12 : BitVec 32 := 0#32
  let v32 : BitVec 1 := Scalar.cmpi .sgt c1_i32_9 c0_i32_12
  let v33 : BitVec 32 := Scalar.extui v32
  let c0_i32_13 : BitVec 32 := 0#32
  let v34 : BitVec 1 := Scalar.cmpi .slt c1_i32_9 c0_i32_13
  let v35 : BitVec 32 := Scalar.extui v34
  let v36 : BitVec 32 := Scalar.subi v33 v35
  let v37 : BitVec 1 := Scalar.cmpi .ne v31 v36
  let v38 : BitVec 32 := Scalar.remsi arg12 c1_i32_9
  let c0_i32_14 : BitVec 32 := 0#32
  let v39 : BitVec 1 := Scalar.cmpi .ne v38 c0_i32_14
  let v40 : BitVec 1 := Scalar.andi v37 v39
  let v26 : BitVec 32 := Scalar.divsi arg12 c1_i32_9
  let c1_i32_15 : BitVec 32 := 1#32
  let v41 : BitVec 32 := Scalar.subi v26 c1_i32_15
  let v42 : BitVec 32 := Scalar.select v40 v41 v26
  let v58 : BitVec 32 := Scalar.addi v57 v42
  let v71 : Index := Scalar.indexCast v58
  let c0_30 : Index := 0#32
  ![0, v71.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage0_0 : Fin 1 → Memref sig .tc .smem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x2048x1152 : Shape := ⟨3, ![4, 2048, 1152]⟩
abbrev S4x6x2048x64 : Shape := ⟨4, ![4, 6, 2048, 64]⟩
abbrev S4x6x2048 : Shape := ⟨3, ![4, 6, 2048]⟩
abbrev S4x2048x384 : Shape := ⟨3, ![4, 2048, 384]⟩
abbrev S4x2048x6x64 : Shape := ⟨4, ![4, 2048, 6, 64]⟩
abbrev S_ : Shape := ⟨0, ![]⟩
abbrev S1x1x1 : Shape := ⟨3, ![1, 1, 1]⟩
abbrev S6x1x1 : Shape := ⟨3, ![6, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S6x2048x2048 : Shape := ⟨3, ![6, 2048, 2048]⟩
abbrev S4x6x2048x2048 : Shape := ⟨4, ![4, 6, 2048, 2048]⟩
abbrev S1x6x2048x2048 : Shape := ⟨4, ![1, 6, 2048, 2048]⟩
abbrev S4x6x2048x1 : Shape := ⟨4, ![4, 6, 2048, 1]⟩
abbrev S4x6x64x2048 : Shape := ⟨4, ![4, 6, 64, 2048]⟩

abbrev nBuf : Space → Nat
  | .hbm => 147
  | .vmem => 0
  | .smem => 0
  | _ => 0

abbrev hbmTy0_0 (i : Nat) : BufTy := match i % 128 with
  | 0 => ⟨S4x2048x1152, .f32⟩
  | 1 => ⟨S4x6x2048x64, .f32⟩
  | 2 => ⟨S4x6x2048, .f32⟩
  | 3 => ⟨S4x2048x384, .f32⟩
  | 4 => ⟨S4x2048x384, .f32⟩
  | 5 => ⟨S4x2048x384, .f32⟩
  | 6 => ⟨S4x2048x6x64, .f32⟩
  | 7 => ⟨S4x2048x6x64, .f32⟩
  | 8 => ⟨S4x2048x6x64, .f32⟩
  | 9 => ⟨S_, .f32⟩
  | 10 => ⟨S1x1x1, .f32⟩
  | 11 => ⟨S_, .f32⟩
  | 12 => ⟨S1x1x1, .f32⟩
  | 13 => ⟨S_, .f32⟩
  | 14 => ⟨S1x1x1, .f32⟩
  | 15 => ⟨S_, .f32⟩
  | 16 => ⟨S1x1x1, .f32⟩
  | 17 => ⟨S_, .f32⟩
  | 18 => ⟨S1x1x1, .f32⟩
  | 19 => ⟨S_, .f32⟩
  | 20 => ⟨S1x1x1, .f32⟩
  | 21 => ⟨S6x1x1, .f32⟩
  | 22 => ⟨S_, .i32⟩
  | 23 => ⟨S1x1x1, .i32⟩
  | 24 => ⟨S_, .i32⟩
  | 25 => ⟨S1x1x1, .i32⟩
  | 26 => ⟨S_, .i32⟩
  | 27 => ⟨S1x1x1, .i32⟩
  | 28 => ⟨S_, .i32⟩
  | 29 => ⟨S1x1x1, .i32⟩
  | 30 => ⟨S_, .i32⟩
  | 31 => ⟨S1x1x1, .i32⟩
  | 32 => ⟨S_, .i32⟩
  | 33 => ⟨S1x1x1, .i32⟩
  | 34 => ⟨S6x1x1, .i32⟩
  | 35 => ⟨S2048, .i32⟩
  | 36 => ⟨S2048x1, .i32⟩
  | 37 => ⟨S1x2048, .i32⟩
  | 38 => ⟨S2048x2048, .i32⟩
  | 39 => ⟨S2048x2048, .i32⟩
  | 40 => ⟨S2048x2048, .i32⟩
  | 41 => ⟨S1x2048x2048, .i32⟩
  | 42 => ⟨S_, .i32⟩
  | 43 => ⟨S1x2048x2048, .i32⟩
  | 44 => ⟨S1x2048x2048, .i1⟩
  | 45 => ⟨S_, .i32⟩
  | 46 => ⟨S6x1x1, .i32⟩
  | 47 => ⟨S6x1x1, .i32⟩
  | 48 => ⟨S6x2048x2048, .i32⟩
  | 49 => ⟨S6x2048x2048, .i32⟩
  | 50 => ⟨S6x2048x2048, .i1⟩
  | 51 => ⟨S6x2048x2048, .i1⟩
  | 52 => ⟨S6x2048x2048, .i1⟩
  | 53 => ⟨S6x2048x2048, .i32⟩
  | 54 => ⟨S6x2048x2048, .i32⟩
  | 55 => ⟨S6x2048x2048, .i32⟩
  | 56 => ⟨S_, .i32⟩
  | 57 => ⟨S6x2048x2048, .i32⟩
  | 58 => ⟨S6x2048x2048, .i1⟩
  | 59 => ⟨S6x2048x2048, .i1⟩
  | 60 => ⟨S4x6x2048x2048, .f32⟩
  | 61 => ⟨S_, .f32⟩
  | 62 => ⟨S4x6x2048x2048, .f32⟩
  | 63 => ⟨S4x6x2048x2048, .f32⟩
  | 64 => ⟨S1x2048x2048, .f32⟩
  | 65 => ⟨S6x2048x2048, .f32⟩
  | 66 => ⟨S6x2048x2048, .f32⟩
  | 67 => ⟨S6x2048x2048, .f32⟩
  | 68 => ⟨S1x6x2048x2048, .f32⟩
  | 69 => ⟨S4x6x2048x2048, .f32⟩
  | 70 => ⟨S4x6x2048x2048, .f32⟩
  | 71 => ⟨S_, .f32⟩
  | 72 => ⟨S_, .f32⟩
  | 73 => ⟨S4x6x2048x2048, .i1⟩
  | 74 => ⟨S4x6x2048x2048, .f32⟩
  | 75 => ⟨S4x6x2048x2048, .f32⟩
  | 76 => ⟨S_, .f32⟩
  | 77 => ⟨S4x6x2048x2048, .f32⟩
  | 78 => ⟨S_, .f32⟩
  | 79 => ⟨S4x6x2048, .f32⟩
  | 80 => ⟨S4x6x2048x1, .f32⟩
  | 81 => ⟨S4x6x2048x2048, .f32⟩
  | 82 => ⟨S4x6x2048x2048, .i1⟩
  | 83 => ⟨S4x6x2048x2048, .f32⟩
  | 84 => ⟨S_, .f32⟩
  | 85 => ⟨S4x6x2048, .f32⟩
  | 86 => ⟨S4x6x2048x1, .f32⟩
  | 87 => ⟨S4x6x2048x2048, .f32⟩
  | 88 => ⟨S4x6x2048x2048, .f32⟩
  | 89 => ⟨S4x6x2048x2048, .f32⟩
  | 90 => ⟨S_, .f32⟩
  | 91 => ⟨S4x6x2048, .f32⟩
  | 92 => ⟨S4x6x2048x1, .f32⟩
  | 93 => ⟨S4x6x2048x64, .f32⟩
  | 94 => ⟨S4x6x2048x64, .f32⟩
  | 95 => ⟨S4x6x2048x64, .f32⟩
  | 96 => ⟨S4x6x2048x1, .f32⟩
  | 97 => ⟨S_, .f32⟩
  | 98 => ⟨S4x6x2048x1, .f32⟩
  | 99 => ⟨S4x6x2048x1, .f32⟩
  | 100 => ⟨S4x6x2048x1, .f32⟩
  | 101 => ⟨S4x6x2048x1, .f32⟩
  | 102 => ⟨S4x6x2048, .f32⟩
  | 103 => ⟨S4x6x2048x1, .f32⟩
  | 104 => ⟨S4x6x2048x1, .f32⟩
  | 105 => ⟨S4x6x2048x64, .f32⟩
  | 106 => ⟨S4x6x2048x64, .f32⟩
  | 107 => ⟨S4x6x2048x64, .f32⟩
  | 108 => ⟨S_, .f32⟩
  | 109 => ⟨S4x6x2048, .f32⟩
  | 110 => ⟨S4x6x2048x1, .f32⟩
  | 111 => ⟨S4x6x2048x1, .f32⟩
  | 112 => ⟨S4x6x2048x1, .f32⟩
  | 113 => ⟨S4x6x2048x64, .f32⟩
  | 114 => ⟨S4x6x2048x64, .f32⟩
  | 115 => ⟨S4x6x64x2048, .f32⟩
  | 116 => ⟨S4x2048x6x64, .f32⟩
  | 117 => ⟨S4x6x2048x2048, .f32⟩
  | 118 => ⟨S_, .f32⟩
  | 119 => ⟨S4x6x2048, .f32⟩
  | 120 => ⟨S4x6x2048x2048, .f32⟩
  | 121 => ⟨S4x6x2048x2048, .f32⟩
  | 122 => ⟨S4x6x2048x2048, .f32⟩
  | 123 => ⟨S4x6x2048x2048, .f32⟩
  | 124 => ⟨S_, .f32⟩
  | 125 => ⟨S4x6x2048, .f32⟩
  | 126 => ⟨S4x6x2048x1, .f32⟩
  | 127 => ⟨S4x6x2048x1, .f32⟩
  | _ => ⟨S4x2048x1152, .f32⟩

abbrev hbmTy0_1 (i : Nat) : BufTy := match i % 128 with
  | 0 => ⟨S_, .f32⟩
  | 1 => ⟨S4x6x2048, .f32⟩
  | 2 => ⟨S4x6x2048, .f32⟩
  | 3 => ⟨S4x6x2048x2048, .f32⟩
  | 4 => ⟨S4x6x2048x2048, .f32⟩
  | 5 => ⟨S4x6x2048x2048, .f32⟩
  | 6 => ⟨S_, .f32⟩
  | 7 => ⟨S4x6x2048x2048, .f32⟩
  | 8 => ⟨S4x6x2048x2048, .f32⟩
  | 9 => ⟨S_, .f32⟩
  | 10 => ⟨S4x6x2048x2048, .f32⟩
  | 11 => ⟨S4x6x2048x2048, .f32⟩
  | 12 => ⟨S4x6x2048x64, .f32⟩
  | 13 => ⟨S4x2048x6x64, .f32⟩
  | 14 => ⟨S4x6x2048x64, .f32⟩
  | 15 => ⟨S4x2048x6x64, .f32⟩
  | 16 => ⟨S4x2048x384, .f32⟩
  | 17 => ⟨S4x2048x384, .f32⟩
  | 18 => ⟨S4x2048x384, .f32⟩
  | _ => ⟨S4x2048x1152, .f32⟩

abbrev hbmTy (i : Nat) : BufTy := match i / 128 with
  | 0 => hbmTy0_0 i
  | 1 => hbmTy0_1 i
  | _ => ⟨S4x2048x1152, .f32⟩

abbrev bufTy : (tb : Table) → Fin (tcTables nBuf tb) → BufTy
  | .hbm, ⟨i, _⟩ => hbmTy i
  | _, _ => ⟨S4x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_c_8 : Ref sig .tc := ⟨.hbm, 30, rfl⟩
abbrev main_v17 : Ref sig .tc := ⟨.hbm, 31, rfl⟩
abbrev main_c_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_10 : Ref sig .tc := ⟨.hbm, 42, rfl⟩
abbrev main_v27 : Ref sig .tc := ⟨.hbm, 43, rfl⟩
abbrev main_v28 : Ref sig .tc := ⟨.hbm, 44, rfl⟩
abbrev main_c_11 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_call0_v0 : Ref sig .tc := ⟨.hbm, 72, rfl⟩
abbrev main_v52_1 : Ref sig .tc := ⟨.hbm, 73, rfl⟩
abbrev main_call0_v2 : Ref sig .tc := ⟨.hbm, 74, rfl⟩
abbrev main_v52_0 : Ref sig .tc := ⟨.hbm, 75, rfl⟩
abbrev main_call0_cst : Ref sig .tc := ⟨.hbm, 76, rfl⟩
abbrev main_v52_2 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_16 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_17 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_22 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call1_cst : Ref sig .tc := ⟨.hbm, 134, rfl⟩
abbrev main_call1_v0 : Ref sig .tc := ⟨.hbm, 135, rfl⟩
abbrev main_v101 : Ref sig .tc := ⟨.hbm, 136, rfl⟩
abbrev main_cst_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩

abbrev nD : Nat := 1
abbrev τ : Topo := Topo.v7x

variable {F : FTy → Type} [FloatOps F]
-- ==== Kernel2.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_29 : BitVec 32 := 0#32
  let v56 : BitVec 1 := Scalar.cmpi .ne v55 c0_i32_29
  v56

def k0_cond2 (i : grid0.Coords) : BitVec 1 :=
  let arg0 : BitVec 32 := BitVec.ofNat 32 (i 0).val
  let c0_i32_30 : BitVec 32 := 0#32
  let v57 : BitVec 1 := Scalar.cmpi .ne arg0 c0_i32_30
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S8192x384 : Shape := ⟨2, ![8192, 384]⟩
abbrev S8192x512 : Shape := ⟨2, ![8192, 512]⟩
abbrev S8192x768 : Shape := ⟨2, ![8192, 768]⟩
abbrev S1x1024 : Shape := ⟨2, ![1, 1024]⟩
abbrev S512x384 : Shape := ⟨2, ![512, 384]⟩
abbrev S512x512 : Shape := ⟨2, ![512, 512]⟩
abbrev S512x768 : Shape := ⟨2, ![512, 768]⟩
abbrev S512x1024 : Shape := ⟨2, ![512, 1024]⟩
abbrev S1024x384 : Shape := ⟨2, ![1024, 384]⟩
abbrev S1024x512 : Shape := ⟨2, ![1024, 512]⟩
abbrev S1024x768 : Shape := ⟨2, ![1024, 768]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2432, .f32⟩
  | .hbm, ⟨3, _⟩ => ⟨S8192x2432, .f32⟩
  | .hbm, ⟨4, _⟩ => ⟨S8192x1024, .f32⟩
  | .hbm, ⟨5, _⟩ => ⟨S8192x384, .f32⟩
  | .hbm, ⟨6, _⟩ => ⟨S8192x384, .f32⟩
  | .hbm, ⟨7, _⟩ => ⟨S8192x384, .f32⟩
  | .hbm, ⟨8, _⟩ => ⟨S8192x512, .f32⟩
  | .hbm, ⟨9, _⟩ => ⟨S8192x768, .f32⟩
  | .hbm, ⟨10, _⟩ => ⟨S1024x2432, .bf16⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x512, .f32⟩
  | .local _ .vmem, ⟨7, _⟩ => ⟨S512x512, .f32⟩
  | .local _ .vmem, ⟨8, _⟩ => ⟨S512x768, .f32⟩
  | .local _ .vmem, ⟨9, _⟩ => ⟨S512x768, .f32⟩
  | .local _ .vmem, ⟨10, _⟩ => ⟨S1024x2432, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_33 : BitVec 32 := 0#32
  let v67 : BitVec 1 := Scalar.cmpi .ne v66 c0_i32_33
  v67

def k0_cond2 (i : grid0.Coords) : BitVec 1 :=
  let arg0 : BitVec 32 := BitVec.ofNat 32 (i 0).val
  let c0_i32_34 : BitVec 32 := 0#32
  let v68 : BitVec 1 := Scalar.cmpi .ne arg0 c0_i32_34
  let v69 : BitVec 32 := Scalar.extui v68
  let c0_i32_35 : BitVec 32 := 0#32
  let v70 : BitVec 1 := Scalar.cmpi .ne v69 c0_i32_35
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x1024 : Shape := ⟨2, ![8192, 1024]⟩
abbrev S1024 : Shape := ⟨1, ![1024]⟩
abbrev S1024x2432 : Shape := ⟨2, ![1024, 2432]⟩
abbrev S8192x2432 : Shape := ⟨2, ![8192, 2432]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2432, .f32⟩
  | .hbm, ⟨3, _⟩ => ⟨S8192x2432, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2432, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S8x128 : Shape := ⟨2, ![8, 128]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 14
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S4096x1024, .bf16⟩
  | .hbm, ⟨10, _⟩ => ⟨S1x1024, .f32⟩
  | .hbm, ⟨11, _⟩ => ⟨S8192x1024, .f32⟩
  | .hbm, ⟨12, _⟩ => ⟨S8x128, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x1024 : Shape := ⟨2, ![8192, 1024]⟩
abbrev S8192x4096 : Shape := ⟨2, ![8192, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8x128, .f32⟩
  | .hbm, ⟨80, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Kernel6.lean ====
abbrev S8192x3x2x64 : Shape := ⟨4, ![8192, 3, 2, 64]⟩
abbrev S8192x3x2 : Shape := ⟨3, ![8192, 3, 2]⟩
abbrev S8192x256 : Shape := ⟨2, ![8192, 256]⟩
abbrev S8192x384 : Shape := ⟨2, ![8192, 384]⟩
abbrev S1024x1024 : Shape := ⟨2, ![1024, 1024]⟩
abbrev S8192x1024 : Shape := ⟨2, ![8192, 1024]⟩
abbrev S_ : Shape := ⟨0, ![]⟩
abbrev S8192x2 : Shape := ⟨2, ![8192, 2]⟩
abbrev S8192x1x2 : Shape := ⟨3, ![8192, 1, 2]⟩
abbrev S8192x3x2x1 : Shape := ⟨4, ![8192, 3, 2, 1]⟩
abbrev S1024x384 : Shape := ⟨2, ![1024, 384]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 36
  | .vmem => 19
  | .smem => 0
  | _ => 0

abbrev bufTy : (tb : Table) → Fin (tcTables nBuf tb) → BufTy
  | .hbm, ⟨0, _⟩ => ⟨S8192x3x2x64, .f32⟩
  | .hbm, ⟨1, _⟩ => ⟨S8192x3x2, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192x2, .f32⟩
  | .hbm, ⟨8, _⟩ => ⟨S_, .f32⟩
  | .hbm, ⟨9, _⟩ => ⟨S8192x2, .f32⟩
  | .hbm, ⟨10, _⟩ => ⟨S8192x2, .f32⟩
  | .hbm, ⟨11, _⟩ => ⟨S8192x1x2, .f32⟩
  | .hbm, ⟨12, _⟩ => ⟨S8192x3x2, .f32⟩
  | .hbm, ⟨13, _⟩ => ⟨S8192x3x2, .f32⟩
  | .hbm, ⟨14, _⟩ => ⟨S8192x3x2, .f32⟩
  | .hbm, ⟨15, _⟩ => ⟨S_, .f32⟩
  | .hbm, ⟨16, _⟩ => ⟨S8192x2, .f32⟩
  | .hbm, ⟨17, _⟩ => ⟨S8192x1x2, .f32⟩
  | .hbm, ⟨18, _⟩ => ⟨S8192x3x2, .f32⟩
  | .hbm, ⟨19, _⟩ => ⟨S8192x3x2, .f32⟩
  | .hbm, ⟨20, _⟩ => ⟨S8192x3x2x1, .f32⟩
  | .hbm, ⟨21, _⟩ => ⟨S8192x3x2x64, .f32⟩
  | .hbm, ⟨22, _⟩ => ⟨S8192x3x2x64, .f32⟩
  | .hbm, ⟨23, _⟩ => ⟨S8192x384, .f32⟩
  | .hbm, ⟨24, _⟩ => ⟨S8192x1024, .f32⟩
  | .hbm, ⟨25, _⟩ => ⟨S8192x1024, .bf16⟩
  | .hbm, ⟨26, _⟩ => ⟨S8192x3x2x1, .f32⟩
  | .hbm, ⟨27, _⟩ => ⟨S8192x3x2x64, .f32⟩
  | .hbm, ⟨28, _⟩ => ⟨S8192x384, .f32⟩
  | .hbm, ⟨29, _⟩ => ⟨S1024x1024, .bf16⟩
  | .hbm, ⟨30, _⟩ => ⟨S8192x384, .f32⟩
  | .hbm, ⟨31, _⟩ => ⟨S8192x384, .f32⟩
  | .hbm, ⟨32, _⟩ => ⟨S8192x384, .f32⟩
  | .hbm, ⟨33, _⟩ => ⟨S8192x256, .f32⟩
  | .hbm, ⟨34, _⟩ => ⟨S8192x384, .f32⟩
  | .hbm, ⟨35, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x256, .f32⟩
  | .local _ .vmem, ⟨14, _⟩ => ⟨S1024x256, .f32⟩
  | .local _ .vmem, ⟨15, _⟩ => ⟨S1024x384, .f32⟩
  | .local _ .vmem, ⟨16, _⟩ => ⟨S1024x384, .f32⟩
  | .local _ .vmem, ⟨17, _⟩ => ⟨S1024x1024, .bf16⟩
  | .local _ .vmem, ⟨18, _⟩ => ⟨S1024x1024, .f32⟩
  | _, _ => ⟨S8192x3x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v117 : BitVec 1 := Scalar.cmpi .eq arg0 c7_i32
  let v118 : BitVec 32 := Scalar.extui v117
  let c0_i32_48 : BitVec 32 := 0#32
  let v119 : BitVec 1 := Scalar.cmpi .ne v118 c0_i32_48
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S8192x3x2x64 : Shape := ⟨4, ![8192, 3, 2, 64]⟩
abbrev S8192x3x2 : Shape := ⟨3, ![8192, 3, 2]⟩
abbrev S8192x256 : Shape := ⟨2, ![8192, 256]⟩
abbrev S8192x384 : Shape := ⟨2, ![8192, 384]⟩
abbrev S1024x1024 : Shape := ⟨2, ![1024, 1024]⟩
abbrev S8192x1024 : Shape := ⟨2, ![8192, 1024]⟩
abbrev S_ : Shape := ⟨0, ![]⟩
abbrev S8192x2 : Shape := ⟨2, ![8192, 2]⟩
abbrev S8192x1x2 : Shape := ⟨3, ![8192, 1, 2]⟩
abbrev S8192x3x2x1 : Shape := ⟨4, ![8192, 3, 2, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x3x2x64, .f32⟩
  | .hbm, ⟨1, _⟩ => ⟨S8192x3x2, .f32⟩
  | .hbm, ⟨2, _⟩ => ⟨S8192x256, .f32⟩
  | .hbm, ⟨3, _⟩ => ⟨S8192x384, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192x2, .f32⟩
  | .hbm, ⟨8, _⟩ => ⟨S8192x1x2, .f32⟩
  | .hbm, ⟨9, _⟩ => ⟨S8192x3x2, .f32⟩
  | .hbm, ⟨10, _⟩ => ⟨S8192x3x2, .i1⟩
  | .hbm, ⟨11, _⟩ => ⟨S8192x3x2, .f32⟩
  | .hbm, ⟨12, _⟩ => ⟨S_, .f32⟩
  | .hbm, ⟨13, _⟩ => ⟨S8192x2, .f32⟩
  | .hbm, ⟨14, _⟩ => ⟨S_, .f32⟩
  | .hbm, ⟨15, _⟩ => ⟨S8192x2, .f32⟩
  | .hbm, ⟨16, _⟩ => ⟨S8192x2, .f32⟩
  | .hbm, ⟨17, _⟩ => ⟨S_, .f32⟩
  | .hbm, ⟨18, _⟩ => ⟨S8192x2, .f32⟩
  | .hbm, ⟨19, _⟩ => ⟨S8192x2, .i1⟩
  | .hbm, ⟨20, _⟩ => ⟨S_, .f32⟩
  | .hbm, ⟨21, _⟩ => ⟨S8192x2, .f32⟩
  | .hbm, ⟨22, _⟩ => ⟨S8192x2, .i1⟩
  | .hbm, ⟨23, _⟩ => ⟨S_, .f32⟩
  | .hbm, ⟨24, _⟩ => ⟨S8192x2, .f32⟩
  | .hbm, ⟨25, _⟩ => ⟨S_, .f32⟩
  | .hbm, ⟨26, _⟩ => ⟨S8192x2, .f32⟩
  | .hbm, ⟨27, _⟩ => ⟨S_, .f32⟩
  | .hbm, ⟨28, _⟩ => ⟨S8192x2, .f32⟩
  | .hbm, ⟨29, _⟩ => ⟨S8192x2, .f32⟩
  | .hbm, ⟨30, _⟩ => ⟨S8192x2, .f32⟩
  | .hbm, ⟨31, _⟩ => ⟨S8192x1x2, .f32⟩
  | .hbm, ⟨32, _⟩ => ⟨S8192x3x2, .f32⟩
  | .hbm, ⟨33, _⟩ => ⟨S8192x3x2, .f32⟩
  | .hbm, ⟨34, _⟩ => ⟨S8192x3x2, .f32⟩
  | .hbm, ⟨35, _⟩ => ⟨S_, .f32⟩
  | .hbm, ⟨36, _⟩ => ⟨S8192x2, .f32⟩
  | .hbm, ⟨37, _⟩ => ⟨S8192x1x2, .f32⟩
  | .hbm, ⟨38, _⟩ => ⟨S8192x3x2, .f32⟩
  | .hbm, ⟨39, _⟩ => ⟨S8192x3x2, .f32⟩
  | .hbm, ⟨40, _⟩ => ⟨S8192x1x2, .f32⟩
  | .hbm, ⟨41, _⟩ => ⟨S_, .f32⟩
  | .hbm, ⟨42, _⟩ => ⟨S8192x1x2, .f32⟩
  | .hbm, ⟨43, _⟩ => ⟨S8192x1x2, .f32⟩
  | .hbm, ⟨44, _⟩ => ⟨S8192x3x2x1, .f32⟩
  | .hbm, ⟨45, _⟩ => ⟨S8192x3x2x64, .f32⟩
  | .hbm, ⟨46, _⟩ => ⟨S8192x3x2x64, .f32⟩
  | .hbm, ⟨47, _⟩ => ⟨S8192x384, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S1024x1024, .f32⟩
  | .hbm, ⟨52, _⟩ => ⟨S8192x1024, .f32⟩
  | .hbm, ⟨53, _⟩ => ⟨S8192x384, .f32⟩
  | .hbm, ⟨54, _⟩ => ⟨S8192x256, .f32⟩
  | .hbm, ⟨55, _⟩ => ⟨S8192x384, .f32⟩
  | .hbm, ⟨56, _⟩ => ⟨S8192x3x2x64, .f32⟩
  | .hbm, ⟨57, _⟩ => ⟨S8192x3x2x64, .f32⟩
  | .hbm, ⟨58, _⟩ => ⟨S_, .f32⟩
  | .hbm, ⟨59, _⟩ => ⟨S8192x3x2, .f32⟩
  | .hbm, ⟨60, _⟩ => ⟨S8192x3x2x1, .f32⟩
  | .hbm, ⟨61, _⟩ => ⟨S8192x3x2x64, .f32⟩
  | .hbm, ⟨62, _⟩ => ⟨S8192x3x2x64, .f32⟩
  | .hbm, ⟨63, _⟩ => ⟨S_, .f32⟩
  | .hbm, ⟨64, _⟩ => ⟨S8192x3x2, .f32⟩
  | .hbm, ⟨65, _⟩ => ⟨S8192x3x2, .f32⟩
  | .hbm, ⟨66, _⟩ => ⟨S8192x3x2, .f32⟩
  | .hbm, ⟨67, _⟩ => ⟨S8192x3x2, .f32⟩
  | .hbm, ⟨68, _⟩ => ⟨S_, .f32⟩
  | .hbm, ⟨69, _⟩ => ⟨S8192x2, .f32⟩
  | .hbm, ⟨70, _⟩ => ⟨S8192x1x2, .f32⟩
  | .hbm, ⟨71, _⟩ => ⟨S8192x1x2, .f32⟩
  | .hbm, ⟨72, _⟩ => ⟨S8192x3x2, .f32⟩
  | .hbm, ⟨73, _⟩ => ⟨S8192x3x2, .f32⟩
  | .hbm, ⟨74, _⟩ => ⟨S_, .f32⟩
  | .hbm, ⟨75, _⟩ => ⟨S8192x2, .f32⟩
  | .hbm, ⟨76, _⟩ => ⟨S8192x3x2, .f32⟩
  | .hbm, ⟨77, _⟩ => ⟨S8192x3x2, .f32⟩
  | .hbm, ⟨78, _⟩ => ⟨S8192x3x2, .f32⟩
  | .hbm, ⟨79, _⟩ => ⟨S8192x3x2x64, .f32⟩
  | .hbm, ⟨80, _⟩ => ⟨S_, .f32⟩
  | .hbm, ⟨81, _⟩ => ⟨S8192x3x2, .f32⟩
  | .hbm, ⟨82, _⟩ => ⟨S8192x3x2, .f32⟩
  | .hbm, ⟨83, _⟩ => ⟨S8192x3x2x1, .f32⟩
  | .hbm, ⟨84, _⟩ => ⟨S8192x3x2x64, .f32⟩
  | .hbm, ⟨85, _⟩ => ⟨S8192x384, .f32⟩
  | .hbm, ⟨86, _⟩ => ⟨S8192x384, .f32⟩
  | .hbm, ⟨87, _⟩ => ⟨S1024x1024, .bf16⟩
  | _, _ => ⟨S8192x3x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel7.lean ====
abbrev S4x2048x1152 : Shape := ⟨3, ![4, 2048, 1152]⟩
abbrev S3x2 : Shape := ⟨2, ![3, 2]⟩
abbrev S4x2048x384 : Shape := ⟨3, ![4, 2048, 384]⟩
abbrev S1x2048x128 : Shape := ⟨3, ![1, 2048, 128]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S1x1 : Shape := ⟨2, ![1, 1]⟩
abbrev S128 : Shape := ⟨1, ![128]⟩
abbrev S128x1 : Shape := ⟨2, ![128, 1]⟩

abbrev nBuf : Space → Nat
  | .hbm => 4
  | .vmem => 10
  | .smem => 1
  | _ => 0

abbrev bufTy : (tb : Table) → Fin (tcTables nBuf tb) → BufTy
  | .hbm, ⟨0, _⟩ => ⟨S4x2048x1152, .f32⟩
  | .hbm, ⟨1, _⟩ => ⟨S3x2, .f32⟩
  | .hbm, ⟨2, _⟩ => ⟨S4x2048x384, .f32⟩
  | .hbm, ⟨3, _⟩ => ⟨S4x2048x384, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .smem, ⟨0, _⟩ => ⟨S3x2, .f32⟩
  | _, _ => ⟨S4x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32_2 : BitVec 32 := 0#32
  let v16 : BitVec 1 := Scalar.cmpi .eq arg1 c0_i32_2
  let v17 : BitVec 32 := Scalar.extui v16
  let c0_i32_3 : BitVec 32 := 0#32
  let v18 : BitVec 1 := Scalar.cmpi .ne v17 c0_i32_3
  v18

@[reducible] def k0_t1_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_mult1 (k0_t1 : Fin k0_t1_loop.trips) : BitVec 32 :=
  let c0_i32_6 : BitVec 32 := 0#32
  let c1_i32_7 : BitVec 32 := 1#32
  let arg8 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg8 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c128_i32_22 : BitVec 32 := 128#32
  let v53 : BitVec 32 := Scalar.muli v52 c128_i32_22
  let c0_i32_10 : BitVec 32 := 0#32
  let v27 : BitVec 1 := Scalar.cmpi .sgt arg8 c0_i32_10
  let v28 : BitVec 32 := Scalar.extui v27
  let c0_i32_11 : BitVec 32 := 0#32
  let v29 : BitVec 1 := Scalar.cmpi .slt arg8 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg8 c16_i32_9
  let c0_i32_14 : BitVec 32 := 0#32
  let v39 : BitVec 1 := Scalar.cmpi .ne v38 c0_i32_14
  let v40 : BitVec 1 := Scalar.andi v37 v39
  let v26 : BitVec 32 := Scalar.divsi arg8 c16_i32_9
  let c1_i32_15 : BitVec 32 := 1#32
  let v41 : BitVec 32 := Scalar.subi v26 c1_i32_15
  let v42 : BitVec 32 := Scalar.select v40 v41 v26
  let v54 : BitVec 32 := Scalar.addi v53 v42
  v54
def k0_mult2 (k0_t1 : Fin k0_t1_loop.trips) : BitVec 32 :=
  let c0_i32_6 : BitVec 32 := 0#32
  let c1_i32_7 : BitVec 32 := 1#32
  let arg8 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg8 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c1_i32_23 : BitVec 32 := 1#32
  let v56 : BitVec 32 := Scalar.subi v52 c1_i32_23
  let c0_i32_24 : BitVec 32 := 0#32
  let v57 : BitVec 32 := Scalar.maxsi v56 c0_i32_24
  let c128_i32_25 : BitVec 32 := 128#32
  let v58 : BitVec 32 := Scalar.muli v57 c128_i32_25
  let c0_i32_10 : BitVec 32 := 0#32
  let v27 : BitVec 1 := Scalar.cmpi .sgt arg8 c0_i32_10
  let v28 : BitVec 32 := Scalar.extui v27
  let c0_i32_11 : BitVec 32 := 0#32
  let v29 : BitVec 1 := Scalar.cmpi .slt arg8 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg8 c16_i32_9
  let c0_i32_14 : BitVec 32 := 0#32
  let v39 : BitVec 1 := Scalar.cmpi .ne v38 c0_i32_14
  let v40 : BitVec 1 := Scalar.andi v37 v39
  let v26 : BitVec 32 := Scalar.divsi arg8 c16_i32_9
  let c1_i32_15 : BitVec 32 := 1#32
  let v41 : BitVec 32 := Scalar.subi v26 c1_i32_15
  let v42 : BitVec 32 := Scalar.select v40 v41 v26
  let v59 : BitVec 32 := Scalar.addi v58 v42
  v59
def k0_off1 (k0_t1 : Fin k0_t1_loop.trips) : Fin 3 → Nat :=
  let c0 : Index := 0#32
  let c0_i32_6 : BitVec 32 := 0#32
  let c1_i32_7 : BitVec 32 := 1#32
  let arg8 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg8 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c128_i32_22 : BitVec 32 := 128#32
  let v53 : BitVec 32 := Scalar.muli v52 c128_i32_22
  let c0_i32_10 : BitVec 32 := 0#32
  let v27 : BitVec 1 := Scalar.cmpi .sgt arg8 c0_i32_10
  let v28 : BitVec 32 := Scalar.extui v27
  let c0_i32_11 : BitVec 32 := 0#32
  let v29 : BitVec 1 := Scalar.cmpi .slt arg8 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg8 c16_i32_9
  let c0_i32_14 : BitVec 32 := 0#32
  let v39 : BitVec 1 := Scalar.cmpi .ne v38 c0_i32_14
  let v40 : BitVec 1 := Scalar.andi v37 v39
  let v26 : BitVec 32 := Scalar.divsi arg8 c16_i32_9
  let c1_i32_15 : BitVec 32 := 1#32
  let v41 : BitVec 32 := Scalar.subi v26 c1_i32_15
  let v42 : BitVec 32 := Scalar.select v40 v41 v26
  let v54 : BitVec 32 := Scalar.addi v53 v42
  let v55 : BitVec 32 := v54
  let v65 : Index := Scalar.indexCast v55
  let c0_27 : Index := 0#32
  ![0, v65.toNat, 0]
def k0_off2 (k0_t1 : Fin k0_t1_loop.trips) : Fin 3 → Nat :=
  let c0_28 : Index := 0#32
  let c0_i32_6 : BitVec 32 := 0#32
  let c1_i32_7 : BitVec 32 := 1#32
  let arg8 : BitVec 32 := Scf.iv c0_i32_6 c1_i32_7 k0_t1
  let c16_i32_16 : BitVec 32 := 16#32
  let c0_i32_17 : BitVec 32 := 0#32
  let v43 : BitVec 1 := Scalar.cmpi .eq c16_i32_16 c0_i32_17
  let c1_i32_18 : BitVec 32 := 1#32
  let v44 : BitVec 32 := Scalar.select v43 c1_i32_18 c16_i32_16
  let v45 : BitVec 32 := Scalar.remsi arg8 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c1_i32_23 : BitVec 32 := 1#32
  let v56 : BitVec 32 := Scalar.subi v52 c1_i32_23
  let c0_i32_24 : BitVec 32 := 0#32
  let v57 : BitVec 32 := Scalar.maxsi v56 c0_i32_24
  let c128_i32_25 : BitVec 32 := 128#32
  let v58 : BitVec 32 := Scalar.muli v57 c128_i32_25
  let c0_i32_10 : BitVec 32 := 0#32
  let v27 : BitVec 1 := Scalar.cmpi .sgt arg8 c0_i32_10
  let v28 : BitVec 32 := Scalar.extui v27
  let c0_i32_11 : BitVec 32 := 0#32
  let v29 : BitVec 1 := Scalar.cmpi .slt arg8 c0_i32_11
  let v30 : BitVec 32 := Scalar.extui v29
  let v31 : BitVec 32 := Scalar.subi v28 v30
  let c16_i32_9 : BitVec 32 := 16#32
  let c0_i32_12 : BitVec 32 := 0#32
  let v32 : BitVec 1 := Scalar.cmpi .sgt c16_i32_9 c0_i32_12
  let v33 : BitVec 32 := Scalar.extui v32
  let c0_i32_13 : BitVec 32 := 0#32
  let v34 : BitVec 1 := Scalar.cmpi .slt c16_i32_9 c0_i32_13
  let v35 : BitVec 32 := Scalar.extui v34
  let v36 : BitVec 32 := Scalar.subi v33 v35
  let v37 : BitVec 1 := Scalar.cmpi .ne v31 v36
  let v38 : BitVec 32 := Scalar.remsi arg8 c16_i32_9
  let c0_i32_14 : BitVec 32 := 0#32
  let v39 : BitVec 1 := Scalar.cmpi .ne v38 c0_i32_14
  let v40 : BitVec 1 := Scalar.andi v37 v39
  let v26 : BitVec 32 := Scalar.divsi arg8 c16_i32_9
  let c1_i32_15 : BitVec 32 := 1#32
  let v41 : BitVec 32 := Scalar.subi v26 c1_i32_15
  let v42 : BitVec 32 := Scalar.select v40 v41 v26
  let v59 : BitVec 32 := Scalar.addi v58 v42
  let v60 : BitVec 32 := v59
  let v69 : Index := Scalar.indexCast v60
  let c0_29 : Index := 0#32
  ![0, v69.toNat, 0]
def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_4 : BitVec 32 := 0#32
  let v21 : BitVec 1 := Scalar.cmpi .ne v20 c0_i32_4
  v21

@[reducible] def k0_t2_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_off3 (k0_t2 : Fin k0_t2_loop.trips) : Fin 3 → Nat :=
  let c0 : Index := 0#32
  let c0_i32_6 : BitVec 32 := 0#32
  let c1_i32_7 : BitVec 32 := 1#32
  let arg8 : BitVec 32 := Scf.iv c0_i32_6 c1_i32_7 k0_t2
  let c4_i32_15 : BitVec 32 := 4#32
  let c0_i32_16 : BitVec 32 := 0#32
  let v43 : BitVec 1 := Scalar.cmpi .eq c4_i32_15 c0_i32_16
  let c1_i32_17 : BitVec 32 := 1#32
  let v44 : BitVec 32 := Scalar.select v43 c1_i32_17 c4_i32_15
  let v45 : BitVec 32 := Scalar.remsi arg8 v44
  let c0_i32_19 : BitVec 32 := 0#32
  let v47 : BitVec 1 := Scalar.cmpi .slt v45 c0_i32_19
  let c0_i32_20 : BitVec 32 := 0#32
  let v48 : BitVec 1 := Scalar.cmpi .slt v44 c0_i32_20
  let v49 : BitVec 1 := Scalar.xori v47 v48
  let c0_i32_18 : BitVec 32 := 0#32
  let v46 : BitVec 1 := Scalar.cmpi .ne v45 c0_i32_18
  let v50 : BitVec 1 := Scalar.andi v49 v46
  let v51 : BitVec 32 := Scalar.addi v45 v44
  let v52 : BitVec 32 := Scalar.select v50 v51 v45
  let c512_i32 : BitVec 32 := 512#32
  let v53 : BitVec 32 := Scalar.muli v52 c512_i32
  let c0_i32_9 : BitVec 32 := 0#32
  let v27 : BitVec 1 := Scalar.cmpi .sgt arg8 c0_i32_9
  let v28 : BitVec 32 := Scalar.extui v27
  let c0_i32_10 : BitVec 32 := 0#32
  let v29 : BitVec 1 := Scalar.cmpi .slt arg8 c0_i32_10
  let v30 : BitVec 32 := Scalar.extui v29
  let v31 : BitVec 32 := Scalar.subi v28 v30
  let c4_i32 : BitVec 32 := 4#32
  let c0_i32_11 : BitVec 32 := 0#32
  let v32 : BitVec 1 := Scalar.cmpi .sgt c4_i32 c0_i32_11
  let v33 : BitVec 32 := Scalar.extui v32
  let c0_i32_12 : BitVec 32 := 0#32
  let v34 : BitVec 1 := Scalar.cmpi .slt c4_i32 c0_i32_12
  let v35 : BitVec 32 := Scalar.extui v34
  let v36 : BitVec 32 := Scalar.subi v33 v35
  let v37 : BitVec 1 := Scalar.cmpi .ne v31 v36
  let v38 : BitVec 32 := Scalar.remsi arg8 c4_i32
  let c0_i32_13 : BitVec 32 := 0#32
  let v39 : BitVec 1 := Scalar.cmpi .ne v38 c0_i32_13
  let v40 : BitVec 1 := Scalar.andi v37 v39
  let v26 : BitVec 32 := Scalar.divsi arg8 c4_i32
  let c1_i32_14 : BitVec 32 := 1#32
  let v41 : BitVec 32 := Scalar.subi v26 c1_i32_14
  let v42 : BitVec 32 := Scalar.select v40 v41 v26
  let v54 : BitVec 32 := Scalar.addi v53 v42
  let v63 : Index := Scalar.indexCast v54
  let c0_25 : Index := 0#32
  ![0, v63.toNat, 0]
def k0_off4 (k0_t2 : Fin k0_t2_loop.trips) : Fin 3 → Nat :=
  let c0_26 : Index := 0#32
  let c0_i32_6 : BitVec 32 := 0#32
  let c1_i32_7 : BitVec 32 := 1#32
  let arg8 : BitVec 32 := Scf.iv c0_i32_6 c1_i32_7 k0_t2
  let c4_i32_15 : BitVec 32 := 4#32
  let c0_i32_16 : BitVec 32 := 0#32
  let v43 : BitVec 1 := Scalar.cmpi .eq c4_i32_15 c0_i32_16
  let c1_i32_17 : BitVec 32 := 1#32
  let v44 : BitVec 32 := Scalar.select v43 c1_i32_17 c4_i32_15
  let v45 : BitVec 32 := Scalar.remsi arg8 v44
  let c0_i32_19 : BitVec 32 := 0#32
  let v47 : BitVec 1 := Scalar.cmpi .slt v45 c0_i32_19
  let c0_i32_20 : BitVec 32 := 0#32
  let v48 : BitVec 1 := Scalar.cmpi .slt v44 c0_i32_20
  let v49 : BitVec 1 := Scalar.xori v47 v48
  let c0_i32_18 : BitVec 32 := 0#32
  let v46 : BitVec 1 := Scalar.cmpi .ne v45 c0_i32_18
  let v50 : BitVec 1 := Scalar.andi v49 v46
  let v51 : BitVec 32 := Scalar.addi v45 v44
  let v52 : BitVec 32 := Scalar.select v50 v51 v45
  let c1_i32_21 : BitVec 32 := 1#32
  let v55 : BitVec 32 := Scalar.subi v52 c1_i32_21
  let c0_i32_22 : BitVec 32 := 0#32
  let v56 : BitVec 32 := Scalar.maxsi v55 c0_i32_22
  let c512_i32_23 : BitVec 32 := 512#32
  let v57 : BitVec 32 := Scalar.muli v56 c512_i32_23
  let c0_i32_9 : BitVec 32 := 0#32
  let v27 : BitVec 1 := Scalar.cmpi .sgt arg8 c0_i32_9
  let v28 : BitVec 32 := Scalar.extui v27
  let c0_i32_10 : BitVec 32 := 0#32
  let v29 : BitVec 1 := Scalar.cmpi .slt arg8 c0_i32_10
  let v30 : BitVec 32 := Scalar.extui v29
  let v31 : BitVec 32 := Scalar.subi v28 v30
  let c4_i32 : BitVec 32 := 4#32
  let c0_i32_11 : BitVec 32 := 0#32
  let v32 : BitVec 1 := Scalar.cmpi .sgt c4_i32 c0_i32_11
  let v33 : BitVec 32 := Scalar.extui v32
  let c0_i32_12 : BitVec 32 := 0#32
  let v34 : BitVec 1 := Scalar.cmpi .slt c4_i32 c0_i32_12
  let v35 : BitVec 32 := Scalar.extui v34
  let v36 : BitVec 32 := Scalar.subi v33 v35
  let v37 : BitVec 1 := Scalar.cmpi .ne v31 v36
  let v38 : BitVec 32 := Scalar.remsi arg8 c4_i32
  let c0_i32_13 : BitVec 32 := 0#32
  let v39 : BitVec 1 := Scalar.cmpi .ne v38 c0_i32_13
  let v40 : BitVec 1 := Scalar.andi v37 v39
  let v26 : BitVec 32 := Scalar.divsi arg8 c4_i32
  let c1_i32_14 : BitVec 32 := 1#32
  let v41 : BitVec 32 := Scalar.subi v26 c1_i32_14
  let v42 : BitVec 32 := Scalar.select v40 v41 v26
  let v58 : BitVec 32 := Scalar.addi v57 v42
  let v67 : Index := Scalar.indexCast v58
  let c0_27 : Index := 0#32
  ![0, v67.toNat, 0]
def k0_cond3 (i : grid0.Coords) : BitVec 1 :=
  let arg1 : BitVec 32 := BitVec.ofNat 32 (i 1).val
  let c2_i32 : BitVec 32 := 2#32
  let v22 : BitVec 1 := Scalar.cmpi .eq arg1 c2_i32
  let v23 : BitVec 32 := Scalar.extui v22
  let c0_i32_5 : BitVec 32 := 0#32
  let v24 : BitVec 1 := Scalar.cmpi .ne v23 c0_i32_5
  v24

@[reducible] def k0_t3_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_off5 (k0_t3 : Fin k0_t3_loop.trips) : Fin 3 → Nat :=
  let c0 : Index := 0#32
  let c0_i32_6 : BitVec 32 := 0#32
  let c1_i32_7 : BitVec 32 := 1#32
  let arg8 : BitVec 32 := Scf.iv c0_i32_6 c1_i32_7 k0_t3
  let c1_i32_16 : BitVec 32 := 1#32
  let c0_i32_17 : BitVec 32 := 0#32
  let v43 : BitVec 1 := Scalar.cmpi .eq c1_i32_16 c0_i32_17
  let c1_i32_18 : BitVec 32 := 1#32
  let v44 : BitVec 32 := Scalar.select v43 c1_i32_18 c1_i32_16
  let v45 : BitVec 32 := Scalar.remsi arg8 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c2048_i32 : BitVec 32 := 2048#32
  let v53 : BitVec 32 := Scalar.muli v52 c2048_i32
  let c0_i32_10 : BitVec 32 := 0#32
  let v27 : BitVec 1 := Scalar.cmpi .sgt arg8 c0_i32_10
  let v28 : BitVec 32 := Scalar.extui v27
  let c0_i32_11 : BitVec 32 := 0#32
  let v29 : BitVec 1 := Scalar.cmpi .slt arg8 c0_i32_11
  let v30 : BitVec 32 := Scalar.extui v29
  let v31 : BitVec 32 := Scalar.subi v28 v30
  let c1_i32_9 : BitVec 32 := 1#32
  let c0_i32_12 : BitVec 32 := 0#32
  let v32 : BitVec 1 := Scalar.cmpi .sgt c1_i32_9 c0_i32_12
  let v33 : BitVec 32 := Scalar.extui v32
  let c0_i32_13 : BitVec 32 := 0#32
  let v34 : BitVec 1 := Scalar.cmpi .slt c1_i32_9 c0_i32_13
  let v35 : BitVec 32 := Scalar.extui v34
  let v36 : BitVec 32 := Scalar.subi v33 v35
  let v37 : BitVec 1 := Scalar.cmpi .ne v31 v36
  let v38 : BitVec 32 := Scalar.remsi arg8 c1_i32_9
  let c0_i32_14 : BitVec 32 := 0#32
  let v39 : BitVec 1 := Scalar.cmpi .ne v38 c0_i32_14
  let v40 : BitVec 1 := Scalar.andi v37 v39
  let v26 : BitVec 32 := Scalar.divsi arg8 c1_i32_9
  let c1_i32_15 : BitVec 32 := 1#32
  let v41 : BitVec 32 := Scalar.subi v26 c1_i32_15
  let v42 : BitVec 32 := Scalar.select v40 v41 v26
  let v54 : BitVec 32 := Scalar.addi v53 v42
  let v63 : Index := Scalar.indexCast v54
  let c0_26 : Index := 0#32
  ![0, v63.toNat, 0]
def k0_off6 (k0_t3 : Fin k0_t3_loop.trips) : Fin 3 → Nat :=
  let c0_27 : Index := 0#32
  let c0_i32_6 : BitVec 32 := 0#32
  let c1_i32_7 : BitVec 32 := 1#32
  let arg8 : BitVec 32 := Scf.iv c0_i32_6 c1_i32_7 k0_t3
  let c1_i32_16 : BitVec 32 := 1#32
  let c0_i32_17 : BitVec 32 := 0#32
  let v43 : BitVec 1 := Scalar.cmpi .eq c1_i32_16 c0_i32_17
  let c1_i32_18 : BitVec 32 := 1#32
  let v44 : BitVec 32 := Scalar.select v43 c1_i32_18 c1_i32_16
  let v45 : BitVec 32 := Scalar.remsi arg8 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c1_i32_22 : BitVec 32 := 1#32
  let v55 : BitVec 32 := Scalar.subi v52 c1_i32_22
  let c0_i32_23 : BitVec 32 := 0#32
  let v56 : BitVec 32 := Scalar.maxsi v55 c0_i32_23
  let c2048_i32_24 : BitVec 32 := 2048#32
  let v57 : BitVec 32 := Scalar.muli v56 c2048_i32_24
  let c0_i32_10 : BitVec 32 := 0#32
  let v27 : BitVec 1 := Scalar.cmpi .sgt arg8 c0_i32_10
  let v28 : BitVec 32 := Scalar.extui v27
  let c0_i32_11 : BitVec 32 := 0#32
  let v29 : BitVec 1 := Scalar.cmpi .slt arg8 c0_i32_11
  let v30 : BitVec 32 := Scalar.extui v29
  let v31 : BitVec 32 := Scalar.subi v28 v30
  let c1_i32_9 : BitVec 32 := 1#32
  let c0_i32_12 : BitVec 32 := 0#32
  let v32 : BitVec 1 := Scalar.cmpi .sgt c1_i32_9 c0_i32_12
  let v33 : BitVec 32 := Scalar.extui v32
  let c0_i32_13 : BitVec 32 := 0#32
  let v34 : BitVec 1 := Scalar.cmpi .slt c1_i32_9 c0_i32_13
  let v35 : BitVec 32 := Scalar.extui v34
  let v36 : BitVec 32 := Scalar.subi v33 v35
  let v37 : BitVec 1 := Scalar.cmpi .ne v31 v36
  let v38 : BitVec 32 := Scalar.remsi arg8 c1_i32_9
  let c0_i32_14 : BitVec 32 := 0#32
  let v39 : BitVec 1 := Scalar.cmpi .ne v38 c0_i32_14
  let v40 : BitVec 1 := Scalar.andi v37 v39
  let v26 : BitVec 32 := Scalar.divsi arg8 c1_i32_9
  let c1_i32_15 : BitVec 32 := 1#32
  let v41 : BitVec 32 := Scalar.subi v26 c1_i32_15
  let v42 : BitVec 32 := Scalar.select v40 v41 v26
  let v58 : BitVec 32 := Scalar.addi v57 v42
  let v67 : Index := Scalar.indexCast v58
  let c0_28 : Index := 0#32
  ![0, v67.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage0_0 : Fin 1 → Memref sig .tc .smem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S4x2048x1152 : Shape := ⟨3, ![4, 2048, 1152]⟩
abbrev S4x2048x384 : Shape := ⟨3, ![4, 2048, 384]⟩
abbrev S4x2048x6x64 : Shape := ⟨4, ![4, 2048, 6, 64]⟩
abbrev S_ : Shape := ⟨0, ![]⟩
abbrev S1x1x1 : Shape := ⟨3, ![1, 1, 1]⟩
abbrev S6x1x1 : Shape := ⟨3, ![6, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S6x2048x2048 : Shape := ⟨3, ![6, 2048, 2048]⟩
abbrev S4x6x2048x2048 : Shape := ⟨4, ![4, 6, 2048, 2048]⟩
abbrev S1x6x2048x2048 : Shape := ⟨4, ![1, 6, 2048, 2048]⟩
abbrev S4x6x2048 : Shape := ⟨3, ![4, 6, 2048]⟩
abbrev S4x6x2048x1 : Shape := ⟨4, ![4, 6, 2048, 1]⟩
abbrev S4x6x2048x64 : Shape := ⟨4, ![4, 6, 2048, 64]⟩

abbrev nBuf : Space → Nat
  | .hbm => 95
  | .vmem => 0
  | .smem => 0
  | _ => 0

abbrev bufTy : (tb : Table) → Fin (tcTables nBuf tb) → BufTy
  | .hbm, ⟨0, _⟩ => ⟨S4x2048x1152, .f32⟩
  | .hbm, ⟨1, _⟩ => ⟨S4x2048x384, .f32⟩
  | .hbm, ⟨2, _⟩ => ⟨S4x2048x384, .f32⟩
  | .hbm, ⟨3, _⟩ => ⟨S4x2048x384, .f32⟩
  | .hbm, ⟨4, _⟩ => ⟨S4x2048x6x64, .f32⟩
  | .hbm, ⟨5, _⟩ => ⟨S4x2048x6x64, .f32⟩
  | .hbm, ⟨6, _⟩ => ⟨S4x2048x6x64, .f32⟩
  | .hbm, ⟨7, _⟩ => ⟨S_, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S1x1x1, .f32⟩
  | .hbm, ⟨13, _⟩ => ⟨S_, .f32⟩
  | .hbm, ⟨14, _⟩ => ⟨S1x1x1, .f32⟩
  | .hbm, ⟨15, _⟩ => ⟨S_, .f32⟩
  | .hbm, ⟨16, _⟩ => ⟨S1x1x1, .f32⟩
  | .hbm, ⟨17, _⟩ => ⟨S_, .f32⟩
  | .hbm, ⟨18, _⟩ => ⟨S1x1x1, .f32⟩
  | .hbm, ⟨19, _⟩ => ⟨S6x1x1, .f32⟩
  | .hbm, ⟨20, _⟩ => ⟨S_, .i32⟩
  | .hbm, ⟨21, _⟩ => ⟨S1x1x1, .i32⟩
  | .hbm, ⟨22, _⟩ => ⟨S_, .i32⟩
  | .hbm, ⟨23, _⟩ => ⟨S1x1x1, .i32⟩
  | .hbm, ⟨24, _⟩ => ⟨S_, .i32⟩
  | .hbm, ⟨25, _⟩ => ⟨S1x1x1, .i32⟩
  | .hbm, ⟨26, _⟩ => ⟨S_, .i32⟩
  | .hbm, ⟨27, _⟩ => ⟨S1x1x1, .i32⟩
  | .hbm, ⟨28, _⟩ => ⟨S_, .i32⟩
  | .hbm, ⟨29, _⟩ => ⟨S1x1x1, .i32⟩
  | .hbm, ⟨30, _⟩ => ⟨S_, .i32⟩
  | .hbm, ⟨31, _⟩ => ⟨S1x1x1, .i32⟩
  | .hbm, ⟨32, _⟩ => ⟨S6x1x1, .i32⟩
  | .hbm, ⟨33, _⟩ => ⟨S2048, .i32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S1x2048x2048, .i32⟩
  | .hbm, ⟨40, _⟩ => ⟨S_, .i32⟩
  | .hbm, ⟨41, _⟩ => ⟨S1x2048x2048, .i32⟩
  | .hbm, ⟨42, _⟩ => ⟨S1x2048x2048, .i1⟩
  | .hbm, ⟨43, _⟩ => ⟨S_, .i32⟩
  | .hbm, ⟨44, _⟩ => ⟨S6x1x1, .i32⟩
  | .hbm, ⟨45, _⟩ => ⟨S6x1x1, .i32⟩
  | .hbm, ⟨46, _⟩ => ⟨S6x2048x2048, .i32⟩
  | .hbm, ⟨47, _⟩ => ⟨S6x2048x2048, .i32⟩
  | .hbm, ⟨48, _⟩ => ⟨S6x2048x2048, .i1⟩
  | .hbm, ⟨49, _⟩ => ⟨S6x2048x2048, .i1⟩
  | .hbm, ⟨50, _⟩ => ⟨S6x2048x2048, .i1⟩
  | .hbm, ⟨51, _⟩ => ⟨S6x2048x2048, .i32⟩
  | .hbm, ⟨52, _⟩ => ⟨S6x2048x2048, .i32⟩
  | .hbm, ⟨53, _⟩ => ⟨S6x2048x2048, .i32⟩
  | .hbm, ⟨54, _⟩ => ⟨S_, .i32⟩
  | .hbm, ⟨55, _⟩ => ⟨S6x2048x2048, .i32⟩
  | .hbm, ⟨56, _⟩ => ⟨S6x2048x2048, .i1⟩
  | .hbm, ⟨57, _⟩ => ⟨S6x2048x2048, .i1⟩
  | .hbm, ⟨58, _⟩ => ⟨S4x6x2048x2048, .f32⟩
  | .hbm, ⟨59, _⟩ => ⟨S_, .f32⟩
  | .hbm, ⟨60, _⟩ => ⟨S4x6x2048x2048, .f32⟩
  | .hbm, ⟨61, _⟩ => ⟨S4x6x2048x2048, .f32⟩
  | .hbm, ⟨62, _⟩ => ⟨S1x2048x2048, .f32⟩
  | .hbm, ⟨63, _⟩ => ⟨S6x2048x2048, .f32⟩
  | .hbm, ⟨64, _⟩ => ⟨S6x2048x2048, .f32⟩
  | .hbm, ⟨65, _⟩ => ⟨S6x2048x2048, .f32⟩
  | .hbm, ⟨66, _⟩ => ⟨S1x6x2048x2048, .f32⟩
  | .hbm, ⟨67, _⟩ => ⟨S4x6x2048x2048, .f32⟩
  | .hbm, ⟨68, _⟩ => ⟨S4x6x2048x2048, .f32⟩
  | .hbm, ⟨69, _⟩ => ⟨S_, .f32⟩
  | .hbm, ⟨70, _⟩ => ⟨S_, .f32⟩
  | .hbm, ⟨71, _⟩ => ⟨S4x6x2048x2048, .i1⟩
  | .hbm, ⟨72, _⟩ => ⟨S4x6x2048x2048, .f32⟩
  | .hbm, ⟨73, _⟩ => ⟨S4x6x2048x2048, .f32⟩
  | .hbm, ⟨74, _⟩ => ⟨S_, .f32⟩
  | .hbm, ⟨75, _⟩ => ⟨S4x6x2048, .f32⟩
  | .hbm, ⟨76, _⟩ => ⟨S4x6x2048x1, .f32⟩
  | .hbm, ⟨77, _⟩ => ⟨S4x6x2048x2048, .f32⟩
  | .hbm, ⟨78, _⟩ => ⟨S4x6x2048x2048, .f32⟩
  | .hbm, ⟨79, _⟩ => ⟨S4x6x2048x2048, .f32⟩
  | .hbm, ⟨80, _⟩ => ⟨S_, .f32⟩
  | .hbm, ⟨81, _⟩ => ⟨S4x6x2048, .f32⟩
  | .hbm, ⟨82, _⟩ => ⟨S4x6x2048x1, .f32⟩
  | .hbm, ⟨83, _⟩ => ⟨S4x6x2048x64, .f32⟩
  | .hbm, ⟨84, _⟩ => ⟨S4x6x2048x64, .f32⟩
  | .hbm, ⟨85, _⟩ => ⟨S4x6x2048x64, .f32⟩
  | .hbm, ⟨86, _⟩ => ⟨S4x6x2048x1, .f32⟩
  | .hbm, ⟨87, _⟩ => ⟨S4x6x2048x1, .f32⟩
  | .hbm, ⟨88, _⟩ => ⟨S4x6x2048, .f32⟩
  | .hbm, ⟨89, _⟩ => ⟨S4x2048x6x64, .f32⟩
  | .hbm, ⟨90, _⟩ => ⟨S4x2048x384, .f32⟩
  | .hbm, ⟨91, _⟩ => ⟨S4x6x2048x1, .f32⟩
  | .hbm, ⟨92, _⟩ => ⟨S4x6x2048x64, .f32⟩
  | .hbm, ⟨93, _⟩ => ⟨S4x2048x6x64, .f32⟩
  | .hbm, ⟨94, _⟩ => ⟨S4x2048x384, .f32⟩
  | _, _ => ⟨S4x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_c_6 : Ref sig .tc := ⟨.hbm, 24, rfl⟩
abbrev main_v15 : Ref sig .tc := ⟨.hbm, 25, rfl⟩
abbrev main_c_7 : Ref sig .tc := ⟨.hbm, 26, rfl⟩
abbrev main_v16 : Ref sig .tc := ⟨.hbm, 27, rfl⟩
abbrev main_c_8 : Ref sig .tc := ⟨.hbm, 28, rfl⟩
abbrev main_v17 : Ref sig .tc := ⟨.hbm, 29, rfl⟩
abbrev main_c_9 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_10 : Ref sig .tc := ⟨.hbm, 40, rfl⟩
abbrev main_v27 : Ref sig .tc := ⟨.hbm, 41, rfl⟩
abbrev main_v28 : Ref sig .tc := ⟨.hbm, 42, rfl⟩
abbrev main_c_11 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_14 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Kernel8.lean ====
abbrev S4x2048x256 : Shape := ⟨3, ![4, 2048, 256]⟩
abbrev S31x256 : Shape := ⟨2, ![31, 256]⟩
abbrev S256 : Shape := ⟨1, ![256]⟩
abbrev S_ : Shape := ⟨0, ![]⟩
abbrev S4x30x256 : Shape := ⟨3, ![4, 30, 256]⟩
abbrev S4x2078x256 : Shape := ⟨3, ![4, 2078, 256]⟩
abbrev S1x256 : Shape := ⟨2, ![1, 256]⟩
abbrev S1x1x256 : Shape := ⟨3, ![1, 1, 256]⟩
abbrev S4x2048x512 : Shape := ⟨3, ![4, 2048, 512]⟩
abbrev S1x2048x512 : Shape := ⟨3, ![1, 2048, 512]⟩
abbrev S1x2048x256 : Shape := ⟨3, ![1, 2048, 256]⟩
abbrev S2080x256 : Shape := ⟨2, ![2080, 256]⟩
abbrev S248x256 : Shape := ⟨2, ![248, 256]⟩
abbrev S32x256 : Shape := ⟨2, ![32, 256]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S160x128 : Shape := ⟨2, ![160, 128]⟩
abbrev S128x128 : Shape := ⟨2, ![128, 128]⟩
abbrev S1x128 : Shape := ⟨2, ![1, 128]⟩
abbrev S8x128 : Shape := ⟨2, ![8, 128]⟩
abbrev S16x8x128 : Shape := ⟨3, ![16, 8, 128]⟩
abbrev S1x128x128 : Shape := ⟨3, ![1, 128, 128]⟩
abbrev S8x256 : Shape := ⟨2, ![8, 256]⟩

abbrev nBuf : Space → Nat
  | .hbm => 250
  | .vmem => 18
  | .smem => 0
  | _ => 0

abbrev hbmTy0_0 (i : Nat) : BufTy := match i % 128 with
  | 0 => ⟨S4x2048x256, .f32⟩
  | 1 => ⟨S4x2048x256, .f32⟩
  | 2 => ⟨S31x256, .f32⟩
  | 3 => ⟨S256, .f32⟩
  | 4 => ⟨S256, .f32⟩
  | 5 => ⟨S256, .f32⟩
  | 6 => ⟨S4x2048x256, .f32⟩
  | 7 => ⟨S4x2048x256, .f32⟩
  | 8 => ⟨S4x2048x256, .f32⟩
  | 9 => ⟨S_, .f32⟩
  | 10 => ⟨S4x2048x256, .f32⟩
  | 11 => ⟨S4x2048x256, .f32⟩
  | 12 => ⟨S_, .f32⟩
  | 13 => ⟨S4x2048x256, .f32⟩
  | 14 => ⟨S4x2048x256, .f32⟩
  | 15 => ⟨S4x2048x256, .f32⟩
  | 16 => ⟨S4x30x256, .f32⟩
  | 17 => ⟨S_, .f32⟩
  | 18 => ⟨S4x30x256, .f32⟩
  | 19 => ⟨S4x2078x256, .f32⟩
  | 20 => ⟨S1x256, .f32⟩
  | 21 => ⟨S256, .f32⟩
  | 22 => ⟨S4x2048x256, .f32⟩
  | 23 => ⟨S1x1x256, .f32⟩
  | 24 => ⟨S4x2048x256, .f32⟩
  | 25 => ⟨S4x2048x256, .f32⟩
  | 26 => ⟨S_, .f32⟩
  | 27 => ⟨S4x2048x256, .f32⟩
  | 28 => ⟨S4x2048x256, .f32⟩
  | 29 => ⟨S1x256, .f32⟩
  | 30 => ⟨S256, .f32⟩
  | 31 => ⟨S4x2048x256, .f32⟩
  | 32 => ⟨S1x1x256, .f32⟩
  | 33 => ⟨S4x2048x256, .f32⟩
  | 34 => ⟨S4x2048x256, .f32⟩
  | 35 => ⟨S4x2048x256, .f32⟩
  | 36 => ⟨S1x256, .f32⟩
  | 37 => ⟨S256, .f32⟩
  | 38 => ⟨S4x2048x256, .f32⟩
  | 39 => ⟨S1x1x256, .f32⟩
  | 40 => ⟨S4x2048x256, .f32⟩
  | 41 => ⟨S4x2048x256, .f32⟩
  | 42 => ⟨S4x2048x256, .f32⟩
  | 43 => ⟨S1x256, .f32⟩
  | 44 => ⟨S256, .f32⟩
  | 45 => ⟨S4x2048x256, .f32⟩
  | 46 => ⟨S1x1x256, .f32⟩
  | 47 => ⟨S4x2048x256, .f32⟩
  | 48 => ⟨S4x2048x256, .f32⟩
  | 49 => ⟨S4x2048x256, .f32⟩
  | 50 => ⟨S1x256, .f32⟩
  | 51 => ⟨S256, .f32⟩
  | 52 => ⟨S4x2048x256, .f32⟩
  | 53 => ⟨S1x1x256, .f32⟩
  | 54 => ⟨S4x2048x256, .f32⟩
  | 55 => ⟨S4x2048x256, .f32⟩
  | 56 => ⟨S4x2048x256, .f32⟩
  | 57 => ⟨S1x256, .f32⟩
  | 58 => ⟨S256, .f32⟩
  | 59 => ⟨S4x2048x256, .f32⟩
  | 60 => ⟨S1x1x256, .f32⟩
  | 61 => ⟨S4x2048x256, .f32⟩
  | 62 => ⟨S4x2048x256, .f32⟩
  | 63 => ⟨S4x2048x256, .f32⟩
  | 64 => ⟨S1x256, .f32⟩
  | 65 => ⟨S256, .f32⟩
  | 66 => ⟨S4x2048x256, .f32⟩
  | 67 => ⟨S1x1x256, .f32⟩
  | 68 => ⟨S4x2048x256, .f32⟩
  | 69 => ⟨S4x2048x256, .f32⟩
  | 70 => ⟨S4x2048x256, .f32⟩
  | 71 => ⟨S1x256, .f32⟩
  | 72 => ⟨S256, .f32⟩
  | 73 => ⟨S4x2048x256, .f32⟩
  | 74 => ⟨S1x1x256, .f32⟩
  | 75 => ⟨S4x2048x256, .f32⟩
  | 76 => ⟨S4x2048x256, .f32⟩
  | 77 => ⟨S4x2048x256, .f32⟩
  | 78 => ⟨S1x256, .f32⟩
  | 79 => ⟨S256, .f32⟩
  | 80 => ⟨S4x2048x256, .f32⟩
  | 81 => ⟨S1x1x256, .f32⟩
  | 82 => ⟨S4x2048x256, .f32⟩
  | 83 => ⟨S4x2048x256, .f32⟩
  | 84 => ⟨S4x2048x256, .f32⟩
  | 85 => ⟨S1x256, .f32⟩
  | 86 => ⟨S256, .f32⟩
  | 87 => ⟨S4x2048x256, .f32⟩
  | 88 => ⟨S1x1x256, .f32⟩
  | 89 => ⟨S4x2048x256, .f32⟩
  | 90 => ⟨S4x2048x256, .f32⟩
  | 91 => ⟨S4x2048x256, .f32⟩
  | 92 => ⟨S1x256, .f32⟩
  | 93 => ⟨S256, .f32⟩
  | 94 => ⟨S4x2048x256, .f32⟩
  | 95 => ⟨S1x1x256, .f32⟩
  | 96 => ⟨S4x2048x256, .f32⟩
  | 97 => ⟨S4x2048x256, .f32⟩
  | 98 => ⟨S4x2048x256, .f32⟩
  | 99 => ⟨S1x256, .f32⟩
  | 100 => ⟨S256, .f32⟩
  | 101 => ⟨S4x2048x256, .f32⟩
  | 102 => ⟨S1x1x256, .f32⟩
  | 103 => ⟨S4x2048x256, .f32⟩
  | 104 => ⟨S4x2048x256, .f32⟩
  | 105 => ⟨S4x2048x256, .f32⟩
  | 106 => ⟨S1x256, .f32⟩
  | 107 => ⟨S256, .f32⟩
  | 108 => ⟨S4x2048x256, .f32⟩
  | 109 => ⟨S1x1x256, .f32⟩
  | 110 => ⟨S4x2048x256, .f32⟩
  | 111 => ⟨S4x2048x256, .f32⟩
  | 112 => ⟨S4x2048x256, .f32⟩
  | 113 => ⟨S1x256, .f32⟩
  | 114 => ⟨S256, .f32⟩
  | 115 => ⟨S4x2048x256, .f32⟩
  | 116 => ⟨S1x1x256, .f32⟩
  | 117 => ⟨S4x2048x256, .f32⟩
  | 118 => ⟨S4x2048x256, .f32⟩
  | 119 => ⟨S4x2048x256, .f32⟩
  | 120 => ⟨S1x256, .f32⟩
  | 121 => ⟨S256, .f32⟩
  | 122 => ⟨S4x2048x256, .f32⟩
  | 123 => ⟨S1x1x256, .f32⟩
  | 124 => ⟨S4x2048x256, .f32⟩
  | 125 => ⟨S4x2048x256, .f32⟩
  | 126 => ⟨S4x2048x256, .f32⟩
  | 127 => ⟨S1x256, .f32⟩
  | _ => ⟨S4x2048x256, .f32⟩

abbrev hbmTy0_1 (i : Nat) : BufTy := match i % 128 with
  | 0 => ⟨S256, .f32⟩
  | 1 => ⟨S4x2048x256, .f32⟩
  | 2 => ⟨S1x1x256, .f32⟩
  | 3 => ⟨S4x2048x256, .f32⟩
  | 4 => ⟨S4x2048x256, .f32⟩
  | 5 => ⟨S4x2048x256, .f32⟩
  | 6 => ⟨S1x256, .f32⟩
  | 7 => ⟨S256, .f32⟩
  | 8 => ⟨S4x2048x256, .f32⟩
  | 9 => ⟨S1x1x256, .f32⟩
  | 10 => ⟨S4x2048x256, .f32⟩
  | 11 => ⟨S4x2048x256, .f32⟩
  | 12 => ⟨S4x2048x256, .f32⟩
  | 13 => ⟨S1x256, .f32⟩
  | 14 => ⟨S256, .f32⟩
  | 15 => ⟨S4x2048x256, .f32⟩
  | 16 => ⟨S1x1x256, .f32⟩
  | 17 => ⟨S4x2048x256, .f32⟩
  | 18 => ⟨S4x2048x256, .f32⟩
  | 19 => ⟨S4x2048x256, .f32⟩
  | 20 => ⟨S1x256, .f32⟩
  | 21 => ⟨S256, .f32⟩
  | 22 => ⟨S4x2048x256, .f32⟩
  | 23 => ⟨S1x1x256, .f32⟩
  | 24 => ⟨S4x2048x256, .f32⟩
  | 25 => ⟨S4x2048x256, .f32⟩
  | 26 => ⟨S4x2048x256, .f32⟩
  | 27 => ⟨S1x256, .f32⟩
  | 28 => ⟨S256, .f32⟩
  | 29 => ⟨S4x2048x256, .f32⟩
  | 30 => ⟨S1x1x256, .f32⟩
  | 31 => ⟨S4x2048x256, .f32⟩
  | 32 => ⟨S4x2048x256, .f32⟩
  | 33 => ⟨S4x2048x256, .f32⟩
  | 34 => ⟨S1x256, .f32⟩
  | 35 => ⟨S256, .f32⟩
  | 36 => ⟨S4x2048x256, .f32⟩
  | 37 => ⟨S1x1x256, .f32⟩
  | 38 => ⟨S4x2048x256, .f32⟩
  | 39 => ⟨S4x2048x256, .f32⟩
  | 40 => ⟨S4x2048x256, .f32⟩
  | 41 => ⟨S1x256, .f32⟩
  | 42 => ⟨S256, .f32⟩
  | 43 => ⟨S4x2048x256, .f32⟩
  | 44 => ⟨S1x1x256, .f32⟩
  | 45 => ⟨S4x2048x256, .f32⟩
  | 46 => ⟨S4x2048x256, .f32⟩
  | 47 => ⟨S4x2048x256, .f32⟩
  | 48 => ⟨S1x256, .f32⟩
  | 49 => ⟨S256, .f32⟩
  | 50 => ⟨S4x2048x256, .f32⟩
  | 51 => ⟨S1x1x256, .f32⟩
  | 52 => ⟨S4x2048x256, .f32⟩
  | 53 => ⟨S4x2048x256, .f32⟩
  | 54 => ⟨S4x2048x256, .f32⟩
  | 55 => ⟨S1x256, .f32⟩
  | 56 => ⟨S256, .f32⟩
  | 57 => ⟨S4x2048x256, .f32⟩
  | 58 => ⟨S1x1x256, .f32⟩
  | 59 => ⟨S4x2048x256, .f32⟩
  | 60 => ⟨S4x2048x256, .f32⟩
  | 61 => ⟨S4x2048x256, .f32⟩
  | 62 => ⟨S1x256, .f32⟩
  | 63 => ⟨S256, .f32⟩
  | 64 => ⟨S4x2048x256, .f32⟩
  | 65 => ⟨S1x1x256, .f32⟩
  | 66 => ⟨S4x2048x256, .f32⟩
  | 67 => ⟨S4x2048x256, .f32⟩
  | 68 => ⟨S4x2048x256, .f32⟩
  | 69 => ⟨S1x256, .f32⟩
  | 70 => ⟨S256, .f32⟩
  | 71 => ⟨S4x2048x256, .f32⟩
  | 72 => ⟨S1x1x256, .f32⟩
  | 73 => ⟨S4x2048x256, .f32⟩
  | 74 => ⟨S4x2048x256, .f32⟩
  | 75 => ⟨S4x2048x256, .f32⟩
  | 76 => ⟨S1x256, .f32⟩
  | 77 => ⟨S256, .f32⟩
  | 78 => ⟨S4x2048x256, .f32⟩
  | 79 => ⟨S1x1x256, .f32⟩
  | 80 => ⟨S4x2048x256, .f32⟩
  | 81 => ⟨S4x2048x256, .f32⟩
  | 82 => ⟨S4x2048x256, .f32⟩
  | 83 => ⟨S1x256, .f32⟩
  | 84 => ⟨S256, .f32⟩
  | 85 => ⟨S4x2048x256, .f32⟩
  | 86 => ⟨S1x1x256, .f32⟩
  | 87 => ⟨S4x2048x256, .f32⟩
  | 88 => ⟨S4x2048x256, .f32⟩
  | 89 => ⟨S4x2048x256, .f32⟩
  | 90 => ⟨S1x256, .f32⟩
  | 91 => ⟨S256, .f32⟩
  | 92 => ⟨S4x2048x256, .f32⟩
  | 93 => ⟨S1x1x256, .f32⟩
  | 94 => ⟨S4x2048x256, .f32⟩
  | 95 => ⟨S4x2048x256, .f32⟩
  | 96 => ⟨S4x2048x256, .f32⟩
  | 97 => ⟨S1x256, .f32⟩
  | 98 => ⟨S256, .f32⟩
  | 99 => ⟨S4x2048x256, .f32⟩
  | 100 => ⟨S1x1x256, .f32⟩
  | 101 => ⟨S4x2048x256, .f32⟩
  | 102 => ⟨S4x2048x256, .f32⟩
  | 103 => ⟨S4x2048x256, .f32⟩
  | 104 => ⟨S1x256, .f32⟩
  | 105 => ⟨S256, .f32⟩
  | 106 => ⟨S4x2048x256, .f32⟩
  | 107 => ⟨S1x1x256, .f32⟩
  | 108 => ⟨S4x2048x256, .f32⟩
  | 109 => ⟨S4x2048x256, .f32⟩
  | 110 => ⟨S4x2048x256, .f32⟩
  | 111 => ⟨S1x1x256, .f32⟩
  | 112 => ⟨S4x2048x256, .f32⟩
  | 113 => ⟨S4x2048x256, .f32⟩
  | 114 => ⟨S4x2048x512, .f32⟩
  | 115 => ⟨S1x256, .f32⟩
  | 116 => ⟨S1x256, .f32⟩
  | 117 => ⟨S4x2048x512, .bf16⟩
  | 118 => ⟨S31x256, .f32⟩
  | 119 => ⟨S1x256, .f32⟩
  | 120 => ⟨S1x256, .f32⟩
  | 121 => ⟨S1x256, .f32⟩
  | _ => ⟨S4x2048x256, .f32⟩

abbrev hbmTy (i : Nat) : BufTy := match i / 128 with
  | 0 => hbmTy0_0 i
  | 1 => hbmTy0_1 i
  | _ => ⟨S4x2048x256, .f32⟩

abbrev bufTy : (tb : Table) → Fin (tcTables nBuf tb) → BufTy
  | .hbm, ⟨i, _⟩ => hbmTy i
  | .local _ .vmem, ⟨0, _⟩ => ⟨S1x2048x512, .f32⟩
  | .local _ .vmem, ⟨1, _⟩ => ⟨S1x2048x512, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S31x256, .f32⟩
  | .local _ .vmem, ⟨7, _⟩ => ⟨S1x256, .f32⟩
  | .local _ .vmem, ⟨8, _⟩ => ⟨S1x256, .f32⟩
  | .local _ .vmem, ⟨9, _⟩ => ⟨S1x2048x512, .bf16⟩
  | .local _ .vmem, ⟨10, _⟩ => ⟨S1x2048x512, .bf16⟩
  | .local _ .vmem, ⟨11, _⟩ => ⟨S31x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2080x256, .f32⟩
  | .local _ .vmem, ⟨16, _⟩ => ⟨S2080x256, .f32⟩
  | .local _ .vmem, ⟨17, _⟩ => ⟨S248x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234_0 : Ref sig .tc := ⟨.hbm, 245, rfl⟩
abbrev main_v234_1 : Ref sig .tc := ⟨.hbm, 246, rfl⟩
abbrev main_v234_2 : Ref sig .tc := ⟨.hbm, 247, rfl⟩
abbrev main_v234_3 : Ref sig .tc := ⟨.hbm, 248, rfl⟩
abbrev main_v234_4 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_7 : BitVec 32 := 0#32
  let c16_i32 : BitVec 32 := 16#32
  let v15 : BitVec 32 := Scalar.addi c0_i32_7 c16_i32
  let c1_i32 : BitVec 32 := 1#32
  ⟨c0_i32_7, v15, c1_i32⟩
def k0_mult1 (k0_t1 : Fin k0_t1_loop.trips) : BitVec 32 :=
  let c0_i32_7 : BitVec 32 := 0#32
  let c1_i32 : BitVec 32 := 1#32
  let arg15 : BitVec 32 := Scf.iv c0_i32_7 c1_i32 k0_t1
  let c128_i32 : BitVec 32 := 128#32
  let v234 : BitVec 32 := Scalar.muli arg15 c128_i32
  v234
def k0_off1 (k0_t1 : Fin k0_t1_loop.trips) : Fin 3 → Nat :=
  let c0_173 : Index := 0#32
  let c0_i32_7 : BitVec 32 := 0#32
  let c1_i32 : BitVec 32 := 1#32
  let arg15 : BitVec 32 := Scf.iv c0_i32_7 c1_i32 k0_t1
  let c128_i32 : BitVec 32 := 128#32
  let v234 : BitVec 32 := Scalar.muli arg15 c128_i32
  let v235 : BitVec 32 := v234
  let v236 : Index := Scalar.indexCast v235
  let c0_174 : Index := 0#32
  ![0, v236.toNat, 0]
def k0_off2 (k0_t1 : Fin k0_t1_loop.trips) : Fin 2 → Nat :=
  let c32_i32 : BitVec 32 := 32#32
  let c0_i32_7 : BitVec 32 := 0#32
  let c1_i32 : BitVec 32 := 1#32
  let arg15 : BitVec 32 := Scf.iv c0_i32_7 c1_i32 k0_t1
  let c128_i32 : BitVec 32 := 128#32
  let v234 : BitVec 32 := Scalar.muli arg15 c128_i32
  let v235 : BitVec 32 := v234
  let v249 : BitVec 32 := Scalar.addi c32_i32 v235
  let v250 : Index := Scalar.indexCast v249
  let c0_178 : Index := 0#32
  ![v250.toNat, 0]
def k0_off3 (k0_t1 : Fin k0_t1_loop.trips) : Fin 3 → Nat :=
  let c0_181 : Index := 0#32
  let c0_i32_7 : BitVec 32 := 0#32
  let c1_i32 : BitVec 32 := 1#32
  let arg15 : BitVec 32 := Scf.iv c0_i32_7 c1_i32 k0_t1
  let c128_i32 : BitVec 32 := 128#32
  let v234 : BitVec 32 := Scalar.muli arg15 c128_i32
  let v235 : BitVec 32 := v234
  let v256 : Index := Scalar.indexCast v235
  let c0_182 : Index := 0#32
  ![0, v256.toNat, 0]
def k0_off4 (k0_t1 : Fin k0_t1_loop.trips) : Fin 2 → Nat :=
  let c0_i32_7 : BitVec 32 := 0#32
  let c1_i32 : BitVec 32 := 1#32
  let arg15 : BitVec 32 := Scf.iv c0_i32_7 c1_i32 k0_t1
  let c128_i32 : BitVec 32 := 128#32
  let v234 : BitVec 32 := Scalar.muli arg15 c128_i32
  let v235 : BitVec 32 := v234
  let v329 : Index := Scalar.indexCast v235
  let c0_211 : Index := 0#32
  ![v329.toNat, 0]
@[reducible] def k0_t2_loop : Scf.Loop 32 :=
  let c0_i32_9 : BitVec 32 := 0#32
  let c16_i32_10 : BitVec 32 := 16#32
  let v16 : BitVec 32 := Scalar.addi c0_i32_9 c16_i32_10
  let c1_i32_11 : BitVec 32 := 1#32
  ⟨c0_i32_9, v16, c1_i32_11⟩
def k0_mult2 (k0_t2 : Fin k0_t2_loop.trips) : BitVec 32 :=
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  v234
def k0_off5 (k0_t2 : Fin k0_t2_loop.trips) : Fin 2 → Nat :=
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  let v235 : BitVec 32 := v234
  let v236 : Index := Scalar.indexCast v235
  let c0_173 : Index := 0#32
  ![v236.toNat, 0]
def k0_off6 (k0_t2 : Fin k0_t2_loop.trips) : Fin 3 → Nat :=
  let c0_394 : Index := 0#32
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  let v235 : BitVec 32 := v234
  let v690 : Index := Scalar.indexCast v235
  let c0_395 : Index := 0#32
  ![0, v690.toNat, 0]
def k0_off7 (k0_t2 : Fin k0_t2_loop.trips) : Fin 3 → Nat :=
  let c0_396 : Index := 0#32
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  let v235 : BitVec 32 := v234
  let v693 : Index := Scalar.indexCast v235
  let c256 : Index := 256#32
  ![0, v693.toNat, 256]
def k0_off8 (k0_t2 : Fin k0_t2_loop.trips) : Fin 2 → Nat :=
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  let v235 : BitVec 32 := v234
  let v719 : Index := Scalar.indexCast v235
  let c128_405 : Index := 128#32
  ![v719.toNat, 128]
def k0_off9 (k0_t2 : Fin k0_t2_loop.trips) : Fin 3 → Nat :=
  let c0_639 : Index := 0#32
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  let v235 : BitVec 32 := v234
  let v1173 : Index := Scalar.indexCast v235
  let c128_640 : Index := 128#32
  ![0, v1173.toNat, 128]
def k0_off10 (k0_t2 : Fin k0_t2_loop.trips) : Fin 3 → Nat :=
  let c0_641 : Index := 0#32
  let c0_i32_9 : BitVec 32 := 0#32
  let c1_i32_11 : BitVec 32 := 1#32
  let arg15 : BitVec 32 := Scf.iv c0_i32_9 c1_i32_11 k0_t2
  let c128_i32 : BitVec 32 := 128#32
  let v234 : BitVec 32 := Scalar.muli arg15 c128_i32
  let v235 : BitVec 32 := v234
  let v1176 : Index := Scalar.indexCast v235
  let c384 : Index := 384#32
  ![0, v1176.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4x2048x256 : Shape := ⟨3, ![4, 2048, 256]⟩
abbrev S31x256 : Shape := ⟨2, ![31, 256]⟩
abbrev S256 : Shape := ⟨1, ![256]⟩
abbrev S_ : Shape := ⟨0, ![]⟩
abbrev S4x30x256 : Shape := ⟨3, ![4, 30, 256]⟩
abbrev S4x2078x256 : Shape := ⟨3, ![4, 2078, 256]⟩
abbrev S1x256 : Shape := ⟨2, ![1, 256]⟩
abbrev S1x1x256 : Shape := ⟨3, ![1, 1, 256]⟩
abbrev S4x2048 : Shape := ⟨2, ![4, 2048]⟩
abbrev S4x2048x1 : Shape := ⟨3, ![4, 2048, 1]⟩
abbrev S4x2048x512 : Shape := ⟨3, ![4, 2048, 512]⟩

abbrev nBuf : Space → Nat
  | .hbm => 823
  | .vmem => 0
  | .smem => 0
  | _ => 0

abbrev hbmTy0_0 (i : Nat) : BufTy := match i % 128 with
  | 0 => ⟨S4x2048x256, .f32⟩
  | 1 => ⟨S4x2048x256, .f32⟩
  | 2 => ⟨S31x256, .f32⟩
  | 3 => ⟨S256, .f32⟩
  | 4 => ⟨S256, .f32⟩
  | 5 => ⟨S256, .f32⟩
  | 6 => ⟨S4x2048x256, .f32⟩
  | 7 => ⟨S4x2048x256, .f32⟩
  | 8 => ⟨S4x2048x256, .f32⟩
  | 9 => ⟨S_, .f32⟩
  | 10 => ⟨S4x2048x256, .f32⟩
  | 11 => ⟨S4x2048x256, .f32⟩
  | 12 => ⟨S_, .f32⟩
  | 13 => ⟨S4x2048x256, .f32⟩
  | 14 => ⟨S4x2048x256, .f32⟩
  | 15 => ⟨S_, .f32⟩
  | 16 => ⟨S4x2048x256, .f32⟩
  | 17 => ⟨S4x2048x256, .f32⟩
  | 18 => ⟨S4x2048x256, .f32⟩
  | 19 => ⟨S4x2048x256, .f32⟩
  | 20 => ⟨S4x30x256, .f32⟩
  | 21 => ⟨S_, .f32⟩
  | 22 => ⟨S4x30x256, .f32⟩
  | 23 => ⟨S4x2078x256, .f32⟩
  | 24 => ⟨S_, .f32⟩
  | 25 => ⟨S4x30x256, .f32⟩
  | 26 => ⟨S1x256, .f32⟩
  | 27 => ⟨S256, .f32⟩
  | 28 => ⟨S4x2048x256, .f32⟩
  | 29 => ⟨S1x1x256, .f32⟩
  | 30 => ⟨S4x2048x256, .f32⟩
  | 31 => ⟨S4x2048x256, .f32⟩
  | 32 => ⟨S_, .f32⟩
  | 33 => ⟨S4x2048x256, .f32⟩
  | 34 => ⟨S4x2048x256, .f32⟩
  | 35 => ⟨S1x256, .f32⟩
  | 36 => ⟨S256, .f32⟩
  | 37 => ⟨S4x2048x256, .f32⟩
  | 38 => ⟨S1x1x256, .f32⟩
  | 39 => ⟨S4x2048x256, .f32⟩
  | 40 => ⟨S4x2048x256, .f32⟩
  | 41 => ⟨S4x2048x256, .f32⟩
  | 42 => ⟨S1x256, .f32⟩
  | 43 => ⟨S256, .f32⟩
  | 44 => ⟨S4x2048x256, .f32⟩
  | 45 => ⟨S1x1x256, .f32⟩
  | 46 => ⟨S4x2048x256, .f32⟩
  | 47 => ⟨S4x2048x256, .f32⟩
  | 48 => ⟨S4x2048x256, .f32⟩
  | 49 => ⟨S1x256, .f32⟩
  | 50 => ⟨S256, .f32⟩
  | 51 => ⟨S4x2048x256, .f32⟩
  | 52 => ⟨S1x1x256, .f32⟩
  | 53 => ⟨S4x2048x256, .f32⟩
  | 54 => ⟨S4x2048x256, .f32⟩
  | 55 => ⟨S4x2048x256, .f32⟩
  | 56 => ⟨S1x256, .f32⟩
  | 57 => ⟨S256, .f32⟩
  | 58 => ⟨S4x2048x256, .f32⟩
  | 59 => ⟨S1x1x256, .f32⟩
  | 60 => ⟨S4x2048x256, .f32⟩
  | 61 => ⟨S4x2048x256, .f32⟩
  | 62 => ⟨S4x2048x256, .f32⟩
  | 63 => ⟨S1x256, .f32⟩
  | 64 => ⟨S256, .f32⟩
  | 65 => ⟨S4x2048x256, .f32⟩
  | 66 => ⟨S1x1x256, .f32⟩
  | 67 => ⟨S4x2048x256, .f32⟩
  | 68 => ⟨S4x2048x256, .f32⟩
  | 69 => ⟨S4x2048x256, .f32⟩
  | 70 => ⟨S1x256, .f32⟩
  | 71 => ⟨S256, .f32⟩
  | 72 => ⟨S4x2048x256, .f32⟩
  | 73 => ⟨S1x1x256, .f32⟩
  | 74 => ⟨S4x2048x256, .f32⟩
  | 75 => ⟨S4x2048x256, .f32⟩
  | 76 => ⟨S4x2048x256, .f32⟩
  | 77 => ⟨S1x256, .f32⟩
  | 78 => ⟨S256, .f32⟩
  | 79 => ⟨S4x2048x256, .f32⟩
  | 80 => ⟨S1x1x256, .f32⟩
  | 81 => ⟨S4x2048x256, .f32⟩
  | 82 => ⟨S4x2048x256, .f32⟩
  | 83 => ⟨S4x2048x256, .f32⟩
  | 84 => ⟨S1x256, .f32⟩
  | 85 => ⟨S256, .f32⟩
  | 86 => ⟨S4x2048x256, .f32⟩
  | 87 => ⟨S1x1x256, .f32⟩
  | 88 => ⟨S4x2048x256, .f32⟩
  | 89 => ⟨S4x2048x256, .f32⟩
  | 90 => ⟨S4x2048x256, .f32⟩
  | 91 => ⟨S1x256, .f32⟩
  | 92 => ⟨S256, .f32⟩
  | 93 => ⟨S4x2048x256, .f32⟩
  | 94 => ⟨S1x1x256, .f32⟩
  | 95 => ⟨S4x2048x256, .f32⟩
  | 96 => ⟨S4x2048x256, .f32⟩
  | 97 => ⟨S4x2048x256, .f32⟩
  | 98 => ⟨S1x256, .f32⟩
  | 99 => ⟨S256, .f32⟩
  | 100 => ⟨S4x2048x256, .f32⟩
  | 101 => ⟨S1x1x256, .f32⟩
  | 102 => ⟨S4x2048x256, .f32⟩
  | 103 => ⟨S4x2048x256, .f32⟩
  | 104 => ⟨S4x2048x256, .f32⟩
  | 105 => ⟨S1x256, .f32⟩
  | 106 => ⟨S256, .f32⟩
  | 107 => ⟨S4x2048x256, .f32⟩
  | 108 => ⟨S1x1x256, .f32⟩
  | 109 => ⟨S4x2048x256, .f32⟩
  | 110 => ⟨S4x2048x256, .f32⟩
  | 111 => ⟨S4x2048x256, .f32⟩
  | 112 => ⟨S1x256, .f32⟩
  | 113 => ⟨S256, .f32⟩
  | 114 => ⟨S4x2048x256, .f32⟩
  | 115 => ⟨S1x1x256, .f32⟩
  | 116 => ⟨S4x2048x256, .f32⟩
  | 117 => ⟨S4x2048x256, .f32⟩
  | 118 => ⟨S4x2048x256, .f32⟩
  | 119 => ⟨S1x256, .f32⟩
  | 120 => ⟨S256, .f32⟩
  | 121 => ⟨S4x2048x256, .f32⟩
  | 122 => ⟨S1x1x256, .f32⟩
  | 123 => ⟨S4x2048x256, .f32⟩
  | 124 => ⟨S4x2048x256, .f32⟩
  | 125 => ⟨S4x2048x256, .f32⟩
  | 126 => ⟨S1x256, .f32⟩
  | 127 => ⟨S256, .f32⟩
  | _ => ⟨S4x2048x256, .f32⟩

abbrev hbmTy0_1 (i : Nat) : BufTy := match i % 128 with
  | 0 => ⟨S4x2048x256, .f32⟩
  | 1 => ⟨S1x1x256, .f32⟩
  | 2 => ⟨S4x2048x256, .f32⟩
  | 3 => ⟨S4x2048x256, .f32⟩
  | 4 => ⟨S4x2048x256, .f32⟩
  | 5 => ⟨S1x256, .f32⟩
  | 6 => ⟨S256, .f32⟩
  | 7 => ⟨S4x2048x256, .f32⟩
  | 8 => ⟨S1x1x256, .f32⟩
  | 9 => ⟨S4x2048x256, .f32⟩
  | 10 => ⟨S4x2048x256, .f32⟩
  | 11 => ⟨S4x2048x256, .f32⟩
  | 12 => ⟨S1x256, .f32⟩
  | 13 => ⟨S256, .f32⟩
  | 14 => ⟨S4x2048x256, .f32⟩
  | 15 => ⟨S1x1x256, .f32⟩
  | 16 => ⟨S4x2048x256, .f32⟩
  | 17 => ⟨S4x2048x256, .f32⟩
  | 18 => ⟨S4x2048x256, .f32⟩
  | 19 => ⟨S1x256, .f32⟩
  | 20 => ⟨S256, .f32⟩
  | 21 => ⟨S4x2048x256, .f32⟩
  | 22 => ⟨S1x1x256, .f32⟩
  | 23 => ⟨S4x2048x256, .f32⟩
  | 24 => ⟨S4x2048x256, .f32⟩
  | 25 => ⟨S4x2048x256, .f32⟩
  | 26 => ⟨S1x256, .f32⟩
  | 27 => ⟨S256, .f32⟩
  | 28 => ⟨S4x2048x256, .f32⟩
  | 29 => ⟨S1x1x256, .f32⟩
  | 30 => ⟨S4x2048x256, .f32⟩
  | 31 => ⟨S4x2048x256, .f32⟩
  | 32 => ⟨S4x2048x256, .f32⟩
  | 33 => ⟨S1x256, .f32⟩
  | 34 => ⟨S256, .f32⟩
  | 35 => ⟨S4x2048x256, .f32⟩
  | 36 => ⟨S1x1x256, .f32⟩
  | 37 => ⟨S4x2048x256, .f32⟩
  | 38 => ⟨S4x2048x256, .f32⟩
  | 39 => ⟨S4x2048x256, .f32⟩
  | 40 => ⟨S1x256, .f32⟩
  | 41 => ⟨S256, .f32⟩
  | 42 => ⟨S4x2048x256, .f32⟩
  | 43 => ⟨S1x1x256, .f32⟩
  | 44 => ⟨S4x2048x256, .f32⟩
  | 45 => ⟨S4x2048x256, .f32⟩
  | 46 => ⟨S4x2048x256, .f32⟩
  | 47 => ⟨S1x256, .f32⟩
  | 48 => ⟨S256, .f32⟩
  | 49 => ⟨S4x2048x256, .f32⟩
  | 50 => ⟨S1x1x256, .f32⟩
  | 51 => ⟨S4x2048x256, .f32⟩
  | 52 => ⟨S4x2048x256, .f32⟩
  | 53 => ⟨S4x2048x256, .f32⟩
  | 54 => ⟨S1x256, .f32⟩
  | 55 => ⟨S256, .f32⟩
  | 56 => ⟨S4x2048x256, .f32⟩
  | 57 => ⟨S1x1x256, .f32⟩
  | 58 => ⟨S4x2048x256, .f32⟩
  | 59 => ⟨S4x2048x256, .f32⟩
  | 60 => ⟨S4x2048x256, .f32⟩
  | 61 => ⟨S1x256, .f32⟩
  | 62 => ⟨S256, .f32⟩
  | 63 => ⟨S4x2048x256, .f32⟩
  | 64 => ⟨S1x1x256, .f32⟩
  | 65 => ⟨S4x2048x256, .f32⟩
  | 66 => ⟨S4x2048x256, .f32⟩
  | 67 => ⟨S4x2048x256, .f32⟩
  | 68 => ⟨S1x256, .f32⟩
  | 69 => ⟨S256, .f32⟩
  | 70 => ⟨S4x2048x256, .f32⟩
  | 71 => ⟨S1x1x256, .f32⟩
  | 72 => ⟨S4x2048x256, .f32⟩
  | 73 => ⟨S4x2048x256, .f32⟩
  | 74 => ⟨S4x2048x256, .f32⟩
  | 75 => ⟨S1x256, .f32⟩
  | 76 => ⟨S256, .f32⟩
  | 77 => ⟨S4x2048x256, .f32⟩
  | 78 => ⟨S1x1x256, .f32⟩
  | 79 => ⟨S4x2048x256, .f32⟩
  | 80 => ⟨S4x2048x256, .f32⟩
  | 81 => ⟨S4x2048x256, .f32⟩
  | 82 => ⟨S1x256, .f32⟩
  | 83 => ⟨S256, .f32⟩
  | 84 => ⟨S4x2048x256, .f32⟩
  | 85 => ⟨S1x1x256, .f32⟩
  | 86 => ⟨S4x2048x256, .f32⟩
  | 87 => ⟨S4x2048x256, .f32⟩
  | 88 => ⟨S4x2048x256, .f32⟩
  | 89 => ⟨S1x256, .f32⟩
  | 90 => ⟨S256, .f32⟩
  | 91 => ⟨S4x2048x256, .f32⟩
  | 92 => ⟨S1x1x256, .f32⟩
  | 93 => ⟨S4x2048x256, .f32⟩
  | 94 => ⟨S4x2048x256, .f32⟩
  | 95 => ⟨S4x2048x256, .f32⟩
  | 96 => ⟨S1x256, .f32⟩
  | 97 => ⟨S256, .f32⟩
  | 98 => ⟨S4x2048x256, .f32⟩
  | 99 => ⟨S1x1x256, .f32⟩
  | 100 => ⟨S4x2048x256, .f32⟩
  | 101 => ⟨S4x2048x256, .f32⟩
  | 102 => ⟨S4x2048x256, .f32⟩
  | 103 => ⟨S1x256, .f32⟩
  | 104 => ⟨S256, .f32⟩
  | 105 => ⟨S4x2048x256, .f32⟩
  | 106 => ⟨S1x1x256, .f32⟩
  | 107 => ⟨S4x2048x256, .f32⟩
  | 108 => ⟨S4x2048x256, .f32⟩
  | 109 => ⟨S4x2048x256, .f32⟩
  | 110 => ⟨S1x256, .f32⟩
  | 111 => ⟨S256, .f32⟩
  | 112 => ⟨S4x2048x256, .f32⟩
  | 113 => ⟨S1x1x256, .f32⟩
  | 114 => ⟨S4x2048x256, .f32⟩
  | 115 => ⟨S4x2048x256, .f32⟩
  | 116 => ⟨S4x2048x256, .f32⟩
  | 117 => ⟨S1x1x256, .f32⟩
  | 118 => ⟨S4x2048x256, .f32⟩
  | 119 => ⟨S4x2048x256, .f32⟩
  | 120 => ⟨S_, .f32⟩
  | 121 => ⟨S4x2048, .f32⟩
  | 122 => ⟨S4x2048x1, .f32⟩
  | 123 => ⟨S_, .f32⟩
  | 124 => ⟨S4x2048x1, .f32⟩
  | 125 => ⟨S4x2048x1, .f32⟩
  | 126 => ⟨S4x2048x256, .f32⟩
  | 127 => ⟨S4x2048x256, .f32⟩
  | _ => ⟨S4x2048x256, .f32⟩

abbrev hbmTy0_2 (i : Nat) : BufTy := match i % 128 with
  | 0 => ⟨S4x2048x256, .f32⟩
  | 1 => ⟨S_, .f32⟩
  | 2 => ⟨S4x2048x256, .f32⟩
  | 3 => ⟨S4x2048x256, .f32⟩
  | 4 => ⟨S_, .f32⟩
  | 5 => ⟨S4x2048, .f32⟩
  | 6 => ⟨S4x2048x1, .f32⟩
  | 7 => ⟨S_, .f32⟩
  | 8 => ⟨S4x2048x1, .f32⟩
  | 9 => ⟨S4x2048x1, .f32⟩
  | 10 => ⟨S4x2048x256, .f32⟩
  | 11 => ⟨S4x2048x256, .f32⟩
  | 12 => ⟨S_, .f32⟩
  | 13 => ⟨S4x2048x1, .f32⟩
  | 14 => ⟨S4x2048x1, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x256, .f32⟩
  | 21 => ⟨S4x2048x256, .f32⟩
  | 22 => ⟨S1x1x256, .f32⟩
  | 23 => ⟨S4x2048x256, .f32⟩
  | 24 => ⟨S4x2048x256, .f32⟩
  | 25 => ⟨S1x1x256, .f32⟩
  | 26 => ⟨S4x2048x256, .f32⟩
  | 27 => ⟨S4x2048x256, .f32⟩
  | 28 => ⟨S4x2048x256, .f32⟩
  | 29 => ⟨S4x2048x256, .f32⟩
  | 30 => ⟨S_, .f32⟩
  | 31 => ⟨S4x2048x256, .f32⟩
  | 32 => ⟨S4x2048x256, .f32⟩
  | 33 => ⟨S_, .f32⟩
  | 34 => ⟨S4x2048x256, .f32⟩
  | 35 => ⟨S4x2048x256, .f32⟩
  | 36 => ⟨S_, .f32⟩
  | 37 => ⟨S4x2048x256, .f32⟩
  | 38 => ⟨S4x2048x256, .f32⟩
  | 39 => ⟨S4x2048x256, .f32⟩
  | 40 => ⟨S4x2048x256, .f32⟩
  | 41 => ⟨S4x2048x256, .f32⟩
  | 42 => ⟨S4x2048x256, .f32⟩
  | 43 => ⟨S4x2048x256, .f32⟩
  | 44 => ⟨S4x2048x256, .f32⟩
  | 45 => ⟨S_, .f32⟩
  | 46 => ⟨S256, .f32⟩
  | 47 => ⟨S1x1x256, .f32⟩
  | 48 => ⟨S_, .f32⟩
  | 49 => ⟨S256, .f32⟩
  | 50 => ⟨S4x2048x256, .f32⟩
  | 51 => ⟨S_, .f32⟩
  | 52 => ⟨S256, .f32⟩
  | 53 => ⟨S1x1x256, .f32⟩
  | 54 => ⟨S4x2048x256, .f32⟩
  | 55 => ⟨S4x2048x256, .f32⟩
  | 56 => ⟨S_, .f32⟩
  | 57 => ⟨S256, .f32⟩
  | 58 => ⟨S4x2048x256, .f32⟩
  | 59 => ⟨S_, .f32⟩
  | 60 => ⟨S4x2048, .f32⟩
  | 61 => ⟨S4x2048x1, .f32⟩
  | 62 => ⟨S4x2048x256, .f32⟩
  | 63 => ⟨S4x2048x256, .f32⟩
  | 64 => ⟨S4x2048x1, .f32⟩
  | 65 => ⟨S4x2048x256, .f32⟩
  | 66 => ⟨S_, .f32⟩
  | 67 => ⟨S4x2048, .f32⟩
  | 68 => ⟨S4x2048x1, .f32⟩
  | 69 => ⟨S_, .f32⟩
  | 70 => ⟨S4x2048x1, .f32⟩
  | 71 => ⟨S4x2048x1, .f32⟩
  | 72 => ⟨S_, .f32⟩
  | 73 => ⟨S4x2048, .f32⟩
  | 74 => ⟨S4x2048x256, .f32⟩
  | 75 => ⟨S4x2048x256, .f32⟩
  | 76 => ⟨S4x2048x256, .f32⟩
  | 77 => ⟨S_, .f32⟩
  | 78 => ⟨S4x2048, .f32⟩
  | 79 => ⟨S4x2048x1, .f32⟩
  | 80 => ⟨S4x2048x256, .f32⟩
  | 81 => ⟨S4x2048x1, .f32⟩
  | 82 => ⟨S_, .f32⟩
  | 83 => ⟨S4x2048x1, .f32⟩
  | 84 => ⟨S4x2048x1, .f32⟩
  | 85 => ⟨S_, .f32⟩
  | 86 => ⟨S4x2048, .f32⟩
  | 87 => ⟨S4x2048x256, .f32⟩
  | 88 => ⟨S4x2048x256, .f32⟩
  | 89 => ⟨S_, .f32⟩
  | 90 => ⟨S256, .f32⟩
  | 91 => ⟨S1x1x256, .f32⟩
  | 92 => ⟨S_, .f32⟩
  | 93 => ⟨S256, .f32⟩
  | 94 => ⟨S4x2048x256, .f32⟩
  | 95 => ⟨S4x2048x256, .f32⟩
  | 96 => ⟨S4x2048x256, .f32⟩
  | 97 => ⟨S_, .f32⟩
  | 98 => ⟨S256, .f32⟩
  | 99 => ⟨S1x1x256, .f32⟩
  | 100 => ⟨S_, .f32⟩
  | 101 => ⟨S256, .f32⟩
  | 102 => ⟨S_, .f32⟩
  | 103 => ⟨S4x2078x256, .f32⟩
  | 104 => ⟨S1x256, .f32⟩
  | 105 => ⟨S_, .f32⟩
  | 106 => ⟨S31x256, .f32⟩
  | 107 => ⟨S4x2048x256, .f32⟩
  | 108 => ⟨S4x2048x256, .f32⟩
  | 109 => ⟨S4x2048x256, .f32⟩
  | 110 => ⟨S_, .f32⟩
  | 111 => ⟨S256, .f32⟩
  | 112 => ⟨S1x1x256, .f32⟩
  | 113 => ⟨S_, .f32⟩
  | 114 => ⟨S256, .f32⟩
  | 115 => ⟨S_, .f32⟩
  | 116 => ⟨S4x2078x256, .f32⟩
  | 117 => ⟨S4x2078x256, .f32⟩
  | 118 => ⟨S1x256, .f32⟩
  | 119 => ⟨S_, .f32⟩
  | 120 => ⟨S31x256, .f32⟩
  | 121 => ⟨S31x256, .f32⟩
  | 122 => ⟨S4x2048x256, .f32⟩
  | 123 => ⟨S4x2048x256, .f32⟩
  | 124 => ⟨S4x2048x256, .f32⟩
  | 125 => ⟨S_, .f32⟩
  | 126 => ⟨S256, .f32⟩
  | 127 => ⟨S1x1x256, .f32⟩
  | _ => ⟨S4x2048x256, .f32⟩

abbrev hbmTy0_3 (i : Nat) : BufTy := match i % 128 with
  | 0 => ⟨S_, .f32⟩
  | 1 => ⟨S256, .f32⟩
  | 2 => ⟨S_, .f32⟩
  | 3 => ⟨S4x2078x256, .f32⟩
  | 4 => ⟨S4x2078x256, .f32⟩
  | 5 => ⟨S1x256, .f32⟩
  | 6 => ⟨S_, .f32⟩
  | 7 => ⟨S31x256, .f32⟩
  | 8 => ⟨S31x256, .f32⟩
  | 9 => ⟨S4x2048x256, .f32⟩
  | 10 => ⟨S4x2048x256, .f32⟩
  | 11 => ⟨S4x2048x256, .f32⟩
  | 12 => ⟨S_, .f32⟩
  | 13 => ⟨S256, .f32⟩
  | 14 => ⟨S1x1x256, .f32⟩
  | 15 => ⟨S_, .f32⟩
  | 16 => ⟨S256, .f32⟩
  | 17 => ⟨S_, .f32⟩
  | 18 => ⟨S4x2078x256, .f32⟩
  | 19 => ⟨S4x2078x256, .f32⟩
  | 20 => ⟨S1x256, .f32⟩
  | 21 => ⟨S_, .f32⟩
  | 22 => ⟨S31x256, .f32⟩
  | 23 => ⟨S31x256, .f32⟩
  | 24 => ⟨S4x2048x256, .f32⟩
  | 25 => ⟨S4x2048x256, .f32⟩
  | 26 => ⟨S4x2048x256, .f32⟩
  | 27 => ⟨S_, .f32⟩
  | 28 => ⟨S256, .f32⟩
  | 29 => ⟨S1x1x256, .f32⟩
  | 30 => ⟨S_, .f32⟩
  | 31 => ⟨S256, .f32⟩
  | 32 => ⟨S_, .f32⟩
  | 33 => ⟨S4x2078x256, .f32⟩
  | 34 => ⟨S4x2078x256, .f32⟩
  | 35 => ⟨S1x256, .f32⟩
  | 36 => ⟨S_, .f32⟩
  | 37 => ⟨S31x256, .f32⟩
  | 38 => ⟨S31x256, .f32⟩
  | 39 => ⟨S4x2048x256, .f32⟩
  | 40 => ⟨S4x2048x256, .f32⟩
  | 41 => ⟨S4x2048x256, .f32⟩
  | 42 => ⟨S_, .f32⟩
  | 43 => ⟨S256, .f32⟩
  | 44 => ⟨S1x1x256, .f32⟩
  | 45 => ⟨S_, .f32⟩
  | 46 => ⟨S256, .f32⟩
  | 47 => ⟨S_, .f32⟩
  | 48 => ⟨S4x2078x256, .f32⟩
  | 49 => ⟨S4x2078x256, .f32⟩
  | 50 => ⟨S1x256, .f32⟩
  | 51 => ⟨S_, .f32⟩
  | 52 => ⟨S31x256, .f32⟩
  | 53 => ⟨S31x256, .f32⟩
  | 54 => ⟨S4x2048x256, .f32⟩
  | 55 => ⟨S4x2048x256, .f32⟩
  | 56 => ⟨S4x2048x256, .f32⟩
  | 57 => ⟨S_, .f32⟩
  | 58 => ⟨S256, .f32⟩
  | 59 => ⟨S1x1x256, .f32⟩
  | 60 => ⟨S_, .f32⟩
  | 61 => ⟨S256, .f32⟩
  | 62 => ⟨S_, .f32⟩
  | 63 => ⟨S4x2078x256, .f32⟩
  | 64 => ⟨S4x2078x256, .f32⟩
  | 65 => ⟨S1x256, .f32⟩
  | 66 => ⟨S_, .f32⟩
  | 67 => ⟨S31x256, .f32⟩
  | 68 => ⟨S31x256, .f32⟩
  | 69 => ⟨S4x2048x256, .f32⟩
  | 70 => ⟨S4x2048x256, .f32⟩
  | 71 => ⟨S4x2048x256, .f32⟩
  | 72 => ⟨S_, .f32⟩
  | 73 => ⟨S256, .f32⟩
  | 74 => ⟨S1x1x256, .f32⟩
  | 75 => ⟨S_, .f32⟩
  | 76 => ⟨S256, .f32⟩
  | 77 => ⟨S_, .f32⟩
  | 78 => ⟨S4x2078x256, .f32⟩
  | 79 => ⟨S4x2078x256, .f32⟩
  | 80 => ⟨S1x256, .f32⟩
  | 81 => ⟨S_, .f32⟩
  | 82 => ⟨S31x256, .f32⟩
  | 83 => ⟨S31x256, .f32⟩
  | 84 => ⟨S4x2048x256, .f32⟩
  | 85 => ⟨S4x2048x256, .f32⟩
  | 86 => ⟨S4x2048x256, .f32⟩
  | 87 => ⟨S_, .f32⟩
  | 88 => ⟨S256, .f32⟩
  | 89 => ⟨S1x1x256, .f32⟩
  | 90 => ⟨S_, .f32⟩
  | 91 => ⟨S256, .f32⟩
  | 92 => ⟨S_, .f32⟩
  | 93 => ⟨S4x2078x256, .f32⟩
  | 94 => ⟨S4x2078x256, .f32⟩
  | 95 => ⟨S1x256, .f32⟩
  | 96 => ⟨S_, .f32⟩
  | 97 => ⟨S31x256, .f32⟩
  | 98 => ⟨S31x256, .f32⟩
  | 99 => ⟨S4x2048x256, .f32⟩
  | 100 => ⟨S4x2048x256, .f32⟩
  | 101 => ⟨S4x2048x256, .f32⟩
  | 102 => ⟨S_, .f32⟩
  | 103 => ⟨S256, .f32⟩
  | 104 => ⟨S1x1x256, .f32⟩
  | 105 => ⟨S_, .f32⟩
  | 106 => ⟨S256, .f32⟩
  | 107 => ⟨S_, .f32⟩
  | 108 => ⟨S4x2078x256, .f32⟩
  | 109 => ⟨S4x2078x256, .f32⟩
  | 110 => ⟨S1x256, .f32⟩
  | 111 => ⟨S_, .f32⟩
  | 112 => ⟨S31x256, .f32⟩
  | 113 => ⟨S31x256, .f32⟩
  | 114 => ⟨S4x2048x256, .f32⟩
  | 115 => ⟨S4x2048x256, .f32⟩
  | 116 => ⟨S4x2048x256, .f32⟩
  | 117 => ⟨S_, .f32⟩
  | 118 => ⟨S256, .f32⟩
  | 119 => ⟨S1x1x256, .f32⟩
  | 120 => ⟨S_, .f32⟩
  | 121 => ⟨S256, .f32⟩
  | 122 => ⟨S_, .f32⟩
  | 123 => ⟨S4x2078x256, .f32⟩
  | 124 => ⟨S4x2078x256, .f32⟩
  | 125 => ⟨S1x256, .f32⟩
  | 126 => ⟨S_, .f32⟩
  | 127 => ⟨S31x256, .f32⟩
  | _ => ⟨S4x2048x256, .f32⟩

abbrev hbmTy0_4 (i : Nat) : BufTy := match i % 128 with
  | 0 => ⟨S31x256, .f32⟩
  | 1 => ⟨S4x2048x256, .f32⟩
  | 2 => ⟨S4x2048x256, .f32⟩
  | 3 => ⟨S4x2048x256, .f32⟩
  | 4 => ⟨S_, .f32⟩
  | 5 => ⟨S256, .f32⟩
  | 6 => ⟨S1x1x256, .f32⟩
  | 7 => ⟨S_, .f32⟩
  | 8 => ⟨S256, .f32⟩
  | 9 => ⟨S_, .f32⟩
  | 10 => ⟨S4x2078x256, .f32⟩
  | 11 => ⟨S4x2078x256, .f32⟩
  | 12 => ⟨S1x256, .f32⟩
  | 13 => ⟨S_, .f32⟩
  | 14 => ⟨S31x256, .f32⟩
  | 15 => ⟨S31x256, .f32⟩
  | 16 => ⟨S4x2048x256, .f32⟩
  | 17 => ⟨S4x2048x256, .f32⟩
  | 18 => ⟨S4x2048x256, .f32⟩
  | 19 => ⟨S_, .f32⟩
  | 20 => ⟨S256, .f32⟩
  | 21 => ⟨S1x1x256, .f32⟩
  | 22 => ⟨S_, .f32⟩
  | 23 => ⟨S256, .f32⟩
  | 24 => ⟨S_, .f32⟩
  | 25 => ⟨S4x2078x256, .f32⟩
  | 26 => ⟨S4x2078x256, .f32⟩
  | 27 => ⟨S1x256, .f32⟩
  | 28 => ⟨S_, .f32⟩
  | 29 => ⟨S31x256, .f32⟩
  | 30 => ⟨S31x256, .f32⟩
  | 31 => ⟨S4x2048x256, .f32⟩
  | 32 => ⟨S4x2048x256, .f32⟩
  | 33 => ⟨S4x2048x256, .f32⟩
  | 34 => ⟨S_, .f32⟩
  | 35 => ⟨S256, .f32⟩
  | 36 => ⟨S1x1x256, .f32⟩
  | 37 => ⟨S_, .f32⟩
  | 38 => ⟨S256, .f32⟩
  | 39 => ⟨S_, .f32⟩
  | 40 => ⟨S4x2078x256, .f32⟩
  | 41 => ⟨S4x2078x256, .f32⟩
  | 42 => ⟨S1x256, .f32⟩
  | 43 => ⟨S_, .f32⟩
  | 44 => ⟨S31x256, .f32⟩
  | 45 => ⟨S31x256, .f32⟩
  | 46 => ⟨S4x2048x256, .f32⟩
  | 47 => ⟨S4x2048x256, .f32⟩
  | 48 => ⟨S4x2048x256, .f32⟩
  | 49 => ⟨S_, .f32⟩
  | 50 => ⟨S256, .f32⟩
  | 51 => ⟨S1x1x256, .f32⟩
  | 52 => ⟨S_, .f32⟩
  | 53 => ⟨S256, .f32⟩
  | 54 => ⟨S_, .f32⟩
  | 55 => ⟨S4x2078x256, .f32⟩
  | 56 => ⟨S4x2078x256, .f32⟩
  | 57 => ⟨S1x256, .f32⟩
  | 58 => ⟨S_, .f32⟩
  | 59 => ⟨S31x256, .f32⟩
  | 60 => ⟨S31x256, .f32⟩
  | 61 => ⟨S4x2048x256, .f32⟩
  | 62 => ⟨S4x2048x256, .f32⟩
  | 63 => ⟨S4x2048x256, .f32⟩
  | 64 => ⟨S_, .f32⟩
  | 65 => ⟨S256, .f32⟩
  | 66 => ⟨S1x1x256, .f32⟩
  | 67 => ⟨S_, .f32⟩
  | 68 => ⟨S256, .f32⟩
  | 69 => ⟨S_, .f32⟩
  | 70 => ⟨S4x2078x256, .f32⟩
  | 71 => ⟨S4x2078x256, .f32⟩
  | 72 => ⟨S1x256, .f32⟩
  | 73 => ⟨S_, .f32⟩
  | 74 => ⟨S31x256, .f32⟩
  | 75 => ⟨S31x256, .f32⟩
  | 76 => ⟨S4x2048x256, .f32⟩
  | 77 => ⟨S4x2048x256, .f32⟩
  | 78 => ⟨S4x2048x256, .f32⟩
  | 79 => ⟨S_, .f32⟩
  | 80 => ⟨S256, .f32⟩
  | 81 => ⟨S1x1x256, .f32⟩
  | 82 => ⟨S_, .f32⟩
  | 83 => ⟨S256, .f32⟩
  | 84 => ⟨S_, .f32⟩
  | 85 => ⟨S4x2078x256, .f32⟩
  | 86 => ⟨S4x2078x256, .f32⟩
  | 87 => ⟨S1x256, .f32⟩
  | 88 => ⟨S_, .f32⟩
  | 89 => ⟨S31x256, .f32⟩
  | 90 => ⟨S31x256, .f32⟩
  | 91 => ⟨S4x2048x256, .f32⟩
  | 92 => ⟨S4x2048x256, .f32⟩
  | 93 => ⟨S4x2048x256, .f32⟩
  | 94 => ⟨S_, .f32⟩
  | 95 => ⟨S256, .f32⟩
  | 96 => ⟨S1x1x256, .f32⟩
  | 97 => ⟨S_, .f32⟩
  | 98 => ⟨S256, .f32⟩
  | 99 => ⟨S_, .f32⟩
  | 100 => ⟨S4x2078x256, .f32⟩
  | 101 => ⟨S4x2078x256, .f32⟩
  | 102 => ⟨S1x256, .f32⟩
  | 103 => ⟨S_, .f32⟩
  | 104 => ⟨S31x256, .f32⟩
  | 105 => ⟨S31x256, .f32⟩
  | 106 => ⟨S4x2048x256, .f32⟩
  | 107 => ⟨S4x2048x256, .f32⟩
  | 108 => ⟨S4x2048x256, .f32⟩
  | 109 => ⟨S_, .f32⟩
  | 110 => ⟨S256, .f32⟩
  | 111 => ⟨S1x1x256, .f32⟩
  | 112 => ⟨S_, .f32⟩
  | 113 => ⟨S256, .f32⟩
  | 114 => ⟨S_, .f32⟩
  | 115 => ⟨S4x2078x256, .f32⟩
  | 116 => ⟨S4x2078x256, .f32⟩
  | 117 => ⟨S1x256, .f32⟩
  | 118 => ⟨S_, .f32⟩
  | 119 => ⟨S31x256, .f32⟩
  | 120 => ⟨S31x256, .f32⟩
  | 121 => ⟨S4x2048x256, .f32⟩
  | 122 => ⟨S4x2048x256, .f32⟩
  | 123 => ⟨S4x2048x256, .f32⟩
  | 124 => ⟨S_, .f32⟩
  | 125 => ⟨S256, .f32⟩
  | 126 => ⟨S1x1x256, .f32⟩
  | 127 => ⟨S_, .f32⟩
  | _ => ⟨S4x2048x256, .f32⟩

abbrev hbmTy0_5 (i : Nat) : BufTy := match i % 128 with
  | 0 => ⟨S256, .f32⟩
  | 1 => ⟨S_, .f32⟩
  | 2 => ⟨S4x2078x256, .f32⟩
  | 3 => ⟨S4x2078x256, .f32⟩
  | 4 => ⟨S1x256, .f32⟩
  | 5 => ⟨S_, .f32⟩
  | 6 => ⟨S31x256, .f32⟩
  | 7 => ⟨S31x256, .f32⟩
  | 8 => ⟨S4x2048x256, .f32⟩
  | 9 => ⟨S4x2048x256, .f32⟩
  | 10 => ⟨S4x2048x256, .f32⟩
  | 11 => ⟨S_, .f32⟩
  | 12 => ⟨S256, .f32⟩
  | 13 => ⟨S1x1x256, .f32⟩
  | 14 => ⟨S_, .f32⟩
  | 15 => ⟨S256, .f32⟩
  | 16 => ⟨S_, .f32⟩
  | 17 => ⟨S4x2078x256, .f32⟩
  | 18 => ⟨S4x2078x256, .f32⟩
  | 19 => ⟨S1x256, .f32⟩
  | 20 => ⟨S_, .f32⟩
  | 21 => ⟨S31x256, .f32⟩
  | 22 => ⟨S31x256, .f32⟩
  | 23 => ⟨S4x2048x256, .f32⟩
  | 24 => ⟨S4x2048x256, .f32⟩
  | 25 => ⟨S4x2048x256, .f32⟩
  | 26 => ⟨S_, .f32⟩
  | 27 => ⟨S256, .f32⟩
  | 28 => ⟨S1x1x256, .f32⟩
  | 29 => ⟨S_, .f32⟩
  | 30 => ⟨S256, .f32⟩
  | 31 => ⟨S_, .f32⟩
  | 32 => ⟨S4x2078x256, .f32⟩
  | 33 => ⟨S4x2078x256, .f32⟩
  | 34 => ⟨S1x256, .f32⟩
  | 35 => ⟨S_, .f32⟩
  | 36 => ⟨S31x256, .f32⟩
  | 37 => ⟨S31x256, .f32⟩
  | 38 => ⟨S4x2048x256, .f32⟩
  | 39 => ⟨S4x2048x256, .f32⟩
  | 40 => ⟨S4x2048x256, .f32⟩
  | 41 => ⟨S_, .f32⟩
  | 42 => ⟨S256, .f32⟩
  | 43 => ⟨S1x1x256, .f32⟩
  | 44 => ⟨S_, .f32⟩
  | 45 => ⟨S256, .f32⟩
  | 46 => ⟨S_, .f32⟩
  | 47 => ⟨S4x2078x256, .f32⟩
  | 48 => ⟨S4x2078x256, .f32⟩
  | 49 => ⟨S1x256, .f32⟩
  | 50 => ⟨S_, .f32⟩
  | 51 => ⟨S31x256, .f32⟩
  | 52 => ⟨S31x256, .f32⟩
  | 53 => ⟨S4x2048x256, .f32⟩
  | 54 => ⟨S4x2048x256, .f32⟩
  | 55 => ⟨S4x2048x256, .f32⟩
  | 56 => ⟨S_, .f32⟩
  | 57 => ⟨S256, .f32⟩
  | 58 => ⟨S1x1x256, .f32⟩
  | 59 => ⟨S_, .f32⟩
  | 60 => ⟨S256, .f32⟩
  | 61 => ⟨S_, .f32⟩
  | 62 => ⟨S4x2078x256, .f32⟩
  | 63 => ⟨S4x2078x256, .f32⟩
  | 64 => ⟨S1x256, .f32⟩
  | 65 => ⟨S_, .f32⟩
  | 66 => ⟨S31x256, .f32⟩
  | 67 => ⟨S31x256, .f32⟩
  | 68 => ⟨S4x2048x256, .f32⟩
  | 69 => ⟨S4x2048x256, .f32⟩
  | 70 => ⟨S4x2048x256, .f32⟩
  | 71 => ⟨S_, .f32⟩
  | 72 => ⟨S256, .f32⟩
  | 73 => ⟨S1x1x256, .f32⟩
  | 74 => ⟨S_, .f32⟩
  | 75 => ⟨S256, .f32⟩
  | 76 => ⟨S_, .f32⟩
  | 77 => ⟨S4x2078x256, .f32⟩
  | 78 => ⟨S4x2078x256, .f32⟩
  | 79 => ⟨S1x256, .f32⟩
  | 80 => ⟨S_, .f32⟩
  | 81 => ⟨S31x256, .f32⟩
  | 82 => ⟨S31x256, .f32⟩
  | 83 => ⟨S4x2048x256, .f32⟩
  | 84 => ⟨S4x2048x256, .f32⟩
  | 85 => ⟨S4x2048x256, .f32⟩
  | 86 => ⟨S_, .f32⟩
  | 87 => ⟨S256, .f32⟩
  | 88 => ⟨S1x1x256, .f32⟩
  | 89 => ⟨S_, .f32⟩
  | 90 => ⟨S256, .f32⟩
  | 91 => ⟨S_, .f32⟩
  | 92 => ⟨S4x2078x256, .f32⟩
  | 93 => ⟨S4x2078x256, .f32⟩
  | 94 => ⟨S1x256, .f32⟩
  | 95 => ⟨S_, .f32⟩
  | 96 => ⟨S31x256, .f32⟩
  | 97 => ⟨S31x256, .f32⟩
  | 98 => ⟨S4x2048x256, .f32⟩
  | 99 => ⟨S4x2048x256, .f32⟩
  | 100 => ⟨S4x2048x256, .f32⟩
  | 101 => ⟨S_, .f32⟩
  | 102 => ⟨S256, .f32⟩
  | 103 => ⟨S1x1x256, .f32⟩
  | 104 => ⟨S_, .f32⟩
  | 105 => ⟨S256, .f32⟩
  | 106 => ⟨S_, .f32⟩
  | 107 => ⟨S4x2078x256, .f32⟩
  | 108 => ⟨S4x2078x256, .f32⟩
  | 109 => ⟨S1x256, .f32⟩
  | 110 => ⟨S_, .f32⟩
  | 111 => ⟨S31x256, .f32⟩
  | 112 => ⟨S31x256, .f32⟩
  | 113 => ⟨S4x2048x256, .f32⟩
  | 114 => ⟨S4x2048x256, .f32⟩
  | 115 => ⟨S4x2048x256, .f32⟩
  | 116 => ⟨S_, .f32⟩
  | 117 => ⟨S256, .f32⟩
  | 118 => ⟨S1x1x256, .f32⟩
  | 119 => ⟨S_, .f32⟩
  | 120 => ⟨S256, .f32⟩
  | 121 => ⟨S_, .f32⟩
  | 122 => ⟨S4x2078x256, .f32⟩
  | 123 => ⟨S4x2078x256, .f32⟩
  | 124 => ⟨S1x256, .f32⟩
  | 125 => ⟨S_, .f32⟩
  | 126 => ⟨S31x256, .f32⟩
  | 127 => ⟨S31x256, .f32⟩
  | _ => ⟨S4x2048x256, .f32⟩

abbrev hbmTy0_6 (i : Nat) : BufTy := match i % 128 with
  | 0 => ⟨S4x2048x256, .f32⟩
  | 1 => ⟨S4x2048x256, .f32⟩
  | 2 => ⟨S4x2048x256, .f32⟩
  | 3 => ⟨S_, .f32⟩
  | 4 => ⟨S256, .f32⟩
  | 5 => ⟨S1x1x256, .f32⟩
  | 6 => ⟨S_, .f32⟩
  | 7 => ⟨S256, .f32⟩
  | 8 => ⟨S_, .f32⟩
  | 9 => ⟨S4x2078x256, .f32⟩
  | 10 => ⟨S4x2078x256, .f32⟩
  | 11 => ⟨S1x256, .f32⟩
  | 12 => ⟨S_, .f32⟩
  | 13 => ⟨S31x256, .f32⟩
  | 14 => ⟨S31x256, .f32⟩
  | 15 => ⟨S4x2048x256, .f32⟩
  | 16 => ⟨S4x2048x256, .f32⟩
  | 17 => ⟨S4x2048x256, .f32⟩
  | 18 => ⟨S_, .f32⟩
  | 19 => ⟨S256, .f32⟩
  | 20 => ⟨S1x1x256, .f32⟩
  | 21 => ⟨S_, .f32⟩
  | 22 => ⟨S256, .f32⟩
  | 23 => ⟨S_, .f32⟩
  | 24 => ⟨S4x2078x256, .f32⟩
  | 25 => ⟨S4x2078x256, .f32⟩
  | 26 => ⟨S1x256, .f32⟩
  | 27 => ⟨S_, .f32⟩
  | 28 => ⟨S31x256, .f32⟩
  | 29 => ⟨S31x256, .f32⟩
  | 30 => ⟨S4x2048x256, .f32⟩
  | 31 => ⟨S4x2048x256, .f32⟩
  | 32 => ⟨S4x2048x256, .f32⟩
  | 33 => ⟨S_, .f32⟩
  | 34 => ⟨S256, .f32⟩
  | 35 => ⟨S1x1x256, .f32⟩
  | 36 => ⟨S_, .f32⟩
  | 37 => ⟨S256, .f32⟩
  | 38 => ⟨S_, .f32⟩
  | 39 => ⟨S4x2078x256, .f32⟩
  | 40 => ⟨S4x2078x256, .f32⟩
  | 41 => ⟨S1x256, .f32⟩
  | 42 => ⟨S_, .f32⟩
  | 43 => ⟨S31x256, .f32⟩
  | 44 => ⟨S31x256, .f32⟩
  | 45 => ⟨S4x30x256, .f32⟩
  | 46 => ⟨S4x2048x256, .f32⟩
  | 47 => ⟨S4x2048x256, .f32⟩
  | 48 => ⟨S4x2048x256, .f32⟩
  | 49 => ⟨S4x2048x256, .f32⟩
  | 50 => ⟨S4x2048x512, .f32⟩
  | 51 => ⟨S4x2048x512, .bf16⟩
  | 52 => ⟨S1x256, .f32⟩
  | 53 => ⟨S1x256, .f32⟩
  | 54 => ⟨S1x256, .f32⟩
  | _ => ⟨S4x2048x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x2048x256, .f32⟩

abbrev bufTy : (tb : Table) → Fin (tcTables nBuf tb) → BufTy
  | .hbm, ⟨i, _⟩ => hbmTy i
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_cst_5 : Ref sig .tc := ⟨.hbm, 248, rfl⟩
abbrev main_v235 : Ref sig .tc := ⟨.hbm, 249, rfl⟩
abbrev main_v236 : Ref sig .tc := ⟨.hbm, 250, rfl⟩
abbrev main_cst_6 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_cst_7 : Ref sig .tc := ⟨.hbm, 257, rfl⟩
abbrev main_v242 : Ref sig .tc := ⟨.hbm, 258, rfl⟩
abbrev main_v243 : Ref sig .tc := ⟨.hbm, 259, rfl⟩
abbrev main_cst_8 : Ref sig .tc := ⟨.hbm, 260, rfl⟩
abbrev main_v244 : Ref sig .tc := ⟨.hbm, 261, rfl⟩
abbrev main_v245 : Ref sig .tc := ⟨.hbm, 262, rfl⟩
abbrev main_cst_9 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_cst_10 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_cst_11 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_call0_v0 : Ref sig .tc := ⟨.hbm, 284, rfl⟩
abbrev main_call0_v1 : Ref sig .tc := ⟨.hbm, 285, rfl⟩
abbrev main_call0_cst : Ref sig .tc := ⟨.hbm, 286, rfl⟩
abbrev main_call0_v2 : Ref sig .tc := ⟨.hbm, 287, rfl⟩
abbrev main_call0_v3 : Ref sig .tc := ⟨.hbm, 288, rfl⟩
abbrev main_call0_cst_0 : Ref sig .tc := ⟨.hbm, 289, rfl⟩
abbrev main_call0_v4 : Ref sig .tc := ⟨.hbm, 290, rfl⟩
abbrev main_v264_2 : Ref sig .tc := ⟨.hbm, 291, rfl⟩
abbrev main_call0_cst_1 : Ref sig .tc := ⟨.hbm, 292, rfl⟩
abbrev main_call0_v6 : Ref sig .tc := ⟨.hbm, 293, rfl⟩
abbrev main_call0_v7 : Ref sig .tc := ⟨.hbm, 294, rfl⟩
abbrev main_v264_1 : Ref sig .tc := ⟨.hbm, 295, rfl⟩
abbrev main_v264_0 : Ref sig .tc := ⟨.hbm, 296, rfl⟩
abbrev main_call1_v0 : Ref sig .tc := ⟨.hbm, 297, rfl⟩
abbrev main_call1_v1 : Ref sig .tc := ⟨.hbm, 298, rfl⟩
abbrev main_call1_v2 : Ref sig .tc := ⟨.hbm, 299, rfl⟩
abbrev main_v265 : Ref sig .tc := ⟨.hbm, 300, rfl⟩
abbrev main_cst_12 : Ref sig .tc := ⟨.hbm, 301, rfl⟩
abbrev main_v266 : Ref sig .tc := ⟨.hbm, 302, rfl⟩
abbrev main_v267 : Ref sig .tc := ⟨.hbm, 303, rfl⟩
abbrev main_cst_13 : Ref sig .tc := ⟨.hbm, 304, rfl⟩
abbrev main_v268 : Ref sig .tc := ⟨.hbm, 305, rfl⟩
abbrev main_v269 : Ref sig .tc := ⟨.hbm, 306, rfl⟩
abbrev main_cst_14 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_cst_15 : Ref sig .tc := ⟨.hbm, 312, rfl⟩
abbrev main_v274 : Ref sig .tc := ⟨.hbm, 313, rfl⟩
abbrev main_v275 : Ref sig .tc := ⟨.hbm, 314, rfl⟩
abbrev main_cst_16 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_cst_17 : Ref sig .tc := ⟨.hbm, 322, rfl⟩
abbrev main_v282 : Ref sig .tc := ⟨.hbm, 323, rfl⟩
abbrev main_v283 : Ref sig .tc := ⟨.hbm, 324, rfl⟩
abbrev main_cst_18 : Ref sig .tc := ⟨.hbm, 325, rfl⟩
abbrev main_v284 : Ref sig .tc := ⟨.hbm, 326, rfl⟩
abbrev main_v285 : Ref sig .tc := ⟨.hbm, 327, rfl⟩
abbrev main_cst_19 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_cst_20 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_cst_21 : Ref sig .tc := ⟨.hbm, 338, rfl⟩
abbrev main_v294 : Ref sig .tc := ⟨.hbm, 339, rfl⟩
abbrev main_v295 : Ref sig .tc := ⟨.hbm, 340, rfl⟩
abbrev main_cst_22 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_cst_23 : Ref sig .tc := ⟨.hbm, 345, rfl⟩
abbrev main_v299 : Ref sig .tc := ⟨.hbm, 346, rfl⟩
abbrev main_v300 : Ref sig .tc := ⟨.hbm, 347, rfl⟩
abbrev main_cst_24 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_cst_25 : Ref sig .tc := ⟨.hbm, 353, rfl⟩
abbrev main_v305 : Ref sig .tc := ⟨.hbm, 354, rfl⟩
abbrev main_v306 : Ref sig .tc := ⟨.hbm, 355, rfl⟩
abbrev main_cst_26 : Ref sig .tc := ⟨.hbm, 356, rfl⟩
abbrev main_v307 : Ref sig .tc := ⟨.hbm, 357, rfl⟩
abbrev main_cst_27 : Ref sig .tc := ⟨.hbm, 358, rfl⟩
abbrev main_v308 : Ref sig .tc := ⟨.hbm, 359, rfl⟩
abbrev main_v309 : Ref sig .tc := ⟨.hbm, 360, rfl⟩
abbrev main_cst_28 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_cst_29 : Ref sig .tc := ⟨.hbm, 366, rfl⟩
abbrev main_v314 : Ref sig .tc := ⟨.hbm, 367, rfl⟩
abbrev main_v315 : Ref sig .tc := ⟨.hbm, 368, rfl⟩
abbrev main_cst_30 : Ref sig .tc := ⟨.hbm, 369, rfl⟩
abbrev main_v316 : Ref sig .tc := ⟨.hbm, 370, rfl⟩
abbrev main_cst_31 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_cst_32 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_cst_33 : Ref sig .tc := ⟨.hbm, 381, rfl⟩
abbrev main_v325 : Ref sig .tc := ⟨.hbm, 382, rfl⟩
abbrev main_v326 : Ref sig .tc := ⟨.hbm, 383, rfl⟩
abbrev main_cst_34 : Ref sig .tc := ⟨.hbm, 384, rfl⟩
abbrev main_v327 : Ref sig .tc := ⟨.hbm, 385, rfl⟩
abbrev main_cst_35 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_cst_36 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_cst_37 : Ref sig .tc := ⟨.hbm, 396, rfl⟩
abbrev main_v336 : Ref sig .tc := ⟨.hbm, 397, rfl⟩
abbrev main_v337 : Ref sig .tc := ⟨.hbm, 398, rfl⟩
abbrev main_cst_38 : Ref sig .tc := ⟨.hbm, 399, rfl⟩
abbrev main_v338 : Ref sig .tc := ⟨.hbm, 400, rfl⟩
abbrev main_cst_39 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_cst_40 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_cst_41 : Ref sig .tc := ⟨.hbm, 411, rfl⟩
abbrev main_v347 : Ref sig .tc := ⟨.hbm, 412, rfl⟩
abbrev main_v348 : Ref sig .tc := ⟨.hbm, 413, rfl⟩
abbrev main_cst_42 : Ref sig .tc := ⟨.hbm, 414, rfl⟩
abbrev main_v349 : Ref sig .tc := ⟨.hbm, 415, rfl⟩
abbrev main_cst_43 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_cst_44 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_cst_45 : Ref sig .tc := ⟨.hbm, 426, rfl⟩
abbrev main_v358 : Ref sig .tc := ⟨.hbm, 427, rfl⟩
abbrev main_v359 : Ref sig .tc := ⟨.hbm, 428, rfl⟩
abbrev main_cst_46 : Ref sig .tc := ⟨.hbm, 429, rfl⟩
abbrev main_v360 : Ref sig .tc := ⟨.hbm, 430, rfl⟩
abbrev main_cst_47 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_cst_48 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_cst_49 : Ref sig .tc := ⟨.hbm, 441, rfl⟩
abbrev main_v369 : Ref sig .tc := ⟨.hbm, 442, rfl⟩
abbrev main_v370 : Ref sig .tc := ⟨.hbm, 443, rfl⟩
abbrev main_cst_50 : Ref sig .tc := ⟨.hbm, 444, rfl⟩
abbrev main_v371 : Ref sig .tc := ⟨.hbm, 445, rfl⟩
abbrev main_cst_51 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_cst_52 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_cst_53 : Ref sig .tc := ⟨.hbm, 456, rfl⟩
abbrev main_v380 : Ref sig .tc := ⟨.hbm, 457, rfl⟩
abbrev main_v381 : Ref sig .tc := ⟨.hbm, 458, rfl⟩
abbrev main_cst_54 : Ref sig .tc := ⟨.hbm, 459, rfl⟩
abbrev main_v382 : Ref sig .tc := ⟨.hbm, 460, rfl⟩
abbrev main_cst_55 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_cst_56 : Ref sig .tc := ⟨.hbm, 465, rfl⟩
abbrev main_v386 : Ref sig .tc := ⟨.hbm, 466, rfl⟩
abbrev main_v387 : Ref sig .tc := ⟨.hbm, 467, rfl⟩
abbrev main_v388 : Ref sig .tc := ⟨.hbm, 468, rfl⟩
abbrev main_v389 : Ref sig .tc := ⟨.hbm, 469, rfl⟩
abbrev main_v390 : Ref sig .tc := ⟨.hbm, 470, rfl⟩
abbrev main_cst_57 : Ref sig .tc := ⟨.hbm, 471, rfl⟩
abbrev main_v391 : Ref sig .tc := ⟨.hbm, 472, rfl⟩
abbrev main_v392 : Ref sig .tc := ⟨.hbm, 473, rfl⟩
abbrev main_cst_58 : Ref sig .tc := ⟨.hbm, 474, rfl⟩
abbrev main_v393 : Ref sig .tc := ⟨.hbm, 475, rfl⟩
abbrev main_cst_59 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_cst_60 : Ref sig .tc := ⟨.hbm, 480, rfl⟩
abbrev main_v397 : Ref sig .tc := ⟨.hbm, 481, rfl⟩
abbrev main_v398 : Ref sig .tc := ⟨.hbm, 482, rfl⟩
abbrev main_v399 : Ref sig .tc := ⟨.hbm, 483, rfl⟩
abbrev main_v400 : Ref sig .tc := ⟨.hbm, 484, rfl⟩
abbrev main_v401 : Ref sig .tc := ⟨.hbm, 485, rfl⟩
abbrev main_cst_61 : Ref sig .tc := ⟨.hbm, 486, rfl⟩
abbrev main_v402 : Ref sig .tc := ⟨.hbm, 487, rfl⟩
abbrev main_v403 : Ref sig .tc := ⟨.hbm, 488, rfl⟩
abbrev main_cst_62 : Ref sig .tc := ⟨.hbm, 489, rfl⟩
abbrev main_v404 : Ref sig .tc := ⟨.hbm, 490, rfl⟩
abbrev main_cst_63 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_cst_64 : Ref sig .tc := ⟨.hbm, 495, rfl⟩
abbrev main_v408 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_v412 : Ref sig .tc := ⟨.hbm, 500, rfl⟩
abbrev main_cst_65 : Ref sig .tc := ⟨.hbm, 501, rfl⟩
abbrev main_v413 : Ref sig .tc := ⟨.hbm, 502, rfl⟩
abbrev main_v414 : Ref sig .tc := ⟨.hbm, 503, rfl⟩
abbrev main_cst_66 : Ref sig .tc := ⟨.hbm, 504, rfl⟩
abbrev main_v415 : Ref sig .tc := ⟨.hbm, 505, rfl⟩
abbrev main_cst_67 : Ref sig .tc := ⟨.hbm, 506, rfl⟩
abbrev main_v416 : Ref sig .tc := ⟨.hbm, 507, rfl⟩
abbrev main_v417 : Ref sig .tc := ⟨.hbm, 508, rfl⟩
abbrev main_v418 : Ref sig .tc := ⟨.hbm, 509, rfl⟩
abbrev main_cst_68 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_v423 : Ref sig .tc := ⟨.hbm, 515, rfl⟩
abbrev main_cst_69 : Ref sig .tc := ⟨.hbm, 516, rfl⟩
abbrev main_v424 : Ref sig .tc := ⟨.hbm, 517, rfl⟩
abbrev main_v425 : Ref sig .tc := ⟨.hbm, 518, rfl⟩
abbrev main_cst_70 : Ref sig .tc := ⟨.hbm, 519, rfl⟩
abbrev main_v426 : Ref sig .tc := ⟨.hbm, 520, rfl⟩
abbrev main_cst_71 : Ref sig .tc := ⟨.hbm, 521, rfl⟩
abbrev main_v427 : Ref sig .tc := ⟨.hbm, 522, rfl⟩
abbrev main_v428 : Ref sig .tc := ⟨.hbm, 523, rfl⟩
abbrev main_v429 : Ref sig .tc := ⟨.hbm, 524, rfl⟩
abbrev main_cst_72 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_cst_73 : Ref sig .tc := ⟨.hbm, 531, rfl⟩
abbrev main_v435 : Ref sig .tc := ⟨.hbm, 532, rfl⟩
abbrev main_v436 : Ref sig .tc := ⟨.hbm, 533, rfl⟩
abbrev main_cst_74 : Ref sig .tc := ⟨.hbm, 534, rfl⟩
abbrev main_v437 : Ref sig .tc := ⟨.hbm, 535, rfl⟩
abbrev main_cst_75 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_cst_76 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_v444 : Ref sig .tc := ⟨.hbm, 544, rfl⟩
abbrev main_v445 : Ref sig .tc := ⟨.hbm, 545, rfl⟩
abbrev main_cst_77 : Ref sig .tc := ⟨.hbm, 546, rfl⟩
abbrev main_v446 : Ref sig .tc := ⟨.hbm, 547, rfl⟩
abbrev main_v447 : Ref sig .tc := ⟨.hbm, 548, rfl⟩
abbrev main_cst_78 : Ref sig .tc := ⟨.hbm, 549, rfl⟩
abbrev main_v448 : Ref sig .tc := ⟨.hbm, 550, rfl⟩
abbrev main_cst_79 : Ref sig .tc := ⟨.hbm, 551, rfl⟩
abbrev main_v449 : Ref sig .tc := ⟨.hbm, 552, rfl⟩
abbrev main_v450 : Ref sig .tc := ⟨.hbm, 553, rfl⟩
abbrev main_v451 : Ref sig .tc := ⟨.hbm, 554, rfl⟩
abbrev main_cst_80 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_cst_81 : Ref sig .tc := ⟨.hbm, 561, rfl⟩
abbrev main_v457 : Ref sig .tc := ⟨.hbm, 562, rfl⟩
abbrev main_v458 : Ref sig .tc := ⟨.hbm, 563, rfl⟩
abbrev main_cst_82 : Ref sig .tc := ⟨.hbm, 564, rfl⟩
abbrev main_v459 : Ref sig .tc := ⟨.hbm, 565, rfl⟩
abbrev main_cst_83 : Ref sig .tc := ⟨.hbm, 566, rfl⟩
abbrev main_v460 : Ref sig .tc := ⟨.hbm, 567, rfl⟩
abbrev main_v461 : Ref sig .tc := ⟨.hbm, 568, rfl⟩
abbrev main_v462 : Ref sig .tc := ⟨.hbm, 569, rfl⟩
abbrev main_cst_84 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_v467 : Ref sig .tc := ⟨.hbm, 575, rfl⟩
abbrev main_cst_85 : Ref sig .tc := ⟨.hbm, 576, rfl⟩
abbrev main_v468 : Ref sig .tc := ⟨.hbm, 577, rfl⟩
abbrev main_v469 : Ref sig .tc := ⟨.hbm, 578, rfl⟩
abbrev main_cst_86 : Ref sig .tc := ⟨.hbm, 579, rfl⟩
abbrev main_v470 : Ref sig .tc := ⟨.hbm, 580, rfl⟩
abbrev main_cst_87 : Ref sig .tc := ⟨.hbm, 581, rfl⟩
abbrev main_v471 : Ref sig .tc := ⟨.hbm, 582, rfl⟩
abbrev main_v472 : Ref sig .tc := ⟨.hbm, 583, rfl⟩
abbrev main_v473 : Ref sig .tc := ⟨.hbm, 584, rfl⟩
abbrev main_cst_88 : Ref sig .tc := ⟨.hbm, 585, rfl⟩
abbrev main_v474 : Ref sig .tc := ⟨.hbm, 586, rfl⟩
abbrev main_v475 : Ref sig .tc := ⟨.hbm, 587, rfl⟩
abbrev main_v476 : Ref sig .tc := ⟨.hbm, 588, rfl⟩
abbrev main_v477 : Ref sig .tc := ⟨.hbm, 589, rfl⟩
abbrev main_v478 : Ref sig .tc := ⟨.hbm, 590, rfl⟩
abbrev main_cst_89 : Ref sig .tc := ⟨.hbm, 591, rfl⟩
abbrev main_v479 : Ref sig .tc := ⟨.hbm, 592, rfl⟩
abbrev main_v480 : Ref sig .tc := ⟨.hbm, 593, rfl⟩
abbrev main_cst_90 : Ref sig .tc := ⟨.hbm, 594, rfl⟩
abbrev main_v481 : Ref sig .tc := ⟨.hbm, 595, rfl⟩
abbrev main_cst_91 : Ref sig .tc := ⟨.hbm, 596, rfl⟩
abbrev main_v482 : Ref sig .tc := ⟨.hbm, 597, rfl⟩
abbrev main_v483 : Ref sig .tc := ⟨.hbm, 598, rfl⟩
abbrev main_v484 : Ref sig .tc := ⟨.hbm, 599, rfl⟩
abbrev main_cst_92 : Ref sig .tc := ⟨.hbm, 600, rfl⟩
abbrev main_v485 : Ref sig .tc := ⟨.hbm, 601, rfl⟩
abbrev main_v486 : Ref sig .tc := ⟨.hbm, 602, rfl⟩
abbrev main_v487 : Ref sig .tc := ⟨.hbm, 603, rfl⟩
abbrev main_v488 : Ref sig .tc := ⟨.hbm, 604, rfl⟩
abbrev main_v489 : Ref sig .tc := ⟨.hbm, 605, rfl⟩
abbrev main_cst_93 : Ref sig .tc := ⟨.hbm, 606, rfl⟩
abbrev main_v490 : Ref sig .tc := ⟨.hbm, 607, rfl⟩
abbrev main_v491 : Ref sig .tc := ⟨.hbm, 608, rfl⟩
abbrev main_cst_94 : Ref sig .tc := ⟨.hbm, 609, rfl⟩
abbrev main_v492 : Ref sig .tc := ⟨.hbm, 610, rfl⟩
abbrev main_cst_95 : Ref sig .tc := ⟨.hbm, 611, rfl⟩
abbrev main_v493 : Ref sig .tc := ⟨.hbm, 612, rfl⟩
abbrev main_v494 : Ref sig .tc := ⟨.hbm, 613, rfl⟩
abbrev main_v495 : Ref sig .tc := ⟨.hbm, 614, rfl⟩
abbrev main_cst_96 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_v500 : Ref sig .tc := ⟨.hbm, 620, rfl⟩
abbrev main_cst_97 : Ref sig .tc := ⟨.hbm, 621, rfl⟩
abbrev main_v501 : Ref sig .tc := ⟨.hbm, 622, rfl⟩
abbrev main_v502 : Ref sig .tc := ⟨.hbm, 623, rfl⟩
abbrev main_cst_98 : Ref sig .tc := ⟨.hbm, 624, rfl⟩
abbrev main_v503 : Ref sig .tc := ⟨.hbm, 625, rfl⟩
abbrev main_cst_99 : Ref sig .tc := ⟨.hbm, 626, rfl⟩
abbrev main_v504 : Ref sig .tc := ⟨.hbm, 627, rfl⟩
abbrev main_v505 : Ref sig .tc := ⟨.hbm, 628, rfl⟩
abbrev main_v506 : Ref sig .tc := ⟨.hbm, 629, rfl⟩
abbrev main_cst_100 : Ref sig .tc := ⟨.hbm, 630, rfl⟩
abbrev main_v507 : Ref sig .tc := ⟨.hbm, 631, rfl⟩
abbrev main_v508 : Ref sig .tc := ⟨.hbm, 632, rfl⟩
abbrev main_v509 : Ref sig .tc := ⟨.hbm, 633, rfl⟩
abbrev main_v510 : Ref sig .tc := ⟨.hbm, 634, rfl⟩
abbrev main_v511 : Ref sig .tc := ⟨.hbm, 635, rfl⟩
abbrev main_cst_101 : Ref sig .tc := ⟨.hbm, 636, rfl⟩
abbrev main_v512 : Ref sig .tc := ⟨.hbm, 637, rfl⟩
abbrev main_v513 : Ref sig .tc := ⟨.hbm, 638, rfl⟩
abbrev main_cst_102 : Ref sig .tc := ⟨.hbm, 639, rfl⟩
abbrev main_v514 : Ref sig .tc := ⟨.hbm, 640, rfl⟩
abbrev main_cst_103 : Ref sig .tc := ⟨.hbm, 641, rfl⟩
abbrev main_v515 : Ref sig .tc := ⟨.hbm, 642, rfl⟩
abbrev main_v516 : Ref sig .tc := ⟨.hbm, 643, rfl⟩
abbrev main_v517 : Ref sig .tc := ⟨.hbm, 644, rfl⟩
abbrev main_cst_104 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_v522 : Ref sig .tc := ⟨.hbm, 650, rfl⟩
abbrev main_cst_105 : Ref sig .tc := ⟨.hbm, 651, rfl⟩
abbrev main_v523 : Ref sig .tc := ⟨.hbm, 652, rfl⟩
abbrev main_v524 : Ref sig .tc := ⟨.hbm, 653, rfl⟩
abbrev main_cst_106 : Ref sig .tc := ⟨.hbm, 654, rfl⟩
abbrev main_v525 : Ref sig .tc := ⟨.hbm, 655, rfl⟩
abbrev main_cst_107 : Ref sig .tc := ⟨.hbm, 656, rfl⟩
abbrev main_v526 : Ref sig .tc := ⟨.hbm, 657, rfl⟩
abbrev main_v527 : Ref sig .tc := ⟨.hbm, 658, rfl⟩
abbrev main_v528 : Ref sig .tc := ⟨.hbm, 659, rfl⟩
abbrev main_cst_108 : Ref sig .tc := ⟨.hbm, 660, rfl⟩
abbrev main_v529 : Ref sig .tc := ⟨.hbm, 661, rfl⟩
abbrev main_v530 : Ref sig .tc := ⟨.hbm, 662, rfl⟩
abbrev main_v531 : Ref sig .tc := ⟨.hbm, 663, rfl⟩
abbrev main_v532 : Ref sig .tc := ⟨.hbm, 664, rfl⟩
abbrev main_v533 : Ref sig .tc := ⟨.hbm, 665, rfl⟩
abbrev main_cst_109 : Ref sig .tc := ⟨.hbm, 666, rfl⟩
abbrev main_v534 : Ref sig .tc := ⟨.hbm, 667, rfl⟩
abbrev main_v535 : Ref sig .tc := ⟨.hbm, 668, rfl⟩
abbrev main_cst_110 : Ref sig .tc := ⟨.hbm, 669, rfl⟩
abbrev main_v536 : Ref sig .tc := ⟨.hbm, 670, rfl⟩
abbrev main_cst_111 : Ref sig .tc := ⟨.hbm, 671, rfl⟩
abbrev main_v537 : Ref sig .tc := ⟨.hbm, 672, rfl⟩
abbrev main_v538 : Ref sig .tc := ⟨.hbm, 673, rfl⟩
abbrev main_v539 : Ref sig .tc := ⟨.hbm, 674, rfl⟩
abbrev main_cst_112 : Ref sig .tc := ⟨.hbm, 675, rfl⟩
abbrev main_v540 : Ref sig .tc := ⟨.hbm, 676, rfl⟩
abbrev main_v541 : Ref sig .tc := ⟨.hbm, 677, rfl⟩
abbrev main_v542 : Ref sig .tc := ⟨.hbm, 678, rfl⟩
abbrev main_v543 : Ref sig .tc := ⟨.hbm, 679, rfl⟩
abbrev main_v544 : Ref sig .tc := ⟨.hbm, 680, rfl⟩
abbrev main_cst_113 : Ref sig .tc := ⟨.hbm, 681, rfl⟩
abbrev main_v545 : Ref sig .tc := ⟨.hbm, 682, rfl⟩
abbrev main_v546 : Ref sig .tc := ⟨.hbm, 683, rfl⟩
abbrev main_cst_114 : Ref sig .tc := ⟨.hbm, 684, rfl⟩
abbrev main_v547 : Ref sig .tc := ⟨.hbm, 685, rfl⟩
abbrev main_cst_115 : Ref sig .tc := ⟨.hbm, 686, rfl⟩
abbrev main_v548 : Ref sig .tc := ⟨.hbm, 687, rfl⟩
abbrev main_v549 : Ref sig .tc := ⟨.hbm, 688, rfl⟩
abbrev main_v550 : Ref sig .tc := ⟨.hbm, 689, rfl⟩
abbrev main_cst_116 : Ref sig .tc := ⟨.hbm, 690, rfl⟩
abbrev main_v551 : Ref sig .tc := ⟨.hbm, 691, rfl⟩
abbrev main_v552 : Ref sig .tc := ⟨.hbm, 692, rfl⟩
abbrev main_v553 : Ref sig .tc := ⟨.hbm, 693, rfl⟩
abbrev main_v554 : Ref sig .tc := ⟨.hbm, 694, rfl⟩
abbrev main_v555 : Ref sig .tc := ⟨.hbm, 695, rfl⟩
abbrev main_cst_117 : Ref sig .tc := ⟨.hbm, 696, rfl⟩
abbrev main_v556 : Ref sig .tc := ⟨.hbm, 697, rfl⟩
abbrev main_v557 : Ref sig .tc := ⟨.hbm, 698, rfl⟩
abbrev main_cst_118 : Ref sig .tc := ⟨.hbm, 699, rfl⟩
abbrev main_v558 : Ref sig .tc := ⟨.hbm, 700, rfl⟩
abbrev main_cst_119 : Ref sig .tc := ⟨.hbm, 701, rfl⟩
abbrev main_v559 : Ref sig .tc := ⟨.hbm, 702, rfl⟩
abbrev main_v560 : Ref sig .tc := ⟨.hbm, 703, rfl⟩
abbrev main_v561 : Ref sig .tc := ⟨.hbm, 704, rfl⟩
abbrev main_cst_120 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_v565 : Ref sig .tc := ⟨.hbm, 709, rfl⟩
abbrev main_v566 : Ref sig .tc := ⟨.hbm, 710, rfl⟩
abbrev main_cst_121 : Ref sig .tc := ⟨.hbm, 711, rfl⟩
abbrev main_v567 : Ref sig .tc := ⟨.hbm, 712, rfl⟩
abbrev main_v568 : Ref sig .tc := ⟨.hbm, 713, rfl⟩
abbrev main_cst_122 : Ref sig .tc := ⟨.hbm, 714, rfl⟩
abbrev main_v569 : Ref sig .tc := ⟨.hbm, 715, rfl⟩
abbrev main_cst_123 : Ref sig .tc := ⟨.hbm, 716, rfl⟩
abbrev main_v570 : Ref sig .tc := ⟨.hbm, 717, rfl⟩
abbrev main_v571 : Ref sig .tc := ⟨.hbm, 718, rfl⟩
abbrev main_v572 : Ref sig .tc := ⟨.hbm, 719, rfl⟩
abbrev main_cst_124 : Ref sig .tc := ⟨.hbm, 720, rfl⟩
abbrev main_v573 : Ref sig .tc := ⟨.hbm, 721, rfl⟩
abbrev main_v574 : Ref sig .tc := ⟨.hbm, 722, rfl⟩
abbrev main_v575 : Ref sig .tc := ⟨.hbm, 723, rfl⟩
abbrev main_v576 : Ref sig .tc := ⟨.hbm, 724, rfl⟩
abbrev main_v577 : Ref sig .tc := ⟨.hbm, 725, rfl⟩
abbrev main_cst_125 : Ref sig .tc := ⟨.hbm, 726, rfl⟩
abbrev main_v578 : Ref sig .tc := ⟨.hbm, 727, rfl⟩
abbrev main_v579 : Ref sig .tc := ⟨.hbm, 728, rfl⟩
abbrev main_cst_126 : Ref sig .tc := ⟨.hbm, 729, rfl⟩
abbrev main_v580 : Ref sig .tc := ⟨.hbm, 730, rfl⟩
abbrev main_cst_127 : Ref sig .tc := ⟨.hbm, 731, rfl⟩
abbrev main_v581 : Ref sig .tc := ⟨.hbm, 732, rfl⟩
abbrev main_v582 : Ref sig .tc := ⟨.hbm, 733, rfl⟩
abbrev main_v583 : Ref sig .tc := ⟨.hbm, 734, rfl⟩
abbrev main_cst_128 : Ref sig .tc := ⟨.hbm, 735, rfl⟩
abbrev main_v584 : Ref sig .tc := ⟨.hbm, 736, rfl⟩
abbrev main_v585 : Ref sig .tc := ⟨.hbm, 737, rfl⟩
abbrev main_v586 : Ref sig .tc := ⟨.hbm, 738, rfl⟩
abbrev main_v587 : Ref sig .tc := ⟨.hbm, 739, rfl⟩
abbrev main_v588 : Ref sig .tc := ⟨.hbm, 740, rfl⟩
abbrev main_cst_129 : Ref sig .tc := ⟨.hbm, 741, rfl⟩
abbrev main_v589 : Ref sig .tc := ⟨.hbm, 742, rfl⟩
abbrev main_v590 : Ref sig .tc := ⟨.hbm, 743, rfl⟩
abbrev main_cst_130 : Ref sig .tc := ⟨.hbm, 744, rfl⟩
abbrev main_v591 : Ref sig .tc := ⟨.hbm, 745, rfl⟩
abbrev main_cst_131 : Ref sig .tc := ⟨.hbm, 746, rfl⟩
abbrev main_v592 : Ref sig .tc := ⟨.hbm, 747, rfl⟩
abbrev main_v593 : Ref sig .tc := ⟨.hbm, 748, rfl⟩
abbrev main_v594 : Ref sig .tc := ⟨.hbm, 749, rfl⟩
abbrev main_cst_132 : Ref sig .tc := ⟨.hbm, 750, rfl⟩
abbrev main_v595 : Ref sig .tc := ⟨.hbm, 751, rfl⟩
abbrev main_v596 : Ref sig .tc := ⟨.hbm, 752, rfl⟩
abbrev main_v597 : Ref sig .tc := ⟨.hbm, 753, rfl⟩
abbrev main_v598 : Ref sig .tc := ⟨.hbm, 754, rfl⟩
abbrev main_v599 : Ref sig .tc := ⟨.hbm, 755, rfl⟩
abbrev main_cst_133 : Ref sig .tc := ⟨.hbm, 756, rfl⟩
abbrev main_v600 : Ref sig .tc := ⟨.hbm, 757, rfl⟩
abbrev main_v601 : Ref sig .tc := ⟨.hbm, 758, rfl⟩
abbrev main_cst_134 : Ref sig .tc := ⟨.hbm, 759, rfl⟩
abbrev main_v602 : Ref sig .tc := ⟨.hbm, 760, rfl⟩
abbrev main_cst_135 : Ref sig .tc := ⟨.hbm, 761, rfl⟩
abbrev main_v603 : Ref sig .tc := ⟨.hbm, 762, rfl⟩
abbrev main_v604 : Ref sig .tc := ⟨.hbm, 763, rfl⟩
abbrev main_v605 : Ref sig .tc := ⟨.hbm, 764, rfl⟩
abbrev main_cst_136 : Ref sig .tc := ⟨.hbm, 765, rfl⟩
abbrev main_v606 : Ref sig .tc := ⟨.hbm, 766, rfl⟩
abbrev main_v607 : Ref sig .tc := ⟨.hbm, 767, rfl⟩
abbrev main_v608 : Ref sig .tc := ⟨.hbm, 768, rfl⟩
abbrev main_v609 : Ref sig .tc := ⟨.hbm, 769, rfl⟩
abbrev main_v610 : Ref sig .tc := ⟨.hbm, 770, rfl⟩
abbrev main_cst_137 : Ref sig .tc := ⟨.hbm, 771, rfl⟩
abbrev main_v611 : Ref sig .tc := ⟨.hbm, 772, rfl⟩
abbrev main_v612 : Ref sig .tc := ⟨.hbm, 773, rfl⟩
abbrev main_cst_138 : Ref sig .tc := ⟨.hbm, 774, rfl⟩
abbrev main_v613 : Ref sig .tc := ⟨.hbm, 775, rfl⟩
abbrev main_cst_139 : Ref sig .tc := ⟨.hbm, 776, rfl⟩
abbrev main_v614 : Ref sig .tc := ⟨.hbm, 777, rfl⟩
abbrev main_v615 : Ref sig .tc := ⟨.hbm, 778, rfl⟩
abbrev main_v616 : Ref sig .tc := ⟨.hbm, 779, rfl⟩
abbrev main_cst_140 : Ref sig .tc := ⟨.hbm, 780, rfl⟩
abbrev main_v617 : Ref sig .tc := ⟨.hbm, 781, rfl⟩
abbrev main_v618 : Ref sig .tc := ⟨.hbm, 782, rfl⟩
abbrev main_v619 : Ref sig .tc := ⟨.hbm, 783, rfl⟩
abbrev main_v620 : Ref sig .tc := ⟨.hbm, 784, rfl⟩
abbrev main_v621 : Ref sig .tc := ⟨.hbm, 785, rfl⟩
abbrev main_cst_141 : Ref sig .tc := ⟨.hbm, 786, rfl⟩
abbrev main_v622 : Ref sig .tc := ⟨.hbm, 787, rfl⟩
abbrev main_v623 : Ref sig .tc := ⟨.hbm, 788, rfl⟩
abbrev main_cst_142 : Ref sig .tc := ⟨.hbm, 789, rfl⟩
abbrev main_v624 : Ref sig .tc := ⟨.hbm, 790, rfl⟩
abbrev main_cst_143 : Ref sig .tc := ⟨.hbm, 791, rfl⟩
abbrev main_v625 : Ref sig .tc := ⟨.hbm, 792, rfl⟩
abbrev main_v626 : Ref sig .tc := ⟨.hbm, 793, rfl⟩
abbrev main_v627 : Ref sig .tc := ⟨.hbm, 794, rfl⟩
abbrev main_cst_144 : Ref sig .tc := ⟨.hbm, 795, rfl⟩
abbrev main_v628 : Ref sig .tc := ⟨.hbm, 796, rfl⟩
abbrev main_v629 : Ref sig .tc := ⟨.hbm, 797, rfl⟩
abbrev main_v630 : Ref sig .tc := ⟨.hbm, 798, rfl⟩
abbrev main_v631 : Ref sig .tc := ⟨.hbm, 799, rfl⟩
abbrev main_v632 : Ref sig .tc := ⟨.hbm, 800, rfl⟩
abbrev main_cst_145 : Ref sig .tc := ⟨.hbm, 801, rfl⟩
abbrev main_v633 : Ref sig .tc := ⟨.hbm, 802, rfl⟩
abbrev main_v634 : Ref sig .tc := ⟨.hbm, 803, rfl⟩
abbrev main_cst_146 : Ref sig .tc := ⟨.hbm, 804, rfl⟩
abbrev main_v635 : Ref sig .tc := ⟨.hbm, 805, rfl⟩
abbrev main_cst_147 : Ref sig .tc := ⟨.hbm, 806, rfl⟩
abbrev main_v636 : Ref sig .tc := ⟨.hbm, 807, rfl⟩
abbrev main_v637 : Ref sig .tc := ⟨.hbm, 808, rfl⟩
abbrev main_v638 : Ref sig .tc := ⟨.hbm, 809, rfl⟩
abbrev main_cst_148 : Ref sig .tc := ⟨.hbm, 810, rfl⟩
abbrev main_v639 : Ref sig .tc := ⟨.hbm, 811, rfl⟩
abbrev main_v640 : Ref sig .tc := ⟨.hbm, 812, rfl⟩
abbrev main_v641 : Ref sig .tc := ⟨.hbm, 813, rfl⟩
abbrev main_v642 : Ref sig .tc := ⟨.hbm, 814, rfl⟩
abbrev main_v643 : Ref sig .tc := ⟨.hbm, 815, rfl⟩
abbrev main_v644 : Ref sig .tc := ⟨.hbm, 816, rfl⟩
abbrev main_v645 : Ref sig .tc := ⟨.hbm, 817, rfl⟩
abbrev main_v646 : Ref sig .tc := ⟨.hbm, 818, rfl⟩
abbrev main_v647 : Ref sig .tc := ⟨.hbm, 819, rfl⟩
abbrev main_v648 : Ref sig .tc := ⟨.hbm, 820, rfl⟩
abbrev main_v649 : Ref sig .tc := ⟨.hbm, 821, rfl⟩
abbrev main_v650 : Ref sig .tc := ⟨.hbm, 822, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S8192x1024, .bf16⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x2432 : Shape := ⟨2, ![1024, 2432]⟩
abbrev S1x1024 : Shape := ⟨2, ![1, 1024]⟩
abbrev S8192x1152 : Shape := ⟨2, ![8192, 1152]⟩
abbrev S8192x512 : Shape := ⟨2, ![8192, 512]⟩
abbrev S8192x768 : Shape := ⟨2, ![8192, 768]⟩
abbrev S512x1024 : Shape := ⟨2, ![512, 1024]⟩
abbrev S512x1152 : Shape := ⟨2, ![512, 1152]⟩
abbrev S512x512 : Shape := ⟨2, ![512, 512]⟩
abbrev S512x768 : Shape := ⟨2, ![512, 768]⟩
abbrev S512 : Shape := ⟨1, ![512]⟩
abbrev S512x1 : Shape := ⟨2, ![512, 1]⟩
abbrev S1024x1152 : Shape := ⟨2, ![1024, 1152]⟩
abbrev S1024x512 : Shape := ⟨2, ![1024, 512]⟩
abbrev S1024x768 : Shape := ⟨2, ![1024, 768]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2432, .f32⟩
  | .hbm, ⟨3, _⟩ => ⟨S1x1024, .f32⟩
  | .hbm, ⟨4, _⟩ => ⟨S1024x2432, .bf16⟩
  | .hbm, ⟨5, _⟩ => ⟨S8192x1024, .bf16⟩
  | .hbm, ⟨6, _⟩ => ⟨S8192x1152, .f32⟩
  | .hbm, ⟨7, _⟩ => ⟨S8192x512, .f32⟩
  | .hbm, ⟨8, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x1024, .bf16⟩
  | .local _ .vmem, ⟨5, _⟩ => ⟨S512x1024, .bf16⟩
  | .local _ .vmem, ⟨6, _⟩ => ⟨S512x1152, .f32⟩
  | .local _ .vmem, ⟨7, _⟩ => ⟨S512x1152, .f32⟩
  | .local _ .vmem, ⟨8, _⟩ => ⟨S512x512, .f32⟩
  | .local _ .vmem, ⟨9, _⟩ => ⟨S512x512, .f32⟩
  | .local _ .vmem, ⟨10, _⟩ => ⟨S512x768, .f32⟩
  | .local _ .vmem, ⟨11, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x1024 : Shape := ⟨2, ![8192, 1024]⟩
abbrev S1024 : Shape := ⟨1, ![1024]⟩
abbrev S1024x2432 : Shape := ⟨2, ![1024, 2432]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2432 : Shape := ⟨2, ![8192, 2432]⟩
abbrev S8192x1152 : Shape := ⟨2, ![8192, 1152]⟩
abbrev S8192x512 : Shape := ⟨2, ![8192, 512]⟩
abbrev S8192x768 : Shape := ⟨2, ![8192, 768]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2432, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2432, .f32⟩
  | .hbm, ⟨20, _⟩ => ⟨S8192x1024, .bf16⟩
  | .hbm, ⟨21, _⟩ => ⟨S8192x1152, .f32⟩
  | .hbm, ⟨22, _⟩ => ⟨S8192x512, .f32⟩
  | .hbm, ⟨23, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel11.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S8192x3x2x64 : Shape := ⟨4, ![8192, 3, 2, 64]⟩
abbrev S8192x3x2 : Shape := ⟨3, ![8192, 3, 2]⟩
abbrev S8192x256 : Shape := ⟨2, ![8192, 256]⟩
abbrev S8192x384 : Shape := ⟨2, ![8192, 384]⟩
abbrev S1024x1024 : Shape := ⟨2, ![1024, 1024]⟩
abbrev S8192x3x2x1 : Shape := ⟨4, ![8192, 3, 2, 1]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x3x2x64, .f32⟩
  | .hbm, ⟨2, _⟩ => ⟨S8192x3x2, .f32⟩
  | .hbm, ⟨3, _⟩ => ⟨S8192x256, .f32⟩
  | .hbm, ⟨4, _⟩ => ⟨S8192x384, .f32⟩
  | .hbm, ⟨5, _⟩ => ⟨S1024x1024, .f32⟩
  | .hbm, ⟨6, _⟩ => ⟨S8192x3x2x1, .f32⟩
  | .hbm, ⟨7, _⟩ => ⟨S8192x3x2x64, .f32⟩
  | .hbm, ⟨8, _⟩ => ⟨S8192x384, .f32⟩
  | .hbm, ⟨9, _⟩ => ⟨S8192x384, .f32⟩
  | .hbm, ⟨10, _⟩ => ⟨S8192x256, .bf16⟩
  | .hbm, ⟨11, _⟩ => ⟨S8192x384, .bf16⟩
  | .hbm, ⟨12, _⟩ => ⟨S1024x1024, .bf16⟩
  | .hbm, ⟨13, _⟩ => ⟨S8192x1024, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x256, .bf16⟩
  | .local _ .vmem, ⟨7, _⟩ => ⟨S512x256, .bf16⟩
  | .local _ .vmem, ⟨8, _⟩ => ⟨S512x384, .bf16⟩
  | .local _ .vmem, ⟨9, _⟩ => ⟨S512x384, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S8192x3x2x64 : Shape := ⟨4, ![8192, 3, 2, 64]⟩
abbrev S8192x3x2 : Shape := ⟨3, ![8192, 3, 2]⟩
abbrev S8192x256 : Shape := ⟨2, ![8192, 256]⟩
abbrev S8192x384 : Shape := ⟨2, ![8192, 384]⟩
abbrev S1024x1024 : Shape := ⟨2, ![1024, 1024]⟩
abbrev S_ : Shape := ⟨0, ![]⟩
abbrev S8192x2 : Shape := ⟨2, ![8192, 2]⟩
abbrev S8192x1x2 : Shape := ⟨3, ![8192, 1, 2]⟩
abbrev S8192x3x2x1 : Shape := ⟨4, ![8192, 3, 2, 1]⟩
abbrev S8192x640 : Shape := ⟨2, ![8192, 640]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3x2x64, .f32⟩
  | .hbm, ⟨2, _⟩ => ⟨S8192x3x2, .f32⟩
  | .hbm, ⟨3, _⟩ => ⟨S8192x256, .f32⟩
  | .hbm, ⟨4, _⟩ => ⟨S8192x384, .f32⟩
  | .hbm, ⟨5, _⟩ => ⟨S1024x1024, .f32⟩
  | .hbm, ⟨6, _⟩ => ⟨S_, .f32⟩
  | .hbm, ⟨7, _⟩ => ⟨S8192x2, .f32⟩
  | .hbm, ⟨8, _⟩ => ⟨S_, .f32⟩
  | .hbm, ⟨9, _⟩ => ⟨S8192x2, .f32⟩
  | .hbm, ⟨10, _⟩ => ⟨S8192x2, .f32⟩
  | .hbm, ⟨11, _⟩ => ⟨S8192x1x2, .f32⟩
  | .hbm, ⟨12, _⟩ => ⟨S8192x3x2, .f32⟩
  | .hbm, ⟨13, _⟩ => ⟨S8192x3x2, .f32⟩
  | .hbm, ⟨14, _⟩ => ⟨S8192x3x2, .f32⟩
  | .hbm, ⟨15, _⟩ => ⟨S_, .f32⟩
  | .hbm, ⟨16, _⟩ => ⟨S8192x2, .f32⟩
  | .hbm, ⟨17, _⟩ => ⟨S8192x1x2, .f32⟩
  | .hbm, ⟨18, _⟩ => ⟨S8192x3x2, .f32⟩
  | .hbm, ⟨19, _⟩ => ⟨S8192x3x2, .f32⟩
  | .hbm, ⟨20, _⟩ => ⟨S8192x3x2x1, .f32⟩
  | .hbm, ⟨21, _⟩ => ⟨S8192x3x2x64, .f32⟩
  | .hbm, ⟨22, _⟩ => ⟨S8192x3x2x64, .f32⟩
  | .hbm, ⟨23, _⟩ => ⟨S8192x384, .f32⟩
  | .hbm, ⟨24, _⟩ => ⟨S8192x640, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel13.lean ====
abbrev S4x2048x512 : Shape := ⟨3, ![4, 2048, 512]⟩
abbrev S31x256 : Shape := ⟨2, ![31, 256]⟩
abbrev S256 : Shape := ⟨1, ![256]⟩
abbrev S1x256 : Shape := ⟨2, ![1, 256]⟩
abbrev S4x2048x256 : Shape := ⟨3, ![4, 2048, 256]⟩
abbrev S1x2048x512 : Shape := ⟨3, ![1, 2048, 512]⟩
abbrev S1x2048x256 : Shape := ⟨3, ![1, 2048, 256]⟩
abbrev S2080x256 : Shape := ⟨2, ![2080, 256]⟩
abbrev S32x256 : Shape := ⟨2, ![32, 256]⟩
abbrev S1x128x512 : Shape := ⟨3, ![1, 128, 512]⟩
abbrev S128x512 : Shape := ⟨2, ![128, 512]⟩
abbrev S128x256 : Shape := ⟨2, ![128, 256]⟩
abbrev S160x128 : Shape := ⟨2, ![160, 128]⟩
abbrev S1x128 : Shape := ⟨2, ![1, 128]⟩
abbrev S128x128 : Shape := ⟨2, ![128, 128]⟩
abbrev S1x128x128 : Shape := ⟨3, ![1, 128, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S4x2048x256, .bf16⟩
  | .hbm, ⟨9, _⟩ => ⟨S4x2048x256, .f32⟩
  | .local _ .vmem, ⟨0, _⟩ => ⟨S1x2048x512, .f32⟩
  | .local _ .vmem, ⟨1, _⟩ => ⟨S1x2048x512, .f32⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .f32⟩
  | .local _ .vmem, ⟨9, _⟩ => ⟨S1x2048x256, .f32⟩
  | .local _ .vmem, ⟨10, _⟩ => ⟨S2080x256, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  v6
def k0_off1 (k0_t1 : Fin k0_t1_loop.trips) : Fin 3 → Nat :=
  let c0_6 : Index := 0#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v8 : Index := Scalar.indexCast v7
  let c0_7 : Index := 0#32
  ![0, v8.toNat, 0]
def k0_off2 (k0_t1 : Fin k0_t1_loop.trips) : Fin 2 → Nat :=
  let c32_i32 : BitVec 32 := 32#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v21 : BitVec 32 := Scalar.addi c32_i32 v7
  let v22 : Index := Scalar.indexCast v21
  let c0_11 : Index := 0#32
  ![v22.toNat, 0]
@[reducible] def k0_t2_loop : Scf.Loop 32 :=
  let c0_i32_2 : BitVec 32 := 0#32
  let c16_i32_3 : BitVec 32 := 16#32
  let v5 : BitVec 32 := Scalar.addi c0_i32_2 c16_i32_3
  let c1_i32_4 : BitVec 32 := 1#32
  ⟨c0_i32_2, v5, c1_i32_4⟩
def k0_mult2 (k0_t2 : Fin k0_t2_loop.trips) : BitVec 32 :=
  let c0_i32_2 : BitVec 32 := 0#32
  let c1_i32_4 : BitVec 32 := 1#32
  let arg9 : BitVec 32 := Scf.iv c0_i32_2 c1_i32_4 k0_t2
  let c128_i32 : BitVec 32 := 128#32
  let v6 : BitVec 32 := Scalar.muli arg9 c128_i32
  v6
def k0_off3 (k0_t2 : Fin k0_t2_loop.trips) : Fin 2 → Nat :=
  let c0_i32_2 : BitVec 32 := 0#32
  let c1_i32_4 : BitVec 32 := 1#32
  let arg9 : BitVec 32 := Scf.iv c0_i32_2 c1_i32_4 k0_t2
  let c128_i32 : BitVec 32 := 128#32
  let v6 : BitVec 32 := Scalar.muli arg9 c128_i32
  let v7 : BitVec 32 := v6
  let v8 : Index := Scalar.indexCast v7
  let c0_6 : Index := 0#32
  ![v8.toNat, 0]
def k0_off4 (k0_t2 : Fin k0_t2_loop.trips) : Fin 3 → Nat :=
  let c0_42 : Index := 0#32
  let c0_i32_2 : BitVec 32 := 0#32
  let c1_i32_4 : BitVec 32 := 1#32
  let arg9 : BitVec 32 := Scf.iv c0_i32_2 c1_i32_4 k0_t2
  let c128_i32 : BitVec 32 := 128#32
  let v6 : BitVec 32 := Scalar.muli arg9 c128_i32
  let v7 : BitVec 32 := v6
  let v176 : Index := Scalar.indexCast v7
  let c0_43 : Index := 0#32
  ![0, v176.toNat, 0]
def k0_off5 (k0_t2 : Fin k0_t2_loop.trips) : Fin 2 → Nat :=
  let c0_i32_2 : BitVec 32 := 0#32
  let c1_i32_4 : BitVec 32 := 1#32
  let arg9 : BitVec 32 := Scf.iv c0_i32_2 c1_i32_4 k0_t2
  let c128_i32 : BitVec 32 := 128#32
  let v6 : BitVec 32 := Scalar.muli arg9 c128_i32
  let v7 : BitVec 32 := v6
  let v180 : Index := Scalar.indexCast v7
  let c128 : Index := 128#32
  ![v180.toNat, 128]
def k0_off6 (k0_t2 : Fin k0_t2_loop.trips) : Fin 3 → Nat :=
  let c0_115 : Index := 0#32
  let c0_i32_2 : BitVec 32 := 0#32
  let c1_i32_4 : BitVec 32 := 1#32
  let arg9 : BitVec 32 := Scf.iv c0_i32_2 c1_i32_4 k0_t2
  let c128_i32 : BitVec 32 := 128#32
  let v6 : BitVec 32 := Scalar.muli arg9 c128_i32
  let v7 : BitVec 32 := v6
  let v348 : Index := Scalar.indexCast v7
  let c128_116 : Index := 128#32
  ![0, v348.toNat, 128]
def k0_off7 (k0_t2 : Fin k0_t2_loop.trips) : Fin 3 → Nat :=
  let c0_117 : Index := 0#32
  let c0_i32_2 : BitVec 32 := 0#32
  let c1_i32_4 : BitVec 32 := 1#32
  let arg9 : BitVec 32 := Scf.iv c0_i32_2 c1_i32_4 k0_t2
  let c128_i32 : BitVec 32 := 128#32
  let v6 : BitVec 32 := Scalar.muli arg9 c128_i32
  let v7 : BitVec 32 := v6
  let v352 : Index := Scalar.indexCast v7
  let c0_118 : Index := 0#32
  ![0, v352.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4x2048x512 : Shape := ⟨3, ![4, 2048, 512]⟩
abbrev S31x256 : Shape := ⟨2, ![31, 256]⟩
abbrev S256 : Shape := ⟨1, ![256]⟩
abbrev S4x2048x256 : Shape := ⟨3, ![4, 2048, 256]⟩
abbrev S_ : Shape := ⟨0, ![]⟩
abbrev S4x30x256 : Shape := ⟨3, ![4, 30, 256]⟩
abbrev S4x2078x256 : Shape := ⟨3, ![4, 2078, 256]⟩
abbrev S1x256 : Shape := ⟨2, ![1, 256]⟩
abbrev S1x1x256 : Shape := ⟨3, ![1, 1, 256]⟩
abbrev S4x2048 : Shape := ⟨2, ![4, 2048]⟩
abbrev S4x2048x1 : Shape := ⟨3, ![4, 2048, 1]⟩

abbrev nBuf : Space → Nat
  | .hbm => 281
  | .vmem => 0
  | .smem => 0
  | _ => 0

abbrev hbmTy0_0 (i : Nat) : BufTy := match i % 128 with
  | 0 => ⟨S4x2048x512, .f32⟩
  | 1 => ⟨S31x256, .f32⟩
  | 2 => ⟨S256, .f32⟩
  | 3 => ⟨S256, .f32⟩
  | 4 => ⟨S256, .f32⟩
  | 5 => ⟨S4x2048x256, .f32⟩
  | 6 => ⟨S4x2048x256, .f32⟩
  | 7 => ⟨S4x2048x256, .f32⟩
  | 8 => ⟨S4x2048x256, .f32⟩
  | 9 => ⟨S_, .f32⟩
  | 10 => ⟨S4x2048x256, .f32⟩
  | 11 => ⟨S4x2048x256, .f32⟩
  | 12 => ⟨S_, .f32⟩
  | 13 => ⟨S4x2048x256, .f32⟩
  | 14 => ⟨S4x2048x256, .f32⟩
  | 15 => ⟨S4x2048x256, .f32⟩
  | 16 => ⟨S4x30x256, .f32⟩
  | 17 => ⟨S_, .f32⟩
  | 18 => ⟨S4x30x256, .f32⟩
  | 19 => ⟨S4x2078x256, .f32⟩
  | 20 => ⟨S1x256, .f32⟩
  | 21 => ⟨S256, .f32⟩
  | 22 => ⟨S4x2048x256, .f32⟩
  | 23 => ⟨S1x1x256, .f32⟩
  | 24 => ⟨S4x2048x256, .f32⟩
  | 25 => ⟨S4x2048x256, .f32⟩
  | 26 => ⟨S_, .f32⟩
  | 27 => ⟨S4x2048x256, .f32⟩
  | 28 => ⟨S4x2048x256, .f32⟩
  | 29 => ⟨S1x256, .f32⟩
  | 30 => ⟨S256, .f32⟩
  | 31 => ⟨S4x2048x256, .f32⟩
  | 32 => ⟨S1x1x256, .f32⟩
  | 33 => ⟨S4x2048x256, .f32⟩
  | 34 => ⟨S4x2048x256, .f32⟩
  | 35 => ⟨S4x2048x256, .f32⟩
  | 36 => ⟨S1x256, .f32⟩
  | 37 => ⟨S256, .f32⟩
  | 38 => ⟨S4x2048x256, .f32⟩
  | 39 => ⟨S1x1x256, .f32⟩
  | 40 => ⟨S4x2048x256, .f32⟩
  | 41 => ⟨S4x2048x256, .f32⟩
  | 42 => ⟨S4x2048x256, .f32⟩
  | 43 => ⟨S1x256, .f32⟩
  | 44 => ⟨S256, .f32⟩
  | 45 => ⟨S4x2048x256, .f32⟩
  | 46 => ⟨S1x1x256, .f32⟩
  | 47 => ⟨S4x2048x256, .f32⟩
  | 48 => ⟨S4x2048x256, .f32⟩
  | 49 => ⟨S4x2048x256, .f32⟩
  | 50 => ⟨S1x256, .f32⟩
  | 51 => ⟨S256, .f32⟩
  | 52 => ⟨S4x2048x256, .f32⟩
  | 53 => ⟨S1x1x256, .f32⟩
  | 54 => ⟨S4x2048x256, .f32⟩
  | 55 => ⟨S4x2048x256, .f32⟩
  | 56 => ⟨S4x2048x256, .f32⟩
  | 57 => ⟨S1x256, .f32⟩
  | 58 => ⟨S256, .f32⟩
  | 59 => ⟨S4x2048x256, .f32⟩
  | 60 => ⟨S1x1x256, .f32⟩
  | 61 => ⟨S4x2048x256, .f32⟩
  | 62 => ⟨S4x2048x256, .f32⟩
  | 63 => ⟨S4x2048x256, .f32⟩
  | 64 => ⟨S1x256, .f32⟩
  | 65 => ⟨S256, .f32⟩
  | 66 => ⟨S4x2048x256, .f32⟩
  | 67 => ⟨S1x1x256, .f32⟩
  | 68 => ⟨S4x2048x256, .f32⟩
  | 69 => ⟨S4x2048x256, .f32⟩
  | 70 => ⟨S4x2048x256, .f32⟩
  | 71 => ⟨S1x256, .f32⟩
  | 72 => ⟨S256, .f32⟩
  | 73 => ⟨S4x2048x256, .f32⟩
  | 74 => ⟨S1x1x256, .f32⟩
  | 75 => ⟨S4x2048x256, .f32⟩
  | 76 => ⟨S4x2048x256, .f32⟩
  | 77 => ⟨S4x2048x256, .f32⟩
  | 78 => ⟨S1x256, .f32⟩
  | 79 => ⟨S256, .f32⟩
  | 80 => ⟨S4x2048x256, .f32⟩
  | 81 => ⟨S1x1x256, .f32⟩
  | 82 => ⟨S4x2048x256, .f32⟩
  | 83 => ⟨S4x2048x256, .f32⟩
  | 84 => ⟨S4x2048x256, .f32⟩
  | 85 => ⟨S1x256, .f32⟩
  | 86 => ⟨S256, .f32⟩
  | 87 => ⟨S4x2048x256, .f32⟩
  | 88 => ⟨S1x1x256, .f32⟩
  | 89 => ⟨S4x2048x256, .f32⟩
  | 90 => ⟨S4x2048x256, .f32⟩
  | 91 => ⟨S4x2048x256, .f32⟩
  | 92 => ⟨S1x256, .f32⟩
  | 93 => ⟨S256, .f32⟩
  | 94 => ⟨S4x2048x256, .f32⟩
  | 95 => ⟨S1x1x256, .f32⟩
  | 96 => ⟨S4x2048x256, .f32⟩
  | 97 => ⟨S4x2048x256, .f32⟩
  | 98 => ⟨S4x2048x256, .f32⟩
  | 99 => ⟨S1x256, .f32⟩
  | 100 => ⟨S256, .f32⟩
  | 101 => ⟨S4x2048x256, .f32⟩
  | 102 => ⟨S1x1x256, .f32⟩
  | 103 => ⟨S4x2048x256, .f32⟩
  | 104 => ⟨S4x2048x256, .f32⟩
  | 105 => ⟨S4x2048x256, .f32⟩
  | 106 => ⟨S1x256, .f32⟩
  | 107 => ⟨S256, .f32⟩
  | 108 => ⟨S4x2048x256, .f32⟩
  | 109 => ⟨S1x1x256, .f32⟩
  | 110 => ⟨S4x2048x256, .f32⟩
  | 111 => ⟨S4x2048x256, .f32⟩
  | 112 => ⟨S4x2048x256, .f32⟩
  | 113 => ⟨S1x256, .f32⟩
  | 114 => ⟨S256, .f32⟩
  | 115 => ⟨S4x2048x256, .f32⟩
  | 116 => ⟨S1x1x256, .f32⟩
  | 117 => ⟨S4x2048x256, .f32⟩
  | 118 => ⟨S4x2048x256, .f32⟩
  | 119 => ⟨S4x2048x256, .f32⟩
  | 120 => ⟨S1x256, .f32⟩
  | 121 => ⟨S256, .f32⟩
  | 122 => ⟨S4x2048x256, .f32⟩
  | 123 => ⟨S1x1x256, .f32⟩
  | 124 => ⟨S4x2048x256, .f32⟩
  | 125 => ⟨S4x2048x256, .f32⟩
  | 126 => ⟨S4x2048x256, .f32⟩
  | 127 => ⟨S1x256, .f32⟩
  | _ => ⟨S4x2048x512, .f32⟩

abbrev hbmTy0_1 (i : Nat) : BufTy := match i % 128 with
  | 0 => ⟨S256, .f32⟩
  | 1 => ⟨S4x2048x256, .f32⟩
  | 2 => ⟨S1x1x256, .f32⟩
  | 3 => ⟨S4x2048x256, .f32⟩
  | 4 => ⟨S4x2048x256, .f32⟩
  | 5 => ⟨S4x2048x256, .f32⟩
  | 6 => ⟨S1x256, .f32⟩
  | 7 => ⟨S256, .f32⟩
  | 8 => ⟨S4x2048x256, .f32⟩
  | 9 => ⟨S1x1x256, .f32⟩
  | 10 => ⟨S4x2048x256, .f32⟩
  | 11 => ⟨S4x2048x256, .f32⟩
  | 12 => ⟨S4x2048x256, .f32⟩
  | 13 => ⟨S1x256, .f32⟩
  | 14 => ⟨S256, .f32⟩
  | 15 => ⟨S4x2048x256, .f32⟩
  | 16 => ⟨S1x1x256, .f32⟩
  | 17 => ⟨S4x2048x256, .f32⟩
  | 18 => ⟨S4x2048x256, .f32⟩
  | 19 => ⟨S4x2048x256, .f32⟩
  | 20 => ⟨S1x256, .f32⟩
  | 21 => ⟨S256, .f32⟩
  | 22 => ⟨S4x2048x256, .f32⟩
  | 23 => ⟨S1x1x256, .f32⟩
  | 24 => ⟨S4x2048x256, .f32⟩
  | 25 => ⟨S4x2048x256, .f32⟩
  | 26 => ⟨S4x2048x256, .f32⟩
  | 27 => ⟨S1x256, .f32⟩
  | 28 => ⟨S256, .f32⟩
  | 29 => ⟨S4x2048x256, .f32⟩
  | 30 => ⟨S1x1x256, .f32⟩
  | 31 => ⟨S4x2048x256, .f32⟩
  | 32 => ⟨S4x2048x256, .f32⟩
  | 33 => ⟨S4x2048x256, .f32⟩
  | 34 => ⟨S1x256, .f32⟩
  | 35 => ⟨S256, .f32⟩
  | 36 => ⟨S4x2048x256, .f32⟩
  | 37 => ⟨S1x1x256, .f32⟩
  | 38 => ⟨S4x2048x256, .f32⟩
  | 39 => ⟨S4x2048x256, .f32⟩
  | 40 => ⟨S4x2048x256, .f32⟩
  | 41 => ⟨S1x256, .f32⟩
  | 42 => ⟨S256, .f32⟩
  | 43 => ⟨S4x2048x256, .f32⟩
  | 44 => ⟨S1x1x256, .f32⟩
  | 45 => ⟨S4x2048x256, .f32⟩
  | 46 => ⟨S4x2048x256, .f32⟩
  | 47 => ⟨S4x2048x256, .f32⟩
  | 48 => ⟨S1x256, .f32⟩
  | 49 => ⟨S256, .f32⟩
  | 50 => ⟨S4x2048x256, .f32⟩
  | 51 => ⟨S1x1x256, .f32⟩
  | 52 => ⟨S4x2048x256, .f32⟩
  | 53 => ⟨S4x2048x256, .f32⟩
  | 54 => ⟨S4x2048x256, .f32⟩
  | 55 => ⟨S1x256, .f32⟩
  | 56 => ⟨S256, .f32⟩
  | 57 => ⟨S4x2048x256, .f32⟩
  | 58 => ⟨S1x1x256, .f32⟩
  | 59 => ⟨S4x2048x256, .f32⟩
  | 60 => ⟨S4x2048x256, .f32⟩
  | 61 => ⟨S4x2048x256, .f32⟩
  | 62 => ⟨S1x256, .f32⟩
  | 63 => ⟨S256, .f32⟩
  | 64 => ⟨S4x2048x256, .f32⟩
  | 65 => ⟨S1x1x256, .f32⟩
  | 66 => ⟨S4x2048x256, .f32⟩
  | 67 => ⟨S4x2048x256, .f32⟩
  | 68 => ⟨S4x2048x256, .f32⟩
  | 69 => ⟨S1x256, .f32⟩
  | 70 => ⟨S256, .f32⟩
  | 71 => ⟨S4x2048x256, .f32⟩
  | 72 => ⟨S1x1x256, .f32⟩
  | 73 => ⟨S4x2048x256, .f32⟩
  | 74 => ⟨S4x2048x256, .f32⟩
  | 75 => ⟨S4x2048x256, .f32⟩
  | 76 => ⟨S1x256, .f32⟩
  | 77 => ⟨S256, .f32⟩
  | 78 => ⟨S4x2048x256, .f32⟩
  | 79 => ⟨S1x1x256, .f32⟩
  | 80 => ⟨S4x2048x256, .f32⟩
  | 81 => ⟨S4x2048x256, .f32⟩
  | 82 => ⟨S4x2048x256, .f32⟩
  | 83 => ⟨S1x256, .f32⟩
  | 84 => ⟨S256, .f32⟩
  | 85 => ⟨S4x2048x256, .f32⟩
  | 86 => ⟨S1x1x256, .f32⟩
  | 87 => ⟨S4x2048x256, .f32⟩
  | 88 => ⟨S4x2048x256, .f32⟩
  | 89 => ⟨S4x2048x256, .f32⟩
  | 90 => ⟨S1x256, .f32⟩
  | 91 => ⟨S256, .f32⟩
  | 92 => ⟨S4x2048x256, .f32⟩
  | 93 => ⟨S1x1x256, .f32⟩
  | 94 => ⟨S4x2048x256, .f32⟩
  | 95 => ⟨S4x2048x256, .f32⟩
  | 96 => ⟨S4x2048x256, .f32⟩
  | 97 => ⟨S1x256, .f32⟩
  | 98 => ⟨S256, .f32⟩
  | 99 => ⟨S4x2048x256, .f32⟩
  | 100 => ⟨S1x1x256, .f32⟩
  | 101 => ⟨S4x2048x256, .f32⟩
  | 102 => ⟨S4x2048x256, .f32⟩
  | 103 => ⟨S4x2048x256, .f32⟩
  | 104 => ⟨S1x256, .f32⟩
  | 105 => ⟨S256, .f32⟩
  | 106 => ⟨S4x2048x256, .f32⟩
  | 107 => ⟨S1x1x256, .f32⟩
  | 108 => ⟨S4x2048x256, .f32⟩
  | 109 => ⟨S4x2048x256, .f32⟩
  | 110 => ⟨S4x2048x256, .f32⟩
  | 111 => ⟨S1x1x256, .f32⟩
  | 112 => ⟨S4x2048x256, .f32⟩
  | 113 => ⟨S4x2048x256, .f32⟩
  | 114 => ⟨S_, .f32⟩
  | 115 => ⟨S4x2048, .f32⟩
  | 116 => ⟨S4x2048x1, .f32⟩
  | 117 => ⟨S_, .f32⟩
  | 118 => ⟨S4x2048x1, .f32⟩
  | 119 => ⟨S4x2048x1, .f32⟩
  | 120 => ⟨S4x2048x256, .f32⟩
  | 121 => ⟨S4x2048x256, .f32⟩
  | 122 => ⟨S4x2048x256, .f32⟩
  | 123 => ⟨S_, .f32⟩
  | 124 => ⟨S4x2048, .f32⟩
  | 125 => ⟨S4x2048x1, .f32⟩
  | 126 => ⟨S_, .f32⟩
  | 127 => ⟨S4x2048x1, .f32⟩
  | _ => ⟨S4x2048x512, .f32⟩

abbrev hbmTy0_2 (i : Nat) : BufTy := match i % 128 with
  | 0 => ⟨S4x2048x1, .f32⟩
  | 1 => ⟨S4x2048x256, .f32⟩
  | 2 => ⟨S4x2048x256, .f32⟩
  | 3 => ⟨S_, .f32⟩
  | 4 => ⟨S4x2048x1, .f32⟩
  | 5 => ⟨S4x2048x1, .f32⟩
  | 6 => ⟨S4x2048x1, .f32⟩
  | 7 => ⟨S4x2048x256, .f32⟩
  | 8 => ⟨S4x2048x256, .f32⟩
  | 9 => ⟨S1x1x256, .f32⟩
  | 10 => ⟨S4x2048x256, .f32⟩
  | 11 => ⟨S4x2048x256, .f32⟩
  | 12 => ⟨S1x1x256, .f32⟩
  | 13 => ⟨S4x2048x256, .f32⟩
  | 14 => ⟨S4x2048x256, .f32⟩
  | 15 => ⟨S4x2048x256, .f32⟩
  | 16 => ⟨S4x2048x256, .f32⟩
  | 17 => ⟨S_, .f32⟩
  | 18 => ⟨S4x2048x256, .f32⟩
  | 19 => ⟨S4x2048x256, .f32⟩
  | 20 => ⟨S_, .f32⟩
  | 21 => ⟨S4x2048x256, .f32⟩
  | 22 => ⟨S4x2048x256, .f32⟩
  | 23 => ⟨S4x2048x256, .f32⟩
  | 24 => ⟨S4x2048x256, .bf16⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_7 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_call0_v0 : Ref sig .tc := ⟨.hbm, 271, rfl⟩
abbrev main_call0_v1 : Ref sig .tc := ⟨.hbm, 272, rfl⟩
abbrev main_call0_cst : Ref sig .tc := ⟨.hbm, 273, rfl⟩
abbrev main_call0_v2 : Ref sig .tc := ⟨.hbm, 274, rfl⟩
abbrev main_call0_v3 : Ref sig .tc := ⟨.hbm, 275, rfl⟩
abbrev main_call0_cst_0 : Ref sig .tc := ⟨.hbm, 276, rfl⟩
abbrev main_call0_v4 : Ref sig .tc := ⟨.hbm, 277, rfl⟩
abbrev main_call0_v5 : Ref sig .tc := ⟨.hbm, 278, rfl⟩
abbrev main_v257 : Ref sig .tc := ⟨.hbm, 279, rfl⟩
abbrev main_v258 : Ref sig .tc := ⟨.hbm, 280, rfl⟩

abbrev nD : Nat := 1
abbrev τ : Topo := Topo.v7x

variable {F : FTy → Type} [FloatOps F]
-- ==== Kernel14.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S1024x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S1024x4096, .bf16⟩
  | .local _ .vmem, ⟨5, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_26 : BitVec 32 := 0#32
  let v51 : BitVec 1 := Scalar.cmpi .ne v50 c0_i32_26
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference14Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x4096, .bf16⟩
  | .hbm, ⟨22, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_26 : BitVec 32 := 0#32
  let v39 : BitVec 1 := Scalar.cmpi .ne v38 c0_i32_26
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference15Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S4096x1024, .f32⟩
  | .hbm, ⟨22, _⟩ => ⟨S1024x4096, .f32⟩
  | .hbm, ⟨23, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.AttnBody.lean ====
/- The attention gradient's body, trip by trip. -/
module

public import proofs.«01_k».proof.Proof.Gen.KernelIdeal.Frame
public import proofs.«01_k».proof.Proof.Gen.KernelIdeal.Skeleton
public import proofs.«01_k».proof.Defs
public import Idealize.ShloMosaic.Lib.Exec
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

theorem off1_eq : ∀ t, k0_off1 t = ![0, 128 * t.val, 0] := by decide +kernel
theorem off2_eq : ∀ t, k0_off2 t = ![0, 128 * (t.val - 1), 0] := by decide +kernel
theorem off3_eq : ∀ t, k0_off3 t = ![0, 512 * (t.val % 4) + t.val / 4, 0] := by decide +kernel
theorem off4_eq : ∀ t, k0_off4 t = ![0, 512 * (t.val % 4 - 1) + t.val / 4, 0] := by decide +kernel
theorem off5_eq : ∀ t, k0_off5 t = ![0, t.val, 0] := by decide +kernel
theorem off6_eq : ∀ t, k0_off6 t = ![0, t.val, 0] := by decide +kernel

instance (t) : ClosedOff (k0_off1 t) := ⟨_, off1_eq t⟩
instance (t) : ClosedOff (k0_off2 t) := ⟨_, off2_eq t⟩
instance (t) : ClosedOff (k0_off3 t) := ⟨_, off3_eq t⟩
instance (t) : ClosedOff (k0_off4 t) := ⟨_, off4_eq t⟩
instance (t) : ClosedOff (k0_off5 t) := ⟨_, off5_eq t⟩
instance (t) : ClosedOff (k0_off6 t) := ⟨_, off6_eq t⟩

/-! ## One store over an array -/

section Put
variable {Val : EltTy → Type} {s : Shape} {e : EltTy}

/-- The array `x` with one rectangle overwritten. -/
def put (x : s.Idx → Val e) (p : View.Piece Val s e) : s.Idx → Val e :=
  open Classical in fun y => if h : ∃ z, p.1.emb z = y then p.2 h.choose else x y

theorem put_emb (x : s.Idx → Val e) (p : View.Piece Val s e) (z : p.1.shape.Idx) : put x p (p.1.emb z) = p.2 z := by
  unfold put
  have h : ∃ z', p.1.emb z' = p.1.emb z := ⟨z, rfl⟩
  rw [dif_pos h, p.1.emb.injective h.choose_spec]

theorem put_miss (x : s.Idx → Val e) (p : View.Piece Val s e) (y : s.Idx) (h : y ∉ p.1.set) : put x p y = x y := by
  unfold put
  rw [dif_neg]
  rintro ⟨z, rfl⟩
  exact h (p.1.idx_mem z)

theorem read_writes_put {sig : RefSig} {κ : Kind} {sp : Space} (v : View sig κ sp s e) (f : v.ty.Contents Val) (p : View.Piece Val s e)
    (L : List (View.Piece Val s e)) : v.read Val (v.writes Val f (p :: L)) = put (v.read Val (v.writes Val f L)) p := by
  funext y
  by_cases hy : y ∈ p.1.set
  · obtain ⟨z, rfl⟩ := p.1.exists_idx_of_mem hy
    exact (View.read_writes_cons_emb v f p.1 p.2 L z).trans (put_emb _ p z).symm
  · rw [put_miss _ _ _ hy, View.read_writes_cons_miss v f p L y hy]

/-- A store, then a store of a value computed from what the first left at the second's place. -/
theorem read_writes_two {sig : RefSig} {κ : Kind} {sp : Space} (v : View sig κ sp s e) (f : v.ty.Contents Val) (r r' : Rect s)
    (w : r.shape.Idx → Val e) (W : (r'.shape.Idx → Val e) → r'.shape.Idx → Val e) :
    v.read Val (v.writes Val f [⟨r', W (v.readAt Val r'.toLoadRect (v.writes Val f [⟨r, w⟩]))⟩, ⟨r, w⟩])
      = put (put (v.read Val f) ⟨r, w⟩) ⟨r', W (View.ld (put (v.read Val f) ⟨r, w⟩) r')⟩ := by
  rw [read_writes_put, View.readAt_eq_ld, read_writes_put]
  rfl

end Put

/-! ## One unit of 128 queries against its 256 keys -/

/-- What a unit reads: its queries, their cotangents, the previous and own keys and values, the row statistics, the
    bias coefficients of its two heads, and which pairs are in the window. -/
structure Rows (F : FTy → Type) where
  q : Vec F S1x128x128 .f32
  g : Vec F S1x128x128 .f32
  kp : Vec F S1x128x128 .f32
  ko : Vec F S1x128x128 .f32
  vp : Vec F S1x128x128 .f32
  vo : Vec F S1x128x128 .f32
  l : Vec F S1x128x128 .f32
  d : Vec F S1x128x128 .f32
  c0 : Elt F .f32
  c1 : Elt F .f32
  ok : IVec S128x256 1

namespace Rows
variable (u : Rows F)
abbrev Kc : FVec F S256x128 .bf16 := k0_pay12 u.kp u.ko
abbrev Vc : FVec F S256x128 .bf16 := k0_pay13 u.vp u.vo
abbrev s0 : FVec F S128x256 .f32 := k0_pay16 k0_pay2 k0_pay3 u.q u.kp u.ko u.c0
abbrev p1 : FVec F S128x256 .f32 := k0_pay23 k0_pay2 k0_pay3 u.ok (k0_pay10 u.q) u.Kc (k0_pay14 u.l) u.c1
abbrev e1 : FVec F S128x256 .f32 := k0_pay24 k0_pay2 (k0_pay11 u.g) u.Vc
abbrev dq0 : FVec F S128x128 .f32 :=
  k0_pay20 k0_pay2 u.ok (k0_pay11 u.g) u.Kc u.Vc (k0_pay14 u.l) (k0_pay15 u.d) u.s0 k0_pay17
abbrev dk0 : FVec F S256x128 .f32 :=
  k0_pay21 k0_pay2 u.ok (k0_pay10 u.q) (k0_pay11 u.g) u.Vc (k0_pay14 u.l) (k0_pay15 u.d) u.s0 k0_pay17
abbrev dv0 : FVec F S256x128 .f32 := k0_pay22 u.ok (k0_pay11 u.g) (k0_pay14 u.l) u.s0 k0_pay17
/-- The queries' gradients, -/
def dq : FVec F S1x128x128 .f32 := k0_pay27 k0_pay2 u.Kc u.dq0 u.p1 u.e1 (k0_pay25 (k0_pay15 u.d))
/-- the own keys' and values', -/
def dkOwn : FVec F S1x128x128 .f32 := k0_pay30 k0_pay2 (k0_pay10 u.q) u.dk0 u.p1 u.e1 (k0_pay25 (k0_pay15 u.d))
def dvOwn : FVec F S1x128x128 .f32 := k0_pay31 k0_pay2 (k0_pay11 u.g) u.dv0 u.p1
/-- and what is added to the previous keys' and values'. -/
def dkPrev (x : Vec F S1x128x128 .f32) : FVec F S1x128x128 .f32 :=
  k0_pay32 k0_pay2 (k0_pay10 u.q) u.dk0 u.p1 u.e1 (k0_pay25 (k0_pay15 u.d)) x
def dvPrev (x : Vec F S1x128x128 .f32) : FVec F S1x128x128 .f32 := k0_pay6 (k0_pay29 k0_pay2 (k0_pay11 u.g) u.dv0 u.p1) x
end Rows

/-- Where a unit's own rows and the previous block's lie. -/
structure Cut where
  o : Fin 3 → ℕ
  p : Fin 3 → ℕ
  st : Fin 3 → ℕ
  ho : ∀ a, S1x128x128.size a = 0 ∨ o a + st a * (S1x128x128.size a - 1) < S1x2048x128.size a
  hp : ∀ a, S1x128x128.size a = 0 ∨ p a + st a * (S1x128x128.size a - 1) < S1x2048x128.size a
  pos : ∀ a, 0 < st a

abbrev Cut.own (C : Cut) : Rect S1x2048x128 := ⟨⟨C.o, S1x128x128.size, C.st, C.ho⟩, C.pos⟩
abbrev Cut.prev (C : Cut) : Rect S1x2048x128 := ⟨⟨C.p, S1x128x128.size, C.st, C.hp⟩, C.pos⟩

theorem inb (o st : Fin 3 → ℕ) (h0 : o 0 = 0) (h2 : o 2 = 0) (s0 : st 0 = 1) (s2 : st 2 = 1) (h : o 1 + st 1 * 127 < 2048) :
    ∀ a, S1x128x128.size a = 0 ∨ o a + st a * (S1x128x128.size a - 1) < S1x2048x128.size a := by
  intro a; right
  fin_cases a <;> simp_all [S1x128x128, S1x2048x128]

def cut1 (t : Fin k0_t1_loop.trips) : Cut where
  o := k0_off1 t
  p := k0_off2 t
  st := fun _ => 1
  ho := by have : t.val < 16 := t.isLt; rw [off1_eq]; exact inb _ _ rfl rfl rfl rfl (by simp; omega)
  hp := by have : t.val < 16 := t.isLt; rw [off2_eq]; exact inb _ _ rfl rfl rfl rfl (by simp; omega)
  pos := fun _ => Nat.one_pos

def cut2 (t : Fin k0_t2_loop.trips) : Cut where
  o := k0_off3 t
  p := k0_off4 t
  st := ![1, 4, 1]
  ho := by have : t.val < 16 := t.isLt; rw [off3_eq]; exact inb _ _ rfl rfl rfl rfl (by simp; omega)
  hp := by have : t.val < 16 := t.isLt; rw [off4_eq]; exact inb _ _ rfl rfl rfl rfl (by simp; omega)
  pos := spos_1_4_1

def cut3 (t : Fin k0_t3_loop.trips) : Cut where
  o := k0_off5 t
  p := k0_off6 t
  st := ![1, 16, 1]
  ho := by have : t.val < 16 := t.isLt; rw [off5_eq]; exact inb _ _ rfl rfl rfl rfl (by simp; omega)
  hp := by have : t.val < 16 := t.isLt; rw [off6_eq]; exact inb _ _ rfl rfl rfl rfl (by simp; omega)
  pos := spos_1_16_1

/-- What the body is given. -/
structure Ins (F : FTy → Type) where
  co : Vec F S3x2 .f32
  q : Vec F S1x2048x128 .f32
  k : Vec F S1x2048x128 .f32
  v : Vec F S1x2048x128 .f32
  g : Vec F S1x2048x128 .f32
  l : Vec F S1x2048x128 .f32
  d : Vec F S1x2048x128 .f32

/-- The three arrays the body fills. -/
structure Outs (F : FTy → Type) where
  dq : Vec F S1x2048x128 .f32
  dk : Vec F S1x2048x128 .f32
  dv : Vec F S1x2048x128 .f32

def Ins.rows (I : Ins F) (C : Cut) (c0 c1 : Elt F .f32) (ok : IVec S128x256 1) : Rows F where
  q := View.ld I.q C.own
  g := View.ld I.g C.own
  kp := View.ld I.k C.prev
  ko := View.ld I.k C.own
  vp := View.ld I.v C.prev
  vo := View.ld I.v C.own
  l := View.ld I.l C.own
  d := View.ld I.d C.own
  c0 := c0
  c1 := c1
  ok := ok

/-- What one unit does to the three arrays. -/
def Rows.step (u : Rows F) (C : Cut) (σ : Outs F) : Outs F where
  dq := put σ.dq ⟨C.own, u.dq⟩
  dk := put (put σ.dk ⟨C.own, u.dkOwn⟩) ⟨C.prev, u.dkPrev (View.ld (put σ.dk ⟨C.own, u.dkOwn⟩) C.prev)⟩
  dv := put (put σ.dv ⟨C.own, u.dvOwn⟩) ⟨C.prev, u.dvPrev (View.ld (put σ.dv ⟨C.own, u.dvOwn⟩) C.prev)⟩

/-- The units before `n`, one after the other. -/
def after {N : ℕ} (f : Fin N → Outs F → Outs F) (σ : Outs F) : ℕ → Outs F
  | 0 => σ
  | n + 1 => if h : n < N then f ⟨n, h⟩ (after f σ n) else after f σ n

theorem after_succ {N : ℕ} (f : Fin N → Outs F → Outs F) (σ : Outs F) (n : Fin N) : after f σ (n.val + 1) = f n (after f σ n.val) := by
  rw [after, dif_pos n.isLt]

/-- The bias coefficient of pattern `p`'s head `j`. -/
abbrev coef (x : Vec F S3x2 .f32) (off : Fin 2 → ℕ) (h : ∀ a, off a + S1x1.size a ≤ S3x2.size a) : Elt F .f32 :=
  x ((Rect.unit (s := S3x2) off S1x1.size h).idx (Shape.Idx.first (numel1_S1x1.symm ▸ Nat.one_pos)))

def rows1 (I : Ins F) (t : Fin k0_t1_loop.trips) : Rows F :=
  I.rows (cut1 t) (coef I.co ![0, 0] inb_S3x2_S1x1_0_0) (coef I.co ![0, 1] inb_S3x2_S1x1_0_1) (k0_pay9 k0_pay4 k0_pay5 0#32 1#32 t)
def unit1 (I : Ins F) (t : Fin k0_t1_loop.trips) : Outs F → Outs F := (rows1 I t).step (cut1 t)
def rows2 (I : Ins F) (t : Fin k0_t2_loop.trips) : Rows F :=
  I.rows (cut2 t) (coef I.co ![1, 0] inb_S3x2_S1x1_1_0) (coef I.co ![1, 1] inb_S3x2_S1x1_1_1) (k0_pay33 k0_pay4 k0_pay5 0#32 1#32 t)
def unit2 (I : Ins F) (t : Fin k0_t2_loop.trips) : Outs F → Outs F := (rows2 I t).step (cut2 t)
def rows3 (I : Ins F) (t : Fin k0_t3_loop.trips) : Rows F :=
  I.rows (cut3 t) (coef I.co ![2, 0] inb_S3x2_S1x1_2_0) (coef I.co ![2, 1] inb_S3x2_S1x1_2_1) (k0_pay56 k0_pay4 k0_pay5 0#32 1#32 t)
def unit3 (I : Ins F) (t : Fin k0_t3_loop.trips) : Outs F → Outs F := (rows3 I t).step (cut3 t)

/-! ## The three loops -/

section Loops
variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x2048x128 .f32) (h9 : a9.IsWhole) (a10 : Memref sig .tc .vmem S1x2048x128 .f32) (h10 : a10.IsWhole)
  (a11 : Memref sig .tc .vmem S1x2048x128 .f32) (h11 : a11.IsWhole)

/-- The inputs as they were and the three arrays at `σ`. -/
def holds (I : Ins F) (σ : Outs F) : sProp 𝕄 :=
  iprop(owns (c : Thread nD τ) a2 fullShare I.co ∗ owns (c : Thread nD τ) a3 fullShare I.q ∗ owns (c : Thread nD τ) a4 fullShare I.k
    ∗ owns (c : Thread nD τ) a5 fullShare I.v ∗ owns (c : Thread nD τ) a6 fullShare I.g ∗ owns (c : Thread nD τ) a7 fullShare I.l
    ∗ owns (c : Thread nD τ) a8 fullShare I.d ∗ owns (c : Thread nD τ) a9 fullShare σ.dq ∗ owns (c : Thread nD τ) a10 fullShare σ.dk
    ∗ owns (c : Thread nD τ) a11 fullShare σ.dv)

end Loops

end Cert.Attn
-- ==== Proof.Attn1.lean ====
/- One trip of the attention gradient's loop over pattern 1. -/
module

public import proofs.«01_k».proof.Proof.AttnBody
public import Idealize.ShloMosaic.Lib.Exec
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

section Loops
variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x2048x128 .f32) (h9 : a9.IsWhole) (a10 : Memref sig .tc .vmem S1x2048x128 .f32) (h10 : a10.IsWhole)
  (a11 : Memref sig .tc .vmem S1x2048x128 .f32) (h11 : a11.IsWhole)

set_option maxHeartbeats 2000000 in
theorem trip1 (hc : k0_cond1 i = 1#1) (t : Fin k0_t1_loop.trips) (I : Ins F) (σ : Outs F) :
    holds c a2 a3 a4 a5 a6 a7 a8 a9 a10 a11 I σ
      ⊢ wp frame (wpE (defs₀ (F := F)) Variants.none (c : Thread nD τ) none) Set.univ
          (k0_t1_body i a2 h2 a3 h3 a4 h4 a5 h5 a6 h6 a7 h7 a8 h8 a9 h9 a10 h10 a11 h11 hc t ⟨⟩)
          (fun _ => holds c a2 a3 a4 a5 a6 a7 a8 a9 a10 a11 I (unit1 I t σ)) := by
  obtain ⟨x2, x3, x4, x5, x6, x7, x8⟩ := I
  obtain ⟨x9, x10, x11⟩ := σ
  unfold holds k0_t1_body
  simp only [k0_part1_eq_skeleton, k0_part2_eq_skeleton, k0_part3_eq_skeleton, k0_part4_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  dsimp only at e2 e3 e4 e5 e6 e7 e8 e9 e10 e11
  subst e2 e3 e4 e5 e6 e7 e8 e9 e10 e11
  sl_exec
  sl_step
  let u : Rows F := Ins.rows ⟨a2.view.read (Elt F) f2, a3.view.read (Elt F) f3, a4.view.read (Elt F) f4, a5.view.read (Elt F) f5,
    a6.view.read (Elt F) f6, a7.view.read (Elt F) f7, a8.view.read (Elt F) f8⟩ (cut1 t) (coef (a2.view.read (Elt F) f2) ![0, 0] inb_S3x2_S1x1_0_0)
    (coef (a2.view.read (Elt F) f2) ![0, 1] inb_S3x2_S1x1_0_1) (k0_pay9 k0_pay4 k0_pay5 0#32 1#32 t)
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact read_writes_put a9.view f9 ⟨(cut1 t).own, u.dq⟩ []
  isplitl [H10]
  · iexists _; isplitr
    swap; · iexact H10
    ipureintro
    exact read_writes_two a10.view f10 (cut1 t).own (cut1 t).prev (u.dkOwn) u.dkPrev
  · iexists _; isplitr
    swap; · iexact H11
    ipureintro
    exact read_writes_two a11.view f11 (cut1 t).own (cut1 t).prev (u.dvOwn) u.dvPrev

end Loops

end Cert.Attn
-- ==== Proof.Attn2.lean ====
/- One trip of the attention gradient's loop over pattern 2. -/
module

public import proofs.«01_k».proof.Proof.AttnBody
public import Idealize.ShloMosaic.Lib.Exec
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

section Loops
variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x2048x128 .f32) (h9 : a9.IsWhole) (a10 : Memref sig .tc .vmem S1x2048x128 .f32) (h10 : a10.IsWhole)
  (a11 : Memref sig .tc .vmem S1x2048x128 .f32) (h11 : a11.IsWhole)

set_option maxHeartbeats 2000000 in
theorem trip2 (hc : k0_cond2 i = 1#1) (t : Fin k0_t2_loop.trips) (I : Ins F) (σ : Outs F) :
    holds c a2 a3 a4 a5 a6 a7 a8 a9 a10 a11 I σ
      ⊢ wp frame (wpE (defs₀ (F := F)) Variants.none (c : Thread nD τ) none) Set.univ
          (k0_t2_body i a2 h2 a3 h3 a4 h4 a5 h5 a6 h6 a7 h7 a8 h8 a9 h9 a10 h10 a11 h11 hc t ⟨⟩)
          (fun _ => holds c a2 a3 a4 a5 a6 a7 a8 a9 a10 a11 I (unit2 I t σ)) := by
  obtain ⟨x2, x3, x4, x5, x6, x7, x8⟩ := I
  obtain ⟨x9, x10, x11⟩ := σ
  unfold holds k0_t2_body
  simp only [k0_part5_eq_skeleton, k0_part6_eq_skeleton, k0_part7_eq_skeleton, k0_part8_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  dsimp only at e2 e3 e4 e5 e6 e7 e8 e9 e10 e11
  subst e2 e3 e4 e5 e6 e7 e8 e9 e10 e11
  sl_exec
  sl_step
  let u : Rows F := Ins.rows ⟨a2.view.read (Elt F) f2, a3.view.read (Elt F) f3, a4.view.read (Elt F) f4, a5.view.read (Elt F) f5,
    a6.view.read (Elt F) f6, a7.view.read (Elt F) f7, a8.view.read (Elt F) f8⟩ (cut2 t) (coef (a2.view.read (Elt F) f2) ![1, 0] inb_S3x2_S1x1_1_0)
    (coef (a2.view.read (Elt F) f2) ![1, 1] inb_S3x2_S1x1_1_1) (k0_pay33 k0_pay4 k0_pay5 0#32 1#32 t)
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact read_writes_put a9.view f9 ⟨(cut2 t).own, u.dq⟩ []
  isplitl [H10]
  · iexists _; isplitr
    swap; · iexact H10
    ipureintro
    exact read_writes_two a10.view f10 (cut2 t).own (cut2 t).prev (u.dkOwn) u.dkPrev
  · iexists _; isplitr
    swap; · iexact H11
    ipureintro
    exact read_writes_two a11.view f11 (cut2 t).own (cut2 t).prev (u.dvOwn) u.dvPrev

end Loops

end Cert.Attn
-- ==== Proof.Attn3.lean ====
/- One trip of the attention gradient's loop over pattern 3. -/
module

public import proofs.«01_k».proof.Proof.AttnBody
public import Idealize.ShloMosaic.Lib.Exec
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

section Loops
variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x2048x128 .f32) (h9 : a9.IsWhole) (a10 : Memref sig .tc .vmem S1x2048x128 .f32) (h10 : a10.IsWhole)
  (a11 : Memref sig .tc .vmem S1x2048x128 .f32) (h11 : a11.IsWhole)

set_option maxHeartbeats 2000000 in
theorem trip3 (hc : k0_cond3 i = 1#1) (t : Fin k0_t3_loop.trips) (I : Ins F) (σ : Outs F) :
    holds c a2 a3 a4 a5 a6 a7 a8 a9 a10 a11 I σ
      ⊢ wp frame (wpE (defs₀ (F := F)) Variants.none (c : Thread nD τ) none) Set.univ
          (k0_t3_body i a2 h2 a3 h3 a4 h4 a5 h5 a6 h6 a7 h7 a8 h8 a9 h9 a10 h10 a11 h11 hc t ⟨⟩)
          (fun _ => holds c a2 a3 a4 a5 a6 a7 a8 a9 a10 a11 I (unit3 I t σ)) := by
  obtain ⟨x2, x3, x4, x5, x6, x7, x8⟩ := I
  obtain ⟨x9, x10, x11⟩ := σ
  unfold holds k0_t3_body
  simp only [k0_part9_eq_skeleton, k0_part10_eq_skeleton, k0_part11_eq_skeleton, k0_part12_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  dsimp only at e2 e3 e4 e5 e6 e7 e8 e9 e10 e11
  subst e2 e3 e4 e5 e6 e7 e8 e9 e10 e11
  sl_exec
  sl_step
  let u : Rows F := Ins.rows ⟨a2.view.read (Elt F) f2, a3.view.read (Elt F) f3, a4.view.read (Elt F) f4, a5.view.read (Elt F) f5,
    a6.view.read (Elt F) f6, a7.view.read (Elt F) f7, a8.view.read (Elt F) f8⟩ (cut3 t) (coef (a2.view.read (Elt F) f2) ![2, 0] inb_S3x2_S1x1_2_0)
    (coef (a2.view.read (Elt F) f2) ![2, 1] inb_S3x2_S1x1_2_1) (k0_pay56 k0_pay4 k0_pay5 0#32 1#32 t)
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact read_writes_put a9.view f9 ⟨(cut3 t).own, u.dq⟩ []
  isplitl [H10]
  · iexists _; isplitr
    swap; · iexact H10
    ipureintro
    exact read_writes_two a10.view f10 (cut3 t).own (cut3 t).prev (u.dkOwn) u.dkPrev
  · iexists _; isplitr
    swap; · iexact H11
    ipureintro
    exact read_writes_two a11.view f11 (cut3 t).own (cut3 t).prev (u.dvOwn) u.dvPrev

end Loops

end Cert.Attn
-- ==== Proof.AttnTiles.lean ====
/- What the units of a pattern leave in the three arrays, whatever those held before. -/
module

public import proofs.«01_k».proof.Proof.AttnBody

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- The units tile the rows; a unit is the first of its line of blocks, or the previous block is the unit before it. -/
structure Tiling (C : Fin 16 → Cut) (first : Fin 16 → Prop) : Prop where
  self : ∀ t, first t → (C t).p = (C t).o
  back : ∀ t, ¬first t → ∃ s : Fin 16, s.val + 1 = t.val ∧ (C t).p = (C s).o
  disj : ∀ s t, s ≠ t → ∀ z z', (C s).own.idx z ≠ (C t).own.idx z'
  cover : ∀ y, ∃ t z, (C t).own.idx z = y
  st : ∀ s t, (C s).st = (C t).st

section Seq
variable {C : Fin 16 → Cut} {first : Fin 16 → Prop} [DecidablePred first] (T : Tiling C first)

theorem idx_eq (C D : Cut) (ho : C.p = D.o) (hs : C.st = D.st) (z : S1x128x128.Idx) : C.prev.idx z = D.own.idx z := by
  obtain ⟨_, p, st, _, _, _⟩ := C
  obtain ⟨o, _, st', _, _, _⟩ := D
  dsimp only at ho hs
  subst ho hs
  rfl

/-- A store at a unit's own rows, then an update at the previous block's rows. -/
def two (C : Cut) (w : Vec F S1x128x128 .f32) (W : Vec F S1x128x128 .f32 → Vec F S1x128x128 .f32) (x : Vec F S1x2048x128 .f32) : Vec F S1x2048x128 .f32 :=
  put (put x ⟨C.own, w⟩) ⟨C.prev, W (View.ld (put x ⟨C.own, w⟩) C.prev)⟩

variable (w : Fin 16 → Vec F S1x128x128 .f32) (W : Fin 16 → Vec F S1x128x128 .f32 → Vec F S1x128x128 .f32)

/-- A unit's rows after its own trip, -/
def mid (first : Fin 16 → Prop) [DecidablePred first] (t : Fin 16) : Vec F S1x128x128 .f32 := if first t then W t (w t) else w t
/-- and after the trips before `n`. -/
def fin (first : Fin 16 → Prop) [DecidablePred first] (t : Fin 16) (n : ℕ) : Vec F S1x128x128 .f32 :=
  if h : t.val + 1 < 16 then if t.val + 1 < n ∧ ¬first ⟨t.val + 1, h⟩ then W ⟨t.val + 1, h⟩ (mid w W first t) else mid w W first t
  else mid w W first t

include T in
theorem put_own (x : Vec F S1x2048x128 .f32) (t : Fin 16) (v : Vec F S1x128x128 .f32) (z : S1x128x128.Idx) :
    put x ⟨(C t).own, v⟩ ((C t).own.idx z) = v z := put_emb x ⟨(C t).own, v⟩ z

include T in
theorem put_other (x : Vec F S1x2048x128 .f32) (s t : Fin 16) (h : s ≠ t) (v : Vec F S1x128x128 .f32) (z : S1x128x128.Idx) :
    put x ⟨(C t).own, v⟩ ((C s).own.idx z) = x ((C s).own.idx z) := by
  apply put_miss
  intro hm
  obtain ⟨z', hz⟩ := (C t).own.exists_idx_of_mem hm
  exact T.disj s t h z z' hz.symm

include T in
theorem put_prev (x : Vec F S1x2048x128 .f32) (s t : Fin 16) (h : (C t).p = (C s).o) (v : Vec F S1x128x128 .f32) :
    put x ⟨(C t).prev, v⟩ = put x ⟨(C s).own, v⟩ := by
  have e : (⟨(C t).prev, v⟩ : View.Piece (Elt F) S1x2048x128 .f32) = ⟨(C s).own, v⟩ := by
    have hs := T.st t s
    generalize C t = A at h hs
    generalize C s = B at h hs
    obtain ⟨_, p, st, _, _, _⟩ := A
    obtain ⟨o, _, st', _, _, _⟩ := B
    dsimp only at h hs
    subst h hs
    rfl
  rw [e]

include T in
theorem seq_fin (x : ℕ → Vec F S1x2048x128 .f32) (hx : ∀ n : Fin 16, x (n.val + 1) = two (C n) (w n) (W n) (x n.val)) :
    ∀ n ≤ 16, ∀ t : Fin 16, t.val < n → ∀ z, x n ((C t).own.idx z) = fin w W first t n z := by
  intro n
  induction n with
  | zero => intro _ t h; omega
  | succ n ih =>
    intro hn t ht z
    have hn' : n < 16 := by omega
    rw [hx ⟨n, hn'⟩]
    dsimp only
    have ih := ih (by omega)
    by_cases hf : first ⟨n, hn'⟩
    · have hp := T.self _ hf
      rw [two, put_prev T _ ⟨n, hn'⟩ ⟨n, hn'⟩ hp]
      by_cases htn : t = ⟨n, hn'⟩
      · subst htn
        rw [put_own T, fin]
        have : ∀ h : n + 1 < 16, ¬(n + 1 < n + 1 ∧ ¬first ⟨n + 1, h⟩) := by omega
        have e : View.ld (put (x n) ⟨(C ⟨n, hn'⟩).own, w ⟨n, hn'⟩⟩) (C ⟨n, hn'⟩).prev = w ⟨n, hn'⟩ := by
          funext z'
          show put (x n) ⟨(C ⟨n, hn'⟩).own, w ⟨n, hn'⟩⟩ ((C ⟨n, hn'⟩).prev.idx z') = _
          rw [idx_eq _ _ hp rfl]
          exact put_own T _ _ _ _
        rw [e]
        split
        · rw [if_neg (this _), mid, if_pos hf]
        · rw [mid, if_pos hf]
      · have htn' : t.val < n := by
          have : t.val ≠ n := fun h => htn (Fin.ext h)
          omega
        rw [put_other T _ _ _ htn, put_other T _ _ _ htn, ih t htn' z, fin, fin]
        split
        · next h =>
          by_cases h1 : t.val + 1 = n
          · have e : (⟨t.val + 1, h⟩ : Fin 16) = ⟨n, hn'⟩ := Fin.ext h1
            rw [if_neg (by omega), if_neg (by rw [e]; tauto)]
          · have : t.val + 1 < n := by omega
            simp only [this, show t.val + 1 < n + 1 by omega]
        · rfl
    · obtain ⟨s, hs, hp⟩ := T.back _ hf
      have hs' : s.val + 1 = n := hs
      have hsn : s ≠ ⟨n, hn'⟩ := by intro h; rw [h] at hs; simp at hs
      rw [two, put_prev T _ s ⟨n, hn'⟩ hp]
      by_cases hts : t = s
      · subst hts
        rw [put_own T]
        have e : View.ld (put (x n) ⟨(C ⟨n, hn'⟩).own, w ⟨n, hn'⟩⟩) (C ⟨n, hn'⟩).prev = mid w W first t := by
          funext z'
          show put (x n) ⟨(C ⟨n, hn'⟩).own, w ⟨n, hn'⟩⟩ ((C ⟨n, hn'⟩).prev.idx z') = _
          rw [idx_eq _ (C t) hp (T.st _ _), put_other T _ _ _ hsn, ih t (by omega) z', fin]
          split
          · rw [if_neg (by omega)]
          · rfl
        rw [e, fin, dif_pos (by omega : t.val + 1 < 16)]
        have e : ∀ h, (⟨t.val + 1, h⟩ : Fin 16) = ⟨n, hn'⟩ := fun _ => Fin.ext hs'
        rw [if_pos ⟨by omega, by rw [e]; exact hf⟩, e]
      · rw [put_other T _ _ _ hts]
        by_cases htn : t = ⟨n, hn'⟩
        · subst htn
          rw [put_own T, fin]
          have : ∀ h : n + 1 < 16, ¬(n + 1 < n + 1 ∧ ¬first ⟨n + 1, h⟩) := by omega
          split
          · rw [if_neg (this _), mid, if_neg hf]
          · rw [mid, if_neg hf]
        · have h1 : t.val ≠ n := fun h => htn (Fin.ext h)
          have h2 : t.val ≠ s.val := fun h => hts (Fin.ext h)
          rw [put_other T _ _ _ htn, ih t (by omega) z, fin, fin]
          split
          · have : t.val + 1 < n := by omega
            simp only [this, show t.val + 1 < n + 1 by omega]
          · rfl

include T in
theorem seq_put (x : ℕ → Vec F S1x2048x128 .f32) (hx : ∀ n : Fin 16, x (n.val + 1) = put (x n.val) ⟨(C n).own, w n⟩) :
    ∀ n ≤ 16, ∀ t : Fin 16, t.val < n → ∀ z, x n ((C t).own.idx z) = w t z := by
  intro n
  induction n with
  | zero => intro _ t h; omega
  | succ n ih =>
    intro hn t ht z
    have hn' : n < 16 := by omega
    rw [hx ⟨n, hn'⟩]
    dsimp only
    by_cases htn : t = ⟨n, hn'⟩
    · subst htn; rw [put_own T]
    · have h1 : t.val ≠ n := fun h => htn (Fin.ext h)
      rw [put_other T _ _ _ htn, ih (by omega) t (by omega) z]

variable (u : Fin 16 → Rows F) (f : Fin 16 → Outs F → Outs F) (hf : ∀ t, f t = (u t).step (C t)) (σ : Outs F)

include T hf in
theorem after_dq (t : Fin 16) (z) : (after f σ 16).dq ((C t).own.idx z) = (u t).dq z :=
  seq_put T (fun t => (u t).dq) (fun n => (after f σ n).dq) (fun n => by rw [after_succ, hf]; rfl) 16 le_rfl t t.isLt z

include T hf in
theorem after_dk (t : Fin 16) (z) :
    (after f σ 16).dk ((C t).own.idx z) = fin (fun t => (u t).dkOwn) (fun t => (u t).dkPrev) first t 16 z :=
  seq_fin T (fun t => (u t).dkOwn) (fun t => (u t).dkPrev) (fun n => (after f σ n).dk) (fun n => by rw [after_succ, hf]; rfl)
    16 le_rfl t t.isLt z

include T hf in
theorem after_dv (t : Fin 16) (z) :
    (after f σ 16).dv ((C t).own.idx z) = fin (fun t => (u t).dvOwn) (fun t => (u t).dvPrev) first t 16 z :=
  seq_fin T (fun t => (u t).dvOwn) (fun t => (u t).dvPrev) (fun n => (after f σ n).dv) (fun n => by rw [after_succ, hf]; rfl)
    16 le_rfl t t.isLt z

include T hf in
/-- The units leave the same arrays whatever these held before. -/
theorem after_irrel (σ' : Outs F) : after f σ 16 = after f σ' 16 := by
  have hq : (after f σ 16).dq = (after f σ' 16).dq := by
    funext y; obtain ⟨t, z, rfl⟩ := T.cover y; rw [after_dq T u f hf, after_dq T u f hf]
  have hk : (after f σ 16).dk = (after f σ' 16).dk := by
    funext y; obtain ⟨t, z, rfl⟩ := T.cover y; rw [after_dk T u f hf, after_dk T u f hf]
  have hv : (after f σ 16).dv = (after f σ' 16).dv := by
    funext y; obtain ⟨t, z, rfl⟩ := T.cover y; rw [after_dv T u f hf, after_dv T u f hf]
  revert hq hk hv
  generalize after f σ 16 = A
  generalize after f σ' 16 = B
  obtain ⟨_, _, _⟩ := A
  obtain ⟨_, _, _⟩ := B
  dsimp only
  rintro rfl rfl rfl
  rfl

end Seq

/-! ## The three patterns' tilings -/

section Tilings

/-- A tiling from the arithmetic of its rows: unit `t` owns the rows `row t + d * i`. -/
theorem tiling_of (C : Fin 16 → Cut) (first : Fin 16 → Prop) (row : Fin 16 → ℕ) (d : ℕ)
    (ho : ∀ t, (C t).o = ![0, row t, 0]) (h1 : ∀ t, (C t).st 1 = d) (h2 : ∀ t, (C t).st 2 = 1)
    (hst : ∀ s t, (C s).st = (C t).st) (self : ∀ t, first t → (C t).p = (C t).o)
    (back : ∀ t, ¬ first t → ∃ s : Fin 16, s.val + 1 = t.val ∧ (C t).p = (C s).o)
    (hd : ∀ s t : Fin 16, ∀ i j : ℕ, i < 128 → j < 128 → row s + d * i = row t + d * j → s = t)
    (hc : ∀ y : ℕ, y < 2048 → ∃ t : Fin 16, ∃ i : Fin 128, y = row t + d * i.val) : Tiling C first where
  self := self
  back := back
  disj s t h z z' e := by
    have e1 : ((((C s).own.idx z) 1 : Fin 2048) : ℕ) = ((((C t).own.idx z') 1 : Fin 2048) : ℕ) := by rw [e]
    have e2 : (C s).o 1 + (C s).st 1 * ((z 1 : Fin 128) : ℕ) = (C t).o 1 + (C t).st 1 * ((z' 1 : Fin 128) : ℕ) := e1
    rw [h1, h1, ho, ho] at e2
    exact h (hd s t _ _ (z 1 : Fin 128).isLt (z' 1 : Fin 128).isLt e2)
  cover y := by
    obtain ⟨t, i, h⟩ := hc ((y 1 : Fin 2048) : ℕ) (y 1 : Fin 2048).isLt
    refine ⟨t, fun a => match a with | ⟨0, _⟩ => (0 : Fin 1) | ⟨1, _⟩ => i | ⟨2, _⟩ => (y 2 : Fin 128), ?_⟩
    funext a
    apply Fin.ext
    match a with
    | ⟨0, _⟩ =>
      have : ((y 0 : Fin 1) : ℕ) < 1 := (y 0 : Fin 1).isLt
      show (C t).o 0 + (C t).st 0 * 0 = ((y 0 : Fin 1) : ℕ)
      rw [ho]
      show 0 + (C t).st 0 * 0 = ((y 0 : Fin 1) : ℕ)
      omega
    | ⟨1, _⟩ =>
      show (C t).o 1 + (C t).st 1 * i.val = ((y 1 : Fin 2048) : ℕ)
      rw [ho, h1, h]
      rfl
    | ⟨2, _⟩ =>
      show (C t).o 2 + (C t).st 2 * ((y 2 : Fin 128) : ℕ) = ((y 2 : Fin 128) : ℕ)
      rw [ho, h2, Nat.one_mul]
      exact Nat.zero_add _
  st := hst

theorem o_cut1 (t : Fin 16) : (cut1 t).o = ![0, 128 * t.val, 0] := off1_eq t
theorem p_cut1 (t : Fin 16) : (cut1 t).p = ![0, 128 * (t.val - 1), 0] := off2_eq t
theorem o_cut2 (t : Fin 16) : (cut2 t).o = ![0, 512 * (t.val % 4) + t.val / 4, 0] := off3_eq t
theorem p_cut2 (t : Fin 16) : (cut2 t).p = ![0, 512 * (t.val % 4 - 1) + t.val / 4, 0] := off4_eq t
theorem o_cut3 (t : Fin 16) : (cut3 t).o = ![0, t.val, 0] := off5_eq t
theorem p_cut3 (t : Fin 16) : (cut3 t).p = ![0, t.val, 0] := off6_eq t

theorem disj1 (s t i j : ℕ) (hi : i < 128) (hj : j < 128) (e : 128 * s + 1 * i = 128 * t + 1 * j) : s = t := by omega
theorem disj2 (s t i j : ℕ) (hs : s < 16) (ht : t < 16) (hi : i < 128) (hj : j < 128)
    (e : 512 * (s % 4) + s / 4 + 4 * i = 512 * (t % 4) + t / 4 + 4 * j) : s = t := by omega
theorem disj3 (s t i j : ℕ) (hs : s < 16) (ht : t < 16) (e : s + 16 * i = t + 16 * j) : s = t := by omega

theorem cov1 (y : ℕ) (hy : y < 2048) : ∃ t : Fin 16, ∃ i : Fin 128, y = 128 * t.val + 1 * i.val :=
  ⟨⟨y / 128, by omega⟩, ⟨y % 128, by omega⟩, by show y = 128 * (y / 128) + 1 * (y % 128); omega⟩
theorem cov2 (y : ℕ) (hy : y < 2048) : ∃ t : Fin 16, ∃ i : Fin 128, y = 512 * (t.val % 4) + t.val / 4 + 4 * i.val :=
  ⟨⟨4 * (y % 4) + y / 512, by omega⟩, ⟨y % 512 / 4, by omega⟩, by
    show y = 512 * ((4 * (y % 4) + y / 512) % 4) + (4 * (y % 4) + y / 512) / 4 + 4 * (y % 512 / 4)
    have b : y / 512 < 4 := by omega
    rw [show (4 * (y % 4) + y / 512) % 4 = y / 512 by omega, show (4 * (y % 4) + y / 512) / 4 = y % 4 by omega]
    omega⟩
theorem cov3 (y : ℕ) (hy : y < 2048) : ∃ t : Fin 16, ∃ i : Fin 128, y = t.val + 16 * i.val :=
  ⟨⟨y % 16, by omega⟩, ⟨y / 16, by omega⟩, by show y = y % 16 + 16 * (y / 16); omega⟩

theorem back1 (t : Fin 16) (h : ¬t.val = 0) : ∃ s : Fin 16, s.val + 1 = t.val ∧ (cut1 t).p = (cut1 s).o :=
  ⟨⟨t.val - 1, by omega⟩, Nat.succ_pred_eq_of_ne_zero h, by rw [p_cut1, o_cut1]⟩
theorem back2 (t : Fin 16) (h : ¬t.val % 4 = 0) : ∃ s : Fin 16, s.val + 1 = t.val ∧ (cut2 t).p = (cut2 s).o :=
  ⟨⟨t.val - 1, by omega⟩, by show t.val - 1 + 1 = t.val; omega, by
    rw [p_cut2, o_cut2, show 512 * (t.val % 4 - 1) + t.val / 4 = 512 * ((t.val - 1) % 4) + (t.val - 1) / 4 by omega]⟩

theorem self1 (t : Fin 16) (h : t.val = 0) : (cut1 t).p = (cut1 t).o := by rw [p_cut1, o_cut1, h]
theorem self2 (t : Fin 16) (h : t.val % 4 = 0) : (cut2 t).p = (cut2 t).o := by rw [p_cut2, o_cut2, h]
theorem self3 (t : Fin 16) (h : True) : (cut3 t).p = (cut3 t).o := by rw [p_cut3, o_cut3]

theorem rows1_disj : ∀ s t : Fin 16, ∀ i j : ℕ, i < 128 → j < 128 →
    (fun t : Fin 16 => 128 * t.val) s + 1 * i = (fun t : Fin 16 => 128 * t.val) t + 1 * j → s = t :=
  fun s t i j hi hj e => Fin.ext (disj1 _ _ i j hi hj e)
theorem st1_1 (t : Fin 16) : (cut1 t).st 1 = 1 := rfl
theorem st1_2 (t : Fin 16) : (cut1 t).st 2 = 1 := rfl
theorem st1_eq (s t : Fin 16) : (cut1 s).st = (cut1 t).st := rfl
theorem tiling1 : Tiling (fun t : Fin 16 => cut1 t) (fun t => t.val = 0) :=
  tiling_of (fun t : Fin 16 => cut1 t) _ (fun t => 128 * t.val) 1 o_cut1 st1_1 st1_2 st1_eq self1 back1 rows1_disj cov1

theorem rows2_disj : ∀ s t : Fin 16, ∀ i j : ℕ, i < 128 → j < 128 →
    (fun t : Fin 16 => 512 * (t.val % 4) + t.val / 4) s + 4 * i = (fun t : Fin 16 => 512 * (t.val % 4) + t.val / 4) t + 4 * j → s = t :=
  fun s t i j hi hj e => Fin.ext (disj2 _ _ i j s.isLt t.isLt hi hj e)
theorem st2_1 (t : Fin 16) : (cut2 t).st 1 = 4 := rfl
theorem st2_2 (t : Fin 16) : (cut2 t).st 2 = 1 := rfl
theorem st2_eq (s t : Fin 16) : (cut2 s).st = (cut2 t).st := rfl
theorem tiling2 : Tiling (fun t : Fin 16 => cut2 t) (fun t => t.val % 4 = 0) :=
  tiling_of (fun t : Fin 16 => cut2 t) _ (fun t => 512 * (t.val % 4) + t.val / 4) 4 o_cut2 st2_1 st2_2 st2_eq self2 back2 rows2_disj cov2

theorem rows3_disj : ∀ s t : Fin 16, ∀ i j : ℕ, i < 128 → j < 128 →
    (fun t : Fin 16 => t.val) s + 16 * i = (fun t : Fin 16 => t.val) t + 16 * j → s = t :=
  fun s t i j hi hj e => Fin.ext (disj3 _ _ i j s.isLt t.isLt e)
theorem st3_1 (t : Fin 16) : (cut3 t).st 1 = 16 := rfl
theorem st3_2 (t : Fin 16) : (cut3 t).st 2 = 1 := rfl
theorem st3_eq (s t : Fin 16) : (cut3 s).st = (cut3 t).st := rfl
theorem tiling3 : Tiling (fun t : Fin 16 => cut3 t) (fun t => True) :=
  tiling_of (fun t : Fin 16 => cut3 t) _ (fun t => t.val) 16 o_cut3 st3_1 st3_2 st3_eq self3 (fun t h => absurd trivial h) rows3_disj cov3

end Tilings

end Cert.Attn
-- ==== Proof.AttnFrame.lean ====
/- The attention gradient's run: its body at a grid point, and both kernels' frames. -/
module

public import proofs.«01_k».proof.Proof.Attn1
public import proofs.«01_k».proof.Proof.Attn2
public import proofs.«01_k».proof.Proof.Attn3
public import proofs.«01_k».proof.Proof.AttnTiles
public import proofs.«01_k».proof.Proof.Gen.KernelIdeal.Frame
public import proofs.«01_k».proof.Defs

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

section Body
variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x2048x128 .f32) (h9 : a9.IsWhole) (a10 : Memref sig .tc .vmem S1x2048x128 .f32) (h10 : a10.IsWhole)
  (a11 : Memref sig .tc .vmem S1x2048x128 .f32) (h11 : a11.IsWhole)

/-- The loop over a pattern's units, from any contents of the three arrays. -/
theorem loop1 (hc : k0_cond1 i = 1#1) (I : Ins F) (σ : Outs F) :
    holds c a2 a3 a4 a5 a6 a7 a8 a9 a10 a11 I σ
      ⊢ wp frame (wpE (defs₀ (F := F)) Variants.none (c : Thread nD τ) none) Set.univ
          (Scf.Loop.for k0_t1_loop (k0_t1_ok i hc) ⟨⟩ (k0_t1_body i a2 h2 a3 h3 a4 h4 a5 h5 a6 h6 a7 h7 a8 h8 a9 h9 a10 h10 a11 h11 hc))
          (fun _ => holds c a2 a3 a4 a5 a6 a7 a8 a9 a10 a11 I (after (unit1 I) σ 16)) := by
  iintro H
  iapply (Scf.wp_for frame (wpE (defs₀ (F := F)) Variants.none (c : Thread nD τ) none) Set.univ k0_t1_loop.lb k0_t1_loop.ub k0_t1_loop.st
    (k0_t1_ok i hc) ⟨⟩ (k0_t1_body i a2 h2 a3 h3 a4 h4 a5 h5 a6 h6 a7 h7 a8 h8 a9 h9 a10 h10 a11 h11 hc)
    (fun n _ => holds c a2 a3 a4 a5 a6 a7 a8 a9 a10 a11 I (after (unit1 I) σ n)) (fun t _ => by
      rw [after_succ]
      exact trip1 c i a2 h2 a3 h3 a4 h4 a5 h5 a6 h6 a7 h7 a8 h8 a9 h9 a10 h10 a11 h11 hc t I _))
  isplitl [H]
  · iexact H
  · iintro %acc H
    iexact H

theorem loop2 (hc : k0_cond2 i = 1#1) (I : Ins F) (σ : Outs F) :
    holds c a2 a3 a4 a5 a6 a7 a8 a9 a10 a11 I σ
      ⊢ wp frame (wpE (defs₀ (F := F)) Variants.none (c : Thread nD τ) none) Set.univ
          (Scf.Loop.for k0_t2_loop (k0_t2_ok i hc) ⟨⟩ (k0_t2_body i a2 h2 a3 h3 a4 h4 a5 h5 a6 h6 a7 h7 a8 h8 a9 h9 a10 h10 a11 h11 hc))
          (fun _ => holds c a2 a3 a4 a5 a6 a7 a8 a9 a10 a11 I (after (unit2 I) σ 16)) := by
  iintro H
  iapply (Scf.wp_for frame (wpE (defs₀ (F := F)) Variants.none (c : Thread nD τ) none) Set.univ k0_t2_loop.lb k0_t2_loop.ub k0_t2_loop.st
    (k0_t2_ok i hc) ⟨⟩ (k0_t2_body i a2 h2 a3 h3 a4 h4 a5 h5 a6 h6 a7 h7 a8 h8 a9 h9 a10 h10 a11 h11 hc)
    (fun n _ => holds c a2 a3 a4 a5 a6 a7 a8 a9 a10 a11 I (after (unit2 I) σ n)) (fun t _ => by
      rw [after_succ]
      exact trip2 c i a2 h2 a3 h3 a4 h4 a5 h5 a6 h6 a7 h7 a8 h8 a9 h9 a10 h10 a11 h11 hc t I _))
  isplitl [H]
  · iexact H
  · iintro %acc H
    iexact H

theorem loop3 (hc : k0_cond3 i = 1#1) (I : Ins F) (σ : Outs F) :
    holds c a2 a3 a4 a5 a6 a7 a8 a9 a10 a11 I σ
      ⊢ wp frame (wpE (defs₀ (F := F)) Variants.none (c : Thread nD τ) none) Set.univ
          (Scf.Loop.for k0_t3_loop (k0_t3_ok i hc) ⟨⟩ (k0_t3_body i a2 h2 a3 h3 a4 h4 a5 h5 a6 h6 a7 h7 a8 h8 a9 h9 a10 h10 a11 h11 hc))
          (fun _ => holds c a2 a3 a4 a5 a6 a7 a8 a9 a10 a11 I (after (unit3 I) σ 16)) := by
  iintro H
  iapply (Scf.wp_for frame (wpE (defs₀ (F := F)) Variants.none (c : Thread nD τ) none) Set.univ k0_t3_loop.lb k0_t3_loop.ub k0_t3_loop.st
    (k0_t3_ok i hc) ⟨⟩ (k0_t3_body i a2 h2 a3 h3 a4 h4 a5 h5 a6 h6 a7 h7 a8 h8 a9 h9 a10 h10 a11 h11 hc)
    (fun n _ => holds c a2 a3 a4 a5 a6 a7 a8 a9 a10 a11 I (after (unit3 I) σ n)) (fun t _ => by
      rw [after_succ]
      exact trip3 c i a2 h2 a3 h3 a4 h4 a5 h5 a6 h6 a7 h7 a8 h8 a9 h9 a10 h10 a11 h11 hc t I _))
  isplitl [H]
  · iexact H
  · iintro %acc H
    iexact H

/-- The pattern the grid's second coordinate names, all its units run over the arrays as they were. -/
def ran (I : Ins F) (σ : Outs F) : Outs F :=
  if k0_cond1 i = 1#1 then after (unit1 I) σ 16 else if k0_cond2 i = 1#1 then after (unit2 I) σ 16 else after (unit3 I) σ 16

theorem conds : ∀ i : grid0.Coords, (k0_cond1 i = 1#1 ∧ k0_cond2 i ≠ 1#1 ∧ k0_cond3 i ≠ 1#1) ∨ (k0_cond1 i ≠ 1#1 ∧ k0_cond2 i = 1#1 ∧ k0_cond3 i ≠ 1#1)
    ∨ (k0_cond1 i ≠ 1#1 ∧ k0_cond2 i ≠ 1#1 ∧ k0_cond3 i = 1#1) := by decide +kernel

theorem body_holds (I : Ins F) (σ : Outs F) :
    holds c a2 a3 a4 a5 a6 a7 a8 a9 a10 a11 I σ
      ⊢ wp frame (wpE (defs₀ (F := F)) Variants.none (c : Thread nD τ) none) Set.univ
          (cc0_attn_bwd i a2 h2 a3 h3 a4 h4 a5 h5 a6 h6 a7 h7 a8 h8 a9 h9 a10 h10 a11 h11)
          (fun _ => holds c a2 a3 a4 a5 a6 a7 a8 a9 a10 a11 I (ran i I σ)) := by
  simp only [cc0_attn_bwd_eq_skeleton]; unfold cc0_attn_bwd_skel
  rcases conds i with ⟨h, h', h''⟩ | ⟨h, h', h''⟩ | ⟨h, h', h''⟩
  · rw [dif_pos h, dif_neg h', dif_neg h'']
    simp only [wp_bind, pure_bind]
    iintro H
    iapply (wp_wand_r frame (wpE (defs₀ (F := F)) Variants.none (c : Thread nD τ) none) Set.univ)
    isplitl [H]
    · iapply (loop1 c i a2 h2 a3 h3 a4 h4 a5 h5 a6 h6 a7 h7 a8 h8 a9 h9 a10 h10 a11 h11 h I σ)
      iexact H
    · iintro %acc H
      sl_step
      rw [ran, if_pos h]
      iexact H
  · rw [dif_neg h, dif_pos h', dif_neg h'']
    simp only [wp_bind, pure_bind]
    iintro H
    iapply (wp_wand_r frame (wpE (defs₀ (F := F)) Variants.none (c : Thread nD τ) none) Set.univ)
    isplitl [H]
    · iapply (loop2 c i a2 h2 a3 h3 a4 h4 a5 h5 a6 h6 a7 h7 a8 h8 a9 h9 a10 h10 a11 h11 h' I σ)
      iexact H
    · iintro %acc H
      sl_step
      rw [ran, if_neg h, if_pos h']
      iexact H
  · rw [dif_neg h, dif_neg h', dif_pos h'']
    simp only [wp_bind, pure_bind]
    iintro H
    iapply (wp_wand_r frame (wpE (defs₀ (F := F)) Variants.none (c : Thread nD τ) none) Set.univ)
    isplitl [H]
    · iapply (loop3 c i a2 h2 a3 h3 a4 h4 a5 h5 a6 h6 a7 h7 a8 h8 a9 h9 a10 h10 a11 h11 h'' I σ)
      iexact H
    · iintro %acc H
      sl_step
      rw [ran, if_neg h, if_neg h']
      iexact H

end Body

/-- The arrays a point leaves do not depend on what they held. -/
theorem ran_irrel (i : grid0.Coords) (I : Ins F) (σ σ' : Outs F) : ran i I σ = ran i I σ' := by
  unfold ran
  split_ifs
  · exact after_irrel tiling1 (rows1 I) (unit1 I) (fun _ => rfl) σ σ'
  · exact after_irrel tiling2 (rows2 I) (unit2 I) (fun _ => rfl) σ σ'
  · exact after_irrel tiling3 (rows3 I) (unit3 I) (fun _ => rfl) σ σ'

/-! ## The pipeline -/

section Run
variable (m : (ℓ : Loc nD τ sig) → Buf (Elt F) ℓ) (ρ : Dev nD → PrngReg)

/-- The inputs' blocks at a point, and -/
def ins (c : Dev nD) (t : Fin cfg0.N) : Ins F :=
  ⟨iblk m c 0 t, iblk m c 1 t, iblk m c 2 t, iblk m c 3 t, iblk m c 4 t, iblk m c 5 t, iblk m c 6 t⟩

/-- the arrays the body leaves there. -/
def left (c : Dev nD) (t : Fin cfg0.N) : Outs F :=
  ran (grid0.coords t) (ins m c t) ⟨iblk m c 1 t, iblk m c 1 t, iblk m c 1 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t).dq
    | ⟨8, _⟩ => (left m c t).dk
    | ⟨9, _⟩ => (left m c t).dv
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t).dq := by dsimp only [dats]
theorem after_8 (c : Dev nD) (t : Fin cfg0.N) : (dats m 0 c).after 8 t = (left m c t).dk := by dsimp only [dats]
theorem after_9 (c : Dev nD) (t : Fin cfg0.N) : (dats m 0 c).after 9 t = (left m c t).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem runs (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none (c : Thread nD τ) none) Set.univ)
  isplitl [H0 H1 H2 H3 H4 H5 H6 H7 H8 H9]
  · iapply (body_holds c (grid0.coords t) _ _ _ _ _ _ _ _ _ _ _ _ _ _ _ _ _ _ _ _ (ins m c t)
      ⟨(dats m 0 c).before 7 t d7, (dats m 0 c).before 8 t d8, (dats m 0 c).before 9 t d9⟩)
    unfold holds ins
    dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %acc
    rw [ran_irrel (grid0.coords t) (ins m c t) _ ⟨iblk m c 1 t, iblk m c 1 t, iblk m c 1 t⟩]
    unfold holds left ins
    dsimp only
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row_eq (t : Fin cfg0.N) : defs₀ (F := F) .tc cfg0.body (cfg0.bodyArgs t (cfg0.slots t)) = bodyAt0 t := by
  unfold defs₀; rw [Defs.onTc_tc]

/-- Every point stores the three outputs. -/
theorem idle_7 : ∀ t : Fin cfg0.N, cfg0.idle 7 (cfg0.grid.coords t) = false :=
  (by decide +kernel : ∀ t : Fin grid0.N, idle0 7 (grid0.coords t) = false)

set_option maxHeartbeats 2000000 in
theorem obligation (c : Dev nD) : BodyObligation (dats (F := F) m 0 c) (defs₀ (F := F)) Variants.none () Set.univ := fun t => by
  rw [bigSep_W0, bigSep_W0, row_eq]
  generalize h7 : cfg0.idle 7 (cfg0.grid.coords t) = b7
  generalize h8 : cfg0.idle 8 (cfg0.grid.coords t) = b8
  generalize h9 : cfg0.idle 9 (cfg0.grid.coords t) = b9
  obtain rfl : b7 = false := h7.symm.trans (idle_7 t)
  obtain rfl : b8 = false := h8.symm.trans (idle_7 t)
  obtain rfl : b9 = false := h9.symm.trans (idle_7 t)
  clear h7 h8 h9
  refine triple_restated (runs m c t) rfl .rfl fun _ => ?_
  unfold post
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
set_option maxHeartbeats 800000 in
theorem launched : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The gradient kernel's frame, over the bits and over the reals. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Run

end Cert.Attn
-- ==== Proof.AttnMath.lean ====
/- The mathematics of one attention head: its gradients over the real numbers, and how the units' sums cover the positions. -/
module

public import Idealize.ShloMosaic.Lib.Pointwise

@[expose] public section

noncomputable section

namespace Cert.Attn

/-- Query `t` sees key `u`: at most 128 steps of `d` back. -/
def Win (d t u : ℕ) : Prop := u ≤ t ∧ t - u ≤ 128 * d ∧ d ∣ t - u
instance (d t u : ℕ) : Decidable (Win d t u) := by unfold Win; infer_instance

/-- One head's inputs and cotangents: the dilation, the slope, queries, keys, values, the output's and the row log-sum's cotangents. -/
structure Head where
  d : ℕ
  a : ℝ
  q : Fin 2048 → Fin 64 → ℝ
  k : Fin 2048 → Fin 64 → ℝ
  v : Fin 2048 → Fin 64 → ℝ
  g : Fin 2048 → Fin 64 → ℝ
  L : Fin 2048 → ℝ

namespace Head
variable (H : Head)

def sc (t u : Fin 2048) : ℝ := (∑ e, H.q t e * H.k u e) * (1 / 8) - H.a * ((t.val : ℝ) - (u.val : ℝ))
def ex (t u : Fin 2048) : ℝ := if Win H.d t u then Real.exp (H.sc t u) else 0
def Z (t : Fin 2048) : ℝ := ∑ u, H.ex t u
def P (t u : Fin 2048) : ℝ := H.ex t u / H.Z t
def O (t : Fin 2048) (e : Fin 64) : ℝ := ∑ u, H.P t u * H.v u e
def D (t : Fin 2048) : ℝ := H.L t - ∑ e, H.g t e * H.O t e
def S (t u : Fin 2048) : ℝ := H.P t u * ((∑ e, H.g t e * H.v u e) + H.D t)
def dQ (t : Fin 2048) (e : Fin 64) : ℝ := (∑ u, H.S t u * H.k u e) * (1 / 8)
def dK (u : Fin 2048) (e : Fin 64) : ℝ := (∑ t, H.S t u * H.q t e) * (1 / 8)
def dV (u : Fin 2048) (e : Fin 64) : ℝ := ∑ t, H.P t u * H.g t e

theorem ex_nonneg (t u : Fin 2048) : 0 ≤ H.ex t u := by unfold ex; split_ifs <;> positivity

theorem Z_pos (t : Fin 2048) : 0 < H.Z t := by
  have h : H.ex t t ≤ H.Z t := Finset.single_le_sum (fun u _ => H.ex_nonneg t u) (Finset.mem_univ t)
  have h' : 0 < H.ex t t := by
    unfold ex
    rw [if_pos ⟨le_rfl, by simp, by simp⟩]
    exact Real.exp_pos _
  exact h'.trans_le h

theorem sum_P (t : Fin 2048) : ∑ u, H.P t u = 1 := by
  unfold P
  rw [← Finset.sum_div]
  exact div_self (H.Z_pos t).ne'

/-- The weights of a query sum to one, so its scores' gradients sum to the row log-sum's cotangent. -/
theorem sum_S (t : Fin 2048) : ∑ u, H.S t u = H.L t := by
  have h : ∀ u, H.S t u = (∑ e, H.g t e * (H.P t u * H.v u e)) + H.P t u * H.D t := fun u => by
    unfold S
    rw [mul_add, Finset.mul_sum]
    congr 1
    exact Finset.sum_congr rfl fun e _ => by ring
  rw [Finset.sum_congr rfl fun u _ => h u, Finset.sum_add_distrib, ← Finset.sum_mul, sum_P, one_mul, Finset.sum_comm]
  have h2 : ∀ e, ∑ u, H.g t e * (H.P t u * H.v u e) = H.g t e * H.O t e := fun e => by rw [← Finset.mul_sum]; rfl
  rw [Finset.sum_congr rfl fun e _ => h2 e, D]
  ring

/-! The same gradients from weights shifted by any row number `M`. -/

section Shift
variable (M : Fin 2048 → ℝ)

def rp (t u : Fin 2048) : ℝ := H.ex t u * Real.exp (-M t)
def rl (t : Fin 2048) : ℝ := H.Z t * Real.exp (-M t)
def rpv (t : Fin 2048) (e : Fin 64) : ℝ := ∑ u, H.rp M t u * H.v u e

theorem rl_pos (t : Fin 2048) : 0 < H.rl M t := mul_pos (H.Z_pos t) (Real.exp_pos _)
theorem sum_rp (t : Fin 2048) : ∑ u, H.rp M t u = H.rl M t := by unfold rp rl Z; rw [Finset.sum_mul]
theorem rp_div (t u : Fin 2048) : H.rp M t u / H.rl M t = H.P t u := by
  unfold rp rl P
  exact mul_div_mul_right _ _ (Real.exp_pos _).ne'
theorem rpv_div (t : Fin 2048) (e : Fin 64) : H.rpv M t e / H.rl M t = H.O t e := by
  unfold rpv O
  rw [Finset.sum_div]
  exact Finset.sum_congr rfl fun u _ => by rw [← rp_div H M]; ring

theorem shift_D (t : Fin 2048) :
    H.L t / H.rl M t + -(∑ e, H.g t e * (1 / (H.rl M t * H.rl M t)) * H.rpv M t e) = H.D t / H.rl M t := by
  have h := (H.rl_pos M t).ne'
  have e1 : ∑ e, H.g t e * (1 / (H.rl M t * H.rl M t)) * H.rpv M t e = (∑ e, H.g t e * H.O t e) / H.rl M t := by
    rw [Finset.sum_div]
    refine Finset.sum_congr rfl fun e _ => ?_
    rw [← rpv_div H M]
    field_simp
  rw [e1, D]
  ring

theorem shift_S (t u : Fin 2048) : (∑ e, H.g t e / H.rl M t * H.v u e + H.D t / H.rl M t) * H.rp M t u = H.S t u := by
  have e1 : ∑ e, H.g t e / H.rl M t * H.v u e = (∑ e, H.g t e * H.v u e) / H.rl M t := by
    rw [Finset.sum_div]
    exact Finset.sum_congr rfl fun e _ => by ring
  rw [e1, S, ← rp_div H M]
  ring

theorem shift_V (u : Fin 2048) (e : Fin 64) : ∑ t, H.g t e / H.rl M t * H.rp M t u = H.dV u e := by
  unfold dV
  exact Finset.sum_congr rfl fun t _ => by rw [← rp_div H M]; ring

theorem log_Z (t : Fin 2048) : M t + Real.log (H.rl M t) = Real.log (H.Z t) := by
  unfold rl
  rw [Real.log_mul (H.Z_pos t).ne' (Real.exp_pos _).ne', Real.log_exp]
  ring

end Shift
end Head

/-! ## The units' sums -/

/-- A sum over 256 columns some of which name positions, against the sum over the positions named. -/
theorem sum_named (W : Fin 2048 → Prop) [DecidablePred W] (ok : Fin 256 → Prop) [DecidablePred ok] (pos : Fin 256 → Fin 2048)
    (inj : ∀ x y, ok x → ok y → pos x = pos y → x = y) (mem : ∀ x, ok x → W (pos x)) (all : ∀ u, W u → ∃ x, ok x ∧ pos x = u)
    (f : Fin 2048 → ℝ) : (∑ x, if ok x then f (pos x) else 0) = ∑ u, if W u then f u else 0 := by
  rw [← Finset.sum_filter, ← Finset.sum_filter]
  refine Finset.sum_bij (fun x _ => pos x) (fun x hx => ?_) (fun x hx y hy h => ?_) (fun u hu => ?_) (fun _ _ => rfl)
  · simpa using mem x (by simpa using hx)
  · exact inj x y (by simpa using hx) (by simpa using hy) h
  · obtain ⟨x, hx, h⟩ := all u (by simpa using hu)
    exact ⟨x, by simpa using hx, h⟩

/-- A query's keys: column `x` of its unit lies `i + 128 - x` steps back. -/
theorem sum_keys (d o : ℕ) (hd : 0 < d) (has : Prop) [Decidable has] (h0 : ¬has → o < d) (i : Fin 128) (t : Fin 2048) (ht : t.val = o + d * i.val)
    (pos : Fin 256 → Fin 2048) (hpos : ∀ x : Fin 256, (128 ≤ x.val ∨ has) → (pos x).val + 128 * d = o + d * x.val) (f : Fin 2048 → ℝ) :
    (∑ x : Fin 256, if (x.val ≤ i.val + 128 ∧ i.val ≤ x.val) ∧ (128 ≤ x.val ∨ has) then f (pos x) else 0)
      = ∑ u : Fin 2048, if Win d t u then f u else 0 := by
  refine sum_named _ _ pos (fun x y hx hy h => ?_) (fun x hx => ?_) (fun u hu => ?_) f
  · have hx' := hpos x hx.2
    have hy' := hpos y hy.2
    rw [h, hy'] at hx'
    have : d * y.val = d * x.val := by omega
    exact Fin.ext (Nat.eq_of_mul_eq_mul_left hd this).symm
  · obtain ⟨⟨h1, h2⟩, h3⟩ := hx
    have h := hpos x h3
    obtain ⟨s, hs⟩ : ∃ s, i.val + 128 = x.val + s := ⟨i.val + 128 - x.val, by omega⟩
    have e : d * i.val + 128 * d = d * x.val + d * s := by rw [← Nat.mul_add, ← hs]; ring
    have hs' : s ≤ 128 := by omega
    have hle : d * s ≤ 128 * d := by rw [Nat.mul_comm 128 d]; exact Nat.mul_le_mul_left d hs'
    refine ⟨by omega, by omega, ⟨s, by omega⟩⟩
  · obtain ⟨h1, h2, s, hs⟩ := hu
    have hs' : s ≤ 128 := by
      rw [hs, Nat.mul_comm 128 d] at h2
      exact Nat.le_of_mul_le_mul_left h2 hd
    obtain ⟨x, hx⟩ : ∃ x : Fin 256, x.val + s = i.val + 128 := ⟨⟨i.val + 128 - s, by omega⟩, by show i.val + 128 - s + s = _; omega⟩
    have hh : 128 ≤ x.val ∨ has := by
      by_contra hc
      push Not at hc
      obtain ⟨hc1, hc2⟩ := hc
      have h0 := h0 hc2
      obtain ⟨r, hr⟩ : ∃ r, s = i.val + 1 + r := ⟨s - i.val - 1, by omega⟩
      have : d * s = d * i.val + d + d * r := by rw [hr]; ring
      omega
    refine ⟨x, ⟨⟨by omega, by omega⟩, hh⟩, ?_⟩
    have h := hpos x hh
    have e : d * i.val + 128 * d = d * x.val + d * s := by rw [← Nat.mul_add, hx]; ring
    apply Fin.ext
    omega

/-- A key's queries: those of its own block not before it, and those of the next block not too far after it. -/
theorem sum_queries (d o : ℕ) (hd : 0 < d) (nxt : Prop) [Decidable nxt] (hn : ¬nxt → 2048 ≤ o + 128 * d) (i : Fin 128)
    (u : Fin 2048) (hu : u.val = o + d * i.val) (own next : Fin 128 → Fin 2048) (hown : ∀ x, (own x).val = o + d * x.val)
    (hnext : nxt → ∀ x, (next x).val = o + 128 * d + d * x.val) (f : Fin 2048 → ℝ) :
    (∑ x : Fin 128, if i.val ≤ x.val then f (own x) else 0) + (if nxt then ∑ x : Fin 128, if x.val ≤ i.val then f (next x) else 0 else 0)
      = ∑ t : Fin 2048, if Win d t u then f t else 0 := by
  have key := sum_named (fun t : Fin 2048 => Win d t u) (fun x : Fin 256 => (i.val ≤ x.val ∧ x.val ≤ i.val + 128) ∧ (x.val < 128 ∨ nxt))
    (fun x => if h : x.val < 128 then own ⟨x.val, h⟩ else next ⟨x.val - 128, by omega⟩)
  have hpos : ∀ x : Fin 256, (x.val < 128 ∨ nxt) → ((if h : x.val < 128 then own ⟨x.val, h⟩ else next ⟨x.val - 128, by omega⟩ : Fin 2048) : ℕ) = o + d * x.val := by
    intro x hx
    split
    · rw [hown]
    · next h =>
      have hx' : nxt := hx.resolve_left h
      rw [hnext hx']
      obtain ⟨w, hw⟩ : ∃ w, x.val = 128 + w := ⟨x.val - 128, by omega⟩
      have : x.val - 128 = w := by omega
      simp only [this]
      rw [hw]; ring
  have key := key (fun x y hx hy h => by
      have hx' := hpos x hx.2
      have hy' := hpos y hy.2
      rw [h, hy'] at hx'
      have : d * y.val = d * x.val := by omega
      exact Fin.ext (Nat.eq_of_mul_eq_mul_left hd this).symm)
    (fun x hx => by
      have h := hpos x hx.2
      obtain ⟨s, hs⟩ : ∃ s, x.val = i.val + s := ⟨x.val - i.val, by omega⟩
      have e : d * x.val = d * i.val + d * s := by rw [hs]; ring
      have hle : d * s ≤ 128 * d := by rw [Nat.mul_comm 128 d]; exact Nat.mul_le_mul_left d (by omega)
      refine ⟨by omega, by omega, ⟨s, by omega⟩⟩)
    (fun t ht => by
      obtain ⟨h1, h2, s, hs⟩ := ht
      have hs' : s ≤ 128 := by
        rw [hs, Nat.mul_comm 128 d] at h2
        exact Nat.le_of_mul_le_mul_left h2 hd
      have e : d * (i.val + s) = d * i.val + d * s := by ring
      have hh : i.val + s < 128 ∨ nxt := by
        by_contra hc
        push Not at hc
        have h0 := hn hc.2
        have h3 : 128 * d ≤ d * (i.val + s) := by rw [Nat.mul_comm 128 d]; exact Nat.mul_le_mul_left d hc.1
        omega
      have hx : i.val + s < 256 := by omega
      refine ⟨⟨i.val + s, hx⟩, ⟨⟨by simp, by simp; omega⟩, hh⟩, ?_⟩
      apply Fin.ext
      rw [hpos ⟨i.val + s, hx⟩ hh]
      dsimp only
      omega) f
  rw [← key]
  have split := Fin.sum_univ_add (a := 128) (b := 128) (fun x : Fin (128 + 128) =>
    if (i.val ≤ x.val ∧ x.val ≤ i.val + 128) ∧ (x.val < 128 ∨ nxt) then
      f (if h : x.val < 128 then own ⟨x.val, h⟩ else next ⟨x.val - 128, by omega⟩) else 0)
  refine Eq.trans ?_ split.symm
  congr 1
  · refine Finset.sum_congr rfl fun x _ => ?_
    have : (Fin.castAdd 128 x).val = x.val := rfl
    simp only [this, x.isLt, dif_pos, true_or, and_true]
    have h' : x.val ≤ i.val + 128 := by omega
    simp only [h', and_true]
  · by_cases hN : nxt
    · rw [if_pos hN]
      refine Finset.sum_congr rfl fun x _ => ?_
      have : (Fin.natAdd 128 x).val = 128 + x.val := rfl
      simp only [this, hN, or_true, and_true, show ¬(128 + x.val < 128) by omega, dif_neg, not_false_eq_true,
        show i.val ≤ 128 + x.val by omega, true_and, show (128 + x.val ≤ i.val + 128) = (x.val ≤ i.val) from propext ⟨by omega, by omega⟩,
        show 128 + x.val - 128 = x.val by omega]
    · rw [if_neg hN]
      symm
      refine Finset.sum_eq_zero fun x _ => ?_
      have : (Fin.natAdd 128 x).val = 128 + x.val := rfl
      rw [if_neg]
      rw [this]
      push Not
      intro _
      exact ⟨by omega, hN⟩

end Cert.Attn

end
-- ==== Proof.AttnUnit.lean ====
/- One unit of the attention gradient over the real numbers: its tiles against its two heads' weights and score gradients. -/
module

public import proofs.«01_k».proof.Proof.AttnBody
public import proofs.«01_k».proof.Proof.AttnMath
public import Idealize.ShloMosaic.Lib.Pointwise

@[expose] public section

noncomputable section

namespace Cert.Attn

open Cert.KernelIdeal Cert.KernelIdeal.Gen Idealize.ShloMosaic Idealize.ShloMosaic.TcCoe

/-! ## Small facts -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem eighth : Ideal.ofBits .f32 0x3E000000#32 = ((1 / 8 : ℝ) : EReal) := by
  simp [Ideal.ofBits, Ideal.ieee, -EReal.coe_mul]; norm_num

theorem select_if {α : Type} (p : Prop) [Decidable p] (a b : α) : Scalar.select (if p then 1#1 else 0#1) a b = if p then a else b := by
  split_ifs <;> rfl

theorem select_not_if {α : Type} (p : Prop) [Decidable p] (a b : α) :
    Scalar.select (IntOp.xori (if p then 1#1 else 0#1) 1#1) a b = if p then b else a := by
  split_ifs <;> rfl

theorem lane_lt : ∀ n : Fin 128, IntOp.cmpi CmpIPredicate.slt (BitVec.ofNat 32 n.val) 64#32 = if n.val < 64 then 1#1 else 0#1 := by decide +kernel

theorem first_apply (i c : Fin 128) : k0_pay2 (ix2 i c) = if c.val < 64 then 1#1 else 0#1 := by
  pointwise [k0_pay2]
  exact lane_lt c

theorem dist_int (i : Fin 128) (x : Fin 256) :
    (IntOp.subi (IntOp.addi (BitVec.ofNat 32 i.val) 128#32) (BitVec.ofNat 32 x.val)).toInt = (i.val : ℤ) + 128 - (x.val : ℤ) := by
  have hi := i.isLt
  have hx := x.isLt
  have e : ∀ n : ℕ, n < 256 → (BitVec.ofNat 32 n).toInt = (n : ℤ) := fun n h => by
    rw [BitVec.toInt_eq_toNat_cond, BitVec.toNat_ofNat, Nat.mod_eq_of_lt (by omega : n < 2 ^ 32), if_pos (by omega)]
  have e128 : (128#32).toInt = 128 := by decide
  simp only [IntOp.subi, IntOp.addi, BitVec.toInt_sub, BitVec.toInt_add, Int.bmod_def, e _ (by omega : i.val < 256), e _ hx, e128]
  simp
  omega

theorem dist_apply (i : Fin 128) (x : Fin 256) : (k0_pay3 (F := Ideal) (ix2 i x) : EReal) = (((i.val : ℝ) + 128 - (x.val : ℝ) : ℝ) : EReal) := by
  pointwise [k0_pay3, k0_pay1]
  show (((IntOp.subi (IntOp.addi (BitVec.ofNat 32 i.val) 128#32) (BitVec.ofNat 32 x.val)).toInt : ℝ) : EReal) = _
  rw [dist_int]
  push_cast
  rfl

/-- The head of a lane pair, and the feature, of a lane. -/
def hd (c : Fin 128) : Fin 2 := ⟨c.val / 64, by omega⟩
def en (c : Fin 128) : Fin 64 := ⟨c.val % 64, by omega⟩

theorem hd_lo (c : Fin 128) (h : c.val < 64) : hd c = 0 := Fin.ext (by show c.val / 64 = 0; omega)
theorem hd_hi (c : Fin 128) (h : ¬c.val < 64) : hd c = 1 := Fin.ext (by show c.val / 64 = 1; omega)

theorem sum_lanes (f g : Fin 128 → ℝ) : (∑ c : Fin 128, if c.val < 64 then f c else g c)
    = (∑ e : Fin 64, f ⟨e.val, by omega⟩) + ∑ e : Fin 64, g ⟨64 + e.val, by omega⟩ := by
  refine (Fin.sum_univ_add (a := 64) (b := 64) (fun c : Fin (64 + 64) => if c.val < 64 then f c else g c)).trans ?_
  refine congrArg₂ (· + ·) (Finset.sum_congr rfl fun e _ => ?_) (Finset.sum_congr rfl fun e _ => ?_)
  · exact if_pos (show (Fin.castAdd 64 e).val < 64 from e.isLt)
  · exact if_neg (show ¬(Fin.natAdd 64 e).val < 64 by show ¬(64 + e.val < 64); omega)

theorem sum_lo (f : Fin 2 → Fin 64 → ℝ) : (∑ c : Fin 128, if c.val < 64 then f (hd c) (en c) else 0) = ∑ e, f 0 e := by
  rw [sum_lanes]
  simp only [Finset.sum_const_zero, add_zero]
  refine Finset.sum_congr rfl fun e _ => ?_
  rw [hd_lo _ e.isLt]
  congr 1
  exact Fin.ext (Nat.mod_eq_of_lt e.isLt)

theorem sum_hi (f : Fin 2 → Fin 64 → ℝ) : (∑ c : Fin 128, if c.val < 64 then 0 else f (hd c) (en c)) = ∑ e, f 1 e := by
  rw [sum_lanes]
  simp only [Finset.sum_const_zero, zero_add]
  refine Finset.sum_congr rfl fun e _ => ?_
  rw [hd_hi _ (by show ¬(64 + e.val < 64); omega)]
  congr 1
  exact Fin.ext (by show (64 + e.val) % 64 = e.val; omega)

/-! ## What a unit reads -/

/-- A unit's two heads, the positions of its rows and of its 256 columns, and whether a block lies before it. -/
structure Tile where
  H : Fin 2 → Head
  own : Fin 128 → Fin 2048
  pos : Fin 256 → Fin 2048
  has : Prop
  dec : Decidable has

namespace Tile
variable (T : Tile)
instance : Decidable T.has := T.dec
def Ok (i : Fin 128) (x : Fin 256) : Prop := (x.val ≤ i.val + 128 ∧ i.val ≤ x.val) ∧ (128 ≤ x.val ∨ T.has)
instance (i : Fin 128) (x : Fin 256) : Decidable (T.Ok i x) := by unfold Ok; infer_instance
def w (j : Fin 2) (i : Fin 128) (x : Fin 256) : ℝ := if T.Ok i x then (T.H j).P (T.own i) (T.pos x) else 0
def s (j : Fin 2) (i : Fin 128) (x : Fin 256) : ℝ := if T.Ok i x then (T.H j).S (T.own i) (T.pos x) else 0
end Tile

structure Reads (u : Rows Ideal) (T : Tile) : Prop where
  q : ∀ i c, (u.q (ix3 0 i c) : EReal) = (((T.H (hd c)).q (T.own i) (en c) : ℝ) : EReal)
  g : ∀ i c, (u.g (ix3 0 i c) : EReal) = (((T.H (hd c)).g (T.own i) (en c) : ℝ) : EReal)
  k : ∀ x c, (u.Kc (ix2 x c) : EReal) = (((T.H (hd c)).k (T.pos x) (en c) : ℝ) : EReal)
  v : ∀ x c, (u.Vc (ix2 x c) : EReal) = (((T.H (hd c)).v (T.pos x) (en c) : ℝ) : EReal)
  l : ∀ i c, (u.l (ix3 0 i c) : EReal) = ((Real.log ((T.H (hd c)).Z (T.own i)) : ℝ) : EReal)
  d : ∀ i c, (u.d (ix3 0 i c) : EReal) = (((T.H (hd c)).D (T.own i) : ℝ) : EReal)
  c0 : (u.c0 : EReal) = (((T.H 0).a * (T.H 0).d : ℝ) : EReal)
  c1 : (u.c1 : EReal) = (((T.H 1).a * (T.H 1).d : ℝ) : EReal)
  ok : ∀ i x, u.ok (ix2 i x) = if T.Ok i x then 1#1 else 0#1
  win : ∀ j i x, T.Ok i x → Win (T.H j).d (T.own i) (T.pos x)
  dist : ∀ j i x, T.Ok i x → ((T.H j).d : ℝ) * ((i.val : ℝ) + 128 - (x.val : ℝ)) = ((T.own i).val : ℝ) - ((T.pos x).val : ℝ)

section
variable {u : Rows Ideal} {T : Tile} (R : Reads u T)
include R

theorem Reads.s0 (i : Fin 128) (x : Fin 256) : (u.s0 (ix2 i x) : EReal)
    = (((∑ e, (T.H 0).q (T.own i) e * (T.H 0).k (T.pos x) e) * (1 / 8) - (T.H 0).a * (T.H 0).d * ((i.val : ℝ) + 128 - (x.val : ℝ)) : ℝ) : EReal) := by
  have hk := R.k
  unfold Rows.Kc at hk
  unfold Rows.s0
  pointwise [k0_pay16, k0_pay10]
  rw [dist_apply, R.c0, eighth]
  simp only [R.q, hk, first_apply, select_if, ← EReal.coe_mul, ← EReal.coe_zero]
  simp only [← apply_ite (Real.toEReal), coe_sum, ← EReal.coe_mul, ← EReal.coe_sub]
  rw [sum_lo (fun j e => (T.H j).q (T.own i) e * (T.H j).k (T.pos x) e)]

/-- A masked weight: the exponential of the score less the row log-sum. -/
theorem Reads.weight (j : Fin 2) (i : Fin 128) (x : Fin 256) (b : ℝ) :
    (Scalar.select (u.ok (ix2 i x)) (Ideal.exp (Scalar.select (u.ok (ix2 i x))
        (((∑ e, (T.H j).q (T.own i) e * (T.H j).k (T.pos x) e) * (1 / 8) - (T.H j).a * (T.H j).d * ((i.val : ℝ) + 128 - (x.val : ℝ)) : ℝ) : EReal)
        (Ideal.ofBits FTy.f32 4048155338#32) - ((Real.log ((T.H j).Z (T.own i)) : ℝ) : EReal))) 0 : EReal) = ((T.w j i x : ℝ) : EReal) := by
  rw [R.ok, select_if, select_if]
  unfold Tile.w
  split_ifs with h
  · rw [← EReal.coe_sub, Ideal.exp_coe, Real.exp_sub, Real.exp_log ((T.H j).Z_pos _)]
    unfold Head.P Head.ex Head.sc
    rw [if_pos (R.win j i x h), ← R.dist j i x h]
    congr 4
    ring
  · rfl

theorem Reads.w0 (i : Fin 128) (x : Fin 256) :
    (k0_pay18 u.ok (k0_pay14 u.l) u.s0 k0_pay17 (ix2 i x) : EReal) = ((T.w 0 i x : ℝ) : EReal) := by
  have h := R.weight 0 i x 0
  rw [← h]
  have hl : (u.l (ix3 0 i 0) : EReal) = _ := R.l i 0
  rw [hd_lo 0 (by decide)] at hl
  have hs := R.s0 i x
  pointwise [k0_pay18, k0_pay17, k0_pay14]
  rw [hl, hs]

theorem Reads.w1 (i : Fin 128) (x : Fin 256) : (u.p1 (ix2 i x) : EReal) = ((T.w 1 i x : ℝ) : EReal) := by
  have h := R.weight 1 i x 0
  rw [← h]
  have hl : (u.l (ix3 0 i 64) : EReal) = _ := R.l i 64
  rw [hd_hi 64 (by decide)] at hl
  have hk := R.k
  unfold Rows.p1
  pointwise [k0_pay23, k0_pay14, k0_pay10]
  rw [dist_apply, R.c1, eighth, hl]
  simp only [R.q, hk, first_apply, select_not_if, ← EReal.coe_mul, ← EReal.coe_zero]
  simp only [← apply_ite (Real.toEReal), coe_sum, ← EReal.coe_mul, ← EReal.coe_sub]
  rw [sum_hi (fun j e => (T.H j).q (T.own i) e * (T.H j).k (T.pos x) e)]

theorem Reads.s_eq (j : Fin 2) (i : Fin 128) (x : Fin 256) :
    T.w j i x * ((∑ e, (T.H j).g (T.own i) e * (T.H j).v (T.pos x) e) + (T.H j).D (T.own i)) = T.s j i x := by
  unfold Tile.w Tile.s Head.S
  split_ifs
  · rfl
  · exact zero_mul _

theorem Reads.S0 (i : Fin 128) (x : Fin 256) :
    (k0_pay19 k0_pay2 u.ok (k0_pay11 u.g) u.Vc (k0_pay14 u.l) (k0_pay15 u.d) u.s0 k0_pay17 (ix2 i x) : EReal) = ((T.s 0 i x : ℝ) : EReal) := by
  have hd' : (u.d (ix3 0 i 0) : EReal) = _ := R.d i 0
  rw [hd_lo 0 (by decide)] at hd'
  have hw := R.w0 i x
  have hv := R.v
  pointwise [k0_pay19, k0_pay11, k0_pay15]
  rw [hw, hd']
  simp only [R.g, hv, first_apply, select_if, ← EReal.coe_mul, ← EReal.coe_zero]
  simp only [← apply_ite (Real.toEReal), coe_sum, ← EReal.coe_mul, ← EReal.coe_add]
  rw [sum_lo (fun j e => (T.H j).g (T.own i) e * (T.H j).v (T.pos x) e), R.s_eq]

theorem Reads.S1 (i : Fin 128) (x : Fin 256) :
    (u.p1 (ix2 i x) * (u.e1 (ix2 i x) + k0_pay25 (k0_pay15 u.d) (ix2 i x)) : EReal) = ((T.s 1 i x : ℝ) : EReal) := by
  have hd' : (u.d (ix3 0 i 64) : EReal) = _ := R.d i 64
  rw [hd_hi 64 (by decide)] at hd'
  have hv := R.v
  rw [R.w1]
  unfold Rows.e1
  pointwise [k0_pay24, k0_pay25, k0_pay11, k0_pay15]
  rw [hd']
  simp only [R.g, hv, first_apply, select_not_if, ← EReal.coe_mul, ← EReal.coe_zero]
  simp only [← apply_ite (Real.toEReal), coe_sum, ← EReal.coe_mul, ← EReal.coe_add]
  rw [sum_hi (fun j e => (T.H j).g (T.own i) e * (T.H j).v (T.pos x) e), R.s_eq]

/-- The queries' gradients. -/
theorem Reads.dq (i c : Fin 128) : (u.dq (ix3 0 i c) : EReal)
    = (((∑ x, T.s (hd c) i x * (T.H (hd c)).k (T.pos x) (en c)) * (1 / 8) : ℝ) : EReal) := by
  have hk := R.k
  have h0 := R.S0 i
  have h1 := R.S1 i
  unfold Rows.dq Rows.dq0
  pointwise [k0_pay27, k0_pay20, k0_pay26]
  rw [eighth]
  simp only [first_apply, select_if, h0, h1, hk, ← EReal.coe_mul, coe_sum]
  rw [← apply_ite (Real.toEReal), ← EReal.coe_mul]
  congr 2
  split_ifs with h
  · rw [hd_lo c h]
  · rw [hd_hi c h]

/-- The own keys' gradients, -/
theorem Reads.dkOwn (i c : Fin 128) : (u.dkOwn (ix3 0 i c) : EReal)
    = (((∑ y, T.s (hd c) y ⟨128 + i.val, by omega⟩ * (T.H (hd c)).q (T.own y) (en c)) * (1 / 8) : ℝ) : EReal) := by
  have h0 := R.S0
  have h1 := R.S1
  have hq := R.q
  unfold Rows.dkOwn Rows.dk0
  pointwise [k0_pay30, k0_pay28, k0_pay21, k0_pay26, k0_pay10]
  rw [eighth]
  simp only [first_apply, select_if, h0, h1, hq, ← EReal.coe_mul, coe_sum]
  rw [← apply_ite (Real.toEReal), ← EReal.coe_mul]
  congr 2
  split_ifs with h
  · rw [hd_lo c h]
  · rw [hd_hi c h]

/-- what is added to the previous keys', -/
theorem Reads.dkPrev (x : Vec Ideal S1x128x128 .f32) (i c : Fin 128) : (u.dkPrev x (ix3 0 i c) : EReal)
    = x (ix3 0 i c) + (((∑ y, T.s (hd c) y ⟨i.val, by omega⟩ * (T.H (hd c)).q (T.own y) (en c)) * (1 / 8) : ℝ) : EReal) := by
  have h0 := R.S0
  have h1 := R.S1
  have hq := R.q
  unfold Rows.dkPrev Rows.dk0
  pointwise [k0_pay32, k0_pay28, k0_pay21, k0_pay26, k0_pay10]
  rw [eighth]
  simp only [first_apply, select_if, h0, h1, hq, ← EReal.coe_mul, coe_sum]
  rw [← apply_ite (Real.toEReal), ← EReal.coe_mul]
  congr 3
  split_ifs with h
  · rw [hd_lo c h]
  · rw [hd_hi c h]

/-- the own values', -/
theorem Reads.dvOwn (i c : Fin 128) : (u.dvOwn (ix3 0 i c) : EReal)
    = ((∑ y, T.w (hd c) y ⟨128 + i.val, by omega⟩ * (T.H (hd c)).g (T.own y) (en c) : ℝ) : EReal) := by
  have h0 := R.w0
  have h1 := R.w1
  have hg := R.g
  unfold Rows.dvOwn Rows.dv0
  pointwise [k0_pay31, k0_pay29, k0_pay22, k0_pay11]
  simp only [first_apply, select_if, h0, h1, hg, ← EReal.coe_mul, coe_sum]
  rw [← apply_ite (Real.toEReal)]
  congr 1
  split_ifs with h
  · rw [hd_lo c h]
  · rw [hd_hi c h]

/-- and what is added to the previous values'. -/
theorem Reads.dvPrev (x : Vec Ideal S1x128x128 .f32) (i c : Fin 128) : (u.dvPrev x (ix3 0 i c) : EReal)
    = x (ix3 0 i c) + ((∑ y, T.w (hd c) y ⟨i.val, by omega⟩ * (T.H (hd c)).g (T.own y) (en c) : ℝ) : EReal) := by
  have h0 := R.w0
  have h1 := R.w1
  have hg := R.g
  unfold Rows.dvPrev Rows.dv0
  pointwise [k0_pay6, k0_pay29, k0_pay22, k0_pay11]
  simp only [first_apply, select_if, h0, h1, hg, ← EReal.coe_mul, coe_sum]
  rw [← apply_ite (Real.toEReal)]
  congr 2
  split_ifs with h
  · rw [hd_lo c h]
  · rw [hd_hi c h]

end

end Cert.Attn

end
-- ==== Proof.AttnLine.lean ====
/- A pattern's units together: every row's gradients, over the real numbers. -/
module

public import proofs.«01_k».proof.Proof.AttnUnit
public import proofs.«01_k».proof.Proof.AttnTiles

@[expose] public section

noncomputable section

namespace Cert.Attn

open Cert.KernelIdeal Cert.KernelIdeal.Gen Idealize.ShloMosaic Idealize.ShloMosaic.TcCoe

/-- A pattern: where each unit's rows and the block before it begin, the step between rows, and which units come first. -/
structure Line where
  d : ℕ
  row : Fin 16 → ℕ
  prow : Fin 16 → ℕ
  first : Fin 16 → Prop
  dec : DecidablePred first
  hd : 0 < d
  hr : ∀ t, row t + d * 127 < 2048
  hp : ∀ t, prow t + d * 127 < 2048
  back : ∀ t, ¬first t → prow t + 128 * d = row t
  low : ∀ t, first t → row t < d
  next : ∀ (t : Fin 16) (h : t.val + 1 < 16), ¬first ⟨t.val + 1, h⟩ → row ⟨t.val + 1, h⟩ = row t + 128 * d
  last : ∀ t : Fin 16, (∀ h : t.val + 1 < 16, first ⟨t.val + 1, h⟩) → 2048 ≤ row t + 128 * d

namespace Line
variable (P : Line) (H : Fin 2 → Head)

instance : DecidablePred P.first := P.dec

theorem le127 (d : ℕ) (i : Fin 128) : d * i.val ≤ d * 127 := Nat.mul_le_mul_left d (by omega)

def at' (t : Fin 16) (i : Fin 128) : Fin 2048 := ⟨P.row t + P.d * i.val, by have := P.hr t; have := le127 P.d i; omega⟩
def before (t : Fin 16) (i : Fin 128) : Fin 2048 := ⟨P.prow t + P.d * i.val, by have := P.hp t; have := le127 P.d i; omega⟩
def col (t : Fin 16) (x : Fin 256) : Fin 2048 := if h : x.val < 128 then P.before t ⟨x.val, h⟩ else P.at' t ⟨x.val - 128, by omega⟩

theorem col_lo (t : Fin 16) (i : Fin 128) : P.col t ⟨i.val, by omega⟩ = P.before t i := dif_pos i.isLt
theorem col_hi (t : Fin 16) (i : Fin 128) : P.col t ⟨128 + i.val, by omega⟩ = P.at' t i := by
  unfold col
  rw [dif_neg (by dsimp only; omega)]
  congr 1
  exact Fin.ext (by dsimp only; omega)

/-- The unit's tile. -/
def tile (t : Fin 16) : Tile where
  H := H
  own := P.at' t
  pos := P.col t
  has := ¬P.first t
  dec := inferInstance

theorem col_val (t : Fin 16) (x : Fin 256) (h : 128 ≤ x.val ∨ ¬P.first t) : (P.col t x).val + 128 * P.d = P.row t + P.d * x.val := by
  unfold col
  split
  · next hx =>
    have hb := P.back t (h.resolve_left (by omega))
    show P.prow t + P.d * x.val + 128 * P.d = _
    omega
  · next hx =>
    show P.row t + P.d * (x.val - 128) + 128 * P.d = _
    obtain ⟨w, hw⟩ : ∃ w, x.val = 128 + w := ⟨x.val - 128, by omega⟩
    rw [hw, Nat.add_sub_cancel_left]
    ring

theorem win (t : Fin 16) (i : Fin 128) (x : Fin 256) (h : (P.tile H t).Ok i x) : Win P.d (P.at' t i) (P.col t x) := by
  obtain ⟨⟨h1, h2⟩, h3⟩ := h
  have hv := P.col_val t x h3
  have ho : (P.at' t i).val = P.row t + P.d * i.val := rfl
  obtain ⟨s, hs⟩ : ∃ s, i.val + 128 = x.val + s := ⟨i.val + 128 - x.val, by omega⟩
  have e : P.d * i.val + 128 * P.d = P.d * x.val + P.d * s := by rw [← Nat.mul_add, ← hs]; ring
  have hle : P.d * s ≤ 128 * P.d := by rw [Nat.mul_comm 128 P.d]; exact Nat.mul_le_mul_left _ (by omega)
  exact ⟨by omega, by omega, ⟨s, by omega⟩⟩

theorem dist (t : Fin 16) (i : Fin 128) (x : Fin 256) (h : (P.tile H t).Ok i x) :
    (P.d : ℝ) * ((i.val : ℝ) + 128 - (x.val : ℝ)) = ((P.at' t i).val : ℝ) - ((P.col t x).val : ℝ) := by
  have hv := P.col_val t x h.2
  have ho : (P.at' t i).val = P.row t + P.d * i.val := rfl
  have hv' : ((P.col t x).val : ℝ) + 128 * P.d = P.row t + P.d * x.val := by exact_mod_cast hv
  have ho' : ((P.at' t i).val : ℝ) = P.row t + P.d * i.val := by exact_mod_cast ho
  rw [ho']
  linarith

/-- Off the window a weight and a score's gradient are zero. -/
theorem P_off (j : Fin 2) (hH : (H j).d = P.d) (t u : Fin 2048) : (H j).P t u = if Win P.d t u then (H j).P t u else 0 := by
  split_ifs with h
  · rfl
  · unfold Head.P Head.ex; rw [hH, if_neg h, zero_div]
theorem S_off (j : Fin 2) (hH : (H j).d = P.d) (t u : Fin 2048) : (H j).S t u = if Win P.d t u then (H j).S t u else 0 := by
  have h := P.P_off H j hH t u
  split_ifs at h ⊢ with hw
  · rfl
  · unfold Head.S; rw [h, zero_mul]

theorem row_sum (t : Fin 16) (i : Fin 128) (A f : Fin 2048 → ℝ) (hA : ∀ u, A u = if Win P.d (P.at' t i) u then A u else 0) :
    (∑ x, (if (P.tile H t).Ok i x then A (P.col t x) else 0) * f (P.col t x)) = ∑ u, A u * f u := by
  have h := sum_keys P.d (P.row t) P.hd (¬P.first t) (fun h => P.low t (not_not.mp h)) i (P.at' t i) rfl (P.col t)
    (fun x hx => P.col_val t x hx) (fun u => A u * f u)
  refine Eq.trans (Finset.sum_congr rfl fun x _ => ?_) (h.trans (Finset.sum_congr rfl fun u _ => ?_))
  · rw [ite_mul, zero_mul]; rfl
  · rw [hA u]
    split_ifs with hw
    · rfl
    · rw [zero_mul]

/-- A key's column: its own unit's queries, and the next unit's. -/
theorem col_sum (t : Fin 16) (i : Fin 128) (A : Fin 2048 → Fin 2048 → ℝ) (f : Fin 2048 → ℝ) (hA : ∀ t u, A t u = if Win P.d t u then A t u else 0) :
    (∑ y, (if (P.tile H t).Ok y ⟨128 + i.val, by omega⟩ then A (P.at' t y) (P.col t ⟨128 + i.val, by omega⟩) else 0) * f (P.at' t y))
      + (if h : t.val + 1 < 16 then if ¬P.first ⟨t.val + 1, h⟩ then
          ∑ y, (if (P.tile H ⟨t.val + 1, h⟩).Ok y ⟨i.val, by omega⟩ then A (P.at' ⟨t.val + 1, h⟩ y) (P.col ⟨t.val + 1, h⟩ ⟨i.val, by omega⟩) else 0)
            * f (P.at' ⟨t.val + 1, h⟩ y) else 0 else 0)
      = ∑ s, A s (P.at' t i) * f s := by
  have hA' : ∀ s, A s (P.at' t i) * f s = if Win P.d s (P.at' t i) then A s (P.at' t i) * f s else 0 := fun s => by
    have h := hA s (P.at' t i)
    split_ifs at h ⊢ with hw
    · rfl
    · rw [h, zero_mul]
  have own : ∀ y : Fin 128, (if (P.tile H t).Ok y ⟨128 + i.val, by omega⟩ then A (P.at' t y) (P.col t ⟨128 + i.val, by omega⟩) else 0) * f (P.at' t y)
      = if i.val ≤ y.val then A (P.at' t y) (P.at' t i) * f (P.at' t y) else 0 := fun y => by
    rw [col_hi, ite_mul, zero_mul]
    refine if_congr ?_ rfl rfl
    show (128 + i.val ≤ y.val + 128 ∧ y.val ≤ 128 + i.val) ∧ (128 ≤ 128 + i.val ∨ ¬P.first t) ↔ _
    constructor
    · intro h; omega
    · intro h; exact ⟨⟨by omega, by omega⟩, .inl (by omega)⟩
  rw [Finset.sum_congr rfl fun y _ => own y, Finset.sum_congr rfl fun s _ => hA' s]
  by_cases hN : ∃ h : t.val + 1 < 16, ¬P.first ⟨t.val + 1, h⟩
  · obtain ⟨h, hf⟩ := hN
    rw [dif_pos h, if_pos hf]
    have hn := P.next t h hf
    have key := sum_queries P.d (P.row t) P.hd True (fun h => absurd trivial h) i (P.at' t i) rfl (P.at' t) (P.at' ⟨t.val + 1, h⟩)
      (fun _ => rfl) (fun _ x => by show P.row ⟨t.val + 1, h⟩ + P.d * x.val = _; rw [hn]) (fun s => A s (P.at' t i) * f s)
    rw [if_pos trivial] at key
    rw [← key]
    congr 1
    refine Finset.sum_congr rfl fun y _ => ?_
    have hb : P.before ⟨t.val + 1, h⟩ i = P.at' t i := Fin.ext (by
      have := P.back _ hf
      show P.prow ⟨t.val + 1, h⟩ + P.d * i.val = P.row t + P.d * i.val
      omega)
    rw [col_lo, hb, ite_mul, zero_mul]
    refine if_congr ?_ rfl rfl
    show (i.val ≤ y.val + 128 ∧ y.val ≤ i.val) ∧ (128 ≤ i.val ∨ ¬P.first ⟨t.val + 1, h⟩) ↔ _
    constructor
    · intro h; omega
    · intro h; exact ⟨⟨by omega, by omega⟩, .inr hf⟩
  · have hl : ∀ h : t.val + 1 < 16, P.first ⟨t.val + 1, h⟩ := fun h => by
      by_contra hf
      exact hN ⟨h, hf⟩
    have key := sum_queries P.d (P.row t) P.hd False (fun _ => P.last t hl) i (P.at' t i) rfl (P.at' t) (P.at' t)
      (fun _ => rfl) (fun h => h.elim) (fun s => A s (P.at' t i) * f s)
    rw [if_neg not_false] at key
    rw [← key]
    congr 1
    split_ifs with h hf
    · rfl
    · exact absurd (hl h) hf
    · rfl

/-- A first unit adds nothing to the block it takes for the previous one. -/
theorem first_sum (t : Fin 16) (hf : P.first t) (i : Fin 128) (A f : Fin 128 → ℝ) :
    (∑ y, (if (P.tile H t).Ok y ⟨i.val, by omega⟩ then A y else 0) * f y) = 0 := by
  refine Finset.sum_eq_zero fun y _ => ?_
  rw [if_neg, zero_mul]
  rintro ⟨_, h⟩
  exact h.elim (fun h => by have h' : 128 ≤ i.val := h; omega) (fun h => h hf)

section Units
variable (u : Fin 16 → Rows Ideal) (R : ∀ t, Reads (u t) (P.tile H t)) (hH : ∀ j, (H j).d = P.d)
include R hH

/-- The queries' gradients, -/
theorem dq (t : Fin 16) (i c : Fin 128) : ((u t).dq (ix3 0 i c) : EReal) = (((H (Attn.hd c)).dQ (P.at' t i) (en c) : ℝ) : EReal) := by
  rw [(R t).dq]
  congr 1
  unfold Head.dQ
  congr 1
  exact P.row_sum H t i (fun v => (H (Attn.hd c)).S (P.at' t i) v) (fun v => (H (Attn.hd c)).k v (en c))
    (fun v => P.S_off H _ (hH _) _ v)

/-- the keys', once every unit has run, -/
theorem dk (t : Fin 16) (i c : Fin 128) :
    (fin (fun t => (u t).dkOwn) (fun t => (u t).dkPrev) P.first t 16 (ix3 0 i c) : EReal)
      = (((H (Attn.hd c)).dK (P.at' t i) (en c) : ℝ) : EReal) := by
  have h := P.col_sum H t i (fun s v => (H (Attn.hd c)).S s v) (fun s => (H (Attn.hd c)).q s (en c)) (fun s v => P.S_off H _ (hH _) s v)
  have hmid : (mid (fun t => (u t).dkOwn) (fun t => (u t).dkPrev) P.first t (ix3 0 i c) : EReal)
      = (((∑ y, (P.tile H t).s (Attn.hd c) y ⟨128 + i.val, by omega⟩ * (H (Attn.hd c)).q (P.at' t y) (en c)) * (1 / 8) : ℝ) : EReal) := by
    unfold mid
    split_ifs with hf
    · dsimp only
      rw [(R t).dkPrev, (R t).dkOwn]
      have h0 := P.first_sum H t hf i (fun y => (H (Attn.hd c)).S (P.at' t y) (P.col t ⟨i.val, by omega⟩)) (fun y => (H (Attn.hd c)).q (P.at' t y) (en c))
      rw [show (∑ y, (P.tile H t).s (Attn.hd c) y ⟨i.val, by omega⟩ * ((P.tile H t).H (Attn.hd c)).q ((P.tile H t).own y) (en c)) = 0 from h0,
        zero_mul, EReal.coe_zero, add_zero]
      rfl
    · exact (R t).dkOwn i c
  unfold Head.dK
  rw [← h]
  unfold fin
  split_ifs with h1 h2 h3 h3
  · exact absurd h3 h2.2
  · dsimp only
    rw [(R ⟨t.val + 1, h1⟩).dkPrev, hmid, ← EReal.coe_add, ← add_mul]
    rfl
  · rw [hmid, add_zero]; rfl
  · exact absurd ⟨by omega, h3⟩ h2
  · rw [hmid, add_zero]; rfl

/-- and the values'. -/
theorem dv (t : Fin 16) (i c : Fin 128) :
    (fin (fun t => (u t).dvOwn) (fun t => (u t).dvPrev) P.first t 16 (ix3 0 i c) : EReal)
      = (((H (Attn.hd c)).dV (P.at' t i) (en c) : ℝ) : EReal) := by
  have h := P.col_sum H t i (fun s v => (H (Attn.hd c)).P s v) (fun s => (H (Attn.hd c)).g s (en c)) (fun s v => P.P_off H _ (hH _) s v)
  have hmid : (mid (fun t => (u t).dvOwn) (fun t => (u t).dvPrev) P.first t (ix3 0 i c) : EReal)
      = ((∑ y, (P.tile H t).w (Attn.hd c) y ⟨128 + i.val, by omega⟩ * (H (Attn.hd c)).g (P.at' t y) (en c) : ℝ) : EReal) := by
    unfold mid
    split_ifs with hf
    · dsimp only
      rw [(R t).dvPrev, (R t).dvOwn]
      have h0 := P.first_sum H t hf i (fun y => (H (Attn.hd c)).P (P.at' t y) (P.col t ⟨i.val, by omega⟩)) (fun y => (H (Attn.hd c)).g (P.at' t y) (en c))
      rw [show (∑ y, (P.tile H t).w (Attn.hd c) y ⟨i.val, by omega⟩ * ((P.tile H t).H (Attn.hd c)).g ((P.tile H t).own y) (en c)) = 0 from h0,
        EReal.coe_zero, add_zero]
      rfl
    · exact (R t).dvOwn i c
  unfold Head.dV
  rw [← h]
  unfold fin
  split_ifs with h1 h2 h3 h3
  · exact absurd h3 h2.2
  · dsimp only
    rw [(R ⟨t.val + 1, h1⟩).dvPrev, hmid, ← EReal.coe_add]
    rfl
  · rw [hmid, add_zero]; rfl
  · exact absurd ⟨by omega, h3⟩ h2
  · rw [hmid, add_zero]; rfl

end Units
end Line

end Cert.Attn

end
-- ==== Proof.AttnReads.lean ====
/- The three patterns' units read their two heads' rows. -/
module

public import proofs.«01_k».proof.Proof.AttnLine

@[expose] public section

noncomputable section

namespace Cert.Attn

open Cert.KernelIdeal Cert.KernelIdeal.Gen Idealize.ShloMosaic Idealize.ShloMosaic.TcCoe

/-! ## Which pairs are in the window -/

theorem sle_ite (a b : BitVec 32) : IntOp.cmpi CmpIPredicate.sle a b = if a.toInt ≤ b.toInt then 1#1 else 0#1 := by
  unfold IntOp.cmpi
  simp only [BitVec.sle]
  split_ifs with h <;> simp [h]

theorem sge_ite (a b : BitVec 32) : IntOp.cmpi CmpIPredicate.sge a b = if b.toInt ≤ a.toInt then 1#1 else 0#1 := by
  unfold IntOp.cmpi
  simp only [BitVec.sle]
  split_ifs with h <;> simp [h]

theorem and_ite (p q : Prop) [Decidable p] [Decidable q] :
    IntOp.andi (if p then 1#1 else 0#1) (if q then 1#1 else 0#1) = if p ∧ q then 1#1 else 0#1 := by
  by_cases p <;> by_cases q <;> simp [*, IntOp.andi]

theorem or_ite (p q : Prop) [Decidable p] [Decidable q] :
    IntOp.ori (if p then 1#1 else 0#1) (if q then 1#1 else 0#1) = if p ∨ q then 1#1 else 0#1 := by
  by_cases p <;> by_cases q <;> simp [*, IntOp.ori]

theorem and_or (s : BitVec 1) : IntOp.andi 1#1 (IntOp.ori 0#1 s) = s := by revert s; decide

theorem band_apply (i : Fin 128) (x : Fin 256) : k0_pay4 (ix2 i x) = if x.val ≤ i.val + 128 ∧ i.val ≤ x.val then 1#1 else 0#1 := by
  pointwise [k0_pay4, k0_pay1]
  rw [sge_ite, sle_ite, and_ite, dist_int, show (0#32).toInt = 0 by decide, show (128#32).toInt = 128 by decide]
  refine if_congr ?_ rfl rfl
  omega

theorem own_lanes : ∀ x : Fin 256, IntOp.cmpi CmpIPredicate.sge (BitVec.ofNat 32 x.val) 128#32 = if 128 ≤ x.val then 1#1 else 0#1 := by decide +kernel

theorem own_apply (i : Fin 128) (x : Fin 256) : k0_pay5 (ix2 i x) = if 128 ≤ x.val then 1#1 else 0#1 := by
  pointwise [k0_pay5]
  exact own_lanes x

theorem has1 : ∀ t : Fin 16, k0_pay9 (fun _ => 1#1) (fun _ => 0#1) 0#32 1#32 t (ix2 0 0) = if ¬t.val = 0 then 1#1 else 0#1 := by decide +kernel
theorem has2 : ∀ t : Fin 16, k0_pay33 (fun _ => 1#1) (fun _ => 0#1) 0#32 1#32 t (ix2 0 0) = if ¬t.val % 4 = 0 then 1#1 else 0#1 := by decide +kernel
theorem has3 : ∀ t : Fin 16, k0_pay56 (fun _ => 1#1) (fun _ => 0#1) 0#32 1#32 t (ix2 0 0) = if ¬True then 1#1 else 0#1 := by decide +kernel

theorem ok_of (s : BitVec 1) (has : Prop) [Decidable has] (h : IntOp.andi 1#1 (IntOp.ori 0#1 s) = if has then 1#1 else 0#1) (i : Fin 128) (x : Fin 256) :
    IntOp.andi (k0_pay4 (ix2 i x)) (IntOp.ori (k0_pay5 (ix2 i x)) s)
      = if (x.val ≤ i.val + 128 ∧ i.val ≤ x.val) ∧ (128 ≤ x.val ∨ has) then 1#1 else 0#1 := by
  rw [and_or] at h
  rw [h, band_apply, own_apply, or_ite, and_ite]

theorem ok1 (t : Fin 16) (i : Fin 128) (x : Fin 256) : k0_pay9 k0_pay4 k0_pay5 0#32 1#32 t (ix2 i x)
    = if (x.val ≤ i.val + 128 ∧ i.val ≤ x.val) ∧ (128 ≤ x.val ∨ ¬t.val = 0) then 1#1 else 0#1 := ok_of _ _ (has1 t) i x
theorem ok2 (t : Fin 16) (i : Fin 128) (x : Fin 256) : k0_pay33 k0_pay4 k0_pay5 0#32 1#32 t (ix2 i x)
    = if (x.val ≤ i.val + 128 ∧ i.val ≤ x.val) ∧ (128 ≤ x.val ∨ ¬t.val % 4 = 0) then 1#1 else 0#1 := ok_of _ _ (has2 t) i x
theorem ok3 (t : Fin 16) (i : Fin 128) (x : Fin 256) : k0_pay56 k0_pay4 k0_pay5 0#32 1#32 t (ix2 i x)
    = if (x.val ≤ i.val + 128 ∧ i.val ≤ x.val) ∧ (128 ≤ x.val ∨ ¬True) then 1#1 else 0#1 := ok_of _ _ (has3 t) i x

/-! ## The patterns -/

def line1 : Line where
  d := 1
  row t := 128 * t.val
  prow t := 128 * (t.val - 1)
  first t := t.val = 0
  dec t := inferInstance
  hd := Nat.one_pos
  hr t := by omega
  hp t := by omega
  back t h := by omega
  low t h := by omega
  next t h h' := by simp; omega
  last t h := by
    by_contra hc
    have := h (by omega)
    simp at this

def line2 : Line where
  d := 4
  row t := 512 * (t.val % 4) + t.val / 4
  prow t := 512 * (t.val % 4 - 1) + t.val / 4
  first t := t.val % 4 = 0
  dec t := inferInstance
  hd := by decide
  hr t := by omega
  hp t := by omega
  back t h := by omega
  low t h := by omega
  next t h h' := by dsimp only at h' ⊢; omega
  last t h := by
    by_contra hc
    have := h (by omega)
    dsimp only at this
    omega

def line3 : Line where
  d := 16
  row t := t.val
  prow t := t.val
  first t := True
  dec t := inferInstance
  hd := by decide
  hr t := by omega
  hp t := by omega
  back t h := absurd trivial h
  low t h := t.isLt
  next t h h' := absurd trivial h'
  last t h := by omega

/-! ## What the body is given, of two heads -/

structure Fits (I : Ins Ideal) (H : Fin 2 → Head) : Prop where
  q : ∀ t c, (I.q (ix3 0 t c) : EReal) = (((H (hd c)).q t (en c) : ℝ) : EReal)
  k : ∀ t c, (I.k (ix3 0 t c) : EReal) = (((H (hd c)).k t (en c) : ℝ) : EReal)
  v : ∀ t c, (I.v (ix3 0 t c) : EReal) = (((H (hd c)).v t (en c) : ℝ) : EReal)
  g : ∀ t c, (I.g (ix3 0 t c) : EReal) = (((H (hd c)).g t (en c) : ℝ) : EReal)
  l : ∀ t c, (I.l (ix3 0 t c) : EReal) = ((Real.log ((H (hd c)).Z t) : ℝ) : EReal)
  d : ∀ t c, (I.d (ix3 0 t c) : EReal) = (((H (hd c)).D t : ℝ) : EReal)

section
variable {I : Ins Ideal} {H : Fin 2 → Head} (X : Fits I H) (P : Line) (hH : ∀ j, (H j).d = P.d)

theorem own_at (C : Cut) (t : Fin 16) (ho : C.o = ![0, P.row t, 0]) (hs : C.st = ![1, P.d, 1]) (i c : Fin 128) :
    C.own.idx (ix3 0 i c) = ix3 0 (P.at' t i) c := by
  funext a
  apply Fin.ext
  match a with
  | ⟨0, _⟩ => show C.o 0 + C.st 0 * 0 = 0; rw [ho]; rfl
  | ⟨1, _⟩ => show C.o 1 + C.st 1 * i.val = P.row t + P.d * i.val; rw [ho, hs]; rfl
  | ⟨2, _⟩ =>
    show C.o 2 + C.st 2 * c.val = c.val
    rw [ho, hs]
    show 0 + 1 * c.val = c.val
    omega

theorem prev_at (C : Cut) (t : Fin 16) (hp : C.p = ![0, P.prow t, 0]) (hs : C.st = ![1, P.d, 1]) (i c : Fin 128) :
    C.prev.idx (ix3 0 i c) = ix3 0 (P.before t i) c := by
  funext a
  apply Fin.ext
  match a with
  | ⟨0, _⟩ => show C.p 0 + C.st 0 * 0 = 0; rw [hp]; rfl
  | ⟨1, _⟩ => show C.p 1 + C.st 1 * i.val = P.prow t + P.d * i.val; rw [hp, hs]; rfl
  | ⟨2, _⟩ =>
    show C.p 2 + C.st 2 * c.val = c.val
    rw [hp, hs]
    show 0 + 1 * c.val = c.val
    omega

theorem cat_k (a b : Vec Ideal S1x128x128 .f32) (x : Fin 256) (c : Fin 128) : (k0_pay12 a b (ix2 x c) : EReal)
    = if h : x.val < 128 then a (ix3 0 ⟨x.val, h⟩ c) else b (ix3 0 ⟨x.val - 128, by omega⟩ c) := by
  pointwise [k0_pay12]

theorem cat_v (a b : Vec Ideal S1x128x128 .f32) (x : Fin 256) (c : Fin 128) : (k0_pay13 a b (ix2 x c) : EReal)
    = if h : x.val < 128 then a (ix3 0 ⟨x.val, h⟩ c) else b (ix3 0 ⟨x.val - 128, by omega⟩ c) := by
  pointwise [k0_pay13]

include X hH in
include X hH in
theorem reads (C : Cut) (t : Fin 16) (ho : C.o = ![0, P.row t, 0]) (hp : C.p = ![0, P.prow t, 0]) (hs : C.st = ![1, P.d, 1])
    (c0 c1 : Elt Ideal .f32) (ok : IVec S128x256 1) (h0 : (c0 : EReal) = (((H 0).a * (H 0).d : ℝ) : EReal))
    (h1 : (c1 : EReal) = (((H 1).a * (H 1).d : ℝ) : EReal))
    (hok : ∀ i x, ok (ix2 i x) = if (x.val ≤ i.val + 128 ∧ i.val ≤ x.val) ∧ (128 ≤ x.val ∨ ¬P.first t) then 1#1 else 0#1) :
    Reads (I.rows C c0 c1 ok) (P.tile H t) where
  q i c := by show I.q (C.own.idx (ix3 0 i c)) = _; rw [own_at P C t ho hs]; exact X.q _ c
  g i c := by show I.g (C.own.idx (ix3 0 i c)) = _; rw [own_at P C t ho hs]; exact X.g _ c
  l i c := by show I.l (C.own.idx (ix3 0 i c)) = _; rw [own_at P C t ho hs]; exact X.l _ c
  d i c := by show I.d (C.own.idx (ix3 0 i c)) = _; rw [own_at P C t ho hs]; exact X.d _ c
  k x c := by
    have hk : ∀ i, View.ld I.k C.prev (ix3 0 i c) = I.k (ix3 0 (P.before t i) c) := fun i => congrArg I.k (prev_at P C t hp hs i c)
    have hk' : ∀ i, View.ld I.k C.own (ix3 0 i c) = I.k (ix3 0 (P.at' t i) c) := fun i => congrArg I.k (own_at P C t ho hs i c)
    show k0_pay12 (View.ld I.k C.prev) (View.ld I.k C.own) (ix2 x c) = _
    rw [cat_k]
    show _ = (((H (hd c)).k (P.col t x) (en c) : ℝ) : EReal)
    unfold Line.col
    split_ifs with h
    · exact (hk _).trans (X.k _ c)
    · exact (hk' _).trans (X.k _ c)
  v x c := by
    have hk : ∀ i, View.ld I.v C.prev (ix3 0 i c) = I.v (ix3 0 (P.before t i) c) := fun i => congrArg I.v (prev_at P C t hp hs i c)
    have hk' : ∀ i, View.ld I.v C.own (ix3 0 i c) = I.v (ix3 0 (P.at' t i) c) := fun i => congrArg I.v (own_at P C t ho hs i c)
    show k0_pay13 (View.ld I.v C.prev) (View.ld I.v C.own) (ix2 x c) = _
    rw [cat_v]
    show _ = (((H (hd c)).v (P.col t x) (en c) : ℝ) : EReal)
    unfold Line.col
    split_ifs with h
    · exact (hk _).trans (X.v _ c)
    · exact (hk' _).trans (X.v _ c)
  c0 := h0
  c1 := h1
  ok i x := hok i x
  win j i x h := by show Win (H j).d _ _; rw [hH]; exact P.win H t i x h
  dist j i x h := by show ((H j).d : ℝ) * _ = _; rw [hH]; exact P.dist H t i x h

end

/-! ## The rows after a pattern's units -/

/-- Three arrays that hold two heads' gradients. -/
structure Grads (σ : Outs Ideal) (H : Fin 2 → Head) : Prop where
  dq : ∀ t c, (σ.dq (ix3 0 t c) : EReal) = (((H (hd c)).dQ t (en c) : ℝ) : EReal)
  dk : ∀ t c, (σ.dk (ix3 0 t c) : EReal) = (((H (hd c)).dK t (en c) : ℝ) : EReal)
  dv : ∀ t c, (σ.dv (ix3 0 t c) : EReal) = (((H (hd c)).dV t (en c) : ℝ) : EReal)

theorem grads_of (P : Line) (H : Fin 2 → Head) (hH : ∀ j, (H j).d = P.d) (C : Fin 16 → Cut) (T : Tiling C P.first)
    (ho : ∀ t, (C t).o = ![0, P.row t, 0]) (hs : ∀ t, (C t).st = ![1, P.d, 1]) (hc : ∀ y : ℕ, y < 2048 → ∃ t : Fin 16, ∃ i : Fin 128, y = P.row t + P.d * i.val)
    (u : Fin 16 → Rows Ideal) (R : ∀ t, Reads (u t) (P.tile H t)) (f : Fin 16 → Outs Ideal → Outs Ideal) (hf : ∀ t, f t = (u t).step (C t))
    (σ : Outs Ideal) : Grads (after f σ 16) H := by
  have key : ∀ y : Fin 2048, ∃ t i, P.at' t i = y := fun y => by
    obtain ⟨t, i, h⟩ := hc y.val y.isLt
    exact ⟨t, i, Fin.ext h.symm⟩
  refine ⟨fun y c => ?_, fun y c => ?_, fun y c => ?_⟩ <;> obtain ⟨t, i, rfl⟩ := key y <;>
    rw [← own_at P (C t) t (ho t) (hs t) i c]
  · rw [after_dq T u f hf]; exact P.dq H u R hH t i c
  · rw [after_dk T u f hf]; exact P.dk H u R hH t i c
  · rw [after_dv T u f hf]; exact P.dv H u R hH t i c

section
variable {I : Ins Ideal} {H : Fin 2 → Head} (X : Fits I H) (σ : Outs Ideal)
include X

theorem grads1 (hH : ∀ j, (H j).d = 1) (h0 : (coef I.co ![0, 0] inb_S3x2_S1x1_0_0 : EReal) = (((H 0).a * (H 0).d : ℝ) : EReal))
    (h1 : (coef I.co ![0, 1] inb_S3x2_S1x1_0_1 : EReal) = (((H 1).a * (H 1).d : ℝ) : EReal)) : Grads (after (unit1 I) σ 16) H :=
  grads_of line1 H hH (fun t => cut1 t) tiling1 o_cut1 (fun _ => by funext a; fin_cases a <;> rfl) cov1 (rows1 I)
    (fun t => reads X line1 hH (cut1 t) t (o_cut1 t) (p_cut1 t) (by funext a; fin_cases a <;> rfl) _ _ _ h0 h1 (ok1 t)) (unit1 I) (fun _ => rfl) σ

theorem grads2 (hH : ∀ j, (H j).d = 4) (h0 : (coef I.co ![1, 0] inb_S3x2_S1x1_1_0 : EReal) = (((H 0).a * (H 0).d : ℝ) : EReal))
    (h1 : (coef I.co ![1, 1] inb_S3x2_S1x1_1_1 : EReal) = (((H 1).a * (H 1).d : ℝ) : EReal)) : Grads (after (unit2 I) σ 16) H :=
  grads_of line2 H hH (fun t => cut2 t) tiling2 o_cut2 (fun _ => rfl) cov2 (rows2 I)
    (fun t => reads X line2 hH (cut2 t) t (o_cut2 t) (p_cut2 t) rfl _ _ _ h0 h1 (ok2 t)) (unit2 I) (fun _ => rfl) σ

theorem grads3 (hH : ∀ j, (H j).d = 16) (h0 : (coef I.co ![2, 0] inb_S3x2_S1x1_2_0 : EReal) = (((H 0).a * (H 0).d : ℝ) : EReal))
    (h1 : (coef I.co ![2, 1] inb_S3x2_S1x1_2_1 : EReal) = (((H 1).a * (H 1).d : ℝ) : EReal)) : Grads (after (unit3 I) σ 16) H :=
  grads_of line3 H hH (fun t => cut3 t) tiling3 o_cut3 (fun _ => rfl) cov3 (rows3 I)
    (fun t => reads X line3 hH (cut3 t) t (o_cut3 t) (p_cut3 t) rfl _ _ _ h0 h1 (ok3 t)) (unit3 I) (fun _ => rfl) σ

end

end Cert.Attn

end
-- ==== Proof.AttnRef.lean ====
/- The reference's attention gradients over the real numbers: each head's, of the head's own inputs. -/
module

public import proofs.«01_k».proof.Proof.AttnReads
public import proofs.«01_k».proof.Proof.Gen.ReferenceIdeal.Read

@[expose] public section

noncomputable section

namespace Cert.Attn

open Cert.ReferenceIdeal Cert.ReferenceIdeal.Read Idealize.ShloMosaic Idealize.ShloMosaic.TcCoe

/-! ## The heads -/

def dil : Fin 6 → ℕ := ![1, 1, 4, 4, 16, 16]
def slope : Fin 6 → ℝ := ![13316085 / 2 ^ 25, 10568984 / 2 ^ 26, 1 / 16, 13316085 / 2 ^ 29, 10568984 / 2 ^ 30, 1 / 256]

theorem dil_at (h : Fin 6) : val_main_v19 (F := Ideal) (ix3 h 0 0) = BitVec.ofNat 32 (dil h) := by
  pointwise [val_main_v19, val_main_v13, val_main_v14, val_main_v15, val_main_v16, val_main_v17, val_main_v18, val_main_c, val_main_c_5,
    val_main_c_6, val_main_c_7, val_main_c_8, val_main_c_9]
  fin_cases h <;> rfl

theorem slope_at (h : Fin 6) : (val_main_v12 (F := Ideal) (ix3 h 0 0) : EReal) = ((slope h : ℝ) : EReal) := by
  pointwise [val_main_v12, val_main_v6, val_main_v7, val_main_v8, val_main_v9, val_main_v10, val_main_v11, val_main_cst, val_main_cst_0,
    val_main_cst_1, val_main_cst_2, val_main_cst_3, val_main_cst_4]
  fin_cases h <;> simp [slope, Ideal.ofBits, Ideal.ieee, -EReal.coe_mul] <;> norm_num

theorem sub_int (t u : Fin 2048) : (IntOp.subi (BitVec.ofNat 32 t.val) (BitVec.ofNat 32 u.val)).toInt = (t.val : ℤ) - (u.val : ℤ) := by
  have hi := t.isLt
  have hx := u.isLt
  have e : ∀ n : ℕ, n < 2048 → (BitVec.ofNat 32 n).toInt = (n : ℤ) := fun n h => by
    rw [BitVec.toInt_eq_toNat_cond, BitVec.toNat_ofNat, Nat.mod_eq_of_lt (by omega : n < 2 ^ 32), if_pos (by omega)]
  simp only [IntOp.subi, BitVec.toInt_sub, Int.bmod_def, e _ hi, e _ hx]
  simp
  omega

theorem eq_ite (a : BitVec 32) : IntOp.cmpi CmpIPredicate.eq a 0#32 = if a.toInt = 0 then 1#1 else 0#1 := by
  have h : a.toInt = 0 ↔ a = 0#32 := by rw [← BitVec.toInt_inj]; rfl
  unfold IntOp.cmpi
  by_cases hz : a = 0#32
  · rw [if_pos (h.mpr hz), hz]; rfl
  · rw [if_neg (fun e => hz (h.mp e))]
    show BitVec.ofBool (a == 0#32) = 0#1
    rw [beq_eq_false_iff_ne.mpr hz]; rfl

theorem rem_int (x : BitVec 32) (d : ℕ) (hd : d = 1 ∨ d = 4 ∨ d = 16) : (IntOp.remsi .host x (BitVec.ofNat 32 d)).toInt = x.toInt.tmod d := by
  unfold IntOp.remsi
  rw [if_neg, BitVec.toInt_srem]
  · rcases hd with rfl | rfl | rfl <;> rfl
  · rcases hd with rfl | rfl | rfl <;> rintro (h | ⟨-, h⟩) <;> exact absurd h (by decide)

theorem dil_cases (h : Fin 6) : dil h = 1 ∨ dil h = 4 ∨ dil h = 16 := by fin_cases h <;> simp [dil]

theorem valid_at (h : Fin 6) (t u : Fin 2048) : val_main_v41 (F := Ideal) (ix3 h t u) = if Win (dil h) t u then 1#1 else 0#1 := by
  pointwise [val_main_v41, val_main_v35, val_main_v40, val_main_v39, val_main_v38, val_main_v37, val_main_v36, val_main_v34, val_main_v33,
    val_main_v32, val_main_v31, val_main_v30, val_main_v29, val_main_v28, val_main_v27, val_main_v26, val_main_v25, val_main_v24, val_main_v23,
    val_main_v22, val_main_v21, val_main_v20, val_main_c_10, val_main_c_11, val_main_c_12]
  rw [dil_at, sge_ite, sle_ite, eq_ite, and_ite, and_ite, rem_int _ _ (dil_cases h), sub_int]
  refine if_congr ?_ rfl rfl
  unfold Win
  have e : (IntOp.muli (128#32) (BitVec.ofNat 32 (dil h))).toInt = 128 * (dil h : ℤ) := by
    rcases dil_cases h with e | e | e <;> rw [e] <;> decide
  rw [e, show (0#32).toInt = 0 by decide]
  constructor
  · rintro ⟨⟨h1, h2⟩, h3⟩
    refine ⟨by omega, by omega, ?_⟩
    have h4 := Int.dvd_of_tmod_eq_zero h3
    have e2 : ((t.val - u.val : ℕ) : ℤ) = (t.val : ℤ) - u.val := by omega
    exact Int.natCast_dvd_natCast.mp (e2 ▸ h4)
  · rintro ⟨h1, h2, h3⟩
    refine ⟨⟨by omega, by omega⟩, ?_⟩
    have e2 : ((t.val - u.val : ℕ) : ℤ) = (t.val : ℤ) - u.val := by omega
    exact Int.tmod_eq_zero_of_dvd (e2 ▸ Int.natCast_dvd_natCast.mpr h3)

/-- Head `h` of batch `b`. -/
def headAt (X0 : S4x2048x1152.Idx → ℝ) (X1 : S4x6x2048x64.Idx → ℝ) (X2 : S4x6x2048.Idx → ℝ) (b : Fin 4) (h : Fin 6) : Head where
  d := dil h
  a := slope h
  q t e := X0 (ix3 b t ⟨h.val * 64 + e.val, by omega⟩)
  k t e := X0 (ix3 b t ⟨384 + (h.val * 64 + e.val), by omega⟩)
  v t e := X0 (ix3 b t ⟨768 + (h.val * 64 + e.val), by omega⟩)
  g t e := X1 (ix4 b h t e)
  L t := X2 (ix3 b h t)

section
variable {x0 : (⟨S4x2048x1152, .f32⟩ : BufTy).Contents (Elt Ideal)} {x1 : (⟨S4x6x2048x64, .f32⟩ : BufTy).Contents (Elt Ideal)}
  {x2 : (⟨S4x6x2048, .f32⟩ : BufTy).Contents (Elt Ideal)}
  {X0 : S4x2048x1152.Idx → ℝ} {X1 : S4x6x2048x64.Idx → ℝ} {X2 : S4x6x2048.Idx → ℝ}
  (h0 : ∀ i, (x0 i : EReal) = ((X0 i : ℝ) : EReal)) (h1 : ∀ i, (x1 i : EReal) = ((X1 i : ℝ) : EReal)) (h2 : ∀ i, (x2 i : EReal) = ((X2 i : ℝ) : EReal))
  (b : Fin 4) (h : Fin 6)

theorem q_at (t : Fin 2048) (e : Fin 64) (h0 : ∀ i, (x0 i : EReal) = ((X0 i : ℝ) : EReal)) :
    (val_main_v3 (F := Ideal) x0 (ix4 b t h e) : EReal) = (((headAt X0 X1 X2 b h).q t e : ℝ) : EReal) := by
  pointwise [val_main_v3, val_main_v0]
  exact h0 _
theorem k_at (t : Fin 2048) (e : Fin 64) (h0 : ∀ i, (x0 i : EReal) = ((X0 i : ℝ) : EReal)) :
    (val_main_v4 (F := Ideal) x0 (ix4 b t h e) : EReal) = (((headAt X0 X1 X2 b h).k t e : ℝ) : EReal) := by
  pointwise [val_main_v4, val_main_v1]
  exact h0 _
theorem v_at (t : Fin 2048) (e : Fin 64) (h0 : ∀ i, (x0 i : EReal) = ((X0 i : ℝ) : EReal)) :
    (val_main_v5 (F := Ideal) x0 (ix4 b t h e) : EReal) = (((headAt X0 X1 X2 b h).v t e : ℝ) : EReal) := by
  pointwise [val_main_v5, val_main_v2]
  exact h0 _

include h0

theorem sc_at (t u : Fin 2048) : (val_main_v51 (F := Ideal) x0 (ix4 b h t u) : EReal) = (((headAt X0 X1 X2 b h).sc t u : ℝ) : EReal) := by
  have hq := fun t e => q_at (X1 := X1) (X2 := X2) b h t e h0
  have hk := fun t e => k_at (X1 := X1) (X2 := X2) b h t e h0
  pointwise [val_main_v51, val_main_v50, val_main_v49, val_main_v48, val_main_v47, val_main_v46, val_main_v45, val_main_v44, val_main_v42,
    val_main_v43, val_main_cst_13, val_main_v26, val_main_v25, val_main_v24, val_main_v23, val_main_v22, val_main_v21, val_main_v20]
  rw [slope_at, eighth]
  simp only [hq, hk, ← EReal.coe_mul, coe_sum]
  show _ - _ * (((IntOp.subi (BitVec.ofNat 32 t.val) (BitVec.ofNat 32 u.val)).toInt : ℝ) : EReal) = _
  rw [sub_int]
  push_cast
  rfl

theorem where_at (t u : Fin 2048) : (val_main_v52_0 (F := Ideal) x0 (ix4 b h t u) : EReal)
    = if Win (dil h) t u then (((headAt X0 X1 X2 b h).sc t u : ℝ) : EReal) else ⊥ := by
  have hs := sc_at (X1 := X1) (X2 := X2) h0 b h t u
  have hb : Ideal.ofBits .f32 0xFF800000#32 = (⊥ : EReal) := by simp [Ideal.ofBits, Ideal.ieee]
  pointwise [val_main_v52_0, val_main_v52_1, val_main_call0_v2, val_main_call0_v0, val_main_cst_14]
  rw [valid_at, select_if, hs]
  split_ifs
  · rfl
  · exact hb

/-- The row's largest score is one of its own. -/
theorem max_at (t : Fin 2048) : ∃ u : Fin 2048, Win (dil h) t u ∧ (val_main_v53 (F := Ideal) x0 (ix3 b h t) : EReal) = (((headAt X0 X1 X2 b h).sc t u : ℝ) : EReal) := by
  have hb : (val_main_cst_15 (F := Ideal) (Shape.Idx.first Gen.h_S_) : EReal) = ⊥ := by
    show Ideal.ofBits .f32 0xFF800000#32 = (⊥ : EReal)
    simp [Ideal.ofBits, Ideal.ieee]
  have hw := where_at (X1 := X1) (X2 := X2) h0 b h t
  pointwise [val_main_v53]
  rw [hb]
  simp only [hw]
  obtain ⟨u, -, hu⟩ := Finset.exists_mem_eq_sup (Finset.univ : Finset (Fin 2048)) ⟨t, Finset.mem_univ _⟩
    (fun u : Fin 2048 => if Win (dil h) t u then (((headAt X0 X1 X2 b h).sc t u : ℝ) : EReal) else ⊥)
  have hu' : Finset.fold max (⊥ : EReal) (fun u : Fin 2048 => if Win (dil h) t u then (((headAt X0 X1 X2 b h).sc t u : ℝ) : EReal) else ⊥) Finset.univ
      = if Win (dil h) t u then (((headAt X0 X1 X2 b h).sc t u : ℝ) : EReal) else ⊥ := hu
  rw [hu']
  by_cases hW : Win (dil h) t u
  · exact ⟨u, hW, if_pos hW⟩
  · exfalso
    rw [if_neg hW] at hu
    have hle := Finset.le_sup (f := fun u : Fin 2048 => if Win (dil h) t u then (((headAt X0 X1 X2 b h).sc t u : ℝ) : EReal) else ⊥) (Finset.mem_univ t)
    rw [hu] at hle
    rw [if_pos ⟨le_rfl, by simp, by simp⟩] at hle
    exact absurd (le_bot_iff.mp hle) (EReal.coe_ne_bot _)

omit h0 in
/-- The row's largest score. -/
def top (x0 : (⟨S4x2048x1152, .f32⟩ : BufTy).Contents (Elt Ideal)) (b : Fin 4) (h : Fin 6) (t : Fin 2048) : ℝ :=
  (val_main_v53 (F := Ideal) x0 (ix3 b h t) : EReal).toReal

theorem top_at (t : Fin 2048) : (val_main_v53 (F := Ideal) x0 (ix3 b h t) : EReal) = ((top x0 b h t : ℝ) : EReal) := by
  obtain ⟨u, -, hu⟩ := max_at (X1 := fun _ => 0) (X2 := fun _ => 0) h0 b h t
  unfold top
  rw [hu, EReal.toReal_coe]

theorem p_at (t u : Fin 2048) : (val_main_v62 (F := Ideal) x0 (ix4 b h t u) : EReal)
    = (((headAt X0 X1 X2 b h).rp (top x0 b h) t u : ℝ) : EReal) := by
  have hw := where_at (X1 := X1) (X2 := X2) h0 b h t u
  have ht := top_at h0 b h t
  pointwise [val_main_v62, val_main_v61, val_main_v60, val_main_v59]
  rw [hw, ht]
  unfold Head.rp Head.ex
  show _ = ((((if Win (dil h) t u then Real.exp ((headAt X0 X1 X2 b h).sc t u) else 0) * Real.exp (-top x0 b h t) : ℝ)) : EReal)
  split_ifs
  · rw [← EReal.coe_sub, Ideal.exp_coe, sub_eq_add_neg, Real.exp_add]
  · rw [zero_mul]
    rw [EReal.bot_sub]
    rfl

theorem l_at (t : Fin 2048) : (val_main_v63 (F := Ideal) x0 (ix3 b h t) : EReal) = (((headAt X0 X1 X2 b h).rl (top x0 b h) t : ℝ) : EReal) := by
  have hp := p_at (X1 := X1) (X2 := X2) h0 b h t
  pointwise [val_main_v63, val_main_cst_17]
  simp only [hp, coe_sum]
  rw [Head.sum_rp]

theorem pv_at (t : Fin 2048) (e : Fin 64) : (val_main_v65 (F := Ideal) x0 (ix4 b h t e) : EReal)
    = (((headAt X0 X1 X2 b h).rpv (top x0 b h) t e : ℝ) : EReal) := by
  have hp := p_at (X1 := X1) (X2 := X2) h0 b h t
  have hv := fun t e => v_at (X1 := X1) (X2 := X2) b h t e h0
  pointwise [val_main_v65]
  simp only [hp, hv, ← EReal.coe_mul, coe_sum]
  rfl

omit h0 in
theorem div_real (x y : ℝ) (h : y ≠ 0) : Ideal.div (x : EReal) (y : EReal) = ((x / y : ℝ) : EReal) := by
  rw [Ideal.div_coe h, ← EReal.coe_mul]
  congr 1
  ring

theorem o_at (t : Fin 2048) (e : Fin 64) : (val_main_v67 (F := Ideal) x0 (ix4 b h t e) : EReal) = (((headAt X0 X1 X2 b h).O t e : ℝ) : EReal) := by
  have hl := l_at (X1 := X1) (X2 := X2) h0 b h t
  have hpv := pv_at (X1 := X1) (X2 := X2) h0 b h t e
  pointwise [val_main_v67, val_main_v66, val_main_v64]
  rw [hl, hpv, div_real _ _ (Head.rl_pos _ _ t).ne', Head.rpv_div]

omit h0 in
theorem log_real (r : ℝ) (h : 0 < r) : Ideal.log (r : EReal) = ((Real.log r : ℝ) : EReal) := by
  rw [Ideal.log_coe, if_neg (not_le.mpr h)]

omit h0 in
theorem lse4_eq (t : Fin 2048) : (val_main_v72 (F := Ideal) x0 (ix4 b h t 0) : EReal)
    = (val_main_v53 (F := Ideal) x0 (ix3 b h t) : EReal) + Ideal.log (val_main_v63 (F := Ideal) x0 (ix3 b h t)) := by
  have e1 : idx_main_v59 (ix4 b h t 0) = ix3 b h t := funext fun a => match a with | ⟨0, _⟩ => rfl | ⟨1, _⟩ => rfl | ⟨2, _⟩ => rfl
  have e2 : idx_main_v64 (ix4 b h t 0) = ix3 b h t := funext fun a => match a with | ⟨0, _⟩ => rfl | ⟨1, _⟩ => rfl | ⟨2, _⟩ => rfl
  rw [val_main_v72_apply, val_main_v59_apply, val_main_v71_apply, val_main_v64_apply, e1, e2]
  generalize val_main_v53 (F := Ideal) x0 (ix3 b h t) = A
  generalize val_main_v63 (F := Ideal) x0 (ix3 b h t) = B
  rfl

theorem lse4_at (t : Fin 2048) : (val_main_v72 (F := Ideal) x0 (ix4 b h t 0) : EReal) = ((Real.log ((headAt X0 X1 X2 b h).Z t) : ℝ) : EReal) := by
  rw [lse4_eq, l_at (X1 := X1) (X2 := X2) h0, top_at h0, log_real _ (Head.rl_pos _ _ t), ← EReal.coe_add, Head.log_Z]

omit h0 in
theorem idx_lse (t : Fin 2048) : idx_main_v73 (ix3 b h t) = ix4 b h t 0 := by
  funext a
  apply Fin.ext
  match a with
  | ⟨0, _⟩ => show ((b.val * 6 + h.val) * 2048 + t.val) / 12288 = b.val; omega
  | ⟨1, _⟩ => show ((b.val * 6 + h.val) * 2048 + t.val) / 2048 % 6 = h.val; omega
  | ⟨2, _⟩ => show ((b.val * 6 + h.val) * 2048 + t.val) / 1 % 2048 = t.val; omega
  | ⟨3, _⟩ => rfl

theorem lse_at (t : Fin 2048) : (val_main_v73 (F := Ideal) x0 (ix3 b h t) : EReal) = ((Real.log ((headAt X0 X1 X2 b h).Z t) : ℝ) : EReal) :=
  (val_main_v73_apply x0 (ix3 b h t)).trans ((congrArg (val_main_v72 (F := Ideal) x0) (idx_lse b h t)).trans (lse4_at h0 b h t))

include h1
theorem gl_at (t : Fin 2048) (e : Fin 64) : (val_main_v84 (F := Ideal) x0 x1 (ix4 b h t e) : EReal)
    = (((headAt X0 X1 X2 b h).g t e / (headAt X0 X1 X2 b h).rl (top x0 b h) t : ℝ) : EReal) := by
  have hl := l_at (X1 := X1) (X2 := X2) h0 b h t
  pointwise [val_main_v84, val_main_v83, val_main_v64]
  rw [hl, h1, div_real _ _ (Head.rl_pos _ _ t).ne']
  rfl

theorem dv_at (u : Fin 2048) (c : Fin 384) : (val_main_v110 (F := Ideal) x0 x1 (ix3 b u c) : EReal)
    = (((headAt X0 X1 X2 b ⟨c.val / 64, by omega⟩).dV u ⟨c.val % 64, by omega⟩ : ℝ) : EReal) := by
  have hg := fun h t e => gl_at (X1 := X1) (X2 := X2) h0 h1 b h t e
  have hp := fun h => p_at (X1 := X1) (X2 := X2) h0 b h
  pointwise [val_main_v110, val_main_v86, val_main_v85]
  simp only [hg, hp, ← EReal.coe_mul, coe_sum]
  rw [Head.shift_V]

include h2

theorem d_at (t : Fin 2048) : (val_main_v82 (F := Ideal) x0 x1 x2 (ix4 b h t 0) : EReal)
    = (((headAt X0 X1 X2 b h).D t / (headAt X0 X1 X2 b h).rl (top x0 b h) t : ℝ) : EReal) := by
  have hl := l_at (X1 := X1) (X2 := X2) h0 b h t
  have hpv := pv_at (X1 := X1) (X2 := X2) h0 b h t
  have hpos := (Head.rl_pos (headAt X0 X1 X2 b h) (top x0 b h) t).ne'
  pointwise [val_main_v82, val_main_v81, val_main_v80, val_main_v79, val_main_v78, val_main_v77, val_main_v76, val_main_v75, val_main_v74,
    val_main_v70, val_main_v69, val_main_v68, val_main_v64, val_main_cst_18, val_main_cst_19]
  simp only [hl, hpv, h1, h2, Ideal.ofBits_one_f32]
  rw [div_real _ _ hpos, ← EReal.coe_mul, ← EReal.coe_one, div_real _ _ (mul_ne_zero hpos hpos)]
  simp only [← EReal.coe_mul, coe_sum, ← EReal.coe_neg, ← EReal.coe_add]
  exact congrArg Real.toEReal (Head.shift_D (headAt X0 X1 X2 b h) (top x0 b h) t)

theorem s_at (t u : Fin 2048) : (val_main_v91 (F := Ideal) x0 x1 x2 (ix4 b h t u) : EReal) = (((headAt X0 X1 X2 b h).S t u : ℝ) : EReal) := by
  have hg := fun e => gl_at (X1 := X1) (X2 := X2) h0 h1 b h t e
  have hp := p_at (X1 := X1) (X2 := X2) h0 b h t u
  have hv := fun t e => v_at (X1 := X1) (X2 := X2) b h t e h0
  have hd := d_at h0 h1 h2 b h t
  pointwise [val_main_v91, val_main_v90, val_main_v89, val_main_v88, val_main_v87, val_main_cst_20]
  rw [Fin.sum_univ_one]
  simp only [hg, hv, hp, hd, ← EReal.coe_mul, coe_sum]
  rw [← EReal.coe_add, ← EReal.coe_mul, Head.shift_S]

/-- Nothing comes back through the row's largest score. -/
theorem none_at (t : Fin 2048) : (val_main_v97 (F := Ideal) x0 x1 x2 (ix3 b h t) : EReal) = 0 := by
  have hs := s_at h0 h1 h2 b h t
  obtain ⟨u, hW, hu⟩ := max_at (X1 := X1) (X2 := X2) h0 b h t
  have hw := where_at (X1 := X1) (X2 := X2) h0 b h t u
  have hz : (val_main_v96 (F := Ideal) x0 x1 x2 (ix3 b h t) : EReal) = 0 := by
    pointwise [val_main_v96, val_main_v95, val_main_v94, val_main_v93, val_main_v92, val_main_v74, val_main_cst_21, val_main_cst_22]
    rw [Fin.sum_univ_one]
    simp only [hs, h2, ← EReal.coe_neg, coe_sum]
    rw [Finset.sum_neg_distrib, Head.sum_S, ← EReal.coe_add]
    show (((X2 (ix3 b h t) + -X2 (ix3 b h t) : ℝ)) : EReal) = 0
    rw [add_neg_cancel, EReal.coe_zero]
  have hc : (val_main_v58 (F := Ideal) x0 (ix3 b h t) : EReal) ≠ 0 := by
    have one : (val_main_v57 (F := Ideal) x0 (ix4 b h t u) : EReal) = 1 := by
      pointwise [val_main_v57, val_main_v56, val_main_v55, val_main_v54]
      rw [hw, hu, if_pos hW]
      simp [Ideal.cmp]
      show (((1#1 : BitVec 1).toNat : ℝ) : EReal) = 1
      simp
    have nonneg : ∀ u, (0 : EReal) ≤ val_main_v57 (F := Ideal) x0 (ix4 b h t u) := fun u => by
      show (0 : EReal) ≤ (((val_main_v56 (F := Ideal) x0 (ix4 b h t u)).toNat : ℝ) : EReal)
      exact_mod_cast Nat.zero_le _
    pointwise [val_main_v58, val_main_cst_16]
    have hle := Finset.single_le_sum (f := fun u => (val_main_v57 (F := Ideal) x0 (ix4 b h t u) : EReal)) (fun u _ => nonneg u) (Finset.mem_univ u)
    intro hz
    rw [hz, one] at hle
    exact absurd hle (by norm_num)
  pointwise [val_main_v97]
  rw [hz]
  unfold Ideal.div
  rw [if_neg hc, zero_mul]

theorem ds_at (t u : Fin 2048) : (val_main_v103 (F := Ideal) x0 x1 x2 (ix4 b h t u) : EReal) = (((headAt X0 X1 X2 b h).S t u * (1 / 8) : ℝ) : EReal) := by
  have hs := s_at h0 h1 h2 b h t u
  have hn := none_at h0 h1 h2 b h t
  pointwise [val_main_v103, val_main_v102, val_main_v101, val_main_v100, val_main_v99, val_main_v98, val_main_v52_1, val_main_cst_23,
    val_main_call1_v0, val_main_call1_cst]
  rw [hs, hn, zero_mul, add_zero, valid_at, select_if, eighth]
  split_ifs with hW
  · rw [← EReal.coe_mul]
  · have : (headAt X0 X1 X2 b h).S t u = 0 := by
      unfold Head.S Head.P Head.ex
      rw [if_neg (show ¬Win (headAt X0 X1 X2 b h).d t u from hW), zero_div, zero_mul]
    rw [this]
    simp

theorem dk_at (u : Fin 2048) (c : Fin 384) : (val_main_v109 (F := Ideal) x0 x1 x2 (ix3 b u c) : EReal)
    = (((headAt X0 X1 X2 b ⟨c.val / 64, by omega⟩).dK u ⟨c.val % 64, by omega⟩ : ℝ) : EReal) := by
  have hs := fun h => ds_at h0 h1 h2 b h
  have hq := fun h t e => q_at (X1 := X1) (X2 := X2) b h t e h0
  pointwise [val_main_v109, val_main_v105, val_main_v104]
  simp only [hs, hq, ← EReal.coe_mul, coe_sum]
  congr 1
  unfold Head.dK
  rw [Finset.sum_mul]
  exact Finset.sum_congr rfl fun t _ => by ring

theorem dq_at (t : Fin 2048) (c : Fin 384) : (val_main_v108 (F := Ideal) x0 x1 x2 (ix3 b t c) : EReal)
    = (((headAt X0 X1 X2 b ⟨c.val / 64, by omega⟩).dQ t ⟨c.val % 64, by omega⟩ : ℝ) : EReal) := by
  have hs := fun h => ds_at h0 h1 h2 b h
  have hk := fun h t e => k_at (X1 := X1) (X2 := X2) b h t e h0
  pointwise [val_main_v108, val_main_v107, val_main_v106]
  simp only [hs, hk, ← EReal.coe_mul, coe_sum]
  congr 1
  unfold Head.dQ
  rw [Finset.sum_mul]
  exact Finset.sum_congr rfl fun u _ => by ring

end

end Cert.Attn

end
-- ==== Proof.AttnHost.lean ====
/- The arrays the host prepares for the attention's gradient, against the reference's own. -/
module

public import proofs.«01_k».proof.Proof.AttnFrame
public import proofs.«01_k».proof.Proof.AttnRef

@[expose] public section

noncomputable section

namespace Cert.Attn

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

/-- A row number per head repeated over the head's lanes. -/
def spread (x : FVec Ideal S4x6x2048 .f32) : FVec Ideal S4x2048x384 .f32 :=
  shapeCast S4x2048x384 (transpose S4x2048x6x64 [0, 2, 1, 3] (broadcastInDim S4x6x2048x64 ![0, 1, 2, 3] bcast_S4x6x2048x1_S4x6x2048x64_0_1_2_3
    (broadcastInDim S4x6x2048x1 ![0, 1, 2] bcast_S4x6x2048_S4x6x2048x1_0_1_2 x)) transposes_S4x6x2048x64_S4x2048x6x64_0_2_1_3) shapeCasts_S4x2048x6x64_S4x2048x384

theorem spread_at (x : FVec Ideal S4x6x2048 .f32) (b : Fin 4) (t : Fin 2048) (c : Fin 384) :
    spread x (ix3 b t c) = x (ix3 b ⟨c.val / 64, by omega⟩ t) := by
  pointwise [spread]

/-- The cotangents of the outputs, head after head. -/
def side (x : FVec Ideal S4x6x2048x64 .f32) : FVec Ideal S4x2048x384 .f32 :=
  shapeCast S4x2048x384 (transpose S4x2048x6x64 [0, 2, 1, 3] x transposes_S4x6x2048x64_S4x2048x6x64_0_2_1_3) shapeCasts_S4x2048x6x64_S4x2048x384

theorem side_at (x : FVec Ideal S4x6x2048x64 .f32) (b : Fin 4) (t : Fin 2048) (c : Fin 384) :
    side x (ix3 b t c) = x (ix4 b ⟨c.val / 64, by omega⟩ t ⟨c.val % 64, by omega⟩) := by
  pointwise [side]

/-- The row log-sum's cotangent less the output's against the output. -/
def less (x1 o : FVec Ideal S4x6x2048x64 .f32) (x2 : FVec Ideal S4x6x2048 .f32) :
    FVec Ideal S4x6x2048 .f32 :=
  subf x2 (Host.reduceAdd (mulf x1 o) (constant S_ .f32 0x00000000#32) reducesTo_S4x6x2048x64_S4x6x2048_d3 h_S_)

theorem less_at (x1 o : FVec Ideal S4x6x2048x64 .f32) (x2 : FVec Ideal S4x6x2048 .f32)
    (b : Fin 4) (h : Fin 6) (t : Fin 2048) :
    (less x1 o x2 (ix3 b h t) : EReal) = x2 (ix3 b h t) - ∑ e : Fin 64, (x1 (ix4 b h t e) : EReal) * o (ix4 b h t e) := by
  pointwise [less]

section
set_option maxHeartbeats 4000000
set_option maxRecDepth 10000
variable (c : Dev nD)

theorem V_lse : V (F := Ideal) m c main_v65 = Cert.ReferenceIdeal.Read.val_main_v73 (F := Ideal) (m ((c : Thread nD τ).loc main_arg0)) := by
  dsimp only [V]
  simp only [hostOps0, hostOps0_1, hostOps0_2, List.flatten_cons, List.flatten_nil, List.append_nil, List.cons_append, List.nil_append]
  after_results
  sl_kernel_rfl

theorem V_74 : V (F := Ideal) m c main_v74 = spread (Cert.ReferenceIdeal.Read.val_main_v73 (F := Ideal) (m ((c : Thread nD τ).loc main_arg0))) := by
  dsimp only [V]
  simp only [hostOps0, hostOps0_1, hostOps0_2, List.flatten_cons, List.flatten_nil, List.append_nil, List.cons_append, List.nil_append]
  after_results
  sl_kernel_rfl

theorem V_70 : V (F := Ideal) m c main_v70 = side (m ((c : Thread nD τ).loc main_arg1)) := by
  dsimp only [V]
  simp only [hostOps0, hostOps0_1, hostOps0_2, List.flatten_cons, List.flatten_nil, List.append_nil, List.cons_append, List.nil_append]
  after_results
  sl_kernel_rfl

theorem V_78 : V (F := Ideal) m c main_v78 = spread (less (m ((c : Thread nD τ).loc main_arg1))
    (Cert.ReferenceIdeal.Read.val_main_v67 (F := Ideal) (m ((c : Thread nD τ).loc main_arg0))) (m ((c : Thread nD τ).loc main_arg2))) := by
  dsimp only [V]
  simp only [hostOps0, hostOps0_1, hostOps0_2, List.flatten_cons, List.flatten_nil, List.append_nil, List.cons_append, List.nil_append]
  after_results
  sl_kernel_rfl

theorem V_cst : V (F := Ideal) m c main_cst = fun i : S3x2.Idx => FloatOps.ofBits (F := Ideal) .f32 (lit0 (S3x2.rowMajor i)) := by
  dsimp only [V]
  simp only [hostOps0, hostOps0_1, hostOps0_2, List.flatten_cons, List.flatten_nil, List.append_nil, List.cons_append, List.nil_append]
  after_results
  sl_kernel_rfl

theorem V_arg0 : V (F := Ideal) m c main_arg0 = m ((c : Thread nD τ).loc main_arg0) := by
  dsimp only [V]
  simp only [hostOps0, hostOps0_1, hostOps0_2, List.flatten_cons, List.flatten_nil, List.append_nil, List.cons_append, List.nil_append]
  after_results

end

end Cert.Attn

end
-- ==== Proof.AttnValue.lean ====
/- The attention's gradient: the three arrays the call returns are the reference's. -/
module

public import proofs.«01_k».proof.Proof.AttnHost
public import proofs.«01_k».proof.Proof.AttnReads
public import proofs.«01_k».proof.Proof.Gen.Pre_finite
public import Idealize.ShloMosaic.Lib.Pipeline.ValueKit

@[expose] public section

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The blocks -/

theorem e0 : ∀ t : Fin cfg0.N, win0_0.index t = ![0, 0] := (by decide +kernel : ∀ t : Fin grid0.N, _)
theorem e1 : ∀ t : Fin cfg0.N, win0_1.index t = ![t.val / 3, 0, t.val % 3] := (by decide +kernel : ∀ t : Fin grid0.N, _)
theorem e2 : ∀ t : Fin cfg0.N, win0_2.index t = ![t.val / 3, 0, t.val % 3 + 3] := (by decide +kernel : ∀ t : Fin grid0.N, _)
theorem e3 : ∀ t : Fin cfg0.N, win0_3.index t = ![t.val / 3, 0, t.val % 3 + 6] := (by decide +kernel : ∀ t : Fin grid0.N, _)
theorem e4 : ∀ t : Fin cfg0.N, win0_4.index t = ![t.val / 3, 0, t.val % 3] := (by decide +kernel : ∀ t : Fin grid0.N, _)
theorem e5 : ∀ t : Fin cfg0.N, win0_5.index t = ![t.val / 3, 0, t.val % 3] := (by decide +kernel : ∀ t : Fin grid0.N, _)
theorem e6 : ∀ t : Fin cfg0.N, win0_6.index t = ![t.val / 3, 0, t.val % 3] := (by decide +kernel : ∀ t : Fin grid0.N, _)
theorem e7 : ∀ t : Fin cfg0.N, win0_7.index t = ![t.val / 3, 0, t.val % 3] := (by decide +kernel : ∀ t : Fin grid0.N, _)
theorem e8 : ∀ t : Fin cfg0.N, win0_8.index t = ![t.val / 3, 0, t.val % 3] := (by decide +kernel : ∀ t : Fin grid0.N, _)
theorem e9 : ∀ t : Fin cfg0.N, win0_9.index t = ![t.val / 3, 0, t.val % 3] := (by decide +kernel : ∀ t : Fin grid0.N, _)

theorem lt12 (t : Fin cfg0.N) : t.val < 12 := t.isLt

/-- The batch of a grid point, and the head of its lane half `j`. -/
def bt (t : Fin cfg0.N) : Fin 4 := ⟨t.val / 3, by have := lt12 t; omega⟩
def hh (t : Fin cfg0.N) (j : Fin 2) : Fin 6 := ⟨2 * (t.val % 3) + j.val, by omega⟩
/-- A lane's column among a third's 384. -/
def col (t : Fin cfg0.N) (x : Fin 128) : Fin 384 := ⟨128 * (t.val % 3) + x.val, by omega⟩

theorem rd0 (X : S3x2.Idx → EReal) (t : Fin cfg0.N) (i : S3x2.Idx) :
    (((cfg0.win 0).blk t).view.read (Elt Ideal) X i : EReal) = X i := by
  blk_simp
  blk_ext [e0]

theorem ib0 (t : Fin cfg0.N) (i : S3x2.Idx) : (iblk m c 0 t i : EReal) = V m c main_cst i := rd0 (V m c main_cst) t i

theorem rd1 (X : S4x2048x1152.Idx → EReal) (t : Fin cfg0.N) (s : Fin 2048) (x : Fin 128) :
    (((cfg0.win 1).blk t).view.read (Elt Ideal) X (ix3 0 s x) : EReal) = X (ix3 (bt t) s ⟨(col t x).val, by have := (col t x).isLt; omega⟩) := by
  unfold bt col
  blk_simp
  blk_ext [e1]

theorem ib1 (t : Fin cfg0.N) (s : Fin 2048) (x : Fin 128) : (iblk m c 1 t (ix3 0 s x) : EReal)
    = V m c main_arg0 (ix3 (bt t) s ⟨(col t x).val, by have := (col t x).isLt; omega⟩) := rd1 (V m c main_arg0) t s x

theorem rd2 (X : S4x2048x1152.Idx → EReal) (t : Fin cfg0.N) (s : Fin 2048) (x : Fin 128) :
    (((cfg0.win 2).blk t).view.read (Elt Ideal) X (ix3 0 s x) : EReal) = X (ix3 (bt t) s ⟨384 + (col t x).val, by have := (col t x).isLt; omega⟩) := by
  unfold bt col
  blk_simp
  blk_ext [e2]

theorem ib2 (t : Fin cfg0.N) (s : Fin 2048) (x : Fin 128) : (iblk m c 2 t (ix3 0 s x) : EReal)
    = V m c main_arg0 (ix3 (bt t) s ⟨384 + (col t x).val, by have := (col t x).isLt; omega⟩) := rd2 (V m c main_arg0) t s x

theorem rd3 (X : S4x2048x1152.Idx → EReal) (t : Fin cfg0.N) (s : Fin 2048) (x : Fin 128) :
    (((cfg0.win 3).blk t).view.read (Elt Ideal) X (ix3 0 s x) : EReal) = X (ix3 (bt t) s ⟨768 + (col t x).val, by have := (col t x).isLt; omega⟩) := by
  unfold bt col
  blk_simp
  blk_ext [e3]

theorem ib3 (t : Fin cfg0.N) (s : Fin 2048) (x : Fin 128) : (iblk m c 3 t (ix3 0 s x) : EReal)
    = V m c main_arg0 (ix3 (bt t) s ⟨768 + (col t x).val, by have := (col t x).isLt; omega⟩) := rd3 (V m c main_arg0) t s x

theorem rd4 (X : S4x2048x384.Idx → EReal) (t : Fin cfg0.N) (s : Fin 2048) (x : Fin 128) :
    (((cfg0.win 4).blk t).view.read (Elt Ideal) X (ix3 0 s x) : EReal) = X (ix3 (bt t) s (col t x)) := by
  unfold bt col
  blk_simp
  blk_ext [e4]

theorem ib4 (t : Fin cfg0.N) (s : Fin 2048) (x : Fin 128) : (iblk m c 4 t (ix3 0 s x) : EReal)
    = V m c main_v70 (ix3 (bt t) s (col t x)) := rd4 (V m c main_v70) t s x

theorem rd5 (X : S4x2048x384.Idx → EReal) (t : Fin cfg0.N) (s : Fin 2048) (x : Fin 128) :
    (((cfg0.win 5).blk t).view.read (Elt Ideal) X (ix3 0 s x) : EReal) = X (ix3 (bt t) s (col t x)) := by
  unfold bt col
  blk_simp
  blk_ext [e5]

theorem ib5 (t : Fin cfg0.N) (s : Fin 2048) (x : Fin 128) : (iblk m c 5 t (ix3 0 s x) : EReal)
    = V m c main_v74 (ix3 (bt t) s (col t x)) := rd5 (V m c main_v74) t s x

theorem rd6 (X : S4x2048x384.Idx → EReal) (t : Fin cfg0.N) (s : Fin 2048) (x : Fin 128) :
    (((cfg0.win 6).blk t).view.read (Elt Ideal) X (ix3 0 s x) : EReal) = X (ix3 (bt t) s (col t x)) := by
  unfold bt col
  blk_simp
  blk_ext [e6]

theorem ib6 (t : Fin cfg0.N) (s : Fin 2048) (x : Fin 128) : (iblk m c 6 t (ix3 0 s x) : EReal)
    = V m c main_v78 (ix3 (bt t) s (col t x)) := rd6 (V m c main_v78) t s x

/-! ## The heads of a point -/

theorem col_div (t : Fin cfg0.N) (x : Fin 128) : (col t x).val / 64 = (hh t (hd x)).val := by
  show (128 * (t.val % 3) + x.val) / 64 = 2 * (t.val % 3) + x.val / 64
  omega

theorem col_mod (t : Fin cfg0.N) (x : Fin 128) : (col t x).val % 64 = (en x).val := by
  show (128 * (t.val % 3) + x.val) % 64 = x.val % 64
  omega

theorem col_eq (t : Fin cfg0.N) (x : Fin 128) : (col t x).val = (hh t (hd x)).val * 64 + (en x).val := by
  rw [← col_div t x, ← col_mod t x]
  omega

theorem head_of (t : Fin cfg0.N) (x : Fin 128) (h) : (⟨(col t x).val / 64, h⟩ : Fin 6) = hh t (hd x) := Fin.ext (col_div t x)
theorem lane_of (t : Fin cfg0.N) (x : Fin 128) (h) : (⟨(col t x).val % 64, h⟩ : Fin 64) = en x := Fin.ext (col_mod t x)

section
variable {m} {c} {X0 : S4x2048x1152.Idx → ℝ} {X1 : S4x6x2048x64.Idx → ℝ} {X2 : S4x6x2048.Idx → ℝ}
  (h0 : ∀ i, (m ((c : Thread nD τ).loc main_arg0) i : EReal) = ((X0 i : ℝ) : EReal))
  (h1 : ∀ i, (m ((c : Thread nD τ).loc main_arg1) i : EReal) = ((X1 i : ℝ) : EReal))
  (h2 : ∀ i, (m ((c : Thread nD τ).loc main_arg2) i : EReal) = ((X2 i : ℝ) : EReal))

/-- The two heads of a point. -/
def pair (X0 : S4x2048x1152.Idx → ℝ) (X1 : S4x6x2048x64.Idx → ℝ) (X2 : S4x6x2048.Idx → ℝ) (t : Fin cfg0.N) : Fin 2 → Head :=
  fun j => headAt X0 X1 X2 (bt t) (hh t j)

include h0 h1 h2 in
theorem d_row (b : Fin 4) (h : Fin 6) (s : Fin 2048) :
    (less (m ((c : Thread nD τ).loc main_arg1)) (Cert.ReferenceIdeal.Read.val_main_v67 (F := Ideal) (m ((c : Thread nD τ).loc main_arg0)))
      (m ((c : Thread nD τ).loc main_arg2)) (ix3 b h s) : EReal) = (((headAt X0 X1 X2 b h).D s : ℝ) : EReal) := by
  rw [less_at, h2]
  simp only [h1, o_at (X1 := X1) (X2 := X2) h0, ← EReal.coe_mul, coe_sum, ← EReal.coe_sub]
  rfl

include h0 in
theorem at_q (t : Fin cfg0.N) (s : Fin 2048) (x : Fin 128) : (iblk m c 1 t (ix3 0 s x) : EReal)
    = (((pair X0 X1 X2 t (hd x)).q s (en x) : ℝ) : EReal) :=
  ((ib1 m c t s x).trans ((congrFun (V_arg0 m c) _).trans (h0 _))).trans
    (congrArg (fun k => ((X0 (ix3 (bt t) s k) : ℝ) : EReal)) (Fin.ext (col_eq t x)))

include h0 in
theorem at_k (t : Fin cfg0.N) (s : Fin 2048) (x : Fin 128) : (iblk m c 2 t (ix3 0 s x) : EReal)
    = (((pair X0 X1 X2 t (hd x)).k s (en x) : ℝ) : EReal) :=
  ((ib2 m c t s x).trans ((congrFun (V_arg0 m c) _).trans (h0 _))).trans
    (congrArg (fun k => ((X0 (ix3 (bt t) s k) : ℝ) : EReal)) (Fin.ext (congrArg (384 + ·) (col_eq t x))))

include h0 in
theorem at_v (t : Fin cfg0.N) (s : Fin 2048) (x : Fin 128) : (iblk m c 3 t (ix3 0 s x) : EReal)
    = (((pair X0 X1 X2 t (hd x)).v s (en x) : ℝ) : EReal) :=
  ((ib3 m c t s x).trans ((congrFun (V_arg0 m c) _).trans (h0 _))).trans
    (congrArg (fun k => ((X0 (ix3 (bt t) s k) : ℝ) : EReal)) (Fin.ext (congrArg (768 + ·) (col_eq t x))))

include h1 in
theorem at_g (t : Fin cfg0.N) (s : Fin 2048) (x : Fin 128) : (iblk m c 4 t (ix3 0 s x) : EReal)
    = (((pair X0 X1 X2 t (hd x)).g s (en x) : ℝ) : EReal) := by
  refine (ib4 m c t s x).trans ((congrFun (V_70 m c) _).trans ((side_at _ (bt t) s (col t x)).trans ((h1 _).trans ?_)))
  rw [head_of, lane_of]
  rfl

include h0 in
theorem at_l (t : Fin cfg0.N) (s : Fin 2048) (x : Fin 128) : (iblk m c 5 t (ix3 0 s x) : EReal)
    = ((Real.log ((pair X0 X1 X2 t (hd x)).Z s) : ℝ) : EReal) := by
  refine (ib5 m c t s x).trans ((congrFun (V_74 m c) _).trans ((spread_at _ (bt t) s (col t x)).trans ?_))
  rw [head_of]
  exact lse_at h0 (bt t) (hh t (hd x)) s

include h0 h1 h2 in
theorem at_d (t : Fin cfg0.N) (s : Fin 2048) (x : Fin 128) : (iblk m c 6 t (ix3 0 s x) : EReal)
    = (((pair X0 X1 X2 t (hd x)).D s : ℝ) : EReal) := by
  refine (ib6 m c t s x).trans ((congrFun (V_78 m c) _).trans ((spread_at _ (bt t) s (col t x)).trans ?_))
  rw [head_of]
  exact d_row h0 h1 h2 (bt t) (hh t (hd x)) s

theorem fits_mk (co : Vec Ideal S3x2 .f32) (q k v g l d : Vec Ideal S1x2048x128 .f32) (H : Fin 2 → Head)
    (hq : ∀ s x, (q (ix3 0 s x) : EReal) = (((H (hd x)).q s (en x) : ℝ) : EReal))
    (hk : ∀ s x, (k (ix3 0 s x) : EReal) = (((H (hd x)).k s (en x) : ℝ) : EReal))
    (hv : ∀ s x, (v (ix3 0 s x) : EReal) = (((H (hd x)).v s (en x) : ℝ) : EReal))
    (hg : ∀ s x, (g (ix3 0 s x) : EReal) = (((H (hd x)).g s (en x) : ℝ) : EReal))
    (hl : ∀ s x, (l (ix3 0 s x) : EReal) = ((Real.log ((H (hd x)).Z s) : ℝ) : EReal))
    (hd' : ∀ s x, (d (ix3 0 s x) : EReal) = (((H (hd x)).D s : ℝ) : EReal)) : Fits ⟨co, q, k, v, g, l, d⟩ H :=
  ⟨hq, hk, hv, hg, hl, hd'⟩

include h0 h1 h2 in
theorem fits (t : Fin cfg0.N) : Fits (ins m c t) (pair X0 X1 X2 t) := by
  unfold ins
  refine fits_mk _ _ _ _ _ _ _ _ (fun s x => ?_) (fun s x => ?_) (fun s x => ?_) (fun s x => ?_) (fun s x => ?_) (fun s x => ?_)
  · exact at_q h0 t s x
  · exact at_k h0 t s x
  · exact at_v h0 t s x
  · exact at_g h1 t s x
  · exact at_l h0 t s x
  · exact at_d h0 h1 h2 t s x

end

/-! ## The bias coefficients -/

theorem c00 (t : Fin cfg0.N) : (coef (iblk m c 0 t) ![0, 0] inb_S3x2_S1x1_0_0 : EReal) = ((slope 0 * (dil 0 : ℝ) : ℝ) : EReal) := by
  rw [coef, ib0, V_cst]
  show Ideal.ofBits .f32 0x3ECB2FF5#32 = _
  simp [slope, dil, Ideal.ofBits, Ideal.ieee, -EReal.coe_mul] <;> norm_num
theorem c01 (t : Fin cfg0.N) : (coef (iblk m c 0 t) ![0, 1] inb_S3x2_S1x1_0_1 : EReal) = ((slope 1 * (dil 1 : ℝ) : ℝ) : EReal) := by
  rw [coef, ib0, V_cst]
  show Ideal.ofBits .f32 0x3E214518#32 = _
  simp [slope, dil, Ideal.ofBits, Ideal.ieee, -EReal.coe_mul] <;> norm_num
theorem c10 (t : Fin cfg0.N) : (coef (iblk m c 0 t) ![1, 0] inb_S3x2_S1x1_1_0 : EReal) = ((slope 2 * (dil 2 : ℝ) : ℝ) : EReal) := by
  rw [coef, ib0, V_cst]
  show Ideal.ofBits .f32 0x3E800000#32 = _
  simp [slope, dil, Ideal.ofBits, Ideal.ieee, -EReal.coe_mul] <;> norm_num
theorem c11 (t : Fin cfg0.N) : (coef (iblk m c 0 t) ![1, 1] inb_S3x2_S1x1_1_1 : EReal) = ((slope 3 * (dil 3 : ℝ) : ℝ) : EReal) := by
  rw [coef, ib0, V_cst]
  show Ideal.ofBits .f32 0x3DCB2FF5#32 = _
  simp [slope, dil, Ideal.ofBits, Ideal.ieee, -EReal.coe_mul] <;> norm_num
theorem c20 (t : Fin cfg0.N) : (coef (iblk m c 0 t) ![2, 0] inb_S3x2_S1x1_2_0 : EReal) = ((slope 4 * (dil 4 : ℝ) : ℝ) : EReal) := by
  rw [coef, ib0, V_cst]
  show Ideal.ofBits .f32 0x3E214518#32 = _
  simp [slope, dil, Ideal.ofBits, Ideal.ieee, -EReal.coe_mul] <;> norm_num
theorem c21 (t : Fin cfg0.N) : (coef (iblk m c 0 t) ![2, 1] inb_S3x2_S1x1_2_1 : EReal) = ((slope 5 * (dil 5 : ℝ) : ℝ) : EReal) := by
  rw [coef, ib0, V_cst]
  show Ideal.ofBits .f32 0x3D800000#32 = _
  simp [slope, dil, Ideal.ofBits, Ideal.ieee, -EReal.coe_mul] <;> norm_num

/-! ## What a point leaves -/

theorem is1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem is2 : ∀ t : Fin cfg0.N, k0_cond2 (grid0.coords t) = 1#1 ↔ t.val % 3 = 1 :=
  (by decide +kernel : ∀ t : Fin grid0.N, k0_cond2 (grid0.coords t) = 1#1 ↔ t.val % 3 = 1)

theorem hh_of (t : Fin cfg0.N) (p : ℕ) (h : t.val % 3 = p) (j : Fin 2) (k : Fin 6) (hk : k.val = 2 * p + j.val) : hh t j = k :=
  Fin.ext (by show 2 * (t.val % 3) + j.val = k.val; omega)

section
variable {m} {c} {X0 : S4x2048x1152.Idx → ℝ} {X1 : S4x6x2048x64.Idx → ℝ} {X2 : S4x6x2048.Idx → ℝ}

theorem pair_d (t : Fin cfg0.N) (p n : ℕ) (h : t.val % 3 = p) (k0 k1 : Fin 6) (h0 : k0.val = 2 * p) (h1 : k1.val = 2 * p + 1)
    (e0 : dil k0 = n) (e1 : dil k1 = n) (j : Fin 2) : (pair X0 X1 X2 t j).d = n := by
  show dil (hh t j) = n
  match j with
  | 0 => rw [hh_of t p h 0 k0 (by rw [h0]; rfl), e0]
  | 1 => rw [hh_of t p h 1 k1 (by rw [h1]; rfl), e1]

theorem pair_ad (t : Fin cfg0.N) (p : ℕ) (h : t.val % 3 = p) (j : Fin 2) (k : Fin 6) (hk : k.val = 2 * p + j.val) :
    (pair X0 X1 X2 t j).a * ((pair X0 X1 X2 t j).d : ℝ) = slope k * (dil k : ℝ) := by
  show slope (hh t j) * (dil (hh t j) : ℝ) = _
  rw [hh_of t p h j k hk]

variable (h0 : ∀ i, (m ((c : Thread nD τ).loc main_arg0) i : EReal) = ((X0 i : ℝ) : EReal))
  (h1 : ∀ i, (m ((c : Thread nD τ).loc main_arg1) i : EReal) = ((X1 i : ℝ) : EReal))
  (h2 : ∀ i, (m ((c : Thread nD τ).loc main_arg2) i : EReal) = ((X2 i : ℝ) : EReal))

include h0 h1 h2 in
theorem leaves (t : Fin cfg0.N) (σ : Outs Ideal) : Grads (ran (grid0.coords t) (ins m c t) σ) (pair X0 X1 X2 t) := by
  have X := fits h0 h1 h2 t
  have hco : (ins m c t).co = iblk m c 0 t := rfl
  unfold ran
  by_cases p0 : t.val % 3 = 0
  · rw [if_pos ((is1 t).mpr p0)]
    refine grads1 X σ (pair_d t 0 1 p0 0 1 rfl rfl rfl rfl) ?_ ?_
    · rw [pair_ad t 0 p0 0 0 rfl, hco, c00]
    · rw [pair_ad t 0 p0 1 1 rfl, hco, c01]
  · rw [if_neg (fun h => p0 ((is1 t).mp h))]
    by_cases p1 : t.val % 3 = 1
    · rw [if_pos ((is2 t).mpr p1)]
      refine grads2 X σ (pair_d t 1 4 p1 2 3 rfl rfl rfl rfl) ?_ ?_
      · rw [pair_ad t 1 p1 0 2 rfl, hco, c10]
      · rw [pair_ad t 1 p1 1 3 rfl, hco, c11]
    · rw [if_neg (fun h => p1 ((is2 t).mp h))]
      have p2 : t.val % 3 = 2 := by omega
      refine grads3 X σ (pair_d t 2 16 p2 4 5 rfl rfl rfl rfl) ?_ ?_
      · rw [pair_ad t 2 p2 0 4 rfl, hco, c20]
      · rw [pair_ad t 2 p2 1 5 rfl, hco, c21]

end

end Cert.Attn

end
-- ==== Proof.AttnClaim.lean ====
/- The attention's gradient: the value claim. -/
module

public import proofs.«01_k».proof.Proof.AttnValue

@[expose] public section

noncomputable section

namespace Cert.Attn

open Cert.KernelIdeal Cert.KernelIdeal.Gen Idealize.ShloMosaic Idealize.ShloMosaic.TcCoe Idealize.SL.Sem

theorem put7 (t : Fin cfg0.N) (y : S1x2048x128.Idx) : (win0_7.blk t).view.emb y = ix3 (bt t) (y 1) (col t (y 2)) := by
  unfold bt col
  blk_ext [e7]
theorem put8 (t : Fin cfg0.N) (y : S1x2048x128.Idx) : (win0_8.blk t).view.emb y = ix3 (bt t) (y 1) (col t (y 2)) := by
  unfold bt col
  blk_ext [e8]
theorem put9 (t : Fin cfg0.N) (y : S1x2048x128.Idx) : (win0_9.blk t).view.emb y = ix3 (bt t) (y 1) (col t (y 2)) := by
  unfold bt col
  blk_ext [e9]

theorem flat (y : S1x2048x128.Idx) : y = ix3 0 (y 1) (y 2) := by
  funext a
  match a with
  | ⟨0, _⟩ => exact Subsingleton.elim (α := Fin 1) _ _
  | ⟨1, _⟩ => rfl
  | ⟨2, _⟩ => rfl

section
variable {m : (ℓ : Loc nD τ sig) → Buf (Elt Ideal) ℓ} {c : Dev nD} {X0 : S4x2048x1152.Idx → ℝ} {X1 : S4x6x2048x64.Idx → ℝ} {X2 : S4x6x2048.Idx → ℝ}
  (h0 : ∀ i, (m ((c : Thread nD τ).loc main_arg0) i : EReal) = ((X0 i : ℝ) : EReal))
  (h1 : ∀ i, (m ((c : Thread nD τ).loc main_arg1) i : EReal) = ((X1 i : ℝ) : EReal))
  (h2 : ∀ i, (m ((c : Thread nD τ).loc main_arg2) i : EReal) = ((X2 i : ℝ) : EReal))

include h0 h1 h2 in
theorem blk_q (t : Fin cfg0.N) (s : Fin 2048) (x : Fin 128) : ((left m c t).dq (ix3 0 s x) : EReal)
    = Cert.ReferenceIdeal.Read.val_main_v108 (F := Ideal) (m ((c : Thread nD τ).loc main_arg0)) (m ((c : Thread nD τ).loc main_arg1))
      (m ((c : Thread nD τ).loc main_arg2)) (ix3 (bt t) s (col t x)) := by
  refine ((leaves h0 h1 h2 t _).dq s x).trans ((dq_at h0 h1 h2 (bt t) s (col t x)).trans ?_).symm
  rw [head_of, lane_of]
  rfl

include h0 h1 h2 in
theorem blk_k (t : Fin cfg0.N) (s : Fin 2048) (x : Fin 128) : ((left m c t).dk (ix3 0 s x) : EReal)
    = Cert.ReferenceIdeal.Read.val_main_v109 (F := Ideal) (m ((c : Thread nD τ).loc main_arg0)) (m ((c : Thread nD τ).loc main_arg1))
      (m ((c : Thread nD τ).loc main_arg2)) (ix3 (bt t) s (col t x)) := by
  refine ((leaves h0 h1 h2 t _).dk s x).trans ((dk_at h0 h1 h2 (bt t) s (col t x)).trans ?_).symm
  rw [head_of, lane_of]
  rfl

include h0 h1 h2 in
theorem blk_v (t : Fin cfg0.N) (s : Fin 2048) (x : Fin 128) : ((left m c t).dv (ix3 0 s x) : EReal)
    = Cert.ReferenceIdeal.Read.val_main_v110 (F := Ideal) (m ((c : Thread nD τ).loc main_arg0)) (m ((c : Thread nD τ).loc main_arg1))
      (ix3 (bt t) s (col t x)) := by
  refine ((leaves h0 h1 h2 t _).dv s x).trans ((dv_at (X2 := X2) h0 h1 (bt t) s (col t x)).trans ?_).symm
  rw [head_of, lane_of]
  rfl

include h0 h1 h2 in
theorem all_q : (dats m 0 c).arrAt 7 cfg0.N = Cert.ReferenceIdeal.Read.val_main_v108 (F := Ideal) (m ((c : Thread nD τ).loc main_arg0))
    (m ((c : Thread nD τ).loc main_arg1)) (m ((c : Thread nD τ).loc main_arg2)) := by
  refine (dats m 0 c).arrAt_eq_of_covers 7 _ (by decide +kernel) fun t hf y => ?_
  rw [after_7]
  refine Eq.trans ?_ ((blk_q h0 h1 h2 t (y 1) (y 2)).trans (congrArg _ (put7 t y).symm))
  exact congrArg (left m c t).dq (flat y)

include h0 h1 h2 in
theorem all_k : (dats m 0 c).arrAt 8 cfg0.N = Cert.ReferenceIdeal.Read.val_main_v109 (F := Ideal) (m ((c : Thread nD τ).loc main_arg0))
    (m ((c : Thread nD τ).loc main_arg1)) (m ((c : Thread nD τ).loc main_arg2)) := by
  refine (dats m 0 c).arrAt_eq_of_covers 8 _ (by decide +kernel) fun t hf y => ?_
  rw [after_8]
  refine Eq.trans ?_ ((blk_k h0 h1 h2 t (y 1) (y 2)).trans (congrArg _ (put8 t y).symm))
  exact congrArg (left m c t).dk (flat y)

include h0 h1 h2 in
theorem all_v : (dats m 0 c).arrAt 9 cfg0.N = Cert.ReferenceIdeal.Read.val_main_v110 (F := Ideal) (m ((c : Thread nD τ).loc main_arg0))
    (m ((c : Thread nD τ).loc main_arg1)) := by
  refine (dats m 0 c).arrAt_eq_of_covers 9 _ (by decide +kernel) fun t hf y => ?_
  rw [after_9]
  refine Eq.trans ?_ ((blk_v h0 h1 h2 t (y 1) (y 2)).trans (congrArg _ (put9 t y).symm))
  exact congrArg (left m c t).dv (flat y)
end

/-! ## The precondition -/

theorem real_of (a : EReal) (h : Ideal.cmp .olt (max a (-a)) (Ideal.ofBits .f32 0x7F800000#32) = 1#1) : a = ((a.toReal : ℝ) : EReal) := by
  have ht : Ideal.ofBits .f32 0x7F800000#32 = ⊤ := by simp [Ideal.ofBits, Ideal.ieee]
  rw [ht] at h
  have hl : max a (-a) < ⊤ := by
    by_contra hn
    rw [Ideal.cmp_olt, decide_eq_false hn] at h
    exact absurd h (by decide)
  refine (EReal.coe_toReal (fun e => ?_) (fun e => ?_)).symm <;> rw [e] at hl <;> simp at hl

theorem finite_at (m : (ℓ : Loc nD τ sig) → Buf (Elt Ideal) ℓ) (h : Cert.Pre_KernelIdeal_finite m) (c : Dev nD) :
    (∀ i, (m ((c : Thread nD τ).loc main_arg0) i : EReal) = (((m ((c : Thread nD τ).loc main_arg0) i : EReal).toReal : ℝ) : EReal))
    ∧ (∀ i, (m ((c : Thread nD τ).loc main_arg1) i : EReal) = (((m ((c : Thread nD τ).loc main_arg1) i : EReal).toReal : ℝ) : EReal))
    ∧ (∀ i, (m ((c : Thread nD τ).loc main_arg2) i : EReal) = (((m ((c : Thread nD τ).loc main_arg2) i : EReal).toReal : ℝ) : EReal)) := by
  obtain ⟨a, b, d⟩ := h c
  refine ⟨fun i => real_of _ ?_, fun i => real_of _ ?_, fun i => real_of _ ?_⟩
  · exact congrFun a i
  · exact congrFun b i
  · exact congrFun d i

theorem algebraic : Cert.algebraic_KernelIdeal_ReferenceIdeal_pre_finite := by
  intro m g m' g' hpre hagree
  refine ⟨fun c => (dats m 0 c).arrAt 7 cfg0.N, fun c => (dats m 0 c).arrAt 8 cfg0.N, fun c => (dats m 0 c).arrAt 9 cfg0.N, ?_, ?_⟩
  · refine (θ_run defs _ _).mono (fun r h c => ?_) (θ_run_and (launched m g) (quiet m g))
    obtain ⟨⟨hp, _⟩, hq, _⟩ := h
    exact ⟨(hp c).1 7, (hp c).1 8, (hp c).1 9, hq c⟩
  · refine (θ_run Cert.ReferenceIdeal.defs _ _).mono (fun r h c => ?_) (Cert.ReferenceIdeal.Value.run (F := Ideal) m' g')
    obtain ⟨hq, hk, hv, ha⟩ := h c
    obtain ⟨h0, h1, h2⟩ := finite_at m hpre c
    have a0 : StableHlo.launchContents m' c (Proc.tc.devRef Cert.ReferenceIdeal.main_arg0) = m ((c : Thread nD τ).loc main_arg0) := (hagree c).1
    have a1 : StableHlo.launchContents m' c (Proc.tc.devRef Cert.ReferenceIdeal.main_arg1) = m ((c : Thread nD τ).loc main_arg1) := (hagree c).2.1
    have a2 : StableHlo.launchContents m' c (Proc.tc.devRef Cert.ReferenceIdeal.main_arg2) = m ((c : Thread nD τ).loc main_arg2) := (hagree c).2.2
    refine ⟨hq.trans ?_, hk.trans ?_, hv.trans ?_, ha⟩
    · dsimp only
      rw [all_q h0 h1 h2, Cert.ReferenceIdeal.Read.val_main_v108_eq, a0, a1, a2]
    · dsimp only
      rw [all_k h0 h1 h2, Cert.ReferenceIdeal.Read.val_main_v109_eq, a0, a1, a2]
    · dsimp only
      rw [all_v h0 h1 h2, Cert.ReferenceIdeal.Read.val_main_v110_eq, a0, a1]

end Cert.Attn

end
-- ==== Proof.Down.lean ====
/- The squared-relu gate's gradient: the array the call returns, and the reference's array, element by element. -/
module

public import proofs.«01_k».proof.Proof.Gen.Kernel2Ideal.Value
public import proofs.«01_k».proof.Proof.Gen.Reference2Ideal.Read
public import proofs.«01_k».proof.Defs
public import Idealize.ShloMosaic.Lib.Pointwise
public import Idealize.ShloMosaic.Lib.Pipeline.ValueKit

@[expose] public section

noncomputable section

namespace Cert.Down

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The gradient at row `j 0` and hidden unit `j 1`: the cotangent times the down projection, times twice the relu. -/
def G (pre : S8192x4096.Idx → EReal) (w : S4096x1024.Idx → EReal) (dx : S8192x1024.Idx → EReal) : S8192x4096.Idx → EReal :=
  fun j => (∑ k : Fin 1024, dx (ix2 (j 0) k) * w (ix2 (j 1) k)) * (2 * max (pre j) 0)

theorem two : Ideal.ofBits .f32 0x40000000#32 = 2 := by
  simp [Ideal.ofBits, Ideal.ieee, -EReal.coe_mul]; norm_num; rfl

/-- One column chunk's payload at an index. -/
theorem pay_apply (x : Vec Ideal S512x1024 .f32) (w : Vec Ideal S1024x1024 .bf16) (r : Vec Ideal S512x1024 .bf16) (j : S512x1024.Idx) :
    k0_pay4 x w r j = (∑ k : Fin 1024, x (ix2 (j 0) k) * w (ix2 (j 1) k)) * (2 * r j) := by
  pointwise [k0_pay4, k0_pay3]
  rw [two]

/-- The relu the host prepares. -/
theorem V_r (c : Dev nD) (j : S8192x4096.Idx) : (V (F := Ideal) m c main_v2 j : EReal) = max (α := EReal) (m ((c : Thread nD τ).loc main_arg0) j) 0 := by
  dsimp only [V, hostOps0]; after_results
  pointwise

theorem V_w (c : Dev nD) (j : S4096x1024.Idx) : V (F := Ideal) m c main_v3 j = m ((c : Thread nD τ).loc main_arg1) j := by
  dsimp only [V, hostOps0]; after_results
  pointwise

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)

/-- The cotangent's block at point `t`: rows `512 t` to `512 t + 511` of its array. -/
theorem ib0 (c : Dev nD) (t : Fin cfg0.N) (x : S512x1024.Idx) (i : S8192x1024.Idx)
    (h0 : (i 0).val = t.val * 512 + (x 0).val) (h1 : (i 1).val = (x 1).val) :
    (iblk m c 0 t x : EReal) = m ((c : Thread nD τ).loc main_arg2) i := by
  unfold iblk
  blk_simp
  rw [V_main_arg2]
  blk_ext [e0]

theorem ib1 (c : Dev nD) (t : Fin cfg0.N) (x : S512x4096.Idx) (i : S8192x4096.Idx)
    (h0 : (i 0).val = t.val * 512 + (x 0).val) (h1 : (i 1).val = (x 1).val) :
    (iblk m c 1 t x : EReal) = max (α := EReal) (m ((c : Thread nD τ).loc main_arg0) i) 0 := by
  unfold iblk
  blk_simp
  rw [V_r]
  congr 1
  blk_ext [e1]

theorem ib2 (c : Dev nD) (t : Fin cfg0.N) (x : S4096x1024.Idx) :
    (iblk m c 2 t x : EReal) = m ((c : Thread nD τ).loc main_arg1) x := by
  unfold iblk
  blk_simp
  rw [V_w]
  blk_ext [e2]

/-- One column chunk, its operands read off the arrays. -/
theorem piece (pre : S8192x4096.Idx → EReal) (w : S4096x1024.Idx → EReal) (dx : S8192x1024.Idx → EReal) (i : S8192x4096.Idx)
    (x' : Vec Ideal S512x1024 .f32) (w' : Vec Ideal S1024x1024 .bf16) (r' : Vec Ideal S512x1024 .bf16) (x : S512x1024.Idx)
    (hx : ∀ k, x' (ix2 (x 0) k) = dx (ix2 (i 0) k)) (hw : ∀ k, w' (ix2 (x 1) k) = w (ix2 (i 1) k)) (hr : r' x = max (α := EReal) (pre i) 0) :
    k0_pay4 x' w' r' x = G pre w dx i := by
  rw [pay_apply]
  simp only [hx, hw, hr, G]

/-- The array the call leaves is the gradient. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hy0 : ((win0_3.blk t).view.emb y 0).val = t.val * 512 + (y 0).val := by blk_simp [e3]
  have hy1 : ((win0_3.blk t).view.emb y 1).val = (y 1).val := by blk_simp [e3]
  generalize (win0_3.blk t).view.emb y = i at hy0 hy1 ⊢
  canon_tiles x h
  all_goals
    refine piece _ _ _ i _ _ _ x (fun k => ?_) (fun k => ?_) ?_
    · rw [View.ld_apply]; exact ib0 m c t _ _ (by rw [Rect.idx_unit_val]; simp [hy0, h0]) (by rw [Rect.idx_unit_val]; simp)
    · rw [View.ld_apply, ib2]
      congr 1
      funext a
      apply Fin.ext
      rw [Rect.idx_unit_val]
      fin_cases a <;> simp [hy1, h1]
    · rw [View.ld_apply]; exact ib1 m c t _ _ (by rw [Rect.idx_unit_val]; simp [hy0, h0]) (by rw [Rect.idx_unit_val]; simp [hy1, h1])

open Cert.Reference2Ideal.Read in
/-- The reference's array is the gradient. -/
theorem ref_eq (pre : S8192x4096.Idx → EReal) (w : S4096x1024.Idx → EReal) (dx : S8192x1024.Idx → EReal) (j : S8192x4096.Idx) :
    Cert.Reference2Ideal.Read.val_main_v12 (F := Ideal) pre w dx j = G pre w dx j := by
  simp only [val_main_v12_apply, val_main_v11_apply, val_main_v2_apply, val_main_v9_apply, val_main_v10_apply, val_main_v8_apply,
    val_main_v6_apply, val_main_v5_apply, val_main_v1_apply, val_main_v0_apply, val_main_call0_v0_apply, val_main_call0_cst_apply,
    val_main_cst_apply, val_main_cst_1_apply, val_main_cst_2_apply]
  have hz : FloatOps.ofBits (F := Ideal) .f32 0x00000000#32 = (0 : EReal) := Ideal.ofBits_zero_f32
  have h2 : FloatOps.ofBits (F := Ideal) .f32 0x40000000#32 = (2 : EReal) := two
  rw [hz, h2]
  unfold G
  have hl : ∀ k, lidx_main_v8 j k = ix2 (j 0) k := fun k => by funext a; fin_cases a <;> rfl
  have hr : ∀ k, ridx_main_v8 j k = ix2 (j 1) k := fun k => by funext a; fin_cases a <;> rfl
  simp only [hl, hr]
  rcases lt_or_ge 0 (pre j) with h | h
  · have hc : FloatOps.cmpf (F := Ideal) (φ := .f32) .ogt (pre j) (0 : EReal) = 1#1 := by
      rw [Ideal.cmpf_def, Ideal.cmp_ogt, decide_eq_true h]; rfl
    rw [hc]
    rfl
  · have hc : FloatOps.cmpf (F := Ideal) (φ := .f32) .ogt (pre j) (0 : EReal) = 0#1 := by
      rw [Ideal.cmpf_def, Ideal.cmp_ogt, decide_eq_false (not_lt.mpr h)]; rfl
    rw [hc, max_eq_right h, mul_zero, mul_zero]
    rfl

/-- The two programs return the same array. -/
theorem algebraic : Cert.algebraic_Kernel2Ideal_Reference2Ideal := by
  intro m g m' g' _ hagree
  refine ⟨fun c => (dats m 0 c).arrAt 3 cfg0.N, Value.run_blocks m g, ?_⟩
  refine (θ_run Cert.Reference2Ideal.defs _ _).mono (fun r h c => ⟨?_, (h c).2⟩) (Cert.Reference2Ideal.Value.run (F := Ideal) m' g')
  rw [(h c).1]; dsimp only
  rw [final, Cert.Reference2Ideal.Read.val_main_v12_eq, (hagree c).1, (hagree c).2.1, (hagree c).2.2]
  exact funext (ref_eq _ _ _)

end Cert.Down

end
-- ==== Proof.RmsMath.lean ====
/- The RMSNorm's gradient of one row over the real numbers: the kernels' form of it, and the form differentiation writes. -/
module

public import Idealize.ShloMosaic.PureOps.Ideal
public import Idealize.ShloMosaic.Lib.Pipeline.ValueKit

@[expose] public section

noncomputable section

namespace Cert.Rms

open Idealize.ShloMosaic

/-! ## Constants and sums -/

theorem width : Ideal.ofBits .f32 0x44800000#32 = ((1024 : ℝ) : EReal) := by
  simp [Ideal.ofBits, Ideal.ieee, -EReal.coe_mul]; norm_num

/-- The norm's epsilon, the real its word denotes. -/
def eps : ℝ := (Ideal.ofBits .f32 0x358637BD#32).toReal

theorem eps_word : ∃ e : ℝ, 0 < e ∧ Ideal.ofBits .f32 0x358637BD#32 = (e : EReal) := by
  simp [Ideal.ofBits, Ideal.ieee, -EReal.coe_mul]

theorem eps_eq : Ideal.ofBits .f32 0x358637BD#32 = (eps : EReal) := by
  obtain ⟨e, _, he⟩ := eps_word
  unfold eps
  rw [he, EReal.toReal_coe]

theorem eps_pos : 0 < eps := by
  obtain ⟨e, h, he⟩ := eps_word
  unfold eps
  rw [he, EReal.toReal_coe]
  exact h

theorem neg_half : Ideal.ofBits .f32 0xBF000000#32 = ((-(1 / 2) : ℝ) : EReal) := by
  simp [Ideal.ofBits, Ideal.ieee, -EReal.coe_mul]; norm_num

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_width (a : ℝ) : Ideal.div (a : EReal) (Ideal.ofBits .f32 0x44800000#32) = ((a / 1024 : ℝ) : EReal) := by
  rw [width, Ideal.div_coe (by norm_num), ← EReal.coe_mul]
  congr 1
  ring

theorem div_real (a b : ℝ) (h : b ≠ 0) : Ideal.div (a : EReal) (b : EReal) = ((a / b : ℝ) : EReal) := by
  rw [Ideal.div_coe h, ← EReal.coe_mul]
  congr 1
  ring

/-! ## One row -/

/-- The row's mean square plus epsilon. -/
def msq (x : Fin 1024 → EReal) : EReal :=
  Ideal.div (∑ k, x k * x k) (Ideal.ofBits .f32 0x44800000#32) + Ideal.ofBits .f32 0x358637BD#32

/-- The row's reciprocal root mean square. -/
def rstd (x : Fin 1024 → EReal) : EReal := Ideal.rsqrt (msq x)

/-- The gradient of a row's normalization as the kernels write it: `dh` the cotangent, `g` the gain. -/
def grad (x g dh : Fin 1024 → EReal) (j : Fin 1024) : EReal :=
  rstd x * (dh j * g j - x j * rstd x * Ideal.div (∑ k, dh k * g k * (x k * rstd x)) (Ideal.ofBits .f32 0x44800000#32))

/-- The factor of the row itself in the gradient, as differentiation writes it: half of it (the square's derivative adds it twice). -/
def pull (x g dh : Fin 1024 → EReal) : EReal :=
  Ideal.div ((∑ k, x k * (dh k * g k)) * (Ideal.ofBits .f32 0xBF000000#32 * Ideal.div (rstd x) (msq x))) (Ideal.ofBits .f32 0x44800000#32)

/-- The real row's mean square plus epsilon, and its reciprocal root. -/
def rmsq (x : Fin 1024 → ℝ) : ℝ := (∑ k, x k * x k) / 1024 + eps
def rrstd (x : Fin 1024 → ℝ) : ℝ := (Real.sqrt (rmsq x))⁻¹

theorem rmsq_pos (x : Fin 1024 → ℝ) : 0 < rmsq x :=
  add_pos_of_nonneg_of_pos (div_nonneg (Finset.sum_nonneg fun k _ => mul_self_nonneg (x k)) (by norm_num)) eps_pos

theorem msq_real (x : Fin 1024 → ℝ) : msq (fun k => (x k : EReal)) = (rmsq x : EReal) := by
  unfold msq rmsq
  simp only [← EReal.coe_mul]
  rw [coe_sum, div_width, eps_eq, ← EReal.coe_add]

theorem rstd_real (x : Fin 1024 → ℝ) : rstd (fun k => (x k : EReal)) = (rrstd x : EReal) := by
  unfold rstd rrstd
  rw [msq_real, Ideal.rsqrt_coe, if_neg (not_lt.mpr (rmsq_pos x).le), if_neg (rmsq_pos x).ne']

theorem rrstd_sq (x : Fin 1024 → ℝ) : rrstd x * rrstd x = 1 / rmsq x := by
  unfold rrstd
  rw [← mul_inv, Real.mul_self_sqrt (rmsq_pos x).le, one_div]

/-- The real gradient. -/
def rgrad (x g dh : Fin 1024 → ℝ) (j : Fin 1024) : ℝ :=
  rrstd x * (dh j * g j - x j * rrstd x * ((∑ k, dh k * g k * (x k * rrstd x)) / 1024))

theorem grad_real (x g dh : Fin 1024 → ℝ) (j : Fin 1024) :
    grad (fun k => (x k : EReal)) (fun k => (g k : EReal)) (fun k => (dh k : EReal)) j = (rgrad x g dh j : EReal) := by
  unfold grad rgrad
  rw [rstd_real]
  simp only [← EReal.coe_mul]
  rw [coe_sum, div_width, ← EReal.coe_mul, ← EReal.coe_sub, ← EReal.coe_mul]

theorem pull_real (x g dh : Fin 1024 → ℝ) :
    pull (fun k => (x k : EReal)) (fun k => (g k : EReal)) (fun k => (dh k : EReal))
      = (((∑ k, x k * (dh k * g k)) * (-(1 / 2) * (rrstd x / rmsq x)) / 1024 : ℝ) : EReal) := by
  unfold pull
  rw [rstd_real, msq_real, div_real _ _ (rmsq_pos x).ne', neg_half]
  simp only [← EReal.coe_mul]
  rw [coe_sum, ← EReal.coe_mul, div_width]

/-- The two forms of the gradient agree on real rows. -/
theorem grad_eq (x g dh : Fin 1024 → EReal) (hx : ∀ k, x k = ((x k).toReal : EReal)) (hg : ∀ k, g k = ((g k).toReal : EReal))
    (hd : ∀ k, dh k = ((dh k).toReal : EReal)) (j : Fin 1024) :
    (dh j * g j) * rstd x + x j * pull x g dh + pull x g dh * x j = grad x g dh j := by
  obtain ⟨X, rfl⟩ : ∃ X : Fin 1024 → ℝ, x = fun k => (X k : EReal) := ⟨fun k => (x k).toReal, funext hx⟩
  obtain ⟨G, rfl⟩ : ∃ G : Fin 1024 → ℝ, g = fun k => (G k : EReal) := ⟨fun k => (g k).toReal, funext hg⟩
  obtain ⟨D, rfl⟩ : ∃ D : Fin 1024 → ℝ, dh = fun k => (D k : EReal) := ⟨fun k => (dh k).toReal, funext hd⟩
  rw [grad_real, pull_real, rstd_real]
  simp only [← EReal.coe_mul, ← EReal.coe_add]
  congr 1
  unfold rgrad
  have hs : ∑ k, D k * G k * (X k * rrstd X) = rrstd X * ∑ k, X k * (D k * G k) := by
    rw [Finset.mul_sum]
    exact Finset.sum_congr rfl fun k _ => by ring
  have hq : rrstd X / rmsq X = rrstd X * (rrstd X * rrstd X) := by rw [rrstd_sq]; ring
  rw [hs, hq]
  ring

theorem grad_toReal (x g dh : Fin 1024 → EReal) (hx : ∀ k, x k = ((x k).toReal : EReal)) (hg : ∀ k, g k = ((g k).toReal : EReal))
    (hd : ∀ k, dh k = ((dh k).toReal : EReal)) (j : Fin 1024) : grad x g dh j = ((grad x g dh j).toReal : EReal) := by
  obtain ⟨X, rfl⟩ : ∃ X : Fin 1024 → ℝ, x = fun k => (X k : EReal) := ⟨fun k => (x k).toReal, funext hx⟩
  obtain ⟨G, rfl⟩ : ∃ G : Fin 1024 → ℝ, g = fun k => (G k : EReal) := ⟨fun k => (g k).toReal, funext hg⟩
  obtain ⟨D, rfl⟩ : ∃ D : Fin 1024 → ℝ, dh = fun k => (D k : EReal) := ⟨fun k => (dh k).toReal, funext hd⟩
  rw [grad_real, EReal.toReal_coe]

/-! ## Reals among the extended reals -/

theorem mul_toReal (a b : EReal) (ha : a = (a.toReal : EReal)) (hb : b = (b.toReal : EReal)) : a * b = ((a * b).toReal : EReal) := by
  rw [ha, hb, ← EReal.coe_mul, EReal.toReal_coe]

theorem add_toReal (a b : EReal) (ha : a = (a.toReal : EReal)) (hb : b = (b.toReal : EReal)) : a + b = ((a + b).toReal : EReal) := by
  rw [ha, hb, ← EReal.coe_add, EReal.toReal_coe]

theorem sum_toReal {ι : Type} (s : Finset ι) (f : ι → EReal) (h : ∀ i, f i = ((f i).toReal : EReal)) :
    ∑ i ∈ s, f i = ((∑ i ∈ s, f i).toReal : EReal) := by
  rw [Finset.sum_congr rfl fun i _ => h i, coe_sum, EReal.toReal_coe]

/-- An element that passes the precondition's test is a real. -/
theorem of_finite (a : EReal) (h : Ideal.cmp .olt (max a (-a)) (Ideal.ofBits .f32 0x7F800000#32) = 1#1) : a = (a.toReal : EReal) := by
  have ht : Ideal.ofBits .f32 0x7F800000#32 = ⊤ := by simp [Ideal.ofBits, Ideal.ieee]
  rw [ht] at h
  have hl : max a (-a) < ⊤ := by
    by_contra hn
    rw [Ideal.cmp_olt, decide_eq_false hn] at h
    exact absurd h (by decide)
  refine (EReal.coe_toReal (fun e => ?_) (fun e => ?_)).symm <;> rw [e] at hl <;> simp at hl

end Cert.Rms

end
-- ==== Proof.Up.lean ====
/- The second RMSNorm's gradient: the arrays the call returns, and the reference's, element by element. -/
module

public import proofs.«01_k».proof.Proof.Gen.Kernel3Ideal.Value
public import proofs.«01_k».proof.Proof.Gen.Reference3Ideal.Read
public import proofs.«01_k».proof.Proof.Gen.Pre_finite3
public import proofs.«01_k».proof.Proof.RmsMath
public import proofs.«01_k».proof.Defs
public import Idealize.ShloMosaic.Lib.Pointwise
public import Idealize.ShloMosaic.Lib.Pipeline.ValueKit

@[expose] public section

noncomputable section

namespace Cert.Up

open Cert.Kernel3Ideal Cert.Kernel3Ideal.Gen Cert.Rms Idealize.ShloMosaic Idealize.ShloMosaic.TcCoe Idealize.SL.Sem

variable (m : (ℓ : Loc nD τ sig) → Buf (Elt Ideal) ℓ) (ρ : Dev nD → PrngReg)

/-- The cotangent of the normalized row `t` at feature `d`: the hidden units' cotangents through the up projection. -/
def DH (w : S1024x4096.Idx → EReal) (dp : S8192x4096.Idx → EReal) (t : Fin 8192) (d : Fin 1024) : EReal :=
  ∑ f : Fin 4096, dp (ix2 t f) * w (ix2 d f)

/-- Row `t` of an array of rows. -/
def row (x : S8192x1024.Idx → EReal) (t : Fin 8192) : Fin 1024 → EReal := fun k => x (ix2 t k)

/-- The row's gradient: the residual's cotangent plus the normalization's. -/
def DX (x : S8192x1024.Idx → EReal) (g : S1024.Idx → EReal) (w : S1024x4096.Idx → EReal) (dp : S8192x4096.Idx → EReal)
    (dx : S8192x1024.Idx → EReal) : S8192x1024.Idx → EReal :=
  fun i => dx i + grad (row x (i 0)) (fun k => g (ix1 k)) (DH w dp (i 0)) (i 1)

/-- One row's part of the gain's gradient. -/
def part (x : S8192x1024.Idx → EReal) (w : S1024x4096.Idx → EReal) (dp : S8192x4096.Idx → EReal) (t : Fin 8192) (d : Fin 1024) : EReal :=
  DH w dp t d * (x (ix2 t d) * rstd (row x t))

/-- The gain's gradient. -/
def DG (x : S8192x1024.Idx → EReal) (w : S1024x4096.Idx → EReal) (dp : S8192x4096.Idx → EReal) : S1x1024.Idx → EReal :=
  fun i => ∑ t : Fin 8192, part x w dp t (i 1)

/-! ## The payloads -/

theorem pay6_apply (a0 : Vec Ideal S512x1024 .bf16) (b0 : Vec Ideal S1024x1024 .bf16) (a1 : Vec Ideal S512x1024 .bf16) (b1 : Vec Ideal S1024x1024 .bf16)
    (a2 : Vec Ideal S512x1024 .bf16) (b2 : Vec Ideal S1024x1024 .bf16) (a3 : Vec Ideal S512x1024 .bf16) (b3 : Vec Ideal S1024x1024 .bf16)
    (s : Fin 512) (d : Fin 1024) :
    (k0_pay6 a0 b0 a1 b1 a2 b2 a3 b3 (ix2 s d) : EReal)
      = (∑ k : Fin 1024, a0 (ix2 s k) * b0 (ix2 d k)) + (∑ k : Fin 1024, a1 (ix2 s k) * b1 (ix2 d k))
        + (∑ k : Fin 1024, a2 (ix2 s k) * b2 (ix2 d k)) + ∑ k : Fin 1024, a3 (ix2 s k) * b3 (ix2 d k) := by
  pointwise [k0_pay6]

theorem pay1_apply (x : Vec Ideal S512x1024 .f32) (s : Fin 512) (z : Fin 1) :
    (k0_pay1 (k0_pay8 x) (k0_pay9 (F := Ideal)) (ix2 s z) : EReal) = rstd fun k => x (ix2 s k) := by
  pointwise [k0_pay1, k0_pay8, k0_pay9]
  rfl

theorem pay2_apply (x : Vec Ideal S512x1024 .f32) (s : Fin 512) (d : Fin 1024) :
    (k0_pay2 x (k0_pay8 x) (k0_pay9 (F := Ideal)) (ix2 s d) : EReal) = x (ix2 s d) * rstd fun k => x (ix2 s k) := by
  pointwise [k0_pay2]
  rw [pay1_apply]

theorem pay3_apply (dh : FVec Ideal S512x1024 .f32) (x : Vec Ideal S512x1024 .f32) (z : Fin 1) (d : Fin 1024) :
    (k0_pay3 dh x (k0_pay8 x) (k0_pay9 (F := Ideal)) (ix2 z d) : EReal)
      = ∑ s : Fin 512, dh (ix2 s d) * (x (ix2 s d) * rstd fun k => x (ix2 s k)) := by
  pointwise [k0_pay3]
  refine Finset.sum_congr rfl fun s _ => ?_
  rw [pay2_apply]

theorem pay4_apply (dh : FVec Ideal S512x1024 .f32) (g : FVec Ideal S1x1024 .f32) (x : Vec Ideal S512x1024 .f32) (dx : Vec Ideal S512x1024 .f32)
    (s : Fin 512) (d : Fin 1024) :
    (k0_pay4 dh g x (k0_pay8 x) (k0_pay9 (F := Ideal)) dx (ix2 s d) : EReal)
      = dx (ix2 s d) + grad (fun k => x (ix2 s k)) (fun k => g (ix2 0 k)) (fun k => dh (ix2 s k)) d := by
  pointwise [k0_pay4]
  simp only [pay1_apply, pay2_apply]
  rfl

/-! ## What the windows' blocks are -/

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

/-- The row of the arrays that row `s` of point `t`'s block is. -/
def at_ (t : Fin cfg0.N) (s : Fin 512) : Fin 8192 := ⟨t.val * 512 + s.val, by have := t.isLt; have h : cfg0.N = 16 := N_0; omega⟩

theorem V_dp (c : Dev nD) (j : S8192x4096.Idx) : (V (F := Ideal) m c main_v0 j : EReal) = m ((c : Thread nD τ).loc main_arg3) j := by
  dsimp only [V, hostOps0]; after_results
  pointwise

theorem V_w (c : Dev nD) (j : S1024x4096.Idx) : (V (F := Ideal) m c main_v1 j : EReal) = m ((c : Thread nD τ).loc main_arg2) j := by
  dsimp only [V, hostOps0]; after_results
  pointwise

theorem V_g (c : Dev nD) (z : Fin 1) (k : Fin 1024) : (V (F := Ideal) m c main_v2 (ix2 z k) : EReal) = m ((c : Thread nD τ).loc main_arg1) (ix1 k) := by
  dsimp only [V, hostOps0]; after_results
  pointwise

theorem ib0 (c : Dev nD) (t : Fin cfg0.N) (s : Fin 512) (f : Fin 4096) :
    (iblk m c 0 t (ix2 s f) : EReal) = m ((c : Thread nD τ).loc main_arg3) (ix2 (at_ t s) f) := by
  unfold iblk
  blk_simp
  rw [V_dp]
  blk_ext [e0, at_]

theorem ib1 (c : Dev nD) (t : Fin cfg0.N) (d : Fin 1024) (f : Fin 4096) :
    (iblk m c 1 t (ix2 d f) : EReal) = m ((c : Thread nD τ).loc main_arg2) (ix2 d f) := by
  unfold iblk
  blk_simp
  rw [V_w]
  blk_ext [e1]

theorem ib2 (c : Dev nD) (t : Fin cfg0.N) (s : Fin 512) (k : Fin 1024) :
    (iblk m c 2 t (ix2 s k) : EReal) = m ((c : Thread nD τ).loc main_arg0) (ix2 (at_ t s) k) := by
  unfold iblk
  blk_simp
  rw [V_main_arg0]
  blk_ext [e2, at_]

theorem ib3 (c : Dev nD) (t : Fin cfg0.N) (k : Fin 1024) :
    (iblk m c 3 t (ix2 0 k) : EReal) = m ((c : Thread nD τ).loc main_arg1) (ix1 k) := by
  rw [← V_g m c 0 k]
  unfold iblk
  blk_simp
  blk_ext [e3]

theorem ib4 (c : Dev nD) (t : Fin cfg0.N) (s : Fin 512) (k : Fin 1024) :
    (iblk m c 4 t (ix2 s k) : EReal) = m ((c : Thread nD τ).loc main_arg4) (ix2 (at_ t s) k) := by
  unfold iblk
  blk_simp
  rw [V_main_arg4]
  blk_ext [e4, at_]

/-! ## What a point computes -/

theorem sum_quarters (f : Fin 4096 → EReal) : ∑ k, f k = (∑ k : Fin 1024, f ⟨k.val, by omega⟩) + (∑ k : Fin 1024, f ⟨1024 + k.val, by omega⟩)
    + (∑ k : Fin 1024, f ⟨2048 + k.val, by omega⟩) + ∑ k : Fin 1024, f ⟨3072 + k.val, by omega⟩ := by
  refine (Fin.sum_univ_add (a := 3072) (b := 1024) f).trans (congrArg₂ (· + ·) ?_ rfl)
  refine (Fin.sum_univ_add (a := 2048) (b := 1024) (fun k : Fin (2048 + 1024) => f (Fin.castAdd 1024 k))).trans (congrArg₂ (· + ·) ?_ rfl)
  exact Fin.sum_univ_add (a := 1024) (b := 1024) (fun k : Fin (1024 + 1024) => f (Fin.castAdd 1024 (Fin.castAdd 1024 k)))

/-- The cotangent of the normalized rows as a point forms it: four products, one per chunk of the hidden units. -/
abbrev dhv (a : Vec Ideal S512x4096 .bf16) (w : Vec Ideal S1024x4096 .bf16) : FVec Ideal S512x1024 .f32 :=
  k0_pay6 (View.ld a (Rect.unit ![0, 0] ![512, 1024] inb_S512x4096_S512x1024_0_0))
    (View.ld w (Rect.unit ![0, 0] ![1024, 1024] inb_S1024x4096_S1024x1024_0_0))
    (View.ld a (Rect.unit ![0, 1024] ![512, 1024] inb_S512x4096_S512x1024_0_1024))
    (View.ld w (Rect.unit ![0, 1024] ![1024, 1024] inb_S1024x4096_S1024x1024_0_1024))
    (View.ld a (Rect.unit ![0, 2048] ![512, 1024] inb_S512x4096_S512x1024_0_2048))
    (View.ld w (Rect.unit ![0, 2048] ![1024, 1024] inb_S1024x4096_S1024x1024_0_2048))
    (View.ld a (Rect.unit ![0, 3072] ![512, 1024] inb_S512x4096_S512x1024_0_3072))
    (View.ld w (Rect.unit ![0, 3072] ![1024, 1024] inb_S1024x4096_S1024x1024_0_3072))

theorem ld_a (a : Vec Ideal S512x4096 .bf16) (o : ℕ) (h) (s : Fin 512) (k : Fin 1024) (f : Fin 4096) (hf : f.val = o + k.val) :
    (View.ld a (Rect.unit ![0, o] ![512, 1024] h) (ix2 s k) : EReal) = a (ix2 s f) := by
  rw [View.ld_apply]
  refine congrArg a (funext fun x => Fin.ext ?_)
  rw [Rect.idx_unit_val]
  fin_cases x <;> simp [hf]

theorem ld_w (a : Vec Ideal S1024x4096 .bf16) (o : ℕ) (h) (s : Fin 1024) (k : Fin 1024) (f : Fin 4096) (hf : f.val = o + k.val) :
    (View.ld a (Rect.unit ![0, o] ![1024, 1024] h) (ix2 s k) : EReal) = a (ix2 s f) := by
  rw [View.ld_apply]
  refine congrArg a (funext fun x => Fin.ext ?_)
  rw [Rect.idx_unit_val]
  fin_cases x <;> simp [hf]

theorem dhv_apply (a : Vec Ideal S512x4096 .bf16) (w : Vec Ideal S1024x4096 .bf16) (s : Fin 512) (d : Fin 1024) :
    (dhv a w (ix2 s d) : EReal) = ∑ f : Fin 4096, a (ix2 s f) * w (ix2 d f) := by
  unfold dhv
  rw [pay6_apply, sum_quarters]
  refine congrArg₂ (· + ·) (congrArg₂ (· + ·) (congrArg₂ (· + ·) ?_ ?_) ?_) ?_ <;> refine Finset.sum_congr rfl fun k _ => ?_
  · rw [ld_a a _ _ s k ⟨k.val, by omega⟩ (by simp), ld_w w _ _ d k ⟨k.val, by omega⟩ (by simp)]
  · rw [ld_a a _ _ s k ⟨1024 + k.val, by omega⟩ rfl, ld_w w _ _ d k ⟨1024 + k.val, by omega⟩ rfl]
  · rw [ld_a a _ _ s k ⟨2048 + k.val, by omega⟩ rfl, ld_w w _ _ d k ⟨2048 + k.val, by omega⟩ rfl]
  · rw [ld_a a _ _ s k ⟨3072 + k.val, by omega⟩ rfl, ld_w w _ _ d k ⟨3072 + k.val, by omega⟩ rfl]

/-- The arrays the launch gives. -/
abbrev aX (c : Dev nD) : S8192x1024.Idx → EReal := m ((c : Thread nD τ).loc main_arg0)
abbrev aG (c : Dev nD) : S1024.Idx → EReal := m ((c : Thread nD τ).loc main_arg1)
abbrev aW (c : Dev nD) : S1024x4096.Idx → EReal := m ((c : Thread nD τ).loc main_arg2)
abbrev aP (c : Dev nD) : S8192x4096.Idx → EReal := m ((c : Thread nD τ).loc main_arg3)
abbrev aD (c : Dev nD) : S8192x1024.Idx → EReal := m ((c : Thread nD τ).loc main_arg4)

theorem dh_at (c : Dev nD) (t : Fin cfg0.N) (s : Fin 512) (d : Fin 1024) :
    (dhv (iblk m c 0 t) (iblk m c 1 t) (ix2 s d) : EReal) = DH (aW m c) (aP m c) (at_ t s) d := by
  rw [dhv_apply]
  exact Finset.sum_congr rfl fun f _ => by rw [ib0, ib1]

theorem row_at (c : Dev nD) (t : Fin cfg0.N) (s : Fin 512) :
    (fun k : Fin 1024 => (iblk m c 2 t (ix2 s k) : EReal)) = row (aX m c) (at_ t s) := funext fun k => ib2 m c t s k

theorem dx_at (c : Dev nD) (t : Fin cfg0.N) (s : Fin 512) (d : Fin 1024) :
    (k0_pay4 (dhv (iblk m c 0 t) (iblk m c 1 t)) (k0_pay7 (iblk m c 3 t)) (iblk m c 2 t) (k0_pay8 (iblk m c 2 t)) (k0_pay9 (F := Ideal))
      (iblk m c 4 t) (ix2 s d) : EReal) = DX (aX m c) (aG m c) (aW m c) (aP m c) (aD m c) (ix2 (at_ t s) d) := by
  rw [pay4_apply, row_at, ib4]
  have hg : (fun k : Fin 1024 => (k0_pay7 (iblk m c 3 t) (ix2 0 k) : EReal)) = fun k => aG m c (ix1 k) := funext fun k => by
    pointwise [k0_pay7]
    exact ib3 m c t k
  have hd : (fun k : Fin 1024 => (dhv (iblk m c 0 t) (iblk m c 1 t) (ix2 s k) : EReal)) = DH (aW m c) (aP m c) (at_ t s) :=
    funext fun k => dh_at m c t s k
  rw [hg, hd]
  rfl

theorem after5 (c : Dev nD) (t : Fin cfg0.N) (s : Fin 512) (d : Fin 1024) :
    ((outsAt0 m c t.val t.isLt).1 (ix2 s d) : EReal) = DX (aX m c) (aG m c) (aW m c) (aP m c) (aD m c) (ix2 (at_ t s) d) := by
  have hN : t.val < 16 := lt_of_lt_of_eq t.isLt N_0
  by_cases h0 : t.val % 16 = 0
  · rw [outsAt0_A m c t h0 (by omega)]
    frame_out
    exact dx_at m c t s d
  · rw [outsAt0_B m c t h0 (by omega)]
    frame_out
    exact dx_at m c t s d

/-- A point's part of the gain's gradient. -/
def partAt (c : Dev nD) (t : Fin cfg0.N) (i : S1x1024.Idx) : EReal := ∑ s : Fin 512, part (aX m c) (aW m c) (aP m c) (at_ t s) (i 1)

theorem dg_at (c : Dev nD) (t : Fin cfg0.N) (i : S1x1024.Idx) :
    (k0_pay3 (dhv (iblk m c 0 t) (iblk m c 1 t)) (iblk m c 2 t) (k0_pay8 (iblk m c 2 t)) (k0_pay9 (F := Ideal)) i : EReal) = partAt m c t i := by
  obtain ⟨z, d, rfl⟩ : ∃ z d, i = ix2 z d := ⟨i 0, i 1, (ix2_eta i).symm⟩
  rw [pay3_apply]
  refine Finset.sum_congr rfl fun s _ => ?_
  rw [row_at, dh_at, ib2]
  rfl

theorem dg_step (acc : Vec Ideal S1x1024 .f32) (dh : FVec Ideal S512x1024 .f32) (x : Vec Ideal S512x1024 .f32) (i : S1x1024.Idx) :
    (k0_pay5 dh x (k0_pay8 x) (k0_pay9 (F := Ideal)) acc i : EReal) = acc i + k0_pay3 dh x (k0_pay8 x) (k0_pay9 (F := Ideal)) i := by
  pointwise [k0_pay5]

theorem after6 (c : Dev nD) (t : Fin cfg0.N) (ht : t.val + 1 = cfg0.N) (i : S1x1024.Idx) :
    ((outsAt0 m c t.val t.isLt).2 i : EReal) = ∑ p : Fin cfg0.N, partAt m c p i := by
  have hN : ∀ t : Fin cfg0.N, t.val < 16 := fun t => lt_of_lt_of_eq t.isLt N_0
  rw [Pipeline.eq_sum_fin_of_reset_step_apply_last (fun n h => ((outsAt0 m c n h).2 : S1x1024.Idx → EReal)) 16 (fun _ => 0) (partAt m c)
    (fun t h i => by
      have := hN t
      rw [outsAt0_A m c t h (by omega)]; frame_out; rw [dg_at, zero_add])
    (fun t h i => by
      have := hN t
      rw [outsAt0_B m c t h (by omega)]; frame_out; rw [dg_step, dg_at])
    (le_of_eq N_0) t ht i, zero_add]

theorem final5 (c : Dev nD) : (dats m 0 c).arrAt 5 cfg0.N = DX (aX m c) (aG m c) (aW m c) (aP m c) (aD m c) := by
  refine (dats m 0 c).arrAt_eq_of_covers 5 _ (by decide +kernel) fun t hf y => ?_
  blk_simp
  rw [after0_5]
  obtain ⟨s, d, rfl⟩ : ∃ s d, y = ix2 s d := ⟨y 0, y 1, (ix2_eta y).symm⟩
  refine Eq.trans (after5 m c t s d) (congrArg _ ?_)
  blk_ext [e5, at_]

theorem final6 (c : Dev nD) : (dats m 0 c).arrAt 6 cfg0.N = DG (aX m c) (aW m c) (aP m c) := by
  refine (dats m 0 c).arrAt_eq_of_after_last 6 t0_15 (by decide +kernel) _ fun i => ?_
  blk_simp
  rw [after0_6]
  refine Eq.trans (after6 m c t0_15 (N_0.symm : (16 : ℕ) = grid0.N) _) ?_
  obtain ⟨z, d, rfl⟩ : ∃ z d, i = ix2 z d := ⟨i 0, i 1, (ix2_eta i).symm⟩
  exact Fin.sum_mul_add_congr (S := cfg0.N) (n := 512) (L := 8192) (F := fun p s => part (aX m c) (aW m c) (aP m c) (at_ p s) d)
    (f := fun t => part (aX m c) (aW m c) (aP m c) t d) (fun p s h => rfl) (congrArg (· * 512) (N_0.symm : (16 : ℕ) = grid0.N))

/-! ## The reference -/

open Cert.Reference3Ideal.Read

section
variable (x : S8192x1024.Idx → EReal) (g : S1024.Idx → EReal) (w : S1024x4096.Idx → EReal) (p : S8192x4096.Idx → EReal) (dx : S8192x1024.Idx → EReal)

theorem zero_word : FloatOps.ofBits (F := Ideal) .f32 0x00000000#32 = (0 : EReal) := Ideal.ofBits_zero_f32

theorem r_msq (t : Fin 8192) (z : Fin 1) : (val_main_v6 (F := Ideal) x (ix2 t z) : EReal) = msq (row x t) := by
  rw [val_main_v6_apply, val_main_v4_apply, val_main_v2_apply, val_main_v3_apply, val_main_v5_apply, val_main_v1_apply,
    val_main_cst_apply, val_main_cst_0_apply, val_main_cst_1_apply, zero_word, zero_add]
  have h : ∀ k, idx_main_v1 (idx_main_v2 (ix2 t z)) k = ix2 t k := fun k => by funext a; fin_cases a <;> rfl
  simp only [h, val_main_v0_apply]
  rfl

theorem r_rstd (t : Fin 8192) (z : Fin 1) : (val_main_v7 (F := Ideal) x (ix2 t z) : EReal) = rstd (row x t) := by
  rw [val_main_v7_apply, r_msq]
  rfl

theorem r_dh (t : Fin 8192) (d : Fin 1024) : (val_main_v17 (F := Ideal) w p (ix2 t d) : EReal) = DH w p t d := by
  rw [val_main_v17_apply]
  have hl : ∀ k, lidx_main_v17 (ix2 t d) k = ix2 t k := fun k => by funext a; fin_cases a <;> rfl
  have hr : ∀ k, ridx_main_v17 (ix2 t d) k = ix2 d k := fun k => by funext a; fin_cases a <;> rfl
  simp only [hl, hr]
  rfl

theorem r_dhg (t : Fin 8192) (d : Fin 1024) : (val_main_v22 (F := Ideal) g w p (ix2 t d) : EReal) = DH w p t d * g (ix1 d) := by
  rw [val_main_v22_apply, r_dh, val_main_v21_apply, val_main_v13_apply]
  have h : idx_main_v13 (idx_main_v21 (ix2 t d)) = ix1 d := by funext a; fin_cases a; rfl
  rw [h]
  rfl

theorem r_pull (t : Fin 8192) (d : Fin 1024) :
    (val_main_v34 (F := Ideal) x g w p (ix2 t d) : EReal) = pull (row x t) (fun k => g (ix1 k)) (DH w p t) := by
  rw [val_main_v34_apply, val_main_v33_apply, val_main_cst_7_apply, zero_word, zero_add, Fin.sum_univ_one]
  have h : idx_main_v33 (idx_main_v34 (ix2 t d)) 0 = ix2 t 0 := by funext a; fin_cases a <;> rfl
  rw [h, val_main_v32_apply, val_main_v30_apply, val_main_v31_apply, val_main_v26_apply, val_main_v25_apply, val_main_v10_apply,
    val_main_v8_apply, val_main_v9_apply, r_msq, r_rstd, val_main_cst_5_apply, val_main_cst_6_apply, val_main_cst_2_apply, zero_word, zero_add]
  have h' : ∀ k, idx_main_v25 (idx_main_v26 (ix2 t 0)) k = ix2 t k := fun k => by
    funext a
    fin_cases a
    · exact Fin.ext (show t.val * 1 + 0 = t.val by omega)
    · rfl
  simp only [h', val_main_v24_apply, r_dhg]
  rfl

theorem r_dx (hx : ∀ i, x i = ((x i).toReal : EReal)) (hg : ∀ i, g i = ((g i).toReal : EReal)) (hw : ∀ i, w i = ((w i).toReal : EReal))
    (hp : ∀ i, p i = ((p i).toReal : EReal)) (i : S8192x1024.Idx) :
    (val_main_v38 (F := Ideal) x g w p dx i : EReal) = DX x g w p dx i := by
  obtain ⟨t, d, rfl⟩ : ∃ t d, i = ix2 t d := ⟨i 0, i 1, (ix2_eta i).symm⟩
  rw [val_main_v38_apply, val_main_v36_apply, val_main_v37_apply, val_main_v35_apply, val_main_v29_apply, val_main_v28_apply, r_pull, r_dhg,
    val_main_v27_apply]
  have h : idx_main_v27 (ix2 t d) = ix2 t 0 := by funext a; fin_cases a <;> rfl
  rw [h, r_rstd]
  have hd : ∀ k, DH w p t k = ((DH w p t k).toReal : EReal) := fun k => sum_toReal _ _ fun f => mul_toReal _ _ (hp _) (hw _)
  have hgr := grad_eq (row x t) (fun k => g (ix1 k)) (DH w p t) (fun k => hx _) (fun k => hg _) hd d
  refine Eq.trans ?_ (congrArg (dx (ix2 t d) + · : EReal → EReal) hgr)
  rw [← add_assoc, ← add_assoc]
  rfl

theorem r_dg (i : S1x1024.Idx) : (val_main_v39 (F := Ideal) x w p i : EReal) = DG x w p i := by
  obtain ⟨z, d, rfl⟩ : ∃ z d, i = ix2 z d := ⟨i 0, i 1, (ix2_eta i).symm⟩
  rw [val_main_v39_apply, val_main_v23_apply, val_main_cst_4_apply, zero_word, zero_add, Fin.sum_univ_one, val_main_v20_apply,
    val_main_v19_apply, val_main_cst_3_apply, zero_word, zero_add]
  refine Finset.sum_congr rfl fun t _ => ?_
  have h : idx_main_v19 (idx_main_v20 (idx_main_v23 (idx_main_v39 (ix2 z d)) 0)) t = ix2 t d := by
    funext a
    fin_cases a
    · rfl
    · exact Fin.ext (show 0 * 1024 + (z.val * 1024 + d.val) = d.val by omega)
  rw [h, val_main_v18_apply, r_dh, val_main_v12_apply, val_main_v11_apply]
  have h' : idx_main_v11 (ix2 t d) = ix2 t 0 := by funext a; fin_cases a <;> rfl
  rw [h', r_rstd]
  exact mul_comm (G := EReal) _ _
end

/-- Where the precondition holds every listed argument is real. -/
theorem finite_at (h : Cert.Pre_Kernel3Ideal_finite3 m) (c : Dev nD) :
    (∀ i, aX m c i = ((aX m c i).toReal : EReal)) ∧ (∀ i, aG m c i = ((aG m c i).toReal : EReal))
    ∧ (∀ i, aW m c i = ((aW m c i).toReal : EReal)) ∧ (∀ i, aP m c i = ((aP m c i).toReal : EReal)) := by
  obtain ⟨a, b, d, e⟩ := h c
  exact ⟨fun i => of_finite _ (congrFun a i), fun i => of_finite _ (congrFun b i), fun i => of_finite _ (congrFun d i),
    fun i => of_finite _ (congrFun e i)⟩

/-- The two programs return the same two arrays. -/
theorem algebraic : Cert.algebraic_Kernel3Ideal_Reference3Ideal_pre_finite3 := by
  intro m g m' g' hpre hagree
  refine ⟨fun c => (dats m 0 c).arrAt 5 cfg0.N, fun c => (dats m 0 c).arrAt 6 cfg0.N, Value.run_blocks m g, ?_⟩
  refine (θ_run Cert.Reference3Ideal.defs _ _).mono (fun r h c => ?_) (Cert.Reference3Ideal.Value.run (F := Ideal) m' g')
  obtain ⟨ha, hb, hq⟩ := h c
  obtain ⟨a0, a1, a2, a3, a4⟩ := hagree c
  obtain ⟨hx, hg, hw, hp⟩ := finite_at m hpre c
  refine ⟨ha.trans ?_, hb.trans ?_, hq⟩
  · dsimp only
    rw [final5, val_main_v38_eq, a0, a1, a2, a3, a4]
    exact funext (r_dx _ _ _ _ _ hx hg hw hp)
  · dsimp only
    rw [final6, val_main_v39_eq, a0, a2, a3]
    exact funext (r_dg _ _ _)

end Cert.Up

end
-- ==== Proof.Inp.lean ====
/- The first RMSNorm's gradient: the arrays the call returns, and the reference's, element by element. -/
module

public import proofs.«01_k».proof.Proof.Gen.Kernel4Ideal.Value
public import proofs.«01_k».proof.Proof.Gen.Reference4Ideal.Read
public import proofs.«01_k».proof.Proof.Gen.Pre_finite4
public import proofs.«01_k».proof.Proof.RmsMath
public import proofs.«01_k».proof.Defs
public import Idealize.ShloMosaic.Lib.Pointwise
public import Idealize.ShloMosaic.Lib.Pipeline.ValueKit

@[expose] public section

noncomputable section

namespace Cert.Inp

open Cert.Kernel4Ideal Cert.Kernel4Ideal.Gen Cert.Rms Idealize.ShloMosaic Idealize.ShloMosaic.TcCoe Idealize.SL.Sem

variable (m : (ℓ : Loc nD τ sig) → Buf (Elt Ideal) ℓ) (ρ : Dev nD → PrngReg)

/-- The cotangent of the normalized row `t` at feature `d`: the projections' cotangents through the input projection. -/
def DH (w : S1024x2432.Idx → EReal) (dp : S8192x2432.Idx → EReal) (t : Fin 8192) (d : Fin 1024) : EReal :=
  ∑ f : Fin 2432, dp (ix2 t f) * w (ix2 d f)

/-- Row `t` of an array of rows. -/
def row (x : S8192x1024.Idx → EReal) (t : Fin 8192) : Fin 1024 → EReal := fun k => x (ix2 t k)

/-- The row's gradient: the residual's cotangent plus the normalization's. -/
def DX (x : S8192x1024.Idx → EReal) (g : S1024.Idx → EReal) (w : S1024x2432.Idx → EReal) (dp : S8192x2432.Idx → EReal)
    (dx : S8192x1024.Idx → EReal) : S8192x1024.Idx → EReal :=
  fun i => dx i + grad (row x (i 0)) (fun k => g (ix1 k)) (DH w dp (i 0)) (i 1)

/-- One row's part of the gain's gradient. -/
def part (x : S8192x1024.Idx → EReal) (w : S1024x2432.Idx → EReal) (dp : S8192x2432.Idx → EReal) (t : Fin 8192) (d : Fin 1024) : EReal :=
  DH w dp t d * (x (ix2 t d) * rstd (row x t))

/-- The gain's gradient. -/
def DG (x : S8192x1024.Idx → EReal) (w : S1024x2432.Idx → EReal) (dp : S8192x2432.Idx → EReal) : S1x1024.Idx → EReal :=
  fun i => ∑ t : Fin 8192, part x w dp t (i 1)

/-! ## The payloads -/

theorem pay6_apply (a0 : Vec Ideal S512x384 .f32) (b0 : Vec Ideal S1024x384 .bf16) (a1 : Vec Ideal S512x384 .f32) (b1 : Vec Ideal S1024x384 .bf16)
    (a2 : Vec Ideal S512x384 .f32) (b2 : Vec Ideal S1024x384 .bf16) (a3 : Vec Ideal S512x512 .f32) (b3 : Vec Ideal S1024x512 .bf16)
    (a4 : Vec Ideal S512x768 .f32) (b4 : Vec Ideal S1024x768 .bf16) (s : Fin 512) (d : Fin 1024) :
    (k0_pay6 a0 b0 a1 b1 a2 b2 a3 b3 a4 b4 (ix2 s d) : EReal)
      = (∑ k : Fin 384, a0 (ix2 s k) * b0 (ix2 d k)) + (∑ k : Fin 384, a1 (ix2 s k) * b1 (ix2 d k))
        + (∑ k : Fin 384, a2 (ix2 s k) * b2 (ix2 d k)) + (∑ k : Fin 512, a3 (ix2 s k) * b3 (ix2 d k))
        + ∑ k : Fin 768, a4 (ix2 s k) * b4 (ix2 d k) := by
  pointwise [k0_pay6]

theorem pay1_apply (x : Vec Ideal S512x1024 .f32) (s : Fin 512) (z : Fin 1) :
    (k0_pay1 x (ix2 s z) : EReal) = rstd fun k => x (ix2 s k) := by
  pointwise [k0_pay1]
  rfl

theorem pay2_apply (x : Vec Ideal S512x1024 .f32) (s : Fin 512) (d : Fin 1024) :
    (k0_pay2 x (ix2 s d) : EReal) = x (ix2 s d) * rstd fun k => x (ix2 s k) := by
  pointwise [k0_pay2]
  rw [pay1_apply]

theorem pay3_apply (dh : FVec Ideal S512x1024 .f32) (x : Vec Ideal S512x1024 .f32) (z : Fin 1) (d : Fin 1024) :
    (k0_pay3 dh x (ix2 z d) : EReal)
      = ∑ s : Fin 512, dh (ix2 s d) * (x (ix2 s d) * rstd fun k => x (ix2 s k)) := by
  pointwise [k0_pay3]
  refine Finset.sum_congr rfl fun s _ => ?_
  rw [pay2_apply]

theorem pay4_apply (dh : FVec Ideal S512x1024 .f32) (g : Vec Ideal S1x1024 .f32) (x : Vec Ideal S512x1024 .f32) (dx : Vec Ideal S512x1024 .f32)
    (s : Fin 512) (d : Fin 1024) :
    (k0_pay4 dh g x dx (ix2 s d) : EReal)
      = dx (ix2 s d) + grad (fun k => x (ix2 s k)) (fun k => g (ix2 0 k)) (fun k => dh (ix2 s k)) d := by
  pointwise [k0_pay4]
  simp only [pay1_apply, pay2_apply]
  rfl

/-! ## What the windows' blocks are -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)

/-- The row of the arrays that row `s` of point `t`'s block is. -/
def at_ (t : Fin cfg0.N) (s : Fin 512) : Fin 8192 := ⟨t.val * 512 + s.val, by have := t.isLt; have h : cfg0.N = 16 := N_0; omega⟩

theorem V_0 (c : Dev nD) (t : Fin 8192) (k : Fin 384) :
    (V (F := Ideal) m c main_v0 (ix2 t k) : EReal) = m ((c : Thread nD τ).loc main_arg3) (ix2 t ⟨0 + k.val, by omega⟩) := by
  dsimp only [V, hostOps0]; after_results
  pointwise
  all_goals exact congrArg _ (funext fun a => by fin_cases a <;> exact Fin.ext (by simp))

theorem ib0 (c : Dev nD) (t : Fin cfg0.N) (s : Fin 512) (k : Fin 384) :
    (iblk m c 0 t (ix2 s k) : EReal) = m ((c : Thread nD τ).loc main_arg3) (ix2 (at_ t s) ⟨0 + k.val, by omega⟩) := by
  refine Eq.trans ?_ (V_0 m c (at_ t s) k)
  unfold iblk
  blk_simp
  blk_ext [e0, at_]

theorem V_1 (c : Dev nD) (t : Fin 8192) (k : Fin 384) :
    (V (F := Ideal) m c main_v1 (ix2 t k) : EReal) = m ((c : Thread nD τ).loc main_arg3) (ix2 t ⟨384 + k.val, by omega⟩) := by
  dsimp only [V, hostOps0]; after_results
  pointwise
  all_goals exact congrArg _ (funext fun a => by fin_cases a <;> exact Fin.ext (by simp))

theorem ib1 (c : Dev nD) (t : Fin cfg0.N) (s : Fin 512) (k : Fin 384) :
    (iblk m c 1 t (ix2 s k) : EReal) = m ((c : Thread nD τ).loc main_arg3) (ix2 (at_ t s) ⟨384 + k.val, by omega⟩) := by
  refine Eq.trans ?_ (V_1 m c (at_ t s) k)
  unfold iblk
  blk_simp
  blk_ext [e1, at_]

theorem V_2 (c : Dev nD) (t : Fin 8192) (k : Fin 384) :
    (V (F := Ideal) m c main_v2 (ix2 t k) : EReal) = m ((c : Thread nD τ).loc main_arg3) (ix2 t ⟨768 + k.val, by omega⟩) := by
  dsimp only [V, hostOps0]; after_results
  pointwise
  all_goals exact congrArg _ (funext fun a => by fin_cases a <;> exact Fin.ext (by simp))

theorem ib2 (c : Dev nD) (t : Fin cfg0.N) (s : Fin 512) (k : Fin 384) :
    (iblk m c 2 t (ix2 s k) : EReal) = m ((c : Thread nD τ).loc main_arg3) (ix2 (at_ t s) ⟨768 + k.val, by omega⟩) := by
  refine Eq.trans ?_ (V_2 m c (at_ t s) k)
  unfold iblk
  blk_simp
  blk_ext [e2, at_]

theorem V_3 (c : Dev nD) (t : Fin 8192) (k : Fin 512) :
    (V (F := Ideal) m c main_v3 (ix2 t k) : EReal) = m ((c : Thread nD τ).loc main_arg3) (ix2 t ⟨1152 + k.val, by omega⟩) := by
  dsimp only [V, hostOps0]; after_results
  pointwise
  all_goals exact congrArg _ (funext fun a => by fin_cases a <;> exact Fin.ext (by simp))

theorem ib3 (c : Dev nD) (t : Fin cfg0.N) (s : Fin 512) (k : Fin 512) :
    (iblk m c 3 t (ix2 s k) : EReal) = m ((c : Thread nD τ).loc main_arg3) (ix2 (at_ t s) ⟨1152 + k.val, by omega⟩) := by
  refine Eq.trans ?_ (V_3 m c (at_ t s) k)
  unfold iblk
  blk_simp
  blk_ext [e3, at_]

theorem V_4 (c : Dev nD) (t : Fin 8192) (k : Fin 768) :
    (V (F := Ideal) m c main_v4 (ix2 t k) : EReal) = m ((c : Thread nD τ).loc main_arg3) (ix2 t ⟨1664 + k.val, by omega⟩) := by
  dsimp only [V, hostOps0]; after_results
  pointwise
  all_goals exact congrArg _ (funext fun a => by fin_cases a <;> exact Fin.ext (by simp))

theorem ib4 (c : Dev nD) (t : Fin cfg0.N) (s : Fin 512) (k : Fin 768) :
    (iblk m c 4 t (ix2 s k) : EReal) = m ((c : Thread nD τ).loc main_arg3) (ix2 (at_ t s) ⟨1664 + k.val, by omega⟩) := by
  refine Eq.trans ?_ (V_4 m c (at_ t s) k)
  unfold iblk
  blk_simp
  blk_ext [e4, at_]

theorem V_w (c : Dev nD) (j : S1024x2432.Idx) : (V (F := Ideal) m c main_v5 j : EReal) = m ((c : Thread nD τ).loc main_arg2) j := by
  dsimp only [V, hostOps0]; after_results
  pointwise

theorem V_g (c : Dev nD) (z : Fin 1) (k : Fin 1024) : (V (F := Ideal) m c main_v6 (ix2 z k) : EReal) = m ((c : Thread nD τ).loc main_arg1) (ix1 k) := by
  dsimp only [V, hostOps0]; after_results
  pointwise

theorem ib5 (c : Dev nD) (t : Fin cfg0.N) (d : Fin 1024) (f : Fin 2432) :
    (iblk m c 5 t (ix2 d f) : EReal) = m ((c : Thread nD τ).loc main_arg2) (ix2 d f) := by
  unfold iblk
  blk_simp
  rw [V_w]
  blk_ext [e5]

theorem ib6 (c : Dev nD) (t : Fin cfg0.N) (s : Fin 512) (k : Fin 1024) :
    (iblk m c 6 t (ix2 s k) : EReal) = m ((c : Thread nD τ).loc main_arg0) (ix2 (at_ t s) k) := by
  unfold iblk
  blk_simp
  rw [V_main_arg0]
  blk_ext [e6, at_]

theorem ib7 (c : Dev nD) (t : Fin cfg0.N) (k : Fin 1024) :
    (iblk m c 7 t (ix2 0 k) : EReal) = m ((c : Thread nD τ).loc main_arg1) (ix1 k) := by
  rw [← V_g m c 0 k]
  unfold iblk
  blk_simp
  blk_ext [e7]

theorem ib8 (c : Dev nD) (t : Fin cfg0.N) (s : Fin 512) (k : Fin 1024) :
    (iblk m c 8 t (ix2 s k) : EReal) = m ((c : Thread nD τ).loc main_arg4) (ix2 (at_ t s) k) := by
  unfold iblk
  blk_simp
  rw [V_main_arg4]
  blk_ext [e8, at_]

/-! ## What a point computes -/

theorem sum_parts (f : Fin 2432 → EReal) : ∑ k, f k = (∑ k : Fin 384, f ⟨0 + k.val, by omega⟩) + (∑ k : Fin 384, f ⟨384 + k.val, by omega⟩)
    + (∑ k : Fin 384, f ⟨768 + k.val, by omega⟩) + (∑ k : Fin 512, f ⟨1152 + k.val, by omega⟩) + ∑ k : Fin 768, f ⟨1664 + k.val, by omega⟩ := by
  refine (Fin.sum_univ_add (a := 1664) (b := 768) f).trans (congrArg₂ (· + ·) ?_ rfl)
  refine (Fin.sum_univ_add (a := 1152) (b := 512) (fun k : Fin (1152 + 512) => f (Fin.castAdd 768 k))).trans (congrArg₂ (· + ·) ?_ rfl)
  refine (Fin.sum_univ_add (a := 768) (b := 384) (fun k : Fin (768 + 384) => f (Fin.castAdd 768 (Fin.castAdd 512 k)))).trans (congrArg₂ (· + ·) ?_ rfl)
  refine (Fin.sum_univ_add (a := 384) (b := 384) (fun k : Fin (384 + 384) => f (Fin.castAdd 768 (Fin.castAdd 512 (Fin.castAdd 384 k))))).trans
    (congrArg₂ (· + ·) (Finset.sum_congr rfl fun k _ => congrArg f (Fin.ext (Nat.zero_add _).symm)) rfl)

/-- The cotangent of the normalized rows as a point forms it: five products, one per part of the projections. -/
abbrev dhv (a0 a1 a2 : Vec Ideal S512x384 .f32) (a3 : Vec Ideal S512x512 .f32) (a4 : Vec Ideal S512x768 .f32) (w : Vec Ideal S1024x2432 .bf16) :
    FVec Ideal S512x1024 .f32 :=
  k0_pay6 a0 (View.ld w (Rect.unit ![0, 0] ![1024, 384] inb_S1024x2432_S1024x384_0_0))
    a1 (View.ld w (Rect.unit ![0, 384] ![1024, 384] inb_S1024x2432_S1024x384_0_384))
    a2 (View.ld w (Rect.unit ![0, 768] ![1024, 384] inb_S1024x2432_S1024x384_0_768))
    a3 (View.ld w (Rect.unit ![0, 1152] ![1024, 512] inb_S1024x2432_S1024x512_0_1152))
    a4 (View.ld w (Rect.unit ![0, 1664] ![1024, 768] inb_S1024x2432_S1024x768_0_1664))

theorem ld_w {n : ℕ} (a : Vec Ideal S1024x2432 .bf16) (o : ℕ) (h) (s : Fin 1024) (k : Fin n) (hk : o + k.val < 2432) :
    (View.ld a (Rect.unit ![0, o] ![1024, n] h) (ix2 s k) : EReal) = a (ix2 s ⟨o + k.val, hk⟩) := by
  rw [View.ld_apply]
  refine congrArg a (funext fun x => Fin.ext ?_)
  rw [Rect.idx_unit_val]
  fin_cases x <;> simp

/-- The arrays the launch gives. -/
abbrev aX (c : Dev nD) : S8192x1024.Idx → EReal := m ((c : Thread nD τ).loc main_arg0)
abbrev aG (c : Dev nD) : S1024.Idx → EReal := m ((c : Thread nD τ).loc main_arg1)
abbrev aW (c : Dev nD) : S1024x2432.Idx → EReal := m ((c : Thread nD τ).loc main_arg2)
abbrev aP (c : Dev nD) : S8192x2432.Idx → EReal := m ((c : Thread nD τ).loc main_arg3)
abbrev aD (c : Dev nD) : S8192x1024.Idx → EReal := m ((c : Thread nD τ).loc main_arg4)

abbrev dhAt (c : Dev nD) (t : Fin cfg0.N) : FVec Ideal S512x1024 .f32 :=
  dhv (iblk m c 0 t) (iblk m c 1 t) (iblk m c 2 t) (iblk m c 3 t) (iblk m c 4 t) (iblk m c 5 t)

theorem dh_at (c : Dev nD) (t : Fin cfg0.N) (s : Fin 512) (d : Fin 1024) :
    (dhAt m c t (ix2 s d) : EReal) = DH (aW m c) (aP m c) (at_ t s) d := by
  unfold dhAt dhv DH
  rw [pay6_apply, sum_parts]
  refine congrArg₂ (· + ·) (congrArg₂ (· + ·) (congrArg₂ (· + ·) (congrArg₂ (· + ·) ?_ ?_) ?_) ?_) ?_ <;>
    refine Finset.sum_congr rfl fun k _ => ?_
  · rw [ib0, ld_w _ 0 _ d k (by omega), ib5]
  · rw [ib1, ld_w _ 384 _ d k (by omega), ib5]
  · rw [ib2, ld_w _ 768 _ d k (by omega), ib5]
  · rw [ib3, ld_w _ 1152 _ d k (by omega), ib5]
  · rw [ib4, ld_w _ 1664 _ d k (by omega), ib5]

theorem row_at (c : Dev nD) (t : Fin cfg0.N) (s : Fin 512) :
    (fun k : Fin 1024 => (iblk m c 6 t (ix2 s k) : EReal)) = row (aX m c) (at_ t s) := funext fun k => ib6 m c t s k

theorem dx_at (c : Dev nD) (t : Fin cfg0.N) (s : Fin 512) (d : Fin 1024) :
    (k0_pay4 (dhAt m c t) (iblk m c 7 t) (iblk m c 6 t) (iblk m c 8 t) (ix2 s d) : EReal)
      = DX (aX m c) (aG m c) (aW m c) (aP m c) (aD m c) (ix2 (at_ t s) d) := by
  rw [pay4_apply, row_at, ib8]
  have hg : (fun k : Fin 1024 => (iblk m c 7 t (ix2 0 k) : EReal)) = fun k => aG m c (ix1 k) := funext fun k => ib7 m c t k
  have hd : (fun k : Fin 1024 => (dhAt m c t (ix2 s k) : EReal)) = DH (aW m c) (aP m c) (at_ t s) :=
    funext fun k => dh_at m c t s k
  rw [hg, hd]
  rfl

theorem after9 (c : Dev nD) (t : Fin cfg0.N) (s : Fin 512) (d : Fin 1024) :
    ((outsAt0 m c t.val t.isLt).1 (ix2 s d) : EReal) = DX (aX m c) (aG m c) (aW m c) (aP m c) (aD m c) (ix2 (at_ t s) d) := by
  have hN : t.val < 16 := lt_of_lt_of_eq t.isLt N_0
  by_cases h0 : t.val % 16 = 0
  · rw [outsAt0_A m c t h0 (by omega)]
    frame_out
    exact dx_at m c t s d
  · rw [outsAt0_B m c t h0 (by omega)]
    frame_out
    exact dx_at m c t s d

/-- A point's part of the gain's gradient. -/
def partAt (c : Dev nD) (t : Fin cfg0.N) (i : S1x1024.Idx) : EReal := ∑ s : Fin 512, part (aX m c) (aW m c) (aP m c) (at_ t s) (i 1)

theorem dg_at (c : Dev nD) (t : Fin cfg0.N) (i : S1x1024.Idx) :
    (k0_pay3 (dhAt m c t) (iblk m c 6 t) i : EReal) = partAt m c t i := by
  obtain ⟨z, d, rfl⟩ : ∃ z d, i = ix2 z d := ⟨i 0, i 1, (ix2_eta i).symm⟩
  rw [pay3_apply]
  refine Finset.sum_congr rfl fun s _ => ?_
  rw [row_at, dh_at, ib6]
  rfl

theorem dg_step (acc : Vec Ideal S1x1024 .f32) (dh : FVec Ideal S512x1024 .f32) (x : Vec Ideal S512x1024 .f32) (i : S1x1024.Idx) :
    (k0_pay5 dh x acc i : EReal) = acc i + k0_pay3 dh x i := by
  pointwise [k0_pay5]

theorem after10 (c : Dev nD) (t : Fin cfg0.N) (ht : t.val + 1 = cfg0.N) (i : S1x1024.Idx) :
    ((outsAt0 m c t.val t.isLt).2 i : EReal) = ∑ p : Fin cfg0.N, partAt m c p i := by
  have hN : ∀ t : Fin cfg0.N, t.val < 16 := fun t => lt_of_lt_of_eq t.isLt N_0
  rw [Pipeline.eq_sum_fin_of_reset_step_apply_last (fun n h => ((outsAt0 m c n h).2 : S1x1024.Idx → EReal)) 16 (fun _ => 0) (partAt m c)
    (fun t h i => by
      have := hN t
      rw [outsAt0_A m c t h (by omega)]; frame_out; rw [dg_at, zero_add])
    (fun t h i => by
      have := hN t
      rw [outsAt0_B m c t h (by omega)]; frame_out; rw [dg_step, dg_at])
    (le_of_eq N_0) t ht i, zero_add]

theorem final9 (c : Dev nD) : (dats m 0 c).arrAt 9 cfg0.N = DX (aX m c) (aG m c) (aW m c) (aP m c) (aD m c) := by
  refine (dats m 0 c).arrAt_eq_of_covers 9 _ (by decide +kernel) fun t hf y => ?_
  blk_simp
  rw [after0_9]
  obtain ⟨s, d, rfl⟩ : ∃ s d, y = ix2 s d := ⟨y 0, y 1, (ix2_eta y).symm⟩
  refine Eq.trans (after9 m c t s d) (congrArg _ ?_)
  blk_ext [e9, at_]

theorem final10 (c : Dev nD) : (dats m 0 c).arrAt 10 cfg0.N = DG (aX m c) (aW m c) (aP m c) := by
  refine (dats m 0 c).arrAt_eq_of_after_last 10 t0_15 (by decide +kernel) _ fun i => ?_
  blk_simp
  rw [after0_10]
  refine Eq.trans (after10 m c t0_15 (N_0.symm : (16 : ℕ) = grid0.N) _) ?_
  obtain ⟨z, d, rfl⟩ : ∃ z d, i = ix2 z d := ⟨i 0, i 1, (ix2_eta i).symm⟩
  exact Fin.sum_mul_add_congr (S := cfg0.N) (n := 512) (L := 8192) (F := fun p s => part (aX m c) (aW m c) (aP m c) (at_ p s) d)
    (f := fun t => part (aX m c) (aW m c) (aP m c) t d) (fun p s h => rfl) (congrArg (· * 512) (N_0.symm : (16 : ℕ) = grid0.N))

/-! ## The reference -/

open Cert.Reference4Ideal.Read

section
variable (x : S8192x1024.Idx → EReal) (g : S1024.Idx → EReal) (w : S1024x2432.Idx → EReal) (p : S8192x2432.Idx → EReal) (dx : S8192x1024.Idx → EReal)

theorem zero_word : FloatOps.ofBits (F := Ideal) .f32 0x00000000#32 = (0 : EReal) := Ideal.ofBits_zero_f32

theorem r_msq (t : Fin 8192) (z : Fin 1) : (val_main_v6 (F := Ideal) x (ix2 t z) : EReal) = msq (row x t) := by
  rw [val_main_v6_apply, val_main_v4_apply, val_main_v2_apply, val_main_v3_apply, val_main_v5_apply, val_main_v1_apply,
    val_main_cst_apply, val_main_cst_0_apply, val_main_cst_1_apply, zero_word, zero_add]
  have h : ∀ k, idx_main_v1 (idx_main_v2 (ix2 t z)) k = ix2 t k := fun k => by funext a; fin_cases a <;> rfl
  simp only [h, val_main_v0_apply]
  rfl

theorem r_rstd (t : Fin 8192) (z : Fin 1) : (val_main_v7 (F := Ideal) x (ix2 t z) : EReal) = rstd (row x t) := by
  rw [val_main_v7_apply, r_msq]
  rfl

theorem r_dh (t : Fin 8192) (d : Fin 1024) : (val_main_v17 (F := Ideal) w p (ix2 t d) : EReal) = DH w p t d := by
  rw [val_main_v17_apply]
  have hl : ∀ k, lidx_main_v17 (ix2 t d) k = ix2 t k := fun k => by funext a; fin_cases a <;> rfl
  have hr : ∀ k, ridx_main_v17 (ix2 t d) k = ix2 d k := fun k => by funext a; fin_cases a <;> rfl
  simp only [hl, hr]
  rfl

theorem r_dhg (t : Fin 8192) (d : Fin 1024) : (val_main_v22 (F := Ideal) g w p (ix2 t d) : EReal) = DH w p t d * g (ix1 d) := by
  rw [val_main_v22_apply, r_dh, val_main_v21_apply, val_main_v13_apply]
  have h : idx_main_v13 (idx_main_v21 (ix2 t d)) = ix1 d := by funext a; fin_cases a; rfl
  rw [h]
  rfl

theorem r_pull (t : Fin 8192) (d : Fin 1024) :
    (val_main_v34 (F := Ideal) x g w p (ix2 t d) : EReal) = pull (row x t) (fun k => g (ix1 k)) (DH w p t) := by
  rw [val_main_v34_apply, val_main_v33_apply, val_main_cst_7_apply, zero_word, zero_add, Fin.sum_univ_one]
  have h : idx_main_v33 (idx_main_v34 (ix2 t d)) 0 = ix2 t 0 := by funext a; fin_cases a <;> rfl
  rw [h, val_main_v32_apply, val_main_v30_apply, val_main_v31_apply, val_main_v26_apply, val_main_v25_apply, val_main_v10_apply,
    val_main_v8_apply, val_main_v9_apply, r_msq, r_rstd, val_main_cst_5_apply, val_main_cst_6_apply, val_main_cst_2_apply, zero_word, zero_add]
  have h' : ∀ k, idx_main_v25 (idx_main_v26 (ix2 t 0)) k = ix2 t k := fun k => by
    funext a
    fin_cases a
    · exact Fin.ext (show t.val * 1 + 0 = t.val by omega)
    · rfl
  simp only [h', val_main_v24_apply, r_dhg]
  rfl

theorem r_dx (hx : ∀ i, x i = ((x i).toReal : EReal)) (hg : ∀ i, g i = ((g i).toReal : EReal)) (hw : ∀ i, w i = ((w i).toReal : EReal))
    (hp : ∀ i, p i = ((p i).toReal : EReal)) (i : S8192x1024.Idx) :
    (val_main_v38 (F := Ideal) x g w p dx i : EReal) = DX x g w p dx i := by
  obtain ⟨t, d, rfl⟩ : ∃ t d, i = ix2 t d := ⟨i 0, i 1, (ix2_eta i).symm⟩
  rw [val_main_v38_apply, val_main_v36_apply, val_main_v37_apply, val_main_v35_apply, val_main_v29_apply, val_main_v28_apply, r_pull, r_dhg,
    val_main_v27_apply]
  have h : idx_main_v27 (ix2 t d) = ix2 t 0 := by funext a; fin_cases a <;> rfl
  rw [h, r_rstd]
  have hd : ∀ k, DH w p t k = ((DH w p t k).toReal : EReal) := fun k => sum_toReal _ _ fun f => mul_toReal _ _ (hp _) (hw _)
  have hgr := grad_eq (row x t) (fun k => g (ix1 k)) (DH w p t) (fun k => hx _) (fun k => hg _) hd d
  refine Eq.trans ?_ (congrArg (dx (ix2 t d) + · : EReal → EReal) hgr)
  rw [← add_assoc, ← add_assoc]
  rfl

theorem r_dg (i : S1x1024.Idx) : (val_main_v39 (F := Ideal) x w p i : EReal) = DG x w p i := by
  obtain ⟨z, d, rfl⟩ : ∃ z d, i = ix2 z d := ⟨i 0, i 1, (ix2_eta i).symm⟩
  rw [val_main_v39_apply, val_main_v23_apply, val_main_cst_4_apply, zero_word, zero_add, Fin.sum_univ_one, val_main_v20_apply,
    val_main_v19_apply, val_main_cst_3_apply, zero_word, zero_add]
  refine Finset.sum_congr rfl fun t _ => ?_
  have h : idx_main_v19 (idx_main_v20 (idx_main_v23 (idx_main_v39 (ix2 z d)) 0)) t = ix2 t d := by
    funext a
    fin_cases a
    · rfl
    · exact Fin.ext (show 0 * 1024 + (z.val * 1024 + d.val) = d.val by omega)
  rw [h, val_main_v18_apply, r_dh, val_main_v12_apply, val_main_v11_apply]
  have h' : idx_main_v11 (ix2 t d) = ix2 t 0 := by funext a; fin_cases a <;> rfl
  rw [h', r_rstd]
  exact mul_comm (G := EReal) _ _
end

/-- Where the precondition holds every listed argument is real. -/
theorem finite_at (h : Cert.Pre_Kernel4Ideal_finite4 m) (c : Dev nD) :
    (∀ i, aX m c i = ((aX m c i).toReal : EReal)) ∧ (∀ i, aG m c i = ((aG m c i).toReal : EReal))
    ∧ (∀ i, aW m c i = ((aW m c i).toReal : EReal)) ∧ (∀ i, aP m c i = ((aP m c i).toReal : EReal)) := by
  obtain ⟨a, b, d, e⟩ := h c
  exact ⟨fun i => of_finite _ (congrFun a i), fun i => of_finite _ (congrFun b i), fun i => of_finite _ (congrFun d i),
    fun i => of_finite _ (congrFun e i)⟩

/-- The two programs return the same two arrays. -/
theorem algebraic : Cert.algebraic_Kernel4Ideal_Reference4Ideal_pre_finite4 := by
  intro m g m' g' hpre hagree
  refine ⟨fun c => (dats m 0 c).arrAt 9 cfg0.N, fun c => (dats m 0 c).arrAt 10 cfg0.N, Value.run_blocks m g, ?_⟩
  refine (θ_run Cert.Reference4Ideal.defs _ _).mono (fun r h c => ?_) (Cert.Reference4Ideal.Value.run (F := Ideal) m' g')
  obtain ⟨ha, hb, hq⟩ := h c
  obtain ⟨a0, a1, a2, a3, a4⟩ := hagree c
  obtain ⟨hx, hg, hw, hp⟩ := finite_at m hpre c
  refine ⟨ha.trans ?_, hb.trans ?_, hq⟩
  · dsimp only
    rw [final9, val_main_v38_eq, a0, a1, a2, a3, a4]
    exact funext (r_dx _ _ _ _ _ hx hg hw hp)
  · dsimp only
    rw [final10, val_main_v39_eq, a0, a2, a3]
    exact funext (r_dg _ _ _)

end Cert.Inp

end
-- ==== Proof.Loss.lean ====
/- The loss and its gradient through the final RMSNorm: the arrays the call returns, and the reference's, element by element. -/
module

public import proofs.«01_k».proof.Proof.Gen.Kernel5Ideal.Value
public import proofs.«01_k».proof.Proof.Gen.Reference5Ideal.Read
public import proofs.«01_k».proof.Proof.Gen.Pre_finite5
public import proofs.«01_k».proof.Proof.RmsMath
public import proofs.«01_k».proof.Defs
public import Idealize.ShloMosaic.Lib.Pointwise
public import Idealize.ShloMosaic.Lib.ValueIdxRank1
public import Idealize.ShloMosaic.Lib.Pipeline.ValueKit

@[expose] public section

noncomputable section

namespace Cert.Loss

open Cert.Kernel5Ideal Cert.Kernel5Ideal.Gen Cert.Rms Idealize.ShloMosaic Idealize.ShloMosaic.TcCoe Idealize.SL.Sem

variable (m : (ℓ : Loc nD τ sig) → Buf (Elt Ideal) ℓ) (ρ : Dev nD → PrngReg)

/-- Row `t` of an array of rows. -/
def row (x : S8192x1024.Idx → EReal) (t : Fin 8192) : Fin 1024 → EReal := fun k => x (ix2 t k)

/-- A hidden unit after the activation. -/
def act (p : S8192x4096.Idx → EReal) (t : Fin 8192) (f : Fin 4096) : EReal := max (p (ix2 t f)) 0 * max (p (ix2 t f)) 0

/-- The last residual sum's row `t`. -/
def X2 (x : S8192x1024.Idx → EReal) (p : S8192x4096.Idx → EReal) (w : S4096x1024.Idx → EReal) (t : Fin 8192) (d : Fin 1024) : EReal :=
  x (ix2 t d) + ∑ f : Fin 4096, act p t f * w (ix2 f d)

/-- What a row `x` of the residual misses its target by. -/
def miss (x g y : Fin 1024 → EReal) (d : Fin 1024) : EReal := x d * rstd x * g d - y d

/-- The cotangent the loss gives a normalized row. -/
def dmiss (x g y : Fin 1024 → EReal) (d : Fin 1024) : EReal := miss x g y d * Ideal.ofBits .f32 0x3A800000#32

/-- The mean over the features of a row's squared miss. -/
def rowLoss (x g y : Fin 1024 → EReal) : EReal := Ideal.div (∑ d, miss x g y d * miss x g y d) (Ideal.ofBits .f32 0x44800000#32)

section
variable (x : S8192x1024.Idx → EReal) (p : S8192x4096.Idx → EReal) (w : S4096x1024.Idx → EReal) (y : S8192x1024.Idx → EReal) (g : S1024.Idx → EReal)

/-- The gain as a row. -/
abbrev gain : Fin 1024 → EReal := fun k => g (ix1 k)

/-- The gradient of the last residual sum. -/
def DX : S8192x1024.Idx → EReal :=
  fun i => grad (X2 x p w (i 0)) (gain g) (dmiss (X2 x p w (i 0)) (gain g) (row y (i 0))) (i 1)

/-- The loss. -/
def LOSS : S8x128.Idx → EReal :=
  fun _ => Ideal.ofBits .f32 0x3F000000#32 * ∑ t : Fin 8192, rowLoss (X2 x p w t) (gain g) (row y t)

/-- One row's part of the gain's gradient. -/
def part (t : Fin 8192) (d : Fin 1024) : EReal :=
  dmiss (X2 x p w t) (gain g) (row y t) d * (X2 x p w t d * rstd (X2 x p w t))

/-- The gain's gradient. -/
def DG : S1x1024.Idx → EReal := fun i => ∑ t : Fin 8192, part x p w y g t (i 1)
end

/-! ## The payloads -/

section
variable (a : FVec Ideal S512x1024 .f32) (b : FVec Ideal S512x1024 .bf16) (c : Vec Ideal S1024x1024 .bf16)
  (g : Vec Ideal S1x1024 .f32) (y : Vec Ideal S512x1024 .f32)

/-- Row `s` of the block of the residual. -/
def xr (s : Fin 512) : Fin 1024 → EReal := fun k => k0_pay7 a b c (ix2 s k)
def gr : Fin 1024 → EReal := fun k => g (ix2 0 k)
def yr (s : Fin 512) : Fin 1024 → EReal := fun k => y (ix2 s k)

theorem pay9_apply (s : Fin 512) (z : Fin 1) : (k0_pay9 a b c (ix2 s z) : EReal) = rstd (xr a b c s) := by
  pointwise [k0_pay9]
  rfl

theorem pay10_apply (s : Fin 512) (d : Fin 1024) : (k0_pay10 a b c (ix2 s d) : EReal) = xr a b c s d * rstd (xr a b c s) := by
  pointwise [k0_pay10]
  rw [pay9_apply]
  rfl

theorem pay11_apply (s : Fin 512) (d : Fin 1024) : (k0_pay11 a b c g y (ix2 s d) : EReal) = miss (xr a b c s) (gr g) (yr y s) d := by
  pointwise [k0_pay11, k0_pay8]
  rw [pay10_apply]
  rfl

theorem pay13_apply (s : Fin 512) (d : Fin 1024) : (k0_pay13 a b c g y (ix2 s d) : EReal) = dmiss (xr a b c s) (gr g) (yr y s) d := by
  pointwise [k0_pay13]
  rw [pay11_apply]
  rfl

theorem pay14_apply (s : Fin 512) (d : Fin 1024) :
    (k0_pay14 a b c g y (ix2 s d) : EReal) = dmiss (xr a b c s) (gr g) (yr y s) d * gr g d := by
  pointwise [k0_pay14, k0_pay8]
  rw [pay13_apply]
  rfl

theorem pay15_apply (s : Fin 512) (d : Fin 1024) :
    (k0_pay15 a b c g y (ix2 s d) : EReal)
      = dmiss (xr a b c s) (gr g) (yr y s) d * gr g d * (xr a b c s d * rstd (xr a b c s)) := by
  pointwise [k0_pay15]
  rw [pay14_apply, pay10_apply]

theorem pay1_apply (s : Fin 512) (d : Fin 1024) :
    (k0_pay1 (k0_pay9 a b c) (k0_pay10 a b c) (k0_pay14 a b c g y) (k0_pay15 a b c g y) (ix2 s d) : EReal)
      = grad (xr a b c s) (gr g) (dmiss (xr a b c s) (gr g) (yr y s)) d := by
  pointwise [k0_pay1]
  simp only [pay9_apply, pay10_apply, pay14_apply, pay15_apply]
  rfl

theorem pay2_apply (acc : Vec Ideal S1x1024 .f32) (z : Fin 1) (d : Fin 1024) :
    (k0_pay2 (k0_pay10 a b c) (k0_pay13 a b c g y) acc (ix2 z d) : EReal)
      = acc (ix2 z d) + ∑ s : Fin 512, dmiss (xr a b c s) (gr g) (yr y s) d * (xr a b c s d * rstd (xr a b c s)) := by
  pointwise [k0_pay2]
  simp only [pay10_apply, pay13_apply]

theorem pay12_apply (acc : Vec Ideal S8x128 .f32) (i : S8x128.Idx) :
    (k0_pay12 a b c g y acc i : EReal)
      = acc i + Ideal.ofBits .f32 0x3F000000#32 * ∑ s : Fin 512, rowLoss (xr a b c s) (gr g) (yr y s) := by
  pointwise [k0_pay12]
  simp only [pay11_apply, Fin.sum_univ_one]
  rfl
end

theorem pay5_apply (x : Vec Ideal S512x1024 .f32) (r0 : Vec Ideal S512x1024 .bf16) (w0 : Vec Ideal S1024x1024 .bf16) (r1 : Vec Ideal S512x1024 .bf16)
    (w1 : Vec Ideal S1024x1024 .bf16) (r2 : Vec Ideal S512x1024 .bf16) (w2 : Vec Ideal S1024x1024 .bf16) (r3 : Vec Ideal S512x1024 .bf16)
    (w3 : Vec Ideal S1024x1024 .bf16) (s : Fin 512) (d : Fin 1024) :
    (k0_pay7 (k0_pay5 x r0 w0 r1 w1 r2 w2) (k0_pay6 r3) w3 (ix2 s d) : EReal)
      = x (ix2 s d) + ((∑ k : Fin 1024, r0 (ix2 s k) * r0 (ix2 s k) * w0 (ix2 k d)) + (∑ k : Fin 1024, r1 (ix2 s k) * r1 (ix2 s k) * w1 (ix2 k d))
        + (∑ k : Fin 1024, r2 (ix2 s k) * r2 (ix2 s k) * w2 (ix2 k d)) + ∑ k : Fin 1024, r3 (ix2 s k) * r3 (ix2 s k) * w3 (ix2 k d)) := by
  pointwise [k0_pay7, k0_pay5, k0_pay6]
  simp only [add_assoc]

/-! ## What the windows' blocks are -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)

/-- The row of the arrays that row `s` of point `t`'s block is. -/
def at_ (t : Fin cfg0.N) (s : Fin 512) : Fin 8192 := ⟨t.val * 512 + s.val, by have := t.isLt; have h : cfg0.N = 16 := N_0; omega⟩

/-- The arrays the launch gives. -/
abbrev aX (c : Dev nD) : S8192x1024.Idx → EReal := m ((c : Thread nD τ).loc main_arg0)
abbrev aP (c : Dev nD) : S8192x4096.Idx → EReal := m ((c : Thread nD τ).loc main_arg1)
abbrev aW (c : Dev nD) : S4096x1024.Idx → EReal := m ((c : Thread nD τ).loc main_arg2)
abbrev aY (c : Dev nD) : S8192x1024.Idx → EReal := m ((c : Thread nD τ).loc main_arg3)
abbrev aG (c : Dev nD) : S1024.Idx → EReal := m ((c : Thread nD τ).loc main_arg4)

theorem V_r (c : Dev nD) (i : S8192x4096.Idx) : (V (F := Ideal) m c main_v2 i : EReal) = max (α := EReal) (aP m c i) 0 := by
  dsimp only [V, hostOps0]; after_results
  pointwise

theorem V_w (c : Dev nD) (j : S4096x1024.Idx) : (V (F := Ideal) m c main_v3 j : EReal) = aW m c j := by
  dsimp only [V, hostOps0]; after_results
  pointwise

theorem V_g (c : Dev nD) (z : Fin 1) (k : Fin 1024) : (V (F := Ideal) m c main_v4 (ix2 z k) : EReal) = aG m c (ix1 k) := by
  dsimp only [V, hostOps0]; after_results
  pointwise

theorem ib0 (c : Dev nD) (t : Fin cfg0.N) (s : Fin 512) (k : Fin 1024) : (iblk m c 0 t (ix2 s k) : EReal) = aX m c (ix2 (at_ t s) k) := by
  unfold iblk
  blk_simp
  rw [V_main_arg0]
  blk_ext [e0, at_]

theorem ib1 (c : Dev nD) (t : Fin cfg0.N) (s : Fin 512) (f : Fin 4096) :
    (iblk m c 1 t (ix2 s f) : EReal) = max (α := EReal) (aP m c (ix2 (at_ t s) f)) 0 := by
  refine Eq.trans ?_ (V_r m c (ix2 (at_ t s) f))
  unfold iblk
  blk_simp
  blk_ext [e1, at_]

theorem ib2 (c : Dev nD) (t : Fin cfg0.N) (f : Fin 4096) (d : Fin 1024) : (iblk m c 2 t (ix2 f d) : EReal) = aW m c (ix2 f d) := by
  refine Eq.trans ?_ (V_w m c (ix2 f d))
  unfold iblk
  blk_simp
  blk_ext [e2]

theorem ib3 (c : Dev nD) (t : Fin cfg0.N) (s : Fin 512) (k : Fin 1024) : (iblk m c 3 t (ix2 s k) : EReal) = aY m c (ix2 (at_ t s) k) := by
  unfold iblk
  blk_simp
  rw [V_main_arg3]
  blk_ext [e3, at_]

theorem ib4 (c : Dev nD) (t : Fin cfg0.N) (k : Fin 1024) : (iblk m c 4 t (ix2 0 k) : EReal) = aG m c (ix1 k) := by
  refine Eq.trans ?_ (V_g m c 0 k)
  unfold iblk
  blk_simp
  blk_ext [e4]

/-! ## What a point computes -/

theorem sum_quarters (f : Fin 4096 → EReal) : ∑ k, f k = (∑ k : Fin 1024, f ⟨0 + k.val, by omega⟩) + (∑ k : Fin 1024, f ⟨1024 + k.val, by omega⟩)
    + (∑ k : Fin 1024, f ⟨2048 + k.val, by omega⟩) + ∑ k : Fin 1024, f ⟨3072 + k.val, by omega⟩ := by
  refine (Fin.sum_univ_add (a := 3072) (b := 1024) f).trans (congrArg₂ (· + ·) ?_ rfl)
  refine (Fin.sum_univ_add (a := 2048) (b := 1024) (fun k : Fin (2048 + 1024) => f (Fin.castAdd 1024 k))).trans (congrArg₂ (· + ·) ?_ rfl)
  exact (Fin.sum_univ_add (a := 1024) (b := 1024) (fun k : Fin (1024 + 1024) => f (Fin.castAdd 1024 (Fin.castAdd 1024 k)))).trans
    (congrArg₂ (· + ·) (Finset.sum_congr rfl fun k _ => congrArg f (Fin.ext (Nat.zero_add _).symm)) rfl)

theorem ld_r (a : Vec Ideal S512x4096 .bf16) (o : ℕ) (h) (s : Fin 512) (k : Fin 1024) (hk : o + k.val < 4096) :
    (View.ld a (Rect.unit ![0, o] ![512, 1024] h) (ix2 s k) : EReal) = a (ix2 s ⟨o + k.val, hk⟩) := by
  rw [View.ld_apply]
  refine congrArg a (funext fun x => Fin.ext ?_)
  rw [Rect.idx_unit_val]
  fin_cases x <;> simp

theorem ld_w (a : Vec Ideal S4096x1024 .bf16) (o : ℕ) (h) (k : Fin 1024) (d : Fin 1024) (hk : o + k.val < 4096) :
    (View.ld a (Rect.unit ![o, 0] ![1024, 1024] h) (ix2 k d) : EReal) = a (ix2 ⟨o + k.val, hk⟩ d) := by
  rw [View.ld_apply]
  refine congrArg a (funext fun x => Fin.ext ?_)
  rw [Rect.idx_unit_val]
  fin_cases x <;> simp

/-- The block of the residual before its last chunk of hidden units, that chunk's activations, and its weights. -/
abbrev vA (x : Vec Ideal S512x1024 .f32) (r : Vec Ideal S512x4096 .bf16) (w : Vec Ideal S4096x1024 .bf16) : FVec Ideal S512x1024 .f32 :=
  k0_pay5 x (View.ld r (Rect.unit ![0, 0] ![512, 1024] inb_S512x4096_S512x1024_0_0))
    (View.ld w (Rect.unit ![0, 0] ![1024, 1024] inb_S4096x1024_S1024x1024_0_0))
    (View.ld r (Rect.unit ![0, 1024] ![512, 1024] inb_S512x4096_S512x1024_0_1024))
    (View.ld w (Rect.unit ![1024, 0] ![1024, 1024] inb_S4096x1024_S1024x1024_1024_0))
    (View.ld r (Rect.unit ![0, 2048] ![512, 1024] inb_S512x4096_S512x1024_0_2048))
    (View.ld w (Rect.unit ![2048, 0] ![1024, 1024] inb_S4096x1024_S1024x1024_2048_0))
abbrev vB (r : Vec Ideal S512x4096 .bf16) : FVec Ideal S512x1024 .bf16 :=
  k0_pay6 (View.ld r (Rect.unit ![0, 3072] ![512, 1024] inb_S512x4096_S512x1024_0_3072))
abbrev vC (w : Vec Ideal S4096x1024 .bf16) : Vec Ideal S1024x1024 .bf16 :=
  View.ld w (Rect.unit ![3072, 0] ![1024, 1024] inb_S4096x1024_S1024x1024_3072_0)

theorem x2_apply (x : Vec Ideal S512x1024 .f32) (r : Vec Ideal S512x4096 .bf16) (w : Vec Ideal S4096x1024 .bf16) (s : Fin 512) (d : Fin 1024) :
    (k0_pay7 (vA x r w) (vB r) (vC w) (ix2 s d) : EReal) = x (ix2 s d) + ∑ f : Fin 4096, r (ix2 s f) * r (ix2 s f) * w (ix2 f d) := by
  unfold vA vB vC
  rw [pay5_apply, sum_quarters]
  refine congrArg₂ (· + ·) rfl ?_
  refine congrArg₂ (· + ·) (congrArg₂ (· + ·) (congrArg₂ (· + ·) ?_ ?_) ?_) ?_ <;> refine Finset.sum_congr rfl fun k _ => ?_
  · rw [ld_r r 0 _ s k (by omega), ld_w w 0 _ k d (by omega)]
  · rw [ld_r r 1024 _ s k (by omega), ld_w w 1024 _ k d (by omega)]
  · rw [ld_r r 2048 _ s k (by omega), ld_w w 2048 _ k d (by omega)]
  · rw [ld_r r 3072 _ s k (by omega), ld_w w 3072 _ k d (by omega)]

theorem xr_at (c : Dev nD) (t : Fin cfg0.N) (s : Fin 512) :
    xr (vA (iblk m c 0 t) (iblk m c 1 t) (iblk m c 2 t)) (vB (iblk m c 1 t)) (vC (iblk m c 2 t)) s = X2 (aX m c) (aP m c) (aW m c) (at_ t s) := by
  funext d
  unfold xr X2 act
  rw [x2_apply, ib0]
  exact congrArg₂ (· + ·) rfl (Finset.sum_congr rfl fun f _ => by rw [ib1, ib2])

theorem gr_at (c : Dev nD) (t : Fin cfg0.N) : gr (iblk m c 4 t) = gain (aG m c) := funext fun k => ib4 m c t k

theorem yr_at (c : Dev nD) (t : Fin cfg0.N) (s : Fin 512) : yr (iblk m c 3 t) s = row (aY m c) (at_ t s) := funext fun k => ib3 m c t s k

theorem after5 (c : Dev nD) (t : Fin cfg0.N) (s : Fin 512) (d : Fin 1024) :
    ((outsAt0 m c t.val t.isLt).1 (ix2 s d) : EReal) = DX (aX m c) (aP m c) (aW m c) (aY m c) (aG m c) (ix2 (at_ t s) d) := by
  by_cases h0 : t.val % 16 = 0
  · rw [outsAt0_A m c t h0]
    frame_out
    rw [pay1_apply, xr_at, gr_at, yr_at]
    rfl
  · rw [outsAt0_B m c t h0]
    frame_out
    rw [pay1_apply, xr_at, gr_at, yr_at]
    rfl

/-- A point's part of the loss. -/
def lossAt (c : Dev nD) (t : Fin cfg0.N) (_ : S8x128.Idx) : EReal :=
  Ideal.ofBits .f32 0x3F000000#32 * ∑ s : Fin 512, rowLoss (X2 (aX m c) (aP m c) (aW m c) (at_ t s)) (gain (aG m c)) (row (aY m c) (at_ t s))

theorem pay3_zero (i : S8x128.Idx) : (k0_pay3 (F := Ideal) i : EReal) = 0 := by
  pointwise [k0_pay3]

theorem pay4_zero (i : S1x1024.Idx) : (k0_pay4 (F := Ideal) i : EReal) = 0 := by
  pointwise [k0_pay4]

theorem after6 (c : Dev nD) (t : Fin cfg0.N) (ht : t.val + 1 = cfg0.N) (i : S8x128.Idx) :
    ((outsAt0 m c t.val t.isLt).2.1 i : EReal) = ∑ p : Fin cfg0.N, lossAt m c p i := by
  rw [Pipeline.eq_sum_fin_of_reset_step_apply_last (fun n h => ((outsAt0 m c n h).2.1 : S8x128.Idx → EReal)) 16 (fun _ => 0) (lossAt m c)
    (fun t h i => by
      rw [outsAt0_A m c t h]; frame_out; rw [pay12_apply, pay3_zero]; simp only [xr_at, gr_at, yr_at]; rfl)
    (fun t h i => by
      rw [outsAt0_B m c t h]; frame_out; rw [pay12_apply]; simp only [xr_at, gr_at, yr_at]; rfl)
    (le_of_eq N_0) t ht i, zero_add]

/-- A point's part of the gain's gradient. -/
def partAt (c : Dev nD) (t : Fin cfg0.N) (i : S1x1024.Idx) : EReal :=
  ∑ s : Fin 512, part (aX m c) (aP m c) (aW m c) (aY m c) (aG m c) (at_ t s) (i 1)

theorem dg_at (c : Dev nD) (t : Fin cfg0.N) (acc : Vec Ideal S1x1024 .f32) (i : S1x1024.Idx) :
    (k0_pay2 (k0_pay10 (vA (iblk m c 0 t) (iblk m c 1 t) (iblk m c 2 t)) (vB (iblk m c 1 t)) (vC (iblk m c 2 t)))
      (k0_pay13 (vA (iblk m c 0 t) (iblk m c 1 t) (iblk m c 2 t)) (vB (iblk m c 1 t)) (vC (iblk m c 2 t)) (iblk m c 4 t) (iblk m c 3 t)) acc i : EReal)
      = acc i + partAt m c t i := by
  obtain ⟨z, d, rfl⟩ : ∃ z d, i = ix2 z d := ⟨i 0, i 1, (ix2_eta i).symm⟩
  rw [pay2_apply]
  simp only [xr_at, gr_at, yr_at]
  rfl

theorem after7 (c : Dev nD) (t : Fin cfg0.N) (ht : t.val + 1 = cfg0.N) (i : S1x1024.Idx) :
    ((outsAt0 m c t.val t.isLt).2.2 i : EReal) = ∑ p : Fin cfg0.N, partAt m c p i := by
  rw [Pipeline.eq_sum_fin_of_reset_step_apply_last (fun n h => ((outsAt0 m c n h).2.2 : S1x1024.Idx → EReal)) 16 (fun _ => 0) (partAt m c)
    (fun t h i => by
      rw [outsAt0_A m c t h]; frame_out; rw [dg_at, pay4_zero])
    (fun t h i => by
      rw [outsAt0_B m c t h]; frame_out; rw [dg_at])
    (le_of_eq N_0) t ht i, zero_add]

theorem final5 (c : Dev nD) : (dats m 0 c).arrAt 5 cfg0.N = DX (aX m c) (aP m c) (aW m c) (aY m c) (aG m c) := by
  refine (dats m 0 c).arrAt_eq_of_covers 5 _ (by decide +kernel) fun t hf y => ?_
  blk_simp
  rw [after0_5]
  obtain ⟨s, d, rfl⟩ : ∃ s d, y = ix2 s d := ⟨y 0, y 1, (ix2_eta y).symm⟩
  refine Eq.trans (after5 m c t s d) (congrArg _ ?_)
  blk_ext [e5, at_]

theorem half : Ideal.ofBits .f32 0x3F000000#32 = ((1 / 2 : ℝ) : EReal) := by
  simp [Ideal.ofBits, Ideal.ieee, -EReal.coe_mul]
  norm_num

theorem half_sum {ι : Type} [Fintype ι] (f : ι → EReal) (h : ∀ i, f i = ((f i).toReal : EReal)) :
    Ideal.ofBits .f32 0x3F000000#32 * ∑ i, f i = ∑ i, Ideal.ofBits .f32 0x3F000000#32 * f i := by
  rw [half, Finset.sum_congr rfl fun i _ => h i, coe_sum, ← EReal.coe_mul, Finset.mul_sum, ← coe_sum]
  exact Finset.sum_congr rfl fun i _ => by rw [EReal.coe_mul, ← h i]

theorem final6 (c : Dev nD)
    (h : ∀ t, rowLoss (X2 (aX m c) (aP m c) (aW m c) t) (gain (aG m c)) (row (aY m c) t)
      = ((rowLoss (X2 (aX m c) (aP m c) (aW m c) t) (gain (aG m c)) (row (aY m c) t)).toReal : EReal)) :
    (dats m 0 c).arrAt 6 cfg0.N = LOSS (aX m c) (aP m c) (aW m c) (aY m c) (aG m c) := by
  refine (dats m 0 c).arrAt_eq_of_after_last 6 t0_15 (by decide +kernel) _ fun i => ?_
  blk_simp
  rw [after0_6]
  refine Eq.trans (after6 m c t0_15 (N_0.symm : (16 : ℕ) = grid0.N) _) ?_
  unfold LOSS
  rw [half_sum _ h]
  unfold lossAt
  refine (Finset.sum_congr rfl fun p _ => half_sum _ fun s => h (at_ p s)).trans ?_
  exact Fin.sum_mul_add_congr (S := cfg0.N) (n := 512) (L := 8192)
    (f := fun t => Ideal.ofBits .f32 0x3F000000#32 * rowLoss (X2 (aX m c) (aP m c) (aW m c) t) (gain (aG m c)) (row (aY m c) t))
    (fun p s h => rfl) (congrArg (· * 512) (N_0.symm : (16 : ℕ) = grid0.N))

theorem final7 (c : Dev nD) : (dats m 0 c).arrAt 7 cfg0.N = DG (aX m c) (aP m c) (aW m c) (aY m c) (aG m c) := by
  refine (dats m 0 c).arrAt_eq_of_after_last 7 t0_15 (by decide +kernel) _ fun i => ?_
  blk_simp
  rw [after0_7]
  refine Eq.trans (after7 m c t0_15 (N_0.symm : (16 : ℕ) = grid0.N) _) ?_
  obtain ⟨z, d, rfl⟩ : ∃ z d, i = ix2 z d := ⟨i 0, i 1, (ix2_eta i).symm⟩
  exact Fin.sum_mul_add_congr (S := cfg0.N) (n := 512) (L := 8192)
    (F := fun p s => part (aX m c) (aP m c) (aW m c) (aY m c) (aG m c) (at_ p s) d)
    (f := fun t => part (aX m c) (aP m c) (aW m c) (aY m c) (aG m c) t d) (fun p s h => rfl) (congrArg (· * 512) (N_0.symm : (16 : ℕ) = grid0.N))

/-! ## The reference -/

open Cert.Reference5Ideal.Read

section
variable (x : S8192x1024.Idx → EReal) (p : S8192x4096.Idx → EReal) (w : S4096x1024.Idx → EReal) (y : S8192x1024.Idx → EReal) (g : S1024.Idx → EReal)

theorem zero_word : FloatOps.ofBits (F := Ideal) .f32 0x00000000#32 = (0 : EReal) := Ideal.ofBits_zero_f32

theorem r_x2 (t : Fin 8192) (d : Fin 1024) : (val_main_v3 (F := Ideal) x p w (ix2 t d) : EReal) = X2 x p w t d := by
  rw [val_main_v3_apply, val_main_v2_apply]
  have hl : ∀ k, lidx_main_v2 (ix2 t d) k = ix2 t k := fun k => by funext a; fin_cases a <;> rfl
  have hr : ∀ k, ridx_main_v2 (ix2 t d) k = ix2 k d := fun k => by funext a; fin_cases a <;> rfl
  simp only [hl, hr, val_main_v1_apply, val_main_v0_apply, val_main_call0_v0_apply, val_main_call0_cst_apply, zero_word]
  rfl

theorem r_msq (t : Fin 8192) (z : Fin 1) : (val_main_v10 (F := Ideal) x p w (ix2 t z) : EReal) = msq (X2 x p w t) := by
  rw [val_main_v10_apply, val_main_v8_apply, val_main_v6_apply, val_main_v7_apply, val_main_v9_apply, val_main_v5_apply,
    val_main_cst_apply, val_main_cst_0_apply, val_main_cst_1_apply, zero_word, zero_add]
  have h : ∀ k, idx_main_v5 (idx_main_v6 (ix2 t z)) k = ix2 t k := fun k => by funext a; fin_cases a <;> rfl
  simp only [h, val_main_v4_apply, r_x2]
  rfl

theorem r_rstd (t : Fin 8192) (z : Fin 1) : (val_main_v11 (F := Ideal) x p w (ix2 t z) : EReal) = rstd (X2 x p w t) := by
  rw [val_main_v11_apply, r_msq]
  rfl

theorem r_hat (t : Fin 8192) (d : Fin 1024) : (val_main_v16 (F := Ideal) x p w (ix2 t d) : EReal) = X2 x p w t d * rstd (X2 x p w t) := by
  rw [val_main_v16_apply, r_x2, val_main_v15_apply]
  have h : idx_main_v15 (ix2 t d) = ix2 t 0 := by funext a; fin_cases a <;> rfl
  rw [h, r_rstd]
  rfl

theorem r_miss (t : Fin 8192) (d : Fin 1024) :
    (val_main_v20 (F := Ideal) x p w y g (ix2 t d) : EReal) = miss (X2 x p w t) (gain g) (row y t) d := by
  rw [val_main_v20_apply, val_main_v19_apply, r_hat, val_main_v18_apply, val_main_v17_apply]
  have h : idx_main_v17 (idx_main_v18 (ix2 t d)) = ix1 d := by funext a; fin_cases a; rfl
  rw [h]
  rfl

theorem two : Ideal.ofBits .f32 0x40000000#32 = ((2 : ℝ) : EReal) := by
  simp [Ideal.ofBits, Ideal.ieee, -EReal.coe_mul]
  norm_num

theorem scale : Ideal.ofBits .f32 0x3A800000#32 = ((1 / 1024 : ℝ) : EReal) := by
  simp [Ideal.ofBits, Ideal.ieee, -EReal.coe_mul]
  norm_num

theorem scale_eq : Ideal.div (Ideal.ofBits .f32 0x3F000000#32 * Ideal.ofBits .f32 0x3F800000#32) (Ideal.ofBits .f32 0x44800000#32)
    * Ideal.ofBits .f32 0x40000000#32 = Ideal.ofBits .f32 0x3A800000#32 := by
  rw [half, Ideal.ofBits_one_f32, mul_one, div_width, two, scale, ← EReal.coe_mul]
  norm_num

theorem r_dmiss (t : Fin 8192) (d : Fin 1024) :
    (val_main_v34 (F := Ideal) x p w y g (ix2 t d) : EReal) = dmiss (X2 x p w t) (gain g) (row y t) d := by
  rw [val_main_v34_apply, val_main_v33_apply, val_main_v32_apply, val_main_v30_apply, val_main_v29_apply, val_main_v31_apply,
    val_main_v23_apply, val_main_v22_apply, r_miss, val_main_cst_3_apply, val_main_cst_8_apply, val_main_cst_9_apply, val_main_cst_10_apply]
  refine (mul_assoc (G := EReal) _ _ _).symm.trans ?_
  refine (congrArg (· * miss (X2 x p w t) (gain g) (row y t) d : EReal → EReal) scale_eq).trans ?_
  exact mul_comm (G := EReal) _ _

theorem r_dmg (t : Fin 8192) (d : Fin 1024) :
    (val_main_v39 (F := Ideal) x p w y g (ix2 t d) : EReal) = dmiss (X2 x p w t) (gain g) (row y t) d * gain g d := by
  rw [val_main_v39_apply, r_dmiss, val_main_v38_apply, val_main_v17_apply]
  have h : idx_main_v17 (idx_main_v38 (ix2 t d)) = ix1 d := by funext a; fin_cases a; rfl
  rw [h]
  rfl

theorem r_pull (t : Fin 8192) (d : Fin 1024) :
    (val_main_v50 (F := Ideal) x p w y g (ix2 t d) : EReal) = pull (X2 x p w t) (gain g) (dmiss (X2 x p w t) (gain g) (row y t)) := by
  rw [val_main_v50_apply, val_main_v49_apply, val_main_cst_15_apply, zero_word, zero_add, Fin.sum_univ_one]
  have h : idx_main_v49 (idx_main_v50 (ix2 t d)) 0 = ix2 t 0 := by funext a; fin_cases a <;> rfl
  rw [h, val_main_v48_apply, val_main_v46_apply, val_main_v47_apply, val_main_v43_apply, val_main_v42_apply, val_main_v14_apply,
    val_main_v12_apply, val_main_v13_apply, r_msq, r_rstd, val_main_cst_13_apply, val_main_cst_14_apply, val_main_cst_2_apply, zero_word, zero_add]
  have h' : ∀ k, idx_main_v42 (idx_main_v43 (ix2 t 0)) k = ix2 t k := fun k => by
    funext a
    fin_cases a
    · exact Fin.ext (show t.val * 1 + 0 = t.val by omega)
    · rfl
  simp only [h', val_main_v41_apply, r_dmg, r_x2]
  rfl

variable (hx : ∀ i, x i = ((x i).toReal : EReal)) (hp : ∀ i, p i = ((p i).toReal : EReal)) (hw : ∀ i, w i = ((w i).toReal : EReal))
  (hy : ∀ i, y i = ((y i).toReal : EReal)) (hg : ∀ i, g i = ((g i).toReal : EReal))

include hx hp hw in
theorem x2_real (t : Fin 8192) (d : Fin 1024) : X2 x p w t d = ((X2 x p w t d).toReal : EReal) := by
  refine add_toReal _ _ (hx _) (sum_toReal _ _ fun f => mul_toReal _ _ ?_ (hw _))
  have h : max (p (ix2 t f)) 0 = ((max (p (ix2 t f)) 0).toReal : EReal) := by
    rw [hp (ix2 t f), ← EReal.coe_zero, ← EReal.coe_strictMono.monotone.map_max, EReal.toReal_coe]
  exact mul_toReal _ _ h h

theorem rstd_toReal (r : Fin 1024 → EReal) (h : ∀ k, r k = ((r k).toReal : EReal)) : rstd r = ((rstd r).toReal : EReal) := by
  obtain ⟨X, rfl⟩ : ∃ X : Fin 1024 → ℝ, r = fun k => (X k : EReal) := ⟨fun k => (r k).toReal, funext h⟩
  rw [rstd_real, EReal.toReal_coe]

theorem sub_toReal (a b : EReal) (ha : a = (a.toReal : EReal)) (hb : b = (b.toReal : EReal)) : a - b = ((a - b).toReal : EReal) := by
  rw [ha, hb, ← EReal.coe_sub, EReal.toReal_coe]

include hx hp hw hy hg in
theorem miss_real (t : Fin 8192) (d : Fin 1024) :
    miss (X2 x p w t) (gain g) (row y t) d = ((miss (X2 x p w t) (gain g) (row y t) d).toReal : EReal) :=
  sub_toReal _ _ (mul_toReal _ _ (mul_toReal _ _ (x2_real x p w hx hp hw t d) (rstd_toReal _ (x2_real x p w hx hp hw t))) (hg _)) (hy _)

include hx hp hw hy hg in
theorem dmiss_real (t : Fin 8192) (d : Fin 1024) :
    dmiss (X2 x p w t) (gain g) (row y t) d = ((dmiss (X2 x p w t) (gain g) (row y t) d).toReal : EReal) :=
  mul_toReal _ _ (miss_real x p w y g hx hp hw hy hg t d) (by rw [scale, EReal.toReal_coe])

include hx hp hw hy hg in
theorem rowLoss_real (t : Fin 8192) :
    rowLoss (X2 x p w t) (gain g) (row y t) = ((rowLoss (X2 x p w t) (gain g) (row y t)).toReal : EReal) := by
  unfold rowLoss
  have h := sum_toReal Finset.univ (fun d => miss (X2 x p w t) (gain g) (row y t) d * miss (X2 x p w t) (gain g) (row y t) d) fun d =>
    mul_toReal _ _ (miss_real x p w y g hx hp hw hy hg t d) (miss_real x p w y g hx hp hw hy hg t d)
  rw [h, div_width, EReal.toReal_coe]

include hx hp hw hy hg in
theorem r_dx (i : S8192x1024.Idx) : (val_main_v54 (F := Ideal) x p w y g i : EReal) = DX x p w y g i := by
  obtain ⟨t, d, rfl⟩ : ∃ t d, i = ix2 t d := ⟨i 0, i 1, (ix2_eta i).symm⟩
  rw [val_main_v54_apply, val_main_v52_apply, val_main_v53_apply, val_main_v51_apply, val_main_v45_apply, r_pull, r_dmg,
    val_main_v44_apply, r_x2]
  have h : idx_main_v44 (ix2 t d) = ix2 t 0 := by funext a; fin_cases a <;> rfl
  rw [h, r_rstd]
  exact grad_eq (X2 x p w t) (gain g) (dmiss (X2 x p w t) (gain g) (row y t)) (x2_real x p w hx hp hw t) (fun k => hg _)
    (dmiss_real x p w y g hx hp hw hy hg t) d

theorem r_dg (i : S1x1024.Idx) : (val_main_v56 (F := Ideal) x p w y g i : EReal) = DG x p w y g i := by
  obtain ⟨z, d, rfl⟩ : ∃ z d, i = ix2 z d := ⟨i 0, i 1, (ix2_eta i).symm⟩
  rw [val_main_v56_apply, val_main_v40_apply, val_main_cst_12_apply, zero_word, zero_add, Fin.sum_univ_one, val_main_v37_apply,
    val_main_v36_apply, val_main_cst_11_apply, zero_word, zero_add]
  refine Finset.sum_congr rfl fun t _ => ?_
  have h : idx_main_v36 (idx_main_v37 (idx_main_v40 (idx_main_v56 (ix2 z d)) 0)) t = ix2 t d := by
    funext a
    fin_cases a
    · rfl
    · exact Fin.ext (show 0 * 1024 + (z.val * 1024 + d.val) = d.val by omega)
  rw [h, val_main_v35_apply, r_dmiss, r_hat]
  exact mul_comm (G := EReal) _ _

theorem r_loss (i : S8x128.Idx) : (val_main_v55 (F := Ideal) x p w y g i : EReal) = LOSS x p w y g i := by
  rw [val_main_v55_apply, val_main_v28_apply, val_main_v27_apply, val_main_cst_6_apply, val_main_cst_7_apply, zero_word, zero_add]
  refine congrArg (Ideal.ofBits .f32 0x3F000000#32 * · : EReal → EReal) ?_
  rw [← Equiv.sum_comp (ValueIdx.idxEquiv1 (n := 8192)).symm]
  refine Finset.sum_congr rfl fun t _ => ?_
  rw [val_main_v26_apply, val_main_v24_apply, val_main_v25_apply, val_main_cst_4_apply, val_main_cst_5_apply, zero_word, zero_add]
  have h : ∀ k, idx_main_v24 ((ValueIdx.idxEquiv1 (n := 8192)).symm t) k = ix2 t k := fun k => by funext a; fin_cases a <;> rfl
  simp only [h, val_main_v21_apply, r_miss]
  rfl
end

/-- Where the precondition holds every argument is real. -/
theorem finite_at (h : Cert.Pre_Kernel5Ideal_finite5 m) (c : Dev nD) :
    (∀ i, aX m c i = ((aX m c i).toReal : EReal)) ∧ (∀ i, aP m c i = ((aP m c i).toReal : EReal))
    ∧ (∀ i, aW m c i = ((aW m c i).toReal : EReal)) ∧ (∀ i, aY m c i = ((aY m c i).toReal : EReal))
    ∧ (∀ i, aG m c i = ((aG m c i).toReal : EReal)) := by
  obtain ⟨a, b, d, e, f⟩ := h c
  exact ⟨fun i => of_finite _ (congrFun a i), fun i => of_finite _ (congrFun b i), fun i => of_finite _ (congrFun d i),
    fun i => of_finite _ (congrFun e i), fun i => of_finite _ (congrFun f i)⟩

/-- The two programs return the same three arrays. -/
theorem algebraic : Cert.algebraic_Kernel5Ideal_Reference5Ideal_pre_finite5 := by
  intro m g m' g' hpre hagree
  refine ⟨fun c => (dats m 0 c).arrAt 5 cfg0.N, fun c => (dats m 0 c).arrAt 6 cfg0.N, fun c => (dats m 0 c).arrAt 7 cfg0.N, Value.run_blocks m g, ?_⟩
  refine (θ_run Cert.Reference5Ideal.defs _ _).mono (fun r h c => ?_) (Cert.Reference5Ideal.Value.run (F := Ideal) m' g')
  obtain ⟨ha, hb, hd, hq⟩ := h c
  obtain ⟨a0, a1, a2, a3, a4⟩ := hagree c
  obtain ⟨hx, hp, hw, hy, hg⟩ := finite_at m hpre c
  refine ⟨ha.trans ?_, hb.trans ?_, hd.trans ?_, hq⟩
  · dsimp only
    rw [final5, val_main_v54_eq, a0, a1, a2, a3, a4]
    exact funext (r_dx _ _ _ _ _ hx hp hw hy hg)
  · dsimp only
    rw [final6 m c (rowLoss_real _ _ _ _ _ hx hp hw hy hg), val_main_v55_eq, a0, a1, a2, a3, a4]
    exact funext (r_loss _ _ _ _ _)
  · dsimp only
    rw [final7, val_main_v56_eq, a0, a1, a2, a3, a4]
    exact funext (r_dg _ _ _ _ _)

end Cert.Loss

end
-- ==== Proof.Outp.lean ====
/- The patterns' mixing and the output projection, backwards: the arrays the call returns, and the reference's, element by element. -/
module

public import proofs.«01_k».proof.Proof.Gen.Kernel6Ideal.Value
public import proofs.«01_k».proof.Proof.Gen.Reference6Ideal.Read
public import proofs.«01_k».proof.Proof.Gen.Pre_finite6
public import proofs.«01_k».proof.Proof.RmsMath
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

noncomputable section

namespace Cert.Outp

open Cert.Kernel6Ideal Cert.Kernel6Ideal.Gen Cert.Rms Idealize.ShloMosaic Idealize.ShloMosaic.TcCoe Idealize.SL.Sem

variable (m : (ℓ : Loc nD τ sig) → Buf (Elt Ideal) ℓ) (ρ : Dev nD → PrngReg)

/-! ## The weights of the three patterns and what they are pulled back to -/

/-- The largest of three row log-sums. -/
def top (L : Fin 3 → EReal) : EReal := max (max (L 0) (L 1)) (L 2)
/-- A pattern's weight before the division. -/
def wgt (L : Fin 3 → EReal) (p : Fin 3) : EReal := Ideal.exp (L p - top L)
/-- A pattern's weight. -/
def al (L : Fin 3 → EReal) (p : Fin 3) : EReal :=
  wgt L p * Ideal.div 1 (wgt L 0 + wgt L 1 + wgt L 2)
/-- The weighted sum of the three patterns' products with their cotangents. -/
def tot (L S : Fin 3 → EReal) : EReal := al L 0 * S 0 + al L 1 * S 1 + al L 2 * S 2

/-- Lane `l` of tile `p`. -/
def col (p : Fin 3) (l : Fin 128) : Fin 384 := ⟨p.val * 128 + l.val, by omega⟩
/-- The first three tiles' columns among all. -/
def wide (k : Fin 384) : Fin 1024 := ⟨k.val, by omega⟩
/-- The sum of a tile's products over the half that lane `l` lies in. -/
def half (f : Fin 128 → EReal) (l : Fin 128) : EReal := ∑ d : Fin 64, f ⟨l.val / 64 * 64 + d.val, by omega⟩

/-- A sum over the lanes of the first half. -/
theorem sum_first (f : Fin 128 → EReal) : (∑ k : Fin 128, Scalar.select (if k.val < 64 then 1#1 else 0#1) (f k) 0)
    = ∑ d : Fin 64, f ⟨d.val, by omega⟩ := by
  refine (Fin.sum_univ_add (a := 64) (b := 64) fun k : Fin (64 + 64) => Scalar.select (if k.val < 64 then 1#1 else 0#1) (f k) 0).trans ?_
  rw [Finset.sum_eq_zero (s := Finset.univ) (f := fun d : Fin 64 => Scalar.select (if (Fin.natAdd 64 d).val < 64 then 1#1 else 0#1) _ _), add_zero]
  · refine Finset.sum_congr rfl fun d _ => ?_
    rw [if_pos (by simp)]
    rfl
  · intro d _
    rw [if_neg (by simp)]
    rfl

/-- A sum over the lanes of the second half. -/
theorem sum_second (f : Fin 128 → EReal) : (∑ k : Fin 128, Scalar.select (if k.val < 64 then 1#1 else 0#1) 0 (f k))
    = ∑ d : Fin 64, f ⟨64 + d.val, by omega⟩ := by
  refine (Fin.sum_univ_add (a := 64) (b := 64) fun k : Fin (64 + 64) => Scalar.select (if k.val < 64 then 1#1 else 0#1) 0 (f k)).trans ?_
  rw [Finset.sum_eq_zero (s := Finset.univ) (f := fun d : Fin 64 => Scalar.select (if (Fin.castAdd 64 d).val < 64 then 1#1 else 0#1) _ _), zero_add]
  · refine Finset.sum_congr rfl fun d _ => ?_
    rw [if_neg (by simp)]
    rfl
  · intro d _
    rw [if_pos (by simp)]
    rfl

/-- Selecting by half the sum over one half or the other is the sum over the lane's own half. -/
theorem select_half (f : Fin 128 → EReal) (l : Fin 128) :
    Scalar.select (if l.val < 64 then 1#1 else 0#1)
      (∑ k : Fin 128, Scalar.select (if k.val < 64 then 1#1 else 0#1) (f k) 0)
      (∑ k : Fin 128, Scalar.select (if k.val < 64 then 1#1 else 0#1) 0 (f k)) = half f l := by
  rw [sum_first, sum_second]
  unfold half
  by_cases h : l.val < 64
  · rw [if_pos h]
    show (∑ d : Fin 64, f ⟨d.val, _⟩) = _
    refine Finset.sum_congr rfl fun d _ => congrArg f (Fin.ext ?_)
    have : l.val / 64 = 0 := by omega
    simp [this]
  · rw [if_neg h]
    show (∑ d : Fin 64, f ⟨64 + d.val, _⟩) = _
    refine Finset.sum_congr rfl fun d _ => congrArg f (Fin.ext ?_)
    have : l.val / 64 = 1 := by omega
    simp [this]

section
variable (v0 : Vec Ideal S1024x1024 .f32) (v2 : Vec Ideal S1024x1024 .bf16) (v5 : Vec Ideal S1024x384 .f32)
  (a0 a1 a2 : Vec Ideal S1024x128 .f32)

def lanes (s : Fin 1024) (l : Fin 128) : Fin 3 → EReal := fun q => v5 (ix2 s (col q l))

theorem pay4_apply (s d : Fin 1024) : (k0_pay4 v0 v2 (ix2 s d) : EReal) = ∑ k : Fin 1024, v0 (ix2 s k) * v2 (ix2 d k) := by
  pointwise [k0_pay4, k0_pay3]

theorem pay6_apply (s : Fin 1024) (l : Fin 128) : (k0_pay6 v5 (ix2 s l) : EReal) = lanes v5 s l 0 := by
  pointwise [k0_pay6, k0_pay5]
  exact congrArg (fun k => v5 (ix2 s k)) (Fin.ext (by simp [col]))
theorem pay7_apply (s : Fin 1024) (l : Fin 128) : (k0_pay7 v5 (ix2 s l) : EReal) = lanes v5 s l 1 := by
  pointwise [k0_pay7, k0_pay5]
  rfl
theorem pay8_apply (s : Fin 1024) (l : Fin 128) : (k0_pay8 v5 (ix2 s l) : EReal) = lanes v5 s l 2 := by
  pointwise [k0_pay8, k0_pay5]
  rfl
theorem pay9_apply (s : Fin 1024) (l : Fin 128) : (k0_pay9 v5 (ix2 s l) : EReal) = top (lanes v5 s l) := by
  pointwise [k0_pay9]
  rw [pay6_apply, pay7_apply, pay8_apply]
  rfl
theorem pay10_apply (s : Fin 1024) (l : Fin 128) : (k0_pay10 v5 (ix2 s l) : EReal) = wgt (lanes v5 s l) 0 := by
  pointwise [k0_pay10]
  rw [pay6_apply, pay9_apply]
  rfl
theorem pay11_apply (s : Fin 1024) (l : Fin 128) : (k0_pay11 v5 (ix2 s l) : EReal) = wgt (lanes v5 s l) 1 := by
  pointwise [k0_pay11]
  rw [pay7_apply, pay9_apply]
  rfl
theorem pay12_apply (s : Fin 1024) (l : Fin 128) : (k0_pay12 v5 (ix2 s l) : EReal) = wgt (lanes v5 s l) 2 := by
  pointwise [k0_pay12]
  rw [pay8_apply, pay9_apply]
  rfl
theorem pay14_apply (s : Fin 1024) (l : Fin 128) : (k0_pay14 v5 (ix2 s l) : EReal) = al (lanes v5 s l) 0 := by
  pointwise [k0_pay14, k0_pay13]
  rw [pay10_apply, pay11_apply, pay12_apply]
  rfl
theorem pay15_apply (s : Fin 1024) (l : Fin 128) : (k0_pay15 v5 (ix2 s l) : EReal) = al (lanes v5 s l) 1 := by
  pointwise [k0_pay15, k0_pay13]
  rw [pay10_apply, pay11_apply, pay12_apply]
  rfl
theorem pay16_apply (s : Fin 1024) (l : Fin 128) : (k0_pay16 v5 (ix2 s l) : EReal) = al (lanes v5 s l) 2 := by
  pointwise [k0_pay16, k0_pay13]
  rw [pay10_apply, pay11_apply, pay12_apply]
  rfl

/-- Whether a lane lies in the first half. -/
theorem pay17_apply (s : Fin 1024) (l : Fin 128) : (k0_pay17 (ix2 s l) : BitVec 1) = if l.val < 64 then 1#1 else 0#1 := by
  pointwise [k0_pay17]
  have : ∀ l : Fin 128, Scalar.cmpi .slt (BitVec.ofNat 32 l.val) 64#32 = if l.val < 64 then 1#1 else 0#1 := by decide +kernel
  exact this l

/-- A lane's column among the first three tiles' of the cotangent. -/
def prod (a : Vec Ideal S1024x128 .f32) (s : Fin 1024) (p : Fin 3) (k : Fin 128) : EReal :=
  k0_pay4 v0 v2 (ix2 s (wide (col p k))) * a (ix2 s k)

/-- The tiles' products, weighted and summed. -/
theorem pay32_apply (s : Fin 1024) (l : Fin 128) :
    (k0_pay32 (k0_pay16 v5) k0_pay17
      (k0_pay26 (k0_pay4 v0 v2) (k0_pay14 v5) (k0_pay15 v5) k0_pay17 k0_pay18 (k0_pay22 v0 v2 a0) (k0_pay23 v0 v2 a0) a1)
      (k0_pay30 (k0_pay4 v0 v2) k0_pay17 a2) (k0_pay31 (k0_pay4 v0 v2) k0_pay17 a2) (ix2 s l) : EReal)
      = tot (lanes v5 s l) ![half (prod v0 v2 a0 s 0) l, half (prod v0 v2 a1 s 1) l, half (prod v0 v2 a2 s 2) l] := by
  pointwise [k0_pay32, k0_pay31, k0_pay30, k0_pay29, k0_pay27, k0_pay26, k0_pay24, k0_pay23, k0_pay22, k0_pay21, k0_pay19, k0_pay18]
  simp only [pay14_apply, pay15_apply, pay16_apply, pay17_apply, select_half]
  rw [show (fun x : Fin 128 => (k0_pay4 v0 v2 (ix2 s ⟨x.val, by omega⟩) * a0 (ix2 s x) : EReal)) = prod v0 v2 a0 s 0 from
    funext fun k => congrArg (fun z => (k0_pay4 v0 v2 (ix2 s z) * a0 (ix2 s k) : EReal)) (Fin.ext (by simp [wide, col]))]
  rfl

/-- A block's cotangents of the patterns' outputs. -/
def BDO (s : Fin 1024) (k : Fin 384) : EReal :=
  k0_pay4 v0 v2 (ix2 s (wide k)) * al (lanes v5 s ⟨k.val % 128, by omega⟩) ⟨k.val / 128, by omega⟩

/-- A block's cotangents of the row log-sums, less the rows' products. -/
def BDD (v3 : Vec Ideal S1024x384 .f32) (s : Fin 1024) (k : Fin 384) : EReal :=
  (0 - al (lanes v5 s ⟨k.val % 128, by omega⟩) ⟨k.val / 128, by omega⟩)
    * tot (lanes v5 s ⟨k.val % 128, by omega⟩)
      fun q => half (fun l => k0_pay4 v0 v2 (ix2 s (wide (col q l))) * v3 (ix2 s (col q l))) ⟨k.val % 128, by omega⟩
end

section
variable (v0 : Vec Ideal S1024x1024 .f32) (v2 : Vec Ideal S1024x1024 .bf16) (v5 v3 : Vec Ideal S1024x384 .f32)
  (a0 a1 a2 : Vec Ideal S1024x128 .f32)

theorem bdo_col (s : Fin 1024) (p : Fin 3) (l : Fin 128) (k : Fin 384) (hk : k.val = p.val * 128 + l.val) :
    BDO v0 v2 v5 s k = k0_pay4 v0 v2 (ix2 s (wide (col p l))) * al (lanes v5 s l) p := by
  have e : k = col p l := Fin.ext hk
  have e1 : (⟨k.val % 128, by omega⟩ : Fin 128) = l := Fin.ext (by simp only; omega)
  have e2 : (⟨k.val / 128, by omega⟩ : Fin 3) = p := Fin.ext (by simp only; omega)
  unfold BDO
  rw [e1, e2, e]

theorem bdd_col (s : Fin 1024) (p : Fin 3) (l : Fin 128) (k : Fin 384) (hk : k.val = p.val * 128 + l.val) :
    BDD v0 v2 v5 v3 s k = (0 - al (lanes v5 s l) p) * tot (lanes v5 s l)
      fun q => half (fun l => k0_pay4 v0 v2 (ix2 s (wide (col q l))) * v3 (ix2 s (col q l))) l := by
  have e1 : (⟨k.val % 128, by omega⟩ : Fin 128) = l := Fin.ext (by simp only; omega)
  have e2 : (⟨k.val / 128, by omega⟩ : Fin 3) = p := Fin.ext (by simp only; omega)
  unfold BDD
  rw [e1, e2]

theorem do_0 (x : S1024x128.Idx) (s : Fin 1024) (k : Fin 384) (hs : s.val = (x 0).val) (hk : k.val = (x 1).val) :
    (k0_pay20 v0 v2 v5 x : EReal) = BDO v0 v2 v5 s k := by
  obtain ⟨s', l, rfl⟩ : ∃ s l, x = ix2 s l := ⟨x 0, x 1, (ix2_eta x).symm⟩
  obtain rfl : s = s' := Fin.ext hs
  rw [bdo_col v0 v2 v5 s 0 l k (by simpa using hk)]
  pointwise [k0_pay20, k0_pay19]
  rw [pay14_apply]
  exact congrArg (fun z => (k0_pay4 v0 v2 (ix2 s z) * _ : EReal)) (Fin.ext (by simp [wide, col]))

theorem do_1 (x : S1024x128.Idx) (s : Fin 1024) (k : Fin 384) (hs : s.val = (x 0).val) (hk : k.val = 128 + (x 1).val) :
    (k0_pay25 (k0_pay4 v0 v2) (k0_pay15 v5) x : EReal) = BDO v0 v2 v5 s k := by
  obtain ⟨s', l, rfl⟩ : ∃ s l, x = ix2 s l := ⟨x 0, x 1, (ix2_eta x).symm⟩
  obtain rfl : s = s' := Fin.ext hs
  rw [bdo_col v0 v2 v5 s 1 l k (by simpa using hk)]
  pointwise [k0_pay25, k0_pay24]
  rw [pay15_apply]
  rfl

theorem do_2 (x : S1024x128.Idx) (s : Fin 1024) (k : Fin 384) (hs : s.val = (x 0).val) (hk : k.val = 256 + (x 1).val) :
    (k0_pay28 (k0_pay4 v0 v2) (k0_pay16 v5) x : EReal) = BDO v0 v2 v5 s k := by
  obtain ⟨s', l, rfl⟩ : ∃ s l, x = ix2 s l := ⟨x 0, x 1, (ix2_eta x).symm⟩
  obtain rfl : s = s' := Fin.ext hs
  rw [bdo_col v0 v2 v5 s 2 l k (by simpa using hk)]
  pointwise [k0_pay28, k0_pay27]
  rw [pay16_apply]
  rfl

/-- What a tile's column of the row log-sums' cotangents is before its sign and weight. -/
abbrev mixed (s : Fin 1024) (l : Fin 128) : EReal :=
  k0_pay32 (k0_pay16 v5) k0_pay17
      (k0_pay26 (k0_pay4 v0 v2) (k0_pay14 v5) (k0_pay15 v5) k0_pay17 k0_pay18 (k0_pay22 v0 v2 a0) (k0_pay23 v0 v2 a0) a1)
      (k0_pay30 (k0_pay4 v0 v2) k0_pay17 a2) (k0_pay31 (k0_pay4 v0 v2) k0_pay17 a2) (ix2 s l)

theorem mixed_eq (h0 : ∀ s l, (a0 (ix2 s l) : EReal) = v3 (ix2 s (col 0 l))) (h1 : ∀ s l, (a1 (ix2 s l) : EReal) = v3 (ix2 s (col 1 l)))
    (h2 : ∀ s l, (a2 (ix2 s l) : EReal) = v3 (ix2 s (col 2 l))) (s : Fin 1024) (l : Fin 128) :
    mixed v0 v2 v5 a0 a1 a2 s l = tot (lanes v5 s l)
      fun q => half (fun l => k0_pay4 v0 v2 (ix2 s (wide (col q l))) * v3 (ix2 s (col q l))) l := by
  refine (pay32_apply v0 v2 v5 a0 a1 a2 s l).trans (congrArg (tot _) (funext fun q => ?_))
  fin_cases q
  · exact congrArg (half · l) (funext fun k => by rw [prod, h0]; rfl)
  · exact congrArg (half · l) (funext fun k => by rw [prod, h1]; rfl)
  · exact congrArg (half · l) (funext fun k => by rw [prod, h2]; rfl)

variable (h0 : ∀ s l, (a0 (ix2 s l) : EReal) = v3 (ix2 s (col 0 l))) (h1 : ∀ s l, (a1 (ix2 s l) : EReal) = v3 (ix2 s (col 1 l)))
  (h2 : ∀ s l, (a2 (ix2 s l) : EReal) = v3 (ix2 s (col 2 l)))
include h0 h1 h2

theorem dd_0 (x : S1024x128.Idx) (s : Fin 1024) (k : Fin 384) (hs : s.val = (x 0).val) (hk : k.val = (x 1).val) :
    (k0_pay33 (k0_pay14 v5) (k0_pay16 v5) k0_pay17
      (k0_pay26 (k0_pay4 v0 v2) (k0_pay14 v5) (k0_pay15 v5) k0_pay17 k0_pay18 (k0_pay22 v0 v2 a0) (k0_pay23 v0 v2 a0) a1)
      (k0_pay30 (k0_pay4 v0 v2) k0_pay17 a2) (k0_pay31 (k0_pay4 v0 v2) k0_pay17 a2) x : EReal) = BDD v0 v2 v5 v3 s k := by
  obtain ⟨s', l, rfl⟩ : ∃ s l, x = ix2 s l := ⟨x 0, x 1, (ix2_eta x).symm⟩
  obtain rfl : s = s' := Fin.ext hs
  rw [bdd_col v0 v2 v5 v3 s 0 l k (by simpa using hk), ← mixed_eq v0 v2 v5 v3 a0 a1 a2 h0 h1 h2]
  pointwise [k0_pay33]
  rw [pay14_apply]

theorem dd_1 (x : S1024x128.Idx) (s : Fin 1024) (k : Fin 384) (hs : s.val = (x 0).val) (hk : k.val = 128 + (x 1).val) :
    (k0_pay34 (k0_pay15 v5) (k0_pay16 v5) k0_pay17
      (k0_pay26 (k0_pay4 v0 v2) (k0_pay14 v5) (k0_pay15 v5) k0_pay17 k0_pay18 (k0_pay22 v0 v2 a0) (k0_pay23 v0 v2 a0) a1)
      (k0_pay30 (k0_pay4 v0 v2) k0_pay17 a2) (k0_pay31 (k0_pay4 v0 v2) k0_pay17 a2) x : EReal) = BDD v0 v2 v5 v3 s k := by
  obtain ⟨s', l, rfl⟩ : ∃ s l, x = ix2 s l := ⟨x 0, x 1, (ix2_eta x).symm⟩
  obtain rfl : s = s' := Fin.ext hs
  rw [bdd_col v0 v2 v5 v3 s 1 l k (by simpa using hk), ← mixed_eq v0 v2 v5 v3 a0 a1 a2 h0 h1 h2]
  pointwise [k0_pay34]
  rw [pay15_apply]

theorem dd_2 (x : S1024x128.Idx) (s : Fin 1024) (k : Fin 384) (hs : s.val = (x 0).val) (hk : k.val = 256 + (x 1).val) :
    (k0_pay35 (k0_pay16 v5) k0_pay17
      (k0_pay26 (k0_pay4 v0 v2) (k0_pay14 v5) (k0_pay15 v5) k0_pay17 k0_pay18 (k0_pay22 v0 v2 a0) (k0_pay23 v0 v2 a0) a1)
      (k0_pay30 (k0_pay4 v0 v2) k0_pay17 a2) (k0_pay31 (k0_pay4 v0 v2) k0_pay17 a2) x : EReal) = BDD v0 v2 v5 v3 s k := by
  obtain ⟨s', l, rfl⟩ : ∃ s l, x = ix2 s l := ⟨x 0, x 1, (ix2_eta x).symm⟩
  obtain rfl : s = s' := Fin.ext hs
  rw [bdd_col v0 v2 v5 v3 s 2 l k (by simpa using hk), ← mixed_eq v0 v2 v5 v3 a0 a1 a2 h0 h1 h2]
  pointwise [k0_pay35]
  rw [pay16_apply]
end

/-! ## What the outputs hold after a point -/

theorem N8 (t : Fin cfg0.N) : t.val < 8 := lt_of_lt_of_eq t.isLt N_0

/-- The cotangents of the patterns' outputs. -/
theorem after_do (c : Dev nD) (t : Fin cfg0.N) (s : Fin 1024) (k : Fin 384) :
    ((outsAt0 m c t.val t.isLt).1 (ix2 s k) : EReal) = BDO (iblk m c 0 t) (iblk m c 2 t) (iblk m c 4 t) s k := by
  have hN := N8 t
  obtain ⟨y, rfl, rfl⟩ : ∃ y : S1024x384.Idx, s = y 0 ∧ k = y 1 := ⟨ix2 s k, rfl, rfl⟩
  rw [ix2_eta]
  by_cases c0 : t.val % 8 = 0
  · rw [outsAt0_A m c t c0 (by omega) (by omega)]
    frame_out
    canon_tiles x h
    · exact do_2 _ _ _ x _ _ h0 h1
    · exact do_1 _ _ _ x _ _ h0 h1
    · exact do_0 _ _ _ x _ _ h0 h1
  · by_cases c2 : t.val % 8 = 7
    · rw [outsAt0_C m c t c0 (by omega) c2]
      frame_out
      canon_tiles x h
      · exact do_2 _ _ _ x _ _ h0 h1
      · exact do_1 _ _ _ x _ _ h0 h1
      · exact do_0 _ _ _ x _ _ h0 h1
    · rw [outsAt0_B m c t c0 (by omega) c2]
      frame_out
      canon_tiles x h
      · exact do_2 _ _ _ x _ _ h0 h1
      · exact do_1 _ _ _ x _ _ h0 h1
      · exact do_0 _ _ _ x _ _ h0 h1

theorem ld_0 (v : Vec Ideal S1024x384 .f32) (s : Fin 1024) (l : Fin 128) :
    (View.ld v (Rect.unit (s := S1024x384) ![0, 0] S1024x128.size inb_S1024x384_S1024x128_0_0) (ix2 s l) : EReal) = v (ix2 s (col 0 l)) := by
  rw [View.ld_apply]
  refine congrArg v (funext fun x => Fin.ext ?_)
  rw [Rect.idx_unit_val]
  fin_cases x <;> simp [col]

theorem ld_1 (v : Vec Ideal S1024x384 .f32) (s : Fin 1024) (l : Fin 128) :
    (View.ld v (Rect.unit (s := S1024x384) ![0, 128] S1024x128.size inb_S1024x384_S1024x128_0_128) (ix2 s l) : EReal) = v (ix2 s (col 1 l)) := by
  rw [View.ld_apply]
  refine congrArg v (funext fun x => Fin.ext ?_)
  rw [Rect.idx_unit_val]
  fin_cases x <;> simp [col]

theorem ld_2 (v : Vec Ideal S1024x384 .f32) (s : Fin 1024) (l : Fin 128) :
    (View.ld v (Rect.unit (s := S1024x384) ![0, 256] S1024x128.size inb_S1024x384_S1024x128_0_256) (ix2 s l) : EReal) = v (ix2 s (col 2 l)) := by
  rw [View.ld_apply]
  refine congrArg v (funext fun x => Fin.ext ?_)
  rw [Rect.idx_unit_val]
  fin_cases x <;> simp [col]

set_option maxHeartbeats 1600000 in
/-- The cotangents of the row log-sums, less the rows' products. -/
theorem after_dd (c : Dev nD) (t : Fin cfg0.N) (s : Fin 1024) (k : Fin 384) :
    ((outsAt0 m c t.val t.isLt).2.1 (ix2 s k) : EReal) = BDD (iblk m c 0 t) (iblk m c 2 t) (iblk m c 4 t) (iblk m c 3 t) s k := by
  have hN := N8 t
  obtain ⟨y, rfl, rfl⟩ : ∃ y : S1024x384.Idx, s = y 0 ∧ k = y 1 := ⟨ix2 s k, rfl, rfl⟩
  rw [ix2_eta]
  by_cases c0 : t.val % 8 = 0
  · rw [outsAt0_A m c t c0 (by omega) (by omega)]
    frame_out
    canon_tiles x h
    · exact dd_2 _ _ _ _ _ _ _ (ld_0 _) (ld_1 _) (ld_2 _) x _ _ h0 h1
    · exact dd_1 _ _ _ _ _ _ _ (ld_0 _) (ld_1 _) (ld_2 _) x _ _ h0 h1
    · exact dd_0 _ _ _ _ _ _ _ (ld_0 _) (ld_1 _) (ld_2 _) x _ _ h0 h1
  · by_cases c2 : t.val % 8 = 7
    · rw [outsAt0_C m c t c0 (by omega) c2]
      frame_out
      canon_tiles x h
      · exact dd_2 _ _ _ _ _ _ _ (ld_0 _) (ld_1 _) (ld_2 _) x _ _ h0 h1
      · exact dd_1 _ _ _ _ _ _ _ (ld_0 _) (ld_1 _) (ld_2 _) x _ _ h0 h1
      · exact dd_0 _ _ _ _ _ _ _ (ld_0 _) (ld_1 _) (ld_2 _) x _ _ h0 h1
    · rw [outsAt0_B m c t c0 (by omega) c2]
      frame_out
      canon_tiles x h
      · exact dd_2 _ _ _ _ _ _ _ (ld_0 _) (ld_1 _) (ld_2 _) x _ _ h0 h1
      · exact dd_1 _ _ _ _ _ _ _ (ld_0 _) (ld_1 _) (ld_2 _) x _ _ h0 h1
      · exact dd_0 _ _ _ _ _ _ _ (ld_0 _) (ld_1 _) (ld_2 _) x _ _ h0 h1

theorem dc_apply (v0 : Vec Ideal S1024x1024 .f32) (v2 : Vec Ideal S1024x1024 .bf16) (s : Fin 1024) (k : Fin 256) :
    (k0_pay36 (k0_pay4 v0 v2) (ix2 s k) : EReal) = k0_pay4 v0 v2 (ix2 s ⟨384 + k.val, by omega⟩) := by
  pointwise [k0_pay36]

theorem dl_apply (v0 : Vec Ideal S1024x1024 .f32) (v2 : Vec Ideal S1024x1024 .bf16) (s : Fin 1024) (k : Fin 384) :
    (k0_pay37 (k0_pay4 v0 v2) (ix2 s k) : EReal) = k0_pay4 v0 v2 (ix2 s ⟨640 + k.val, by omega⟩) := by
  pointwise [k0_pay37]

/-- The convolution's cotangents. -/
theorem after_dc (c : Dev nD) (t : Fin cfg0.N) (s : Fin 1024) (k : Fin 256) :
    ((outsAt0 m c t.val t.isLt).2.2.1 (ix2 s k) : EReal) = k0_pay4 (iblk m c 0 t) (iblk m c 2 t) (ix2 s ⟨384 + k.val, by omega⟩) := by
  have hN := N8 t
  refine Eq.trans ?_ (dc_apply _ _ s k)
  by_cases c0 : t.val % 8 = 0
  · rw [outsAt0_A m c t c0 (by omega) (by omega)]
    frame_out
  · by_cases c2 : t.val % 8 = 7
    · rw [outsAt0_C m c t c0 (by omega) c2]
      frame_out
    · rw [outsAt0_B m c t c0 (by omega) c2]
      frame_out

/-- The recurrence's cotangents. -/
theorem after_dl (c : Dev nD) (t : Fin cfg0.N) (s : Fin 1024) (k : Fin 384) :
    ((outsAt0 m c t.val t.isLt).2.2.2.1 (ix2 s k) : EReal) = k0_pay4 (iblk m c 0 t) (iblk m c 2 t) (ix2 s ⟨640 + k.val, by omega⟩) := by
  have hN := N8 t
  refine Eq.trans ?_ (dl_apply _ _ s k)
  by_cases c0 : t.val % 8 = 0
  · rw [outsAt0_A m c t c0 (by omega) (by omega)]
    frame_out
  · by_cases c2 : t.val % 8 = 7
    · rw [outsAt0_C m c t c0 (by omega) c2]
      frame_out
    · rw [outsAt0_B m c t c0 (by omega) c2]
      frame_out

theorem pay39_apply (x : Vec Ideal S1024x1024 .f32) (a : Vec Ideal S1024x1024 .bf16) (k d : Fin 1024) :
    (k0_pay39 (k0_pay3 x) a (ix2 k d) : EReal) = ∑ s : Fin 1024, a (ix2 s k) * x (ix2 s d) := by
  pointwise [k0_pay39, k0_pay38, k0_pay3]

theorem pay1_apply (x : Vec Ideal S1024x1024 .f32) (a : Vec Ideal S1024x1024 .bf16) (acc : Vec Ideal S1024x1024 .f32) (k d : Fin 1024) :
    (k0_pay1 (k0_pay38 (k0_pay3 x) a) acc (ix2 k d) : EReal) = acc (ix2 k d) + ∑ s : Fin 1024, a (ix2 s k) * x (ix2 s d) := by
  pointwise [k0_pay1, k0_pay38, k0_pay3]

theorem pay2_apply (acc : Vec Ideal S1024x1024 .f32) (i : S1024x1024.Idx) : (k0_pay2 acc i : EReal) = acc i := by
  pointwise [k0_pay2]

/-- The blocks of the mixed rows and of the cotangent at a point. -/
abbrev bM (c : Dev nD) (t : Fin cfg0.N) : S1024x1024.Idx → EReal := iblk m c 1 t
abbrev bX (c : Dev nD) (t : Fin cfg0.N) : S1024x1024.Idx → EReal := iblk m c 0 t

/-- What a point adds to the weights' gradient. -/
def partAt (c : Dev nD) (t : Fin cfg0.N) (i : S1024x1024.Idx) : EReal :=
  ∑ s : Fin 1024, bM m c t (ix2 s (i 0)) * bX m c t (ix2 s (i 1))

theorem scr (c : Dev nD) (t : Fin cfg0.N) (ht : t.val + 1 = cfg0.N) (i : S1024x1024.Idx) :
    ((outsAt0 m c t.val t.isLt).2.2.2.2.2 i : EReal) = ∑ p : Fin cfg0.N, partAt m c p i := by
  rw [Pipeline.eq_sum_fin_of_reset_step_apply_last (fun n h => ((outsAt0 m c n h).2.2.2.2.2 : S1024x1024.Idx → EReal)) 8 (fun _ => 0) (partAt m c)
    (fun t h i => by
      have := N8 t
      obtain ⟨k, d, rfl⟩ : ∃ k d, i = ix2 k d := ⟨i 0, i 1, (ix2_eta i).symm⟩
      rw [outsAt0_A m c t h (by omega) (by omega)]; frame_out; rw [pay39_apply, zero_add]; rfl)
    (fun t h i => by
      have := N8 t
      obtain ⟨k, d, rfl⟩ : ∃ k d, i = ix2 k d := ⟨i 0, i 1, (ix2_eta i).symm⟩
      by_cases c2 : t.val % 8 = 7
      · rw [outsAt0_C m c t h (by omega) c2]; frame_out; rw [pay1_apply]; simp only [read_unread_whole]; rfl
      · rw [outsAt0_B m c t h (by omega) c2]; frame_out; rw [pay1_apply]; simp only [read_unread_whole]; rfl)
    (le_of_eq N_0) t ht i, zero_add]

theorem after_dw (c : Dev nD) (t : Fin cfg0.N) (ht : t.val + 1 = cfg0.N) (i : S1024x1024.Idx) :
    ((outsAt0 m c t.val t.isLt).2.2.2.2.1 i : EReal) = ∑ p : Fin cfg0.N, partAt m c p i := by
  have e : cfg0.N = 8 := N_0
  refine Eq.trans ?_ (scr m c t ht i)
  rw [outsAt0_C m c t (by omega) (by omega) (by omega)]
  frame_out
  rw [pay2_apply]

/-! ## What the windows' blocks are -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

/-- The row of the arrays that row `s` of point `t`'s block is. -/
def at_ (t : Fin cfg0.N) (s : Fin 1024) : Fin 8192 := ⟨t.val * 1024 + s.val, by have := N8 t; omega⟩

/-- A column's pattern, head and feature. -/
def pt (k : Fin 384) : Fin 3 := ⟨k.val / 128, by omega⟩
def hd (k : Fin 384) : Fin 2 := ⟨k.val % 128 / 64, by omega⟩
def ft (k : Fin 384) : Fin 64 := ⟨k.val % 64, by omega⟩

/-- The arrays the call is given. -/
abbrev aO (c : Dev nD) : S8192x3x2x64.Idx → EReal := m ((c : Thread nD τ).loc main_arg0)
abbrev aL (c : Dev nD) : S8192x3x2.Idx → EReal := m ((c : Thread nD τ).loc main_arg1)
abbrev aC (c : Dev nD) : S8192x256.Idx → EReal := m ((c : Thread nD τ).loc main_arg2)
abbrev aR (c : Dev nD) : S8192x384.Idx → EReal := m ((c : Thread nD τ).loc main_arg3)
abbrev aW (c : Dev nD) : S1024x1024.Idx → EReal := m ((c : Thread nD τ).loc main_arg4)
abbrev aX (c : Dev nD) : S8192x1024.Idx → EReal := m ((c : Thread nD τ).loc main_arg5)

theorem V_o (c : Dev nD) (t : Fin 8192) (k : Fin 384) :
    (V (F := Ideal) m c main_v21 (ix2 t k) : EReal) = aO m c (ix4 t (pt k) (hd k) (ft k)) := by
  dsimp only [V, hostOps0]; after_results
  pointwise
  all_goals exact congrArg _ (funext fun a => by fin_cases a <;> exact Fin.ext (by simp [pt, hd, ft]; try omega))

theorem V_lanes (c : Dev nD) (t : Fin 8192) (k : Fin 384) :
    (V (F := Ideal) m c main_v19 (ix2 t k) : EReal) = aL m c (ix3 t (pt k) (hd k)) := by
  dsimp only [V, hostOps0]; after_results
  pointwise
  all_goals exact congrArg _ (funext fun a => by fin_cases a <;> exact Fin.ext (by simp [pt, hd]; try omega))

theorem V_w (c : Dev nD) (k d : Fin 1024) :
    (V (F := Ideal) m c main_v20 (ix2 k d) : EReal) = aW m c (ix2 k d) := by
  dsimp only [V, hostOps0]; after_results
  pointwise

/-- The three parts of the mixed rows, as the reference has them. -/
abbrev MIX (o : S8192x3x2x64.Idx → EReal) (l : S8192x3x2.Idx → EReal) (yc : S8192x256.Idx → EReal) (yr : S8192x384.Idx → EReal) :
    S8192x1024.Idx → EReal := Cert.Reference6Ideal.Read.val_main_v32 (F := Ideal) o l yc yr

theorem V_mix (c : Dev nD) : (V (F := Ideal) m c main_v16 : S8192x1024.Idx → EReal) = MIX (aO m c) (aL m c) (aC m c) (aR m c) := by
  dsimp only [V, hostOps0]; after_results
  sl_kernel_rfl

theorem ib0 (c : Dev nD) (t : Fin cfg0.N) (s k : Fin 1024) : (iblk m c 0 t (ix2 s k) : EReal) = aX m c (ix2 (at_ t s) k) := by
  unfold iblk
  blk_simp
  rw [V_main_arg5]
  blk_ext [e0, at_]

theorem ib1 (c : Dev nD) (t : Fin cfg0.N) (s k : Fin 1024) :
    (iblk m c 1 t (ix2 s k) : EReal) = MIX (aO m c) (aL m c) (aC m c) (aR m c) (ix2 (at_ t s) k) := by
  rw [← V_mix]
  unfold iblk
  blk_simp
  blk_ext [e1, at_]

theorem ib2 (c : Dev nD) (t : Fin cfg0.N) (k d : Fin 1024) : (iblk m c 2 t (ix2 k d) : EReal) = aW m c (ix2 k d) := by
  refine Eq.trans ?_ (V_w m c k d)
  unfold iblk
  blk_simp
  blk_ext [e2]

theorem ib3 (c : Dev nD) (t : Fin cfg0.N) (s : Fin 1024) (k : Fin 384) :
    (iblk m c 3 t (ix2 s k) : EReal) = aO m c (ix4 (at_ t s) (pt k) (hd k) (ft k)) := by
  refine Eq.trans ?_ (V_o m c (at_ t s) k)
  unfold iblk
  blk_simp
  blk_ext [e3, at_]

theorem ib4 (c : Dev nD) (t : Fin cfg0.N) (s : Fin 1024) (k : Fin 384) :
    (iblk m c 4 t (ix2 s k) : EReal) = aL m c (ix3 (at_ t s) (pt k) (hd k)) := by
  refine Eq.trans ?_ (V_lanes m c (at_ t s) k)
  unfold iblk
  blk_simp
  blk_ext [e4, at_]

/-! ## The arrays the call leaves -/

section
variable (o : S8192x3x2x64.Idx → EReal) (l : S8192x3x2.Idx → EReal) (w : S1024x1024.Idx → EReal) (x : S8192x1024.Idx → EReal)

/-- The cotangent of the mixed rows. -/
def dm (t : Fin 8192) (d : Fin 1024) : EReal := ∑ k : Fin 1024, x (ix2 t k) * w (ix2 d k)
/-- The row log-sums of a row's head over the patterns. -/
def sums (t : Fin 8192) (h : Fin 2) : Fin 3 → EReal := fun q => l (ix3 t q h)
/-- The column of a pattern's head's feature. -/
def flat (q : Fin 3) (h : Fin 2) (d : Fin 64) : Fin 1024 := ⟨q.val * 128 + (h.val * 64 + d.val), by omega⟩
/-- A row's head's products with their cotangents, summed. -/
def pulls (t : Fin 8192) (h : Fin 2) : Fin 3 → EReal := fun q => ∑ d : Fin 64, dm w x t (flat q h d) * o (ix4 t q h d)

/-- The cotangents of the patterns' outputs. -/
def DO : S8192x384.Idx → EReal := fun i => dm w x (i 0) (wide (i 1)) * al (sums l (i 0) (hd (i 1))) (pt (i 1))
/-- The cotangents of the row log-sums less the rows' products. -/
def DD : S8192x384.Idx → EReal := fun i =>
  (0 - al (sums l (i 0) (hd (i 1))) (pt (i 1))) * tot (sums l (i 0) (hd (i 1))) (pulls o w x (i 0) (hd (i 1)))
/-- The convolution's cotangents. -/
def DC : S8192x256.Idx → EReal := fun i => dm w x (i 0) ⟨384 + (i 1).val, by have : (i 1).val < 256 := (i 1).isLt; omega⟩
/-- The recurrence's cotangents. -/
def DL : S8192x384.Idx → EReal := fun i => dm w x (i 0) ⟨640 + (i 1).val, by have : (i 1).val < 384 := (i 1).isLt; omega⟩
/-- The weights' gradient. -/
def DW (mix : S8192x1024.Idx → EReal) : S1024x1024.Idx → EReal := fun i => ∑ t : Fin 8192, mix (ix2 t (i 0)) * x (ix2 t (i 1))
end

theorem dm_at (c : Dev nD) (t : Fin cfg0.N) (s d : Fin 1024) :
    (k0_pay4 (iblk m c 0 t) (iblk m c 2 t) (ix2 s d) : EReal) = dm (aW m c) (aX m c) (at_ t s) d := by
  refine (pay4_apply (iblk m c 0 t) (iblk m c 2 t) s d).trans (Finset.sum_congr rfl fun k _ => ?_)
  rw [ib0, ib2]

theorem sums_at (c : Dev nD) (t : Fin cfg0.N) (s : Fin 1024) (k : Fin 384) :
    lanes (iblk m c 4 t) s ⟨k.val % 128, by omega⟩ = sums (aL m c) (at_ t s) (hd k) := by
  funext q
  refine (ib4 m c t s _).trans (congrArg (aL m c) ?_)
  have hq : pt (col q ⟨k.val % 128, by omega⟩) = q := Fin.ext (by simp only [pt, col]; omega)
  have hh : hd (col q ⟨k.val % 128, by omega⟩) = hd k := Fin.ext (by simp only [hd, col]; omega)
  rw [hq, hh]

theorem pulls_at (c : Dev nD) (t : Fin cfg0.N) (s : Fin 1024) (k : Fin 384) :
    (fun q => half (fun l => (k0_pay4 (iblk m c 0 t) (iblk m c 2 t) (ix2 s (wide (col q l))) : EReal) * (iblk m c 3 t (ix2 s (col q l)) : EReal))
      ⟨k.val % 128, by omega⟩) = pulls (aO m c) (aW m c) (aX m c) (at_ t s) (hd k) := by
  funext q
  refine Finset.sum_congr rfl fun d _ => ?_
  beta_reduce
  rw [dm_at, ib3]
  have hf : wide (col q ⟨k.val % 128 / 64 * 64 + d.val, by omega⟩) = flat q (hd k) d := Fin.ext (by simp only [wide, col, flat, hd])
  have hq : pt (col q ⟨k.val % 128 / 64 * 64 + d.val, by omega⟩) = q := Fin.ext (by simp only [pt, col]; omega)
  have hh : hd (col q ⟨k.val % 128 / 64 * 64 + d.val, by omega⟩) = hd k := Fin.ext (by simp only [hd, col]; omega)
  have hd' : ft (col q ⟨k.val % 128 / 64 * 64 + d.val, by omega⟩) = d := Fin.ext (by simp only [ft, col]; omega)
  rw [hf, hq, hh, hd']

theorem do_at (c : Dev nD) (t : Fin cfg0.N) (s : Fin 1024) (k : Fin 384) :
    BDO (iblk m c 0 t) (iblk m c 2 t) (iblk m c 4 t) s k = DO (aL m c) (aW m c) (aX m c) (ix2 (at_ t s) k) := by
  unfold BDO
  rw [dm_at, sums_at]
  rfl

theorem dd_at (c : Dev nD) (t : Fin cfg0.N) (s : Fin 1024) (k : Fin 384) :
    BDD (iblk m c 0 t) (iblk m c 2 t) (iblk m c 4 t) (iblk m c 3 t) s k = DD (aO m c) (aL m c) (aW m c) (aX m c) (ix2 (at_ t s) k) := by
  unfold BDD
  rw [sums_at, pulls_at]
  rfl

theorem final5 (c : Dev nD) : (dats m 0 c).arrAt 5 cfg0.N = DO (aL m c) (aW m c) (aX m c) := by
  refine (dats m 0 c).arrAt_eq_of_covers 5 _ (by decide +kernel) fun t hf y => ?_
  blk_simp
  rw [after0_5]
  obtain ⟨s, d, rfl⟩ : ∃ s d, y = ix2 s d := ⟨y 0, y 1, (ix2_eta y).symm⟩
  refine Eq.trans ((after_do m c t s d).trans (do_at m c t s d)) (congrArg _ ?_)
  blk_ext [e5, at_]

theorem final6 (c : Dev nD) : (dats m 0 c).arrAt 6 cfg0.N = DD (aO m c) (aL m c) (aW m c) (aX m c) := by
  refine (dats m 0 c).arrAt_eq_of_covers 6 _ (by decide +kernel) fun t hf y => ?_
  blk_simp
  rw [after0_6]
  obtain ⟨s, d, rfl⟩ : ∃ s d, y = ix2 s d := ⟨y 0, y 1, (ix2_eta y).symm⟩
  refine Eq.trans ((after_dd m c t s d).trans (dd_at m c t s d)) (congrArg _ ?_)
  blk_ext [e6, at_]

theorem final7 (c : Dev nD) : (dats m 0 c).arrAt 7 cfg0.N = DC (aW m c) (aX m c) := by
  refine (dats m 0 c).arrAt_eq_of_covers 7 _ (by decide +kernel) fun t hf y => ?_
  blk_simp
  rw [after0_7]
  obtain ⟨s, d, rfl⟩ : ∃ s d, y = ix2 s d := ⟨y 0, y 1, (ix2_eta y).symm⟩
  refine Eq.trans ((after_dc m c t s d).trans (dm_at m c t s _)) (show DC (aW m c) (aX m c) (ix2 (at_ t s) d) = _ from congrArg _ ?_)
  blk_ext [e7, at_]

theorem final8 (c : Dev nD) : (dats m 0 c).arrAt 8 cfg0.N = DL (aW m c) (aX m c) := by
  refine (dats m 0 c).arrAt_eq_of_covers 8 _ (by decide +kernel) fun t hf y => ?_
  blk_simp
  rw [after0_8]
  obtain ⟨s, d, rfl⟩ : ∃ s d, y = ix2 s d := ⟨y 0, y 1, (ix2_eta y).symm⟩
  refine Eq.trans ((after_dl m c t s d).trans (dm_at m c t s _)) (show DL (aW m c) (aX m c) (ix2 (at_ t s) d) = _ from congrArg _ ?_)
  blk_ext [e8, at_]

theorem final9 (c : Dev nD) : (dats m 0 c).arrAt 9 cfg0.N = DW (aX m c) (MIX (aO m c) (aL m c) (aC m c) (aR m c)) := by
  refine (dats m 0 c).arrAt_eq_of_after_last 9 t0_7 (by decide +kernel) _ fun i => ?_
  blk_simp
  rw [after0_9]
  refine Eq.trans (after_dw m c t0_7 (N_0.symm : (8 : ℕ) = grid0.N) _) ?_
  obtain ⟨k, d, rfl⟩ : ∃ k d, i = ix2 k d := ⟨i 0, i 1, (ix2_eta i).symm⟩
  exact Fin.sum_mul_add_congr (S := cfg0.N) (n := 1024) (L := 8192) (F := fun p s => bM m c p (ix2 s k) * bX m c p (ix2 s d))
    (f := fun t => MIX (aO m c) (aL m c) (aC m c) (aR m c) (ix2 t k) * aX m c (ix2 t d))
    (fun p s h => by dsimp only [bM, bX]; rw [ib0, ib1]; rfl) (congrArg (· * 1024) (N_0.symm : (8 : ℕ) = grid0.N))

/-! ## The weights over the reals -/

section
variable (L : Fin 3 → ℝ) (M : ℝ)

/-- The largest of three numbers. -/
def rtop : ℝ := max (max (L 0) (L 1)) (L 2)
/-- The weights' sum before the division. -/
def rsum : ℝ := Real.exp (L 0 - M) + Real.exp (L 1 - M) + Real.exp (L 2 - M)
/-- A weight. -/
def ral (p : Fin 3) : ℝ := Real.exp (L p - M) / rsum L M

theorem rsum_pos : 0 < rsum L M := by unfold rsum; positivity

/-- Shifting all three log-sums leaves a weight as it is. -/
theorem ral_shift (M' : ℝ) (p : Fin 3) : ral L M p = ral L M' p := by
  have e : ∀ q, Real.exp (L q - M) = Real.exp (L q - M') * Real.exp (M' - M) := fun q => by
    rw [← Real.exp_add]; congr 1; ring
  have hs : rsum L M = rsum L M' * Real.exp (M' - M) := by
    unfold rsum
    rw [e, e, e]
    ring
  unfold ral
  rw [hs, e, mul_div_mul_right _ _ (Real.exp_pos _).ne']

theorem top_real : top (fun q => (L q : EReal)) = (rtop L : EReal) := by
  unfold top rtop
  rw [EReal.coe_strictMono.monotone.map_max, EReal.coe_strictMono.monotone.map_max]

theorem exp_real (p : Fin 3) : Ideal.exp ((L p : EReal) - (M : EReal)) = (Real.exp (L p - M) : EReal) := by
  rw [← EReal.coe_sub, Ideal.exp_coe]

theorem sum_real : (∑ q : Fin 3, Ideal.exp ((L q : EReal) - (M : EReal))) = (rsum L M : EReal) := by
  rw [Fin.sum_univ_three, exp_real, exp_real, exp_real, ← EReal.coe_add, ← EReal.coe_add]
  rfl

theorem al_real (p : Fin 3) : al (fun q => (L q : EReal)) p = (ral L M p : EReal) := by
  have h : ∀ q, wgt (fun q => (L q : EReal)) q = (Real.exp (L q - rtop L) : EReal) := fun q => by
    unfold wgt
    rw [top_real, exp_real]
  unfold al
  rw [h, h, h, h, ← EReal.coe_add, ← EReal.coe_add, show (1 : EReal) = ((1 : ℝ) : EReal) from rfl]
  rw [show Real.exp (L 0 - rtop L) + Real.exp (L 1 - rtop L) + Real.exp (L 2 - rtop L) = rsum L (rtop L) from rfl,
    div_real _ _ (rsum_pos L (rtop L)).ne', ← EReal.coe_mul, ral_shift L M (rtop L)]
  unfold ral
  rw [mul_one_div]

theorem alpha_eq (p : Fin 3) :
    Ideal.div (Ideal.exp ((L p : EReal) - (M : EReal))) (∑ q : Fin 3, Ideal.exp ((L q : EReal) - (M : EReal))) = al (fun q => (L q : EReal)) p := by
  rw [sum_real, exp_real, div_real _ _ (rsum_pos L M).ne', al_real L M]
  rfl

/-- The softmax's gradient less a row's product is the weighted difference the kernel has. -/
theorem dlse_eq (D O : Fin 3 → Fin 64 → ℝ) (p : Fin 3) :
    (Ideal.div (∑ d, (O p d : EReal) * (D p d : EReal)) (∑ q : Fin 3, Ideal.exp ((L q : EReal) - (M : EReal)))
        + -(∑ r : Fin 3, (∑ d, (O r d : EReal) * (D r d : EReal))
          * Ideal.div 1 ((∑ q : Fin 3, Ideal.exp ((L q : EReal) - (M : EReal))) * ∑ q : Fin 3, Ideal.exp ((L q : EReal) - (M : EReal)))
          * Ideal.exp ((L r : EReal) - (M : EReal))))
      * Ideal.exp ((L p : EReal) - (M : EReal))
      - ∑ d, ((D p d : EReal) * al (fun q => (L q : EReal)) p) * (O p d : EReal)
      = (0 - al (fun q => (L q : EReal)) p) * tot (fun q => (L q : EReal)) fun q => ∑ d, (D q d : EReal) * (O q d : EReal) := by
  have hs : ∀ q, (∑ d, (O q d : EReal) * (D q d : EReal)) = ((∑ d, D q d * O q d : ℝ) : EReal) := fun q => by
    rw [← coe_sum]
    exact Finset.sum_congr rfl fun d _ => by rw [← EReal.coe_mul, mul_comm]
  have ht : ∀ q, (∑ d, (D q d : EReal) * (O q d : EReal)) = ((∑ d, D q d * O q d : ℝ) : EReal) := fun q => by
    rw [← coe_sum]
    exact Finset.sum_congr rfl fun d _ => by rw [← EReal.coe_mul]
  have hu : (∑ d, ((D p d : EReal) * (ral L M p : EReal)) * (O p d : EReal)) = ((ral L M p * ∑ d, D p d * O p d : ℝ) : EReal) := by
    rw [Finset.mul_sum, ← coe_sum]
    exact Finset.sum_congr rfl fun d _ => by rw [← EReal.coe_mul, ← EReal.coe_mul]; congr 1; ring
  have hz := (rsum_pos L M).ne'
  simp only [tot, al_real L M, hu, hs, ht, sum_real, exp_real]
  have hq : (∑ x, ((Real.exp (L x - M) : ℝ) : EReal)) = (rsum L M : ℝ) := by
    rw [Fin.sum_univ_three]
    unfold rsum
    push_cast
    rfl
  rw [hq, Fin.sum_univ_three, show (1 : EReal) = ((1 : ℝ) : EReal) from rfl, div_real _ _ hz, ← EReal.coe_mul (rsum L M),
    div_real _ _ (mul_ne_zero hz hz)]
  simp only [zero_sub, ← EReal.coe_mul, ← EReal.coe_add, ← EReal.coe_neg, ← EReal.coe_sub]
  congr 1
  unfold ral
  field_simp
  ring
end

/-! ## The reference -/

open Cert.Reference6Ideal.Read

section
variable (o : S8192x3x2x64.Idx → EReal) (l : S8192x3x2.Idx → EReal) (yc : S8192x256.Idx → EReal) (yr : S8192x384.Idx → EReal)
  (w : S1024x1024.Idx → EReal) (x : S8192x1024.Idx → EReal)

theorem zero_word : FloatOps.ofBits (F := Ideal) .f32 0x00000000#32 = (0 : EReal) := Ideal.ofBits_zero_f32
theorem one_word : FloatOps.ofBits (F := Ideal) .f32 0x3F800000#32 = (1 : EReal) := Ideal.ofBits_one_f32
theorem bot_word : FloatOps.ofBits (F := Ideal) .f32 0xFF800000#32 = (⊥ : EReal) := by
  show Ideal.ofBits .f32 0xFF800000#32 = _
  simp [Ideal.ofBits, Ideal.ieee, -EReal.coe_mul]

theorem r_dw (k d : Fin 1024) : (val_main_v66 (F := Ideal) o l yc yr x (ix2 k d) : EReal) = DW x (MIX o l yc yr) (ix2 k d) := by
  rw [val_main_v66_apply]
  show (val_main_v35 (F := Ideal) o l yc yr x (ix2 k d) : EReal) = _
  rw [val_main_v35_apply, val_main_v34_apply]
  refine Finset.sum_congr rfl fun t _ => ?_
  have hl : lidx_main_v34 (idx_main_v35 (ix2 k d)) t = ix2 t d := by funext a; fin_cases a <;> rfl
  have hr : ridx_main_v34 (idx_main_v35 (ix2 k d)) t = ix2 t k := by funext a; fin_cases a <;> rfl
  rw [hl, hr]
  exact mul_comm (G := EReal) _ _

theorem r_dm (t : Fin 8192) (d : Fin 1024) : (val_main_v36 (F := Ideal) w x (ix2 t d) : EReal) = dm w x t d := by
  rw [val_main_v36_apply]
  have hl : ∀ k, lidx_main_v36 (ix2 t d) k = ix2 t k := fun k => by funext a; fin_cases a <;> rfl
  have hr : ∀ k, ridx_main_v36 (ix2 t d) k = ix2 d k := fun k => by funext a; fin_cases a <;> rfl
  simp only [hl, hr]
  rfl

theorem r_dc (t : Fin 8192) (d : Fin 256) : (val_main_v38 (F := Ideal) w x (ix2 t d) : EReal) = DC w x (ix2 t d) := by
  rw [val_main_v38_apply, show idx_main_v38 (ix2 t d) = ix2 t ⟨384 + d.val, by omega⟩ from by
    funext a; fin_cases a <;> exact Fin.ext (by simp [ix2]; try omega), r_dm]
  rfl

theorem r_dl (t : Fin 8192) (d : Fin 384) : (val_main_v39 (F := Ideal) w x (ix2 t d) : EReal) = DL w x (ix2 t d) := by
  rw [val_main_v39_apply, show idx_main_v39 (ix2 t d) = ix2 t ⟨640 + d.val, by omega⟩ from by
    funext a; fin_cases a <;> exact Fin.ext (by simp [ix2]; try omega), r_dm]
  rfl

theorem r_dy (t : Fin 8192) (q : Fin 3) (h : Fin 2) (d : Fin 64) :
    (val_main_v40 (F := Ideal) w x (ix4 t q h d) : EReal) = dm w x t (flat q h d) := by
  rw [val_main_v40_apply, val_main_v37_apply, ← r_dm]
  refine congrArg (val_main_v36 (F := Ideal) w x) (funext fun a => ?_)
  fin_cases a
  · exact Fin.ext (show (((t.val * 3 + q.val) * 2 + h.val) * 64 + d.val) / 384 = t.val by omega)
  · exact Fin.ext (show (((t.val * 3 + q.val) * 2 + h.val) * 64 + d.val) % 384 = q.val * 128 + (h.val * 64 + d.val) by omega)

/-- The largest row log-sum, as the reference has it. -/
abbrev mx (t : Fin 8192) (h : Fin 2) : EReal := val_main_v7 (F := Ideal) l (ix2 t h)

theorem r_exp (t : Fin 8192) (q : Fin 3) (h : Fin 2) :
    (val_main_v20 (F := Ideal) l (ix3 t q h) : EReal) = Ideal.exp (l (ix3 t q h) - mx l t h) := by
  rw [val_main_v20_apply, val_main_v19_apply, val_main_v18_apply, val_main_v17_apply]
  rw [show idx_main_v17 (idx_main_v18 (ix3 t q h)) = ix2 t h from by funext a; fin_cases a <;> rfl]
  rfl

theorem r_sum (t : Fin 8192) (h : Fin 2) :
    (val_main_v21 (F := Ideal) l (ix2 t h) : EReal) = ∑ q : Fin 3, Ideal.exp (l (ix3 t q h) - mx l t h) := by
  rw [val_main_v21_apply, val_main_cst_7_apply, zero_word, zero_add]
  refine Finset.sum_congr rfl fun q _ => ?_
  rw [show idx_main_v21 (ix2 t h) q = ix3 t q h from by funext a; fin_cases a <;> rfl, r_exp]

theorem r_sum1 (t : Fin 8192) (z : Fin 1) (h : Fin 2) :
    (val_main_v22 (F := Ideal) l (ix3 t z h) : EReal) = ∑ q : Fin 3, Ideal.exp (l (ix3 t q h) - mx l t h) := by
  rw [val_main_v22_apply, show idx_main_v22 (ix3 t z h) = ix2 t h from by funext a; fin_cases a <;> rfl, r_sum]

theorem r_alpha (t : Fin 8192) (q : Fin 3) (h : Fin 2) :
    (val_main_v24 (F := Ideal) l (ix3 t q h) : EReal)
      = Ideal.div (Ideal.exp (l (ix3 t q h) - mx l t h)) (∑ r : Fin 3, Ideal.exp (l (ix3 t r h) - mx l t h)) := by
  rw [val_main_v24_apply, r_exp, val_main_v23_apply, show idx_main_v23 (ix3 t q h) = ix3 t 0 h from by funext a; fin_cases a <;> rfl, r_sum1]
  rfl

theorem r_inv (t : Fin 8192) (z : Fin 1) (h : Fin 2) :
    (val_main_v27 (F := Ideal) l (ix3 t z h) : EReal)
      = Ideal.div 1 ((∑ r : Fin 3, Ideal.exp (l (ix3 t r h) - mx l t h)) * ∑ r : Fin 3, Ideal.exp (l (ix3 t r h) - mx l t h)) := by
  rw [val_main_v27_apply, val_main_v26_apply, val_main_cst_8_apply, one_word, val_main_v25_apply, r_sum1]
  rfl

theorem r_do (t : Fin 8192) (q : Fin 3) (h : Fin 2) (d : Fin 64) :
    (val_main_v45 (F := Ideal) l w x (ix4 t q h d) : EReal) = dm w x t (flat q h d) * val_main_v24 (F := Ideal) l (ix3 t q h) := by
  rw [val_main_v45_apply, r_dy, val_main_v44_apply, val_main_v28_apply]
  rw [show idx_main_v28 (idx_main_v44 (ix4 t q h d)) = ix3 t q h from by funext a; fin_cases a <;> rfl]
  rfl

theorem e43 (t : Fin 8192) (q : Fin 3) (h : Fin 2) : idx_main_v43 (idx_main_v46 (ix3 t q h) 0) = ix3 t q h := by
  funext a
  fin_cases a
  · exact Fin.ext (show (((t.val * 3 + q.val) * 2 + h.val) * 1 + 0) / 6 = t.val by omega)
  · exact Fin.ext (show (((t.val * 3 + q.val) * 2 + h.val) * 1 + 0) / 2 % 3 = q.val by omega)
  · exact Fin.ext (show (((t.val * 3 + q.val) * 2 + h.val) * 1 + 0) % 2 = h.val by omega)

theorem e51 (t : Fin 8192) (p : Fin 3) (h : Fin 2) : idx_main_v51 (idx_main_v55 (idx_main_v56 (ix3 t p h)) 0) = ix2 t h := by
  funext a
  fin_cases a
  · exact Fin.ext (show ((t.val * 1 + 0) * 2 + h.val) / 2 = t.val by omega)
  · exact Fin.ext (show ((t.val * 1 + 0) * 2 + h.val) % 2 = h.val by omega)

theorem r_dal (t : Fin 8192) (q : Fin 3) (h : Fin 2) :
    (val_main_v46 (F := Ideal) o w x (ix3 t q h) : EReal) = ∑ d : Fin 64, o (ix4 t q h d) * dm w x t (flat q h d) := by
  rw [val_main_v46_apply, val_main_cst_10_apply, zero_word, zero_add, Fin.sum_univ_one, val_main_v43_apply,
    e43,
    val_main_v42_apply, val_main_cst_9_apply, zero_word, zero_add]
  refine Finset.sum_congr rfl fun d _ => ?_
  rw [show idx_main_v42 (ix3 t q h) d = ix4 t q h d from by funext a; fin_cases a <;> rfl, val_main_v41_apply, r_dy]
  rfl

theorem r_dd (t : Fin 8192) (p : Fin 3) (h : Fin 2) :
    (val_main_v61 (F := Ideal) o l w x (ix3 t p h) : EReal)
      = (Ideal.div (∑ d : Fin 64, o (ix4 t p h d) * dm w x t (flat p h d)) (∑ q : Fin 3, Ideal.exp (l (ix3 t q h) - mx l t h))
        + -(∑ r : Fin 3, (∑ d : Fin 64, o (ix4 t r h d) * dm w x t (flat r h d))
          * Ideal.div 1 ((∑ q : Fin 3, Ideal.exp (l (ix3 t q h) - mx l t h)) * ∑ q : Fin 3, Ideal.exp (l (ix3 t q h) - mx l t h))
          * Ideal.exp (l (ix3 t r h) - mx l t h)))
      * Ideal.exp (l (ix3 t p h) - mx l t h)
      - ∑ d : Fin 64, dm w x t (flat p h d) * val_main_v24 (F := Ideal) l (ix3 t p h) * o (ix4 t p h d) := by
  have h60 : (val_main_v60 (F := Ideal) o l w x (ix3 t p h) : EReal)
      = ∑ d : Fin 64, dm w x t (flat p h d) * val_main_v24 (F := Ideal) l (ix3 t p h) * o (ix4 t p h d) := by
    rw [val_main_v60_apply, val_main_cst_13_apply, zero_word, zero_add]
    refine Finset.sum_congr rfl fun d _ => ?_
    rw [show idx_main_v60 (ix3 t p h) d = ix4 t p h d from by funext a; fin_cases a <;> rfl, val_main_v59_apply, r_do]
    rfl
  have h49 : ∀ r : Fin 3, (val_main_v49 (F := Ideal) o l w x (ix3 t r h) : EReal)
      = (∑ d : Fin 64, o (ix4 t r h d) * dm w x t (flat r h d))
          * Ideal.div 1 ((∑ q : Fin 3, Ideal.exp (l (ix3 t q h) - mx l t h)) * ∑ q : Fin 3, Ideal.exp (l (ix3 t q h) - mx l t h))
          * Ideal.exp (l (ix3 t r h) - mx l t h) := fun r => by
    rw [val_main_v49_apply, val_main_v48_apply, r_dal, r_exp, val_main_v47_apply,
      show idx_main_v47 (ix3 t r h) = ix3 t 0 h from by funext a; fin_cases a <;> rfl, r_inv]
    rfl
  have h50 : (val_main_v50 (F := Ideal) o l w x (ix2 t h) : EReal) = ∑ r : Fin 3, val_main_v49 (F := Ideal) o l w x (ix3 t r h) := by
    rw [val_main_v50_apply, val_main_cst_11_apply, zero_word, zero_add]
    exact Finset.sum_congr rfl fun r _ => congrArg (val_main_v49 (F := Ideal) o l w x) (by funext a; fin_cases a <;> rfl)
  have h56 : (val_main_v56 (F := Ideal) o l w x (ix3 t p h) : EReal) = -(val_main_v50 (F := Ideal) o l w x (ix2 t h) : EReal) := by
    rw [val_main_v56_apply, val_main_v55_apply, val_main_cst_12_apply, zero_word, zero_add, Fin.sum_univ_one, val_main_v52_apply, val_main_v51_apply, e51]
    rfl
  have h54 : (val_main_v54 (F := Ideal) o l w x (ix3 t p h) : EReal)
      = Ideal.div (∑ d : Fin 64, o (ix4 t p h d) * dm w x t (flat p h d)) (∑ q : Fin 3, Ideal.exp (l (ix3 t q h) - mx l t h)) := by
    rw [val_main_v54_apply, r_dal, val_main_v53_apply, show idx_main_v53 (ix3 t p h) = ix3 t 0 h from by funext a; fin_cases a <;> rfl, r_sum1]
    rfl
  rw [val_main_v61_apply, h60, val_main_v58_apply, val_main_v57_apply, h54, h56, h50, r_exp]
  simp only [h49]
  rfl

/-- A maximum of three finite numbers from below is one. -/
theorem fold_real (f : Fin 3 → EReal) (hf : ∀ k, f k = ((f k).toReal : EReal)) :
    ∃ M : ℝ, (Finset.univ.fold max (⊥ : EReal) f : EReal) = (M : EReal) := by
  refine ⟨rtop fun k => (f k).toReal, ?_⟩
  rw [← top_real]
  have e : (Finset.univ.fold max (⊥ : EReal) f : EReal) = max (f 0) (max (f 1) (max (f 2) ⊥)) := rfl
  rw [e, max_eq_left (bot_le : (⊥ : EReal) ≤ f 2), ← max_assoc]
  unfold top
  simp only [← hf]

theorem mx_real (hl : ∀ i, l i = ((l i).toReal : EReal)) (t : Fin 8192) (h : Fin 2) : ∃ M : ℝ, mx l t h = (M : EReal) := by
  obtain ⟨M, hM⟩ := fold_real (fun k => l (ix3 t k h)) fun k => hl _
  refine ⟨M, ?_⟩
  have h0 : (val_main_v0 (F := Ideal) l (ix2 t h) : EReal) = Finset.univ.fold max (⊥ : EReal) fun k : Fin 3 => l (ix3 t k h) := by
    unfold val_main_v0
    clean_types
    pointwise
    rw [val_main_cst_apply, bot_word]
  unfold mx
  rw [val_main_v7_apply, h0, hM]
  have h6 : (val_main_v6 (F := Ideal) (ix2 t h) : EReal) = ⊥ := by
    rw [val_main_v6_apply, val_main_cst_1_apply, bot_word]
  rw [h6]
  exact max_eq_right bot_le

variable (ho : ∀ i, o i = ((o i).toReal : EReal)) (hl : ∀ i, l i = ((l i).toReal : EReal)) (hw : ∀ i, w i = ((w i).toReal : EReal))
  (hx : ∀ i, x i = ((x i).toReal : EReal))

include hw hx in
theorem dm_real (t : Fin 8192) (d : Fin 1024) : dm w x t d = ((dm w x t d).toReal : EReal) :=
  sum_toReal _ _ fun k => mul_toReal _ _ (hx _) (hw _)

include hl in
theorem alpha (t : Fin 8192) (q : Fin 3) (h : Fin 2) : (val_main_v24 (F := Ideal) l (ix3 t q h) : EReal) = al (sums l t h) q := by
  obtain ⟨M, hM⟩ := mx_real l hl t h
  have e : sums l t h = fun q => ((l (ix3 t q h)).toReal : EReal) := funext fun q => hl _
  rw [r_alpha, hM, e, ← alpha_eq _ M]
  simp only [← hl]

/-- The column's place. -/
theorem e64 (t : Fin 8192) (k : Fin 384) : idx_main_v64 (ix2 t k) = ix4 t (pt k) (hd k) (ft k) := by
  funext a
  fin_cases a
  · exact Fin.ext (show (t.val * 384 + k.val) / 384 = t.val by omega)
  · exact Fin.ext (show (t.val * 384 + k.val) / 128 % 3 = k.val / 128 by omega)
  · exact Fin.ext (show (t.val * 384 + k.val) / 64 % 2 = k.val % 128 / 64 by omega)
  · exact Fin.ext (show (t.val * 384 + k.val) % 64 = k.val % 64 by omega)

include hl in
theorem do_eq (t : Fin 8192) (k : Fin 384) : (val_main_v65 (F := Ideal) l w x (ix2 t k) : EReal) = DO l w x (ix2 t k) := by
  rw [val_main_v65_apply, show idx_main_v65 (ix2 t k) = ix4 t (pt k) (hd k) (ft k) from e64 t k, r_do, alpha l hl]
  exact congrArg (fun d => dm w x t d * al (sums l t (hd k)) (pt k)) (Fin.ext (show k.val / 128 * 128 + (k.val % 128 / 64 * 64 + k.val % 64) = k.val by omega))

include ho hl hw hx in
theorem dd_eq (t : Fin 8192) (k : Fin 384) : (val_main_v64 (F := Ideal) o l w x (ix2 t k) : EReal) = DD o l w x (ix2 t k) := by
  rw [val_main_v64_apply, e64, val_main_v63_apply, val_main_v62_apply,
    show idx_main_v62 (idx_main_v63 (ix4 t (pt k) (hd k) (ft k))) = ix3 t (pt k) (hd k) from by funext a; fin_cases a <;> rfl, r_dd, alpha l hl]
  obtain ⟨M, hM⟩ := mx_real l hl t (hd k)
  have e := dlse_eq (fun q => (l (ix3 t q (hd k))).toReal) M (fun q d => (dm w x t (flat q (hd k) d)).toReal)
    (fun q d => (o (ix4 t q (hd k) d)).toReal) (pt k)
  simp only [← hl, ← ho, ← dm_real w x hw hx] at e
  rw [hM]
  exact e
end

/-- The arguments a claim takes finite are numbers at every index. -/
theorem finite_at (h : Cert.Pre_Kernel6Ideal_finite6 m) (c : Dev nD) :
    (∀ i, aO m c i = ((aO m c i).toReal : EReal)) ∧ (∀ i, aL m c i = ((aL m c i).toReal : EReal))
    ∧ (∀ i, aW m c i = ((aW m c i).toReal : EReal)) ∧ (∀ i, aX m c i = ((aX m c i).toReal : EReal)) := by
  obtain ⟨a, b, d, e⟩ := h c
  exact ⟨fun i => of_finite _ (congrFun a i), fun i => of_finite _ (congrFun b i), fun i => of_finite _ (congrFun d i),
    fun i => of_finite _ (congrFun e i)⟩

/-- The two programs return the same five arrays. -/
theorem algebraic : Cert.algebraic_Kernel6Ideal_Reference6Ideal_pre_finite6 := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, Value.run_blocks m g, ?_⟩
  refine (θ_run Cert.Reference6Ideal.defs _ _).mono (fun r h c => ?_) (Cert.Reference6Ideal.Value.run (F := Ideal) m' g')
  obtain ⟨ha, hb, hd, he, hf, hq⟩ := h c
  obtain ⟨a0, a1, a2, a3, a4, a5⟩ := hagree c
  obtain ⟨ho, hl, hw, hx⟩ := finite_at m hpre c
  refine ⟨ha.trans ?_, hb.trans ?_, hd.trans ?_, he.trans ?_, hf.trans ?_, hq⟩
  · dsimp only
    rw [final5, val_main_v65_eq, a1, a4, a5]
    exact funext fun i => by rw [← ix2_eta i]; exact do_eq _ _ _ hl _ _
  · dsimp only
    rw [final6, val_main_v64_eq, a0, a1, a4, a5]
    exact funext fun i => by rw [← ix2_eta i]; exact dd_eq _ _ _ _ ho hl hw hx _ _
  · dsimp only
    rw [final7, val_main_v38_eq, a4, a5]
    exact funext fun i => by rw [← ix2_eta i]; exact r_dc _ _ _ _
  · dsimp only
    rw [final8, val_main_v39_eq, a4, a5]
    exact funext fun i => by rw [← ix2_eta i]; exact r_dl _ _ _ _
  · dsimp only
    rw [final9, val_main_v66_eq, a0, a1, a2, a3, a5]
    exact funext fun i => by rw [← ix2_eta i]; exact r_dw _ _ _ _ _ _ _

end Cert.Outp
-- ==== Proof.FwdBody.lean ====
/- The attention's forward body, trip by trip: what one unit of 128 queries leaves in the two arrays. -/
module

public import proofs.«01_k».proof.Proof.Gen.Kernel7Ideal.Frame
public import proofs.«01_k».proof.Proof.Gen.Kernel7Ideal.Skeleton
public import proofs.«01_k».proof.Proof.AttnTiles
public import proofs.«01_k».proof.Defs
public import Idealize.ShloMosaic.Lib.Exec
public import Idealize.ShloMosaic.Lib.Pipeline.ValueKit

@[expose] public section

set_option maxRecDepth 16384

noncomputable section

namespace Cert.Fwd

open Cert.Kernel7Ideal Cert.Kernel7Ideal.Gen
open Cert.Attn (put read_writes_put Cut cut1 cut2 cut3 Tiling tiling1 tiling2 tiling3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

instance (t) : ClosedOff (k0_off1 t) := ⟨![0, 128 * t.val, 0], Attn.off1_eq t⟩
instance (t) : ClosedOff (k0_off2 t) := ⟨![0, 128 * (t.val - 1), 0], Attn.off2_eq t⟩
instance (t) : ClosedOff (k0_off3 t) := ⟨![0, 512 * (t.val % 4) + t.val / 4, 0], Attn.off3_eq t⟩
instance (t) : ClosedOff (k0_off4 t) := ⟨![0, 512 * (t.val % 4 - 1) + t.val / 4, 0], Attn.off4_eq t⟩
instance (t) : ClosedOff (k0_off5 t) := ⟨![0, t.val, 0], Attn.off5_eq t⟩
instance (t) : ClosedOff (k0_off6 t) := ⟨![0, t.val, 0], Attn.off6_eq t⟩

/-- What a unit reads: its queries, the previous and own keys and values, the bias coefficients of its two heads,
    and which pairs are in the window. -/
structure Rows (F : FTy → Type) where
  q : Vec F S1x128x128 .f32
  kp : Vec F S1x128x128 .f32
  ko : Vec F S1x128x128 .f32
  vp : Vec F S1x128x128 .f32
  vo : Vec F S1x128x128 .f32
  c0 : Elt F .f32
  c1 : Elt F .f32
  ok : IVec S128x256 1

namespace Rows
variable (u : Rows F)
abbrev Kc : FVec F S256x128 .bf16 := k0_pay9 u.kp u.ko
abbrev Vc : FVec F S256x128 .bf16 := k0_pay10 u.vp u.vo
/-- Of the first head: the row maximum, the row sum of the exponentials, the weighted values and the sum's inverse. -/
abbrev m0 : FVec F S128x1 .f32 := k0_pay12 k0_pay2 k0_pay3 u.ok u.q u.kp u.ko u.c0
abbrev l0 : FVec F S128x1 .f32 := k0_pay14 k0_pay2 k0_pay3 u.ok u.q u.kp u.ko u.c0
abbrev n0 : FVec F S128x128 .f32 := k0_pay15 k0_pay2 k0_pay3 u.ok u.q u.kp u.ko u.vp u.vo u.c0
abbrev r0 : FVec F S128x1 .f32 := k0_pay16 k0_pay2 k0_pay3 u.ok u.q u.kp u.ko u.c0
/-- The outputs' rows, and the rows of the logarithms of the sums. -/
def o : FVec F S1x128x128 .f32 := k0_pay21 k0_pay2 k0_pay3 u.ok (k0_pay8 u.q) u.Kc u.Vc u.n0 u.r0 u.c1
def l : FVec F S1x128x128 .f32 := k0_pay6 (k0_pay22 k0_pay2 k0_pay3 u.ok (k0_pay8 u.q) u.Kc u.m0 u.l0 u.c1)
end Rows

/-- What the body is given. -/
structure Ins (F : FTy → Type) where
  co : Vec F S3x2 .f32
  q : Vec F S1x2048x128 .f32
  k : Vec F S1x2048x128 .f32
  v : Vec F S1x2048x128 .f32

/-- The two arrays the body fills. -/
structure Outs (F : FTy → Type) where
  o : Vec F S1x2048x128 .f32
  l : Vec F S1x2048x128 .f32

def Ins.rows (I : Ins F) (C : Cut) (c0 c1 : Elt F .f32) (ok : IVec S128x256 1) : Rows F where
  q := View.ld I.q C.own
  kp := View.ld I.k C.prev
  ko := View.ld I.k C.own
  vp := View.ld I.v C.prev
  vo := View.ld I.v C.own
  c0 := c0
  c1 := c1
  ok := ok

/-- What one unit does to the two arrays. -/
def Rows.step (u : Rows F) (C : Cut) (σ : Outs F) : Outs F where
  o := put σ.o ⟨C.own, u.o⟩
  l := put σ.l ⟨C.own, u.l⟩

/-- The units before `n`, in order. -/
def after (f : Fin 16 → Outs F → Outs F) (σ : Outs F) : ℕ → Outs F
  | 0 => σ
  | n + 1 => if h : n < 16 then f ⟨n, h⟩ (after f σ n) else after f σ n

theorem after_succ (f : Fin 16 → Outs F → Outs F) (σ : Outs F) (n : Fin 16) : after f σ (n.val + 1) = f n (after f σ n.val) := by
  rw [after, dif_pos n.isLt]

def rows1 (I : Ins F) (t : Fin 16) : Rows F :=
  I.rows (cut1 t) (Attn.coef I.co ![0, 0] inb_S3x2_S1x1_0_0) (Attn.coef I.co ![0, 1] inb_S3x2_S1x1_0_1) (k0_pay7 k0_pay4 k0_pay5 0#32 1#32 t)
def unit1 (I : Ins F) (t : Fin 16) : Outs F → Outs F := (rows1 I t).step (cut1 t)
def rows2 (I : Ins F) (t : Fin 16) : Rows F :=
  I.rows (cut2 t) (Attn.coef I.co ![1, 0] inb_S3x2_S1x1_1_0) (Attn.coef I.co ![1, 1] inb_S3x2_S1x1_1_1) (k0_pay23 k0_pay4 k0_pay5 0#32 1#32 t)
def unit2 (I : Ins F) (t : Fin 16) : Outs F → Outs F := (rows2 I t).step (cut2 t)
def rows3 (I : Ins F) (t : Fin 16) : Rows F :=
  I.rows (cut3 t) (Attn.coef I.co ![2, 0] inb_S3x2_S1x1_2_0) (Attn.coef I.co ![2, 1] inb_S3x2_S1x1_2_1) (k0_pay38 k0_pay4 k0_pay5 0#32 1#32 t)
def unit3 (I : Ins F) (t : Fin 16) : Outs F → Outs F := (rows3 I t).step (cut3 t)

/-! ## What all units of a pattern leave -/

section Seq
variable {C : Fin 16 → Cut} {first : Fin 16 → Prop} [DecidablePred first] (T : Tiling C first)
  (u : Fin 16 → Rows F) (f : Fin 16 → Outs F → Outs F) (hf : ∀ t, f t = (u t).step (C t)) (σ : Outs F)

include T hf in
theorem after_o (t : Fin 16) (z) : (after f σ 16).o ((C t).own.idx z) = (u t).o z :=
  Attn.seq_put T (fun t => (u t).o) (fun n => (after f σ n).o) (fun n => by rw [after_succ, hf]; rfl) 16 le_rfl t t.isLt z

include T hf in
theorem after_l (t : Fin 16) (z) : (after f σ 16).l ((C t).own.idx z) = (u t).l z :=
  Attn.seq_put T (fun t => (u t).l) (fun n => (after f σ n).l) (fun n => by rw [after_succ, hf]; rfl) 16 le_rfl t t.isLt z

include T hf in
/-- The units leave the same arrays whatever these held before. -/
theorem after_irrel (σ' : Outs F) : after f σ 16 = after f σ' 16 := by
  have ho : (after f σ 16).o = (after f σ' 16).o := by
    funext y; obtain ⟨t, z, rfl⟩ := T.cover y; rw [after_o T u f hf, after_o T u f hf]
  have hl : (after f σ 16).l = (after f σ' 16).l := by
    funext y; obtain ⟨t, z, rfl⟩ := T.cover y; rw [after_l T u f hf, after_l T u f hf]
  revert ho hl
  generalize after f σ 16 = A
  generalize after f σ' 16 = B
  obtain ⟨_, _⟩ := A
  obtain ⟨_, _⟩ := B
  dsimp only
  rintro rfl rfl
  rfl

end Seq

section Loops
variable (c : Dev nD) (a2 : Memref sig .tc .smem S3x2 .f32) (a3 a4 a5 a6 a7 : Memref sig .tc .vmem S1x2048x128 .f32)

/-- The inputs as they were and the two arrays at `σ`. -/
def holds (I : Ins F) (σ : Outs F) : sProp 𝕄 :=
  iprop(owns (c : Thread nD τ) a2 fullShare I.co ∗ owns (c : Thread nD τ) a3 fullShare I.q ∗ owns (c : Thread nD τ) a4 fullShare I.k
    ∗ owns (c : Thread nD τ) a5 fullShare I.v ∗ owns (c : Thread nD τ) a6 fullShare σ.o ∗ owns (c : Thread nD τ) a7 fullShare σ.l)

end Loops

end Cert.Fwd
-- ==== Proof.FwdUnit.lean ====
/- One unit of the attention over the real numbers: its two heads' outputs and the logarithms of their weights' sums. -/
module

public import proofs.«01_k».proof.Proof.FwdBody
public import proofs.«01_k».proof.Proof.AttnReads
public import proofs.«01_k».proof.Proof.AttnRef
public import Idealize.ShloMosaic.Lib.Pointwise

@[expose] public section

noncomputable section

namespace Cert.Fwd

open Cert.Kernel7Ideal Cert.Kernel7Ideal.Gen Idealize.ShloMosaic Idealize.ShloMosaic.TcCoe
open Cert.Attn (Head Tile Line Win hd en hd_lo hd_hi sum_lo sum_hi coe_sum eighth select_if select_not_if)

theorem first_apply (i c : Fin 128) : k0_pay2 (ix2 i c) = if c.val < 64 then 1#1 else 0#1 := Attn.first_apply i c

theorem dist_apply (i : Fin 128) (x : Fin 256) : (k0_pay3 (F := Ideal) (ix2 i x) : EReal) = (((i.val : ℝ) + 128 - (x.val : ℝ) : ℝ) : EReal) :=
  Attn.dist_apply i x

theorem mask_bot : (Named.named (F := Ideal) κ "mask" (φ := .f32) 0xF149F2CA#32 : EReal) = ⊥ :=
  IdealRules.named_const.ideal_named_scalar _ _ _ _ rfl

theorem neg_inf : Ideal.ofBits .f32 0xFF800000#32 = (⊥ : EReal) := by simp [Ideal.ofBits, Ideal.ieee]

/-- The largest of scores some of which are left out. -/
theorem fold_max (ok : Fin 256 → Prop) [DecidablePred ok] (s : Fin 256 → ℝ) (x₀ : Fin 256) (h₀ : ok x₀) :
    ∃ M : ℝ, Finset.univ.fold max (⊥ : EReal) (fun x => if ok x then ((s x : ℝ) : EReal) else ⊥) = (M : EReal) := by
  obtain ⟨x, -, hx⟩ := Finset.exists_mem_eq_sup (Finset.univ : Finset (Fin 256)) ⟨x₀, Finset.mem_univ _⟩
    (fun x => if ok x then ((s x : ℝ) : EReal) else ⊥)
  have hx' : Finset.univ.fold max (⊥ : EReal) (fun x => if ok x then ((s x : ℝ) : EReal) else ⊥) = if ok x then ((s x : ℝ) : EReal) else ⊥ := hx
  by_cases h : ok x
  · exact ⟨s x, hx'.trans (if_pos h)⟩
  · exfalso
    rw [if_neg h] at hx
    have hle := Finset.le_sup (f := fun x => if ok x then ((s x : ℝ) : EReal) else ⊥) (Finset.mem_univ x₀)
    rw [hx] at hle
    rw [if_pos h₀] at hle
    exact absurd (le_bot_iff.mp hle) (EReal.coe_ne_bot _)

/-- What a unit reads, as its two heads' rows. -/
structure Sees (u : Rows Ideal) (T : Tile) : Prop where
  q : ∀ i c, (u.q (ix3 0 i c) : EReal) = (((T.H (hd c)).q (T.own i) (en c) : ℝ) : EReal)
  k : ∀ x c, (u.Kc (ix2 x c) : EReal) = (((T.H (hd c)).k (T.pos x) (en c) : ℝ) : EReal)
  v : ∀ x c, (u.Vc (ix2 x c) : EReal) = (((T.H (hd c)).v (T.pos x) (en c) : ℝ) : EReal)
  c0 : (u.c0 : EReal) = (((T.H 0).a * (T.H 0).d : ℝ) : EReal)
  c1 : (u.c1 : EReal) = (((T.H 1).a * (T.H 1).d : ℝ) : EReal)
  ok : ∀ i x, u.ok (ix2 i x) = if T.Ok i x then 1#1 else 0#1
  win : ∀ j i x, T.Ok i x → Win (T.H j).d (T.own i) (T.pos x)
  dist : ∀ j i x, T.Ok i x → ((T.H j).d : ℝ) * ((i.val : ℝ) + 128 - (x.val : ℝ)) = ((T.own i).val : ℝ) - ((T.pos x).val : ℝ)

/-- A pair's weight, all a row's divided by the exponential of `M`. -/
def wt (T : Tile) (j : Fin 2) (M : ℝ) (i : Fin 128) (x : Fin 256) : ℝ :=
  if T.Ok i x then (T.H j).rp (fun _ => M) (T.own i) (T.pos x) else 0

section
variable {u : Rows Ideal} {T : Tile} (R : Sees u T)
include R

/-- A masked score. -/
theorem Sees.score (j : Fin 2) (i : Fin 128) (x : Fin 256) :
    (Scalar.select (u.ok (ix2 i x))
        (((∑ e, (T.H j).q (T.own i) e * (T.H j).k (T.pos x) e) * (1 / 8) - (T.H j).a * (T.H j).d * ((i.val : ℝ) + 128 - (x.val : ℝ)) : ℝ) : EReal)
        (Named.named (F := Ideal) κ "mask" (φ := .f32) 0xF149F2CA#32 : EReal) : EReal)
      = if T.Ok i x then (((T.H j).sc (T.own i) (T.pos x) : ℝ) : EReal) else ⊥ := by
  rw [R.ok, select_if, mask_bot]
  split_ifs with h
  · unfold Head.sc
    rw [← R.dist j i x h]
    congr 2
    ring
  · rfl

theorem Sees.s0 (i : Fin 128) (x : Fin 256) : (k0_pay11 k0_pay2 k0_pay3 u.ok u.q u.kp u.ko u.c0 (ix2 i x) : EReal)
    = if T.Ok i x then (((T.H 0).sc (T.own i) (T.pos x) : ℝ) : EReal) else ⊥ := by
  rw [← R.score 0 i x]
  have hk := R.k
  unfold Rows.Kc at hk
  pointwise [k0_pay11, k0_pay8]
  rw [dist_apply, R.c0, eighth]
  simp only [R.q, hk, first_apply, select_if, ← EReal.coe_mul, ← EReal.coe_zero]
  simp only [← apply_ite (Real.toEReal), coe_sum, ← EReal.coe_mul, ← EReal.coe_sub]
  rw [sum_lo (fun j e => (T.H j).q (T.own i) e * (T.H j).k (T.pos x) e)]

theorem Sees.s1 (i : Fin 128) (x : Fin 256) : (k0_pay17 k0_pay2 k0_pay3 u.ok (k0_pay8 u.q) u.Kc u.c1 (ix2 i x) : EReal)
    = if T.Ok i x then (((T.H 1).sc (T.own i) (T.pos x) : ℝ) : EReal) else ⊥ := by
  rw [← R.score 1 i x]
  have hk := R.k
  pointwise [k0_pay17, k0_pay8]
  rw [dist_apply, R.c1, eighth]
  simp only [R.q, hk, first_apply, select_not_if, ← EReal.coe_mul, ← EReal.coe_zero]
  simp only [← apply_ite (Real.toEReal), coe_sum, ← EReal.coe_mul, ← EReal.coe_sub]
  rw [sum_hi (fun j e => (T.H j).q (T.own i) e * (T.H j).k (T.pos x) e)]

omit R in
theorem ok_own (i : Fin 128) : T.Ok i ⟨128 + i.val, by omega⟩ := by
  refine ⟨⟨?_, ?_⟩, .inl ?_⟩ <;> dsimp only <;> omega

theorem Sees.m0 (i : Fin 128) : ∃ M : ℝ, (u.m0 (ix2 i 0) : EReal) = (M : EReal) := by
  have hs := R.s0 i
  obtain ⟨M, hM⟩ := fold_max (T.Ok i) (fun x => (T.H 0).sc (T.own i) (T.pos x)) _ (ok_own i)
  refine ⟨M, hM ▸ ?_⟩
  unfold Rows.m0
  pointwise [k0_pay12]
  rw [neg_inf]
  simp only [hs]

theorem Sees.m1 (i : Fin 128) : ∃ M : ℝ, (k0_pay18 k0_pay2 k0_pay3 u.ok (k0_pay8 u.q) u.Kc u.c1 (ix2 i 0) : EReal) = (M : EReal) := by
  have hs := R.s1 i
  obtain ⟨M, hM⟩ := fold_max (T.Ok i) (fun x => (T.H 1).sc (T.own i) (T.pos x)) _ (ok_own i)
  refine ⟨M, hM ▸ ?_⟩
  pointwise [k0_pay18]
  rw [neg_inf]
  simp only [hs]

theorem Sees.exp_wt (j : Fin 2) (M : ℝ) (i : Fin 128) (x : Fin 256) :
    Ideal.exp ((if T.Ok i x then (((T.H j).sc (T.own i) (T.pos x) : ℝ) : EReal) else ⊥) - (M : EReal)) = ((wt T j M i x : ℝ) : EReal) := by
  unfold wt Head.rp Head.ex
  split_ifs with h hw
  · rw [← EReal.coe_sub, Ideal.exp_coe, sub_eq_add_neg, Real.exp_add]
  · exact absurd (R.win j i x h) hw
  · rw [EReal.bot_sub]
    rfl

theorem Sees.e0 (i : Fin 128) (M : ℝ) (hM : (u.m0 (ix2 i 0) : EReal) = (M : EReal)) (x : Fin 256) :
    (k0_pay13 k0_pay2 k0_pay3 u.ok u.q u.kp u.ko u.c0 (ix2 i x) : EReal) = ((wt T 0 M i x : ℝ) : EReal) := by
  have hs := R.s0 i x
  unfold Rows.m0 at hM
  pointwise [k0_pay13]
  rw [hs, hM, R.exp_wt]

theorem Sees.e1 (i : Fin 128) (M : ℝ) (hM : (k0_pay18 k0_pay2 k0_pay3 u.ok (k0_pay8 u.q) u.Kc u.c1 (ix2 i 0) : EReal) = (M : EReal)) (x : Fin 256) :
    (k0_pay19 k0_pay2 k0_pay3 u.ok (k0_pay8 u.q) u.Kc u.c1 (ix2 i x) : EReal) = ((wt T 1 M i x : ℝ) : EReal) := by
  have hs := R.s1 i x
  pointwise [k0_pay19]
  rw [hs, hM, R.exp_wt]

theorem Sees.l0 (i : Fin 128) (M : ℝ) (hM : (u.m0 (ix2 i 0) : EReal) = (M : EReal)) :
    (u.l0 (ix2 i 0) : EReal) = ((∑ x, wt T 0 M i x : ℝ) : EReal) := by
  have he := R.e0 i M hM
  unfold Rows.l0
  pointwise [k0_pay14]
  simp only [he, coe_sum]

theorem Sees.l1 (i : Fin 128) (M : ℝ) (hM : (k0_pay18 k0_pay2 k0_pay3 u.ok (k0_pay8 u.q) u.Kc u.c1 (ix2 i 0) : EReal) = (M : EReal)) :
    (k0_pay20 k0_pay2 k0_pay3 u.ok (k0_pay8 u.q) u.Kc u.c1 (ix2 i 0) : EReal) = ((∑ x, wt T 1 M i x : ℝ) : EReal) := by
  have he := R.e1 i M hM
  pointwise [k0_pay20]
  simp only [he, coe_sum]

end

/-! ## Over a pattern's line of blocks -/

section
variable (P : Line) (H : Fin 2 → Head) (hH : ∀ j, (H j).d = P.d) (t : Fin 16)
include hH

theorem rp_off (j : Fin 2) (M : ℝ) (s v : Fin 2048) :
    (H j).rp (fun _ => M) s v = if Win P.d s v then (H j).rp (fun _ => M) s v else 0 := by
  split_ifs with h
  · rfl
  · unfold Head.rp Head.ex; rw [hH, if_neg h, zero_mul]

theorem sum_wt (j : Fin 2) (M : ℝ) (i : Fin 128) (f : Fin 2048 → ℝ) :
    ∑ x, wt (P.tile H t) j M i x * f (P.col t x) = ∑ v, (H j).rp (fun _ => M) (P.at' t i) v * f v :=
  P.row_sum H t i (fun v => (H j).rp (fun _ => M) (P.at' t i) v) f (fun v => rp_off P H hH j M _ v)

theorem sum_wt_one (j : Fin 2) (M : ℝ) (i : Fin 128) : ∑ x, wt (P.tile H t) j M i x = (H j).rl (fun _ => M) (P.at' t i) := by
  have h := sum_wt P H hH t j M i (fun _ => 1)
  simp only [mul_one] at h
  rw [h, Head.sum_rp]

variable {u : Rows Ideal} (R : Sees u (P.tile H t))
include R

/-- The outputs' rows, -/
theorem out_row (i c : Fin 128) : (u.o (ix3 0 i c) : EReal) = (((H (hd c)).O (P.at' t i) (en c) : ℝ) : EReal) := by
  obtain ⟨M0, h0⟩ := R.m0 i
  obtain ⟨M1, h1⟩ := R.m1 i
  have e0 := R.e0 i M0 h0
  have e1 := R.e1 i M1 h1
  have l0 := R.l0 i M0 h0
  have l1 := R.l1 i M1 h1
  rw [sum_wt_one P H hH] at l0 l1
  have hv := R.v
  have hv' := R.v
  unfold Rows.l0 at l0
  unfold Rows.Vc at hv
  unfold Rows.o Rows.n0 Rows.r0
  pointwise [k0_pay21, k0_pay15, k0_pay16]
  rw [l0, l1, first_apply, select_if]
  simp only [e0, e1, hv, hv', ← EReal.coe_mul, coe_sum]
  split_ifs with h
  · rw [hd_lo c h, ← EReal.coe_one, Attn.div_real _ _ ((H 0).rl_pos _ _).ne', ← EReal.coe_mul]
    refine congrArg Real.toEReal ?_
    rw [← Head.rpv_div (H 0) (fun _ => M0), mul_one_div]
    have hs := sum_wt P H hH t 0 M0 i (fun v => (H 0).v v (en c))
    exact congrArg (· / _) hs
  · rw [hd_hi c h, ← EReal.coe_one, Attn.div_real _ _ ((H 1).rl_pos _ _).ne', ← EReal.coe_mul]
    refine congrArg Real.toEReal ?_
    rw [← Head.rpv_div (H 1) (fun _ => M1), mul_one_div]
    have hs := sum_wt P H hH t 1 M1 i (fun v => (H 1).v v (en c))
    exact congrArg (· / _) hs

/-- and the logarithms of the weights' sums. -/
theorem log_row (i c : Fin 128) : (u.l (ix3 0 i c) : EReal) = ((Real.log ((H (hd c)).Z (P.at' t i)) : ℝ) : EReal) := by
  obtain ⟨M0, h0⟩ := R.m0 i
  obtain ⟨M1, h1⟩ := R.m1 i
  have l0 := R.l0 i M0 h0
  have l1 := R.l1 i M1 h1
  rw [sum_wt_one P H hH] at l0 l1
  unfold Rows.l0 at l0
  unfold Rows.m0 at h0
  unfold Rows.l Rows.m0 Rows.l0
  pointwise [k0_pay6, k0_pay22]
  rw [h0, h1, l0, l1, first_apply, select_if, Attn.log_real _ ((H 0).rl_pos _ _), Attn.log_real _ ((H 1).rl_pos _ _)]
  split_ifs with h
  · rw [hd_lo c h, ← EReal.coe_add, ← Head.log_Z (H 0) (fun _ => M0)]
  · rw [hd_hi c h, ← EReal.coe_add, ← Head.log_Z (H 1) (fun _ => M1)]

end

end Cert.Fwd

end
-- ==== Proof.FwdReads.lean ====
/- The attention's three patterns: their units read their two heads' rows, and leave these heads' outputs. -/
module

public import proofs.«01_k».proof.Proof.FwdUnit

@[expose] public section

noncomputable section

namespace Cert.Fwd

open Cert.Kernel7Ideal Cert.Kernel7Ideal.Gen Idealize.ShloMosaic Idealize.ShloMosaic.TcCoe
open Cert.Attn (Head Tile Line Win Cut Tiling hd en line1 line2 line3 cut1 cut2 cut3)

theorem ok1 (t : Fin 16) (i : Fin 128) (x : Fin 256) : k0_pay7 k0_pay4 k0_pay5 0#32 1#32 t (ix2 i x)
    = if (x.val ≤ i.val + 128 ∧ i.val ≤ x.val) ∧ (128 ≤ x.val ∨ ¬t.val = 0) then 1#1 else 0#1 := Attn.ok1 t i x
theorem ok2 (t : Fin 16) (i : Fin 128) (x : Fin 256) : k0_pay23 k0_pay4 k0_pay5 0#32 1#32 t (ix2 i x)
    = if (x.val ≤ i.val + 128 ∧ i.val ≤ x.val) ∧ (128 ≤ x.val ∨ ¬t.val % 4 = 0) then 1#1 else 0#1 := Attn.ok2 t i x
theorem ok3 (t : Fin 16) (i : Fin 128) (x : Fin 256) : k0_pay38 k0_pay4 k0_pay5 0#32 1#32 t (ix2 i x)
    = if (x.val ≤ i.val + 128 ∧ i.val ≤ x.val) ∧ (128 ≤ x.val ∨ ¬True) then 1#1 else 0#1 := Attn.ok3 t i x

/-! ## What the body is given, of two heads -/

structure Fits (I : Ins Ideal) (H : Fin 2 → Head) : Prop where
  q : ∀ t c, (I.q (ix3 0 t c) : EReal) = (((H (hd c)).q t (en c) : ℝ) : EReal)
  k : ∀ t c, (I.k (ix3 0 t c) : EReal) = (((H (hd c)).k t (en c) : ℝ) : EReal)
  v : ∀ t c, (I.v (ix3 0 t c) : EReal) = (((H (hd c)).v t (en c) : ℝ) : EReal)

theorem cat_k (a b : Vec Ideal S1x128x128 .f32) (x : Fin 256) (c : Fin 128) : (k0_pay9 a b (ix2 x c) : EReal)
    = if h : x.val < 128 then a (ix3 0 ⟨x.val, h⟩ c) else b (ix3 0 ⟨x.val - 128, by omega⟩ c) := by
  pointwise [k0_pay9]

theorem cat_v (a b : Vec Ideal S1x128x128 .f32) (x : Fin 256) (c : Fin 128) : (k0_pay10 a b (ix2 x c) : EReal)
    = if h : x.val < 128 then a (ix3 0 ⟨x.val, h⟩ c) else b (ix3 0 ⟨x.val - 128, by omega⟩ c) := by
  pointwise [k0_pay10]

section
variable {I : Ins Ideal} {H : Fin 2 → Head} (X : Fits I H) (P : Line) (hH : ∀ j, (H j).d = P.d)

include X hH in
theorem sees (C : Cut) (t : Fin 16) (ho : C.o = ![0, P.row t, 0]) (hp : C.p = ![0, P.prow t, 0]) (hs : C.st = ![1, P.d, 1])
    (c0 c1 : Elt Ideal .f32) (ok : IVec S128x256 1) (h0 : (c0 : EReal) = (((H 0).a * (H 0).d : ℝ) : EReal))
    (h1 : (c1 : EReal) = (((H 1).a * (H 1).d : ℝ) : EReal))
    (hok : ∀ i x, ok (ix2 i x) = if (x.val ≤ i.val + 128 ∧ i.val ≤ x.val) ∧ (128 ≤ x.val ∨ ¬P.first t) then 1#1 else 0#1) :
    Sees (I.rows C c0 c1 ok) (P.tile H t) where
  q i c := by show I.q (C.own.idx (ix3 0 i c)) = _; rw [Attn.own_at P C t ho hs]; exact X.q _ c
  k x c := by
    have hk : ∀ i, View.ld I.k C.prev (ix3 0 i c) = I.k (ix3 0 (P.before t i) c) := fun i => congrArg I.k (Attn.prev_at P C t hp hs i c)
    have hk' : ∀ i, View.ld I.k C.own (ix3 0 i c) = I.k (ix3 0 (P.at' t i) c) := fun i => congrArg I.k (Attn.own_at P C t ho hs i c)
    show k0_pay9 (View.ld I.k C.prev) (View.ld I.k C.own) (ix2 x c) = _
    rw [cat_k]
    show _ = (((H (hd c)).k (P.col t x) (en c) : ℝ) : EReal)
    unfold Line.col
    split_ifs with h
    · exact (hk _).trans (X.k _ c)
    · exact (hk' _).trans (X.k _ c)
  v x c := by
    have hk : ∀ i, View.ld I.v C.prev (ix3 0 i c) = I.v (ix3 0 (P.before t i) c) := fun i => congrArg I.v (Attn.prev_at P C t hp hs i c)
    have hk' : ∀ i, View.ld I.v C.own (ix3 0 i c) = I.v (ix3 0 (P.at' t i) c) := fun i => congrArg I.v (Attn.own_at P C t ho hs i c)
    show k0_pay10 (View.ld I.v C.prev) (View.ld I.v C.own) (ix2 x c) = _
    rw [cat_v]
    show _ = (((H (hd c)).v (P.col t x) (en c) : ℝ) : EReal)
    unfold Line.col
    split_ifs with h
    · exact (hk _).trans (X.v _ c)
    · exact (hk' _).trans (X.v _ c)
  c0 := h0
  c1 := h1
  ok i x := hok i x
  win j i x h := by show Win (H j).d _ _; rw [hH]; exact P.win H t i x h
  dist j i x h := by show ((H j).d : ℝ) * _ = _; rw [hH]; exact P.dist H t i x h

end

/-! ## The rows after a pattern's units -/

/-- Two arrays that hold two heads' outputs and logarithms. -/
structure Heads (σ : Outs Ideal) (H : Fin 2 → Head) : Prop where
  o : ∀ t c, (σ.o (ix3 0 t c) : EReal) = (((H (hd c)).O t (en c) : ℝ) : EReal)
  l : ∀ t c, (σ.l (ix3 0 t c) : EReal) = ((Real.log ((H (hd c)).Z t) : ℝ) : EReal)

theorem heads_of (P : Line) (H : Fin 2 → Head) (hH : ∀ j, (H j).d = P.d) (C : Fin 16 → Cut) (T : Tiling C P.first)
    (ho : ∀ t, (C t).o = ![0, P.row t, 0]) (hs : ∀ t, (C t).st = ![1, P.d, 1]) (hc : ∀ y : ℕ, y < 2048 → ∃ t : Fin 16, ∃ i : Fin 128, y = P.row t + P.d * i.val)
    (u : Fin 16 → Rows Ideal) (R : ∀ t, Sees (u t) (P.tile H t)) (f : Fin 16 → Outs Ideal → Outs Ideal) (hf : ∀ t, f t = (u t).step (C t))
    (σ : Outs Ideal) : Heads (after f σ 16) H := by
  have key : ∀ y : Fin 2048, ∃ t i, P.at' t i = y := fun y => by
    obtain ⟨t, i, h⟩ := hc y.val y.isLt
    exact ⟨t, i, Fin.ext h.symm⟩
  refine ⟨fun y c => ?_, fun y c => ?_⟩ <;> obtain ⟨t, i, rfl⟩ := key y <;>
    rw [← Attn.own_at P (C t) t (ho t) (hs t) i c]
  · rw [after_o T u f hf]; exact out_row P H hH t (R t) i c
  · rw [after_l T u f hf]; exact log_row P H hH t (R t) i c

section
variable {I : Ins Ideal} {H : Fin 2 → Head} (X : Fits I H) (σ : Outs Ideal)
include X

theorem heads1 (hH : ∀ j, (H j).d = 1) (h0 : (Attn.coef I.co ![0, 0] inb_S3x2_S1x1_0_0 : EReal) = (((H 0).a * (H 0).d : ℝ) : EReal))
    (h1 : (Attn.coef I.co ![0, 1] inb_S3x2_S1x1_0_1 : EReal) = (((H 1).a * (H 1).d : ℝ) : EReal)) : Heads (after (unit1 I) σ 16) H :=
  heads_of line1 H hH (fun t => cut1 t) Attn.tiling1 Attn.o_cut1 (fun _ => by funext a; fin_cases a <;> rfl) Attn.cov1 (rows1 I)
    (fun t => sees X line1 hH (cut1 t) t (Attn.o_cut1 t) (Attn.p_cut1 t) (by funext a; fin_cases a <;> rfl) _ _ _ h0 h1 (ok1 t)) (unit1 I) (fun _ => rfl) σ

theorem heads2 (hH : ∀ j, (H j).d = 4) (h0 : (Attn.coef I.co ![1, 0] inb_S3x2_S1x1_1_0 : EReal) = (((H 0).a * (H 0).d : ℝ) : EReal))
    (h1 : (Attn.coef I.co ![1, 1] inb_S3x2_S1x1_1_1 : EReal) = (((H 1).a * (H 1).d : ℝ) : EReal)) : Heads (after (unit2 I) σ 16) H :=
  heads_of line2 H hH (fun t => cut2 t) Attn.tiling2 Attn.o_cut2 (fun _ => rfl) Attn.cov2 (rows2 I)
    (fun t => sees X line2 hH (cut2 t) t (Attn.o_cut2 t) (Attn.p_cut2 t) rfl _ _ _ h0 h1 (ok2 t)) (unit2 I) (fun _ => rfl) σ

theorem heads3 (hH : ∀ j, (H j).d = 16) (h0 : (Attn.coef I.co ![2, 0] inb_S3x2_S1x1_2_0 : EReal) = (((H 0).a * (H 0).d : ℝ) : EReal))
    (h1 : (Attn.coef I.co ![2, 1] inb_S3x2_S1x1_2_1 : EReal) = (((H 1).a * (H 1).d : ℝ) : EReal)) : Heads (after (unit3 I) σ 16) H :=
  heads_of line3 H hH (fun t => cut3 t) Attn.tiling3 Attn.o_cut3 (fun _ => rfl) Attn.cov3 (rows3 I)
    (fun t => sees X line3 hH (cut3 t) t (Attn.o_cut3 t) (Attn.p_cut3 t) rfl _ _ _ h0 h1 (ok3 t)) (unit3 I) (fun _ => rfl) σ

end

end Cert.Fwd

end
-- ==== Proof.FwdTrips.lean ====
/- One trip of each of the attention's three loops, one per pattern. -/
module

public import proofs.«01_k».proof.Proof.FwdBody
public import Idealize.ShloMosaic.Lib.Exec
public import Idealize.ShloMosaic.Lib.Pipeline.ValueKit

@[expose] public section

set_option maxRecDepth 16384

noncomputable section

namespace Cert.Fwd

open Cert.Kernel7Ideal Cert.Kernel7Ideal.Gen
open Cert.Attn (put read_writes_put Cut cut1 cut2 cut3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole)

set_option maxHeartbeats 2000000 in
theorem trip1 (hc : k0_cond1 i = 1#1) (t : Fin k0_t1_loop.trips) (I : Ins F) (σ : Outs F) :
    holds c a2 a3 a4 a5 a6 a7 I σ
      ⊢ wp frame (wpE (defs₀ (F := F)) Variants.none (c : Thread nD τ) none) Set.univ
          (k0_t1_body i a2 h2 a3 h3 a4 h4 a5 h5 a6 h6 a7 h7 hc t ⟨⟩)
          (fun _ => holds c a2 a3 a4 a5 a6 a7 I (unit1 I t σ)) := by
  obtain ⟨x2, x3, x4, x5⟩ := I
  obtain ⟨x6, x7⟩ := σ
  unfold holds k0_t1_body
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩⟩
  dsimp only at e2 e3 e4 e5 e6 e7
  subst e2 e3 e4 e5 e6 e7
  sl_exec
  sl_step
  let u : Rows F := rows1 ⟨a2.view.read (Elt F) f2, a3.view.read (Elt F) f3, a4.view.read (Elt F) f4, a5.view.read (Elt F) f5⟩ t
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact read_writes_put a6.view f6 ⟨(cut1 t).own, u.o⟩ []
  · iexists _; isplitr
    swap; · iexact H7
    ipureintro
    exact read_writes_put a7.view f7 ⟨(cut1 t).own, u.l⟩ []

set_option maxHeartbeats 2000000 in
theorem trip2 (hc : k0_cond2 i = 1#1) (t : Fin k0_t2_loop.trips) (I : Ins F) (σ : Outs F) :
    holds c a2 a3 a4 a5 a6 a7 I σ
      ⊢ wp frame (wpE (defs₀ (F := F)) Variants.none (c : Thread nD τ) none) Set.univ
          (k0_t2_body i a2 h2 a3 h3 a4 h4 a5 h5 a6 h6 a7 h7 hc t ⟨⟩)
          (fun _ => holds c a2 a3 a4 a5 a6 a7 I (unit2 I t σ)) := by
  obtain ⟨x2, x3, x4, x5⟩ := I
  obtain ⟨x6, x7⟩ := σ
  unfold holds k0_t2_body
  simp only [k0_part4_eq_skeleton, k0_part5_eq_skeleton, k0_part6_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩⟩
  dsimp only at e2 e3 e4 e5 e6 e7
  subst e2 e3 e4 e5 e6 e7
  sl_exec
  sl_step
  let u : Rows F := rows2 ⟨a2.view.read (Elt F) f2, a3.view.read (Elt F) f3, a4.view.read (Elt F) f4, a5.view.read (Elt F) f5⟩ t
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact read_writes_put a6.view f6 ⟨(cut2 t).own, u.o⟩ []
  · iexists _; isplitr
    swap; · iexact H7
    ipureintro
    exact read_writes_put a7.view f7 ⟨(cut2 t).own, u.l⟩ []

set_option maxHeartbeats 2000000 in
theorem trip3 (hc : k0_cond3 i = 1#1) (t : Fin k0_t3_loop.trips) (I : Ins F) (σ : Outs F) :
    holds c a2 a3 a4 a5 a6 a7 I σ
      ⊢ wp frame (wpE (defs₀ (F := F)) Variants.none (c : Thread nD τ) none) Set.univ
          (k0_t3_body i a2 h2 a3 h3 a4 h4 a5 h5 a6 h6 a7 h7 hc t ⟨⟩)
          (fun _ => holds c a2 a3 a4 a5 a6 a7 I (unit3 I t σ)) := by
  obtain ⟨x2, x3, x4, x5⟩ := I
  obtain ⟨x6, x7⟩ := σ
  unfold holds k0_t3_body
  simp only [k0_part7_eq_skeleton, k0_part8_eq_skeleton, k0_part9_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩⟩
  dsimp only at e2 e3 e4 e5 e6 e7
  subst e2 e3 e4 e5 e6 e7
  sl_exec
  sl_step
  let u : Rows F := rows3 ⟨a2.view.read (Elt F) f2, a3.view.read (Elt F) f3, a4.view.read (Elt F) f4, a5.view.read (Elt F) f5⟩ t
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact read_writes_put a6.view f6 ⟨(cut3 t).own, u.o⟩ []
  · iexists _; isplitr
    swap; · iexact H7
    ipureintro
    exact read_writes_put a7.view f7 ⟨(cut3 t).own, u.l⟩ []

end Cert.Fwd
-- ==== Proof.FwdFrame.lean ====
/- The attention's run: its body at a grid point, and the kernel's frame. -/
module

public import proofs.«01_k».proof.Proof.FwdTrips
public import proofs.«01_k».proof.Proof.Gen.Kernel7Ideal.Frame
public import proofs.«01_k».proof.Defs

@[expose] public section

set_option maxRecDepth 16384

noncomputable section

namespace Cert.Fwd

open Cert.Kernel7Ideal Cert.Kernel7Ideal.Gen
open Cert.Attn (tiling1 tiling2 tiling3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

section Body
variable (c : Dev nD) (i : grid0.Coords) (a2 : Memref sig .tc .smem S3x2 .f32) (h2 : a2.IsWhole)
  (a3 : Memref sig .tc .vmem S1x2048x128 .f32) (h3 : a3.IsWhole) (a4 : Memref sig .tc .vmem S1x2048x128 .f32) (h4 : a4.IsWhole)
  (a5 : Memref sig .tc .vmem S1x2048x128 .f32) (h5 : a5.IsWhole) (a6 : Memref sig .tc .vmem S1x2048x128 .f32) (h6 : a6.IsWhole)
  (a7 : Memref sig .tc .vmem S1x2048x128 .f32) (h7 : a7.IsWhole)

/-- The loop over a pattern's units, from any contents of the two arrays. -/
theorem loop1 (hc : k0_cond1 i = 1#1) (I : Ins F) (σ : Outs F) :
    holds c a2 a3 a4 a5 a6 a7 I σ
      ⊢ wp frame (wpE (defs₀ (F := F)) Variants.none (c : Thread nD τ) none) Set.univ
          (Scf.Loop.for k0_t1_loop (k0_t1_ok i hc) ⟨⟩ (k0_t1_body i a2 h2 a3 h3 a4 h4 a5 h5 a6 h6 a7 h7 hc))
          (fun _ => holds c a2 a3 a4 a5 a6 a7 I (after (unit1 I) σ 16)) := by
  iintro H
  iapply (Scf.wp_for frame (wpE (defs₀ (F := F)) Variants.none (c : Thread nD τ) none) Set.univ k0_t1_loop.lb k0_t1_loop.ub k0_t1_loop.st
    (k0_t1_ok i hc) ⟨⟩ (k0_t1_body i a2 h2 a3 h3 a4 h4 a5 h5 a6 h6 a7 h7 hc)
    (fun n _ => holds c a2 a3 a4 a5 a6 a7 I (after (unit1 I) σ n)) (fun t _ => by
      rw [show after (unit1 I) σ (t.val + 1) = unit1 I t (after (unit1 I) σ t.val) from after_succ (unit1 I) σ t]
      exact trip1 c i a2 h2 a3 h3 a4 h4 a5 h5 a6 h6 a7 h7 hc t I _))
  isplitl [H]
  · iexact H
  · iintro %acc H
    iexact H

theorem loop2 (hc : k0_cond2 i = 1#1) (I : Ins F) (σ : Outs F) :
    holds c a2 a3 a4 a5 a6 a7 I σ
      ⊢ wp frame (wpE (defs₀ (F := F)) Variants.none (c : Thread nD τ) none) Set.univ
          (Scf.Loop.for k0_t2_loop (k0_t2_ok i hc) ⟨⟩ (k0_t2_body i a2 h2 a3 h3 a4 h4 a5 h5 a6 h6 a7 h7 hc))
          (fun _ => holds c a2 a3 a4 a5 a6 a7 I (after (unit2 I) σ 16)) := by
  iintro H
  iapply (Scf.wp_for frame (wpE (defs₀ (F := F)) Variants.none (c : Thread nD τ) none) Set.univ k0_t2_loop.lb k0_t2_loop.ub k0_t2_loop.st
    (k0_t2_ok i hc) ⟨⟩ (k0_t2_body i a2 h2 a3 h3 a4 h4 a5 h5 a6 h6 a7 h7 hc)
    (fun n _ => holds c a2 a3 a4 a5 a6 a7 I (after (unit2 I) σ n)) (fun t _ => by
      rw [show after (unit2 I) σ (t.val + 1) = unit2 I t (after (unit2 I) σ t.val) from after_succ (unit2 I) σ t]
      exact trip2 c i a2 h2 a3 h3 a4 h4 a5 h5 a6 h6 a7 h7 hc t I _))
  isplitl [H]
  · iexact H
  · iintro %acc H
    iexact H

theorem loop3 (hc : k0_cond3 i = 1#1) (I : Ins F) (σ : Outs F) :
    holds c a2 a3 a4 a5 a6 a7 I σ
      ⊢ wp frame (wpE (defs₀ (F := F)) Variants.none (c : Thread nD τ) none) Set.univ
          (Scf.Loop.for k0_t3_loop (k0_t3_ok i hc) ⟨⟩ (k0_t3_body i a2 h2 a3 h3 a4 h4 a5 h5 a6 h6 a7 h7 hc))
          (fun _ => holds c a2 a3 a4 a5 a6 a7 I (after (unit3 I) σ 16)) := by
  iintro H
  iapply (Scf.wp_for frame (wpE (defs₀ (F := F)) Variants.none (c : Thread nD τ) none) Set.univ k0_t3_loop.lb k0_t3_loop.ub k0_t3_loop.st
    (k0_t3_ok i hc) ⟨⟩ (k0_t3_body i a2 h2 a3 h3 a4 h4 a5 h5 a6 h6 a7 h7 hc)
    (fun n _ => holds c a2 a3 a4 a5 a6 a7 I (after (unit3 I) σ n)) (fun t _ => by
      rw [show after (unit3 I) σ (t.val + 1) = unit3 I t (after (unit3 I) σ t.val) from after_succ (unit3 I) σ t]
      exact trip3 c i a2 h2 a3 h3 a4 h4 a5 h5 a6 h6 a7 h7 hc t I _))
  isplitl [H]
  · iexact H
  · iintro %acc H
    iexact H

/-- The pattern the grid's second coordinate names, all its units run over the arrays as they were. -/
def ran (I : Ins F) (σ : Outs F) : Outs F :=
  if k0_cond1 i = 1#1 then after (unit1 I) σ 16 else if k0_cond2 i = 1#1 then after (unit2 I) σ 16 else after (unit3 I) σ 16

theorem conds : ∀ i : grid0.Coords, (k0_cond1 i = 1#1 ∧ k0_cond2 i ≠ 1#1 ∧ k0_cond3 i ≠ 1#1) ∨ (k0_cond1 i ≠ 1#1 ∧ k0_cond2 i = 1#1 ∧ k0_cond3 i ≠ 1#1)
    ∨ (k0_cond1 i ≠ 1#1 ∧ k0_cond2 i ≠ 1#1 ∧ k0_cond3 i = 1#1) := by decide +kernel

theorem body_holds (I : Ins F) (σ : Outs F) :
    holds c a2 a3 a4 a5 a6 a7 I σ
      ⊢ wp frame (wpE (defs₀ (F := F)) Variants.none (c : Thread nD τ) none) Set.univ
          (cc0_attn_fwd i a2 h2 a3 h3 a4 h4 a5 h5 a6 h6 a7 h7)
          (fun _ => holds c a2 a3 a4 a5 a6 a7 I (ran i I σ)) := by
  simp only [cc0_attn_fwd_eq_skeleton]; unfold cc0_attn_fwd_skel
  rcases conds i with ⟨h, h', h''⟩ | ⟨h, h', h''⟩ | ⟨h, h', h''⟩
  · rw [dif_pos h, dif_neg h', dif_neg h'']
    simp only [wp_bind, pure_bind]
    iintro H
    iapply (wp_wand_r frame (wpE (defs₀ (F := F)) Variants.none (c : Thread nD τ) none) Set.univ)
    isplitl [H]
    · iapply (loop1 c i a2 h2 a3 h3 a4 h4 a5 h5 a6 h6 a7 h7 h I σ)
      iexact H
    · iintro %acc H
      sl_step
      rw [ran, if_pos h]
      iexact H
  · rw [dif_neg h, dif_pos h', dif_neg h'']
    simp only [wp_bind, pure_bind]
    iintro H
    iapply (wp_wand_r frame (wpE (defs₀ (F := F)) Variants.none (c : Thread nD τ) none) Set.univ)
    isplitl [H]
    · iapply (loop2 c i a2 h2 a3 h3 a4 h4 a5 h5 a6 h6 a7 h7 h' I σ)
      iexact H
    · iintro %acc H
      sl_step
      rw [ran, if_neg h, if_pos h']
      iexact H
  · rw [dif_neg h, dif_neg h', dif_pos h'']
    simp only [wp_bind, pure_bind]
    iintro H
    iapply (wp_wand_r frame (wpE (defs₀ (F := F)) Variants.none (c : Thread nD τ) none) Set.univ)
    isplitl [H]
    · iapply (loop3 c i a2 h2 a3 h3 a4 h4 a5 h5 a6 h6 a7 h7 h'' I σ)
      iexact H
    · iintro %acc H
      sl_step
      rw [ran, if_neg h, if_neg h']
      iexact H

end Body

/-- The arrays a point leaves do not depend on what they held. -/
theorem ran_irrel (i : grid0.Coords) (I : Ins F) (σ σ' : Outs F) : ran i I σ = ran i I σ' := by
  unfold ran
  split_ifs
  · exact after_irrel tiling1 (rows1 I) (unit1 I) (fun _ => rfl) σ σ'
  · exact after_irrel tiling2 (rows2 I) (unit2 I) (fun _ => rfl) σ σ'
  · exact after_irrel tiling3 (rows3 I) (unit3 I) (fun _ => rfl) σ σ'

/-! ## The pipeline -/

section Run
variable (m : (ℓ : Loc nD τ sig) → Buf (Elt F) ℓ) (ρ : Dev nD → PrngReg)

/-- The inputs' blocks at a point, and -/
def ins (c : Dev nD) (t : Fin cfg0.N) : Ins F := ⟨iblk m c 0 t, iblk m c 1 t, iblk m c 2 t, iblk m c 3 t⟩

/-- the arrays the body leaves there. -/
def left (c : Dev nD) (t : Fin cfg0.N) : Outs F := ran (grid0.coords t) (ins m c t) ⟨iblk m c 1 t, iblk m c 1 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (left m c t).o
    | ⟨5, _⟩ => (left m c t).l
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (left m c t).o := by dsimp only [dats]
theorem after_5 (c : Dev nD) (t : Fin cfg0.N) : (dats m 0 c).after 5 t = (left m c t).l := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
theorem runs (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ)
  isplitl [H0 H1 H2 H3 H4 H5]
  · iapply (body_holds c (grid0.coords t) _ _ _ _ _ _ _ _ _ _ _ _ (ins m c t)
      ⟨(dats m 0 c).before 4 t d4, (dats m 0 c).before 5 t d5⟩)
    unfold holds ins
    dsimp only
    isplitl [H0]; · iexact H0
    isplitl [H1]; · iexact H1
    isplitl [H2]; · iexact H2
    isplitl [H3]; · iexact H3
    isplitl [H4]; · iexact H4
    iexact H5
  · iintro %acc
    rw [ran_irrel (grid0.coords t) (ins m c t) _ ⟨iblk m c 1 t, iblk m c 1 t⟩]
    unfold holds left ins
    dsimp only
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem row_eq (t : Fin cfg0.N) : defs₀ (F := F) .tc cfg0.body (cfg0.bodyArgs t (cfg0.slots t)) = bodyAt0 t := by
  unfold defs₀; rw [Defs.onTc_tc]

/-- Every point stores both outputs. -/
theorem idle_4 : ∀ t : Fin cfg0.N, cfg0.idle 4 (cfg0.grid.coords t) = false :=
  (by decide +kernel : ∀ t : Fin grid0.N, idle0 4 (grid0.coords t) = false)

set_option maxHeartbeats 2000000 in
theorem obligation (c : Dev nD) : BodyObligation (dats (F := F) m 0 c) (defs₀ (F := F)) Variants.none () Set.univ := fun t => by
  rw [bigSep_W0, bigSep_W0, row_eq]
  generalize h4 : cfg0.idle 4 (cfg0.grid.coords t) = b4
  generalize h5 : cfg0.idle 5 (cfg0.grid.coords t) = b5
  obtain rfl : b4 = false := h4.symm.trans (idle_4 t)
  obtain rfl : b5 = false := h5.symm.trans (idle_4 t)
  clear h4 h5
  refine triple_restated (runs m c t) rfl .rfl fun _ => ?_
  unfold post
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
set_option maxHeartbeats 800000 in
theorem launched : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The kernel's frame, over the bits and over the reals. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Run

end Cert.Fwd
-- ==== Proof.FwdValue.lean ====
/- The attention: the two arrays the call returns are the reference's. -/
module

public import proofs.«01_k».proof.Proof.FwdReads
public import proofs.«01_k».proof.Proof.FwdFrame
public import proofs.«01_k».proof.Proof.AttnClaim
public import proofs.«01_k».proof.Proof.Gen.Reference7Ideal.Read
public import proofs.«01_k».proof.Proof.Gen.Pre_finite7
public import Idealize.ShloMosaic.Lib.Pipeline.ValueKit

@[expose] public section

noncomputable section

namespace Cert.Fwd

open Cert.Kernel7Ideal Cert.Kernel7Ideal.Gen Idealize.ShloMosaic Idealize.ShloMosaic.TcCoe Idealize.SL.Sem
open Cert.Attn (Head hd en dil slope headAt)

variable (m : (ℓ : Loc nD τ sig) → Buf (Elt Ideal) ℓ) (c : Dev nD)

/-! ## The blocks -/

theorem e0 : ∀ t : Fin cfg0.N, win0_0.index t = ![0, 0] := (by decide +kernel : ∀ t : Fin grid0.N, _)
theorem e1 : ∀ t : Fin cfg0.N, win0_1.index t = ![t.val / 3, 0, t.val % 3] := (by decide +kernel : ∀ t : Fin grid0.N, _)
theorem e2 : ∀ t : Fin cfg0.N, win0_2.index t = ![t.val / 3, 0, t.val % 3 + 3] := (by decide +kernel : ∀ t : Fin grid0.N, _)
theorem e3 : ∀ t : Fin cfg0.N, win0_3.index t = ![t.val / 3, 0, t.val % 3 + 6] := (by decide +kernel : ∀ t : Fin grid0.N, _)
theorem e4 : ∀ t : Fin cfg0.N, win0_4.index t = ![t.val / 3, 0, t.val % 3] := (by decide +kernel : ∀ t : Fin grid0.N, _)
theorem e5 : ∀ t : Fin cfg0.N, win0_5.index t = ![t.val / 3, 0, t.val % 3] := (by decide +kernel : ∀ t : Fin grid0.N, _)

theorem lt12 (t : Fin cfg0.N) : t.val < 12 := t.isLt

/-- The batch of a grid point, and the head of its lane half `j`. -/
def bt (t : Fin cfg0.N) : Fin 4 := ⟨t.val / 3, by have := lt12 t; omega⟩
def hh (t : Fin cfg0.N) (j : Fin 2) : Fin 6 := ⟨2 * (t.val % 3) + j.val, by omega⟩
/-- A lane's column among a third's 384. -/
def col (t : Fin cfg0.N) (x : Fin 128) : Fin 384 := ⟨128 * (t.val % 3) + x.val, by omega⟩

theorem rd0 (X : S3x2.Idx → EReal) (t : Fin cfg0.N) (i : S3x2.Idx) :
    (((cfg0.win 0).blk t).view.read (Elt Ideal) X i : EReal) = X i := by
  blk_simp
  blk_ext [e0]

theorem ib0 (t : Fin cfg0.N) (i : S3x2.Idx) : (iblk m c 0 t i : EReal) = V m c main_cst i := rd0 (V m c main_cst) t i

theorem rd1 (X : S4x2048x1152.Idx → EReal) (t : Fin cfg0.N) (s : Fin 2048) (x : Fin 128) :
    (((cfg0.win 1).blk t).view.read (Elt Ideal) X (ix3 0 s x) : EReal) = X (ix3 (bt t) s ⟨(col t x).val, by have := (col t x).isLt; omega⟩) := by
  unfold bt col
  blk_simp
  blk_ext [e1]

theorem ib1 (t : Fin cfg0.N) (s : Fin 2048) (x : Fin 128) : (iblk m c 1 t (ix3 0 s x) : EReal)
    = V m c main_arg0 (ix3 (bt t) s ⟨(col t x).val, by have := (col t x).isLt; omega⟩) := rd1 (V m c main_arg0) t s x

theorem rd2 (X : S4x2048x1152.Idx → EReal) (t : Fin cfg0.N) (s : Fin 2048) (x : Fin 128) :
    (((cfg0.win 2).blk t).view.read (Elt Ideal) X (ix3 0 s x) : EReal) = X (ix3 (bt t) s ⟨384 + (col t x).val, by have := (col t x).isLt; omega⟩) := by
  unfold bt col
  blk_simp
  blk_ext [e2]

theorem ib2 (t : Fin cfg0.N) (s : Fin 2048) (x : Fin 128) : (iblk m c 2 t (ix3 0 s x) : EReal)
    = V m c main_arg0 (ix3 (bt t) s ⟨384 + (col t x).val, by have := (col t x).isLt; omega⟩) := rd2 (V m c main_arg0) t s x

theorem rd3 (X : S4x2048x1152.Idx → EReal) (t : Fin cfg0.N) (s : Fin 2048) (x : Fin 128) :
    (((cfg0.win 3).blk t).view.read (Elt Ideal) X (ix3 0 s x) : EReal) = X (ix3 (bt t) s ⟨768 + (col t x).val, by have := (col t x).isLt; omega⟩) := by
  unfold bt col
  blk_simp
  blk_ext [e3]

theorem ib3 (t : Fin cfg0.N) (s : Fin 2048) (x : Fin 128) : (iblk m c 3 t (ix3 0 s x) : EReal)
    = V m c main_arg0 (ix3 (bt t) s ⟨768 + (col t x).val, by have := (col t x).isLt; omega⟩) := rd3 (V m c main_arg0) t s x

theorem put4 (t : Fin cfg0.N) (y : S1x2048x128.Idx) : (win0_4.blk t).view.emb y = ix3 (bt t) (y 1) (col t (y 2)) := by
  unfold bt col
  blk_ext [e4]
theorem put5 (t : Fin cfg0.N) (y : S1x2048x128.Idx) : (win0_5.blk t).view.emb y = ix3 (bt t) (y 1) (col t (y 2)) := by
  unfold bt col
  blk_ext [e5]

theorem V_cst : V (F := Ideal) m c main_cst = fun i : S3x2.Idx => FloatOps.ofBits (F := Ideal) .f32 (lit0 (S3x2.rowMajor i)) := by
  dsimp only [V, hostOps0, List.flatten_cons, List.flatten_nil, List.append_nil, List.cons_append, List.nil_append]
  after_results
  sl_kernel_rfl

/-! ## The heads of a point -/

theorem col_div (t : Fin cfg0.N) (x : Fin 128) : (col t x).val / 64 = (hh t (hd x)).val := by
  show (128 * (t.val % 3) + x.val) / 64 = 2 * (t.val % 3) + x.val / 64
  omega

theorem col_mod (t : Fin cfg0.N) (x : Fin 128) : (col t x).val % 64 = (en x).val := by
  show (128 * (t.val % 3) + x.val) % 64 = x.val % 64
  omega

theorem col_eq (t : Fin cfg0.N) (x : Fin 128) : (col t x).val = (hh t (hd x)).val * 64 + (en x).val := by
  rw [← col_div t x, ← col_mod t x]
  omega

theorem head_of (t : Fin cfg0.N) (x : Fin 128) (h) : (⟨(col t x).val / 64, h⟩ : Fin 6) = hh t (hd x) := Fin.ext (col_div t x)
theorem lane_of (t : Fin cfg0.N) (x : Fin 128) (h) : (⟨(col t x).val % 64, h⟩ : Fin 64) = en x := Fin.ext (col_mod t x)

/-- The two heads of a point; their gradients play no part here. -/
def pair (X0 : S4x2048x1152.Idx → ℝ) (t : Fin cfg0.N) : Fin 2 → Head :=
  fun j => headAt X0 (fun _ => 0) (fun _ => 0) (bt t) (hh t j)

theorem fits_mk (co : Vec Ideal S3x2 .f32) (q k v : Vec Ideal S1x2048x128 .f32) (H : Fin 2 → Head)
    (hq : ∀ s x, (q (ix3 0 s x) : EReal) = (((H (hd x)).q s (en x) : ℝ) : EReal))
    (hk : ∀ s x, (k (ix3 0 s x) : EReal) = (((H (hd x)).k s (en x) : ℝ) : EReal))
    (hv : ∀ s x, (v (ix3 0 s x) : EReal) = (((H (hd x)).v s (en x) : ℝ) : EReal)) : Fits ⟨co, q, k, v⟩ H :=
  ⟨hq, hk, hv⟩

section
variable {m} {c} {X0 : S4x2048x1152.Idx → ℝ} (h0 : ∀ i, (m ((c : Thread nD τ).loc main_arg0) i : EReal) = ((X0 i : ℝ) : EReal))
include h0

theorem fits (t : Fin cfg0.N) : Fits (ins m c t) (pair X0 t) := by
  unfold ins
  refine fits_mk _ _ _ _ _ (fun s x => ?_) (fun s x => ?_) (fun s x => ?_)
  · exact ((ib1 m c t s x).trans ((congrFun (V_main_arg0 m c) _).trans (h0 _))).trans
      (congrArg (fun k => ((X0 (ix3 (bt t) s k) : ℝ) : EReal)) (Fin.ext (col_eq t x)))
  · exact ((ib2 m c t s x).trans ((congrFun (V_main_arg0 m c) _).trans (h0 _))).trans
      (congrArg (fun k => ((X0 (ix3 (bt t) s k) : ℝ) : EReal)) (Fin.ext (congrArg (384 + ·) (col_eq t x))))
  · exact ((ib3 m c t s x).trans ((congrFun (V_main_arg0 m c) _).trans (h0 _))).trans
      (congrArg (fun k => ((X0 (ix3 (bt t) s k) : ℝ) : EReal)) (Fin.ext (congrArg (768 + ·) (col_eq t x))))

end

/-! ## The bias coefficients -/

theorem c00 (t : Fin cfg0.N) : (Attn.coef (iblk m c 0 t) ![0, 0] inb_S3x2_S1x1_0_0 : EReal) = ((slope 0 * (dil 0 : ℝ) : ℝ) : EReal) := by
  rw [Attn.coef, ib0, V_cst]
  show Ideal.ofBits .f32 0x3ECB2FF5#32 = _
  simp [Attn.slope, Attn.dil, Ideal.ofBits, Ideal.ieee, -EReal.coe_mul] <;> norm_num
theorem c01 (t : Fin cfg0.N) : (Attn.coef (iblk m c 0 t) ![0, 1] inb_S3x2_S1x1_0_1 : EReal) = ((slope 1 * (dil 1 : ℝ) : ℝ) : EReal) := by
  rw [Attn.coef, ib0, V_cst]
  show Ideal.ofBits .f32 0x3E214518#32 = _
  simp [Attn.slope, Attn.dil, Ideal.ofBits, Ideal.ieee, -EReal.coe_mul] <;> norm_num
theorem c10 (t : Fin cfg0.N) : (Attn.coef (iblk m c 0 t) ![1, 0] inb_S3x2_S1x1_1_0 : EReal) = ((slope 2 * (dil 2 : ℝ) : ℝ) : EReal) := by
  rw [Attn.coef, ib0, V_cst]
  show Ideal.ofBits .f32 0x3E800000#32 = _
  simp [Attn.slope, Attn.dil, Ideal.ofBits, Ideal.ieee, -EReal.coe_mul] <;> norm_num
theorem c11 (t : Fin cfg0.N) : (Attn.coef (iblk m c 0 t) ![1, 1] inb_S3x2_S1x1_1_1 : EReal) = ((slope 3 * (dil 3 : ℝ) : ℝ) : EReal) := by
  rw [Attn.coef, ib0, V_cst]
  show Ideal.ofBits .f32 0x3DCB2FF5#32 = _
  simp [Attn.slope, Attn.dil, Ideal.ofBits, Ideal.ieee, -EReal.coe_mul] <;> norm_num
theorem c20 (t : Fin cfg0.N) : (Attn.coef (iblk m c 0 t) ![2, 0] inb_S3x2_S1x1_2_0 : EReal) = ((slope 4 * (dil 4 : ℝ) : ℝ) : EReal) := by
  rw [Attn.coef, ib0, V_cst]
  show Ideal.ofBits .f32 0x3E214518#32 = _
  simp [Attn.slope, Attn.dil, Ideal.ofBits, Ideal.ieee, -EReal.coe_mul] <;> norm_num
theorem c21 (t : Fin cfg0.N) : (Attn.coef (iblk m c 0 t) ![2, 1] inb_S3x2_S1x1_2_1 : EReal) = ((slope 5 * (dil 5 : ℝ) : ℝ) : EReal) := by
  rw [Attn.coef, ib0, V_cst]
  show Ideal.ofBits .f32 0x3D800000#32 = _
  simp [Attn.slope, Attn.dil, Ideal.ofBits, Ideal.ieee, -EReal.coe_mul] <;> norm_num

/-! ## What a point leaves -/

theorem is1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem is2 : ∀ t : Fin cfg0.N, k0_cond2 (grid0.coords t) = 1#1 ↔ t.val % 3 = 1 :=
  (by decide +kernel : ∀ t : Fin grid0.N, k0_cond2 (grid0.coords t) = 1#1 ↔ t.val % 3 = 1)

theorem hh_of (t : Fin cfg0.N) (p : ℕ) (h : t.val % 3 = p) (j : Fin 2) (k : Fin 6) (hk : k.val = 2 * p + j.val) : hh t j = k :=
  Fin.ext (by show 2 * (t.val % 3) + j.val = k.val; omega)

section
variable {m} {c} {X0 : S4x2048x1152.Idx → ℝ}

theorem pair_d (t : Fin cfg0.N) (p n : ℕ) (h : t.val % 3 = p) (k0 k1 : Fin 6) (h0 : k0.val = 2 * p) (h1 : k1.val = 2 * p + 1)
    (e0 : dil k0 = n) (e1 : dil k1 = n) (j : Fin 2) : (pair X0 t j).d = n := by
  show dil (hh t j) = n
  match j with
  | 0 => rw [hh_of t p h 0 k0 (by rw [h0]; rfl), e0]
  | 1 => rw [hh_of t p h 1 k1 (by rw [h1]; rfl), e1]

theorem pair_ad (t : Fin cfg0.N) (p : ℕ) (h : t.val % 3 = p) (j : Fin 2) (k : Fin 6) (hk : k.val = 2 * p + j.val) :
    (pair X0 t j).a * ((pair X0 t j).d : ℝ) = slope k * (dil k : ℝ) := by
  show slope (hh t j) * (dil (hh t j) : ℝ) = _
  rw [hh_of t p h j k hk]

variable (h0 : ∀ i, (m ((c : Thread nD τ).loc main_arg0) i : EReal) = ((X0 i : ℝ) : EReal))
include h0

theorem leaves (t : Fin cfg0.N) (σ : Outs Ideal) : Heads (ran (grid0.coords t) (ins m c t) σ) (pair X0 t) := by
  have X := fits h0 t
  have hco : (ins m c t).co = iblk m c 0 t := rfl
  unfold ran
  by_cases p0 : t.val % 3 = 0
  · rw [if_pos ((is1 t).mpr p0)]
    refine heads1 X σ (pair_d t 0 1 p0 0 1 rfl rfl rfl rfl) ?_ ?_
    · rw [pair_ad t 0 p0 0 0 rfl, hco, c00]
    · rw [pair_ad t 0 p0 1 1 rfl, hco, c01]
  · rw [if_neg (fun h => p0 ((is1 t).mp h))]
    by_cases p1 : t.val % 3 = 1
    · rw [if_pos ((is2 t).mpr p1)]
      refine heads2 X σ (pair_d t 1 4 p1 2 3 rfl rfl rfl rfl) ?_ ?_
      · rw [pair_ad t 1 p1 0 2 rfl, hco, c10]
      · rw [pair_ad t 1 p1 1 3 rfl, hco, c11]
    · rw [if_neg (fun h => p1 ((is2 t).mp h))]
      have p2 : t.val % 3 = 2 := by omega
      refine heads3 X σ (pair_d t 2 16 p2 4 5 rfl rfl rfl rfl) ?_ ?_
      · rw [pair_ad t 2 p2 0 4 rfl, hco, c20]
      · rw [pair_ad t 2 p2 1 5 rfl, hco, c21]

end

/-! ## The reference's arrays -/

theorem ref_o (x : S4x2048x1152.Idx → EReal) : Cert.Reference7Ideal.Read.val_main_v67 (F := Ideal) x
    = Attn.side (Cert.ReferenceIdeal.Read.val_main_v67 (F := Ideal) x) := by
  sl_kernel_rfl

theorem ref_l (x : S4x2048x1152.Idx → EReal) : Cert.Reference7Ideal.Read.val_main_v71 (F := Ideal) x
    = Attn.spread (Cert.ReferenceIdeal.Read.val_main_v73 (F := Ideal) x) := by
  sl_kernel_rfl

section
variable {m} {c} {X0 : S4x2048x1152.Idx → ℝ} (h0 : ∀ i, (m ((c : Thread nD τ).loc main_arg0) i : EReal) = ((X0 i : ℝ) : EReal))
include h0

theorem blk_o (t : Fin cfg0.N) (s : Fin 2048) (x : Fin 128) : ((left m c t).o (ix3 0 s x) : EReal)
    = Attn.side (Cert.ReferenceIdeal.Read.val_main_v67 (F := Ideal) (m ((c : Thread nD τ).loc main_arg0))) (ix3 (bt t) s (col t x)) := by
  refine ((leaves h0 t _).o s x).trans ((Attn.side_at _ (bt t) s (col t x)).trans ?_).symm
  rw [head_of, lane_of]
  exact Attn.o_at (X1 := fun _ => 0) (X2 := fun _ => 0) h0 (bt t) (hh t (hd x)) s (en x)

theorem blk_l (t : Fin cfg0.N) (s : Fin 2048) (x : Fin 128) : ((left m c t).l (ix3 0 s x) : EReal)
    = Attn.spread (Cert.ReferenceIdeal.Read.val_main_v73 (F := Ideal) (m ((c : Thread nD τ).loc main_arg0))) (ix3 (bt t) s (col t x)) := by
  refine ((leaves h0 t _).l s x).trans ((Attn.spread_at _ (bt t) s (col t x)).trans ?_).symm
  rw [head_of]
  exact Attn.lse_at (X1 := fun _ => 0) (X2 := fun _ => 0) h0 (bt t) (hh t (hd x)) s

theorem all_o : (dats m 0 c).arrAt 4 cfg0.N = Cert.Reference7Ideal.Read.val_main_v67 (F := Ideal) (m ((c : Thread nD τ).loc main_arg0)) := by
  rw [ref_o]
  refine (dats m 0 c).arrAt_eq_of_covers 4 _ (by decide +kernel) fun t hf y => ?_
  rw [after_4]
  refine Eq.trans ?_ ((blk_o h0 t (y 1) (y 2)).trans (congrArg _ (put4 t y).symm))
  exact congrArg (left m c t).o (Attn.flat y)

theorem all_l : (dats m 0 c).arrAt 5 cfg0.N = Cert.Reference7Ideal.Read.val_main_v71 (F := Ideal) (m ((c : Thread nD τ).loc main_arg0)) := by
  rw [ref_l]
  refine (dats m 0 c).arrAt_eq_of_covers 5 _ (by decide +kernel) fun t hf y => ?_
  rw [after_5]
  refine Eq.trans ?_ ((blk_l h0 t (y 1) (y 2)).trans (congrArg _ (put5 t y).symm))
  exact congrArg (left m c t).l (Attn.flat y)

end

/-! ## The claim -/

theorem finite_at (h : Cert.Pre_Kernel7Ideal_finite7 m) (i) : (m ((c : Thread nD τ).loc main_arg0) i : EReal)
    = (((m ((c : Thread nD τ).loc main_arg0) i : EReal).toReal : ℝ) : EReal) :=
  Attn.real_of _ (congrFun (h c) i)

theorem algebraic : Cert.algebraic_Kernel7Ideal_Reference7Ideal_pre_finite7 := by
  intro m g m' g' hpre hagree
  refine ⟨fun c => (dats m 0 c).arrAt 4 cfg0.N, fun c => (dats m 0 c).arrAt 5 cfg0.N, ?_, ?_⟩
  · refine (θ_run defs _ _).mono (fun r h c => ?_) (θ_run_and (launched m g) (quiet m g))
    obtain ⟨⟨hp, _⟩, hq, _⟩ := h
    exact ⟨(hp c).1 4, (hp c).1 5, hq c⟩
  · refine (θ_run Cert.Reference7Ideal.defs _ _).mono (fun r h c => ?_) (Cert.Reference7Ideal.Value.run (F := Ideal) m' g')
    obtain ⟨ho, hl, ha⟩ := h c
    refine ⟨ho.trans ?_, hl.trans ?_, ha⟩
    · dsimp only
      rw [all_o (finite_at m c hpre), Cert.Reference7Ideal.Read.val_main_v67_eq, hagree c]
    · dsimp only
      rw [all_l (finite_at m c hpre), Cert.Reference7Ideal.Read.val_main_v71_eq, hagree c]

end Cert.Fwd

end
-- ==== Proof.ConvParts.lean ====
/- The convolution backward's body, part by part: from the inputs at their contents and the outputs and the scratch at any, to the same. -/
module

public import proofs.«01_k».proof.Proof.Gen.Kernel8Ideal.Frame
public import proofs.«01_k».proof.Proof.Gen.Kernel8Ideal.Loops
public import proofs.«01_k».proof.Defs

@[expose] public section

set_option maxRecDepth 16384

noncomputable section

namespace Cert.Conv

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs that the body runs on, all whole. -/
structure Refs where
  a1 : Memref sig .tc .vmem S1x2048x512 .f32
  h1 : a1.IsWhole
  a2 : Memref sig .tc .vmem S1x2048x256 .f32
  h2 : a2.IsWhole
  a3 : Memref sig .tc .vmem S1x2048x256 .f32
  h3 : a3.IsWhole
  a4 : Memref sig .tc .vmem S31x256 .f32
  h4 : a4.IsWhole
  a5 : Memref sig .tc .vmem S1x256 .f32
  h5 : a5.IsWhole
  a6 : Memref sig .tc .vmem S1x256 .f32
  h6 : a6.IsWhole
  a7 : Memref sig .tc .vmem S1x2048x512 .bf16
  h7 : a7.IsWhole
  a8 : Memref sig .tc .vmem S31x256 .f32
  h8 : a8.IsWhole
  a9 : Memref sig .tc .vmem S1x256 .f32
  h9 : a9.IsWhole
  a10 : Memref sig .tc .vmem S1x256 .f32
  h10 : a10.IsWhole
  a11 : Memref sig .tc .vmem S1x256 .f32
  h11 : a11.IsWhole
  a12 : Memref sig .tc .vmem S2080x256 .f32
  h12 : a12.IsWhole
  a13 : Memref sig .tc .vmem S2080x256 .f32
  h13 : a13.IsWhole
  a14 : Memref sig .tc .vmem S248x256 .f32
  h14 : a14.IsWhole

/-- What a memref's buffer holds, raw. -/
abbrev at_ (c : Dev nD) {ms : Space} {s : Shape} {e : EltTy} (a : Memref sig .tc ms s e) (f : BufTy.Contents (Elt F) a.view.ty) : sProp 𝕄 :=
  a.view.loc (c : Thread nD τ) ↦[a.view.set]{fullShare} f

/-- What the six inputs hold. -/
structure Ins (A : Refs) where
  X1 : BufTy.Contents (Elt F) A.a1.view.ty
  X2 : BufTy.Contents (Elt F) A.a2.view.ty
  X3 : BufTy.Contents (Elt F) A.a3.view.ty
  X4 : BufTy.Contents (Elt F) A.a4.view.ty
  X5 : BufTy.Contents (Elt F) A.a5.view.ty
  X6 : BufTy.Contents (Elt F) A.a6.view.ty

variable (c : Dev nD) (i : grid0.Coords) (A : Refs) (I : Ins (F := F) A)

/-- The inputs at their contents, the outputs and the scratch at any. -/
def keeps : sProp 𝕄 :=
  iprop(at_ c A.a1 I.X1 ∗ at_ c A.a2 I.X2 ∗ at_ c A.a3 I.X3 ∗ at_ c A.a4 I.X4 ∗ at_ c A.a5 I.X5 ∗ at_ c A.a6 I.X6
    ∗ (∃ f, at_ c A.a7 f) ∗ (∃ f, at_ c A.a8 f) ∗ (∃ f, at_ c A.a9 f) ∗ (∃ f, at_ c A.a10 f) ∗ (∃ f, at_ c A.a11 f)
    ∗ (∃ f, at_ c A.a12 f) ∗ (∃ f, at_ c A.a13 f) ∗ (∃ f, at_ c A.a14 f))

theorem keeps_of (f7 f8 f9 f10 f11 f12 f13 f14) :
    iprop(at_ c A.a1 I.X1 ∗ at_ c A.a2 I.X2 ∗ at_ c A.a3 I.X3 ∗ at_ c A.a4 I.X4 ∗ at_ c A.a5 I.X5 ∗ at_ c A.a6 I.X6
      ∗ at_ c A.a7 f7 ∗ at_ c A.a8 f8 ∗ at_ c A.a9 f9 ∗ at_ c A.a10 f10 ∗ at_ c A.a11 f11
      ∗ at_ c A.a12 f12 ∗ at_ c A.a13 f13 ∗ at_ c A.a14 f14) ⊢ (keeps c A I : sProp 𝕄) := by
  unfold keeps
  iintro ⟨H1, H2, H3, H4, H5, H6, H7, H8, H9, H10, H11, H12, H13, H14⟩
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The body leaves what it found. -/
abbrev quiets (p : Prog (TpuEff nD τ sig (Elt F) Λ₀ .tc) PUnit) : Prop :=
  keeps c A I ⊢ wp frame (wpE (defs₀ (F := F)) Variants.none (c : Thread nD τ) none) Set.univ p (fun _ => (keeps c A I : sProp 𝕄))

set_option maxHeartbeats 4000000 in
theorem body_quiets : quiets c A I (cc0_conv_bwd i A.a1 A.h1 A.a2 A.h2 A.a3 A.h3 A.a4 A.h4 A.a5 A.h5 A.a6 A.h6 A.a7 A.h7 A.a8 A.h8 A.a9 A.h9
    A.a10 A.h10 A.a11 A.h11 A.a12 A.h12 A.a13 A.h13 A.a14 A.h14) := by
  obtain ⟨a1, h1, a2, h2, a3, h3, a4, h4, a5, h5, a6, h6, a7, h7, a8, h8, a9, h9, a10, h10, a11, h11, a12, h12, a13, h13, a14, h14⟩ := A
  obtain ⟨X1, X2, X3, X4, X5, X6⟩ := I
  unfold quiets
  rw [cc0_conv_bwd_eq_skeleton]; unfold cc0_conv_bwd_skel
  simp only [k0_part28_eq_skeleton, k0_part29_eq_skeleton, k0_part30_eq_skeleton, k0_part31_eq_skeleton, k0_part32_eq_skeleton,
    k0_part33_eq_skeleton, k0_part34_eq_skeleton, k0_part35_eq_skeleton]
  conv => lhs; unfold keeps
  dsimp only
  by_cases hc : Scalar.cmpi .ne (Scalar.extui (Scalar.cmpi .eq (BitVec.ofNat 32 (i 0).val) 0#32) : BitVec 32) 0#32 = 1#1
  · iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
    sl_exec (disch := sl_exact hc)
    sl_step
    iapply (keeps_of c _ _ _ _ _ _ _ _ _ _)
    sl_close
  · iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩⟩
    sl_exec (disch := sl_exact hc)
    sl_step
    iapply (keeps_of c _ _ _ _ _ _ _ _ _ _)
    sl_close

end Cert.Conv
-- ==== Proof.ConvFrame.lean ====
/- The convolution backward's run and frame. Nothing is said of what its outputs hold. -/
module

public import proofs.«01_k».proof.Proof.ConvParts

@[expose] public section

set_option maxRecDepth 16384

noncomputable section

namespace Cert.Conv

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs are forgotten, -/
def outs (w : Fin cfg0.W) : Bool := decide (6 ≤ w.val)

/-- so of them anything may stand here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The staging buffers at a point, and the scratch. -/
abbrev refs (t : Fin cfg0.N) : Refs where
  a1 := st0_0 t
  h1 := hstage0_0 ((cfg0.slots t 0).cast nbuf0_0)
  a2 := st0_1 t
  h2 := hstage0_1 ((cfg0.slots t 1).cast nbuf0_1)
  a3 := st0_2 t
  h3 := hstage0_2 ((cfg0.slots t 2).cast nbuf0_2)
  a4 := st0_3 t
  h4 := hstage0_3 ((cfg0.slots t 3).cast nbuf0_3)
  a5 := st0_4 t
  h5 := hstage0_4 ((cfg0.slots t 4).cast nbuf0_4)
  a6 := st0_5 t
  h6 := hstage0_5 ((cfg0.slots t 5).cast nbuf0_5)
  a7 := st0_6 t
  h7 := hstage0_6 ((cfg0.slots t 6).cast nbuf0_6)
  a8 := st0_7 t
  h8 := hstage0_7 ((cfg0.slots t 7).cast nbuf0_7)
  a9 := st0_8 t
  h9 := hstage0_8 ((cfg0.slots t 8).cast nbuf0_8)
  a10 := st0_9 t
  h10 := hstage0_9 ((cfg0.slots t 9).cast nbuf0_9)
  a11 := st0_10 t
  h11 := hstage0_10 ((cfg0.slots t 10).cast nbuf0_10)
  a12 := Memref.whole cc0_scratch0
  h12 := Memref.isWhole_whole _
  a13 := Memref.whole cc0_scratch1
  h13 := Memref.isWhole_whole _
  a14 := Memref.whole cc0_scratch2
  h14 := Memref.isWhole_whole _

/-- The inputs at a point, and -/
def held (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t))

/-- the outputs, at any contents. -/
def spare (c : Dev nD) (t : Fin cfg0.N) : sProp 𝕄 :=
  iprop((∃ X, owns (c : Thread nD τ) (st0_6 t) fullShare X) ∗ (∃ X, owns (c : Thread nD τ) (st0_7 t) fullShare X)
    ∗ (∃ X, owns (c : Thread nD τ) (st0_8 t) fullShare X) ∗ (∃ X, owns (c : Thread nD τ) (st0_9 t) fullShare X)
    ∗ (∃ X, owns (c : Thread nD τ) (st0_10 t) fullShare X))

theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f)) ∗ ∃ r, prngReg c r) := by
  unfold Pipeline.ΦA; rw [scopedRest0_eq]; simp only [owns_whole]; try rfl

set_option maxHeartbeats 4000000 in
theorem runs (c : Dev nD) (t : Fin cfg0.N) :
    iprop(Pipeline.ΦA spec0 c ∗ held m c t ∗ spare c t)
      ⊢ wp frame (wpE (defs₀ (F := F)) Variants.none (c : Thread nD τ) none) Set.univ (bodyAt0 t)
          (fun _ => iprop(Pipeline.ΦA spec0 c ∗ held m c t ∗ spare c t)) := by
  rw [scratch_eq]
  unfold held spare owns
  iintro ⟨⟨⟨⟨%d12, %f12, -, H12⟩, ⟨%d13, %f13, -, H13⟩, ⟨%d14, %f14, -, H14⟩⟩, Hr⟩, ⟨⟨%f1, %e1, H1⟩, ⟨%f2, %e2, H2⟩, ⟨%f3, %e3, H3⟩, ⟨%f4, %e4, H4⟩, ⟨%f5, %e5, H5⟩, ⟨%f6, %e6, H6⟩⟩,
    ⟨%d7, %f7, -, H7⟩, ⟨%d8, %f8, -, H8⟩, ⟨%d9, %f9, -, H9⟩, ⟨%d10, %f10, -, H10⟩, ⟨%d11, %f11, -, H11⟩⟩
  iapply (wp_wand_r frame (wpE (defs₀ (F := F)) Variants.none (c : Thread nD τ) none) Set.univ)
  isplitl [H1 H2 H3 H4 H5 H6 H7 H8 H9 H10 H11 H12 H13 H14]
  · iapply (body_quiets c (grid0.coords t) (refs t) ⟨f1, f2, f3, f4, f5, f6⟩)
    iapply (keeps_of c (refs t) ⟨f1, f2, f3, f4, f5, f6⟩ f7 f8 f9 f10 f11 f12 f13 f14)
    dsimp only [at_]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_
    unfold keeps
    dsimp only [at_]
    iintro ⟨H1, H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩⟩
    isplitl [H12 H13 H14 Hr]
    · isplitl [H12 H13 H14]
      · isplitl [H12]
        · iexists _; iexists g12; isplitr; · ipureintro; rfl
          iexact H12
        isplitl [H13]
        · iexists _; iexists g13; isplitr; · ipureintro; rfl
          iexact H13
        iexists _; iexists g14; isplitr; · ipureintro; rfl
        iexact H14
      iexact Hr
    isplitl [H1 H2 H3 H4 H5 H6]
    · isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists f4; isplitr; · ipureintro; exact e4
        iexact H4
      isplitl [H5]
      · iexists f5; isplitr; · ipureintro; exact e5
        iexact H5
      iexists f6; isplitr; · ipureintro; exact e6
      iexact H6
    isplitl [H7]
    · iexists _; iexists g7; isplitr; · ipureintro; rfl
      iexact H7
    isplitl [H8]
    · iexists _; iexists g8; isplitr; · ipureintro; rfl
      iexact H8
    isplitl [H9]
    · iexists _; iexists g9; isplitr; · ipureintro; rfl
      iexact H9
    isplitl [H10]
    · iexists _; iexists g10; isplitr; · ipureintro; rfl
      iexact H10
    iexists _; iexists g11; isplitr; · ipureintro; rfl
    iexact H11

theorem row_eq (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ outs := fun t => by
  rw [bigSep_W0, bigSep_W0, row_eq]
  simp only [show outs 0 = false from rfl, show outs 1 = false from rfl, show outs 2 = false from rfl, show outs 3 = false from rfl,
    show outs 4 = false from rfl, show outs 5 = false from rfl, show outs 6 = true from rfl, show outs 7 = true from rfl,
    show outs 8 = true from rfl, show outs 9 = true from rfl, show outs 10 = true from rfl]
  simp only [before_0, before_1, before_2, before_3, before_4, before_5]
  rw [show (dats m 0 c).Φ t.castSucc = Pipeline.ΦA spec0 c from rfl, show (dats m 0 c).Φ t.succ = Pipeline.ΦA spec0 c from rfl]
  iintro ⟨HΦ, Ho, ⟨%d0, H0⟩, ⟨%d1, H1⟩, ⟨%d2, H2⟩, ⟨%d3, H3⟩, ⟨%d4, H4⟩, ⟨%d5, H5⟩, H6, H7, H8, H9, H10⟩
  iapply (wp_wand_r frame (wpE (defs₀ (F := F)) Variants.none (c : Thread nD τ) none) Set.univ)
  isplitl [HΦ H0 H1 H2 H3 H4 H5 H6 H7 H8 H9 H10]
  · iapply (runs m c t)
    unfold held spare
    isplitl [HΦ]; · iexact HΦ
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    iexact H10
  · iintro %_
    unfold held spare
    iintro ⟨HΦ, ⟨H0, H1, H2, H3, H4, H5⟩, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option backward.isDefEq.respectTransparency.types false in
set_option maxHeartbeats 4000000 in
theorem launched : θ_run defs (onTc (τ := τ) (main (F := F))) (s₀ m ρ)
    (fun r => (Pipeline.RDat.FramePost cfg0 (fun c => (dats m 0 c).toRForget outs) (V m)) r ∧ r.2.sem = fun _ => 0) :=
  Pipeline.θ_run_frame_forget (Q' := _) cfgs (dats m) (0 : Fin 1) launch0 defs₀ Variants.none outs m ρ main
    (hbody := fun c => (obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The kernel's frame, over the bits and over the reals. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : Pipeline.RDat.FramePost cfg0 (fun c => (dats m 0 c).toRForget outs) (V m) r ∧ _) => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 3 rfl).trans ((A_eq m c 3).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 2 rfl).trans ((A_eq m c 2).trans (V_main_arg6 m c))⟩, h.2⟩) (launched m ρ)

end Cert.Conv
-- ==== Proof.ConvFBody.lean ====
/- The convolution forward's body: what its two loops leave in the padded gate, the convolution and the output. -/
module

public import proofs.«01_k».proof.Proof.Gen.Kernel13Ideal.Frame
public import proofs.«01_k».proof.Proof.Gen.Kernel13Ideal.Skeleton
public import proofs.«01_k».proof.Proof.AttnTiles
public import proofs.«01_k».proof.Defs
public import Idealize.ShloMosaic.Lib.Exec
public import Idealize.ShloMosaic.Lib.Pipeline.ValueKit
public import Idealize.ShloMosaic.Lib.ValueIdxCore

@[expose] public section

set_option maxRecDepth 16384

noncomputable section

namespace Cert.ConvF

open Cert.Kernel13Ideal Cert.Kernel13Ideal.Gen
open Cert.Attn (put read_writes_put put_emb put_miss)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- What the body is given: the two gate halves, the taps, their bias, and the layernorm's scale and shift. -/
structure Ins (F : FTy → Type) where
  ci : Vec F S1x2048x512 .f32
  w : Vec F S31x256 .f32
  b : Vec F S1x256 .f32
  g : Vec F S1x256 .f32
  e : Vec F S1x256 .f32

/-- The gated rows of a chunk, -/
abbrev gated (I : Ins F) (t : Fin k0_t1_loop.trips) : FVec F S128x256 .f32 :=
  k0_pay2 (View.ld I.ci (Rect.unit (s := S1x2048x512) (k0_off1 t) S1x128x512.size (k0_off1_inb t)))

/-- and all of them below 32 rows of zeros. -/
def padded (I : Ins F) : Vec F S2080x256 .f32 := fun y =>
  if h : (y 0).val < 32 then k0_pay1 (F := F) (ix2 ⟨(y 0).val, h⟩ (y 1))
  else gated I ⟨((y 0).val - 32) / 128, by have := (y 0).isLt; change (y 0).val < 2080 at this; change _ < 16; omega⟩
    (ix2 ⟨((y 0).val - 32) % 128, Nat.mod_lt _ (by decide)⟩ (y 1))

theorem tap_inb (k : Fin 31) (o : ℕ) (h : o + 128 ≤ 256) : ∀ a, (![k.val, o] : Fin 2 → ℕ) a + S1x128.size a ≤ S31x256.size a := by
  intro a
  fin_cases a
  · change k.val + 1 ≤ 31; omega
  · exact h

/-- One tap's weights for half of the channels. -/
abbrev tapL (I : Ins F) (k : Fin 31) : Vec F S1x128 .f32 :=
  View.ld I.w (Rect.unit (s := S31x256) ![k.val, 0] S1x128.size (tap_inb k 0 (by decide)))
abbrev tapR (I : Ins F) (k : Fin 31) : Vec F S1x128 .f32 :=
  View.ld I.w (Rect.unit (s := S31x256) ![k.val, 128] S1x128.size (tap_inb k 128 (by decide)))

/-- A window's rows weighted by the taps and summed. -/
def left (x : Vec F S160x128 .f32) (b : Vec F S1x128 .f32) (w : Fin 31 → Vec F S1x128 .f32) : FVec F S1x128x128 .f32 :=
  k0_pay12 (k0_pay10 x) (k0_pay11 x (k0_pay8 x) (k0_pay9 x (k0_pay6 x) (k0_pay7 x (k0_pay4 x)
    (k0_pay5 x b (w 30) (w 22) (w 14) (w 6) (w 29) (w 21)) (w 13) (w 5) (w 28) (w 20) (w 12) (w 4) (w 27) (w 19))
    (w 11) (w 3) (w 26) (w 18) (w 10) (w 2) (w 25) (w 17)) (w 9) (w 1) (w 24) (w 16) (w 8) (w 0) (w 23) (w 15)) (w 7)

def right (x : Vec F S160x128 .f32) (b : Vec F S1x128 .f32) (w : Fin 31 → Vec F S1x128 .f32) : FVec F S1x128x128 .f32 :=
  k0_pay21 (k0_pay19 x) (k0_pay20 x (k0_pay17 x) (k0_pay18 x (k0_pay15 x) (k0_pay16 x (k0_pay13 x)
    (k0_pay14 x b (w 30) (w 22) (w 14) (w 6) (w 29)) (w 21) (w 13) (w 5) (w 28) (w 20) (w 12) (w 4) (w 27))
    (w 19) (w 11) (w 3) (w 26) (w 18) (w 10) (w 2) (w 25)) (w 17) (w 9) (w 1) (w 24) (w 16) (w 8) (w 0) (w 23)) (w 15) (w 7)

/-- Both halves are the same sum. -/
theorem right_eq (x : Vec F S160x128 .f32) (b : Vec F S1x128 .f32) (w : Fin 31 → Vec F S1x128 .f32) : right x b w = left x b w := rfl

/-- The convolution's rows of a chunk, each half of the channels from its window of `p`, -/
def convL (I : Ins F) (p : Vec F S2080x256 .f32) (t : Fin k0_t2_loop.trips) : FVec F S1x128x128 .f32 :=
  left (View.ld p (Rect.unit (s := S2080x256) (k0_off3 t) S160x128.size (k0_off3_inb t)))
    (View.ld I.b (Rect.unit (s := S1x256) ![0, 0] S1x128.size inb_S1x256_S1x128_0_0)) (tapL I)
def convR (I : Ins F) (p : Vec F S2080x256 .f32) (t : Fin k0_t2_loop.trips) : FVec F S1x128x128 .f32 :=
  right (View.ld p (Rect.unit (s := S2080x256) (k0_off5 t) S160x128.size (k0_off5_inb t)))
    (View.ld I.b (Rect.unit (s := S1x256) ![0, 128] S1x128.size inb_S1x256_S1x128_0_128)) (tapR I)

/-- and its normalised rows through the activation. -/
def act (I : Ins F) (u : Vec F S1x128x256 .f32) : FVec F S1x128x256 .bf16 :=
  k0_pay3 (k0_pay22 u (View.ld I.g (Rect.unit (s := S1x256) ![0, 0] S1x256.size inb_S1x256_S1x256_0_0))
      (View.ld I.e (Rect.unit (s := S1x256) ![0, 0] S1x256.size inb_S1x256_S1x256_0_0)))
    (k0_pay23 u (View.ld I.g (Rect.unit (s := S1x256) ![0, 0] S1x256.size inb_S1x256_S1x256_0_0))
      (View.ld I.e (Rect.unit (s := S1x256) ![0, 0] S1x256.size inb_S1x256_S1x256_0_0)))

abbrev rectP (t : Fin k0_t1_loop.trips) : Rect S2080x256 := Rect.unit (s := S2080x256) (k0_off2 t) S128x256.size (k0_off2_inb t)
abbrev rectL (t : Fin k0_t2_loop.trips) : Rect S1x2048x256 := Rect.unit (s := S1x2048x256) (k0_off4 t) S1x128x128.size (k0_off4_inb t)
abbrev rectR (t : Fin k0_t2_loop.trips) : Rect S1x2048x256 := Rect.unit (s := S1x2048x256) (k0_off6 t) S1x128x128.size (k0_off6_inb t)
abbrev rectA (t : Fin k0_t2_loop.trips) : Rect S1x2048x256 := Rect.unit (s := S1x2048x256) (k0_off7 t) S1x128x256.size (k0_off7_inb t)

/-- The convolution's array after a trip. -/
def conv (I : Ins F) (p : Vec F S2080x256 .f32) (t : Fin k0_t2_loop.trips) (u : Vec F S1x2048x256 .f32) : Vec F S1x2048x256 .f32 :=
  put (put u ⟨rectL t, convL I p t⟩) ⟨rectR t, convR I p t⟩

section Body
variable (c : Dev nD) (i : grid0.Coords) (a1 : Memref sig .tc .vmem S1x2048x512 .f32) (h1 : a1.IsWhole)
  (a2 : Memref sig .tc .vmem S31x256 .f32) (h2 : a2.IsWhole) (a3 : Memref sig .tc .vmem S1x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x2048x256 .bf16) (h6 : a6.IsWhole) (a7 : Memref sig .tc .vmem S1x2048x256 .f32) (h7 : a7.IsWhole)
  (a8 : Memref sig .tc .vmem S2080x256 .f32) (h8 : a8.IsWhole)

/-- The inputs as they were, the output at `y`, the convolution at `u` and the scratch at `p`. -/
def holds (I : Ins F) (y : Vec F S1x2048x256 .bf16) (u : Vec F S1x2048x256 .f32) (p : Vec F S2080x256 .f32) : sProp 𝕄 :=
  iprop(owns (c : Thread nD τ) a1 fullShare I.ci ∗ owns (c : Thread nD τ) a2 fullShare I.w ∗ owns (c : Thread nD τ) a3 fullShare I.b
    ∗ owns (c : Thread nD τ) a4 fullShare I.g ∗ owns (c : Thread nD τ) a5 fullShare I.e ∗ owns (c : Thread nD τ) a6 fullShare y
    ∗ owns (c : Thread nD τ) a7 fullShare u ∗ owns (c : Thread nD τ) a8 fullShare p)

set_option maxHeartbeats 2000000 in
theorem trip1 (t : Fin k0_t1_loop.trips) (I : Ins F) (y : Vec F S1x2048x256 .bf16) (u : Vec F S1x2048x256 .f32) (p : Vec F S2080x256 .f32) :
    holds c a1 a2 a3 a4 a5 a6 a7 a8 I y u p
      ⊢ wp frame (wpE (defs₀ (F := F)) Variants.none (c : Thread nD τ) none) Set.univ
          (k0_t1_body i a1 h1 a2 h2 a3 h3 a4 h4 a5 h5 a6 h6 a7 h7 a8 h8 t ⟨⟩)
          (fun _ => holds c a1 a2 a3 a4 a5 a6 a7 a8 I y u (put p ⟨rectP t, gated I t⟩)) := by
  obtain ⟨x1, x2, x3, x4, x5⟩ := I
  unfold holds k0_t1_body
  dsimp only
  unfold owns
  iintro ⟨⟨%f1, %e1, H1⟩, H2, H3, H4, H5, H6, H7, ⟨%f8, %e8, H8⟩⟩
  subst e1 e8
  sl_exec
  sl_step
  isplitl [H1]; · iexists f1; isplitr; · ipureintro; rfl
                  iexact H1
  isplitl [H2]; · iexact H2
  isplitl [H3]; · iexact H3
  isplitl [H4]; · iexact H4
  isplitl [H5]; · iexact H5
  isplitl [H6]; · iexact H6
  isplitl [H7]; · iexact H7
  iexists _; isplitr
  swap; · iexact H8
  ipureintro
  exact read_writes_put a8.view f8 ⟨rectP t, _⟩ []

end Body

end Cert.ConvF
-- ==== Proof.ConvFTrip.lean ====
/- One trip of the convolution forward's second loop. -/
module

public import proofs.«01_k».proof.Proof.ConvFBody
public import Idealize.ShloMosaic.Lib.Exec
public import Idealize.ShloMosaic.Lib.Pipeline.ValueKit
public import Idealize.ShloMosaic.Lib.ValueIdxCore

@[expose] public section

set_option maxRecDepth 16384

noncomputable section

namespace Cert.ConvF

open Cert.Kernel13Ideal Cert.Kernel13Ideal.Gen
open Cert.Attn (put read_writes_put put_emb put_miss)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (c : Dev nD) (i : grid0.Coords) (a1 : Memref sig .tc .vmem S1x2048x512 .f32) (h1 : a1.IsWhole)
  (a2 : Memref sig .tc .vmem S31x256 .f32) (h2 : a2.IsWhole) (a3 : Memref sig .tc .vmem S1x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x2048x256 .bf16) (h6 : a6.IsWhole) (a7 : Memref sig .tc .vmem S1x2048x256 .f32) (h7 : a7.IsWhole)
  (a8 : Memref sig .tc .vmem S2080x256 .f32) (h8 : a8.IsWhole)

/-- A load the stores before it cover, as a load from the stored pieces over any contents. -/
theorem read_cov {s : Shape} {e : EltTy} (a : Memref sig .tc .vmem s e) (L : List (View.Piece (Elt F) s e)) (r : Rect s) :
    a.view.readCov L r.toLoadRect = View.ld (a.view.read (Elt F) (a.view.writes (Elt F) a.view.junk L)) r := rfl

set_option maxHeartbeats 1000000 in
theorem trip2 (t : Fin k0_t2_loop.trips) (I : Ins F) (y : Vec F S1x2048x256 .bf16) (u : Vec F S1x2048x256 .f32) (p : Vec F S2080x256 .f32) :
    holds c a1 a2 a3 a4 a5 a6 a7 a8 I y u p
      ⊢ wp frame (wpE (defs₀ (F := F)) Variants.none (c : Thread nD τ) none) Set.univ
          (k0_t2_body i a1 h1 a2 h2 a3 h3 a4 h4 a5 h5 a6 h6 a7 h7 a8 h8 t ⟨⟩)
          (fun _ => holds c a1 a2 a3 a4 a5 a6 a7 a8 I (put y ⟨rectA t, act I (View.ld (conv I p t (a7.view.read (Elt F) a7.view.junk)) (rectA t))⟩) (conv I p t u) p) := by
  obtain ⟨x1, x2, x3, x4, x5⟩ := I
  unfold holds k0_t2_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨H1, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  dsimp only at e2 e3 e4 e5 e6 e7 e8
  subst e2 e3 e4 e5 e6 e7 e8
  sl_exec
  sl_step
  isplitl [H1]; · iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    iterate 4 sl_unfold_run_names
    rw [read_writes_put]
    unfold act conv convL convR left right
    simp only [View.readAt_eq_ld, read_cov, read_writes_put]
    rfl
  isplitl [H7]
  · iexists _; isplitr
    swap; · iexact H7
    ipureintro
    iterate 4 sl_unfold_run_names
    rw [read_writes_put, read_writes_put]
    unfold conv convL convR left right
    simp only [View.readAt_eq_ld]
    rfl
  iexists f8; isplitr; · ipureintro; rfl
  iexact H8

end Cert.ConvF
-- ==== Proof.ConvFLoops.lean ====
/- The convolution forward's body: both loops run, every row of the three arrays is named. -/
module

public import proofs.«01_k».proof.Proof.ConvFTrip
public import Idealize.ShloMosaic.Lib.Exec
public import Idealize.ShloMosaic.Lib.Pipeline.ValueKit
public import Idealize.ShloMosaic.Lib.ValueIdxCore

@[expose] public section

set_option maxRecDepth 16384

noncomputable section

namespace Cert.ConvF

open Cert.Kernel13Ideal Cert.Kernel13Ideal.Gen
open Cert.Attn (put read_writes_put put_emb put_miss)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## Stores through a unit rectangle -/

section Put
variable {s : Shape} {e : EltTy} (x : s.Idx → Elt F e) {off size : Fin s.rank → ℕ} (inb : ∀ a, off a + size a ≤ s.size a)
  (w : (Rect.unit off size inb).shape.Idx → Elt F e) (y : s.Idx)

theorem put_hit (z : (Rect.unit off size inb).shape.Idx) (hz : ∀ a, (y a).val = off a + (z a).val) : put x ⟨Rect.unit off size inb, w⟩ y = w z := by
  have h : (Rect.unit off size inb).emb z = y := by
    funext a
    refine Fin.ext ?_
    rw [hz a]
    show off a + 1 * (z a).val = _
    omega
  rw [← h]
  exact put_emb x ⟨Rect.unit off size inb, w⟩ z

theorem put_out (a : Fin s.rank) (h : (y a).val < off a ∨ off a + size a ≤ (y a).val) : put x ⟨Rect.unit off size inb, w⟩ y = x y :=
  put_miss x ⟨Rect.unit off size inb, w⟩ y fun hm => by
    have := (Rect.mem_set_unit (inb := inb)).mp hm a
    omega

end Put

/-! ## What the three arrays hold in the end -/

variable (I : Ins F)

theorem div16 (n : ℕ) (h : n < 2048) : n / 128 < 16 := by omega

/-- The convolution, -/
def convAll : Vec F S1x2048x256 .f32 := fun y =>
  if h : (y 2).val < 128 then convL I (padded I) ⟨(y 1).val / 128, div16 _ (y 1).isLt⟩ (ix3 0 ⟨(y 1).val % 128, Nat.mod_lt _ (by decide)⟩ ⟨(y 2).val, h⟩)
  else convR I (padded I) ⟨(y 1).val / 128, div16 _ (y 1).isLt⟩ (ix3 0 ⟨(y 1).val % 128, Nat.mod_lt _ (by decide)⟩
    ⟨(y 2).val - 128, by have := (y 2).isLt; change (y 2).val < 256 at this; omega⟩)

/-- a chunk of it, -/
def chunk (t : Fin 16) : Vec F S1x128x256 .f32 := fun z =>
  convAll I (ix3 0 ⟨128 * t.val + (z 1).val, by have := (z 1).isLt; change (z 1).val < 128 at this; omega⟩ (z 2))

/-- and the output. -/
def actAll : Vec F S1x2048x256 .bf16 := fun y =>
  act I (chunk I ⟨(y 1).val / 128, div16 _ (y 1).isLt⟩) (ix3 0 ⟨(y 1).val % 128, Nat.mod_lt _ (by decide)⟩ (y 2))

theorem padded_zero (p : Vec F S2080x256 .f32) (y : S2080x256.Idx) (hy : (y 0).val < 32) :
    put p ⟨Rect.unit (s := S2080x256) ![0, 0] S32x256.size inb_S2080x256_S32x256_0_0, k0_pay1 (F := F)⟩ y = padded I y := by
  unfold padded
  rw [dif_pos hy]
  exact put_hit p _ _ y (ix2 ⟨(y 0).val, hy⟩ (y 1)) (fun a => by fin_cases a <;> simp)

theorem padded_step (t : Fin k0_t1_loop.trips) (p : Vec F S2080x256 .f32) (hp : ∀ y : S2080x256.Idx, (y 0).val < 32 + 128 * t.val → p y = padded I y)
    (y : S2080x256.Idx) (hy : (y 0).val < 32 + 128 * (t.val + 1)) : put p ⟨rectP t, gated I t⟩ y = padded I y := by
  have o0 : k0_off2 t 0 = 128 * t.val + 32 := by rw [k0_off2_eq]; rfl
  have o1 : k0_off2 t 1 = 0 := by rw [k0_off2_eq]; rfl
  by_cases h : (y 0).val < 32 + 128 * t.val
  · rw [put_out p _ _ y 0 (.inl (by rw [o0]; omega))]
    exact hp y h
  · unfold padded
    rw [dif_neg (by omega)]
    have ht : (⟨((y 0).val - 32) / 128, by have := (y 0).isLt; change (y 0).val < 2080 at this; change _ < 16; omega⟩ : Fin k0_t1_loop.trips) = t :=
      Fin.ext (by show ((y 0).val - 32) / 128 = t.val; omega)
    rw [ht]
    refine put_hit p _ _ y (ix2 ⟨((y 0).val - 32) % 128, Nat.mod_lt _ (by decide)⟩ (y 1)) (fun a => ?_)
    fin_cases a
    · show (y 0).val = k0_off2 t 0 + ((y 0).val - 32) % 128
      rw [o0]; omega
    · show (y 1).val = k0_off2 t 1 + (y 1).val
      rw [o1]; omega

theorem conv_out (t : Fin k0_t2_loop.trips) (p : Vec F S2080x256 .f32) (u : Vec F S1x2048x256 .f32) (y : S1x2048x256.Idx) (hy : (y 1).val < 128 * t.val) :
    conv I p t u y = u y := by
  have o4 : k0_off4 t 1 = 128 * t.val := by rw [k0_off4_eq]; rfl
  have o6 : k0_off6 t 1 = 128 * t.val := by rw [k0_off6_eq]; rfl
  unfold conv
  rw [put_out _ _ _ y 1 (.inl (by rw [o6]; exact hy)), put_out _ _ _ y 1 (.inl (by rw [o4]; exact hy))]

theorem conv_in (t : Fin k0_t2_loop.trips) (u : Vec F S1x2048x256 .f32) (y : S1x2048x256.Idx) (h0 : 128 * t.val ≤ (y 1).val)
    (h1 : (y 1).val < 128 * t.val + 128) : conv I (padded I) t u y = convAll I y := by
  have o40 : k0_off4 t 0 = 0 := by rw [k0_off4_eq]; rfl
  have o41 : k0_off4 t 1 = 128 * t.val := by rw [k0_off4_eq]; rfl
  have o42 : k0_off4 t 2 = 0 := by rw [k0_off4_eq]; rfl
  have o60 : k0_off6 t 0 = 0 := by rw [k0_off6_eq]; rfl
  have o61 : k0_off6 t 1 = 128 * t.val := by rw [k0_off6_eq]; rfl
  have o62 : k0_off6 t 2 = 128 := by rw [k0_off6_eq]; rfl
  have y0 : (y 0).val = 0 := by have := (y 0).isLt; change (y 0).val < 1 at this; omega
  have ht : (⟨(y 1).val / 128, div16 _ (y 1).isLt⟩ : Fin k0_t2_loop.trips) = t := Fin.ext (by show (y 1).val / 128 = t.val; omega)
  unfold conv convAll
  by_cases h : (y 2).val < 128
  · rw [dif_pos h, put_out _ _ _ y 2 (.inl (by rw [o62]; exact h))]
    erw [ht]
    refine put_hit u _ _ y (ix3 0 ⟨(y 1).val % 128, Nat.mod_lt _ (by decide)⟩ ⟨(y 2).val, h⟩) (fun a => ?_)
    fin_cases a
    · show (y 0).val = k0_off4 t 0 + 0
      rw [o40, y0]
    · show (y 1).val = k0_off4 t 1 + (y 1).val % 128
      rw [o41]; omega
    · show (y 2).val = k0_off4 t 2 + (y 2).val
      rw [o42]; omega
  · rw [dif_neg h]
    erw [ht]
    refine put_hit _ _ _ y (ix3 0 ⟨(y 1).val % 128, Nat.mod_lt _ (by decide)⟩
      ⟨(y 2).val - 128, by have := (y 2).isLt; change (y 2).val < 256 at this; omega⟩) (fun a => ?_)
    fin_cases a
    · show (y 0).val = k0_off6 t 0 + 0
      rw [o60, y0]
    · show (y 1).val = k0_off6 t 1 + (y 1).val % 128
      rw [o61]; omega
    · show (y 2).val = k0_off6 t 2 + ((y 2).val - 128)
      rw [o62]; omega

theorem chunk_eq (t : Fin k0_t2_loop.trips) (u : Vec F S1x2048x256 .f32) : View.ld (conv I (padded I) t u) (rectA t) = chunk I t := by
  have o0 : k0_off7 t 0 = 0 := by rw [k0_off7_eq]; rfl
  have o1 : k0_off7 t 1 = 128 * t.val := by rw [k0_off7_eq]; rfl
  have o2 : k0_off7 t 2 = 0 := by rw [k0_off7_eq]; rfl
  funext z
  have z0 : (z 0).val = 0 := by have := (z 0).isLt; change (z 0).val < 1 at this; omega
  have z1 : (z 1).val < 128 := (z 1).isLt
  have hz : (rectA t).emb z = ix3 0 ⟨128 * t.val + (z 1).val, by have : t.val < 16 := t.isLt; omega⟩ (z 2) := by
    funext a
    refine Fin.ext ?_
    fin_cases a
    · show k0_off7 t 0 + 1 * (z 0).val = 0
      rw [o0, z0]
    · show k0_off7 t 1 + 1 * (z 1).val = 128 * t.val + (z 1).val
      rw [o1]; omega
    · show k0_off7 t 2 + 1 * (z 2).val = (z 2).val
      rw [o2]; omega
  show conv I (padded I) t u ((rectA t).emb z) = _
  refine (congrArg (conv I (padded I) t u) hz).trans (conv_in I t u _ ?_ ?_)
  · show 128 * t.val ≤ 128 * t.val + (z 1).val
    omega
  · show 128 * t.val + (z 1).val < 128 * t.val + 128
    omega

theorem act_step (t : Fin k0_t2_loop.trips) (u : Vec F S1x2048x256 .f32) (p : Vec F S1x2048x256 .bf16) (hp : ∀ y : S1x2048x256.Idx, (y 1).val < 128 * t.val → p y = actAll I y)
    (y : S1x2048x256.Idx) (hy : (y 1).val < 128 * (t.val + 1)) :
    put p ⟨rectA t, act I (View.ld (conv I (padded I) t u) (rectA t))⟩ y = actAll I y := by
  have o0 : k0_off7 t 0 = 0 := by rw [k0_off7_eq]; rfl
  have o1 : k0_off7 t 1 = 128 * t.val := by rw [k0_off7_eq]; rfl
  have o2 : k0_off7 t 2 = 0 := by rw [k0_off7_eq]; rfl
  by_cases h : (y 1).val < 128 * t.val
  · rw [put_out p _ _ y 1 (.inl (by rw [o1]; exact h))]
    exact hp y h
  · have y0 : (y 0).val = 0 := by have := (y 0).isLt; change (y 0).val < 1 at this; omega
    have ht : (⟨(y 1).val / 128, div16 _ (y 1).isLt⟩ : Fin 16) = t := Fin.ext (by show (y 1).val / 128 = t.val; omega)
    rw [chunk_eq]
    unfold actAll
    rw [ht]
    refine put_hit p _ _ y (ix3 0 ⟨(y 1).val % 128, Nat.mod_lt _ (by decide)⟩ (y 2)) (fun a => ?_)
    fin_cases a
    · show (y 0).val = k0_off7 t 0 + 0
      rw [o0, y0]
    · show (y 1).val = k0_off7 t 1 + (y 1).val % 128
      rw [o1]; omega
    · show (y 2).val = k0_off7 t 2 + (y 2).val
      rw [o2]; omega

/-! ## The two loops -/

section Loops
variable (c : Dev nD) (i : grid0.Coords) (a1 : Memref sig .tc .vmem S1x2048x512 .f32) (h1 : a1.IsWhole)
  (a2 : Memref sig .tc .vmem S31x256 .f32) (h2 : a2.IsWhole) (a3 : Memref sig .tc .vmem S1x256 .f32) (h3 : a3.IsWhole)
  (a4 : Memref sig .tc .vmem S1x256 .f32) (h4 : a4.IsWhole) (a5 : Memref sig .tc .vmem S1x256 .f32) (h5 : a5.IsWhole)
  (a6 : Memref sig .tc .vmem S1x2048x256 .bf16) (h6 : a6.IsWhole) (a7 : Memref sig .tc .vmem S1x2048x256 .f32) (h7 : a7.IsWhole)
  (a8 : Memref sig .tc .vmem S2080x256 .f32) (h8 : a8.IsWhole)

theorem loop1 (y : Vec F S1x2048x256 .bf16) (u : Vec F S1x2048x256 .f32) (p : Vec F S2080x256 .f32)
    (hp : ∀ y : S2080x256.Idx, (y 0).val < 32 → p y = padded I y) :
    holds c a1 a2 a3 a4 a5 a6 a7 a8 I y u p
      ⊢ wp frame (wpE (defs₀ (F := F)) Variants.none (c : Thread nD τ) none) Set.univ
          (Scf.Loop.for k0_t1_loop k0_t1_ok ⟨⟩ (k0_t1_body i a1 h1 a2 h2 a3 h3 a4 h4 a5 h5 a6 h6 a7 h7 a8 h8))
          (fun _ => holds c a1 a2 a3 a4 a5 a6 a7 a8 I y u (padded I)) := by
  iintro H
  iapply (Scf.wp_for frame (wpE (defs₀ (F := F)) Variants.none (c : Thread nD τ) none) Set.univ k0_t1_loop.lb k0_t1_loop.ub k0_t1_loop.st
    k0_t1_ok ⟨⟩ (k0_t1_body i a1 h1 a2 h2 a3 h3 a4 h4 a5 h5 a6 h6 a7 h7 a8 h8)
    (fun n _ => iprop(∃ q, ⌜∀ y : S2080x256.Idx, (y 0).val < 32 + 128 * n → q y = padded I y⌝ ∗ holds c a1 a2 a3 a4 a5 a6 a7 a8 I y u q)) (fun t _ => by
      iintro ⟨%q, %hq, H⟩
      iapply (wp_wand_r frame (wpE (defs₀ (F := F)) Variants.none (c : Thread nD τ) none) Set.univ)
      isplitl [H]
      · iapply (trip1 c i a1 h1 a2 h2 a3 h3 a4 h4 a5 h5 a6 h6 a7 h7 a8 h8 t I y u q)
        iexact H
      · iintro %_ H
        iexists _
        isplitr
        swap; · iexact H
        ipureintro
        exact padded_step I t q hq))
  isplitl [H]
  · iexists p
    isplitr
    · ipureintro; exact hp
    · iexact H
  · iintro %acc ⟨%q, %hq, H⟩
    obtain rfl : q = padded I := funext fun y => hq y (by have := (y 0).isLt; exact this)
    iexact H

theorem loop2 (y : Vec F S1x2048x256 .bf16) (u : Vec F S1x2048x256 .f32) :
    holds c a1 a2 a3 a4 a5 a6 a7 a8 I y u (padded I)
      ⊢ wp frame (wpE (defs₀ (F := F)) Variants.none (c : Thread nD τ) none) Set.univ
          (Scf.Loop.for k0_t2_loop k0_t2_ok ⟨⟩ (k0_t2_body i a1 h1 a2 h2 a3 h3 a4 h4 a5 h5 a6 h6 a7 h7 a8 h8))
          (fun _ => holds c a1 a2 a3 a4 a5 a6 a7 a8 I (actAll I) (convAll I) (padded I)) := by
  iintro H
  iapply (Scf.wp_for frame (wpE (defs₀ (F := F)) Variants.none (c : Thread nD τ) none) Set.univ k0_t2_loop.lb k0_t2_loop.ub k0_t2_loop.st
    k0_t2_ok ⟨⟩ (k0_t2_body i a1 h1 a2 h2 a3 h3 a4 h4 a5 h5 a6 h6 a7 h7 a8 h8)
    (fun n _ => iprop(∃ x v, ⌜(∀ y : S1x2048x256.Idx, (y 1).val < 128 * n → x y = actAll I y) ∧ ∀ y : S1x2048x256.Idx, (y 1).val < 128 * n → v y = convAll I y⌝
      ∗ holds c a1 a2 a3 a4 a5 a6 a7 a8 I x v (padded I))) (fun t _ => by
      iintro ⟨%x, %v, %hq, H⟩
      iapply (wp_wand_r frame (wpE (defs₀ (F := F)) Variants.none (c : Thread nD τ) none) Set.univ)
      isplitl [H]
      · iapply (trip2 c i a1 h1 a2 h2 a3 h3 a4 h4 a5 h5 a6 h6 a7 h7 a8 h8 t I x v (padded I))
        iexact H
      · iintro %_ H
        iexists _
        iexists _
        isplitr
        swap; · iexact H
        ipureintro
        refine ⟨act_step I t _ x hq.1, fun y hy => ?_⟩
        by_cases h : (y 1).val < 128 * t.val
        · rw [conv_out I t _ v y h]; exact hq.2 y h
        · exact conv_in I t v y (by omega) (by omega)))
  isplitl [H]
  · iexists y
    iexists u
    isplitr
    · ipureintro
      exact ⟨fun y h => absurd h (by omega), fun y h => absurd h (by omega)⟩
    · iexact H
  · iintro %acc ⟨%x, %v, %hq, H⟩
    obtain rfl : x = actAll I := funext fun y => hq.1 y (by have := (y 1).isLt; exact this)
    obtain rfl : v = convAll I := funext fun y => hq.2 y (by have := (y 1).isLt; exact this)
    iexact H

/-- The rows of zeros stored first. -/
theorem zeros (y : Vec F S1x2048x256 .bf16) (u : Vec F S1x2048x256 .f32) (p : Vec F S2080x256 .f32) {α : Type} (k : Prog (TpuEff nD τ sig (Elt F) Λ₀ .tc) α) (Q : α → sProp 𝕄)
    (hk : ∀ p, (∀ y : S2080x256.Idx, (y 0).val < 32 → p y = padded I y) → holds c a1 a2 a3 a4 a5 a6 a7 a8 I y u p
      ⊢ wp frame (wpE (defs₀ (F := F)) Variants.none (c : Thread nD τ) none) Set.univ k Q) :
    holds c a1 a2 a3 a4 a5 a6 a7 a8 I y u p
      ⊢ wp frame (wpE (defs₀ (F := F)) Variants.none (c : Thread nD τ) none) Set.univ (do
          let _ : Vec F S32x256 .f32 ← Prog.lift (.load a8 (Rect.unit (s := S2080x256) ![0, 0] S32x256.size inb_S2080x256_S32x256_0_0).toLoadRect (View.loadsAt_vmem h_S32x256))
          Prog.lift (.store a8 (Rect.unit (s := S2080x256) ![0, 0] S32x256.size inb_S2080x256_S32x256_0_0) (k0_pay1 (F := F)) Finset.univ (View.stores_vmem_bits_univ h_S32x256 rfl) (.inl rfl))
          k) Q := by
  unfold holds owns
  iintro ⟨H1, H2, H3, H4, H5, H6, H7, ⟨%f8, %e8, H8⟩⟩
  subst e8
  sl_exec
  iapply (hk _ (padded_zero I (a8.view.read (Elt F) f8)))
  unfold holds owns
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitr
  swap; · iexact H8
  ipureintro
  exact read_writes_put a8.view f8 ⟨Rect.unit (s := S2080x256) ![0, 0] S32x256.size inb_S2080x256_S32x256_0_0, _⟩ []

theorem body_holds (y : Vec F S1x2048x256 .bf16) (u : Vec F S1x2048x256 .f32) (p : Vec F S2080x256 .f32) :
    holds c a1 a2 a3 a4 a5 a6 a7 a8 I y u p
      ⊢ wp frame (wpE (defs₀ (F := F)) Variants.none (c : Thread nD τ) none) Set.univ
          (cc0_conv_fwd i a1 h1 a2 h2 a3 h3 a4 h4 a5 h5 a6 h6 a7 h7 a8 h8)
          (fun _ => holds c a1 a2 a3 a4 a5 a6 a7 a8 I (actAll I) (convAll I) (padded I)) := by
  simp only [cc0_conv_fwd_eq_skeleton]; unfold cc0_conv_fwd_skel
  refine zeros I c a1 a2 a3 a4 a5 a6 a7 a8 y u p _ _ fun p hp => ?_
  simp only [wp_bind, pure_bind]
  iintro H
  iapply (wp_wand_r frame (wpE (defs₀ (F := F)) Variants.none (c : Thread nD τ) none) Set.univ)
  isplitl [H]
  · iapply (loop1 I c i a1 h1 a2 h2 a3 h3 a4 h4 a5 h5 a6 h6 a7 h7 a8 h8 y u p hp)
    iexact H
  · iintro %acc H
    iapply (wp_wand_r frame (wpE (defs₀ (F := F)) Variants.none (c : Thread nD τ) none) Set.univ)
    isplitl [H]
    · iapply (loop2 I c i a1 h1 a2 h2 a3 h3 a4 h4 a5 h5 a6 h6 a7 h7 a8 h8 y u)
      iexact H
    · iintro %acc H
      sl_step
      iexact H

end Loops

end Cert.ConvF
-- ==== Proof.ConvFFrame.lean ====
/- The convolution forward's run: what each grid point leaves, and the kernel's frame. -/
module

public import proofs.«01_k».proof.Proof.ConvFLoops
public import Idealize.ShloMosaic.Lib.Exec
public import Idealize.ShloMosaic.Lib.Pipeline.ValueKit
public import Idealize.ShloMosaic.Lib.ValueIdxCore

@[expose] public section

set_option maxRecDepth 16384

noncomputable section

namespace Cert.ConvF

open Cert.Kernel13Ideal Cert.Kernel13Ideal.Gen
open Cert.Attn (put read_writes_put put_emb put_miss)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The inputs' blocks at a point. -/
def ins (c : Dev nD) (t : Fin cfg0.N) : Ins F := ⟨iblk m c 0 t, iblk m c 1 t, iblk m c 2 t, iblk m c 3 t, iblk m c 4 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actAll (ins m c t)
    | ⟨6, _⟩ => convAll (ins m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = actAll (ins m c t) := by dsimp only [dats]
theorem after_6 (c : Dev nD) (t : Fin cfg0.N) : (dats m 0 c).after 6 t = convAll (ins m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem scratch_eq (c : Dev nD) : (Pipeline.ΦA spec0 c : sProp 𝕄)
    = iprop((∃ f, owns (c : Thread nD τ) (Memref.whole cc0_scratch0) fullShare f) ∗ ∃ r, prngReg c r) := by
  unfold Pipeline.ΦA; rw [scopedRest0_eq]; simp only [owns_whole]; try rfl

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
theorem runs (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq,
    after_0, after_1, after_2, after_3, after_4, after_5, after_6]
  iintro ⟨⟨⟨%f, Hs⟩, Hr⟩, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) Variants.none (c : Thread nD τ) none) Set.univ)
  isplitl [H0 H1 H2 H3 H4 H5 H6 Hs]
  · iapply (body_holds (ins m c t) c (grid0.coords t) _ _ _ _ _ _ _ _ _ _ _ _ _ _ _ _ ((dats m 0 c).before 5 t d5) ((dats m 0 c).before 6 t d6) f)
    unfold holds ins
    dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  · iintro %acc
    unfold holds
    iintro ⟨H0, H1, H2, H3, H4, H5, H6, Hs⟩
    isplitl [Hs Hr]
    · isplitl [Hs]
      · iexists _
        iexact Hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_eq (t : Fin cfg0.N) : defs₀ (F := F) .tc cfg0.body (cfg0.bodyArgs t (cfg0.slots t)) = bodyAt0 t := by
  unfold defs₀; rw [Defs.onTc_tc]

/-- Every point stores both outputs. -/
theorem idle_5 : ∀ t : Fin cfg0.N, cfg0.idle 5 (cfg0.grid.coords t) = false := fun _ => rfl
theorem idle_6 : ∀ t : Fin cfg0.N, cfg0.idle 6 (cfg0.grid.coords t) = false := fun _ => rfl

set_option maxHeartbeats 2000000 in
theorem obligation (c : Dev nD) : BodyObligation (dats (F := F) m 0 c) (defs₀ (F := F)) Variants.none () Set.univ := fun t => by
  rw [bigSep_W0, bigSep_W0, row_eq]
  generalize h5 : cfg0.idle 5 (cfg0.grid.coords t) = b5
  generalize h6 : cfg0.idle 6 (cfg0.grid.coords t) = b6
  obtain rfl : b5 = false := h5.symm.trans (idle_5 t)
  obtain rfl : b6 = false := h6.symm.trans (idle_6 t)
  clear h5 h6
  refine triple_restated (runs m c t) rfl .rfl fun _ => ?_
  unfold post
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
set_option maxHeartbeats 800000 in
theorem launched : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose)
    (hshare := fun c => (dats m 0 c).share_full fun _ => rfl) (howed := fun _ _ => rfl) (V := V m) (hmain := hmain m Variants.none) (hA := A_eq m) (hΦ := fun _ _ => rfl)

/-- The kernel's frame, over the bits and over the reals. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.ConvF
-- ==== Proof.ConvFMath.lean ====
/- The convolution forward's arithmetic: the gate, and a chunk's sum of 31 shifted products. -/
module

public import proofs.«01_k».proof.Proof.ConvFLoops
public import Idealize.ShloMosaic.Lib.KernelVsHost

@[expose] public section

set_option maxRecDepth 16384

noncomputable section

namespace Cert.ConvF

open Cert.Kernel13Ideal Cert.Kernel13Ideal.Gen
open Idealize.ShloMosaic Idealize.ShloMosaic.TcCoe Idealize.ShloMosaic.Tactic

theorem one_word : FloatOps.ofBits (F := Ideal) .f32 0x3F800000#32 = ((1 : ℝ) : EReal) := by
  show Ideal.ofBits .f32 0x3F800000#32 = _
  simp [Ideal.ofBits, Ideal.ieee, -EReal.coe_mul] <;> norm_num
theorem half_word : FloatOps.ofBits (F := Ideal) .f32 0x3F000000#32 = ((1 / 2 : ℝ) : EReal) := by
  show Ideal.ofBits .f32 0x3F000000#32 = _
  simp [Ideal.ofBits, Ideal.ieee, -EReal.coe_mul] <;> norm_num

/-- The gate, as the kernel writes it, -/
def gate (x : EReal) : EReal :=
  FloatOps.addf (F := Ideal) (φ := .f32) (FloatOps.mulf (F := Ideal) (φ := .f32) (FloatOps.ofBits (F := Ideal) .f32 0x3F000000#32)
    (FloatOps.tanh (F := Ideal) (φ := .f32) (FloatOps.mulf (F := Ideal) (φ := .f32) (FloatOps.ofBits (F := Ideal) .f32 0x3F000000#32) x)))
    (FloatOps.ofBits (F := Ideal) .f32 0x3F000000#32)

/-- and as the reference does. -/
def sigm (x : EReal) : EReal :=
  FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) x)))

theorem half_tanh (r : ℝ) : 1 / 2 * Real.tanh (1 / 2 * r) + 1 / 2 = (1 + Real.exp (-r))⁻¹ := by
  have h1 := Real.exp_pos (r / 2)
  have h2 := Real.exp_pos (-(r / 2))
  have e1 : Real.exp (-r) = Real.exp (-(r / 2)) * Real.exp (-(r / 2)) := by rw [← Real.exp_add]; congr 1; ring
  have e2 : Real.exp (r / 2) * Real.exp (-(r / 2)) = 1 := by rw [← Real.exp_add]; simp
  rw [Real.tanh_eq_sinh_div_cosh, Real.sinh_eq, Real.cosh_eq, show (1 / 2 * r : ℝ) = r / 2 by ring, e1]
  generalize Real.exp (r / 2) = a at *
  generalize Real.exp (-(r / 2)) = b at *
  have h3 : a + b ≠ 0 := by positivity
  have h4 : 1 + b * b ≠ 0 := by positivity
  rw [eq_comm, inv_eq_iff_eq_inv, eq_comm, inv_eq_iff_eq_inv, eq_comm]
  rw [show (a - b) / 2 / ((a + b) / 2) = (a - b) / (a + b) by field_simp, show 1 / 2 * ((a - b) / (a + b)) + 1 / 2 = a / (a + b) by field_simp; ring,
    eq_comm, inv_eq_one_div, div_eq_div_iff h3 h4]
  linear_combination b * e2

theorem gate_eq (x : EReal) : gate x = sigm x := by
  unfold gate sigm
  rw [one_word, half_word]
  have h : (0 : ℝ) < 1 / 2 := by norm_num
  induction x with
  | bot =>
    show ((1 / 2 : ℝ) : EReal) * Ideal.tanh (((1 / 2 : ℝ) : EReal) * ⊥) + ((1 / 2 : ℝ) : EReal) = Ideal.div ((1 : ℝ) : EReal) (((1 : ℝ) : EReal) + Ideal.exp (-⊥))
    rw [EReal.coe_mul_bot_of_pos h, Ideal.tanh_bot, EReal.neg_bot, Ideal.exp_top, EReal.coe_add_top, Ideal.div, if_neg EReal.top_ne_zero, EReal.inv_top, mul_zero]
    rw [show (-1 : EReal) = ((-1 : ℝ) : EReal) by norm_num, ← EReal.coe_mul, ← EReal.coe_add]
    norm_num
  | top =>
    show ((1 / 2 : ℝ) : EReal) * Ideal.tanh (((1 / 2 : ℝ) : EReal) * ⊤) + ((1 / 2 : ℝ) : EReal) = Ideal.div ((1 : ℝ) : EReal) (((1 : ℝ) : EReal) + Ideal.exp (-⊤))
    rw [EReal.coe_mul_top_of_pos h, Ideal.tanh_top, EReal.neg_top, Ideal.exp_bot, add_zero, Ideal.div_coe one_ne_zero, ← EReal.coe_one, ← EReal.coe_mul, ← EReal.coe_add, ← EReal.coe_mul]
    norm_num
  | coe r =>
    show ((1 / 2 : ℝ) : EReal) * Ideal.tanh (((1 / 2 : ℝ) : EReal) * (r : EReal)) + ((1 / 2 : ℝ) : EReal) = Ideal.div ((1 : ℝ) : EReal) (((1 : ℝ) : EReal) + Ideal.exp (-(r : EReal)))
    rw [← EReal.coe_mul, Ideal.tanh_coe, ← EReal.coe_mul, ← EReal.coe_add, half_tanh, ← EReal.coe_neg, Ideal.exp_coe, ← EReal.coe_add,
      Ideal.div_coe (by have := Real.exp_pos (-r); positivity), ← EReal.coe_mul, one_mul, one_div]

/-- Thirty-one products and the bias, summed in the kernel's order, -/
def kernelSum (f : Fin 31 → EReal) (b : EReal) : EReal :=
  b + f 30 + f 22 + f 14 + f 6 + f 29 + f 21 + f 13 + f 5 + f 28 + f 20 + f 12 + f 4
    + f 27 + f 19 + f 11 + f 3 + f 26 + f 18 + f 10 + f 2 + f 25 + f 17 + f 9 + f 1 + f 24 + f 16 + f 8 + f 0 + f 23 + f 15 + f 7

/-- and in the reference's. -/
def refSum (f : Fin 31 → EReal) (b : EReal) : EReal :=
  0 + f 0 + f 1 + f 2 + f 3 + f 4 + f 5 + f 6 + f 7 + f 8 + f 9 + f 10 + f 11 + f 12 + f 13 + f 14 + f 15 + f 16 + f 17 + f 18 + f 19 + f 20
    + f 21 + f 22 + f 23 + f 24 + f 25 + f 26 + f 27 + f 28 + f 29 + f 30 + b

theorem sum_order (f : Fin 31 → EReal) (b : EReal) : kernelSum f b = refSum f b := by
  unfold kernelSum refSum
  abel

theorem left_apply (x : Vec Ideal S160x128 .f32) (b : Vec Ideal S1x128 .f32) (w : Fin 31 → Vec Ideal S1x128 .f32) (s l : Fin 128) :
    (left x b w (ix3 0 s l) : EReal)
      = kernelSum (fun k => w k (ix2 0 l) * x (ix2 ⟨k.val + s.val + 2, by omega⟩ l)) (b (ix2 0 l)) := by
  unfold left kernelSum
  pointwise [k0_pay12, k0_pay11, k0_pay10, k0_pay9, k0_pay8, k0_pay7, k0_pay6, k0_pay5, k0_pay4]
  iterate 31 refine congrArg₂ (· + ·) ?_ (congrArg (HMul.hMul _) (congrArg (fun i => x (ix2 i l)) (Fin.ext (by first | omega | (simp; omega)))))
  rfl

/-! ## The call's two arrays -/

/-- The gated rows, 32 rows of zeros above them. -/
def pad (X : S4x2048x512.Idx → EReal) (n : Fin 4) (r : ℕ) (l : Fin 256) : EReal :=
  if h : 32 ≤ r ∧ r < 2080 then X (ix3 n ⟨r - 32, by omega⟩ ⟨l.val, by omega⟩) * sigm (X (ix3 n ⟨r - 32, by omega⟩ ⟨256 + l.val, by omega⟩)) else 0

/-- One tap's product, -/
def tapAt (X : S4x2048x512.Idx → EReal) (W : S31x256.Idx → EReal) (n : Fin 4) (s : Fin 2048) (l : Fin 256) (k : Fin 31) : EReal :=
  W (ix2 k l) * pad X n (k.val + s.val + 2) l

/-- and their sum with the bias. -/
def convAt (X : S4x2048x512.Idx → EReal) (W : S31x256.Idx → EReal) (B : S256.Idx → EReal) (n : Fin 4) (s : Fin 2048) (l : Fin 256) : EReal :=
  refSum (tapAt X W n s l) (B (ix1 l))

def mean (u : Fin 256 → EReal) : EReal := Ideal.div (∑ k : Fin 256, u k) (FloatOps.ofBits (F := Ideal) .f32 0x43800000#32)

/-- A row's layer norm. -/
def normAt (u g e : Fin 256 → EReal) (d : Fin 256) : EReal :=
  (u d - mean u) * Ideal.rsqrt (Ideal.div (∑ k : Fin 256, (u k - mean u) * (u k - mean u)) (FloatOps.ofBits (F := Ideal) .f32 0x43800000#32)
    + FloatOps.ofBits (F := Ideal) .f32 0x3727C5AC#32) * g d + e d

theorem act_apply (u : Vec Ideal S1x128x256 .f32) (g e : Vec Ideal S1x256 .f32) (s : Fin 128) (d : Fin 256) :
    (k0_pay3 (k0_pay22 u g e) (k0_pay23 u g e) (ix3 0 s d) : EReal)
      = normAt (fun k => u (ix3 0 s k)) (fun k => g (ix2 0 k)) (fun k => e (ix2 0 k)) d
        * gate (normAt (fun k => u (ix3 0 s k)) (fun k => g (ix2 0 k)) (fun k => e (ix2 0 k)) d) := by
  have h : ∀ d, (k0_pay22 u g e (ix2 s d) : EReal) = normAt (fun k => u (ix3 0 s k)) (fun k => g (ix2 0 k)) (fun k => e (ix2 0 k)) d := fun d => by
    pointwise [k0_pay22]
    rfl
  pointwise [k0_pay3, k0_pay23]
  rw [h]
  rfl

theorem gated_apply (v : Vec Ideal S1x128x512 .f32) (s : Fin 128) (l : Fin 256) :
    (k0_pay2 v (ix2 s l) : EReal) = v (ix3 0 s ⟨l.val, by omega⟩) * gate (v (ix3 0 s ⟨256 + l.val, by omega⟩)) := by
  pointwise [k0_pay2]
  rfl

end Cert.ConvF
-- ==== Proof.ConvFRef.lean ====
/- The convolution forward's reference: its two arrays, elementwise. -/
module

public import proofs.«01_k».proof.Proof.ConvFMath
public import proofs.«01_k».proof.Proof.Gen.Reference13Ideal.Read

@[expose] public section

set_option maxRecDepth 16384

noncomputable section

namespace Cert.ConvF

open Cert.Reference13Ideal Cert.Reference13Ideal.Gen Cert.Reference13Ideal.Read
open Idealize.ShloMosaic Idealize.ShloMosaic.TcCoe Idealize.ShloMosaic.Tactic

variable (x : S4x2048x512.Idx → EReal) (w : S31x256.Idx → EReal) (b g e : S256.Idx → EReal)

theorem r_zero : FloatOps.ofBits (F := Ideal) .f32 0x00000000#32 = (0 : EReal) := Ideal.ofBits_zero_f32

theorem r_gated (n : Fin 4) (s : Fin 2048) (l : Fin 256) : (val_main_v8 (F := Ideal) x (ix3 n s l) : EReal)
    = x (ix3 n s ⟨l.val, by omega⟩) * sigm (x (ix3 n s ⟨256 + l.val, by omega⟩)) := by
  rw [val_main_v8_apply, val_main_v7_apply, val_main_v6_apply, val_main_v5_apply, val_main_v4_apply, val_main_v3_apply, val_main_v2_apply,
    val_main_v1_apply, val_main_v0_apply, show idx_main_v0 (ix3 n s l) = ix3 n s ⟨l.val, by omega⟩ from by funext a; fin_cases a <;> rfl,
    show idx_main_v1 (ix3 n s l) = ix3 n s ⟨256 + l.val, by omega⟩ from by funext a; fin_cases a <;> rfl]
  rfl

theorem r_pad (i : S4x2078x256.Idx) : (val_main_v11 (F := Ideal) x i : EReal) = pad x (i 0) ((i 1).val + 2) (i 2) := by
  obtain ⟨n, r, l, rfl⟩ : ∃ n r l, i = ix3 n r l := ⟨i 0, i 1, i 2, (ix3_eta i).symm⟩
  show _ = pad x n (r.val + 2) l
  unfold val_main_v11 pad
  by_cases h : r.val < 30
  · rw [dif_neg (by omega)]
    refine (concatenate_pair_apply_left (t := S4x2078x256) (s₁ := S4x30x256) (s₂ := S4x2048x256) (1 : Fin 3) _ _ _ _ rfl (ix3 n ⟨r.val, h⟩ l) fun a => by fin_cases a <;> rfl).trans ?_
    rw [val_main_v10_apply, val_main_cst_1_apply, r_zero]
  · rw [dif_pos ⟨by omega, by have := r.isLt; omega⟩]
    refine (concatenate_pair_apply_right (t := S4x2078x256) (s₁ := S4x30x256) (s₂ := S4x2048x256) (1 : Fin 3) _ _ _ _ rfl rfl
      (ix3 n ⟨r.val + 2 - 32, by have := r.isLt; omega⟩ l) (fun a ha => by fin_cases a <;> first | rfl | exact absurd rfl ha)
      (by show r.val + 2 - 32 + 30 = r.val; omega)).trans ?_
    exact r_gated x n _ l

set_option maxHeartbeats 4000000 in
theorem r_conv (n : Fin 4) (s : Fin 2048) (l : Fin 256) : (val_main_v232 (F := Ideal) x w b (ix3 n s l) : EReal) = convAt x w b n s l := by
  simp only [
    val_main_v12_apply, val_main_v13_apply, val_main_v14_apply, val_main_v15_apply, val_main_v16_apply, val_main_v17_apply, val_main_v18_apply,
    val_main_v19_apply, val_main_v20_apply, val_main_v21_apply, val_main_v22_apply, val_main_v23_apply, val_main_v24_apply, val_main_v25_apply,
    val_main_v26_apply, val_main_v27_apply, val_main_v28_apply, val_main_v29_apply, val_main_v30_apply, val_main_v31_apply, val_main_v32_apply,
    val_main_v33_apply, val_main_v34_apply, val_main_v35_apply, val_main_v36_apply, val_main_v37_apply, val_main_v38_apply, val_main_v39_apply,
    val_main_v40_apply, val_main_v41_apply, val_main_v42_apply, val_main_v43_apply, val_main_v44_apply, val_main_v45_apply, val_main_v46_apply,
    val_main_v47_apply, val_main_v48_apply, val_main_v49_apply, val_main_v50_apply, val_main_v51_apply, val_main_v52_apply, val_main_v53_apply,
    val_main_v54_apply, val_main_v55_apply, val_main_v56_apply, val_main_v57_apply, val_main_v58_apply, val_main_v59_apply, val_main_v60_apply,
    val_main_v61_apply, val_main_v62_apply, val_main_v63_apply, val_main_v64_apply, val_main_v65_apply, val_main_v66_apply, val_main_v67_apply,
    val_main_v68_apply, val_main_v69_apply, val_main_v70_apply, val_main_v71_apply, val_main_v72_apply, val_main_v73_apply, val_main_v74_apply,
    val_main_v75_apply, val_main_v76_apply, val_main_v77_apply, val_main_v78_apply, val_main_v79_apply, val_main_v80_apply, val_main_v81_apply,
    val_main_v82_apply, val_main_v83_apply, val_main_v84_apply, val_main_v85_apply, val_main_v86_apply, val_main_v87_apply, val_main_v88_apply,
    val_main_v89_apply, val_main_v90_apply, val_main_v91_apply, val_main_v92_apply, val_main_v93_apply, val_main_v94_apply, val_main_v95_apply,
    val_main_v96_apply, val_main_v97_apply, val_main_v98_apply, val_main_v99_apply, val_main_v100_apply, val_main_v101_apply, val_main_v102_apply,
    val_main_v103_apply, val_main_v104_apply, val_main_v105_apply, val_main_v106_apply, val_main_v107_apply, val_main_v108_apply, val_main_v109_apply,
    val_main_v110_apply, val_main_v111_apply, val_main_v112_apply, val_main_v113_apply, val_main_v114_apply, val_main_v115_apply, val_main_v116_apply,
    val_main_v117_apply, val_main_v118_apply, val_main_v119_apply, val_main_v120_apply, val_main_v121_apply, val_main_v122_apply, val_main_v123_apply,
    val_main_v124_apply, val_main_v125_apply, val_main_v126_apply, val_main_v127_apply, val_main_v128_apply, val_main_v129_apply, val_main_v130_apply,
    val_main_v131_apply, val_main_v132_apply, val_main_v133_apply, val_main_v134_apply, val_main_v135_apply, val_main_v136_apply, val_main_v137_apply,
    val_main_v138_apply, val_main_v139_apply, val_main_v140_apply, val_main_v141_apply, val_main_v142_apply, val_main_v143_apply, val_main_v144_apply,
    val_main_v145_apply, val_main_v146_apply, val_main_v147_apply, val_main_v148_apply, val_main_v149_apply, val_main_v150_apply, val_main_v151_apply,
    val_main_v152_apply, val_main_v153_apply, val_main_v154_apply, val_main_v155_apply, val_main_v156_apply, val_main_v157_apply, val_main_v158_apply,
    val_main_v159_apply, val_main_v160_apply, val_main_v161_apply, val_main_v162_apply, val_main_v163_apply, val_main_v164_apply, val_main_v165_apply,
    val_main_v166_apply, val_main_v167_apply, val_main_v168_apply, val_main_v169_apply, val_main_v170_apply, val_main_v171_apply, val_main_v172_apply,
    val_main_v173_apply, val_main_v174_apply, val_main_v175_apply, val_main_v176_apply, val_main_v177_apply, val_main_v178_apply, val_main_v179_apply,
    val_main_v180_apply, val_main_v181_apply, val_main_v182_apply, val_main_v183_apply, val_main_v184_apply, val_main_v185_apply, val_main_v186_apply,
    val_main_v187_apply, val_main_v188_apply, val_main_v189_apply, val_main_v190_apply, val_main_v191_apply, val_main_v192_apply, val_main_v193_apply,
    val_main_v194_apply, val_main_v195_apply, val_main_v196_apply, val_main_v197_apply, val_main_v198_apply, val_main_v199_apply, val_main_v200_apply,
    val_main_v201_apply, val_main_v202_apply, val_main_v203_apply, val_main_v204_apply, val_main_v205_apply, val_main_v206_apply, val_main_v207_apply,
    val_main_v208_apply, val_main_v209_apply, val_main_v210_apply, val_main_v211_apply, val_main_v212_apply, val_main_v213_apply, val_main_v214_apply,
    val_main_v215_apply, val_main_v216_apply, val_main_v217_apply, val_main_v218_apply, val_main_v219_apply, val_main_v220_apply, val_main_v221_apply,
    val_main_v222_apply, val_main_v223_apply, val_main_v224_apply, val_main_v225_apply, val_main_v226_apply, val_main_v227_apply, val_main_v228_apply,
    val_main_v229_apply, val_main_v230_apply, val_main_v231_apply, val_main_v232_apply,
    r_pad, val_main_cst_2_apply, r_zero]
  unfold convAt refSum
  refine congrArg₂ (· + ·) ?_ (congrArg b (by funext a; fin_cases a; rfl))
  iterate 31 refine congrArg₂ (· + ·) ?_ (congrArg₂ (· * ·) (congrArg w (by
    funext a
    fin_cases a
    · rfl
    · exact Fin.ext (Nat.mod_eq_of_lt l.isLt))) (congrArg (pad x n · l) (by first | rfl | exact congrArg (· + 2) (Nat.zero_add s.val).symm)))
  rfl

theorem r_norm (n : Fin 4) (s : Fin 2048) (d : Fin 256) : (val_main_v256 (F := Ideal) x w b g e (ix3 n s d) : EReal)
    = normAt (convAt x w b n s) (fun k => g (ix1 k)) (fun k => e (ix1 k)) d := by
  have hm : ∀ z : Fin 1, (val_main_v236 (F := Ideal) x w b (ix3 n s z) : EReal) = mean (convAt x w b n s) := fun z => by
    rw [val_main_v236_apply, val_main_v235_apply, val_main_v234_apply, val_main_v233_apply, val_main_cst_3_apply, r_zero, zero_add]
    have h : ∀ k, idx_main_v233 (idx_main_v234 (ix3 n s z)) k = ix3 n s k := fun k => by funext a; fin_cases a <;> rfl
    simp only [h, r_conv]
    rfl
  have hs : ∀ k : Fin 256, (val_main_v238 (F := Ideal) x w b (ix3 n s k) : EReal) = convAt x w b n s k - mean (convAt x w b n s) := fun k => by
    rw [val_main_v238_apply, val_main_v237_apply, show idx_main_v237 (ix3 n s k) = ix3 n s 0 from by funext a; fin_cases a <;> rfl, hm, r_conv]
    rfl
  have hs' : ∀ k : Fin 256, (val_main_v245 (F := Ideal) x w b (ix3 n s k) : EReal) = convAt x w b n s k - mean (convAt x w b n s) := fun k => by
    rw [val_main_v245_apply, val_main_v244_apply, show idx_main_v244 (ix3 n s k) = ix3 n s 0 from by funext a; fin_cases a <;> rfl, hm, r_conv]
    rfl
  have hv : ∀ z : Fin 1, (val_main_v248 (F := Ideal) x w b (ix3 n s z) : EReal)
      = Ideal.rsqrt (Ideal.div (∑ k : Fin 256, (convAt x w b n s k - mean (convAt x w b n s)) * (convAt x w b n s k - mean (convAt x w b n s)))
        (FloatOps.ofBits (F := Ideal) .f32 0x43800000#32) + FloatOps.ofBits (F := Ideal) .f32 0x3727C5AC#32) := fun z => by
    rw [val_main_v248_apply, val_main_v247_apply, val_main_v246_apply, val_main_v243_apply, val_main_v242_apply, val_main_v241_apply, val_main_v240_apply,
      val_main_cst_5_apply, r_zero, zero_add]
    have h : ∀ k, idx_main_v240 (idx_main_v241 (ix3 n s z)) k = ix3 n s k := fun k => by funext a; fin_cases a <;> rfl
    simp only [h, val_main_v239_apply, hs]
    rfl
  rw [val_main_v256_apply, val_main_v255_apply, val_main_v254_apply, val_main_v253_apply, val_main_v252_apply, val_main_v251_apply, val_main_v250_apply,
    val_main_v249_apply, hs', show idx_main_v249 (ix3 n s d) = ix3 n s 0 from by funext a; fin_cases a <;> rfl, hv,
    show idx_main_v254 (idx_main_v255 (ix3 n s d)) = ix1 d from by funext a; fin_cases a; rfl,
    show idx_main_v251 (idx_main_v252 (ix3 n s d)) = ix1 d from by funext a; fin_cases a; rfl]
  rfl

theorem r_out (n : Fin 4) (s : Fin 2048) (d : Fin 256) : (val_main_v258 (F := Ideal) x w b g e (ix3 n s d) : EReal)
    = normAt (convAt x w b n s) (fun k => g (ix1 k)) (fun k => e (ix1 k)) d * sigm (normAt (convAt x w b n s) (fun k => g (ix1 k)) (fun k => e (ix1 k)) d) := by
  rw [← r_norm]
  rfl

end Cert.ConvF
-- ==== Proof.ConvFValue.lean ====
/- The convolution forward: the two arrays the call returns are the reference's. -/
module

public import proofs.«01_k».proof.Proof.ConvFFrame
public import proofs.«01_k».proof.Proof.ConvFRef

@[expose] public section

set_option maxRecDepth 16384

noncomputable section

namespace Cert.ConvF

open Cert.Kernel13Ideal Cert.Kernel13Ideal.Gen Idealize.ShloMosaic Idealize.ShloMosaic.TcCoe Idealize.SL.Sem

variable (m : (ℓ : Loc nD τ sig) → Buf (Elt Ideal) ℓ) (c : Dev nD)

/-! ## The blocks -/

theorem e0 : ∀ t : Fin cfg0.N, win0_0.index t = ![t.val, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0, 0] := (by decide +kernel : ∀ t : Fin grid0.N, _)
theorem e6 : ∀ t : Fin cfg0.N, win0_6.index t = ![t.val, 0, 0] := (by decide +kernel : ∀ t : Fin grid0.N, _)

/-- A grid point's batch. -/
def bt (t : Fin cfg0.N) : Fin 4 := ⟨t.val, t.isLt⟩

/-- The arrays the launch gives. -/
abbrev aX : S4x2048x512.Idx → EReal := m ((c : Thread nD τ).loc main_arg0)
abbrev aW : S31x256.Idx → EReal := m ((c : Thread nD τ).loc main_arg1)
abbrev aB : S256.Idx → EReal := m ((c : Thread nD τ).loc main_arg2)
abbrev aG : S256.Idx → EReal := m ((c : Thread nD τ).loc main_arg3)
abbrev aE : S256.Idx → EReal := m ((c : Thread nD τ).loc main_arg4)

theorem V_b (k : Fin 256) : (V (F := Ideal) m c main_v0 (ix2 0 k) : EReal) = aB m c (ix1 k) := by
  dsimp only [V, hostOps0]; after_results
  pointwise
theorem V_g (k : Fin 256) : (V (F := Ideal) m c main_v1 (ix2 0 k) : EReal) = aG m c (ix1 k) := by
  dsimp only [V, hostOps0]; after_results
  pointwise
theorem V_e (k : Fin 256) : (V (F := Ideal) m c main_v2 (ix2 0 k) : EReal) = aE m c (ix1 k) := by
  dsimp only [V, hostOps0]; after_results
  pointwise

theorem ib0 (t : Fin cfg0.N) (s : Fin 2048) (k : Fin 512) : (iblk m c 0 t (ix3 0 s k) : EReal) = aX m c (ix3 (bt t) s k) := by
  unfold iblk
  blk_simp
  rw [V_main_arg0]
  blk_ext [e0, bt]
theorem ib1 (t : Fin cfg0.N) (k : Fin 31) (l : Fin 256) : (iblk m c 1 t (ix2 k l) : EReal) = aW m c (ix2 k l) := by
  unfold iblk
  blk_simp
  rw [V_main_arg1]
  blk_ext [e1]
theorem ib2 (t : Fin cfg0.N) (k : Fin 256) : (iblk m c 2 t (ix2 0 k) : EReal) = aB m c (ix1 k) := by
  rw [← V_b m c k]
  unfold iblk
  blk_simp
  blk_ext [e2]
theorem ib3 (t : Fin cfg0.N) (k : Fin 256) : (iblk m c 3 t (ix2 0 k) : EReal) = aG m c (ix1 k) := by
  rw [← V_g m c k]
  unfold iblk
  blk_simp
  blk_ext [e3]
theorem ib4 (t : Fin cfg0.N) (k : Fin 256) : (iblk m c 4 t (ix2 0 k) : EReal) = aE m c (ix1 k) := by
  rw [← V_e m c k]
  unfold iblk
  blk_simp
  blk_ext [e4]

theorem put5 (t : Fin cfg0.N) (y : S1x2048x256.Idx) : (win0_5.blk t).view.emb y = ix3 (bt t) (y 1) (y 2) := by
  unfold bt
  blk_ext [e5]
theorem put6 (t : Fin cfg0.N) (y : S1x2048x256.Idx) : (win0_6.blk t).view.emb y = ix3 (bt t) (y 1) (y 2) := by
  unfold bt
  blk_ext [e6]

/-! ## What a point leaves -/

theorem ld_ci (t : Fin cfg0.N) (q : Fin k0_t1_loop.trips) (z : Fin 128) (k : Fin 512) (s : Fin 2048) (hs : 128 * q.val + z.val = s.val) :
    (View.ld (ins m c t).ci (Rect.unit (s := S1x2048x512) (k0_off1 q) S1x128x512.size (k0_off1_inb q)) (ix3 0 z k) : EReal) = aX m c (ix3 (bt t) s k) := by
  have h := congrFun (k0_off1_eq q)
  rw [← ib0, View.ld_apply]
  refine congrArg (iblk m c 0 t) (funext fun x => Fin.ext ?_)
  rw [Rect.idx_unit_val]
  fin_cases x
  · exact congrArg (· + 0) (h 0)
  · exact (congrArg (· + z.val) (h 1)).trans hs
  · exact (congrArg (· + k.val) (h 2)).trans (Nat.zero_add _)

theorem pad_at (t : Fin cfg0.N) (r : Fin 2080) (l : Fin 256) : (padded (ins m c t) (ix2 r l) : EReal) = pad (aX m c) (bt t) r.val l := by
  unfold padded pad
  by_cases h : r.val < 32
  · rw [dif_pos (show ((ix2 r l : S2080x256.Idx) 0).val < 32 from h), dif_neg (by omega)]
    pointwise [k0_pay1]
  · rw [dif_neg (show ¬ ((ix2 r l : S2080x256.Idx) 0).val < 32 from h), dif_pos ⟨by omega, r.isLt⟩]
    refine (gated_apply _ _ l).trans ?_
    rw [gate_eq]
    have hr : 128 * ((r.val - 32) / 128) + (r.val - 32) % 128 = r.val - 32 := by omega
    have hld := fun k : Fin 512 => (ld_ci m c t ⟨(r.val - 32) / 128, by have := r.isLt; change _ < 16; omega⟩ ⟨(r.val - 32) % 128, Nat.mod_lt _ (by decide)⟩ k
      ⟨r.val - 32, by have := r.isLt; omega⟩ hr)
    exact congrArg₂ (fun a b => a * sigm b) (hld _) (hld _)

/-- A chunk's half of the channels. -/
theorem half_at (t : Fin cfg0.N) (q : ℕ) (xs : Vec Ideal S160x128 .f32) (bs : Vec Ideal S1x128 .f32) (ws : Fin 31 → Vec Ideal S1x128 .f32) (s : Fin 2048)
    (z l' : Fin 128) (l : Fin 256) (hx : ∀ r : Fin 160, (xs (ix2 r l') : EReal) = pad (aX m c) (bt t) (128 * q + r.val) l)
    (hb : (bs (ix2 0 l') : EReal) = aB m c (ix1 l)) (hw : ∀ k, (ws k (ix2 0 l') : EReal) = aW m c (ix2 k l)) (hs : 128 * q + z.val = s.val) :
    (left xs bs ws (ix3 0 z l') : EReal) = convAt (aX m c) (aW m c) (aB m c) (bt t) s l := by
  rw [left_apply, sum_order, hb]
  refine congrArg (fun f => refSum f (aB m c (ix1 l))) (funext fun k => ?_)
  rw [hw, hx]
  exact congrArg (fun r => aW m c (ix2 k l) * pad (aX m c) (bt t) r l) (by show 128 * q + (k.val + z.val + 2) = k.val + s.val + 2; omega)

theorem ld_pad (t : Fin cfg0.N) (off : Fin 2 → ℕ) (inb) (q o : ℕ) (ho : off = ![128 * q, o]) (r : Fin 160) (l' : Fin 128) (l : Fin 256) (hl : o + l'.val = l.val) :
    (View.ld (padded (ins m c t)) (Rect.unit (s := S2080x256) off S160x128.size inb) (ix2 r l') : EReal) = pad (aX m c) (bt t) (128 * q + r.val) l := by
  subst ho
  have h : 128 * q + 160 ≤ 2080 := inb 0
  rw [← pad_at m c t ⟨128 * q + r.val, by omega⟩ l, View.ld_apply]
  refine congrArg (padded (ins m c t)) (funext fun x => Fin.ext ?_)
  rw [Rect.idx_unit_val]
  fin_cases x
  · rfl
  · exact hl

theorem ld_lane {n : ℕ} (a : (⟨2, ![n, 256]⟩ : Shape).Idx → EReal) (k : Fin n) (o : ℕ) (inb) (l' : Fin 128) (l : Fin 256) (hl : o + l'.val = l.val) :
    View.ld (Val := Elt Ideal) (e' := .f32) a (Rect.unit (s := ⟨2, ![n, 256]⟩) ![k.val, o] S1x128.size inb) (ix2 0 l') = a (ix2 k l) := by
  rw [View.ld_apply]
  refine congrArg a (funext fun x => Fin.ext ?_)
  rw [Rect.idx_unit_val]
  fin_cases x
  · rfl
  · exact hl

theorem conv_at (t : Fin cfg0.N) (s : Fin 2048) (l : Fin 256) : (convAll (ins m c t) (ix3 0 s l) : EReal)
    = convAt (aX m c) (aW m c) (aB m c) (bt t) s l := by
  unfold convAll
  have hs : 128 * (s.val / 128) + s.val % 128 = s.val := by omega
  by_cases h : l.val < 128
  · rw [dif_pos (show ((ix3 0 s l : S1x2048x256.Idx) 2).val < 128 from h)]
    exact half_at m c t (s.val / 128) _ _ _ s _ ⟨l.val, h⟩ l (fun r => ld_pad m c t _ _ _ 0 (k0_off3_eq _) r _ l (Nat.zero_add _))
      ((ld_lane _ 0 0 _ _ l (Nat.zero_add _)).trans (ib2 m c t l)) (fun k => (ld_lane _ k 0 _ _ l (Nat.zero_add _)).trans (ib1 m c t k l)) hs
  · rw [dif_neg (show ¬ ((ix3 0 s l : S1x2048x256.Idx) 2).val < 128 from h)]
    have hl : 128 + (l.val - 128) = l.val := by omega
    refine (congrFun (right_eq _ _ _) _).trans ?_
    exact half_at m c t (s.val / 128) _ _ _ s _ ⟨l.val - 128, by omega⟩ l (fun r => ld_pad m c t _ _ _ 128 (k0_off5_eq _) r _ l hl)
      ((ld_lane _ 0 128 _ _ l hl).trans (ib2 m c t l)) (fun k => (ld_lane _ k 128 _ _ l hl).trans (ib1 m c t k l)) hs

theorem act_at (t : Fin cfg0.N) (s : Fin 2048) (d : Fin 256) : (actAll (ins m c t) (ix3 0 s d) : EReal)
    = normAt (convAt (aX m c) (aW m c) (aB m c) (bt t) s) (fun k => aG m c (ix1 k)) (fun k => aE m c (ix1 k)) d
      * sigm (normAt (convAt (aX m c) (aW m c) (aB m c) (bt t) s) (fun k => aG m c (ix1 k)) (fun k => aE m c (ix1 k)) d) := by
  unfold actAll act
  refine (act_apply _ _ _ _ d).trans ?_
  have hu : (fun k : Fin 256 => (chunk (ins m c t) ⟨s.val / 128, div16 _ s.isLt⟩ (ix3 0 ⟨s.val % 128, Nat.mod_lt _ (by decide)⟩ k) : EReal))
      = convAt (aX m c) (aW m c) (aB m c) (bt t) s := funext fun k => by
    rw [← conv_at]
    unfold chunk
    refine congrArg (convAll (ins m c t)) (congrArg (fun r => ix3 0 r k) (Fin.ext ?_))
    show 128 * (s.val / 128) + s.val % 128 = s.val
    omega
  have hg : (fun k : Fin 256 => (View.ld (ins m c t).g (Rect.unit (s := S1x256) ![0, 0] S1x256.size inb_S1x256_S1x256_0_0) (ix2 0 k) : EReal))
      = fun k => aG m c (ix1 k) := funext fun k => by
    rw [View.ld_unit_zero (by decide)]
    exact ib3 m c t k
  have he : (fun k : Fin 256 => (View.ld (ins m c t).e (Rect.unit (s := S1x256) ![0, 0] S1x256.size inb_S1x256_S1x256_0_0) (ix2 0 k) : EReal))
      = fun k => aE m c (ix1 k) := funext fun k => by
    rw [View.ld_unit_zero (by decide)]
    exact ib4 m c t k
  exact (congrArg₂ (· * ·) rfl (gate_eq _)).trans (congrArg (fun v => v * sigm v)
    (congrFun (congr (congr (congrArg normAt hu) hg) he) d))

/-! ## The arrays -/

theorem all_y : (dats m 0 c).arrAt 5 cfg0.N
    = Cert.Reference13Ideal.Read.val_main_v258 (F := Ideal) (aX m c) (aW m c) (aB m c) (aG m c) (aE m c) := by
  refine (dats m 0 c).arrAt_eq_of_covers 5 _ (by decide +kernel) fun t hf y => ?_
  rw [after_5]
  refine Eq.trans ?_ (((act_at m c t (y 1) (y 2)).trans (r_out _ _ _ _ _ (bt t) (y 1) (y 2)).symm).trans (congrArg _ (put5 t y).symm))
  obtain ⟨z, s, d, rfl⟩ : ∃ z s d, y = ix3 z s d := ⟨y 0, y 1, y 2, (ix3_eta y).symm⟩
  rw [show z = 0 from Subsingleton.elim _ _]
  rfl

theorem all_u : (dats m 0 c).arrAt 6 cfg0.N
    = Cert.Reference13Ideal.Read.val_main_v232 (F := Ideal) (aX m c) (aW m c) (aB m c) := by
  refine (dats m 0 c).arrAt_eq_of_covers 6 _ (by decide +kernel) fun t hf y => ?_
  rw [after_6]
  refine Eq.trans ?_ (((conv_at m c t (y 1) (y 2)).trans (r_conv _ _ _ (bt t) (y 1) (y 2)).symm).trans (congrArg _ (put6 t y).symm))
  obtain ⟨z, s, d, rfl⟩ : ∃ z s d, y = ix3 z s d := ⟨y 0, y 1, y 2, (ix3_eta y).symm⟩
  rw [show z = 0 from Subsingleton.elim _ _]
  rfl

/-- The two programs return the same two arrays. -/
theorem algebraic : Cert.algebraic_Kernel13Ideal_Reference13Ideal := by
  intro m g m' g' _ hagree
  refine ⟨fun c => (dats m 0 c).arrAt 5 cfg0.N, fun c => (dats m 0 c).arrAt 6 cfg0.N, ?_, ?_⟩
  · refine (θ_run defs _ _).mono (fun r h c => ?_) (θ_run_and (launched m g) (quiet m g))
    obtain ⟨⟨hp, _⟩, hq, _⟩ := h
    exact ⟨(hp c).1 5, (hp c).1 6, hq c⟩
  · refine (θ_run Cert.Reference13Ideal.defs _ _).mono (fun r h c => ?_) (Cert.Reference13Ideal.Value.run (F := Ideal) m' g')
    obtain ⟨hy, hu, ha⟩ := h c
    obtain ⟨a0, a1, a2, a3, a4⟩ := hagree c
    refine ⟨hy.trans ?_, hu.trans ?_, ha⟩
    · dsimp only
      rw [all_y, Cert.Reference13Ideal.Read.val_main_v258_eq]
      exact congr (congr (congr (congr (congrArg (Cert.Reference13Ideal.Read.val_main_v258 (F := Ideal)) a0) a1) a2) a3) a4
    · dsimp only
      rw [all_u, Cert.Reference13Ideal.Read.val_main_v232_eq]
      exact congr (congr (congrArg (Cert.Reference13Ideal.Read.val_main_v232 (F := Ideal)) a0) a1) a2

end Cert.ConvF

end
-- ==== Proof.DownW.lean ====
/- The down projection's weight gradient: the array the call returns, and the reference's, element by element. -/
module

public import proofs.«01_k».proof.Proof.Gen.Kernel14.Frame
public import proofs.«01_k».proof.Proof.Gen.Kernel14Ideal.Value
public import proofs.«01_k».proof.Proof.Gen.Reference14Ideal.Read
public import proofs.«01_k».proof.Proof.RmsMath
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

noncomputable section

namespace Cert.DownW

open Cert.Kernel14Ideal Cert.Kernel14Ideal.Gen Idealize.ShloMosaic Idealize.ShloMosaic.TcCoe Idealize.SL.Sem

variable (m : (ℓ : Loc nD τ sig) → Buf (Elt Ideal) ℓ) (ρ : Dev nD → PrngReg)

theorem N8 (t : Fin cfg0.N) : t.val < 8 := by
  have := t.isLt
  have : cfg0.N = 8 := N_0
  omega

/-- One chunk of columns after a step: what was there and the rows' products with the squared activations. -/
theorem pay6_apply (x v : Vec Ideal S1024x1024 .f32) (r : Vec Ideal S1024x1024 .bf16) (d f : Fin 1024) :
    (k0_pay6 x v r (ix2 d f) : EReal) = v (ix2 d f) + ∑ s : Fin 1024, x (ix2 s d) * (r (ix2 s f) * r (ix2 s f)) := by
  pointwise [k0_pay6, k0_pay4]

theorem pay7_apply (x v : Vec Ideal S1024x1024 .f32) (r : Vec Ideal S1024x1024 .bf16) (d f : Fin 1024) :
    (k0_pay7 x v r (ix2 d f) : EReal) = v (ix2 d f) + ∑ s : Fin 1024, x (ix2 s d) * (r (ix2 s f) * r (ix2 s f)) := by
  pointwise [k0_pay7, k0_pay4]

theorem pay1_apply (x v : Vec Ideal S1024x1024 .f32) (r : Vec Ideal S1024x1024 .bf16) (d f : Fin 1024) :
    (k0_pay1 (k0_pay4 x) v (k0_pay8 r) (constant S1024x1024 .f32 0x00000000#32) (ix2 d f) : EReal)
      = v (ix2 d f) + ∑ s : Fin 1024, x (ix2 s d) * (r (ix2 s f) * r (ix2 s f)) := by
  pointwise [k0_pay1, k0_pay4, k0_pay8]

theorem pay2_apply (x v : Vec Ideal S1024x1024 .f32) (r : Vec Ideal S1024x1024 .bf16) (d f : Fin 1024) :
    (k0_pay2 (k0_pay4 x) v r (ix2 d f) : EReal) = v (ix2 d f) + ∑ s : Fin 1024, x (ix2 s d) * (r (ix2 s f) * r (ix2 s f)) := by
  pointwise [k0_pay2, k0_pay4]

theorem pay3_apply (acc : Vec Ideal S1024x4096 .f32) (i : S1024x4096.Idx) : (k0_pay3 acc i : EReal) = acc i := by
  pointwise [k0_pay3]

theorem pay5_apply (i : S1024x4096.Idx) : (k0_pay5 (F := Ideal) i : EReal) = 0 := by
  pointwise [k0_pay5]

/-- The blocks of the activations and of the cotangent at a point. -/
abbrev bR (c : Dev nD) (t : Fin cfg0.N) : S1024x4096.Idx → EReal := iblk m c 0 t
abbrev bX (c : Dev nD) (t : Fin cfg0.N) : S1024x1024.Idx → EReal := iblk m c 1 t

/-- What a point adds to the gradient. -/
def partAt (c : Dev nD) (t : Fin cfg0.N) (i : S1024x4096.Idx) : EReal :=
  ∑ s : Fin 1024, bX m c t (ix2 s (i 0)) * (bR m c t (ix2 s (i 1)) * bR m c t (ix2 s (i 1)))

/-- One chunk of columns, `o` columns from the left: its entries are the scratch's and the point's sums. -/
theorem chunk (X : Vec Ideal S1024x4096 .f32) (R : Vec Ideal S1024x4096 .bf16) (b : Vec Ideal S1024x1024 .f32) (o : ℕ) (inb) (p : Vec Ideal S1024x1024 .f32)
    (hp : ∀ d f : Fin 1024, (p (ix2 d f) : EReal) = View.ld X (Rect.unit (s := S1024x4096) ![0, o] S1024x1024.size inb) (ix2 d f)
      + ∑ s : Fin 1024, b (ix2 s d) * (View.ld R (Rect.unit (s := S1024x4096) ![0, o] S1024x1024.size inb) (ix2 s f)
        * View.ld R (Rect.unit (s := S1024x4096) ![0, o] S1024x1024.size inb) (ix2 s f)))
    (x : S1024x1024.Idx) (i : S1024x4096.Idx) (h0 : (i 0).val = (x 0).val) (h1 : (i 1).val = o + (x 1).val) :
    (p x : EReal) = X i + ∑ s : Fin 1024, b (ix2 s (i 0)) * (R (ix2 s (i 1)) * R (ix2 s (i 1))) := by
  obtain ⟨d, f, rfl⟩ : ∃ d f, x = ix2 d f := ⟨x 0, x 1, (ix2_eta x).symm⟩
  obtain ⟨d', k, rfl⟩ : ∃ d k, i = ix2 d k := ⟨i 0, i 1, (ix2_eta i).symm⟩
  obtain rfl : d = d' := (Fin.ext h0).symm
  have h1 : k.val = o + f.val := h1
  have hl : ∀ s : Fin 1024, (Rect.unit (s := S1024x4096) ![0, o] S1024x1024.size inb).idx (ix2 s f) = ix2 s k := fun s => by
    refine funext fun a => Fin.ext ?_
    rw [Rect.idx_unit_val]
    fin_cases a
    · exact Nat.zero_add _
    · exact h1.symm
  have hX : (View.ld X (Rect.unit (s := S1024x4096) ![0, o] S1024x1024.size inb) (ix2 d f) : EReal) = X (ix2 d k) := congrArg X (hl d)
  have hR : ∀ s : Fin 1024, (View.ld R (Rect.unit (s := S1024x4096) ![0, o] S1024x1024.size inb) (ix2 s f) : EReal) = R (ix2 s k) :=
    fun s => congrArg R (hl s)
  rw [hp, hX]
  refine congrArg (X (ix2 d k) + ·) (Finset.sum_congr rfl fun s _ => ?_)
  rw [hR]
  rfl

theorem step_B (c : Dev nD) (t : Fin cfg0.N) (c0 : ¬ t.val % 8 = 0) (c1 : ¬ t.val % 8 = 7) (i : S1024x4096.Idx) :
    ((outsAt0 m c t.val t.isLt).2 i : EReal) = (outsAt0 m c (t.val - 1) (by have := t.isLt; omega)).2 i + partAt m c t i := by
  rw [outsAt0_B m c t c0 c1]
  frame_out
  simp only [read_unread_whole]
  canon_tiles x h
  · exact chunk _ (iblk m c 0 t) (iblk m c 1 t) 3072 _ _ (pay2_apply _ _ _) x i h0 h1
  · exact chunk _ (iblk m c 0 t) (iblk m c 1 t) 2048 _ _ (pay1_apply _ _ _) x i h0 h1
  · exact chunk _ (iblk m c 0 t) (iblk m c 1 t) 1024 _ _ (pay7_apply _ _ _) x i h0 h1
  · exact chunk _ (iblk m c 0 t) (iblk m c 1 t) 0 _ _ (pay6_apply _ _ _) x i h0 (h1.trans (Nat.zero_add _).symm)

theorem step_C (c : Dev nD) (t : Fin cfg0.N) (c0 : ¬ t.val % 8 = 0) (c1 : t.val % 8 = 7) (i : S1024x4096.Idx) :
    ((outsAt0 m c t.val t.isLt).2 i : EReal) = (outsAt0 m c (t.val - 1) (by have := t.isLt; omega)).2 i + partAt m c t i := by
  rw [outsAt0_C m c t c0 c1]
  frame_out
  simp only [read_unread_whole]
  canon_tiles x h
  · exact chunk _ (iblk m c 0 t) (iblk m c 1 t) 3072 _ _ (pay2_apply _ _ _) x i h0 h1
  · exact chunk _ (iblk m c 0 t) (iblk m c 1 t) 2048 _ _ (pay1_apply _ _ _) x i h0 h1
  · exact chunk _ (iblk m c 0 t) (iblk m c 1 t) 1024 _ _ (pay7_apply _ _ _) x i h0 h1
  · exact chunk _ (iblk m c 0 t) (iblk m c 1 t) 0 _ _ (pay6_apply _ _ _) x i h0 (h1.trans (Nat.zero_add _).symm)

theorem step_A (c : Dev nD) (t : Fin cfg0.N) (c0 : t.val % 8 = 0) (c1 : ¬ t.val % 8 = 7) (i : S1024x4096.Idx) :
    ((outsAt0 m c t.val t.isLt).2 i : EReal) = partAt m c t i := by
  rw [outsAt0_A m c t c0 c1]
  frame_out
  simp (disch := decide) only [↓ View.readCov_skip, ↓ View.readCov_fill]
  have hc : ∀ (o : ℕ) (inb) (p : Vec Ideal S1024x1024 .f32) (R : Vec Ideal S1024x4096 .bf16) (b : Vec Ideal S1024x1024 .f32),
      (∀ d f : Fin 1024, (p (ix2 d f) : EReal)
        = View.ld (k0_pay5 (F := Ideal)) (Rect.unit (s := S1024x4096) ![0, o] S1024x1024.size inb) (ix2 d f)
        + ∑ s : Fin 1024, b (ix2 s d) * (View.ld R (Rect.unit (s := S1024x4096) ![0, o] S1024x1024.size inb) (ix2 s f)
          * View.ld R (Rect.unit (s := S1024x4096) ![0, o] S1024x1024.size inb) (ix2 s f))) →
      ∀ (x : S1024x1024.Idx) (i : S1024x4096.Idx), i = (Rect.unit (s := S1024x4096) ![0, o] S1024x1024.size inb).emb x →
        (p x : EReal) = ∑ s : Fin 1024, b (ix2 s (i 0)) * (R (ix2 s (i 1)) * R (ix2 s (i 1))) := fun o inb p R b hp x i hi => by
    subst hi
    refine (chunk _ R b o inb p hp x _ ?_ ?_).trans (by rw [pay5_apply, zero_add])
    · exact (Rect.idx_unit_val _ _ _ _ _).trans (Nat.zero_add _)
    · exact Rect.idx_unit_val _ _ _ _ _
  refine View.canon_append_of_piecesOf (Val := Elt Ideal) (e := .f32) (partAt m c t) [_] [_, _, _, _] ⟨fun x => ?_, fun x => ?_, fun x => ?_, fun x => ?_, trivial⟩ i
    (View.cover_of_tiledL (s := S1024x4096) _ S1024x1024.size (by sl_kernel_rfl) i)
  · exact hc 3072 _ _ (iblk m c 0 t) (iblk m c 1 t) (pay2_apply _ _ _) x _ rfl
  · exact hc 2048 _ _ (iblk m c 0 t) (iblk m c 1 t) (pay1_apply _ _ _) x _ rfl
  · exact hc 1024 _ _ (iblk m c 0 t) (iblk m c 1 t) (pay7_apply _ _ _) x _ rfl
  · exact hc 0 _ _ (iblk m c 0 t) (iblk m c 1 t) (pay6_apply _ _ _) x _ rfl

theorem out_C (c : Dev nD) (t : Fin cfg0.N) (c0 : ¬t.val % 8 = 0) (c1 : t.val % 8 = 7) (i : S1024x4096.Idx) :
    ((outsAt0 m c t.val t.isLt).1 i : EReal) = (outsAt0 m c t.val t.isLt).2 i := by
  rw [outsAt0_C m c t c0 c1]
  frame_out
  rw [pay3_apply, View.readCov_eq_canon']
  refine congrArg (View.canon _) (funext fun a => Fin.ext ?_)
  refine (Rect.idx_unit_val _ _ _ i a).trans ?_
  fin_cases a <;> exact Nat.zero_add _

/-- The scratch after the last point. -/
theorem scr (c : Dev nD) (t : Fin cfg0.N) (ht : t.val + 1 = cfg0.N) (i : S1024x4096.Idx) :
    ((outsAt0 m c t.val t.isLt).2 i : EReal) = ∑ p : Fin cfg0.N, partAt m c p i := by
  rw [Pipeline.eq_sum_fin_of_reset_step_apply_last (fun n h => ((outsAt0 m c n h).2 : S1024x4096.Idx → EReal)) 8 (fun _ => 0) (partAt m c)
    (fun t h i => by
      have := N8 t
      exact (step_A m c t h (by omega) i).trans (zero_add _).symm)
    (fun t h i => by
      by_cases c2 : t.val % 8 = 7
      · exact step_C m c t h c2 i
      · exact step_B m c t h c2 i)
    (le_of_eq N_0) t ht i, zero_add]

/-! ## What the windows' blocks are -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

/-- The row of the arrays that row `s` of point `t`'s block is. -/
def at_ (t : Fin cfg0.N) (s : Fin 1024) : Fin 8192 := ⟨t.val * 1024 + s.val, by have := N8 t; omega⟩

/-- The arrays the call is given. -/
abbrev aP (c : Dev nD) : S8192x4096.Idx → EReal := m ((c : Thread nD τ).loc main_arg0)
abbrev aX (c : Dev nD) : S8192x1024.Idx → EReal := m ((c : Thread nD τ).loc main_arg2)

/-- The relu the host prepares. -/
theorem V_r (c : Dev nD) (j : S8192x4096.Idx) : (V (F := Ideal) m c main_v2 j : EReal) = max (aP m c j) 0 := by
  dsimp only [V, hostOps0]; after_results
  pointwise

theorem ib0 (c : Dev nD) (t : Fin cfg0.N) (s : Fin 1024) (k : Fin 4096) : (iblk m c 0 t (ix2 s k) : EReal) = max (aP m c (ix2 (at_ t s) k)) 0 := by
  rw [← V_r]
  unfold iblk
  blk_simp
  blk_ext [e0, at_]

theorem ib1 (c : Dev nD) (t : Fin cfg0.N) (s d : Fin 1024) : (iblk m c 1 t (ix2 s d) : EReal) = aX m c (ix2 (at_ t s) d) := by
  unfold iblk
  blk_simp
  rw [V_main_arg2]
  blk_ext [e1, at_]

/-- The gradient: the rows' products of the cotangent with the squared relu. -/
def G (pre : S8192x4096.Idx → EReal) (x : S8192x1024.Idx → EReal) : S1024x4096.Idx → EReal :=
  fun i => ∑ t : Fin 8192, x (ix2 t (i 0)) * (max (pre (ix2 t (i 1))) 0 * max (pre (ix2 t (i 1))) 0)

theorem final (c : Dev nD) : (dats m 0 c).arrAt 2 cfg0.N = G (aP m c) (aX m c) := by
  refine (dats m 0 c).arrAt_eq_of_after_last 2 t0_7 (by decide +kernel) _ fun i => ?_
  blk_simp
  rw [after0_2]
  refine (out_C m c t0_7 (by decide) (by decide) i).trans ((scr m c t0_7 (N_0.symm : (8 : ℕ) = grid0.N) i).trans ?_)
  obtain ⟨d, k, rfl⟩ : ∃ d k, i = ix2 d k := ⟨i 0, i 1, (ix2_eta i).symm⟩
  exact Fin.sum_mul_add_congr (S := cfg0.N) (n := 1024) (L := 8192)
    (F := fun p s => bX m c p (ix2 s d) * (bR m c p (ix2 s k) * bR m c p (ix2 s k)))
    (f := fun t => aX m c (ix2 t d) * (max (aP m c (ix2 t k)) 0 * max (aP m c (ix2 t k)) 0))
    (fun p s h => by dsimp only [bR, bX]; rw [ib0, ib1]; rfl) (congrArg (· * 1024) (N_0.symm : (8 : ℕ) = grid0.N))

/-! ## The reference -/

open Cert.Reference14Ideal.Read in
theorem ref_eq (pre : S8192x4096.Idx → EReal) (x : S8192x1024.Idx → EReal) (d : Fin 1024) (k : Fin 4096) :
    (val_main_v6 (F := Ideal) pre x (ix2 d k) : EReal) = G pre x (ix2 d k) := by
  rw [val_main_v6_apply]
  show (val_main_v5 (F := Ideal) pre x (ix2 d k) : EReal) = _
  rw [val_main_v5_apply, val_main_v4_apply, val_main_v3_apply]
  refine Finset.sum_congr rfl fun t _ => ?_
  simp only [val_main_v1_apply, val_main_v0_apply, val_main_call0_v0_apply, val_main_call0_cst_apply]
  have hl : lidx_main_v3 (idx_main_v4 (idx_main_v5 (ix2 d k))) t = ix2 t d := by funext a; fin_cases a <;> rfl
  have hr : ridx_main_v3 (idx_main_v4 (idx_main_v5 (ix2 d k))) t = ix2 t k := by funext a; fin_cases a <;> rfl
  rw [hl, hr, show FloatOps.ofBits (F := Ideal) .f32 0x00000000#32 = (0 : EReal) from Ideal.ofBits_zero_f32]
  rfl

/-- The two programs return the same array. -/
theorem algebraic : Cert.algebraic_Kernel14Ideal_Reference14Ideal := by
  intro m g m' g' _ hagree
  refine ⟨fun c => (dats m 0 c).arrAt 2 cfg0.N, Value.run_blocks m g, ?_⟩
  refine (θ_run Cert.Reference14Ideal.defs _ _).mono (fun r h c => ?_) (Cert.Reference14Ideal.Value.run (F := Ideal) m' g')
  obtain ⟨ha, hq⟩ := h c
  obtain ⟨a0, a1, a2⟩ := hagree c
  refine ⟨ha.trans ?_, hq⟩
  dsimp only
  rw [final, Cert.Reference14Ideal.Read.val_main_v6_eq]
  refine (congr (congrArg (Cert.Reference14Ideal.Read.val_main_v6 (F := Ideal)) a0) a2).trans (funext fun i => ?_)
  rw [← ix2_eta i]
  exact ref_eq _ _ _ _

end Cert.DownW

end
-- ==== Proof.UpW.lean ====
/- The up projection's weight gradient: the array the call returns, and the reference's, element by element. -/
module

public import proofs.«01_k».proof.Proof.Gen.Kernel15.Frame
public import proofs.«01_k».proof.Proof.Gen.Kernel15Ideal.Value
public import proofs.«01_k».proof.Proof.Gen.Reference15Ideal.Read
public import proofs.«01_k».proof.Proof.RmsMath
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

noncomputable section

namespace Cert.UpW

open Cert.Kernel15Ideal Cert.Kernel15Ideal.Gen Idealize.ShloMosaic Idealize.ShloMosaic.TcCoe Idealize.SL.Sem

variable (m : (ℓ : Loc nD τ sig) → Buf (Elt Ideal) ℓ) (ρ : Dev nD → PrngReg)

theorem N8 (t : Fin cfg0.N) : t.val < 8 := by
  have := t.isLt
  have : cfg0.N = 8 := N_0
  omega

/-- One chunk of columns after a step: what was there and the rows' products with the cotangent. -/
theorem pay5_apply (x : Vec Ideal S1024x1024 .bf16) (v : Vec Ideal S1024x1024 .f32) (r : Vec Ideal S1024x1024 .bf16) (d f : Fin 1024) :
    (k0_pay5 x v r (ix2 d f) : EReal) = v (ix2 d f) + ∑ s : Fin 1024, x (ix2 s d) * r (ix2 s f) := by
  pointwise [k0_pay5, k0_pay3]

theorem pay6_apply (x : Vec Ideal S1024x1024 .bf16) (v : Vec Ideal S1024x1024 .f32) (r : Vec Ideal S1024x1024 .bf16) (d f : Fin 1024) :
    (k0_pay6 x v r (ix2 d f) : EReal) = v (ix2 d f) + ∑ s : Fin 1024, x (ix2 s d) * r (ix2 s f) := by
  pointwise [k0_pay6, k0_pay3]

theorem pay7_apply (x : Vec Ideal S1024x1024 .bf16) (v : Vec Ideal S1024x1024 .f32) (r : Vec Ideal S1024x1024 .bf16) (d f : Fin 1024) :
    (k0_pay7 x v r (ix2 d f) : EReal) = v (ix2 d f) + ∑ s : Fin 1024, x (ix2 s d) * r (ix2 s f) := by
  pointwise [k0_pay7, k0_pay3]

theorem pay1_apply (x : Vec Ideal S1024x1024 .bf16) (v : Vec Ideal S1024x1024 .f32) (r : Vec Ideal S1024x1024 .bf16) (d f : Fin 1024) :
    (k0_pay1 (k0_pay3 x) v r (ix2 d f) : EReal) = v (ix2 d f) + ∑ s : Fin 1024, x (ix2 s d) * r (ix2 s f) := by
  pointwise [k0_pay1, k0_pay3]

theorem pay2_apply (acc : Vec Ideal S1024x4096 .f32) (i : S1024x4096.Idx) : (k0_pay2 acc i : EReal) = acc i := by
  pointwise [k0_pay2]

theorem pay4_apply (i : S1024x4096.Idx) : (k0_pay4 (F := Ideal) i : EReal) = 0 := by
  pointwise [k0_pay4]

/-- The blocks of the normalized rows and of the cotangent at a point. -/
abbrev bH (c : Dev nD) (t : Fin cfg0.N) : S1024x1024.Idx → EReal := iblk m c 0 t
abbrev bP (c : Dev nD) (t : Fin cfg0.N) : S1024x4096.Idx → EReal := iblk m c 1 t

/-- What a point adds to the gradient. -/
def partAt (c : Dev nD) (t : Fin cfg0.N) (i : S1024x4096.Idx) : EReal := ∑ s : Fin 1024, bH m c t (ix2 s (i 0)) * bP m c t (ix2 s (i 1))

/-- A chunk of columns, `o` columns from the left. -/
abbrev cols (o : ℕ) (inb : ∀ a, (![0, o] : Fin 2 → ℕ) a + S1024x1024.size a ≤ S1024x4096.size a) : Rect S1024x4096 := Rect.unit (s := S1024x4096) ![0, o] S1024x1024.size inb

/-- One chunk's entries are the scratch's and the point's sums. -/
theorem chunk (X : Vec Ideal S1024x4096 .f32) (R : Vec Ideal S1024x4096 .bf16) (b : Vec Ideal S1024x1024 .bf16) (o : ℕ) (inb) (p : Vec Ideal S1024x1024 .f32)
    (hp : ∀ d f : Fin 1024, (p (ix2 d f) : EReal)
      = View.ld X (cols o inb) (ix2 d f) + ∑ s : Fin 1024, b (ix2 s d) * View.ld R (cols o inb) (ix2 s f))
    (x : S1024x1024.Idx) (i : S1024x4096.Idx) (h0 : (i 0).val = (x 0).val) (h1 : (i 1).val = o + (x 1).val) :
    (p x : EReal) = X i + ∑ s : Fin 1024, b (ix2 s (i 0)) * R (ix2 s (i 1)) := by
  obtain ⟨d, f, rfl⟩ : ∃ d f, x = ix2 d f := ⟨x 0, x 1, (ix2_eta x).symm⟩
  obtain ⟨d', k, rfl⟩ : ∃ d k, i = ix2 d k := ⟨i 0, i 1, (ix2_eta i).symm⟩
  obtain rfl : d = d' := (Fin.ext h0).symm
  have h1 : k.val = o + f.val := h1
  have hl : ∀ s : Fin 1024, (cols o inb).idx (ix2 s f) = ix2 s k := fun s => by
    refine funext fun a => Fin.ext ?_
    rw [Rect.idx_unit_val]
    fin_cases a
    · exact Nat.zero_add _
    · exact h1.symm
  have hX : (View.ld X (cols o inb) (ix2 d f) : EReal) = X (ix2 d k) := congrArg X (hl d)
  have hR : ∀ s : Fin 1024, (View.ld R (cols o inb) (ix2 s f) : EReal) = R (ix2 s k) := fun s => congrArg R (hl s)
  rw [hp, hX]
  refine congrArg (X (ix2 d k) + ·) (Finset.sum_congr rfl fun s _ => ?_)
  rw [hR]
  rfl

theorem step_B (c : Dev nD) (t : Fin cfg0.N) (c0 : ¬ t.val % 8 = 0) (c1 : ¬ t.val % 8 = 7) (i : S1024x4096.Idx) :
    ((outsAt0 m c t.val t.isLt).2 i : EReal) = (outsAt0 m c (t.val - 1) (by have := t.isLt; omega)).2 i + partAt m c t i := by
  rw [outsAt0_B m c t c0 c1]
  frame_out
  simp only [read_unread_whole]
  canon_tiles x h
  · exact chunk _ (iblk m c 1 t) (iblk m c 0 t) 3072 _ _ (pay1_apply _ _ _) x i h0 h1
  · exact chunk _ (iblk m c 1 t) (iblk m c 0 t) 2048 _ _ (pay7_apply _ _ _) x i h0 h1
  · exact chunk _ (iblk m c 1 t) (iblk m c 0 t) 1024 _ _ (pay6_apply _ _ _) x i h0 h1
  · exact chunk _ (iblk m c 1 t) (iblk m c 0 t) 0 _ _ (pay5_apply _ _ _) x i h0 (h1.trans (Nat.zero_add _).symm)

theorem step_C (c : Dev nD) (t : Fin cfg0.N) (c0 : ¬ t.val % 8 = 0) (c1 : t.val % 8 = 7) (i : S1024x4096.Idx) :
    ((outsAt0 m c t.val t.isLt).2 i : EReal) = (outsAt0 m c (t.val - 1) (by have := t.isLt; omega)).2 i + partAt m c t i := by
  rw [outsAt0_C m c t c0 c1]
  frame_out
  simp only [read_unread_whole]
  canon_tiles x h
  · exact chunk _ (iblk m c 1 t) (iblk m c 0 t) 3072 _ _ (pay1_apply _ _ _) x i h0 h1
  · exact chunk _ (iblk m c 1 t) (iblk m c 0 t) 2048 _ _ (pay7_apply _ _ _) x i h0 h1
  · exact chunk _ (iblk m c 1 t) (iblk m c 0 t) 1024 _ _ (pay6_apply _ _ _) x i h0 h1
  · exact chunk _ (iblk m c 1 t) (iblk m c 0 t) 0 _ _ (pay5_apply _ _ _) x i h0 (h1.trans (Nat.zero_add _).symm)

theorem step_A (c : Dev nD) (t : Fin cfg0.N) (c0 : t.val % 8 = 0) (c1 : ¬ t.val % 8 = 7) (i : S1024x4096.Idx) :
    ((outsAt0 m c t.val t.isLt).2 i : EReal) = partAt m c t i := by
  rw [outsAt0_A m c t c0 c1]
  frame_out
  simp (disch := decide) only [↓ View.readCov_skip, ↓ View.readCov_fill]
  have hc : ∀ (o : ℕ) (inb) (p : Vec Ideal S1024x1024 .f32) (R : Vec Ideal S1024x4096 .bf16) (b : Vec Ideal S1024x1024 .bf16),
      (∀ d f : Fin 1024, (p (ix2 d f) : EReal) = View.ld (k0_pay4 (F := Ideal)) (cols o inb) (ix2 d f)
        + ∑ s : Fin 1024, b (ix2 s d) * View.ld R (cols o inb) (ix2 s f)) →
      ∀ (x : S1024x1024.Idx) (i : S1024x4096.Idx), i = (cols o inb).emb x →
        (p x : EReal) = ∑ s : Fin 1024, b (ix2 s (i 0)) * R (ix2 s (i 1)) := fun o inb p R b hp x i hi => by
    subst hi
    refine (chunk _ R b o inb p hp x _ ?_ ?_).trans (by rw [pay4_apply, zero_add])
    · exact (Rect.idx_unit_val _ _ _ _ _).trans (Nat.zero_add _)
    · exact Rect.idx_unit_val _ _ _ _ _
  refine View.canon_append_of_piecesOf (Val := Elt Ideal) (e := .f32) (partAt m c t) [_] [_, _, _, _]
    ⟨fun x => ?_, fun x => ?_, fun x => ?_, fun x => ?_, trivial⟩ i (View.cover_of_tiledL (s := S1024x4096) _ S1024x1024.size (by sl_kernel_rfl) i)
  · exact hc 3072 _ _ (iblk m c 1 t) (iblk m c 0 t) (pay1_apply _ _ _) x _ rfl
  · exact hc 2048 _ _ (iblk m c 1 t) (iblk m c 0 t) (pay7_apply _ _ _) x _ rfl
  · exact hc 1024 _ _ (iblk m c 1 t) (iblk m c 0 t) (pay6_apply _ _ _) x _ rfl
  · exact hc 0 _ _ (iblk m c 1 t) (iblk m c 0 t) (pay5_apply _ _ _) x _ rfl

theorem out_C (c : Dev nD) (t : Fin cfg0.N) (c0 : ¬t.val % 8 = 0) (c1 : t.val % 8 = 7) (i : S1024x4096.Idx) :
    ((outsAt0 m c t.val t.isLt).1 i : EReal) = (outsAt0 m c t.val t.isLt).2 i := by
  rw [outsAt0_C m c t c0 c1]
  frame_out
  rw [pay2_apply, View.readCov_eq_canon']
  refine congrArg (View.canon _) (funext fun a => Fin.ext ?_)
  refine (Rect.idx_unit_val _ _ _ i a).trans ?_
  fin_cases a <;> exact Nat.zero_add _

/-- The scratch after the last point. -/
theorem scr (c : Dev nD) (t : Fin cfg0.N) (ht : t.val + 1 = cfg0.N) (i : S1024x4096.Idx) :
    ((outsAt0 m c t.val t.isLt).2 i : EReal) = ∑ p : Fin cfg0.N, partAt m c p i := by
  rw [Pipeline.eq_sum_fin_of_reset_step_apply_last (fun n h => ((outsAt0 m c n h).2 : S1024x4096.Idx → EReal)) 8 (fun _ => 0) (partAt m c)
    (fun t h i => by
      have := N8 t
      exact (step_A m c t h (by omega) i).trans (zero_add _).symm)
    (fun t h i => by
      by_cases c2 : t.val % 8 = 7
      · exact step_C m c t h c2 i
      · exact step_B m c t h c2 i)
    (le_of_eq N_0) t ht i, zero_add]

/-! ## What the windows' blocks are -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

/-- The row of the arrays that row `s` of point `t`'s block is. -/
def at_ (t : Fin cfg0.N) (s : Fin 1024) : Fin 8192 := ⟨t.val * 1024 + s.val, by have := N8 t; omega⟩

/-- The arrays the call is given. -/
abbrev aX (c : Dev nD) : S8192x1024.Idx → EReal := m ((c : Thread nD τ).loc main_arg0)
abbrev aG (c : Dev nD) : S1024.Idx → EReal := m ((c : Thread nD τ).loc main_arg1)
abbrev aP (c : Dev nD) : S8192x4096.Idx → EReal := m ((c : Thread nD τ).loc main_arg3)

/-- The normalized rows, as the reference writes them. -/
abbrev H (x : S8192x1024.Idx → EReal) (g : S1024.Idx → EReal) : S8192x1024.Idx → EReal := Cert.Reference15Ideal.Read.val_main_v12 (F := Ideal) x g

/-- The host's normalized rows. -/
theorem V_h (c : Dev nD) (j : S8192x1024.Idx) : (V (F := Ideal) m c main_v13 j : EReal) = H (aX m c) (aG m c) j := by
  dsimp only [V, hostOps0]; after_results
  rfl

theorem V_p (c : Dev nD) (j : S8192x4096.Idx) : (V (F := Ideal) m c main_v14 j : EReal) = aP m c j := by
  dsimp only [V, hostOps0]; after_results
  pointwise

theorem ib0 (c : Dev nD) (t : Fin cfg0.N) (s d : Fin 1024) : (iblk m c 0 t (ix2 s d) : EReal) = H (aX m c) (aG m c) (ix2 (at_ t s) d) := by
  rw [← V_h]
  unfold iblk
  blk_simp
  blk_ext [e0, at_]

theorem ib1 (c : Dev nD) (t : Fin cfg0.N) (s : Fin 1024) (k : Fin 4096) : (iblk m c 1 t (ix2 s k) : EReal) = aP m c (ix2 (at_ t s) k) := by
  rw [← V_p]
  unfold iblk
  blk_simp
  blk_ext [e1, at_]

/-- The gradient: the rows' products of the normalized rows with the cotangent. -/
def G (h : S8192x1024.Idx → EReal) (dp : S8192x4096.Idx → EReal) : S1024x4096.Idx → EReal :=
  fun i => ∑ t : Fin 8192, h (ix2 t (i 0)) * dp (ix2 t (i 1))

theorem final (c : Dev nD) : (dats m 0 c).arrAt 2 cfg0.N = G (H (aX m c) (aG m c)) (aP m c) := by
  refine (dats m 0 c).arrAt_eq_of_after_last 2 t0_7 (by decide +kernel) _ fun i => ?_
  blk_simp
  rw [after0_2]
  refine (out_C m c t0_7 (by decide) (by decide) i).trans ((scr m c t0_7 (N_0.symm : (8 : ℕ) = grid0.N) i).trans ?_)
  obtain ⟨d, k, rfl⟩ : ∃ d k, i = ix2 d k := ⟨i 0, i 1, (ix2_eta i).symm⟩
  exact Fin.sum_mul_add_congr (S := cfg0.N) (n := 1024) (L := 8192)
    (F := fun p s => bH m c p (ix2 s d) * bP m c p (ix2 s k))
    (f := fun t => H (aX m c) (aG m c) (ix2 t d) * aP m c (ix2 t k))
    (fun p s h => by dsimp only [bH, bP]; rw [ib0, ib1]; rfl) (congrArg (· * 1024) (N_0.symm : (8 : ℕ) = grid0.N))

/-! ## The reference -/

open Cert.Reference15Ideal.Read in
theorem ref_eq (x : S8192x1024.Idx → EReal) (g : S1024.Idx → EReal) (dp : S8192x4096.Idx → EReal) (d : Fin 1024) (k : Fin 4096) :
    (val_main_v16 (F := Ideal) x g dp (ix2 d k) : EReal) = G (H x g) dp (ix2 d k) := by
  rw [val_main_v16_apply]
  show (val_main_v15 (F := Ideal) x g dp (ix2 d k) : EReal) = _
  rw [val_main_v15_apply, val_main_v14_apply]
  refine Finset.sum_congr rfl fun t _ => ?_
  have hl : lidx_main_v14 (idx_main_v15 (ix2 d k)) t = ix2 t k := by funext a; fin_cases a <;> rfl
  have hr : ridx_main_v14 (idx_main_v15 (ix2 d k)) t = ix2 t d := by funext a; fin_cases a <;> rfl
  rw [hl, hr]
  exact mul_comm (G := EReal) _ _

/-- The two programs return the same array. -/
theorem algebraic : Cert.algebraic_Kernel15Ideal_Reference15Ideal := by
  intro m g m' g' _ hagree
  refine ⟨fun c => (dats m 0 c).arrAt 2 cfg0.N, Value.run_blocks m g, ?_⟩
  refine (θ_run Cert.Reference15Ideal.defs _ _).mono (fun r h c => ?_) (Cert.Reference15Ideal.Value.run (F := Ideal) m' g')
  obtain ⟨ha, hq⟩ := h c
  obtain ⟨a0, a1, a2, a3⟩ := hagree c
  refine ⟨ha.trans ?_, hq⟩
  dsimp only
  rw [final, Cert.Reference15Ideal.Read.val_main_v16_eq]
  refine (congr (congr (congrArg (Cert.Reference15Ideal.Read.val_main_v16 (F := Ideal)) a0) a1) a3).trans (funext fun i => ?_)
  rw [← ix2_eta i]
  exact ref_eq _ _ _ _ _

end Cert.UpW

end
-- ==== Proof.UpF.lean ====
/- The second RMSNorm and the squared-relu gate's up projection: the arrays the call returns, and the reference's, element by element. -/
module

public import proofs.«01_k».proof.Proof.Gen.Kernel9Ideal.Value
public import proofs.«01_k».proof.Proof.Gen.Reference9Ideal.Read
public import proofs.«01_k».proof.Proof.RmsMath
public import proofs.«01_k».proof.Defs
public import Idealize.ShloMosaic.Lib.Pointwise
public import Idealize.ShloMosaic.Lib.Pipeline.ValueKit

@[expose] public section

noncomputable section

namespace Cert.UpF

open Cert.Kernel9Ideal Cert.Kernel9Ideal.Gen Cert.Rms Idealize.ShloMosaic Idealize.ShloMosaic.TcCoe Idealize.SL.Sem

variable (m : (ℓ : Loc nD τ sig) → Buf (Elt Ideal) ℓ) (ρ : Dev nD → PrngReg)

/-- The normalized rows. -/
def H (x : S8192x1024.Idx → EReal) (g : S1024.Idx → EReal) : S8192x1024.Idx → EReal :=
  fun i => x i * rstd (fun k => x (ix2 (i 0) k)) * g (ix1 (i 1))

/-- The gate's relu. -/
def R (x : S8192x1024.Idx → EReal) (g : S1024.Idx → EReal) (w : S1024x4096.Idx → EReal) : S8192x4096.Idx → EReal :=
  fun i => max (∑ k : Fin 1024, H x g (ix2 (i 0) k) * w (ix2 k (i 1))) 0

/-! ## The payloads -/

theorem pay3_apply (x : Vec Ideal S512x1024 .f32) (g : Vec Ideal S1x1024 .f32) (s : Fin 512) (d : Fin 1024) :
    (k0_pay3 x g (ix2 s d) : EReal) = x (ix2 s d) * rstd (fun k => x (ix2 s k)) * g (ix2 0 d) := by
  pointwise [k0_pay3]
  rfl

theorem pay4_apply (x : Vec Ideal S512x1024 .f32) (g : Vec Ideal S1x1024 .f32) (w : Vec Ideal S1024x1024 .bf16) (j : S512x1024.Idx) :
    (k0_pay4 x g w j : EReal) = max (α := EReal) (∑ k : Fin 1024, k0_pay3 x g (ix2 (j 0) k) * w (ix2 k (j 1))) 0 := by
  pointwise [k0_pay4]

theorem pay5_apply (x : Vec Ideal S512x1024 .f32) (g : Vec Ideal S1x1024 .f32) (w : Vec Ideal S1024x1024 .bf16) (j : S512x1024.Idx) :
    (k0_pay5 x g w j : EReal) = max (α := EReal) (∑ k : Fin 1024, k0_pay3 x g (ix2 (j 0) k) * w (ix2 k (j 1))) 0 := by
  pointwise [k0_pay5]

theorem pay1_apply (h : FVec Ideal S512x1024 .bf16) (w : Vec Ideal S1024x1024 .bf16) (j : S512x1024.Idx) :
    (k0_pay1 h (k0_pay6 w) j : EReal) = max (α := EReal) (∑ k : Fin 1024, h (ix2 (j 0) k) * w (ix2 k (j 1))) 0 := by
  pointwise [k0_pay1, k0_pay6]

theorem pay2_apply (h : FVec Ideal S512x1024 .bf16) (w : Vec Ideal S1024x1024 .bf16) (j : S512x1024.Idx) :
    (k0_pay2 h w j : EReal) = max (α := EReal) (∑ k : Fin 1024, h (ix2 (j 0) k) * w (ix2 k (j 1))) 0 := by
  pointwise [k0_pay2]

/-! ## What the windows' blocks are -/

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)

/-- The row of the arrays that row `s` of point `t`'s block is. -/
def at_ (t : Fin cfg0.N) (s : Fin 512) : Fin 8192 := ⟨t.val * 512 + s.val, by have := t.isLt; have h : cfg0.N = 16 := N_0; omega⟩

/-- The arrays the launch gives. -/
abbrev aX (c : Dev nD) : S8192x1024.Idx → EReal := m ((c : Thread nD τ).loc main_arg0)
abbrev aG (c : Dev nD) : S1024.Idx → EReal := m ((c : Thread nD τ).loc main_arg1)
abbrev aW (c : Dev nD) : S1024x4096.Idx → EReal := m ((c : Thread nD τ).loc main_arg2)

theorem V_w (c : Dev nD) (j : S1024x4096.Idx) : (V (F := Ideal) m c main_v1 j : EReal) = aW m c j := by
  dsimp only [V, hostOps0]; after_results
  pointwise

theorem V_g (c : Dev nD) (z : Fin 1) (k : Fin 1024) : (V (F := Ideal) m c main_v0 (ix2 z k) : EReal) = aG m c (ix1 k) := by
  dsimp only [V, hostOps0]; after_results
  pointwise

theorem ib0 (c : Dev nD) (t : Fin cfg0.N) (s : Fin 512) (k : Fin 1024) : (iblk m c 0 t (ix2 s k) : EReal) = aX m c (ix2 (at_ t s) k) := by
  unfold iblk
  blk_simp
  rw [V_main_arg0]
  blk_ext [e0, at_]

theorem ib1 (c : Dev nD) (t : Fin cfg0.N) (k : Fin 1024) : (iblk m c 1 t (ix2 0 k) : EReal) = aG m c (ix1 k) := by
  rw [← V_g m c 0 k]
  unfold iblk
  blk_simp
  blk_ext [e1]

theorem ib2 (c : Dev nD) (t : Fin cfg0.N) (k : Fin 1024) (f : Fin 4096) : (iblk m c 2 t (ix2 k f) : EReal) = aW m c (ix2 k f) := by
  unfold iblk
  blk_simp
  rw [V_w]
  blk_ext [e2]

/-! ## What the call leaves -/

theorem h_at (c : Dev nD) (t : Fin cfg0.N) (s : Fin 512) (d : Fin 1024) :
    (k0_pay3 (iblk m c 0 t) (iblk m c 1 t) (ix2 s d) : EReal) = H (aX m c) (aG m c) (ix2 (at_ t s) d) := by
  rw [pay3_apply, ib1, show (fun k : Fin 1024 => (iblk m c 0 t (ix2 s k) : EReal)) = fun k => aX m c (ix2 (at_ t s) k) from
    funext fun k => ib0 m c t s k, ib0]
  rfl

theorem ld_w (a : Vec Ideal S1024x4096 .bf16) (o : ℕ) (h) (k : Fin 1024) (d : Fin 1024) (f : Fin 4096) (hf : f.val = o + d.val) :
    (View.ld a (Rect.unit ![0, o] ![1024, 1024] h) (ix2 k d) : EReal) = a (ix2 k f) := by
  rw [View.ld_apply]
  refine congrArg a (funext fun x => Fin.ext ?_)
  rw [Rect.idx_unit_val]
  fin_cases x <;> simp [hf]

theorem final3 (c : Dev nD) : (dats m 0 c).arrAt 3 cfg0.N = H (aX m c) (aG m c) := by
  refine (dats m 0 c).arrAt_eq_of_covers 3 _ (by decide +kernel) fun t hf y => ?_
  blk_simp
  rw [after0_3]
  frame_out
  obtain ⟨s, d, rfl⟩ : ∃ s d, y = ix2 s d := ⟨y 0, y 1, (ix2_eta y).symm⟩
  refine Eq.trans (h_at m c t s d) (congrArg _ ?_)
  blk_ext [e3, at_]

/-- One column chunk of the relu, its operands read off the arrays. -/
theorem chunk (c : Dev nD) (t : Fin cfg0.N) (o : ℕ) (h) (i : S8192x4096.Idx) (x : S512x1024.Idx) (h0 : (i 0).val = t.val * 512 + (x 0).val)
    (h1 : (i 1).val = o + (x 1).val) :
    max (α := EReal) (∑ k : Fin 1024, k0_pay3 (iblk m c 0 t) (iblk m c 1 t) (ix2 (x 0) k)
      * View.ld (iblk m c 2 t) (Rect.unit (s := S1024x4096) ![0, o] S1024x1024.size h) (ix2 k (x 1))) 0 = R (aX m c) (aG m c) (aW m c) i := by
  unfold R
  refine congrArg (max · 0) (Finset.sum_congr rfl fun k _ => ?_)
  have e : i 0 = at_ t (x 0) := Fin.ext h0
  exact (congrArg₂ (fun p q : EReal => p * q) (h_at m c t (x 0) k) ((ld_w (iblk m c 2 t) o h k (x 1) (i 1) h1).trans (ib2 m c t k (i 1)))).trans
    (congrArg (fun z => H (aX m c) (aG m c) (ix2 z k) * aW m c (ix2 k (i 1))) e.symm)

theorem pay7_eq (a : Vec Ideal S512x1024 .f32) (b : Vec Ideal S1x1024 .f32) (w : Vec Ideal S1024x4096 .bf16) : k0_pay7 a b w = k0_pay3 a b := by
  unfold k0_pay7
  rw [View.ld_unit_zero (by decide), View.ld_unit_zero (by decide)]

theorem final4 (c : Dev nD) : (dats m 0 c).arrAt 4 cfg0.N = R (aX m c) (aG m c) (aW m c) := by
  refine (dats m 0 c).arrAt_eq_of_covers 4 _ (by decide +kernel) fun t hf y => ?_
  blk_simp
  rw [after0_4]
  have hy0 : ((win0_4.blk t).view.emb y 0).val = t.val * 512 + (y 0).val := by blk_simp [e4]
  have hy1 : ((win0_4.blk t).view.emb y 1).val = (y 1).val := by blk_simp [e4]
  generalize (win0_4.blk t).view.emb y = i at hy0 hy1 ⊢
  frame_out
  canon_tiles x h
  · rw [pay7_eq]
    refine (pay2_apply _ _ x).trans ?_
    exact chunk m c t 3072 _ i x (by omega) (by omega)
  · rw [pay7_eq]
    refine (pay1_apply _ _ x).trans ?_
    exact chunk m c t 2048 _ i x (by omega) (by omega)
  · refine (pay5_apply _ _ _ x).trans ?_
    exact chunk m c t 1024 _ i x (by omega) (by omega)
  · refine (pay4_apply _ _ _ x).trans ?_
    exact chunk m c t 0 _ i x (by omega) (by omega)

/-! ## The reference -/

open Cert.Reference9Ideal.Read

section
variable (x : S8192x1024.Idx → EReal) (g : S1024.Idx → EReal) (w : S1024x4096.Idx → EReal)

theorem zero_word : FloatOps.ofBits (F := Ideal) .f32 0x00000000#32 = (0 : EReal) := Ideal.ofBits_zero_f32

theorem r_rstd (t : Fin 8192) (z : Fin 1) : (val_main_v7 (F := Ideal) x (ix2 t z) : EReal) = rstd fun k => x (ix2 t k) := by
  rw [val_main_v7_apply, val_main_v6_apply, val_main_v4_apply, val_main_v2_apply, val_main_v3_apply, val_main_v5_apply, val_main_v1_apply,
    val_main_cst_apply, val_main_cst_0_apply, val_main_cst_1_apply, zero_word, zero_add]
  have h : ∀ k, idx_main_v1 (idx_main_v2 (ix2 t z)) k = ix2 t k := fun k => by funext a; fin_cases a <;> rfl
  simp only [h, val_main_v0_apply]
  rfl

theorem r_h (t : Fin 8192) (d : Fin 1024) : (val_main_v12 (F := Ideal) x g (ix2 t d) : EReal) = H x g (ix2 t d) := by
  rw [val_main_v12_apply, val_main_v9_apply, val_main_v8_apply, val_main_v11_apply, val_main_v10_apply,
    show idx_main_v8 (ix2 t d) = ix2 t 0 from by funext a; fin_cases a <;> rfl, r_rstd,
    show idx_main_v10 (idx_main_v11 (ix2 t d)) = ix1 d from by funext a; fin_cases a; rfl]
  rfl

theorem r_h' (i : S8192x1024.Idx) : (val_main_v13 (F := Ideal) x g i : EReal) = H x g i := by
  obtain ⟨t, d, rfl⟩ : ∃ t d, i = ix2 t d := ⟨i 0, i 1, (ix2_eta i).symm⟩
  rw [val_main_v13_apply]
  exact r_h x g t d

theorem r_r (i : S8192x4096.Idx) : (val_main_v16 (F := Ideal) x g w i : EReal) = R x g w i := by
  rw [val_main_v16_apply, val_main_v15_apply, val_main_v14_apply, val_main_call0_v0_apply, val_main_call0_cst_apply, zero_word]
  have hl : ∀ k, lidx_main_v14 i k = ix2 (i 0) k := fun k => by funext a; fin_cases a <;> rfl
  have hr : ∀ k, ridx_main_v14 i k = ix2 k (i 1) := fun k => by funext a; fin_cases a <;> rfl
  simp only [hl, hr]
  refine congrArg (max · 0) (Finset.sum_congr rfl fun k _ => ?_)
  exact congrArg (· * _) (r_h x g (i 0) k)
end

/-- The two programs return the same two arrays. -/
theorem algebraic : Cert.algebraic_Kernel9Ideal_Reference9Ideal := by
  intro m g m' g' _ hagree
  refine ⟨fun c => (dats m 0 c).arrAt 3 cfg0.N, fun c => (dats m 0 c).arrAt 4 cfg0.N, Value.run_blocks m g, ?_⟩
  refine (θ_run Cert.Reference9Ideal.defs _ _).mono (fun r h c => ?_) (Cert.Reference9Ideal.Value.run (F := Ideal) m' g')
  obtain ⟨ha, hb, hq⟩ := h c
  obtain ⟨a0, a1, a2⟩ := hagree c
  refine ⟨ha.trans ?_, hb.trans ?_, hq⟩
  · dsimp only
    rw [final3, val_main_v13_eq, a0, a1]
    exact funext (r_h' _ _)
  · dsimp only
    rw [final4, val_main_v16_eq, a0, a1, a2]
    exact funext (r_r _ _ _)

end Cert.UpF

end
-- ==== Proof.InpF.lean ====
/- The first RMSNorm and the input projection: the arrays the call returns, and the reference's, element by element. -/
module

public import proofs.«01_k».proof.Proof.Gen.Kernel10Ideal.Value
public import proofs.«01_k».proof.Proof.Gen.Reference10Ideal.Read
public import proofs.«01_k».proof.Proof.RmsMath
public import proofs.«01_k».proof.Defs
public import Idealize.ShloMosaic.Lib.Pointwise
public import Idealize.ShloMosaic.Lib.Pipeline.ValueKit

@[expose] public section

noncomputable section

namespace Cert.InpF

open Cert.Kernel10Ideal Cert.Kernel10Ideal.Gen Cert.Rms Idealize.ShloMosaic Idealize.ShloMosaic.TcCoe Idealize.SL.Sem

variable (m : (ℓ : Loc nD τ sig) → Buf (Elt Ideal) ℓ) (ρ : Dev nD → PrngReg)

/-- The normalized rows. -/
def H (x : S8192x1024.Idx → EReal) (g : S1024.Idx → EReal) : S8192x1024.Idx → EReal :=
  fun i => x i * rstd (fun k => x (ix2 (i 0) k)) * g (ix1 (i 1))

/-- All columns of the projections. -/
abbrev S8192x2432 : Shape := ⟨2, ![8192, 2432]⟩

/-- The projections. -/
def Z (x : S8192x1024.Idx → EReal) (g : S1024.Idx → EReal) (w : S1024x2432.Idx → EReal) : S8192x2432.Idx → EReal :=
  fun i => ∑ k : Fin 1024, H x g (ix2 (i 0) k) * w (ix2 k (i 1))

/-- The projections' three parts: attention's, the convolution's, the recurrence's. -/
def ZA (x : S8192x1024.Idx → EReal) (g : S1024.Idx → EReal) (w : S1024x2432.Idx → EReal) : S8192x1152.Idx → EReal :=
  fun i => Z x g w (ix2 (i 0) ⟨0 + (i 1).val, by have : (i 1).val < 1152 := (i 1).isLt; omega⟩)
def ZC (x : S8192x1024.Idx → EReal) (g : S1024.Idx → EReal) (w : S1024x2432.Idx → EReal) : S8192x512.Idx → EReal :=
  fun i => Z x g w (ix2 (i 0) ⟨1152 + (i 1).val, by have : (i 1).val < 512 := (i 1).isLt; omega⟩)
def ZR (x : S8192x1024.Idx → EReal) (g : S1024.Idx → EReal) (w : S1024x2432.Idx → EReal) : S8192x768.Idx → EReal :=
  fun i => Z x g w (ix2 (i 0) ⟨1664 + (i 1).val, by have : (i 1).val < 768 := (i 1).isLt; omega⟩)

/-! ## The payloads -/

theorem pay1_apply (x : Vec Ideal S512x1024 .f32) (g : Vec Ideal S1x1024 .f32) (s : Fin 512) (d : Fin 1024) :
    (k0_pay1 x g (ix2 s d) : EReal) = x (ix2 s d) * rstd (fun k => x (ix2 s k)) * g (ix2 0 d) := by
  pointwise [k0_pay1]
  rfl

theorem pay2_apply (x : Vec Ideal S512x1024 .f32) (g : Vec Ideal S1x1024 .f32) (w : Vec Ideal S1024x1152 .bf16) (s : Fin 512) (d : Fin 1152) :
    (k0_pay2 x g w (ix2 s d) : EReal) = ∑ k : Fin 1024, k0_pay1 x g (ix2 s k) * w (ix2 k d) := by
  pointwise [k0_pay2]

theorem pay3_apply (x : Vec Ideal S512x1024 .f32) (g : Vec Ideal S1x1024 .f32) (w : Vec Ideal S1024x512 .bf16) (s : Fin 512) (d : Fin 512) :
    (k0_pay3 x g w (ix2 s d) : EReal) = ∑ k : Fin 1024, k0_pay1 x g (ix2 s k) * w (ix2 k d) := by
  pointwise [k0_pay3]

theorem pay4_apply (x : Vec Ideal S512x1024 .f32) (g : Vec Ideal S1x1024 .f32) (w : Vec Ideal S1024x768 .bf16) (s : Fin 512) (d : Fin 768) :
    (k0_pay4 x g w (ix2 s d) : EReal) = ∑ k : Fin 1024, k0_pay1 x g (ix2 s k) * w (ix2 k d) := by
  pointwise [k0_pay4]

/-! ## What the windows' blocks are -/

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

/-- The row of the arrays that row `s` of point `t`'s block is. -/
def at_ (t : Fin cfg0.N) (s : Fin 512) : Fin 8192 := ⟨t.val * 512 + s.val, by have := t.isLt; have h : cfg0.N = 16 := N_0; omega⟩

/-- The arrays the launch gives. -/
abbrev aX (c : Dev nD) : S8192x1024.Idx → EReal := m ((c : Thread nD τ).loc main_arg0)
abbrev aG (c : Dev nD) : S1024.Idx → EReal := m ((c : Thread nD τ).loc main_arg1)
abbrev aW (c : Dev nD) : S1024x2432.Idx → EReal := m ((c : Thread nD τ).loc main_arg2)

theorem V_w (c : Dev nD) (j : S1024x2432.Idx) : (V (F := Ideal) m c main_v1 j : EReal) = aW m c j := by
  dsimp only [V, hostOps0]; after_results
  pointwise

theorem V_g (c : Dev nD) (z : Fin 1) (k : Fin 1024) : (V (F := Ideal) m c main_v0 (ix2 z k) : EReal) = aG m c (ix1 k) := by
  dsimp only [V, hostOps0]; after_results
  pointwise

theorem ib0 (c : Dev nD) (t : Fin cfg0.N) (s : Fin 512) (k : Fin 1024) : (iblk m c 0 t (ix2 s k) : EReal) = aX m c (ix2 (at_ t s) k) := by
  unfold iblk
  blk_simp
  rw [V_main_arg0]
  blk_ext [e0, at_]

theorem ib1 (c : Dev nD) (t : Fin cfg0.N) (k : Fin 1024) : (iblk m c 1 t (ix2 0 k) : EReal) = aG m c (ix1 k) := by
  rw [← V_g m c 0 k]
  unfold iblk
  blk_simp
  blk_ext [e1]

theorem ib2 (c : Dev nD) (t : Fin cfg0.N) (k : Fin 1024) (f : Fin 2432) : (iblk m c 2 t (ix2 k f) : EReal) = aW m c (ix2 k f) := by
  unfold iblk
  blk_simp
  rw [V_w]
  blk_ext [e2]

/-! ## What the call leaves -/

theorem h_at (c : Dev nD) (t : Fin cfg0.N) (s : Fin 512) (d : Fin 1024) :
    (k0_pay1 (iblk m c 0 t) (iblk m c 1 t) (ix2 s d) : EReal) = H (aX m c) (aG m c) (ix2 (at_ t s) d) := by
  rw [pay1_apply, ib1, show (fun k : Fin 1024 => (iblk m c 0 t (ix2 s k) : EReal)) = fun k => aX m c (ix2 (at_ t s) k) from
    funext fun k => ib0 m c t s k, ib0]
  rfl

theorem ld_w {n : ℕ} (a : Vec Ideal S1024x2432 .bf16) (o : ℕ) (h) (k : Fin 1024) (d : Fin n) (hd : o + d.val < 2432) :
    (View.ld a (Rect.unit ![0, o] ![1024, n] h) (ix2 k d) : EReal) = a (ix2 k ⟨o + d.val, hd⟩) := by
  rw [View.ld_apply]
  refine congrArg a (funext fun x => Fin.ext ?_)
  rw [Rect.idx_unit_val]
  fin_cases x <;> simp

/-- One part of the projections, its operands read off the arrays. -/
theorem z_at {n : ℕ} (c : Dev nD) (t : Fin cfg0.N) (o : ℕ) (h) (s : Fin 512) (d : Fin n) (hd : o + d.val < 2432) :
    (∑ k : Fin 1024, (k0_pay1 (iblk m c 0 t) (iblk m c 1 t) (ix2 s k) : EReal)
      * View.ld (iblk m c 2 t) (Rect.unit (s := S1024x2432) ![0, o] ![1024, n] h) (ix2 k d))
      = Z (aX m c) (aG m c) (aW m c) (ix2 (at_ t s) ⟨o + d.val, hd⟩) := by
  refine Finset.sum_congr rfl fun k _ => ?_
  rw [ld_w (iblk m c 2 t) o h k d hd, ib2, h_at]
  rfl

theorem final3 (c : Dev nD) : (dats m 0 c).arrAt 3 cfg0.N = H (aX m c) (aG m c) := by
  refine (dats m 0 c).arrAt_eq_of_covers 3 _ (by decide +kernel) fun t hf y => ?_
  blk_simp
  rw [after0_3]
  frame_out
  obtain ⟨s, d, rfl⟩ : ∃ s d, y = ix2 s d := ⟨y 0, y 1, (ix2_eta y).symm⟩
  refine Eq.trans (h_at m c t s d) (congrArg _ ?_)
  blk_ext [e3, at_]

theorem final4 (c : Dev nD) : (dats m 0 c).arrAt 4 cfg0.N = ZA (aX m c) (aG m c) (aW m c) := by
  refine (dats m 0 c).arrAt_eq_of_covers 4 _ (by decide +kernel) fun t hf y => ?_
  blk_simp
  rw [after0_4]
  frame_out
  obtain ⟨s, d, rfl⟩ : ∃ s d, y = ix2 s d := ⟨y 0, y 1, (ix2_eta y).symm⟩
  refine ((pay2_apply _ _ _ s d).trans (z_at m c t 0 _ s d (by omega))).trans ?_
  refine congrArg (ZA (aX m c) (aG m c) (aW m c)) (a₁ := ix2 (at_ t s) d) ?_
  blk_ext [e4, at_]

theorem final5 (c : Dev nD) : (dats m 0 c).arrAt 5 cfg0.N = ZC (aX m c) (aG m c) (aW m c) := by
  refine (dats m 0 c).arrAt_eq_of_covers 5 _ (by decide +kernel) fun t hf y => ?_
  blk_simp
  rw [after0_5]
  frame_out
  obtain ⟨s, d, rfl⟩ : ∃ s d, y = ix2 s d := ⟨y 0, y 1, (ix2_eta y).symm⟩
  refine ((pay3_apply _ _ _ s d).trans (z_at m c t 1152 _ s d (by omega))).trans ?_
  refine congrArg (ZC (aX m c) (aG m c) (aW m c)) (a₁ := ix2 (at_ t s) d) ?_
  blk_ext [e5, at_]

theorem final6 (c : Dev nD) : (dats m 0 c).arrAt 6 cfg0.N = ZR (aX m c) (aG m c) (aW m c) := by
  refine (dats m 0 c).arrAt_eq_of_covers 6 _ (by decide +kernel) fun t hf y => ?_
  blk_simp
  rw [after0_6]
  frame_out
  obtain ⟨s, d, rfl⟩ : ∃ s d, y = ix2 s d := ⟨y 0, y 1, (ix2_eta y).symm⟩
  refine ((pay4_apply _ _ _ s d).trans (z_at m c t 1664 _ s d (by omega))).trans ?_
  refine congrArg (ZR (aX m c) (aG m c) (aW m c)) (a₁ := ix2 (at_ t s) d) ?_
  blk_ext [e6, at_]

/-! ## The reference -/

open Cert.Reference10Ideal.Read

section
variable (x : S8192x1024.Idx → EReal) (g : S1024.Idx → EReal) (w : S1024x2432.Idx → EReal)

theorem zero_word : FloatOps.ofBits (F := Ideal) .f32 0x00000000#32 = (0 : EReal) := Ideal.ofBits_zero_f32

theorem r_rstd (t : Fin 8192) (z : Fin 1) : (val_main_v7 (F := Ideal) x (ix2 t z) : EReal) = rstd fun k => x (ix2 t k) := by
  rw [val_main_v7_apply, val_main_v6_apply, val_main_v4_apply, val_main_v2_apply, val_main_v3_apply, val_main_v5_apply, val_main_v1_apply,
    val_main_cst_apply, val_main_cst_0_apply, val_main_cst_1_apply, zero_word, zero_add]
  have h : ∀ k, idx_main_v1 (idx_main_v2 (ix2 t z)) k = ix2 t k := fun k => by funext a; fin_cases a <;> rfl
  simp only [h, val_main_v0_apply]
  rfl

theorem r_h (t : Fin 8192) (d : Fin 1024) : (val_main_v12 (F := Ideal) x g (ix2 t d) : EReal) = H x g (ix2 t d) := by
  rw [val_main_v12_apply, val_main_v9_apply, val_main_v8_apply, val_main_v11_apply, val_main_v10_apply,
    show idx_main_v8 (ix2 t d) = ix2 t 0 from by funext a; fin_cases a <;> rfl, r_rstd,
    show idx_main_v10 (idx_main_v11 (ix2 t d)) = ix1 d from by funext a; fin_cases a; rfl]
  rfl

theorem r_h' (i : S8192x1024.Idx) : (val_main_v14 (F := Ideal) x g i : EReal) = H x g i := by
  obtain ⟨t, d, rfl⟩ : ∃ t d, i = ix2 t d := ⟨i 0, i 1, (ix2_eta i).symm⟩
  rw [val_main_v14_apply]
  exact r_h x g t d

theorem r_z (i : S8192x2432.Idx) : (val_main_v13 (F := Ideal) x g w i : EReal) = Z x g w i := by
  rw [val_main_v13_apply]
  have hl : ∀ k, lidx_main_v13 i k = ix2 (i 0) k := fun k => by funext a; fin_cases a <;> rfl
  have hr : ∀ k, ridx_main_v13 i k = ix2 k (i 1) := fun k => by funext a; fin_cases a <;> rfl
  simp only [hl, hr]
  refine Finset.sum_congr rfl fun k _ => ?_
  exact congrArg (· * _) (r_h x g (i 0) k)

theorem r_a (i : S8192x1152.Idx) : (val_main_v15 (F := Ideal) x g w i : EReal) = ZA x g w i := by
  rw [val_main_v15_apply, r_z]
  exact congrArg (Z x g w) (funext fun a => by fin_cases a <;> exact Fin.ext (by simp))

theorem r_c (i : S8192x512.Idx) : (val_main_v16 (F := Ideal) x g w i : EReal) = ZC x g w i := by
  rw [val_main_v16_apply, r_z]
  exact congrArg (Z x g w) (funext fun a => by fin_cases a <;> exact Fin.ext (by simp))

theorem r_r (i : S8192x768.Idx) : (val_main_v17 (F := Ideal) x g w i : EReal) = ZR x g w i := by
  rw [val_main_v17_apply, r_z]
  exact congrArg (Z x g w) (funext fun a => by fin_cases a <;> exact Fin.ext (by simp))
end

/-- The two programs return the same four arrays. -/
theorem algebraic : Cert.algebraic_Kernel10Ideal_Reference10Ideal := by
  intro m g m' g' _ hagree
  refine ⟨fun c => (dats m 0 c).arrAt 3 cfg0.N, fun c => (dats m 0 c).arrAt 4 cfg0.N, fun c => (dats m 0 c).arrAt 5 cfg0.N,
    fun c => (dats m 0 c).arrAt 6 cfg0.N, Value.run_blocks m g, ?_⟩
  refine (θ_run Cert.Reference10Ideal.defs _ _).mono (fun r h c => ?_) (Cert.Reference10Ideal.Value.run (F := Ideal) m' g')
  obtain ⟨ha, hb, hd, he, hq⟩ := h c
  obtain ⟨a0, a1, a2⟩ := hagree c
  refine ⟨ha.trans ?_, hb.trans ?_, hd.trans ?_, he.trans ?_, hq⟩
  · dsimp only
    rw [final3, val_main_v14_eq, a0, a1]
    exact funext (r_h' _ _)
  · dsimp only
    rw [final4, val_main_v15_eq, a0, a1, a2]
    exact funext (r_a _ _ _)
  · dsimp only
    rw [final5, val_main_v16_eq, a0, a1, a2]
    exact funext (r_c _ _ _)
  · dsimp only
    rw [final6, val_main_v17_eq, a0, a1, a2]
    exact funext (r_r _ _ _)

end Cert.InpF

end
-- ==== Proof.DownF.lean ====
/- The squared relu and the down projection: the array the call returns, and the reference's, element by element. -/
module

public import proofs.«01_k».proof.Proof.Gen.Kernel11Ideal.Value
public import proofs.«01_k».proof.Proof.Gen.Reference11Ideal.Read
public import proofs.«01_k».proof.Defs
public import Idealize.ShloMosaic.Lib.Pointwise
public import Idealize.ShloMosaic.Lib.Pipeline.ValueKit

@[expose] public section

noncomputable section

namespace Cert.DownF

open Cert.Kernel11Ideal Cert.Kernel11Ideal.Gen Idealize.ShloMosaic Idealize.ShloMosaic.TcCoe Idealize.SL.Sem

variable (m : (ℓ : Loc nD τ sig) → Buf (Elt Ideal) ℓ) (ρ : Dev nD → PrngReg)

/-- The residual plus the squared relu's projection. -/
def Y (x : S8192x1024.Idx → EReal) (p : S8192x4096.Idx → EReal) (w : S4096x1024.Idx → EReal) : S8192x1024.Idx → EReal :=
  fun i => x i + ∑ k : Fin 4096, max (p (ix2 (i 0) k)) 0 * max (p (ix2 (i 0) k)) 0 * w (ix2 k (i 1))

theorem sum_quarters (f : Fin 4096 → EReal) : ∑ k, f k = (∑ k : Fin 1024, f ⟨0 + k.val, by omega⟩) + (∑ k : Fin 1024, f ⟨1024 + k.val, by omega⟩)
    + (∑ k : Fin 1024, f ⟨2048 + k.val, by omega⟩) + ∑ k : Fin 1024, f ⟨3072 + k.val, by omega⟩ := by
  refine (Fin.sum_univ_add (a := 3072) (b := 1024) f).trans (congrArg₂ (· + ·) ?_ rfl)
  refine (Fin.sum_univ_add (a := 2048) (b := 1024) (fun k : Fin (2048 + 1024) => f (Fin.castAdd 1024 k))).trans (congrArg₂ (· + ·) ?_ rfl)
  exact (Fin.sum_univ_add (a := 1024) (b := 1024) (fun k : Fin (1024 + 1024) => f (Fin.castAdd 1024 (Fin.castAdd 1024 k)))).trans
    (congrArg₂ (· + ·) (Finset.sum_congr rfl fun k _ => congrArg f (Fin.ext (Nat.zero_add _).symm)) rfl)

theorem pay1_apply (x : Vec Ideal S512x1024 .f32) (r0 : Vec Ideal S512x1024 .bf16) (w0 : Vec Ideal S1024x1024 .bf16) (r1 : Vec Ideal S512x1024 .bf16)
    (w1 : Vec Ideal S1024x1024 .bf16) (r2 : Vec Ideal S512x1024 .bf16) (w2 : Vec Ideal S1024x1024 .bf16) (r3 : Vec Ideal S512x1024 .bf16)
    (w3 : Vec Ideal S1024x1024 .bf16) (s : Fin 512) (d : Fin 1024) :
    (k0_pay1 x r0 w0 r1 w1 r2 w2 r3 w3 (ix2 s d) : EReal)
      = x (ix2 s d) + ((∑ k : Fin 1024, r0 (ix2 s k) * r0 (ix2 s k) * w0 (ix2 k d)) + (∑ k : Fin 1024, r1 (ix2 s k) * r1 (ix2 s k) * w1 (ix2 k d))
        + (∑ k : Fin 1024, r2 (ix2 s k) * r2 (ix2 s k) * w2 (ix2 k d)) + ∑ k : Fin 1024, r3 (ix2 s k) * r3 (ix2 s k) * w3 (ix2 k d)) := by
  pointwise [k0_pay1]
  simp only [add_assoc]

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)

/-- The row of the arrays that row `s` of point `t`'s block is. -/
def at_ (t : Fin cfg0.N) (s : Fin 512) : Fin 8192 := ⟨t.val * 512 + s.val, by have := t.isLt; have h : cfg0.N = 16 := N_0; omega⟩

/-- The arrays the launch gives. -/
abbrev aX (c : Dev nD) : S8192x1024.Idx → EReal := m ((c : Thread nD τ).loc main_arg0)
abbrev aP (c : Dev nD) : S8192x4096.Idx → EReal := m ((c : Thread nD τ).loc main_arg1)
abbrev aW (c : Dev nD) : S4096x1024.Idx → EReal := m ((c : Thread nD τ).loc main_arg2)

/-- The relu the host prepares. -/
theorem V_r (c : Dev nD) (j : S8192x4096.Idx) : (V (F := Ideal) m c main_v2 j : EReal) = max (α := EReal) (aP m c j) 0 := by
  dsimp only [V, hostOps0]; after_results
  pointwise

theorem V_w (c : Dev nD) (j : S4096x1024.Idx) : (V (F := Ideal) m c main_v3 j : EReal) = aW m c j := by
  dsimp only [V, hostOps0]; after_results
  pointwise

theorem ib0 (c : Dev nD) (t : Fin cfg0.N) (s : Fin 512) (k : Fin 1024) : (iblk m c 0 t (ix2 s k) : EReal) = aX m c (ix2 (at_ t s) k) := by
  unfold iblk
  blk_simp
  rw [V_main_arg0]
  blk_ext [e0, at_]

theorem ib1 (c : Dev nD) (t : Fin cfg0.N) (s : Fin 512) (k : Fin 4096) :
    (iblk m c 1 t (ix2 s k) : EReal) = max (α := EReal) (aP m c (ix2 (at_ t s) k)) 0 := by
  unfold iblk
  blk_simp
  rw [V_r]
  congr 1
  blk_ext [e1, at_]

theorem ib2 (c : Dev nD) (t : Fin cfg0.N) (k : Fin 4096) (d : Fin 1024) : (iblk m c 2 t (ix2 k d) : EReal) = aW m c (ix2 k d) := by
  unfold iblk
  blk_simp
  rw [V_w]
  blk_ext [e2]

theorem ld_r (a : Vec Ideal S512x4096 .bf16) (o : ℕ) (h) (s : Fin 512) (k : Fin 1024) (hk : o + k.val < 4096) :
    (View.ld a (Rect.unit ![0, o] ![512, 1024] h) (ix2 s k) : EReal) = a (ix2 s ⟨o + k.val, hk⟩) := by
  rw [View.ld_apply]
  refine congrArg a (funext fun x => Fin.ext ?_)
  rw [Rect.idx_unit_val]
  fin_cases x <;> simp

theorem ld_w (a : Vec Ideal S4096x1024 .bf16) (o : ℕ) (h) (k : Fin 1024) (d : Fin 1024) (hk : o + k.val < 4096) :
    (View.ld a (Rect.unit ![o, 0] ![1024, 1024] h) (ix2 k d) : EReal) = a (ix2 ⟨o + k.val, hk⟩ d) := by
  rw [View.ld_apply]
  refine congrArg a (funext fun x => Fin.ext ?_)
  rw [Rect.idx_unit_val]
  fin_cases x <;> simp

/-- One quarter of the hidden units, its operands read off the arrays. -/
theorem quarter (a : Vec Ideal S512x4096 .bf16) (b : Vec Ideal S4096x1024 .bf16) (A : Fin 512 → Fin 4096 → EReal) (B : Fin 4096 → Fin 1024 → EReal)
    (ha : ∀ s k, (a (ix2 s k) : EReal) = A s k) (hb : ∀ k d, (b (ix2 k d) : EReal) = B k d)
    (o : ℕ) (h h') (s : Fin 512) (d : Fin 1024) (ho : o + 1024 ≤ 4096) :
    (∑ k : Fin 1024, (View.ld a (Rect.unit (s := S512x4096) ![0, o] S512x1024.size h) (ix2 s k) : EReal)
        * (View.ld a (Rect.unit (s := S512x4096) ![0, o] S512x1024.size h) (ix2 s k) : EReal)
        * (View.ld b (Rect.unit (s := S4096x1024) ![o, 0] S1024x1024.size h') (ix2 k d) : EReal))
      = ∑ k : Fin 1024, A s ⟨o + k.val, by omega⟩ * A s ⟨o + k.val, by omega⟩ * B ⟨o + k.val, by omega⟩ d := by
  refine Finset.sum_congr rfl fun k _ => ?_
  have e1 := (ld_r a o h s k (by omega)).trans (ha s ⟨o + k.val, by omega⟩)
  have e2 := (ld_w b o h' k d (by omega)).trans (hb ⟨o + k.val, by omega⟩ d)
  exact congrArg₂ (fun p q : EReal => p * p * q) e1 e2

theorem final3 (c : Dev nD) : (dats m 0 c).arrAt 3 cfg0.N = Y (aX m c) (aP m c) (aW m c) := by
  refine (dats m 0 c).arrAt_eq_of_covers 3 _ (by decide +kernel) fun t hf y => ?_
  blk_simp
  rw [after0_3]
  frame_out
  obtain ⟨s, d, rfl⟩ : ∃ s d, y = ix2 s d := ⟨y 0, y 1, (ix2_eta y).symm⟩
  refine (pay1_apply _ _ _ _ _ _ _ _ _ s d).trans ?_
  refine Eq.trans (b := Y (aX m c) (aP m c) (aW m c) (ix2 (at_ t s) d)) ?_ (congrArg _ ?_)
  · unfold Y
    rw [sum_quarters, ib0]
    exact congrArg₂ (· + ·) rfl (congrArg₂ (· + ·) (congrArg₂ (· + ·) (congrArg₂ (· + ·) (quarter _ _ _ _ (ib1 m c t) (ib2 m c t) 0 _ _ s d (by omega))
      (quarter _ _ _ _ (ib1 m c t) (ib2 m c t) 1024 _ _ s d (by omega))) (quarter _ _ _ _ (ib1 m c t) (ib2 m c t) 2048 _ _ s d (by omega))) (quarter _ _ _ _ (ib1 m c t) (ib2 m c t) 3072 _ _ s d (by omega)))
  · blk_ext [e3, at_]

/-! ## The reference -/

open Cert.Reference11Ideal.Read in
/-- The reference's array. -/
theorem ref_eq (x : S8192x1024.Idx → EReal) (p : S8192x4096.Idx → EReal) (w : S4096x1024.Idx → EReal) (i : S8192x1024.Idx) :
    (val_main_v3 (F := Ideal) x p w i : EReal) = Y x p w i := by
  have hz : FloatOps.ofBits (F := Ideal) .f32 0x00000000#32 = (0 : EReal) := Ideal.ofBits_zero_f32
  rw [val_main_v3_apply, val_main_v2_apply]
  have hl : ∀ k, lidx_main_v2 i k = ix2 (i 0) k := fun k => by funext a; fin_cases a <;> rfl
  have hr : ∀ k, ridx_main_v2 i k = ix2 k (i 1) := fun k => by funext a; fin_cases a <;> rfl
  have h1 : ∀ j, (val_main_v1 (F := Ideal) p j : EReal) = max (p j) 0 * max (p j) 0 := fun j => by
    rw [val_main_v1_apply, val_main_v0_apply, val_main_call0_v0_apply, val_main_call0_cst_apply, hz]
    rfl
  show (x i + ∑ k : Fin 4096, (val_main_v1 (F := Ideal) p (lidx_main_v2 i k) : EReal) * w (ridx_main_v2 i k) : EReal) = _
  refine congrArg (fun z : EReal => x i + z) (Finset.sum_congr rfl fun k _ => ?_)
  rw [h1, hl, hr]
  rfl

/-- The two programs return the same array. -/
theorem algebraic : Cert.algebraic_Kernel11Ideal_Reference11Ideal := by
  intro m g m' g' _ hagree
  refine ⟨fun c => (dats m 0 c).arrAt 3 cfg0.N, Value.run_blocks m g, ?_⟩
  refine (θ_run Cert.Reference11Ideal.defs _ _).mono (fun r h c => ⟨?_, (h c).2⟩) (Cert.Reference11Ideal.Value.run (F := Ideal) m' g')
  rw [(h c).1]; dsimp only
  rw [final3, Cert.Reference11Ideal.Read.val_main_v3_eq, (hagree c).1, (hagree c).2.1, (hagree c).2.2]
  exact funext (ref_eq _ _ _)

end Cert.DownF

end
-- ==== Proof.OutpF.lean ====
/- The patterns' mixing and the output projection, forwards: the arrays the call returns, and the reference's, element by element. -/
module

public import proofs.«01_k».proof.Proof.Gen.Kernel12Ideal.Value
public import proofs.«01_k».proof.Proof.Gen.Reference12Ideal.Read
public import proofs.«01_k».proof.Proof.Gen.Pre_finite12
public import proofs.«01_k».proof.Proof.Outp
public import proofs.«01_k».proof.Proof.RmsMath
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

noncomputable section

namespace Cert.OutpF

open Cert.Kernel12Ideal Cert.Kernel12Ideal.Gen Cert.Rms Idealize.ShloMosaic Idealize.ShloMosaic.TcCoe Idealize.SL.Sem
open Cert.Outp (top wgt al sums pt hd ft col)

variable (m : (ℓ : Loc nD τ sig) → Buf (Elt Ideal) ℓ) (ρ : Dev nD → PrngReg)

/-! ## The arrays the call leaves -/

section
variable (o : S8192x3x2x64.Idx → EReal) (l : S8192x3x2.Idx → EReal) (yc : S8192x256.Idx → EReal) (yr : S8192x384.Idx → EReal)

/-- The patterns' outputs, each under its weight. -/
def PART (t : Fin 8192) (k : Fin 384) : EReal := o (ix4 t (pt k) (hd k) (ft k)) * al (sums l t (hd k)) (pt k)

/-- The mixed rows: the weighted patterns, the convolution, the recurrence. -/
def MIX : S8192x1024.Idx → EReal := fun i =>
  if h : (i 1).val < 384 then PART o l (i 0) ⟨(i 1).val, h⟩
  else if h' : (i 1).val < 640 then yc (ix2 (i 0) ⟨(i 1).val - 384, by omega⟩)
  else yr (ix2 (i 0) ⟨(i 1).val - 640, by have : (i 1).val < 1024 := (i 1).isLt; omega⟩)

theorem mix_part (t : Fin 8192) (k : Fin 384) (d : Fin 1024) (h : d.val = k.val) : MIX o l yc yr (ix2 t d) = PART o l t k := by
  obtain rfl : (⟨k.val, by clear h; omega⟩ : Fin 1024) = d := Fin.ext h.symm
  exact dif_pos k.isLt

theorem mix_conv (t : Fin 8192) (k : Fin 256) (d : Fin 1024) (h : d.val = 384 + k.val) : MIX o l yc yr (ix2 t d) = yc (ix2 t k) := by
  obtain rfl : (⟨384 + k.val, by clear h; omega⟩ : Fin 1024) = d := Fin.ext h.symm
  refine (dif_neg (show ¬(384 + k.val < 384) by omega)).trans ((dif_pos (show 384 + k.val < 640 by omega)).trans ?_)
  exact congrArg (fun z => yc (ix2 t z)) (Fin.ext (show 384 + k.val - 384 = k.val by omega))

theorem mix_rec (t : Fin 8192) (k : Fin 384) (d : Fin 1024) (h : d.val = 640 + k.val) : MIX o l yc yr (ix2 t d) = yr (ix2 t k) := by
  obtain rfl : (⟨640 + k.val, by clear h; omega⟩ : Fin 1024) = d := Fin.ext h.symm
  refine (dif_neg (show ¬(640 + k.val < 384) by omega)).trans ((dif_neg (show ¬(640 + k.val < 640) by omega)).trans ?_)
  exact congrArg (fun z => yr (ix2 t z)) (Fin.ext (show 640 + k.val - 640 = k.val by omega))

/-- The rows with the mixed rows' product added. -/
def OUT (x : S8192x1024.Idx → EReal) (w : S1024x1024.Idx → EReal) : S8192x1024.Idx → EReal := fun i =>
  x i + ∑ k : Fin 1024, MIX o l yc yr (ix2 (i 0) k) * w (ix2 k (i 1))
end

/-! ## What a point computes -/

section
variable (v0 : Vec Ideal S512x384 .f32)

/-- The row log-sums at a row's lane. -/
def lanes (s : Fin 512) (l : Fin 128) : Fin 3 → EReal := fun q => v0 (ix2 s (col q l))

theorem pay4_apply (s : Fin 512) (l : Fin 128) : (k0_pay4 v0 (ix2 s l) : EReal) = lanes v0 s l 0 := by
  pointwise [k0_pay4, k0_pay3]
  exact congrArg (fun k => v0 (ix2 s k)) (Fin.ext (by simp [col]))
theorem pay5_apply (s : Fin 512) (l : Fin 128) : (k0_pay5 v0 (ix2 s l) : EReal) = lanes v0 s l 1 := by
  pointwise [k0_pay5, k0_pay3]
  rfl
theorem pay6_apply (s : Fin 512) (l : Fin 128) : (k0_pay6 v0 (ix2 s l) : EReal) = lanes v0 s l 2 := by
  pointwise [k0_pay6, k0_pay3]
  rfl
theorem pay7_apply (s : Fin 512) (l : Fin 128) : (k0_pay7 v0 (ix2 s l) : EReal) = top (lanes v0 s l) := by
  pointwise [k0_pay7]
  rw [pay4_apply, pay5_apply, pay6_apply]
  rfl
theorem pay8_apply (s : Fin 512) (l : Fin 128) : (k0_pay8 v0 (ix2 s l) : EReal) = wgt (lanes v0 s l) 0 := by
  pointwise [k0_pay8]
  rw [pay4_apply, pay7_apply]
  rfl
theorem pay9_apply (s : Fin 512) (l : Fin 128) : (k0_pay9 v0 (ix2 s l) : EReal) = wgt (lanes v0 s l) 1 := by
  pointwise [k0_pay9]
  rw [pay5_apply, pay7_apply]
  rfl
theorem pay10_apply (s : Fin 512) (l : Fin 128) : (k0_pay10 v0 (ix2 s l) : EReal) = wgt (lanes v0 s l) 2 := by
  pointwise [k0_pay10]
  rw [pay6_apply, pay7_apply]
  rfl

theorem pay12_apply (a : Vec Ideal S512x128 .f32) (s : Fin 512) (l : Fin 128) :
    (k0_pay12 v0 a (ix2 s l) : EReal) = a (ix2 s l) * al (lanes v0 s l) 0 := by
  pointwise [k0_pay12, k0_pay11]
  rw [pay8_apply, pay9_apply, pay10_apply]
  rfl
theorem pay13_apply (a : Vec Ideal S512x128 .f32) (s : Fin 512) (l : Fin 128) :
    (k0_pay13 v0 a (ix2 s l) : EReal) = a (ix2 s l) * al (lanes v0 s l) 1 := by
  pointwise [k0_pay13, k0_pay11]
  rw [pay8_apply, pay9_apply, pay10_apply]
  rfl
theorem pay14_apply (a : Vec Ideal S512x128 .f32) (s : Fin 512) (l : Fin 128) :
    (k0_pay14 v0 a (ix2 s l) : EReal) = a (ix2 s l) * al (lanes v0 s l) 2 := by
  pointwise [k0_pay14, k0_pay11]
  rw [pay8_apply, pay9_apply, pay10_apply]
  rfl
end

theorem pay15_apply (v : Vec Ideal S512x256 .bf16) (i : S512x256.Idx) : (k0_pay15 v i : EReal) = v i := by
  pointwise [k0_pay15]
theorem pay1_apply (v : Vec Ideal S512x384 .bf16) (i : S512x384.Idx) : (k0_pay1 v i : EReal) = v i := by
  pointwise [k0_pay1]
theorem pay2_apply (x : Vec Ideal S512x1024 .f32) (a : Vec Ideal S512x1024 .bf16) (w : Vec Ideal S1024x1024 .bf16) (s : Fin 512) (d : Fin 1024) :
    (k0_pay2 x a w (ix2 s d) : EReal) = x (ix2 s d) + ∑ k : Fin 1024, a (ix2 s k) * w (ix2 k d) := by
  pointwise [k0_pay2]

/-! ## What the windows' blocks are -/

theorem N16 (t : Fin cfg0.N) : t.val < 16 := lt_of_lt_of_eq t.isLt N_0

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-- The row of the arrays that row `s` of point `t`'s block is. -/
def at_ (t : Fin cfg0.N) (s : Fin 512) : Fin 8192 := ⟨t.val * 512 + s.val, by have := N16 t; omega⟩

/-- The arrays the call is given. -/
abbrev aX (c : Dev nD) : S8192x1024.Idx → EReal := m ((c : Thread nD τ).loc main_arg0)
abbrev aO (c : Dev nD) : S8192x3x2x64.Idx → EReal := m ((c : Thread nD τ).loc main_arg1)
abbrev aL (c : Dev nD) : S8192x3x2.Idx → EReal := m ((c : Thread nD τ).loc main_arg2)
abbrev aC (c : Dev nD) : S8192x256.Idx → EReal := m ((c : Thread nD τ).loc main_arg3)
abbrev aR (c : Dev nD) : S8192x384.Idx → EReal := m ((c : Thread nD τ).loc main_arg4)
abbrev aW (c : Dev nD) : S1024x1024.Idx → EReal := m ((c : Thread nD τ).loc main_arg5)

theorem V_lanes (c : Dev nD) (t : Fin 8192) (k : Fin 384) :
    (V (F := Ideal) m c main_v2 (ix2 t k) : EReal) = aL m c (ix3 t (pt k) (hd k)) := by
  dsimp only [V, hostOps0]; after_results
  pointwise
  all_goals exact congrArg _ (funext fun a => by fin_cases a <;> exact Fin.ext (by simp [pt, hd]; try omega))

theorem V_o (c : Dev nD) (t : Fin 8192) (k : Fin 384) :
    (V (F := Ideal) m c main_v3 (ix2 t k) : EReal) = aO m c (ix4 t (pt k) (hd k) (ft k)) := by
  dsimp only [V, hostOps0]; after_results
  pointwise
  all_goals exact congrArg _ (funext fun a => by fin_cases a <;> exact Fin.ext (by simp [pt, hd, ft]; try omega))

theorem V_yc (c : Dev nD) (t : Fin 8192) (k : Fin 256) : (V (F := Ideal) m c main_v4 (ix2 t k) : EReal) = aC m c (ix2 t k) := by
  dsimp only [V, hostOps0]; after_results
  pointwise

theorem V_yr (c : Dev nD) (t : Fin 8192) (k : Fin 384) : (V (F := Ideal) m c main_v5 (ix2 t k) : EReal) = aR m c (ix2 t k) := by
  dsimp only [V, hostOps0]; after_results
  pointwise

theorem V_w (c : Dev nD) (k d : Fin 1024) : (V (F := Ideal) m c main_v6 (ix2 k d) : EReal) = aW m c (ix2 k d) := by
  dsimp only [V, hostOps0]; after_results
  pointwise

theorem ib0 (c : Dev nD) (t : Fin cfg0.N) (s : Fin 512) (k : Fin 1024) : (iblk m c 0 t (ix2 s k) : EReal) = aX m c (ix2 (at_ t s) k) := by
  unfold iblk
  blk_simp
  rw [V_main_arg0]
  blk_ext [e0, at_]

theorem ib1 (c : Dev nD) (t : Fin cfg0.N) (s : Fin 512) (k : Fin 384) :
    (iblk m c 1 t (ix2 s k) : EReal) = aO m c (ix4 (at_ t s) (pt k) (hd k) (ft k)) := by
  refine Eq.trans ?_ (V_o m c (at_ t s) k)
  unfold iblk
  blk_simp
  blk_ext [e1, at_]

theorem ib2 (c : Dev nD) (t : Fin cfg0.N) (s : Fin 512) (k : Fin 384) :
    (iblk m c 2 t (ix2 s k) : EReal) = aL m c (ix3 (at_ t s) (pt k) (hd k)) := by
  refine Eq.trans ?_ (V_lanes m c (at_ t s) k)
  unfold iblk
  blk_simp
  blk_ext [e2, at_]

theorem ib3 (c : Dev nD) (t : Fin cfg0.N) (s : Fin 512) (k : Fin 256) : (iblk m c 3 t (ix2 s k) : EReal) = aC m c (ix2 (at_ t s) k) := by
  refine Eq.trans ?_ (V_yc m c (at_ t s) k)
  unfold iblk
  blk_simp
  blk_ext [e3, at_]

theorem ib4 (c : Dev nD) (t : Fin cfg0.N) (s : Fin 512) (k : Fin 384) : (iblk m c 4 t (ix2 s k) : EReal) = aR m c (ix2 (at_ t s) k) := by
  refine Eq.trans ?_ (V_yr m c (at_ t s) k)
  unfold iblk
  blk_simp
  blk_ext [e4, at_]

theorem ib5 (c : Dev nD) (t : Fin cfg0.N) (k d : Fin 1024) : (iblk m c 5 t (ix2 k d) : EReal) = aW m c (ix2 k d) := by
  refine Eq.trans ?_ (V_w m c k d)
  unfold iblk
  blk_simp
  blk_ext [e5]

/-- The mixed rows of the arrays the call is given. -/
abbrev mixed (c : Dev nD) : S8192x1024.Idx → EReal := MIX (aO m c) (aL m c) (aC m c) (aR m c)

/-- A lane's three row log-sums are those of its row's head. -/
theorem lanes_at (c : Dev nD) (t : Fin cfg0.N) (s : Fin 512) (p : Fin 3) (l : Fin 128) :
    lanes (iblk m c 2 t) s l = sums (aL m c) (at_ t s) (hd (col p l)) := by
  funext q
  refine (ib2 m c t s _).trans (congrArg (aL m c) ?_)
  have hq : pt (col q l) = q := Fin.ext (by simp only [pt, col]; omega)
  have hh : hd (col q l) = hd (col p l) := Fin.ext (by simp only [hd, col]; omega)
  rw [hq, hh]

/-- A tile of the patterns' outputs under its weight is the mixed rows' tile. -/
theorem tile (c : Dev nD) (t : Fin cfg0.N) (s : Fin 512) (p : Fin 3) (l : Fin 128) (d : Fin 1024) (h : d.val = p.val * 128 + l.val) :
    (fun z : EReal => z * al (lanes (iblk m c 2 t) s l) p) (iblk m c 1 t (ix2 s (col p l))) = mixed m c (ix2 (at_ t s) d) := by
  refine Eq.trans ?_ (mix_part _ _ _ _ (at_ t s) (col p l) d h).symm
  rw [ib1, lanes_at m c t s p l]
  beta_reduce
  have hq : pt (col p l) = p := Fin.ext (by simp only [pt, col]; omega)
  unfold PART
  rw [hq]

theorem ld_0 (v : Vec Ideal S512x384 .f32) (s : Fin 512) (l : Fin 128) :
    (View.ld v (Rect.unit (s := S512x384) ![0, 0] S512x128.size inb_S512x384_S512x128_0_0) (ix2 s l) : EReal) = v (ix2 s (col 0 l)) := by
  rw [View.ld_apply]
  refine congrArg v (funext fun x => Fin.ext ?_)
  rw [Rect.idx_unit_val]
  fin_cases x <;> simp [col]

theorem ld_1 (v : Vec Ideal S512x384 .f32) (s : Fin 512) (l : Fin 128) :
    (View.ld v (Rect.unit (s := S512x384) ![0, 128] S512x128.size inb_S512x384_S512x128_0_128) (ix2 s l) : EReal) = v (ix2 s (col 1 l)) := by
  rw [View.ld_apply]
  refine congrArg v (funext fun x => Fin.ext ?_)
  rw [Rect.idx_unit_val]
  fin_cases x <;> simp [col]

theorem ld_2 (v : Vec Ideal S512x384 .f32) (s : Fin 512) (l : Fin 128) :
    (View.ld v (Rect.unit (s := S512x384) ![0, 256] S512x128.size inb_S512x384_S512x128_0_256) (ix2 s l) : EReal) = v (ix2 s (col 2 l)) := by
  rw [View.ld_apply]
  refine congrArg v (funext fun x => Fin.ext ?_)
  rw [Rect.idx_unit_val]
  fin_cases x <;> simp [col]

/-- The first part's tile of the mixed rows. -/
theorem part_0 (c : Dev nD) (t : Fin cfg0.N) (x : S512x128.Idx) (s : Fin 512) (d : Fin 1024) (h0 : s.val = 0 + (x 0).val) (h1 : d.val = 0 + (x 1).val) :
    (k0_pay12 (iblk m c 2 t) (View.ld (iblk m c 1 t) (Rect.unit (s := S512x384) ![0, 0] S512x128.size inb_S512x384_S512x128_0_0)) x : EReal)
      = mixed m c (ix2 (at_ t s) d) := by
  obtain ⟨s', l, rfl⟩ : ∃ s l, x = ix2 s l := ⟨x 0, x 1, (ix2_eta x).symm⟩
  obtain rfl : s = s' := Fin.ext (h0.trans (Nat.zero_add _))
  rw [pay12_apply, ld_0]
  exact tile m c t s 0 l d (h1.trans (by simp))

/-- The second part's tile. -/
theorem part_1 (c : Dev nD) (t : Fin cfg0.N) (x : S512x128.Idx) (s : Fin 512) (d : Fin 1024) (h0 : s.val = 0 + (x 0).val) (h1 : d.val = 128 + (x 1).val) :
    (k0_pay13 (iblk m c 2 t) (View.ld (iblk m c 1 t) (Rect.unit (s := S512x384) ![0, 128] S512x128.size inb_S512x384_S512x128_0_128)) x : EReal)
      = mixed m c (ix2 (at_ t s) d) := by
  obtain ⟨s', l, rfl⟩ : ∃ s l, x = ix2 s l := ⟨x 0, x 1, (ix2_eta x).symm⟩
  obtain rfl : s = s' := Fin.ext (h0.trans (Nat.zero_add _))
  rw [pay13_apply, ld_1]
  exact tile m c t s 1 l d (h1.trans (by simp))

/-- The third part's tile. -/
theorem part_2 (c : Dev nD) (t : Fin cfg0.N) (x : S512x128.Idx) (s : Fin 512) (d : Fin 1024) (h0 : s.val = 0 + (x 0).val) (h1 : d.val = 256 + (x 1).val) :
    (k0_pay14 (iblk m c 2 t) (View.ld (iblk m c 1 t) (Rect.unit (s := S512x384) ![0, 256] S512x128.size inb_S512x384_S512x128_0_256)) x : EReal)
      = mixed m c (ix2 (at_ t s) d) := by
  obtain ⟨s', l, rfl⟩ : ∃ s l, x = ix2 s l := ⟨x 0, x 1, (ix2_eta x).symm⟩
  obtain rfl : s = s' := Fin.ext (h0.trans (Nat.zero_add _))
  rw [pay14_apply, ld_2]
  exact tile m c t s 2 l d (h1.trans (by simp))

/-- The convolution's columns. -/
theorem part_conv (c : Dev nD) (t : Fin cfg0.N) (x : S512x256.Idx) (s : Fin 512) (d : Fin 1024) (h0 : s.val = 0 + (x 0).val) (h1 : d.val = 384 + (x 1).val) :
    (k0_pay15 (iblk m c 3 t) x : EReal) = mixed m c (ix2 (at_ t s) d) := by
  obtain ⟨s', l, rfl⟩ : ∃ s l, x = ix2 s l := ⟨x 0, x 1, (ix2_eta x).symm⟩
  obtain rfl : s = s' := Fin.ext (h0.trans (Nat.zero_add _))
  rw [pay15_apply, ib3]
  exact (mix_conv _ _ _ _ (at_ t s) l d h1).symm

/-- The recurrence's columns. -/
theorem part_rec (c : Dev nD) (t : Fin cfg0.N) (x : S512x384.Idx) (s : Fin 512) (d : Fin 1024) (h0 : s.val = 0 + (x 0).val) (h1 : d.val = 640 + (x 1).val) :
    (k0_pay1 (iblk m c 4 t) x : EReal) = mixed m c (ix2 (at_ t s) d) := by
  obtain ⟨s', l, rfl⟩ : ∃ s l, x = ix2 s l := ⟨x 0, x 1, (ix2_eta x).symm⟩
  obtain rfl : s = s' := Fin.ext (h0.trans (Nat.zero_add _))
  rw [pay1_apply, ib4]
  exact (mix_rec _ _ _ _ (at_ t s) l d h1).symm

set_option maxHeartbeats 4000000 in
/-- The mixed rows after a point. -/
theorem after_mix (c : Dev nD) (t : Fin cfg0.N) (s : Fin 512) (d : Fin 1024) :
    ((outsAt0 m c t).2 (ix2 s d) : EReal) = mixed m c (ix2 (at_ t s) d) := by
  obtain ⟨y, rfl, rfl⟩ : ∃ y : S512x1024.Idx, s = y 0 ∧ d = y 1 := ⟨ix2 s d, rfl, rfl⟩
  rw [ix2_eta]
  dsimp only [outsAt0]
  frame_out
  canon_tiles x h using (View.cover_of_tiledBy _ ![512, 128] (by sl_kernel_rfl) _)
  · exact part_rec m c t x _ _ (by omega) (by omega)
  · exact part_conv m c t x _ _ (by omega) (by omega)
  · exact part_2 m c t x _ _ (by omega) (by omega)
  · exact part_1 m c t x _ _ (by omega) (by omega)
  · exact part_0 m c t x _ _ (by omega) (by omega)

theorem final7 (c : Dev nD) : (dats m 0 c).arrAt 7 cfg0.N = mixed m c := by
  refine (dats m 0 c).arrAt_eq_of_covers 7 _ (by decide +kernel) fun t hf y => ?_
  blk_simp
  rw [after0_7]
  obtain ⟨s, d, rfl⟩ : ∃ s d, y = ix2 s d := ⟨y 0, y 1, (ix2_eta y).symm⟩
  refine Eq.trans (after_mix m c t s d) (congrArg _ ?_)
  blk_ext [e7, at_]

set_option maxHeartbeats 4000000 in
theorem final6 (c : Dev nD) : (dats m 0 c).arrAt 6 cfg0.N = OUT (aO m c) (aL m c) (aC m c) (aR m c) (aX m c) (aW m c) := by
  refine (dats m 0 c).arrAt_eq_of_covers 6 _ (by decide +kernel) fun t hf y => ?_
  blk_simp
  rw [after0_6]
  obtain ⟨s, d, rfl⟩ : ∃ s d, y = ix2 s d := ⟨y 0, y 1, (ix2_eta y).symm⟩
  have e := after_mix m c t s
  dsimp only [outsAt0] at e ⊢
  frame_out
  frame_out at e
  rw [View.readCov_eq_canon_ld _ _ _ (View.cover_of_tiledBy _ ![512, 128] (by sl_kernel_rfl)), View.ld_unit_zero (by decide)]
  refine (pay2_apply _ _ _ s d).trans ?_
  refine Eq.trans (congrArg₂ (fun p q : EReal => p + q) (ib0 m c t s d)
    (Finset.sum_congr rfl fun k _ => congrArg₂ (fun p q : EReal => p * q) (e k) (ib5 m c t k d)))
    (congrArg (OUT (aO m c) (aL m c) (aC m c) (aR m c) (aX m c) (aW m c)) (a₁ := ix2 (at_ t s) d) ?_)
  blk_ext [e6, at_]

/-! ## The reference -/

section
open Cert.Reference12Ideal.Gen Cert.Reference12Ideal.Read
variable (o : S8192x3x2x64.Idx → EReal) (l : S8192x3x2.Idx → EReal) (yc : S8192x256.Idx → EReal) (yr : S8192x384.Idx → EReal)
  (x : S8192x1024.Idx → EReal) (w : S1024x1024.Idx → EReal) (hl : ∀ i, l i = ((l i).toReal : EReal))

/-- The softmax over the patterns is the one the mixing's gradient saves. -/
theorem r_soft : val_main_v10 (F := Ideal) l = Cert.Reference6Ideal.Read.val_main_v24 (F := Ideal) l := rfl

include hl in
theorem r_part (t : Fin 8192) (k : Fin 384) : (val_main_v14 (F := Ideal) o l (ix2 t k) : EReal) = PART o l t k := by
  have e : idx_main_v14 (ix2 t k) = ix4 t (pt k) (hd k) (ft k) := Cert.Outp.e64 t k
  rw [val_main_v14_apply, e, val_main_v13_apply, val_main_v12_apply, val_main_v11_apply,
    show idx_main_v11 (idx_main_v12 (ix4 t (pt k) (hd k) (ft k))) = ix3 t (pt k) (hd k) from by funext a; fin_cases a <;> rfl,
    r_soft, Cert.Outp.alpha l hl]
  rfl

include hl in
theorem r_mix (i : S8192x1024.Idx) : (val_main_v16 (F := Ideal) o l yc yr i : EReal) = MIX o l yc yr i := by
  obtain ⟨t, d, rfl⟩ : ∃ t d, i = ix2 t d := ⟨i 0, i 1, (ix2_eta i).symm⟩
  unfold val_main_v16
  by_cases h : d.val < 640
  · refine (concatenate_pair_apply_left (s₁ := Cert.Reference12Ideal.S8192x640) (s₂ := S8192x384) 1 _ _ _ (ix2 t d) rfl (ix2 t (⟨d.val, h⟩ : Fin 640)) (fun b => by fin_cases b <;> rfl)).trans ?_
    unfold val_main_v15
    by_cases h' : d.val < 384
    · refine (concatenate_pair_apply_left (s₁ := S8192x384) (s₂ := S8192x256) 1 _ _ _ (ix2 t (⟨d.val, h⟩ : Fin 640)) rfl (ix2 t (⟨d.val, h'⟩ : Fin 384)) (fun b => by fin_cases b <;> rfl)).trans ?_
      exact (r_part o l hl t _).trans (mix_part o l yc yr t ⟨d.val, h'⟩ d rfl).symm
    · refine (concatenate_pair_apply_right (s₁ := S8192x384) (s₂ := S8192x256) 1 _ _ _ (ix2 t (⟨d.val, h⟩ : Fin 640)) rfl rfl (ix2 t (⟨d.val - 384, by omega⟩ : Fin 256))
        (fun b hb => by fin_cases b <;> first | rfl | exact absurd rfl hb) (show d.val - 384 + 384 = d.val by omega)).trans ?_
      exact (mix_conv o l yc yr t ⟨d.val - 384, by omega⟩ d (show d.val = 384 + (d.val - 384) by omega)).symm
  · refine (concatenate_pair_apply_right (s₁ := Cert.Reference12Ideal.S8192x640) (s₂ := S8192x384) 1 _ _ _ (ix2 t d) rfl rfl (ix2 t (⟨d.val - 640, by omega⟩ : Fin 384))
      (fun b hb => by fin_cases b <;> first | rfl | exact absurd rfl hb) (show d.val - 640 + 640 = d.val by omega)).trans ?_
    exact (mix_rec o l yc yr t ⟨d.val - 640, by omega⟩ d (show d.val = 640 + (d.val - 640) by omega)).symm

include hl in
theorem r_mix' (i : S8192x1024.Idx) : (val_main_v19 (F := Ideal) o l yc yr i : EReal) = MIX o l yc yr i :=
  r_mix o l yc yr hl i

include hl in
theorem r_out (i : S8192x1024.Idx) : (val_main_v18 (F := Ideal) x o l yc yr w i : EReal) = OUT o l yc yr x w i := by
  rw [val_main_v18_apply, val_main_v17_apply]
  refine congrArg (fun z : EReal => x i + z) (Finset.sum_congr rfl fun k _ => ?_)
  refine congrArg₂ (fun p q : EReal => p * q) ((r_mix o l yc yr hl _).trans (congrArg _ ?_)) (congrArg w ?_)
  · funext a; fin_cases a <;> rfl
  · funext a; fin_cases a <;> rfl
end

/-- The two programs return the same two arrays. -/
theorem algebraic : Cert.algebraic_Kernel12Ideal_Reference12Ideal_pre_finite12 := by
  intro m g m' g' hpre hagree
  refine ⟨fun c => (dats m 0 c).arrAt 6 cfg0.N, fun c => (dats m 0 c).arrAt 7 cfg0.N, Value.run_blocks m g, ?_⟩
  refine (θ_run Cert.Reference12Ideal.defs _ _).mono (fun r h c => ?_) (Cert.Reference12Ideal.Value.run (F := Ideal) m' g')
  obtain ⟨ha, hb, hq⟩ := h c
  obtain ⟨a0, a1, a2, a3, a4, a5⟩ := hagree c
  have hl : ∀ i, aL m c i = ((aL m c i).toReal : EReal) := fun i => of_finite _ (congrFun (hpre c) i)
  refine ⟨ha.trans ?_, hb.trans ?_, hq⟩
  · dsimp only
    rw [final6, Cert.Reference12Ideal.Read.val_main_v18_eq, a0, a1, a2, a3, a4, a5]
    exact funext fun i => r_out _ _ _ _ _ _ hl i
  · dsimp only
    rw [final7, Cert.Reference12Ideal.Read.val_main_v19_eq, a1, a2, a3, a4]
    exact funext fun i => r_mix' _ _ _ _ hl i

end Cert.OutpF

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.AttnClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Down
public import proofs.«01_k».proof.Proof.Up
public import proofs.«01_k».proof.Proof.Inp
public import proofs.«01_k».proof.Proof.Loss
public import proofs.«01_k».proof.Proof.Outp
public import proofs.«01_k».proof.Proof.FwdValue
public import proofs.«01_k».proof.Proof.ConvFrame
public import proofs.«01_k».proof.Proof.ConvFValue
public import proofs.«01_k».proof.Proof.DownW
public import proofs.«01_k».proof.Proof.UpW
public import proofs.«01_k».proof.Proof.UpF
public import proofs.«01_k».proof.Proof.InpF
public import proofs.«01_k».proof.Proof.DownF
public import proofs.«01_k».proof.Proof.OutpF
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Pre_finite6
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Skeleton
public import proofs.«01_k».proof.Proof.Gen.Reference7Ideal
public import proofs.«01_k».proof.Proof.Gen.Reference7Ideal.Read
public import proofs.«01_k».proof.Proof.Gen.Pre_finite7
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Skeleton
public import proofs.«01_k».proof.Proof.Gen.Reference8Ideal
public import proofs.«01_k».proof.Proof.Gen.Reference8Ideal.Read
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Skeleton
public import proofs.«01_k».proof.Proof.Gen.Reference13Ideal
public import proofs.«01_k».proof.Proof.Gen.Reference13Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Read
public import proofs.«01_k».proof.Proof.Gen.Pre_finite12
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Read
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The run of the attention gradient's idealized kernel, over the bits. -/
abbrev QuietBits : Prop :=
  ∀ (m : (ℓ : Loc Cert.KernelIdeal.nD Cert.KernelIdeal.τ Cert.KernelIdeal.sig) → Buf (Elt Bits) ℓ) (ρ : Dev Cert.KernelIdeal.nD → PrngReg), True →
    θ_run Cert.KernelIdeal.defs (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The kernel's text is its idealization's, so their frames over the bits are one statement. -/
theorem quiet_eq : QuietBits = Cert.quiescent_Kernel := by sl_kernel_rfl

theorem frame_attn : Cert.quiescent_Kernel := quiet_eq.mp fun m ρ _ => Cert.Attn.quiet m ρ

theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

theorem frame_reference3 : Cert.quiescent_Reference3Ideal := fun m ρ _ =>
  (θ_run Cert.Reference3Ideal.defs _ _).mono
    (fun r h => ⟨fun c => (h c).2.2, sem_eq_zero_of_no_sems (by decide) r.2⟩) (Cert.Reference3Ideal.Value.run (F := Ideal) m ρ)

theorem frame_reference4 : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

theorem frame_reference5 : Cert.quiescent_Reference5Ideal := fun m ρ _ =>
  (θ_run Cert.Reference5Ideal.defs _ _).mono
    (fun r h => ⟨fun c => (h c).2.2.2, sem_eq_zero_of_no_sems (by decide) r.2⟩) (Cert.Reference5Ideal.Value.run (F := Ideal) m ρ)

theorem frame_reference6 : Cert.quiescent_Reference6Ideal := fun m ρ _ =>
  (θ_run Cert.Reference6Ideal.defs _ _).mono
    (fun r h => ⟨fun c => (h c).2.2.2.2.2, sem_eq_zero_of_no_sems (by decide) r.2⟩) (Cert.Reference6Ideal.Value.run (F := Ideal) m ρ)

theorem frame_reference7 : Cert.quiescent_Reference7Ideal := fun m ρ _ =>
  (θ_run Cert.Reference7Ideal.defs _ _).mono
    (fun r h => ⟨fun c => (h c).2.2, sem_eq_zero_of_no_sems (by decide) r.2⟩) (Cert.Reference7Ideal.Value.run (F := Ideal) m ρ)

/-- Over the bits a named constant is its word. -/
instance wordNamed : Named Bits where
  named _ _ {φ} bits := FloatOps.ofBits φ bits

/-- The run of the attention's idealized kernel, over the bits. -/
abbrev QuietBits7 : Prop :=
  ∀ (m : (ℓ : Loc Cert.Kernel7Ideal.nD Cert.Kernel7Ideal.τ Cert.Kernel7Ideal.sig) → Buf (Elt Bits) ℓ) (ρ : Dev Cert.Kernel7Ideal.nD → PrngReg), True →
    θ_run Cert.Kernel7Ideal.defs (onTc (τ := Cert.Kernel7Ideal.τ) (Cert.Kernel7Ideal.main (F := Bits))) ⟨m, fun _ => 0, ρ⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

/-- So this too is the kernel's own frame. -/
theorem quiet_eq7 : QuietBits7 = Cert.quiescent_Kernel7 := by sl_kernel_rfl

theorem frame_fwd : Cert.quiescent_Kernel7 := quiet_eq7.mp fun m ρ _ => Cert.Fwd.quiet m ρ

/-- The run of the convolution gradient's idealized kernel, over the bits. -/
abbrev QuietBits8 : Prop :=
  ∀ (m : (ℓ : Loc Cert.Kernel8Ideal.nD Cert.Kernel8Ideal.τ Cert.Kernel8Ideal.sig) → Buf (Elt Bits) ℓ) (ρ : Dev Cert.Kernel8Ideal.nD → PrngReg), True →
    θ_run Cert.Kernel8Ideal.defs (onTc (τ := Cert.Kernel8Ideal.τ) (Cert.Kernel8Ideal.main (F := Bits))) ⟨m, fun _ => 0, ρ⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

/-- And this the convolution gradient's. -/
theorem quiet_eq8 : QuietBits8 = Cert.quiescent_Kernel8 := by sl_kernel_rfl

theorem frame_conv : Cert.quiescent_Kernel8 := quiet_eq8.mp fun m ρ _ => Cert.Conv.quiet m ρ

theorem frame_reference8 : Cert.quiescent_Reference8Ideal := fun m ρ _ =>
  (θ_run Cert.Reference8Ideal.defs _ _).mono
    (fun r h => ⟨fun c => (h c).2.2.2.2.2, sem_eq_zero_of_no_sems (by decide) r.2⟩) (Cert.Reference8Ideal.Value.run (F := Ideal) m ρ)

theorem frame_reference9 : Cert.quiescent_Reference9Ideal := fun m ρ _ =>
  (θ_run Cert.Reference9Ideal.defs _ _).mono
    (fun r h => ⟨fun c => (h c).2.2, sem_eq_zero_of_no_sems (by decide) r.2⟩) (Cert.Reference9Ideal.Value.run (F := Ideal) m ρ)

theorem frame_reference10 : Cert.quiescent_Reference10Ideal := fun m ρ _ =>
  (θ_run Cert.Reference10Ideal.defs _ _).mono
    (fun r h => ⟨fun c => (h c).2.2.2.2, sem_eq_zero_of_no_sems (by decide) r.2⟩) (Cert.Reference10Ideal.Value.run (F := Ideal) m ρ)

theorem frame_reference11 : Cert.quiescent_Reference11Ideal := fun m ρ _ =>
  (θ_run Cert.Reference11Ideal.defs _ _).mono
    (fun r h => ⟨fun c => (h c).2, sem_eq_zero_of_no_sems (by decide) r.2⟩) (Cert.Reference11Ideal.Value.run (F := Ideal) m ρ)

theorem frame_reference12 : Cert.quiescent_Reference12Ideal := fun m ρ _ =>
  (θ_run Cert.Reference12Ideal.defs _ _).mono
    (fun r h => ⟨fun c => (h c).2.2, sem_eq_zero_of_no_sems (by decide) r.2⟩) (Cert.Reference12Ideal.Value.run (F := Ideal) m ρ)

/-- The run of the convolution forward's idealized kernel, over the bits. -/
abbrev QuietBits13 : Prop :=
  ∀ (m : (ℓ : Loc Cert.Kernel13Ideal.nD Cert.Kernel13Ideal.τ Cert.Kernel13Ideal.sig) → Buf (Elt Bits) ℓ) (ρ : Dev Cert.Kernel13Ideal.nD → PrngReg), True →
    θ_run Cert.Kernel13Ideal.defs (onTc (τ := Cert.Kernel13Ideal.τ) (Cert.Kernel13Ideal.main (F := Bits))) ⟨m, fun _ => 0, ρ⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

/-- And this the convolution forward's. -/
theorem quiet_eq13 : QuietBits13 = Cert.quiescent_Kernel13 := by sl_kernel_rfl

theorem frame_convF : Cert.quiescent_Kernel13 := quiet_eq13.mp fun m ρ _ => Cert.ConvF.quiet m ρ

theorem frame_reference13 : Cert.quiescent_Reference13Ideal := fun m ρ _ =>
  (θ_run Cert.Reference13Ideal.defs _ _).mono
    (fun r h => ⟨fun c => (h c).2.2, sem_eq_zero_of_no_sems (by decide) r.2⟩) (Cert.Reference13Ideal.Value.run (F := Ideal) m ρ)

theorem frame_reference14 : Cert.quiescent_Reference14Ideal := fun m ρ _ =>
  (θ_run Cert.Reference14Ideal.defs _ _).mono
    (fun r h => ⟨fun c => (h c).2, sem_eq_zero_of_no_sems (by decide) r.2⟩) (Cert.Reference14Ideal.Value.run (F := Ideal) m ρ)

theorem frame_reference15 : Cert.quiescent_Reference15Ideal := fun m ρ _ =>
  (θ_run Cert.Reference15Ideal.defs _ _).mono
    (fun r h => ⟨fun c => (h c).2, sem_eq_zero_of_no_sems (by decide) r.2⟩) (Cert.Reference15Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Pre_finite.Gen.facts, Cert.Pre_finite3.Gen.facts, Cert.Pre_finite4.Gen.facts, Cert.Pre_finite5.Gen.facts, Cert.Pre_finite6.Gen.facts, Cert.Pre_finite7.Gen.facts, Cert.Pre_finite12.Gen.facts,
   frame_attn, fun m ρ _ => Cert.Attn.quiet m ρ, fun m ρ _ => Cert.Attn.quiet m ρ, frame_reference, fun m ρ _ => frame_reference m ρ trivial,
   fun m ρ _ => Cert.Kernel2.Gen.frame m ρ, fun m ρ _ => Cert.Kernel2Ideal.Gen.frame m ρ, frame_reference2,
   fun m ρ _ => Cert.Kernel3.Gen.frame m ρ, fun m ρ _ => Cert.Kernel3Ideal.Gen.frame m ρ, fun m ρ _ => Cert.Kernel3Ideal.Gen.frame m ρ,
   frame_reference3, fun m ρ _ => frame_reference3 m ρ trivial,
   fun m ρ _ => Cert.Kernel4.Gen.frame m ρ, fun m ρ _ => Cert.Kernel4Ideal.Gen.frame m ρ, fun m ρ _ => Cert.Kernel4Ideal.Gen.frame m ρ,
   frame_reference4, fun m ρ _ => frame_reference4 m ρ trivial,
   fun m ρ _ => Cert.Kernel5.Gen.frame m ρ, fun m ρ _ => Cert.Kernel5Ideal.Gen.frame m ρ, fun m ρ _ => Cert.Kernel5Ideal.Gen.frame m ρ,
   frame_reference5, fun m ρ _ => frame_reference5 m ρ trivial,
   fun m ρ _ => Cert.Kernel6.Gen.frame m ρ, fun m ρ _ => Cert.Kernel6Ideal.Gen.frame m ρ, fun m ρ _ => Cert.Kernel6Ideal.Gen.frame m ρ,
   frame_reference6, fun m ρ _ => frame_reference6 m ρ trivial,
   frame_fwd, fun m ρ _ => Cert.Fwd.quiet m ρ, fun m ρ _ => Cert.Fwd.quiet m ρ, frame_reference7, fun m ρ _ => frame_reference7 m ρ trivial,
   frame_conv, fun m ρ _ => Cert.Conv.quiet m ρ, frame_reference8,
   fun m ρ _ => Cert.Kernel9.Gen.frame m ρ, fun m ρ _ => Cert.Kernel9Ideal.Gen.frame m ρ, frame_reference9,
   fun m ρ _ => Cert.Kernel10.Gen.frame m ρ, fun m ρ _ => Cert.Kernel10Ideal.Gen.frame m ρ, frame_reference10,
   fun m ρ _ => Cert.Kernel11.Gen.frame m ρ, fun m ρ _ => Cert.Kernel11Ideal.Gen.frame m ρ, frame_reference11,
   fun m ρ _ => Cert.Kernel12.Gen.frame m ρ, fun m ρ _ => Cert.Kernel12Ideal.Gen.frame m ρ, fun m ρ _ => Cert.Kernel12Ideal.Gen.frame m ρ,
   frame_reference12, fun m ρ _ => frame_reference12 m ρ trivial,
   frame_convF, fun m ρ _ => Cert.ConvF.quiet m ρ, frame_reference13,
   fun m ρ _ => Cert.Kernel14.Gen.frame m ρ, fun m ρ _ => Cert.Kernel14Ideal.Gen.frame m ρ, frame_reference14,
   fun m ρ _ => Cert.Kernel15.Gen.frame m ρ, fun m ρ _ => Cert.Kernel15Ideal.Gen.frame m ρ, frame_reference15,
   trivial, Cert.Attn.algebraic, trivial, Cert.Down.algebraic, trivial, Cert.Up.algebraic, trivial, Cert.Inp.algebraic, trivial, Cert.Loss.algebraic, trivial, Cert.Outp.algebraic,
   IdealRules.named_const.statement Cert.Kernel7Ideal.κ "mask" .f32 0xF149F2CA#32 ⊥ rfl, Cert.Fwd.algebraic, trivial,
   trivial, Cert.UpF.algebraic, trivial, Cert.InpF.algebraic, trivial, Cert.DownF.algebraic, trivial, Cert.OutpF.algebraic, trivial, Cert.ConvF.algebraic, trivial, Cert.DownW.algebraic, trivial, Cert.UpW.algebraic⟩

end Cert.Proof

end
